-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_KernelDwIn (m : (ℓ : Loc Cert.KernelDwIn.nD Cert.KernelDwIn.τ Cert.KernelDwIn.sig) → Buf (Elt Bits) ℓ) : Prop :=
  True

def Pre_KernelDwInIdeal (m : (ℓ : Loc Cert.KernelDwInIdeal.nD Cert.KernelDwInIdeal.τ Cert.KernelDwInIdeal.sig) → Buf (Elt Ideal) ℓ) : Prop :=
  True

def Pre_ReferenceDwInIdeal (m : (ℓ : Loc Cert.ReferenceDwInIdeal.nD Cert.ReferenceDwInIdeal.τ Cert.ReferenceDwInIdeal.sig) → Buf (Elt Ideal) ℓ) : Prop :=
  True

def Pre_KernelDhIn (m : (ℓ : Loc Cert.KernelDhIn.nD Cert.KernelDhIn.τ Cert.KernelDhIn.sig) → Buf (Elt Bits) ℓ) : Prop :=
  True

def Pre_KernelDhInIdeal (m : (ℓ : Loc Cert.KernelDhInIdeal.nD Cert.KernelDhInIdeal.τ Cert.KernelDhInIdeal.sig) → Buf (Elt Ideal) ℓ) : Prop :=
  True

def Pre_ReferenceDhInIdeal (m : (ℓ : Loc Cert.ReferenceDhInIdeal.nD Cert.ReferenceDhInIdeal.τ Cert.ReferenceDhInIdeal.sig) → Buf (Elt Ideal) ℓ) : Prop :=
  True

def Pre_KernelDwSquare (m : (ℓ : Loc Cert.KernelDwSquare.nD Cert.KernelDwSquare.τ Cert.KernelDwSquare.sig) → Buf (Elt Bits) ℓ) : Prop :=
  True

def Pre_KernelDwSquareIdeal (m : (ℓ : Loc Cert.KernelDwSquareIdeal.nD Cert.KernelDwSquareIdeal.τ Cert.KernelDwSquareIdeal.sig) → Buf (Elt Ideal) ℓ) : Prop :=
  True

def Pre_ReferenceDwSquareIdeal (m : (ℓ : Loc Cert.ReferenceDwSquareIdeal.nD Cert.ReferenceDwSquareIdeal.τ Cert.ReferenceDwSquareIdeal.sig) → Buf (Elt Ideal) ℓ) : Prop :=
  True

def Pre_KernelDwUp (m : (ℓ : Loc Cert.KernelDwUp.nD Cert.KernelDwUp.τ Cert.KernelDwUp.sig) → Buf (Elt Bits) ℓ) : Prop :=
  True

def Pre_KernelDwUpIdeal (m : (ℓ : Loc Cert.KernelDwUpIdeal.nD Cert.KernelDwUpIdeal.τ Cert.KernelDwUpIdeal.sig) → Buf (Elt Ideal) ℓ) : Prop :=
  True

def Pre_ReferenceDwUpIdeal (m : (ℓ : Loc Cert.ReferenceDwUpIdeal.nD Cert.ReferenceDwUpIdeal.τ Cert.ReferenceDwUpIdeal.sig) → Buf (Elt Ideal) ℓ) : Prop :=
  True

def Pre_KernelDhUp (m : (ℓ : Loc Cert.KernelDhUp.nD Cert.KernelDhUp.τ Cert.KernelDhUp.sig) → Buf (Elt Bits) ℓ) : Prop :=
  True

def Pre_KernelDhUpIdeal (m : (ℓ : Loc Cert.KernelDhUpIdeal.nD Cert.KernelDhUpIdeal.τ Cert.KernelDhUpIdeal.sig) → Buf (Elt Ideal) ℓ) : Prop :=
  True

def Pre_ReferenceDhUpIdeal (m : (ℓ : Loc Cert.ReferenceDhUpIdeal.nD Cert.ReferenceDhUpIdeal.τ Cert.ReferenceDhUpIdeal.sig) → Buf (Elt Ideal) ℓ) : Prop :=
  True

def Pre_KernelDwDown (m : (ℓ : Loc Cert.KernelDwDown.nD Cert.KernelDwDown.τ Cert.KernelDwDown.sig) → Buf (Elt Bits) ℓ) : Prop :=
  True

def Pre_KernelDwDownIdeal (m : (ℓ : Loc Cert.KernelDwDownIdeal.nD Cert.KernelDwDownIdeal.τ Cert.KernelDwDownIdeal.sig) → Buf (Elt Ideal) ℓ) : Prop :=
  True

def Pre_ReferenceDwDownIdeal (m : (ℓ : Loc Cert.ReferenceDwDownIdeal.nD Cert.ReferenceDwDownIdeal.τ Cert.ReferenceDwDownIdeal.sig) → Buf (Elt Ideal) ℓ) : Prop :=
  True

def Pre_KernelInProj (m : (ℓ : Loc Cert.KernelInProj.nD Cert.KernelInProj.τ Cert.KernelInProj.sig) → Buf (Elt Bits) ℓ) : Prop :=
  True

def Pre_KernelInProjIdeal (m : (ℓ : Loc Cert.KernelInProjIdeal.nD Cert.KernelInProjIdeal.τ Cert.KernelInProjIdeal.sig) → Buf (Elt Ideal) ℓ) : Prop :=
  True

def Pre_ReferenceInProjIdeal (m : (ℓ : Loc Cert.ReferenceInProjIdeal.nD Cert.ReferenceInProjIdeal.τ Cert.ReferenceInProjIdeal.sig) → Buf (Elt Ideal) ℓ) : Prop :=
  True

def Pre_KernelUpProj (m : (ℓ : Loc Cert.KernelUpProj.nD Cert.KernelUpProj.τ Cert.KernelUpProj.sig) → Buf (Elt Bits) ℓ) : Prop :=
  True

def Pre_KernelUpProjIdeal (m : (ℓ : Loc Cert.KernelUpProjIdeal.nD Cert.KernelUpProjIdeal.τ Cert.KernelUpProjIdeal.sig) → Buf (Elt Ideal) ℓ) : Prop :=
  True

def Pre_ReferenceUpProjIdeal (m : (ℓ : Loc Cert.ReferenceUpProjIdeal.nD Cert.ReferenceUpProjIdeal.τ Cert.ReferenceUpProjIdeal.sig) → Buf (Elt Ideal) ℓ) : Prop :=
  True

def Pre_KernelFfnOutFwd (m : (ℓ : Loc Cert.KernelFfnOutFwd.nD Cert.KernelFfnOutFwd.τ Cert.KernelFfnOutFwd.sig) → Buf (Elt Bits) ℓ) : Prop :=
  True

def Pre_KernelFfnOutFwdIdeal (m : (ℓ : Loc Cert.KernelFfnOutFwdIdeal.nD Cert.KernelFfnOutFwdIdeal.τ Cert.KernelFfnOutFwdIdeal.sig) → Buf (Elt Ideal) ℓ) : Prop :=
  True

def Pre_ReferenceFfnOutFwdIdeal (m : (ℓ : Loc Cert.ReferenceFfnOutFwdIdeal.nD Cert.ReferenceFfnOutFwdIdeal.τ Cert.ReferenceFfnOutFwdIdeal.sig) → Buf (Elt Ideal) ℓ) : Prop :=
  True

def Pre_KernelAdamAda (m : (ℓ : Loc Cert.KernelAdamAda.nD Cert.KernelAdamAda.τ Cert.KernelAdamAda.sig) → Buf (Elt Bits) ℓ) : Prop :=
  True

def Pre_KernelAdamAdaIdeal (m : (ℓ : Loc Cert.KernelAdamAdaIdeal.nD Cert.KernelAdamAdaIdeal.τ Cert.KernelAdamAdaIdeal.sig) → Buf (Elt Ideal) ℓ) : Prop :=
  True

def Pre_ReferenceAdamAdaIdeal (m : (ℓ : Loc Cert.ReferenceAdamAdaIdeal.nD Cert.ReferenceAdamAdaIdeal.τ Cert.ReferenceAdamAdaIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_KernelAdamSquare (m : (ℓ : Loc Cert.KernelAdamSquare.nD Cert.KernelAdamSquare.τ Cert.KernelAdamSquare.sig) → Buf (Elt Bits) ℓ) : Prop :=
  True

def Pre_KernelAdamSquareIdeal (m : (ℓ : Loc Cert.KernelAdamSquareIdeal.nD Cert.KernelAdamSquareIdeal.τ Cert.KernelAdamSquareIdeal.sig) → Buf (Elt Ideal) ℓ) : Prop :=
  True

def Pre_ReferenceAdamSquareIdeal (m : (ℓ : Loc Cert.ReferenceAdamSquareIdeal.nD Cert.ReferenceAdamSquareIdeal.τ Cert.ReferenceAdamSquareIdeal.sig) → Buf (Elt Ideal) ℓ) : Prop :=
  True

def Pre_KernelAdamUp (m : (ℓ : Loc Cert.KernelAdamUp.nD Cert.KernelAdamUp.τ Cert.KernelAdamUp.sig) → Buf (Elt Bits) ℓ) : Prop :=
  True

def Pre_KernelAdamUpIdeal (m : (ℓ : Loc Cert.KernelAdamUpIdeal.nD Cert.KernelAdamUpIdeal.τ Cert.KernelAdamUpIdeal.sig) → Buf (Elt Ideal) ℓ) : Prop :=
  True

def Pre_ReferenceAdamUpIdeal (m : (ℓ : Loc Cert.ReferenceAdamUpIdeal.nD Cert.ReferenceAdamUpIdeal.τ Cert.ReferenceAdamUpIdeal.sig) → Buf (Elt Ideal) ℓ) : Prop :=
  True

def Pre_KernelAdamDown (m : (ℓ : Loc Cert.KernelAdamDown.nD Cert.KernelAdamDown.τ Cert.KernelAdamDown.sig) → Buf (Elt Bits) ℓ) : Prop :=
  True

def Pre_KernelAdamDownIdeal (m : (ℓ : Loc Cert.KernelAdamDownIdeal.nD Cert.KernelAdamDownIdeal.τ Cert.KernelAdamDownIdeal.sig) → Buf (Elt Ideal) ℓ) : Prop :=
  True

def Pre_ReferenceAdamDownIdeal (m : (ℓ : Loc Cert.ReferenceAdamDownIdeal.nD Cert.ReferenceAdamDownIdeal.τ Cert.ReferenceAdamDownIdeal.sig) → Buf (Elt Ideal) ℓ) : Prop :=
  True

def Pre_KernelAdamPacked (m : (ℓ : Loc Cert.KernelAdamPacked.nD Cert.KernelAdamPacked.τ Cert.KernelAdamPacked.sig) → Buf (Elt Bits) ℓ) : Prop :=
  True

def Pre_KernelAdamPackedIdeal (m : (ℓ : Loc Cert.KernelAdamPackedIdeal.nD Cert.KernelAdamPackedIdeal.τ Cert.KernelAdamPackedIdeal.sig) → Buf (Elt Ideal) ℓ) : Prop :=
  True

def Pre_ReferenceAdamPackedIdeal (m : (ℓ : Loc Cert.ReferenceAdamPackedIdeal.nD Cert.ReferenceAdamPackedIdeal.τ Cert.ReferenceAdamPackedIdeal.sig) → Buf (Elt Ideal) ℓ) : Prop :=
  True

def Pre_KernelNormMod (m : (ℓ : Loc Cert.KernelNormMod.nD Cert.KernelNormMod.τ Cert.KernelNormMod.sig) → Buf (Elt Bits) ℓ) : Prop :=
  True

def Pre_KernelNormModIdeal (m : (ℓ : Loc Cert.KernelNormModIdeal.nD Cert.KernelNormModIdeal.τ Cert.KernelNormModIdeal.sig) → Buf (Elt Ideal) ℓ) : Prop :=
  True

def Pre_ReferenceNormModIdeal (m : (ℓ : Loc Cert.ReferenceNormModIdeal.nD Cert.ReferenceNormModIdeal.τ Cert.ReferenceNormModIdeal.sig) → Buf (Elt Ideal) ℓ) : Prop :=
  True

def Pre_KernelDwAda (m : (ℓ : Loc Cert.KernelDwAda.nD Cert.KernelDwAda.τ Cert.KernelDwAda.sig) → Buf (Elt Bits) ℓ) : Prop :=
  True

def Pre_KernelDwAdaIdeal (m : (ℓ : Loc Cert.KernelDwAdaIdeal.nD Cert.KernelDwAdaIdeal.τ Cert.KernelDwAdaIdeal.sig) → Buf (Elt Ideal) ℓ) : Prop :=
  True

def Pre_ReferenceDwAdaIdeal (m : (ℓ : Loc Cert.ReferenceDwAdaIdeal.nD Cert.ReferenceDwAdaIdeal.τ Cert.ReferenceDwAdaIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelMod (m : (ℓ : Loc Cert.KernelMod.nD Cert.KernelMod.τ Cert.KernelMod.sig) → Buf (Elt Bits) ℓ) : Prop :=
  True

def Pre_KernelModIdeal (m : (ℓ : Loc Cert.KernelModIdeal.nD Cert.KernelModIdeal.τ Cert.KernelModIdeal.sig) → Buf (Elt Ideal) ℓ) : Prop :=
  True

def Pre_ReferenceModIdeal (m : (ℓ : Loc Cert.ReferenceModIdeal.nD Cert.ReferenceModIdeal.τ Cert.ReferenceModIdeal.sig) → Buf (Elt Ideal) ℓ) : Prop :=
  True

def Pre_KernelCvecBwd (m : (ℓ : Loc Cert.KernelCvecBwd.nD Cert.KernelCvecBwd.τ Cert.KernelCvecBwd.sig) → Buf (Elt Bits) ℓ) : Prop :=
  True

def Pre_KernelCvecBwdIdeal (m : (ℓ : Loc Cert.KernelCvecBwdIdeal.nD Cert.KernelCvecBwdIdeal.τ Cert.KernelCvecBwdIdeal.sig) → Buf (Elt Ideal) ℓ) : Prop :=
  True

def Pre_KernelCvecBwdIdeal_finite_cvec [hPre_finite_cvec : Cert.Pre_finite_cvec.Facts] (m : (ℓ : Loc Cert.KernelCvecBwdIdeal.nD Cert.KernelCvecBwdIdeal.τ Cert.KernelCvecBwdIdeal.sig) → Buf (Elt Ideal) ℓ) : Prop :=
  ∀ c : Dev Cert.KernelCvecBwdIdeal.nD,
    (Cert.Pre_finite_cvec.fn (F := Ideal) (m ((c.tc : Thread Cert.KernelCvecBwdIdeal.nD Cert.KernelCvecBwdIdeal.τ).loc Cert.KernelCvecBwdIdeal.main_arg0)) (m ((c.tc : Thread Cert.KernelCvecBwdIdeal.nD Cert.KernelCvecBwdIdeal.τ).loc Cert.KernelCvecBwdIdeal.main_arg1)) (m ((c.tc : Thread Cert.KernelCvecBwdIdeal.nD Cert.KernelCvecBwdIdeal.τ).loc Cert.KernelCvecBwdIdeal.main_arg2))) = (fun _ => 1#1)

def Pre_ReferenceCvecBwdIdeal (m : (ℓ : Loc Cert.ReferenceCvecBwdIdeal.nD Cert.ReferenceCvecBwdIdeal.τ Cert.ReferenceCvecBwdIdeal.sig) → Buf (Elt Ideal) ℓ) : Prop :=
  True

def Pre_ReferenceCvecBwdIdeal_finite_cvec [hPre_finite_cvec : Cert.Pre_finite_cvec.Facts] (m : (ℓ : Loc Cert.ReferenceCvecBwdIdeal.nD Cert.ReferenceCvecBwdIdeal.τ Cert.ReferenceCvecBwdIdeal.sig) → Buf (Elt Ideal) ℓ) : Prop :=
  ∀ c : Dev Cert.ReferenceCvecBwdIdeal.nD,
    (Cert.Pre_finite_cvec.fn (F := Ideal) (m ((c.tc : Thread Cert.ReferenceCvecBwdIdeal.nD Cert.ReferenceCvecBwdIdeal.τ).loc Cert.ReferenceCvecBwdIdeal.main_arg0)) (m ((c.tc : Thread Cert.ReferenceCvecBwdIdeal.nD Cert.ReferenceCvecBwdIdeal.τ).loc Cert.ReferenceCvecBwdIdeal.main_arg1)) (m ((c.tc : Thread Cert.ReferenceCvecBwdIdeal.nD Cert.ReferenceCvecBwdIdeal.τ).loc Cert.ReferenceCvecBwdIdeal.main_arg2))) = (fun _ => 1#1)

def Pre_KernelNormBwd (m : (ℓ : Loc Cert.KernelNormBwd.nD Cert.KernelNormBwd.τ Cert.KernelNormBwd.sig) → Buf (Elt Bits) ℓ) : Prop :=
  True

def Pre_KernelNormBwdIdeal (m : (ℓ : Loc Cert.KernelNormBwdIdeal.nD Cert.KernelNormBwdIdeal.τ Cert.KernelNormBwdIdeal.sig) → Buf (Elt Ideal) ℓ) : Prop :=
  True

def Pre_ReferenceNormBwdIdeal (m : (ℓ : Loc Cert.ReferenceNormBwdIdeal.nD Cert.ReferenceNormBwdIdeal.τ Cert.ReferenceNormBwdIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KernelDwIn [hKernelDwIn : Cert.KernelDwIn.Facts] : Prop :=
  ∀ (m : (ℓ : Loc Cert.KernelDwIn.nD Cert.KernelDwIn.τ Cert.KernelDwIn.sig) → Buf (Elt Bits) ℓ) (g : Dev Cert.KernelDwIn.nD → PrngReg), Pre_KernelDwIn m →
    θ_run (Cert.KernelDwIn.defs (F := Bits)) (onTc (τ := Cert.KernelDwIn.τ) (Cert.KernelDwIn.main (F := Bits))) ⟨m, fun _ => 0, g⟩ (fun r => (∀ c : Dev Cert.KernelDwIn.nD,
      r.2.mem ((c.tc : Thread Cert.KernelDwIn.nD Cert.KernelDwIn.τ).loc Cert.KernelDwIn.main_arg0) = m ((c.tc : Thread Cert.KernelDwIn.nD Cert.KernelDwIn.τ).loc Cert.KernelDwIn.main_arg0)
      ∧ r.2.mem ((c.tc : Thread Cert.KernelDwIn.nD Cert.KernelDwIn.τ).loc Cert.KernelDwIn.main_arg1) = m ((c.tc : Thread Cert.KernelDwIn.nD Cert.KernelDwIn.τ).loc Cert.KernelDwIn.main_arg1))
      ∧ r.2.sem = fun _ => 0)

def quiescent_KernelDwInIdeal [hKernelDwInIdeal : Cert.KernelDwInIdeal.Facts] : Prop :=
  ∀ (m : (ℓ : Loc Cert.KernelDwInIdeal.nD Cert.KernelDwInIdeal.τ Cert.KernelDwInIdeal.sig) → Buf (Elt Ideal) ℓ) (g : Dev Cert.KernelDwInIdeal.nD → PrngReg), Pre_KernelDwInIdeal m →
    θ_run (Cert.KernelDwInIdeal.defs (F := Ideal)) (onTc (τ := Cert.KernelDwInIdeal.τ) (Cert.KernelDwInIdeal.main (F := Ideal))) ⟨m, fun _ => 0, g⟩ (fun r => (∀ c : Dev Cert.KernelDwInIdeal.nD,
      r.2.mem ((c.tc : Thread Cert.KernelDwInIdeal.nD Cert.KernelDwInIdeal.τ).loc Cert.KernelDwInIdeal.main_arg0) = m ((c.tc : Thread Cert.KernelDwInIdeal.nD Cert.KernelDwInIdeal.τ).loc Cert.KernelDwInIdeal.main_arg0)
      ∧ r.2.mem ((c.tc : Thread Cert.KernelDwInIdeal.nD Cert.KernelDwInIdeal.τ).loc Cert.KernelDwInIdeal.main_arg1) = m ((c.tc : Thread Cert.KernelDwInIdeal.nD Cert.KernelDwInIdeal.τ).loc Cert.KernelDwInIdeal.main_arg1))
      ∧ r.2.sem = fun _ => 0)

def quiescent_ReferenceDwInIdeal [hReferenceDwInIdeal : Cert.ReferenceDwInIdeal.Facts] : Prop :=
  ∀ (m : (ℓ : Loc Cert.ReferenceDwInIdeal.nD Cert.ReferenceDwInIdeal.τ Cert.ReferenceDwInIdeal.sig) → Buf (Elt Ideal) ℓ) (g : Dev Cert.ReferenceDwInIdeal.nD → PrngReg), Pre_ReferenceDwInIdeal m →
    θ_run (Cert.ReferenceDwInIdeal.defs (F := Ideal)) (onTc (τ := Cert.ReferenceDwInIdeal.τ) (Cert.ReferenceDwInIdeal.main (F := Ideal))) ⟨m, fun _ => 0, g⟩ (fun r => (∀ c : Dev Cert.ReferenceDwInIdeal.nD,
      r.2.mem ((c.tc : Thread Cert.ReferenceDwInIdeal.nD Cert.ReferenceDwInIdeal.τ).loc Cert.ReferenceDwInIdeal.main_arg0) = m ((c.tc : Thread Cert.ReferenceDwInIdeal.nD Cert.ReferenceDwInIdeal.τ).loc Cert.ReferenceDwInIdeal.main_arg0)
      ∧ r.2.mem ((c.tc : Thread Cert.ReferenceDwInIdeal.nD Cert.ReferenceDwInIdeal.τ).loc Cert.ReferenceDwInIdeal.main_arg1) = m ((c.tc : Thread Cert.ReferenceDwInIdeal.nD Cert.ReferenceDwInIdeal.τ).loc Cert.ReferenceDwInIdeal.main_arg1))
      ∧ r.2.sem = fun _ => 0)

def quiescent_KernelDhIn [hKernelDhIn : Cert.KernelDhIn.Facts] : Prop :=
  ∀ (m : (ℓ : Loc Cert.KernelDhIn.nD Cert.KernelDhIn.τ Cert.KernelDhIn.sig) → Buf (Elt Bits) ℓ) (g : Dev Cert.KernelDhIn.nD → PrngReg), Pre_KernelDhIn m →
    θ_run (Cert.KernelDhIn.defs (F := Bits)) (onTc (τ := Cert.KernelDhIn.τ) (Cert.KernelDhIn.main (F := Bits))) ⟨m, fun _ => 0, g⟩ (fun r => (∀ c : Dev Cert.KernelDhIn.nD,
      r.2.mem ((c.tc : Thread Cert.KernelDhIn.nD Cert.KernelDhIn.τ).loc Cert.KernelDhIn.main_arg0) = m ((c.tc : Thread Cert.KernelDhIn.nD Cert.KernelDhIn.τ).loc Cert.KernelDhIn.main_arg0)
      ∧ r.2.mem ((c.tc : Thread Cert.KernelDhIn.nD Cert.KernelDhIn.τ).loc Cert.KernelDhIn.main_arg1) = m ((c.tc : Thread Cert.KernelDhIn.nD Cert.KernelDhIn.τ).loc Cert.KernelDhIn.main_arg1))
      ∧ r.2.sem = fun _ => 0)

def quiescent_KernelDhInIdeal [hKernelDhInIdeal : Cert.KernelDhInIdeal.Facts] : Prop :=
  ∀ (m : (ℓ : Loc Cert.KernelDhInIdeal.nD Cert.KernelDhInIdeal.τ Cert.KernelDhInIdeal.sig) → Buf (Elt Ideal) ℓ) (g : Dev Cert.KernelDhInIdeal.nD → PrngReg), Pre_KernelDhInIdeal m →
    θ_run (Cert.KernelDhInIdeal.defs (F := Ideal)) (onTc (τ := Cert.KernelDhInIdeal.τ) (Cert.KernelDhInIdeal.main (F := Ideal))) ⟨m, fun _ => 0, g⟩ (fun r => (∀ c : Dev Cert.KernelDhInIdeal.nD,
      r.2.mem ((c.tc : Thread Cert.KernelDhInIdeal.nD Cert.KernelDhInIdeal.τ).loc Cert.KernelDhInIdeal.main_arg0) = m ((c.tc : Thread Cert.KernelDhInIdeal.nD Cert.KernelDhInIdeal.τ).loc Cert.KernelDhInIdeal.main_arg0)
      ∧ r.2.mem ((c.tc : Thread Cert.KernelDhInIdeal.nD Cert.KernelDhInIdeal.τ).loc Cert.KernelDhInIdeal.main_arg1) = m ((c.tc : Thread Cert.KernelDhInIdeal.nD Cert.KernelDhInIdeal.τ).loc Cert.KernelDhInIdeal.main_arg1))
      ∧ r.2.sem = fun _ => 0)

def quiescent_ReferenceDhInIdeal [hReferenceDhInIdeal : Cert.ReferenceDhInIdeal.Facts] : Prop :=
  ∀ (m : (ℓ : Loc Cert.ReferenceDhInIdeal.nD Cert.ReferenceDhInIdeal.τ Cert.ReferenceDhInIdeal.sig) → Buf (Elt Ideal) ℓ) (g : Dev Cert.ReferenceDhInIdeal.nD → PrngReg), Pre_ReferenceDhInIdeal m →
    θ_run (Cert.ReferenceDhInIdeal.defs (F := Ideal)) (onTc (τ := Cert.ReferenceDhInIdeal.τ) (Cert.ReferenceDhInIdeal.main (F := Ideal))) ⟨m, fun _ => 0, g⟩ (fun r => (∀ c : Dev Cert.ReferenceDhInIdeal.nD,
      r.2.mem ((c.tc : Thread Cert.ReferenceDhInIdeal.nD Cert.ReferenceDhInIdeal.τ).loc Cert.ReferenceDhInIdeal.main_arg0) = m ((c.tc : Thread Cert.ReferenceDhInIdeal.nD Cert.ReferenceDhInIdeal.τ).loc Cert.ReferenceDhInIdeal.main_arg0)
      ∧ r.2.mem ((c.tc : Thread Cert.ReferenceDhInIdeal.nD Cert.ReferenceDhInIdeal.τ).loc Cert.ReferenceDhInIdeal.main_arg1) = m ((c.tc : Thread Cert.ReferenceDhInIdeal.nD Cert.ReferenceDhInIdeal.τ).loc Cert.ReferenceDhInIdeal.main_arg1))
      ∧ r.2.sem = fun _ => 0)

def quiescent_KernelDwSquare [hKernelDwSquare : Cert.KernelDwSquare.Facts] : Prop :=
  ∀ (m : (ℓ : Loc Cert.KernelDwSquare.nD Cert.KernelDwSquare.τ Cert.KernelDwSquare.sig) → Buf (Elt Bits) ℓ) (g : Dev Cert.KernelDwSquare.nD → PrngReg), Pre_KernelDwSquare m →
    θ_run (Cert.KernelDwSquare.defs (F := Bits)) (onTc (τ := Cert.KernelDwSquare.τ) (Cert.KernelDwSquare.main (F := Bits))) ⟨m, fun _ => 0, g⟩ (fun r => (∀ c : Dev Cert.KernelDwSquare.nD,
      r.2.mem ((c.tc : Thread Cert.KernelDwSquare.nD Cert.KernelDwSquare.τ).loc Cert.KernelDwSquare.main_arg0) = m ((c.tc : Thread Cert.KernelDwSquare.nD Cert.KernelDwSquare.τ).loc Cert.KernelDwSquare.main_arg0)
      ∧ r.2.mem ((c.tc : Thread Cert.KernelDwSquare.nD Cert.KernelDwSquare.τ).loc Cert.KernelDwSquare.main_arg1) = m ((c.tc : Thread Cert.KernelDwSquare.nD Cert.KernelDwSquare.τ).loc Cert.KernelDwSquare.main_arg1))
      ∧ r.2.sem = fun _ => 0)

def quiescent_KernelDwSquareIdeal [hKernelDwSquareIdeal : Cert.KernelDwSquareIdeal.Facts] : Prop :=
  ∀ (m : (ℓ : Loc Cert.KernelDwSquareIdeal.nD Cert.KernelDwSquareIdeal.τ Cert.KernelDwSquareIdeal.sig) → Buf (Elt Ideal) ℓ) (g : Dev Cert.KernelDwSquareIdeal.nD → PrngReg), Pre_KernelDwSquareIdeal m →
    θ_run (Cert.KernelDwSquareIdeal.defs (F := Ideal)) (onTc (τ := Cert.KernelDwSquareIdeal.τ) (Cert.KernelDwSquareIdeal.main (F := Ideal))) ⟨m, fun _ => 0, g⟩ (fun r => (∀ c : Dev Cert.KernelDwSquareIdeal.nD,
      r.2.mem ((c.tc : Thread Cert.KernelDwSquareIdeal.nD Cert.KernelDwSquareIdeal.τ).loc Cert.KernelDwSquareIdeal.main_arg0) = m ((c.tc : Thread Cert.KernelDwSquareIdeal.nD Cert.KernelDwSquareIdeal.τ).loc Cert.KernelDwSquareIdeal.main_arg0)
      ∧ r.2.mem ((c.tc : Thread Cert.KernelDwSquareIdeal.nD Cert.KernelDwSquareIdeal.τ).loc Cert.KernelDwSquareIdeal.main_arg1) = m ((c.tc : Thread Cert.KernelDwSquareIdeal.nD Cert.KernelDwSquareIdeal.τ).loc Cert.KernelDwSquareIdeal.main_arg1))
      ∧ r.2.sem = fun _ => 0)

def quiescent_ReferenceDwSquareIdeal [hReferenceDwSquareIdeal : Cert.ReferenceDwSquareIdeal.Facts] : Prop :=
  ∀ (m : (ℓ : Loc Cert.ReferenceDwSquareIdeal.nD Cert.ReferenceDwSquareIdeal.τ Cert.ReferenceDwSquareIdeal.sig) → Buf (Elt Ideal) ℓ) (g : Dev Cert.ReferenceDwSquareIdeal.nD → PrngReg), Pre_ReferenceDwSquareIdeal m →
    θ_run (Cert.ReferenceDwSquareIdeal.defs (F := Ideal)) (onTc (τ := Cert.ReferenceDwSquareIdeal.τ) (Cert.ReferenceDwSquareIdeal.main (F := Ideal))) ⟨m, fun _ => 0, g⟩ (fun r => (∀ c : Dev Cert.ReferenceDwSquareIdeal.nD,
      r.2.mem ((c.tc : Thread Cert.ReferenceDwSquareIdeal.nD Cert.ReferenceDwSquareIdeal.τ).loc Cert.ReferenceDwSquareIdeal.main_arg0) = m ((c.tc : Thread Cert.ReferenceDwSquareIdeal.nD Cert.ReferenceDwSquareIdeal.τ).loc Cert.ReferenceDwSquareIdeal.main_arg0)
      ∧ r.2.mem ((c.tc : Thread Cert.ReferenceDwSquareIdeal.nD Cert.ReferenceDwSquareIdeal.τ).loc Cert.ReferenceDwSquareIdeal.main_arg1) = m ((c.tc : Thread Cert.ReferenceDwSquareIdeal.nD Cert.ReferenceDwSquareIdeal.τ).loc Cert.ReferenceDwSquareIdeal.main_arg1))
      ∧ r.2.sem = fun _ => 0)

def quiescent_KernelDwUp [hKernelDwUp : Cert.KernelDwUp.Facts] : Prop :=
  ∀ (m : (ℓ : Loc Cert.KernelDwUp.nD Cert.KernelDwUp.τ Cert.KernelDwUp.sig) → Buf (Elt Bits) ℓ) (g : Dev Cert.KernelDwUp.nD → PrngReg), Pre_KernelDwUp m →
    θ_run (Cert.KernelDwUp.defs (F := Bits)) (onTc (τ := Cert.KernelDwUp.τ) (Cert.KernelDwUp.main (F := Bits))) ⟨m, fun _ => 0, g⟩ (fun r => (∀ c : Dev Cert.KernelDwUp.nD,
      r.2.mem ((c.tc : Thread Cert.KernelDwUp.nD Cert.KernelDwUp.τ).loc Cert.KernelDwUp.main_arg0) = m ((c.tc : Thread Cert.KernelDwUp.nD Cert.KernelDwUp.τ).loc Cert.KernelDwUp.main_arg0)
      ∧ r.2.mem ((c.tc : Thread Cert.KernelDwUp.nD Cert.KernelDwUp.τ).loc Cert.KernelDwUp.main_arg1) = m ((c.tc : Thread Cert.KernelDwUp.nD Cert.KernelDwUp.τ).loc Cert.KernelDwUp.main_arg1)
      ∧ r.2.mem ((c.tc : Thread Cert.KernelDwUp.nD Cert.KernelDwUp.τ).loc Cert.KernelDwUp.main_arg2) = m ((c.tc : Thread Cert.KernelDwUp.nD Cert.KernelDwUp.τ).loc Cert.KernelDwUp.main_arg2))
      ∧ r.2.sem = fun _ => 0)

def quiescent_KernelDwUpIdeal [hKernelDwUpIdeal : Cert.KernelDwUpIdeal.Facts] : Prop :=
  ∀ (m : (ℓ : Loc Cert.KernelDwUpIdeal.nD Cert.KernelDwUpIdeal.τ Cert.KernelDwUpIdeal.sig) → Buf (Elt Ideal) ℓ) (g : Dev Cert.KernelDwUpIdeal.nD → PrngReg), Pre_KernelDwUpIdeal m →
    θ_run (Cert.KernelDwUpIdeal.defs (F := Ideal)) (onTc (τ := Cert.KernelDwUpIdeal.τ) (Cert.KernelDwUpIdeal.main (F := Ideal))) ⟨m, fun _ => 0, g⟩ (fun r => (∀ c : Dev Cert.KernelDwUpIdeal.nD,
      r.2.mem ((c.tc : Thread Cert.KernelDwUpIdeal.nD Cert.KernelDwUpIdeal.τ).loc Cert.KernelDwUpIdeal.main_arg0) = m ((c.tc : Thread Cert.KernelDwUpIdeal.nD Cert.KernelDwUpIdeal.τ).loc Cert.KernelDwUpIdeal.main_arg0)
      ∧ r.2.mem ((c.tc : Thread Cert.KernelDwUpIdeal.nD Cert.KernelDwUpIdeal.τ).loc Cert.KernelDwUpIdeal.main_arg1) = m ((c.tc : Thread Cert.KernelDwUpIdeal.nD Cert.KernelDwUpIdeal.τ).loc Cert.KernelDwUpIdeal.main_arg1)
      ∧ r.2.mem ((c.tc : Thread Cert.KernelDwUpIdeal.nD Cert.KernelDwUpIdeal.τ).loc Cert.KernelDwUpIdeal.main_arg2) = m ((c.tc : Thread Cert.KernelDwUpIdeal.nD Cert.KernelDwUpIdeal.τ).loc Cert.KernelDwUpIdeal.main_arg2))
      ∧ r.2.sem = fun _ => 0)

def quiescent_ReferenceDwUpIdeal [hReferenceDwUpIdeal : Cert.ReferenceDwUpIdeal.Facts] : Prop :=
  ∀ (m : (ℓ : Loc Cert.ReferenceDwUpIdeal.nD Cert.ReferenceDwUpIdeal.τ Cert.ReferenceDwUpIdeal.sig) → Buf (Elt Ideal) ℓ) (g : Dev Cert.ReferenceDwUpIdeal.nD → PrngReg), Pre_ReferenceDwUpIdeal m →
    θ_run (Cert.ReferenceDwUpIdeal.defs (F := Ideal)) (onTc (τ := Cert.ReferenceDwUpIdeal.τ) (Cert.ReferenceDwUpIdeal.main (F := Ideal))) ⟨m, fun _ => 0, g⟩ (fun r => (∀ c : Dev Cert.ReferenceDwUpIdeal.nD,
      r.2.mem ((c.tc : Thread Cert.ReferenceDwUpIdeal.nD Cert.ReferenceDwUpIdeal.τ).loc Cert.ReferenceDwUpIdeal.main_arg0) = m ((c.tc : Thread Cert.ReferenceDwUpIdeal.nD Cert.ReferenceDwUpIdeal.τ).loc Cert.ReferenceDwUpIdeal.main_arg0)
      ∧ r.2.mem ((c.tc : Thread Cert.ReferenceDwUpIdeal.nD Cert.ReferenceDwUpIdeal.τ).loc Cert.ReferenceDwUpIdeal.main_arg1) = m ((c.tc : Thread Cert.ReferenceDwUpIdeal.nD Cert.ReferenceDwUpIdeal.τ).loc Cert.ReferenceDwUpIdeal.main_arg1)
      ∧ r.2.mem ((c.tc : Thread Cert.ReferenceDwUpIdeal.nD Cert.ReferenceDwUpIdeal.τ).loc Cert.ReferenceDwUpIdeal.main_arg2) = m ((c.tc : Thread Cert.ReferenceDwUpIdeal.nD Cert.ReferenceDwUpIdeal.τ).loc Cert.ReferenceDwUpIdeal.main_arg2))
      ∧ r.2.sem = fun _ => 0)

def quiescent_KernelDhUp [hKernelDhUp : Cert.KernelDhUp.Facts] : Prop :=
  ∀ (m : (ℓ : Loc Cert.KernelDhUp.nD Cert.KernelDhUp.τ Cert.KernelDhUp.sig) → Buf (Elt Bits) ℓ) (g : Dev Cert.KernelDhUp.nD → PrngReg), Pre_KernelDhUp m →
    θ_run (Cert.KernelDhUp.defs (F := Bits)) (onTc (τ := Cert.KernelDhUp.τ) (Cert.KernelDhUp.main (F := Bits))) ⟨m, fun _ => 0, g⟩ (fun r => (∀ c : Dev Cert.KernelDhUp.nD,
      r.2.mem ((c.tc : Thread Cert.KernelDhUp.nD Cert.KernelDhUp.τ).loc Cert.KernelDhUp.main_arg0) = m ((c.tc : Thread Cert.KernelDhUp.nD Cert.KernelDhUp.τ).loc Cert.KernelDhUp.main_arg0)
      ∧ r.2.mem ((c.tc : Thread Cert.KernelDhUp.nD Cert.KernelDhUp.τ).loc Cert.KernelDhUp.main_arg1) = m ((c.tc : Thread Cert.KernelDhUp.nD Cert.KernelDhUp.τ).loc Cert.KernelDhUp.main_arg1)
      ∧ r.2.mem ((c.tc : Thread Cert.KernelDhUp.nD Cert.KernelDhUp.τ).loc Cert.KernelDhUp.main_arg2) = m ((c.tc : Thread Cert.KernelDhUp.nD Cert.KernelDhUp.τ).loc Cert.KernelDhUp.main_arg2))
      ∧ r.2.sem = fun _ => 0)

def quiescent_KernelDhUpIdeal [hKernelDhUpIdeal : Cert.KernelDhUpIdeal.Facts] : Prop :=
  ∀ (m : (ℓ : Loc Cert.KernelDhUpIdeal.nD Cert.KernelDhUpIdeal.τ Cert.KernelDhUpIdeal.sig) → Buf (Elt Ideal) ℓ) (g : Dev Cert.KernelDhUpIdeal.nD → PrngReg), Pre_KernelDhUpIdeal m →
    θ_run (Cert.KernelDhUpIdeal.defs (F := Ideal)) (onTc (τ := Cert.KernelDhUpIdeal.τ) (Cert.KernelDhUpIdeal.main (F := Ideal))) ⟨m, fun _ => 0, g⟩ (fun r => (∀ c : Dev Cert.KernelDhUpIdeal.nD,
      r.2.mem ((c.tc : Thread Cert.KernelDhUpIdeal.nD Cert.KernelDhUpIdeal.τ).loc Cert.KernelDhUpIdeal.main_arg0) = m ((c.tc : Thread Cert.KernelDhUpIdeal.nD Cert.KernelDhUpIdeal.τ).loc Cert.KernelDhUpIdeal.main_arg0)
      ∧ r.2.mem ((c.tc : Thread Cert.KernelDhUpIdeal.nD Cert.KernelDhUpIdeal.τ).loc Cert.KernelDhUpIdeal.main_arg1) = m ((c.tc : Thread Cert.KernelDhUpIdeal.nD Cert.KernelDhUpIdeal.τ).loc Cert.KernelDhUpIdeal.main_arg1)
      ∧ r.2.mem ((c.tc : Thread Cert.KernelDhUpIdeal.nD Cert.KernelDhUpIdeal.τ).loc Cert.KernelDhUpIdeal.main_arg2) = m ((c.tc : Thread Cert.KernelDhUpIdeal.nD Cert.KernelDhUpIdeal.τ).loc Cert.KernelDhUpIdeal.main_arg2))
      ∧ r.2.sem = fun _ => 0)

def quiescent_ReferenceDhUpIdeal [hReferenceDhUpIdeal : Cert.ReferenceDhUpIdeal.Facts] : Prop :=
  ∀ (m : (ℓ : Loc Cert.ReferenceDhUpIdeal.nD Cert.ReferenceDhUpIdeal.τ Cert.ReferenceDhUpIdeal.sig) → Buf (Elt Ideal) ℓ) (g : Dev Cert.ReferenceDhUpIdeal.nD → PrngReg), Pre_ReferenceDhUpIdeal m →
    θ_run (Cert.ReferenceDhUpIdeal.defs (F := Ideal)) (onTc (τ := Cert.ReferenceDhUpIdeal.τ) (Cert.ReferenceDhUpIdeal.main (F := Ideal))) ⟨m, fun _ => 0, g⟩ (fun r => (∀ c : Dev Cert.ReferenceDhUpIdeal.nD,
      r.2.mem ((c.tc : Thread Cert.ReferenceDhUpIdeal.nD Cert.ReferenceDhUpIdeal.τ).loc Cert.ReferenceDhUpIdeal.main_arg0) = m ((c.tc : Thread Cert.ReferenceDhUpIdeal.nD Cert.ReferenceDhUpIdeal.τ).loc Cert.ReferenceDhUpIdeal.main_arg0)
      ∧ r.2.mem ((c.tc : Thread Cert.ReferenceDhUpIdeal.nD Cert.ReferenceDhUpIdeal.τ).loc Cert.ReferenceDhUpIdeal.main_arg1) = m ((c.tc : Thread Cert.ReferenceDhUpIdeal.nD Cert.ReferenceDhUpIdeal.τ).loc Cert.ReferenceDhUpIdeal.main_arg1)
      ∧ r.2.mem ((c.tc : Thread Cert.ReferenceDhUpIdeal.nD Cert.ReferenceDhUpIdeal.τ).loc Cert.ReferenceDhUpIdeal.main_arg2) = m ((c.tc : Thread Cert.ReferenceDhUpIdeal.nD Cert.ReferenceDhUpIdeal.τ).loc Cert.ReferenceDhUpIdeal.main_arg2))
      ∧ r.2.sem = fun _ => 0)

def quiescent_KernelDwDown [hKernelDwDown : Cert.KernelDwDown.Facts] : Prop :=
  ∀ (m : (ℓ : Loc Cert.KernelDwDown.nD Cert.KernelDwDown.τ Cert.KernelDwDown.sig) → Buf (Elt Bits) ℓ) (g : Dev Cert.KernelDwDown.nD → PrngReg), Pre_KernelDwDown m →
    θ_run (Cert.KernelDwDown.defs (F := Bits)) (onTc (τ := Cert.KernelDwDown.τ) (Cert.KernelDwDown.main (F := Bits))) ⟨m, fun _ => 0, g⟩ (fun r => (∀ c : Dev Cert.KernelDwDown.nD,
      r.2.mem ((c.tc : Thread Cert.KernelDwDown.nD Cert.KernelDwDown.τ).loc Cert.KernelDwDown.main_arg0) = m ((c.tc : Thread Cert.KernelDwDown.nD Cert.KernelDwDown.τ).loc Cert.KernelDwDown.main_arg0)
      ∧ r.2.mem ((c.tc : Thread Cert.KernelDwDown.nD Cert.KernelDwDown.τ).loc Cert.KernelDwDown.main_arg1) = m ((c.tc : Thread Cert.KernelDwDown.nD Cert.KernelDwDown.τ).loc Cert.KernelDwDown.main_arg1))
      ∧ r.2.sem = fun _ => 0)

def quiescent_KernelDwDownIdeal [hKernelDwDownIdeal : Cert.KernelDwDownIdeal.Facts] : Prop :=
  ∀ (m : (ℓ : Loc Cert.KernelDwDownIdeal.nD Cert.KernelDwDownIdeal.τ Cert.KernelDwDownIdeal.sig) → Buf (Elt Ideal) ℓ) (g : Dev Cert.KernelDwDownIdeal.nD → PrngReg), Pre_KernelDwDownIdeal m →
    θ_run (Cert.KernelDwDownIdeal.defs (F := Ideal)) (onTc (τ := Cert.KernelDwDownIdeal.τ) (Cert.KernelDwDownIdeal.main (F := Ideal))) ⟨m, fun _ => 0, g⟩ (fun r => (∀ c : Dev Cert.KernelDwDownIdeal.nD,
      r.2.mem ((c.tc : Thread Cert.KernelDwDownIdeal.nD Cert.KernelDwDownIdeal.τ).loc Cert.KernelDwDownIdeal.main_arg0) = m ((c.tc : Thread Cert.KernelDwDownIdeal.nD Cert.KernelDwDownIdeal.τ).loc Cert.KernelDwDownIdeal.main_arg0)
      ∧ r.2.mem ((c.tc : Thread Cert.KernelDwDownIdeal.nD Cert.KernelDwDownIdeal.τ).loc Cert.KernelDwDownIdeal.main_arg1) = m ((c.tc : Thread Cert.KernelDwDownIdeal.nD Cert.KernelDwDownIdeal.τ).loc Cert.KernelDwDownIdeal.main_arg1))
      ∧ r.2.sem = fun _ => 0)

def quiescent_ReferenceDwDownIdeal [hReferenceDwDownIdeal : Cert.ReferenceDwDownIdeal.Facts] : Prop :=
  ∀ (m : (ℓ : Loc Cert.ReferenceDwDownIdeal.nD Cert.ReferenceDwDownIdeal.τ Cert.ReferenceDwDownIdeal.sig) → Buf (Elt Ideal) ℓ) (g : Dev Cert.ReferenceDwDownIdeal.nD → PrngReg), Pre_ReferenceDwDownIdeal m →
    θ_run (Cert.ReferenceDwDownIdeal.defs (F := Ideal)) (onTc (τ := Cert.ReferenceDwDownIdeal.τ) (Cert.ReferenceDwDownIdeal.main (F := Ideal))) ⟨m, fun _ => 0, g⟩ (fun r => (∀ c : Dev Cert.ReferenceDwDownIdeal.nD,
      r.2.mem ((c.tc : Thread Cert.ReferenceDwDownIdeal.nD Cert.ReferenceDwDownIdeal.τ).loc Cert.ReferenceDwDownIdeal.main_arg0) = m ((c.tc : Thread Cert.ReferenceDwDownIdeal.nD Cert.ReferenceDwDownIdeal.τ).loc Cert.ReferenceDwDownIdeal.main_arg0)
      ∧ r.2.mem ((c.tc : Thread Cert.ReferenceDwDownIdeal.nD Cert.ReferenceDwDownIdeal.τ).loc Cert.ReferenceDwDownIdeal.main_arg1) = m ((c.tc : Thread Cert.ReferenceDwDownIdeal.nD Cert.ReferenceDwDownIdeal.τ).loc Cert.ReferenceDwDownIdeal.main_arg1))
      ∧ r.2.sem = fun _ => 0)

def quiescent_KernelInProj [hKernelInProj : Cert.KernelInProj.Facts] : Prop :=
  ∀ (m : (ℓ : Loc Cert.KernelInProj.nD Cert.KernelInProj.τ Cert.KernelInProj.sig) → Buf (Elt Bits) ℓ) (g : Dev Cert.KernelInProj.nD → PrngReg), Pre_KernelInProj m →
    θ_run (Cert.KernelInProj.defs (F := Bits)) (onTc (τ := Cert.KernelInProj.τ) (Cert.KernelInProj.main (F := Bits))) ⟨m, fun _ => 0, g⟩ (fun r => (∀ c : Dev Cert.KernelInProj.nD,
      r.2.mem ((c.tc : Thread Cert.KernelInProj.nD Cert.KernelInProj.τ).loc Cert.KernelInProj.main_arg0) = m ((c.tc : Thread Cert.KernelInProj.nD Cert.KernelInProj.τ).loc Cert.KernelInProj.main_arg0)
      ∧ r.2.mem ((c.tc : Thread Cert.KernelInProj.nD Cert.KernelInProj.τ).loc Cert.KernelInProj.main_arg1) = m ((c.tc : Thread Cert.KernelInProj.nD Cert.KernelInProj.τ).loc Cert.KernelInProj.main_arg1))
      ∧ r.2.sem = fun _ => 0)

def quiescent_KernelInProjIdeal [hKernelInProjIdeal : Cert.KernelInProjIdeal.Facts] : Prop :=
  ∀ (m : (ℓ : Loc Cert.KernelInProjIdeal.nD Cert.KernelInProjIdeal.τ Cert.KernelInProjIdeal.sig) → Buf (Elt Ideal) ℓ) (g : Dev Cert.KernelInProjIdeal.nD → PrngReg), Pre_KernelInProjIdeal m →
    θ_run (Cert.KernelInProjIdeal.defs (F := Ideal)) (onTc (τ := Cert.KernelInProjIdeal.τ) (Cert.KernelInProjIdeal.main (F := Ideal))) ⟨m, fun _ => 0, g⟩ (fun r => (∀ c : Dev Cert.KernelInProjIdeal.nD,
      r.2.mem ((c.tc : Thread Cert.KernelInProjIdeal.nD Cert.KernelInProjIdeal.τ).loc Cert.KernelInProjIdeal.main_arg0) = m ((c.tc : Thread Cert.KernelInProjIdeal.nD Cert.KernelInProjIdeal.τ).loc Cert.KernelInProjIdeal.main_arg0)
      ∧ r.2.mem ((c.tc : Thread Cert.KernelInProjIdeal.nD Cert.KernelInProjIdeal.τ).loc Cert.KernelInProjIdeal.main_arg1) = m ((c.tc : Thread Cert.KernelInProjIdeal.nD Cert.KernelInProjIdeal.τ).loc Cert.KernelInProjIdeal.main_arg1))
      ∧ r.2.sem = fun _ => 0)

def quiescent_ReferenceInProjIdeal [hReferenceInProjIdeal : Cert.ReferenceInProjIdeal.Facts] : Prop :=
  ∀ (m : (ℓ : Loc Cert.ReferenceInProjIdeal.nD Cert.ReferenceInProjIdeal.τ Cert.ReferenceInProjIdeal.sig) → Buf (Elt Ideal) ℓ) (g : Dev Cert.ReferenceInProjIdeal.nD → PrngReg), Pre_ReferenceInProjIdeal m →
    θ_run (Cert.ReferenceInProjIdeal.defs (F := Ideal)) (onTc (τ := Cert.ReferenceInProjIdeal.τ) (Cert.ReferenceInProjIdeal.main (F := Ideal))) ⟨m, fun _ => 0, g⟩ (fun r => (∀ c : Dev Cert.ReferenceInProjIdeal.nD,
      r.2.mem ((c.tc : Thread Cert.ReferenceInProjIdeal.nD Cert.ReferenceInProjIdeal.τ).loc Cert.ReferenceInProjIdeal.main_arg0) = m ((c.tc : Thread Cert.ReferenceInProjIdeal.nD Cert.ReferenceInProjIdeal.τ).loc Cert.ReferenceInProjIdeal.main_arg0)
      ∧ r.2.mem ((c.tc : Thread Cert.ReferenceInProjIdeal.nD Cert.ReferenceInProjIdeal.τ).loc Cert.ReferenceInProjIdeal.main_arg1) = m ((c.tc : Thread Cert.ReferenceInProjIdeal.nD Cert.ReferenceInProjIdeal.τ).loc Cert.ReferenceInProjIdeal.main_arg1))
      ∧ r.2.sem = fun _ => 0)

def quiescent_KernelUpProj [hKernelUpProj : Cert.KernelUpProj.Facts] : Prop :=
  ∀ (m : (ℓ : Loc Cert.KernelUpProj.nD Cert.KernelUpProj.τ Cert.KernelUpProj.sig) → Buf (Elt Bits) ℓ) (g : Dev Cert.KernelUpProj.nD → PrngReg), Pre_KernelUpProj m →
    θ_run (Cert.KernelUpProj.defs (F := Bits)) (onTc (τ := Cert.KernelUpProj.τ) (Cert.KernelUpProj.main (F := Bits))) ⟨m, fun _ => 0, g⟩ (fun r => (∀ c : Dev Cert.KernelUpProj.nD,
      r.2.mem ((c.tc : Thread Cert.KernelUpProj.nD Cert.KernelUpProj.τ).loc Cert.KernelUpProj.main_arg0) = m ((c.tc : Thread Cert.KernelUpProj.nD Cert.KernelUpProj.τ).loc Cert.KernelUpProj.main_arg0)
      ∧ r.2.mem ((c.tc : Thread Cert.KernelUpProj.nD Cert.KernelUpProj.τ).loc Cert.KernelUpProj.main_arg1) = m ((c.tc : Thread Cert.KernelUpProj.nD Cert.KernelUpProj.τ).loc Cert.KernelUpProj.main_arg1))
      ∧ r.2.sem = fun _ => 0)

def quiescent_KernelUpProjIdeal [hKernelUpProjIdeal : Cert.KernelUpProjIdeal.Facts] : Prop :=
  ∀ (m : (ℓ : Loc Cert.KernelUpProjIdeal.nD Cert.KernelUpProjIdeal.τ Cert.KernelUpProjIdeal.sig) → Buf (Elt Ideal) ℓ) (g : Dev Cert.KernelUpProjIdeal.nD → PrngReg), Pre_KernelUpProjIdeal m →
    θ_run (Cert.KernelUpProjIdeal.defs (F := Ideal)) (onTc (τ := Cert.KernelUpProjIdeal.τ) (Cert.KernelUpProjIdeal.main (F := Ideal))) ⟨m, fun _ => 0, g⟩ (fun r => (∀ c : Dev Cert.KernelUpProjIdeal.nD,
      r.2.mem ((c.tc : Thread Cert.KernelUpProjIdeal.nD Cert.KernelUpProjIdeal.τ).loc Cert.KernelUpProjIdeal.main_arg0) = m ((c.tc : Thread Cert.KernelUpProjIdeal.nD Cert.KernelUpProjIdeal.τ).loc Cert.KernelUpProjIdeal.main_arg0)
      ∧ r.2.mem ((c.tc : Thread Cert.KernelUpProjIdeal.nD Cert.KernelUpProjIdeal.τ).loc Cert.KernelUpProjIdeal.main_arg1) = m ((c.tc : Thread Cert.KernelUpProjIdeal.nD Cert.KernelUpProjIdeal.τ).loc Cert.KernelUpProjIdeal.main_arg1))
      ∧ r.2.sem = fun _ => 0)

def quiescent_ReferenceUpProjIdeal [hReferenceUpProjIdeal : Cert.ReferenceUpProjIdeal.Facts] : Prop :=
  ∀ (m : (ℓ : Loc Cert.ReferenceUpProjIdeal.nD Cert.ReferenceUpProjIdeal.τ Cert.ReferenceUpProjIdeal.sig) → Buf (Elt Ideal) ℓ) (g : Dev Cert.ReferenceUpProjIdeal.nD → PrngReg), Pre_ReferenceUpProjIdeal m →
    θ_run (Cert.ReferenceUpProjIdeal.defs (F := Ideal)) (onTc (τ := Cert.ReferenceUpProjIdeal.τ) (Cert.ReferenceUpProjIdeal.main (F := Ideal))) ⟨m, fun _ => 0, g⟩ (fun r => (∀ c : Dev Cert.ReferenceUpProjIdeal.nD,
      r.2.mem ((c.tc : Thread Cert.ReferenceUpProjIdeal.nD Cert.ReferenceUpProjIdeal.τ).loc Cert.ReferenceUpProjIdeal.main_arg0) = m ((c.tc : Thread Cert.ReferenceUpProjIdeal.nD Cert.ReferenceUpProjIdeal.τ).loc Cert.ReferenceUpProjIdeal.main_arg0)
      ∧ r.2.mem ((c.tc : Thread Cert.ReferenceUpProjIdeal.nD Cert.ReferenceUpProjIdeal.τ).loc Cert.ReferenceUpProjIdeal.main_arg1) = m ((c.tc : Thread Cert.ReferenceUpProjIdeal.nD Cert.ReferenceUpProjIdeal.τ).loc Cert.ReferenceUpProjIdeal.main_arg1))
      ∧ r.2.sem = fun _ => 0)

def quiescent_KernelFfnOutFwd [hKernelFfnOutFwd : Cert.KernelFfnOutFwd.Facts] : Prop :=
  ∀ (m : (ℓ : Loc Cert.KernelFfnOutFwd.nD Cert.KernelFfnOutFwd.τ Cert.KernelFfnOutFwd.sig) → Buf (Elt Bits) ℓ) (g : Dev Cert.KernelFfnOutFwd.nD → PrngReg), Pre_KernelFfnOutFwd m →
    θ_run (Cert.KernelFfnOutFwd.defs (F := Bits)) (onTc (τ := Cert.KernelFfnOutFwd.τ) (Cert.KernelFfnOutFwd.main (F := Bits))) ⟨m, fun _ => 0, g⟩ (fun r => (∀ c : Dev Cert.KernelFfnOutFwd.nD,
      r.2.mem ((c.tc : Thread Cert.KernelFfnOutFwd.nD Cert.KernelFfnOutFwd.τ).loc Cert.KernelFfnOutFwd.main_arg0) = m ((c.tc : Thread Cert.KernelFfnOutFwd.nD Cert.KernelFfnOutFwd.τ).loc Cert.KernelFfnOutFwd.main_arg0)
      ∧ r.2.mem ((c.tc : Thread Cert.KernelFfnOutFwd.nD Cert.KernelFfnOutFwd.τ).loc Cert.KernelFfnOutFwd.main_arg1) = m ((c.tc : Thread Cert.KernelFfnOutFwd.nD Cert.KernelFfnOutFwd.τ).loc Cert.KernelFfnOutFwd.main_arg1)
      ∧ r.2.mem ((c.tc : Thread Cert.KernelFfnOutFwd.nD Cert.KernelFfnOutFwd.τ).loc Cert.KernelFfnOutFwd.main_arg2) = m ((c.tc : Thread Cert.KernelFfnOutFwd.nD Cert.KernelFfnOutFwd.τ).loc Cert.KernelFfnOutFwd.main_arg2)
      ∧ r.2.mem ((c.tc : Thread Cert.KernelFfnOutFwd.nD Cert.KernelFfnOutFwd.τ).loc Cert.KernelFfnOutFwd.main_arg3) = m ((c.tc : Thread Cert.KernelFfnOutFwd.nD Cert.KernelFfnOutFwd.τ).loc Cert.KernelFfnOutFwd.main_arg3))
      ∧ r.2.sem = fun _ => 0)

def quiescent_KernelFfnOutFwdIdeal [hKernelFfnOutFwdIdeal : Cert.KernelFfnOutFwdIdeal.Facts] : Prop :=
  ∀ (m : (ℓ : Loc Cert.KernelFfnOutFwdIdeal.nD Cert.KernelFfnOutFwdIdeal.τ Cert.KernelFfnOutFwdIdeal.sig) → Buf (Elt Ideal) ℓ) (g : Dev Cert.KernelFfnOutFwdIdeal.nD → PrngReg), Pre_KernelFfnOutFwdIdeal m →
    θ_run (Cert.KernelFfnOutFwdIdeal.defs (F := Ideal)) (onTc (τ := Cert.KernelFfnOutFwdIdeal.τ) (Cert.KernelFfnOutFwdIdeal.main (F := Ideal))) ⟨m, fun _ => 0, g⟩ (fun r => (∀ c : Dev Cert.KernelFfnOutFwdIdeal.nD,
      r.2.mem ((c.tc : Thread Cert.KernelFfnOutFwdIdeal.nD Cert.KernelFfnOutFwdIdeal.τ).loc Cert.KernelFfnOutFwdIdeal.main_arg0) = m ((c.tc : Thread Cert.KernelFfnOutFwdIdeal.nD Cert.KernelFfnOutFwdIdeal.τ).loc Cert.KernelFfnOutFwdIdeal.main_arg0)
      ∧ r.2.mem ((c.tc : Thread Cert.KernelFfnOutFwdIdeal.nD Cert.KernelFfnOutFwdIdeal.τ).loc Cert.KernelFfnOutFwdIdeal.main_arg1) = m ((c.tc : Thread Cert.KernelFfnOutFwdIdeal.nD Cert.KernelFfnOutFwdIdeal.τ).loc Cert.KernelFfnOutFwdIdeal.main_arg1)
      ∧ r.2.mem ((c.tc : Thread Cert.KernelFfnOutFwdIdeal.nD Cert.KernelFfnOutFwdIdeal.τ).loc Cert.KernelFfnOutFwdIdeal.main_arg2) = m ((c.tc : Thread Cert.KernelFfnOutFwdIdeal.nD Cert.KernelFfnOutFwdIdeal.τ).loc Cert.KernelFfnOutFwdIdeal.main_arg2)
      ∧ r.2.mem ((c.tc : Thread Cert.KernelFfnOutFwdIdeal.nD Cert.KernelFfnOutFwdIdeal.τ).loc Cert.KernelFfnOutFwdIdeal.main_arg3) = m ((c.tc : Thread Cert.KernelFfnOutFwdIdeal.nD Cert.KernelFfnOutFwdIdeal.τ).loc Cert.KernelFfnOutFwdIdeal.main_arg3))
      ∧ r.2.sem = fun _ => 0)

def quiescent_ReferenceFfnOutFwdIdeal [hReferenceFfnOutFwdIdeal : Cert.ReferenceFfnOutFwdIdeal.Facts] : Prop :=
  ∀ (m : (ℓ : Loc Cert.ReferenceFfnOutFwdIdeal.nD Cert.ReferenceFfnOutFwdIdeal.τ Cert.ReferenceFfnOutFwdIdeal.sig) → Buf (Elt Ideal) ℓ) (g : Dev Cert.ReferenceFfnOutFwdIdeal.nD → PrngReg), Pre_ReferenceFfnOutFwdIdeal m →
    θ_run (Cert.ReferenceFfnOutFwdIdeal.defs (F := Ideal)) (onTc (τ := Cert.ReferenceFfnOutFwdIdeal.τ) (Cert.ReferenceFfnOutFwdIdeal.main (F := Ideal))) ⟨m, fun _ => 0, g⟩ (fun r => (∀ c : Dev Cert.ReferenceFfnOutFwdIdeal.nD,
      r.2.mem ((c.tc : Thread Cert.ReferenceFfnOutFwdIdeal.nD Cert.ReferenceFfnOutFwdIdeal.τ).loc Cert.ReferenceFfnOutFwdIdeal.main_arg0) = m ((c.tc : Thread Cert.ReferenceFfnOutFwdIdeal.nD Cert.ReferenceFfnOutFwdIdeal.τ).loc Cert.ReferenceFfnOutFwdIdeal.main_arg0)
      ∧ r.2.mem ((c.tc : Thread Cert.ReferenceFfnOutFwdIdeal.nD Cert.ReferenceFfnOutFwdIdeal.τ).loc Cert.ReferenceFfnOutFwdIdeal.main_arg1) = m ((c.tc : Thread Cert.ReferenceFfnOutFwdIdeal.nD Cert.ReferenceFfnOutFwdIdeal.τ).loc Cert.ReferenceFfnOutFwdIdeal.main_arg1)
      ∧ r.2.mem ((c.tc : Thread Cert.ReferenceFfnOutFwdIdeal.nD Cert.ReferenceFfnOutFwdIdeal.τ).loc Cert.ReferenceFfnOutFwdIdeal.main_arg2) = m ((c.tc : Thread Cert.ReferenceFfnOutFwdIdeal.nD Cert.ReferenceFfnOutFwdIdeal.τ).loc Cert.ReferenceFfnOutFwdIdeal.main_arg2)
      ∧ r.2.mem ((c.tc : Thread Cert.ReferenceFfnOutFwdIdeal.nD Cert.ReferenceFfnOutFwdIdeal.τ).loc Cert.ReferenceFfnOutFwdIdeal.main_arg3) = m ((c.tc : Thread Cert.ReferenceFfnOutFwdIdeal.nD Cert.ReferenceFfnOutFwdIdeal.τ).loc Cert.ReferenceFfnOutFwdIdeal.main_arg3))
      ∧ r.2.sem = fun _ => 0)

def quiescent_KernelAdamAda [hKernelAdamAda : Cert.KernelAdamAda.Facts] : Prop :=
  ∀ (m : (ℓ : Loc Cert.KernelAdamAda.nD Cert.KernelAdamAda.τ Cert.KernelAdamAda.sig) → Buf (Elt Bits) ℓ) (g : Dev Cert.KernelAdamAda.nD → PrngReg), Pre_KernelAdamAda m →
    θ_run (Cert.KernelAdamAda.defs (F := Bits)) (onTc (τ := Cert.KernelAdamAda.τ) (Cert.KernelAdamAda.main (F := Bits))) ⟨m, fun _ => 0, g⟩ (fun r => (∀ c : Dev Cert.KernelAdamAda.nD,
      r.2.mem ((c.tc : Thread Cert.KernelAdamAda.nD Cert.KernelAdamAda.τ).loc Cert.KernelAdamAda.main_arg0) = m ((c.tc : Thread Cert.KernelAdamAda.nD Cert.KernelAdamAda.τ).loc Cert.KernelAdamAda.main_arg0)
      ∧ r.2.mem ((c.tc : Thread Cert.KernelAdamAda.nD Cert.KernelAdamAda.τ).loc Cert.KernelAdamAda.main_arg1) = m ((c.tc : Thread Cert.KernelAdamAda.nD Cert.KernelAdamAda.τ).loc Cert.KernelAdamAda.main_arg1)
      ∧ r.2.mem ((c.tc : Thread Cert.KernelAdamAda.nD Cert.KernelAdamAda.τ).loc Cert.KernelAdamAda.main_arg2) = m ((c.tc : Thread Cert.KernelAdamAda.nD Cert.KernelAdamAda.τ).loc Cert.KernelAdamAda.main_arg2)
      ∧ r.2.mem ((c.tc : Thread Cert.KernelAdamAda.nD Cert.KernelAdamAda.τ).loc Cert.KernelAdamAda.main_arg3) = m ((c.tc : Thread Cert.KernelAdamAda.nD Cert.KernelAdamAda.τ).loc Cert.KernelAdamAda.main_arg3)
      ∧ r.2.mem ((c.tc : Thread Cert.KernelAdamAda.nD Cert.KernelAdamAda.τ).loc Cert.KernelAdamAda.main_arg4) = m ((c.tc : Thread Cert.KernelAdamAda.nD Cert.KernelAdamAda.τ).loc Cert.KernelAdamAda.main_arg4))
      ∧ r.2.sem = fun _ => 0)

def quiescent_KernelAdamAdaIdeal [hKernelAdamAdaIdeal : Cert.KernelAdamAdaIdeal.Facts] : Prop :=
  ∀ (m : (ℓ : Loc Cert.KernelAdamAdaIdeal.nD Cert.KernelAdamAdaIdeal.τ Cert.KernelAdamAdaIdeal.sig) → Buf (Elt Ideal) ℓ) (g : Dev Cert.KernelAdamAdaIdeal.nD → PrngReg), Pre_KernelAdamAdaIdeal m →
    θ_run (Cert.KernelAdamAdaIdeal.defs (F := Ideal)) (onTc (τ := Cert.KernelAdamAdaIdeal.τ) (Cert.KernelAdamAdaIdeal.main (F := Ideal))) ⟨m, fun _ => 0, g⟩ (fun r => (∀ c : Dev Cert.KernelAdamAdaIdeal.nD,
      r.2.mem ((c.tc : Thread Cert.KernelAdamAdaIdeal.nD Cert.KernelAdamAdaIdeal.τ).loc Cert.KernelAdamAdaIdeal.main_arg0) = m ((c.tc : Thread Cert.KernelAdamAdaIdeal.nD Cert.KernelAdamAdaIdeal.τ).loc Cert.KernelAdamAdaIdeal.main_arg0)
      ∧ r.2.mem ((c.tc : Thread Cert.KernelAdamAdaIdeal.nD Cert.KernelAdamAdaIdeal.τ).loc Cert.KernelAdamAdaIdeal.main_arg1) = m ((c.tc : Thread Cert.KernelAdamAdaIdeal.nD Cert.KernelAdamAdaIdeal.τ).loc Cert.KernelAdamAdaIdeal.main_arg1)
      ∧ r.2.mem ((c.tc : Thread Cert.KernelAdamAdaIdeal.nD Cert.KernelAdamAdaIdeal.τ).loc Cert.KernelAdamAdaIdeal.main_arg2) = m ((c.tc : Thread Cert.KernelAdamAdaIdeal.nD Cert.KernelAdamAdaIdeal.τ).loc Cert.KernelAdamAdaIdeal.main_arg2)
      ∧ r.2.mem ((c.tc : Thread Cert.KernelAdamAdaIdeal.nD Cert.KernelAdamAdaIdeal.τ).loc Cert.KernelAdamAdaIdeal.main_arg3) = m ((c.tc : Thread Cert.KernelAdamAdaIdeal.nD Cert.KernelAdamAdaIdeal.τ).loc Cert.KernelAdamAdaIdeal.main_arg3)
      ∧ r.2.mem ((c.tc : Thread Cert.KernelAdamAdaIdeal.nD Cert.KernelAdamAdaIdeal.τ).loc Cert.KernelAdamAdaIdeal.main_arg4) = m ((c.tc : Thread Cert.KernelAdamAdaIdeal.nD Cert.KernelAdamAdaIdeal.τ).loc Cert.KernelAdamAdaIdeal.main_arg4))
      ∧ r.2.sem = fun _ => 0)

def quiescent_ReferenceAdamAdaIdeal [hReferenceAdamAdaIdeal : Cert.ReferenceAdamAdaIdeal.Facts] : Prop :=
  ∀ (m : (ℓ : Loc Cert.ReferenceAdamAdaIdeal.nD Cert.ReferenceAdamAdaIdeal.τ Cert.ReferenceAdamAdaIdeal.sig) → Buf (Elt Ideal) ℓ) (g : Dev Cert.ReferenceAdamAdaIdeal.nD → PrngReg), Pre_ReferenceAdamAdaIdeal m →
    θ_run (Cert.ReferenceAdamAdaIdeal.defs (F := Ideal)) (onTc (τ := Cert.ReferenceAdamAdaIdeal.τ) (Cert.ReferenceAdamAdaIdeal.main (F := Ideal))) ⟨m, fun _ => 0, g⟩ (fun r => (∀ c : Dev Cert.ReferenceAdamAdaIdeal.nD,
      r.2.mem ((c.tc : Thread Cert.ReferenceAdamAdaIdeal.nD Cert.ReferenceAdamAdaIdeal.τ).loc Cert.ReferenceAdamAdaIdeal.main_arg0) = m ((c.tc : Thread Cert.ReferenceAdamAdaIdeal.nD Cert.ReferenceAdamAdaIdeal.τ).loc Cert.ReferenceAdamAdaIdeal.main_arg0)
      ∧ r.2.mem ((c.tc : Thread Cert.ReferenceAdamAdaIdeal.nD Cert.ReferenceAdamAdaIdeal.τ).loc Cert.ReferenceAdamAdaIdeal.main_arg1) = m ((c.tc : Thread Cert.ReferenceAdamAdaIdeal.nD Cert.ReferenceAdamAdaIdeal.τ).loc Cert.ReferenceAdamAdaIdeal.main_arg1)
      ∧ r.2.mem ((c.tc : Thread Cert.ReferenceAdamAdaIdeal.nD Cert.ReferenceAdamAdaIdeal.τ).loc Cert.ReferenceAdamAdaIdeal.main_arg2) = m ((c.tc : Thread Cert.ReferenceAdamAdaIdeal.nD Cert.ReferenceAdamAdaIdeal.τ).loc Cert.ReferenceAdamAdaIdeal.main_arg2)
      ∧ r.2.mem ((c.tc : Thread Cert.ReferenceAdamAdaIdeal.nD Cert.ReferenceAdamAdaIdeal.τ).loc Cert.ReferenceAdamAdaIdeal.main_arg3) = m ((c.tc : Thread Cert.ReferenceAdamAdaIdeal.nD Cert.ReferenceAdamAdaIdeal.τ).loc Cert.ReferenceAdamAdaIdeal.main_arg3)
      ∧ r.2.mem ((c.tc : Thread Cert.ReferenceAdamAdaIdeal.nD Cert.ReferenceAdamAdaIdeal.τ).loc Cert.ReferenceAdamAdaIdeal.main_arg4) = m ((c.tc : Thread Cert.ReferenceAdamAdaIdeal.nD Cert.ReferenceAdamAdaIdeal.τ).loc Cert.ReferenceAdamAdaIdeal.main_arg4))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3)
      ∧ r.2.mem ((c.tc : Thread Cert.KernelAdamIn.nD Cert.KernelAdamIn.τ).loc Cert.KernelAdamIn.main_arg4) = m ((c.tc : Thread Cert.KernelAdamIn.nD Cert.KernelAdamIn.τ).loc Cert.KernelAdamIn.main_arg4))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3)
      ∧ r.2.mem ((c.tc : Thread Cert.KernelAdamInIdeal.nD Cert.KernelAdamInIdeal.τ).loc Cert.KernelAdamInIdeal.main_arg4) = m ((c.tc : Thread Cert.KernelAdamInIdeal.nD Cert.KernelAdamInIdeal.τ).loc Cert.KernelAdamInIdeal.main_arg4))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3)
      ∧ r.2.mem ((c.tc : Thread Cert.ReferenceAdamInIdeal.nD Cert.ReferenceAdamInIdeal.τ).loc Cert.ReferenceAdamInIdeal.main_arg4) = m ((c.tc : Thread Cert.ReferenceAdamInIdeal.nD Cert.ReferenceAdamInIdeal.τ).loc Cert.ReferenceAdamInIdeal.main_arg4))
      ∧ r.2.sem = fun _ => 0)

def quiescent_KernelAdamSquare [hKernelAdamSquare : Cert.KernelAdamSquare.Facts] : Prop :=
  ∀ (m : (ℓ : Loc Cert.KernelAdamSquare.nD Cert.KernelAdamSquare.τ Cert.KernelAdamSquare.sig) → Buf (Elt Bits) ℓ) (g : Dev Cert.KernelAdamSquare.nD → PrngReg), Pre_KernelAdamSquare m →
    θ_run (Cert.KernelAdamSquare.defs (F := Bits)) (onTc (τ := Cert.KernelAdamSquare.τ) (Cert.KernelAdamSquare.main (F := Bits))) ⟨m, fun _ => 0, g⟩ (fun r => (∀ c : Dev Cert.KernelAdamSquare.nD,
      r.2.mem ((c.tc : Thread Cert.KernelAdamSquare.nD Cert.KernelAdamSquare.τ).loc Cert.KernelAdamSquare.main_arg0) = m ((c.tc : Thread Cert.KernelAdamSquare.nD Cert.KernelAdamSquare.τ).loc Cert.KernelAdamSquare.main_arg0)
      ∧ r.2.mem ((c.tc : Thread Cert.KernelAdamSquare.nD Cert.KernelAdamSquare.τ).loc Cert.KernelAdamSquare.main_arg1) = m ((c.tc : Thread Cert.KernelAdamSquare.nD Cert.KernelAdamSquare.τ).loc Cert.KernelAdamSquare.main_arg1)
      ∧ r.2.mem ((c.tc : Thread Cert.KernelAdamSquare.nD Cert.KernelAdamSquare.τ).loc Cert.KernelAdamSquare.main_arg2) = m ((c.tc : Thread Cert.KernelAdamSquare.nD Cert.KernelAdamSquare.τ).loc Cert.KernelAdamSquare.main_arg2)
      ∧ r.2.mem ((c.tc : Thread Cert.KernelAdamSquare.nD Cert.KernelAdamSquare.τ).loc Cert.KernelAdamSquare.main_arg3) = m ((c.tc : Thread Cert.KernelAdamSquare.nD Cert.KernelAdamSquare.τ).loc Cert.KernelAdamSquare.main_arg3)
      ∧ r.2.mem ((c.tc : Thread Cert.KernelAdamSquare.nD Cert.KernelAdamSquare.τ).loc Cert.KernelAdamSquare.main_arg4) = m ((c.tc : Thread Cert.KernelAdamSquare.nD Cert.KernelAdamSquare.τ).loc Cert.KernelAdamSquare.main_arg4))
      ∧ r.2.sem = fun _ => 0)

def quiescent_KernelAdamSquareIdeal [hKernelAdamSquareIdeal : Cert.KernelAdamSquareIdeal.Facts] : Prop :=
  ∀ (m : (ℓ : Loc Cert.KernelAdamSquareIdeal.nD Cert.KernelAdamSquareIdeal.τ Cert.KernelAdamSquareIdeal.sig) → Buf (Elt Ideal) ℓ) (g : Dev Cert.KernelAdamSquareIdeal.nD → PrngReg), Pre_KernelAdamSquareIdeal m →
    θ_run (Cert.KernelAdamSquareIdeal.defs (F := Ideal)) (onTc (τ := Cert.KernelAdamSquareIdeal.τ) (Cert.KernelAdamSquareIdeal.main (F := Ideal))) ⟨m, fun _ => 0, g⟩ (fun r => (∀ c : Dev Cert.KernelAdamSquareIdeal.nD,
      r.2.mem ((c.tc : Thread Cert.KernelAdamSquareIdeal.nD Cert.KernelAdamSquareIdeal.τ).loc Cert.KernelAdamSquareIdeal.main_arg0) = m ((c.tc : Thread Cert.KernelAdamSquareIdeal.nD Cert.KernelAdamSquareIdeal.τ).loc Cert.KernelAdamSquareIdeal.main_arg0)
      ∧ r.2.mem ((c.tc : Thread Cert.KernelAdamSquareIdeal.nD Cert.KernelAdamSquareIdeal.τ).loc Cert.KernelAdamSquareIdeal.main_arg1) = m ((c.tc : Thread Cert.KernelAdamSquareIdeal.nD Cert.KernelAdamSquareIdeal.τ).loc Cert.KernelAdamSquareIdeal.main_arg1)
      ∧ r.2.mem ((c.tc : Thread Cert.KernelAdamSquareIdeal.nD Cert.KernelAdamSquareIdeal.τ).loc Cert.KernelAdamSquareIdeal.main_arg2) = m ((c.tc : Thread Cert.KernelAdamSquareIdeal.nD Cert.KernelAdamSquareIdeal.τ).loc Cert.KernelAdamSquareIdeal.main_arg2)
      ∧ r.2.mem ((c.tc : Thread Cert.KernelAdamSquareIdeal.nD Cert.KernelAdamSquareIdeal.τ).loc Cert.KernelAdamSquareIdeal.main_arg3) = m ((c.tc : Thread Cert.KernelAdamSquareIdeal.nD Cert.KernelAdamSquareIdeal.τ).loc Cert.KernelAdamSquareIdeal.main_arg3)
      ∧ r.2.mem ((c.tc : Thread Cert.KernelAdamSquareIdeal.nD Cert.KernelAdamSquareIdeal.τ).loc Cert.KernelAdamSquareIdeal.main_arg4) = m ((c.tc : Thread Cert.KernelAdamSquareIdeal.nD Cert.KernelAdamSquareIdeal.τ).loc Cert.KernelAdamSquareIdeal.main_arg4))
      ∧ r.2.sem = fun _ => 0)

def quiescent_ReferenceAdamSquareIdeal [hReferenceAdamSquareIdeal : Cert.ReferenceAdamSquareIdeal.Facts] : Prop :=
  ∀ (m : (ℓ : Loc Cert.ReferenceAdamSquareIdeal.nD Cert.ReferenceAdamSquareIdeal.τ Cert.ReferenceAdamSquareIdeal.sig) → Buf (Elt Ideal) ℓ) (g : Dev Cert.ReferenceAdamSquareIdeal.nD → PrngReg), Pre_ReferenceAdamSquareIdeal m →
    θ_run (Cert.ReferenceAdamSquareIdeal.defs (F := Ideal)) (onTc (τ := Cert.ReferenceAdamSquareIdeal.τ) (Cert.ReferenceAdamSquareIdeal.main (F := Ideal))) ⟨m, fun _ => 0, g⟩ (fun r => (∀ c : Dev Cert.ReferenceAdamSquareIdeal.nD,
      r.2.mem ((c.tc : Thread Cert.ReferenceAdamSquareIdeal.nD Cert.ReferenceAdamSquareIdeal.τ).loc Cert.ReferenceAdamSquareIdeal.main_arg0) = m ((c.tc : Thread Cert.ReferenceAdamSquareIdeal.nD Cert.ReferenceAdamSquareIdeal.τ).loc Cert.ReferenceAdamSquareIdeal.main_arg0)
      ∧ r.2.mem ((c.tc : Thread Cert.ReferenceAdamSquareIdeal.nD Cert.ReferenceAdamSquareIdeal.τ).loc Cert.ReferenceAdamSquareIdeal.main_arg1) = m ((c.tc : Thread Cert.ReferenceAdamSquareIdeal.nD Cert.ReferenceAdamSquareIdeal.τ).loc Cert.ReferenceAdamSquareIdeal.main_arg1)
      ∧ r.2.mem ((c.tc : Thread Cert.ReferenceAdamSquareIdeal.nD Cert.ReferenceAdamSquareIdeal.τ).loc Cert.ReferenceAdamSquareIdeal.main_arg2) = m ((c.tc : Thread Cert.ReferenceAdamSquareIdeal.nD Cert.ReferenceAdamSquareIdeal.τ).loc Cert.ReferenceAdamSquareIdeal.main_arg2)
      ∧ r.2.mem ((c.tc : Thread Cert.ReferenceAdamSquareIdeal.nD Cert.ReferenceAdamSquareIdeal.τ).loc Cert.ReferenceAdamSquareIdeal.main_arg3) = m ((c.tc : Thread Cert.ReferenceAdamSquareIdeal.nD Cert.ReferenceAdamSquareIdeal.τ).loc Cert.ReferenceAdamSquareIdeal.main_arg3)
      ∧ r.2.mem ((c.tc : Thread Cert.ReferenceAdamSquareIdeal.nD Cert.ReferenceAdamSquareIdeal.τ).loc Cert.ReferenceAdamSquareIdeal.main_arg4) = m ((c.tc : Thread Cert.ReferenceAdamSquareIdeal.nD Cert.ReferenceAdamSquareIdeal.τ).loc Cert.ReferenceAdamSquareIdeal.main_arg4))
      ∧ r.2.sem = fun _ => 0)

def quiescent_KernelAdamUp [hKernelAdamUp : Cert.KernelAdamUp.Facts] : Prop :=
  ∀ (m : (ℓ : Loc Cert.KernelAdamUp.nD Cert.KernelAdamUp.τ Cert.KernelAdamUp.sig) → Buf (Elt Bits) ℓ) (g : Dev Cert.KernelAdamUp.nD → PrngReg), Pre_KernelAdamUp m →
    θ_run (Cert.KernelAdamUp.defs (F := Bits)) (onTc (τ := Cert.KernelAdamUp.τ) (Cert.KernelAdamUp.main (F := Bits))) ⟨m, fun _ => 0, g⟩ (fun r => (∀ c : Dev Cert.KernelAdamUp.nD,
      r.2.mem ((c.tc : Thread Cert.KernelAdamUp.nD Cert.KernelAdamUp.τ).loc Cert.KernelAdamUp.main_arg0) = m ((c.tc : Thread Cert.KernelAdamUp.nD Cert.KernelAdamUp.τ).loc Cert.KernelAdamUp.main_arg0)
      ∧ r.2.mem ((c.tc : Thread Cert.KernelAdamUp.nD Cert.KernelAdamUp.τ).loc Cert.KernelAdamUp.main_arg1) = m ((c.tc : Thread Cert.KernelAdamUp.nD Cert.KernelAdamUp.τ).loc Cert.KernelAdamUp.main_arg1)
      ∧ r.2.mem ((c.tc : Thread Cert.KernelAdamUp.nD Cert.KernelAdamUp.τ).loc Cert.KernelAdamUp.main_arg2) = m ((c.tc : Thread Cert.KernelAdamUp.nD Cert.KernelAdamUp.τ).loc Cert.KernelAdamUp.main_arg2)
      ∧ r.2.mem ((c.tc : Thread Cert.KernelAdamUp.nD Cert.KernelAdamUp.τ).loc Cert.KernelAdamUp.main_arg3) = m ((c.tc : Thread Cert.KernelAdamUp.nD Cert.KernelAdamUp.τ).loc Cert.KernelAdamUp.main_arg3)
      ∧ r.2.mem ((c.tc : Thread Cert.KernelAdamUp.nD Cert.KernelAdamUp.τ).loc Cert.KernelAdamUp.main_arg4) = m ((c.tc : Thread Cert.KernelAdamUp.nD Cert.KernelAdamUp.τ).loc Cert.KernelAdamUp.main_arg4))
      ∧ r.2.sem = fun _ => 0)

def quiescent_KernelAdamUpIdeal [hKernelAdamUpIdeal : Cert.KernelAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg), Pre_KernelAdamUpIdeal m →
    θ_run (Cert.KernelAdamUpIdeal.defs (F := Ideal)) (onTc (τ := Cert.KernelAdamUpIdeal.τ) (Cert.KernelAdamUpIdeal.main (F := Ideal))) ⟨m, fun _ => 0, g⟩ (fun r => (∀ c : Dev Cert.KernelAdamUpIdeal.nD,
      r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
      ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
      ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
      ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3)
      ∧ r.2.mem ((c.tc : Thread Cert.KernelAdamUpIdeal.nD Cert.KernelAdamUpIdeal.τ).loc Cert.KernelAdamUpIdeal.main_arg4) = m ((c.tc : Thread Cert.KernelAdamUpIdeal.nD Cert.KernelAdamUpIdeal.τ).loc Cert.KernelAdamUpIdeal.main_arg4))
      ∧ r.2.sem = fun _ => 0)

def quiescent_ReferenceAdamUpIdeal [hReferenceAdamUpIdeal : Cert.ReferenceAdamUpIdeal.Facts] : Prop :=
  ∀ (m : (ℓ : Loc Cert.ReferenceAdamUpIdeal.nD Cert.ReferenceAdamUpIdeal.τ Cert.ReferenceAdamUpIdeal.sig) → Buf (Elt Ideal) ℓ) (g : Dev Cert.ReferenceAdamUpIdeal.nD → PrngReg), Pre_ReferenceAdamUpIdeal m →
    θ_run (Cert.ReferenceAdamUpIdeal.defs (F := Ideal)) (onTc (τ := Cert.ReferenceAdamUpIdeal.τ) (Cert.ReferenceAdamUpIdeal.main (F := Ideal))) ⟨m, fun _ => 0, g⟩ (fun r => (∀ c : Dev Cert.ReferenceAdamUpIdeal.nD,
      r.2.mem ((c.tc : Thread Cert.ReferenceAdamUpIdeal.nD Cert.ReferenceAdamUpIdeal.τ).loc Cert.ReferenceAdamUpIdeal.main_arg0) = m ((c.tc : Thread Cert.ReferenceAdamUpIdeal.nD Cert.ReferenceAdamUpIdeal.τ).loc Cert.ReferenceAdamUpIdeal.main_arg0)
      ∧ r.2.mem ((c.tc : Thread Cert.ReferenceAdamUpIdeal.nD Cert.ReferenceAdamUpIdeal.τ).loc Cert.ReferenceAdamUpIdeal.main_arg1) = m ((c.tc : Thread Cert.ReferenceAdamUpIdeal.nD Cert.ReferenceAdamUpIdeal.τ).loc Cert.ReferenceAdamUpIdeal.main_arg1)
      ∧ r.2.mem ((c.tc : Thread Cert.ReferenceAdamUpIdeal.nD Cert.ReferenceAdamUpIdeal.τ).loc Cert.ReferenceAdamUpIdeal.main_arg2) = m ((c.tc : Thread Cert.ReferenceAdamUpIdeal.nD Cert.ReferenceAdamUpIdeal.τ).loc Cert.ReferenceAdamUpIdeal.main_arg2)
      ∧ r.2.mem ((c.tc : Thread Cert.ReferenceAdamUpIdeal.nD Cert.ReferenceAdamUpIdeal.τ).loc Cert.ReferenceAdamUpIdeal.main_arg3) = m ((c.tc : Thread Cert.ReferenceAdamUpIdeal.nD Cert.ReferenceAdamUpIdeal.τ).loc Cert.ReferenceAdamUpIdeal.main_arg3)
      ∧ r.2.mem ((c.tc : Thread Cert.ReferenceAdamUpIdeal.nD Cert.ReferenceAdamUpIdeal.τ).loc Cert.ReferenceAdamUpIdeal.main_arg4) = m ((c.tc : Thread Cert.ReferenceAdamUpIdeal.nD Cert.ReferenceAdamUpIdeal.τ).loc Cert.ReferenceAdamUpIdeal.main_arg4))
      ∧ r.2.sem = fun _ => 0)

def quiescent_KernelAdamDown [hKernelAdamDown : Cert.KernelAdamDown.Facts] : Prop :=
  ∀ (m : (ℓ : Loc Cert.KernelAdamDown.nD Cert.KernelAdamDown.τ Cert.KernelAdamDown.sig) → Buf (Elt Bits) ℓ) (g : Dev Cert.KernelAdamDown.nD → PrngReg), Pre_KernelAdamDown m →
    θ_run (Cert.KernelAdamDown.defs (F := Bits)) (onTc (τ := Cert.KernelAdamDown.τ) (Cert.KernelAdamDown.main (F := Bits))) ⟨m, fun _ => 0, g⟩ (fun r => (∀ c : Dev Cert.KernelAdamDown.nD,
      r.2.mem ((c.tc : Thread Cert.KernelAdamDown.nD Cert.KernelAdamDown.τ).loc Cert.KernelAdamDown.main_arg0) = m ((c.tc : Thread Cert.KernelAdamDown.nD Cert.KernelAdamDown.τ).loc Cert.KernelAdamDown.main_arg0)
      ∧ r.2.mem ((c.tc : Thread Cert.KernelAdamDown.nD Cert.KernelAdamDown.τ).loc Cert.KernelAdamDown.main_arg1) = m ((c.tc : Thread Cert.KernelAdamDown.nD Cert.KernelAdamDown.τ).loc Cert.KernelAdamDown.main_arg1)
      ∧ r.2.mem ((c.tc : Thread Cert.KernelAdamDown.nD Cert.KernelAdamDown.τ).loc Cert.KernelAdamDown.main_arg2) = m ((c.tc : Thread Cert.KernelAdamDown.nD Cert.KernelAdamDown.τ).loc Cert.KernelAdamDown.main_arg2)
      ∧ r.2.mem ((c.tc : Thread Cert.KernelAdamDown.nD Cert.KernelAdamDown.τ).loc Cert.KernelAdamDown.main_arg3) = m ((c.tc : Thread Cert.KernelAdamDown.nD Cert.KernelAdamDown.τ).loc Cert.KernelAdamDown.main_arg3)
      ∧ r.2.mem ((c.tc : Thread Cert.KernelAdamDown.nD Cert.KernelAdamDown.τ).loc Cert.KernelAdamDown.main_arg4) = m ((c.tc : Thread Cert.KernelAdamDown.nD Cert.KernelAdamDown.τ).loc Cert.KernelAdamDown.main_arg4))
      ∧ r.2.sem = fun _ => 0)

def quiescent_KernelAdamDownIdeal [hKernelAdamDownIdeal : Cert.KernelAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg), Pre_KernelAdamDownIdeal m →
    θ_run (Cert.KernelAdamDownIdeal.defs (F := Ideal)) (onTc (τ := Cert.KernelAdamDownIdeal.τ) (Cert.KernelAdamDownIdeal.main (F := Ideal))) ⟨m, fun _ => 0, g⟩ (fun r => (∀ c : Dev Cert.KernelAdamDownIdeal.nD,
      r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
      ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
      ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
      ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3)
      ∧ r.2.mem ((c.tc : Thread Cert.KernelAdamDownIdeal.nD Cert.KernelAdamDownIdeal.τ).loc Cert.KernelAdamDownIdeal.main_arg4) = m ((c.tc : Thread Cert.KernelAdamDownIdeal.nD Cert.KernelAdamDownIdeal.τ).loc Cert.KernelAdamDownIdeal.main_arg4))
      ∧ r.2.sem = fun _ => 0)

def quiescent_ReferenceAdamDownIdeal [hReferenceAdamDownIdeal : Cert.ReferenceAdamDownIdeal.Facts] : Prop :=
  ∀ (m : (ℓ : Loc Cert.ReferenceAdamDownIdeal.nD Cert.ReferenceAdamDownIdeal.τ Cert.ReferenceAdamDownIdeal.sig) → Buf (Elt Ideal) ℓ) (g : Dev Cert.ReferenceAdamDownIdeal.nD → PrngReg), Pre_ReferenceAdamDownIdeal m →
    θ_run (Cert.ReferenceAdamDownIdeal.defs (F := Ideal)) (onTc (τ := Cert.ReferenceAdamDownIdeal.τ) (Cert.ReferenceAdamDownIdeal.main (F := Ideal))) ⟨m, fun _ => 0, g⟩ (fun r => (∀ c : Dev Cert.ReferenceAdamDownIdeal.nD,
      r.2.mem ((c.tc : Thread Cert.ReferenceAdamDownIdeal.nD Cert.ReferenceAdamDownIdeal.τ).loc Cert.ReferenceAdamDownIdeal.main_arg0) = m ((c.tc : Thread Cert.ReferenceAdamDownIdeal.nD Cert.ReferenceAdamDownIdeal.τ).loc Cert.ReferenceAdamDownIdeal.main_arg0)
      ∧ r.2.mem ((c.tc : Thread Cert.ReferenceAdamDownIdeal.nD Cert.ReferenceAdamDownIdeal.τ).loc Cert.ReferenceAdamDownIdeal.main_arg1) = m ((c.tc : Thread Cert.ReferenceAdamDownIdeal.nD Cert.ReferenceAdamDownIdeal.τ).loc Cert.ReferenceAdamDownIdeal.main_arg1)
      ∧ r.2.mem ((c.tc : Thread Cert.ReferenceAdamDownIdeal.nD Cert.ReferenceAdamDownIdeal.τ).loc Cert.ReferenceAdamDownIdeal.main_arg2) = m ((c.tc : Thread Cert.ReferenceAdamDownIdeal.nD Cert.ReferenceAdamDownIdeal.τ).loc Cert.ReferenceAdamDownIdeal.main_arg2)
      ∧ r.2.mem ((c.tc : Thread Cert.ReferenceAdamDownIdeal.nD Cert.ReferenceAdamDownIdeal.τ).loc Cert.ReferenceAdamDownIdeal.main_arg3) = m ((c.tc : Thread Cert.ReferenceAdamDownIdeal.nD Cert.ReferenceAdamDownIdeal.τ).loc Cert.ReferenceAdamDownIdeal.main_arg3)
      ∧ r.2.mem ((c.tc : Thread Cert.ReferenceAdamDownIdeal.nD Cert.ReferenceAdamDownIdeal.τ).loc Cert.ReferenceAdamDownIdeal.main_arg4) = m ((c.tc : Thread Cert.ReferenceAdamDownIdeal.nD Cert.ReferenceAdamDownIdeal.τ).loc Cert.ReferenceAdamDownIdeal.main_arg4))
      ∧ r.2.sem = fun _ => 0)

def quiescent_KernelAdamPacked [hKernelAdamPacked : Cert.KernelAdamPacked.Facts] : Prop :=
  ∀ (m : (ℓ : Loc Cert.KernelAdamPacked.nD Cert.KernelAdamPacked.τ Cert.KernelAdamPacked.sig) → Buf (Elt Bits) ℓ) (g : Dev Cert.KernelAdamPacked.nD → PrngReg), Pre_KernelAdamPacked m →
    θ_run (Cert.KernelAdamPacked.defs (F := Bits)) (onTc (τ := Cert.KernelAdamPacked.τ) (Cert.KernelAdamPacked.main (F := Bits))) ⟨m, fun _ => 0, g⟩ (fun r => (∀ c : Dev Cert.KernelAdamPacked.nD,
      r.2.mem ((c.tc : Thread Cert.KernelAdamPacked.nD Cert.KernelAdamPacked.τ).loc Cert.KernelAdamPacked.main_arg0) = m ((c.tc : Thread Cert.KernelAdamPacked.nD Cert.KernelAdamPacked.τ).loc Cert.KernelAdamPacked.main_arg0)
      ∧ r.2.mem ((c.tc : Thread Cert.KernelAdamPacked.nD Cert.KernelAdamPacked.τ).loc Cert.KernelAdamPacked.main_arg1) = m ((c.tc : Thread Cert.KernelAdamPacked.nD Cert.KernelAdamPacked.τ).loc Cert.KernelAdamPacked.main_arg1)
      ∧ r.2.mem ((c.tc : Thread Cert.KernelAdamPacked.nD Cert.KernelAdamPacked.τ).loc Cert.KernelAdamPacked.main_arg2) = m ((c.tc : Thread Cert.KernelAdamPacked.nD Cert.KernelAdamPacked.τ).loc Cert.KernelAdamPacked.main_arg2)
      ∧ r.2.mem ((c.tc : Thread Cert.KernelAdamPacked.nD Cert.KernelAdamPacked.τ).loc Cert.KernelAdamPacked.main_arg3) = m ((c.tc : Thread Cert.KernelAdamPacked.nD Cert.KernelAdamPacked.τ).loc Cert.KernelAdamPacked.main_arg3))
      ∧ r.2.sem = fun _ => 0)

def quiescent_KernelAdamPackedIdeal [hKernelAdamPackedIdeal : Cert.KernelAdamPackedIdeal.Facts] : Prop :=
  ∀ (m : (ℓ : Loc Cert.KernelAdamPackedIdeal.nD Cert.KernelAdamPackedIdeal.τ Cert.KernelAdamPackedIdeal.sig) → Buf (Elt Ideal) ℓ) (g : Dev Cert.KernelAdamPackedIdeal.nD → PrngReg), Pre_KernelAdamPackedIdeal m →
    θ_run (Cert.KernelAdamPackedIdeal.defs (F := Ideal)) (onTc (τ := Cert.KernelAdamPackedIdeal.τ) (Cert.KernelAdamPackedIdeal.main (F := Ideal))) ⟨m, fun _ => 0, g⟩ (fun r => (∀ c : Dev Cert.KernelAdamPackedIdeal.nD,
      r.2.mem ((c.tc : Thread Cert.KernelAdamPackedIdeal.nD Cert.KernelAdamPackedIdeal.τ).loc Cert.KernelAdamPackedIdeal.main_arg0) = m ((c.tc : Thread Cert.KernelAdamPackedIdeal.nD Cert.KernelAdamPackedIdeal.τ).loc Cert.KernelAdamPackedIdeal.main_arg0)
      ∧ r.2.mem ((c.tc : Thread Cert.KernelAdamPackedIdeal.nD Cert.KernelAdamPackedIdeal.τ).loc Cert.KernelAdamPackedIdeal.main_arg1) = m ((c.tc : Thread Cert.KernelAdamPackedIdeal.nD Cert.KernelAdamPackedIdeal.τ).loc Cert.KernelAdamPackedIdeal.main_arg1)
      ∧ r.2.mem ((c.tc : Thread Cert.KernelAdamPackedIdeal.nD Cert.KernelAdamPackedIdeal.τ).loc Cert.KernelAdamPackedIdeal.main_arg2) = m ((c.tc : Thread Cert.KernelAdamPackedIdeal.nD Cert.KernelAdamPackedIdeal.τ).loc Cert.KernelAdamPackedIdeal.main_arg2)
      ∧ r.2.mem ((c.tc : Thread Cert.KernelAdamPackedIdeal.nD Cert.KernelAdamPackedIdeal.τ).loc Cert.KernelAdamPackedIdeal.main_arg3) = m ((c.tc : Thread Cert.KernelAdamPackedIdeal.nD Cert.KernelAdamPackedIdeal.τ).loc Cert.KernelAdamPackedIdeal.main_arg3))
      ∧ r.2.sem = fun _ => 0)

def quiescent_ReferenceAdamPackedIdeal [hReferenceAdamPackedIdeal : Cert.ReferenceAdamPackedIdeal.Facts] : Prop :=
  ∀ (m : (ℓ : Loc Cert.ReferenceAdamPackedIdeal.nD Cert.ReferenceAdamPackedIdeal.τ Cert.ReferenceAdamPackedIdeal.sig) → Buf (Elt Ideal) ℓ) (g : Dev Cert.ReferenceAdamPackedIdeal.nD → PrngReg), Pre_ReferenceAdamPackedIdeal m →
    θ_run (Cert.ReferenceAdamPackedIdeal.defs (F := Ideal)) (onTc (τ := Cert.ReferenceAdamPackedIdeal.τ) (Cert.ReferenceAdamPackedIdeal.main (F := Ideal))) ⟨m, fun _ => 0, g⟩ (fun r => (∀ c : Dev Cert.ReferenceAdamPackedIdeal.nD,
      r.2.mem ((c.tc : Thread Cert.ReferenceAdamPackedIdeal.nD Cert.ReferenceAdamPackedIdeal.τ).loc Cert.ReferenceAdamPackedIdeal.main_arg0) = m ((c.tc : Thread Cert.ReferenceAdamPackedIdeal.nD Cert.ReferenceAdamPackedIdeal.τ).loc Cert.ReferenceAdamPackedIdeal.main_arg0)
      ∧ r.2.mem ((c.tc : Thread Cert.ReferenceAdamPackedIdeal.nD Cert.ReferenceAdamPackedIdeal.τ).loc Cert.ReferenceAdamPackedIdeal.main_arg1) = m ((c.tc : Thread Cert.ReferenceAdamPackedIdeal.nD Cert.ReferenceAdamPackedIdeal.τ).loc Cert.ReferenceAdamPackedIdeal.main_arg1)
      ∧ r.2.mem ((c.tc : Thread Cert.ReferenceAdamPackedIdeal.nD Cert.ReferenceAdamPackedIdeal.τ).loc Cert.ReferenceAdamPackedIdeal.main_arg2) = m ((c.tc : Thread Cert.ReferenceAdamPackedIdeal.nD Cert.ReferenceAdamPackedIdeal.τ).loc Cert.ReferenceAdamPackedIdeal.main_arg2)
      ∧ r.2.mem ((c.tc : Thread Cert.ReferenceAdamPackedIdeal.nD Cert.ReferenceAdamPackedIdeal.τ).loc Cert.ReferenceAdamPackedIdeal.main_arg3) = m ((c.tc : Thread Cert.ReferenceAdamPackedIdeal.nD Cert.ReferenceAdamPackedIdeal.τ).loc Cert.ReferenceAdamPackedIdeal.main_arg3))
      ∧ r.2.sem = fun _ => 0)

def quiescent_KernelNormMod [hKernelNormMod : Cert.KernelNormMod.Facts] : Prop :=
  ∀ (m : (ℓ : Loc Cert.KernelNormMod.nD Cert.KernelNormMod.τ Cert.KernelNormMod.sig) → Buf (Elt Bits) ℓ) (g : Dev Cert.KernelNormMod.nD → PrngReg), Pre_KernelNormMod m →
    θ_run (Cert.KernelNormMod.defs (F := Bits)) (onTc (τ := Cert.KernelNormMod.τ) (Cert.KernelNormMod.main (F := Bits))) ⟨m, fun _ => 0, g⟩ (fun r => (∀ c : Dev Cert.KernelNormMod.nD,
      r.2.mem ((c.tc : Thread Cert.KernelNormMod.nD Cert.KernelNormMod.τ).loc Cert.KernelNormMod.main_arg0) = m ((c.tc : Thread Cert.KernelNormMod.nD Cert.KernelNormMod.τ).loc Cert.KernelNormMod.main_arg0)
      ∧ r.2.mem ((c.tc : Thread Cert.KernelNormMod.nD Cert.KernelNormMod.τ).loc Cert.KernelNormMod.main_arg1) = m ((c.tc : Thread Cert.KernelNormMod.nD Cert.KernelNormMod.τ).loc Cert.KernelNormMod.main_arg1)
      ∧ r.2.mem ((c.tc : Thread Cert.KernelNormMod.nD Cert.KernelNormMod.τ).loc Cert.KernelNormMod.main_arg2) = m ((c.tc : Thread Cert.KernelNormMod.nD Cert.KernelNormMod.τ).loc Cert.KernelNormMod.main_arg2))
      ∧ r.2.sem = fun _ => 0)

def quiescent_KernelNormModIdeal [hKernelNormModIdeal : Cert.KernelNormModIdeal.Facts] : Prop :=
  ∀ (m : (ℓ : Loc Cert.KernelNormModIdeal.nD Cert.KernelNormModIdeal.τ Cert.KernelNormModIdeal.sig) → Buf (Elt Ideal) ℓ) (g : Dev Cert.KernelNormModIdeal.nD → PrngReg), Pre_KernelNormModIdeal m →
    θ_run (Cert.KernelNormModIdeal.defs (F := Ideal)) (onTc (τ := Cert.KernelNormModIdeal.τ) (Cert.KernelNormModIdeal.main (F := Ideal))) ⟨m, fun _ => 0, g⟩ (fun r => (∀ c : Dev Cert.KernelNormModIdeal.nD,
      r.2.mem ((c.tc : Thread Cert.KernelNormModIdeal.nD Cert.KernelNormModIdeal.τ).loc Cert.KernelNormModIdeal.main_arg0) = m ((c.tc : Thread Cert.KernelNormModIdeal.nD Cert.KernelNormModIdeal.τ).loc Cert.KernelNormModIdeal.main_arg0)
      ∧ r.2.mem ((c.tc : Thread Cert.KernelNormModIdeal.nD Cert.KernelNormModIdeal.τ).loc Cert.KernelNormModIdeal.main_arg1) = m ((c.tc : Thread Cert.KernelNormModIdeal.nD Cert.KernelNormModIdeal.τ).loc Cert.KernelNormModIdeal.main_arg1)
      ∧ r.2.mem ((c.tc : Thread Cert.KernelNormModIdeal.nD Cert.KernelNormModIdeal.τ).loc Cert.KernelNormModIdeal.main_arg2) = m ((c.tc : Thread Cert.KernelNormModIdeal.nD Cert.KernelNormModIdeal.τ).loc Cert.KernelNormModIdeal.main_arg2))
      ∧ r.2.sem = fun _ => 0)

def quiescent_ReferenceNormModIdeal [hReferenceNormModIdeal : Cert.ReferenceNormModIdeal.Facts] : Prop :=
  ∀ (m : (ℓ : Loc Cert.ReferenceNormModIdeal.nD Cert.ReferenceNormModIdeal.τ Cert.ReferenceNormModIdeal.sig) → Buf (Elt Ideal) ℓ) (g : Dev Cert.ReferenceNormModIdeal.nD → PrngReg), Pre_ReferenceNormModIdeal m →
    θ_run (Cert.ReferenceNormModIdeal.defs (F := Ideal)) (onTc (τ := Cert.ReferenceNormModIdeal.τ) (Cert.ReferenceNormModIdeal.main (F := Ideal))) ⟨m, fun _ => 0, g⟩ (fun r => (∀ c : Dev Cert.ReferenceNormModIdeal.nD,
      r.2.mem ((c.tc : Thread Cert.ReferenceNormModIdeal.nD Cert.ReferenceNormModIdeal.τ).loc Cert.ReferenceNormModIdeal.main_arg0) = m ((c.tc : Thread Cert.ReferenceNormModIdeal.nD Cert.ReferenceNormModIdeal.τ).loc Cert.ReferenceNormModIdeal.main_arg0)
      ∧ r.2.mem ((c.tc : Thread Cert.ReferenceNormModIdeal.nD Cert.ReferenceNormModIdeal.τ).loc Cert.ReferenceNormModIdeal.main_arg1) = m ((c.tc : Thread Cert.ReferenceNormModIdeal.nD Cert.ReferenceNormModIdeal.τ).loc Cert.ReferenceNormModIdeal.main_arg1)
      ∧ r.2.mem ((c.tc : Thread Cert.ReferenceNormModIdeal.nD Cert.ReferenceNormModIdeal.τ).loc Cert.ReferenceNormModIdeal.main_arg2) = m ((c.tc : Thread Cert.ReferenceNormModIdeal.nD Cert.ReferenceNormModIdeal.τ).loc Cert.ReferenceNormModIdeal.main_arg2))
      ∧ r.2.sem = fun _ => 0)

def quiescent_KernelDwAda [hKernelDwAda : Cert.KernelDwAda.Facts] : Prop :=
  ∀ (m : (ℓ : Loc Cert.KernelDwAda.nD Cert.KernelDwAda.τ Cert.KernelDwAda.sig) → Buf (Elt Bits) ℓ) (g : Dev Cert.KernelDwAda.nD → PrngReg), Pre_KernelDwAda m →
    θ_run (Cert.KernelDwAda.defs (F := Bits)) (onTc (τ := Cert.KernelDwAda.τ) (Cert.KernelDwAda.main (F := Bits))) ⟨m, fun _ => 0, g⟩ (fun r => (∀ c : Dev Cert.KernelDwAda.nD,
      r.2.mem ((c.tc : Thread Cert.KernelDwAda.nD Cert.KernelDwAda.τ).loc Cert.KernelDwAda.main_arg0) = m ((c.tc : Thread Cert.KernelDwAda.nD Cert.KernelDwAda.τ).loc Cert.KernelDwAda.main_arg0)
      ∧ r.2.mem ((c.tc : Thread Cert.KernelDwAda.nD Cert.KernelDwAda.τ).loc Cert.KernelDwAda.main_arg1) = m ((c.tc : Thread Cert.KernelDwAda.nD Cert.KernelDwAda.τ).loc Cert.KernelDwAda.main_arg1))
      ∧ r.2.sem = fun _ => 0)

def quiescent_KernelDwAdaIdeal [hKernelDwAdaIdeal : Cert.KernelDwAdaIdeal.Facts] : Prop :=
  ∀ (m : (ℓ : Loc Cert.KernelDwAdaIdeal.nD Cert.KernelDwAdaIdeal.τ Cert.KernelDwAdaIdeal.sig) → Buf (Elt Ideal) ℓ) (g : Dev Cert.KernelDwAdaIdeal.nD → PrngReg), Pre_KernelDwAdaIdeal m →
    θ_run (Cert.KernelDwAdaIdeal.defs (F := Ideal)) (onTc (τ := Cert.KernelDwAdaIdeal.τ) (Cert.KernelDwAdaIdeal.main (F := Ideal))) ⟨m, fun _ => 0, g⟩ (fun r => (∀ c : Dev Cert.KernelDwAdaIdeal.nD,
      r.2.mem ((c.tc : Thread Cert.KernelDwAdaIdeal.nD Cert.KernelDwAdaIdeal.τ).loc Cert.KernelDwAdaIdeal.main_arg0) = m ((c.tc : Thread Cert.KernelDwAdaIdeal.nD Cert.KernelDwAdaIdeal.τ).loc Cert.KernelDwAdaIdeal.main_arg0)
      ∧ r.2.mem ((c.tc : Thread Cert.KernelDwAdaIdeal.nD Cert.KernelDwAdaIdeal.τ).loc Cert.KernelDwAdaIdeal.main_arg1) = m ((c.tc : Thread Cert.KernelDwAdaIdeal.nD Cert.KernelDwAdaIdeal.τ).loc Cert.KernelDwAdaIdeal.main_arg1))
      ∧ r.2.sem = fun _ => 0)

def quiescent_ReferenceDwAdaIdeal [hReferenceDwAdaIdeal : Cert.ReferenceDwAdaIdeal.Facts] : Prop :=
  ∀ (m : (ℓ : Loc Cert.ReferenceDwAdaIdeal.nD Cert.ReferenceDwAdaIdeal.τ Cert.ReferenceDwAdaIdeal.sig) → Buf (Elt Ideal) ℓ) (g : Dev Cert.ReferenceDwAdaIdeal.nD → PrngReg), Pre_ReferenceDwAdaIdeal m →
    θ_run (Cert.ReferenceDwAdaIdeal.defs (F := Ideal)) (onTc (τ := Cert.ReferenceDwAdaIdeal.τ) (Cert.ReferenceDwAdaIdeal.main (F := Ideal))) ⟨m, fun _ => 0, g⟩ (fun r => (∀ c : Dev Cert.ReferenceDwAdaIdeal.nD,
      r.2.mem ((c.tc : Thread Cert.ReferenceDwAdaIdeal.nD Cert.ReferenceDwAdaIdeal.τ).loc Cert.ReferenceDwAdaIdeal.main_arg0) = m ((c.tc : Thread Cert.ReferenceDwAdaIdeal.nD Cert.ReferenceDwAdaIdeal.τ).loc Cert.ReferenceDwAdaIdeal.main_arg0)
      ∧ r.2.mem ((c.tc : Thread Cert.ReferenceDwAdaIdeal.nD Cert.ReferenceDwAdaIdeal.τ).loc Cert.ReferenceDwAdaIdeal.main_arg1) = m ((c.tc : Thread Cert.ReferenceDwAdaIdeal.nD Cert.ReferenceDwAdaIdeal.τ).loc Cert.ReferenceDwAdaIdeal.main_arg1))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_KernelMod [hKernelMod : Cert.KernelMod.Facts] : Prop :=
  ∀ (m : (ℓ : Loc Cert.KernelMod.nD Cert.KernelMod.τ Cert.KernelMod.sig) → Buf (Elt Bits) ℓ) (g : Dev Cert.KernelMod.nD → PrngReg), Pre_KernelMod m →
    θ_run (Cert.KernelMod.defs (F := Bits)) (onTc (τ := Cert.KernelMod.τ) (Cert.KernelMod.main (F := Bits))) ⟨m, fun _ => 0, g⟩ (fun r => (∀ c : Dev Cert.KernelMod.nD,
      r.2.mem ((c.tc : Thread Cert.KernelMod.nD Cert.KernelMod.τ).loc Cert.KernelMod.main_arg0) = m ((c.tc : Thread Cert.KernelMod.nD Cert.KernelMod.τ).loc Cert.KernelMod.main_arg0)
      ∧ r.2.mem ((c.tc : Thread Cert.KernelMod.nD Cert.KernelMod.τ).loc Cert.KernelMod.main_arg1) = m ((c.tc : Thread Cert.KernelMod.nD Cert.KernelMod.τ).loc Cert.KernelMod.main_arg1)
      ∧ r.2.mem ((c.tc : Thread Cert.KernelMod.nD Cert.KernelMod.τ).loc Cert.KernelMod.main_arg2) = m ((c.tc : Thread Cert.KernelMod.nD Cert.KernelMod.τ).loc Cert.KernelMod.main_arg2))
      ∧ r.2.sem = fun _ => 0)

def quiescent_KernelModIdeal [hKernelModIdeal : Cert.KernelModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2))
      ∧ r.2.sem = fun _ => 0)

def quiescent_ReferenceModIdeal [hReferenceModIdeal : Cert.ReferenceModIdeal.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2))
      ∧ r.2.sem = fun _ => 0)

def quiescent_KernelCvecBwd [hKernelCvecBwd : Cert.KernelCvecBwd.Facts] : Prop :=
  ∀ (m : (ℓ : Loc Cert.KernelCvecBwd.nD Cert.KernelCvecBwd.τ Cert.KernelCvecBwd.sig) → Buf (Elt Bits) ℓ) (g : Dev Cert.KernelCvecBwd.nD → PrngReg), Pre_KernelCvecBwd m →
    θ_run (Cert.KernelCvecBwd.defs (F := Bits)) (onTc (τ := Cert.KernelCvecBwd.τ) (Cert.KernelCvecBwd.main (F := Bits))) ⟨m, fun _ => 0, g⟩ (fun r => (∀ c : Dev Cert.KernelCvecBwd.nD,
      r.2.mem ((c.tc : Thread Cert.KernelCvecBwd.nD Cert.KernelCvecBwd.τ).loc Cert.KernelCvecBwd.main_arg0) = m ((c.tc : Thread Cert.KernelCvecBwd.nD Cert.KernelCvecBwd.τ).loc Cert.KernelCvecBwd.main_arg0)
      ∧ r.2.mem ((c.tc : Thread Cert.KernelCvecBwd.nD Cert.KernelCvecBwd.τ).loc Cert.KernelCvecBwd.main_arg1) = m ((c.tc : Thread Cert.KernelCvecBwd.nD Cert.KernelCvecBwd.τ).loc Cert.KernelCvecBwd.main_arg1)
      ∧ r.2.mem ((c.tc : Thread Cert.KernelCvecBwd.nD Cert.KernelCvecBwd.τ).loc Cert.KernelCvecBwd.main_arg2) = m ((c.tc : Thread Cert.KernelCvecBwd.nD Cert.KernelCvecBwd.τ).loc Cert.KernelCvecBwd.main_arg2))
      ∧ r.2.sem = fun _ => 0)

def quiescent_KernelCvecBwdIdeal [hKernelCvecBwdIdeal : Cert.KernelCvecBwdIdeal.Facts] : Prop :=
  ∀ (m : (ℓ : Loc Cert.KernelCvecBwdIdeal.nD Cert.KernelCvecBwdIdeal.τ Cert.KernelCvecBwdIdeal.sig) → Buf (Elt Ideal) ℓ) (g : Dev Cert.KernelCvecBwdIdeal.nD → PrngReg), Pre_KernelCvecBwdIdeal m →
    θ_run (Cert.KernelCvecBwdIdeal.defs (F := Ideal)) (onTc (τ := Cert.KernelCvecBwdIdeal.τ) (Cert.KernelCvecBwdIdeal.main (F := Ideal))) ⟨m, fun _ => 0, g⟩ (fun r => (∀ c : Dev Cert.KernelCvecBwdIdeal.nD,
      r.2.mem ((c.tc : Thread Cert.KernelCvecBwdIdeal.nD Cert.KernelCvecBwdIdeal.τ).loc Cert.KernelCvecBwdIdeal.main_arg0) = m ((c.tc : Thread Cert.KernelCvecBwdIdeal.nD Cert.KernelCvecBwdIdeal.τ).loc Cert.KernelCvecBwdIdeal.main_arg0)
      ∧ r.2.mem ((c.tc : Thread Cert.KernelCvecBwdIdeal.nD Cert.KernelCvecBwdIdeal.τ).loc Cert.KernelCvecBwdIdeal.main_arg1) = m ((c.tc : Thread Cert.KernelCvecBwdIdeal.nD Cert.KernelCvecBwdIdeal.τ).loc Cert.KernelCvecBwdIdeal.main_arg1)
      ∧ r.2.mem ((c.tc : Thread Cert.KernelCvecBwdIdeal.nD Cert.KernelCvecBwdIdeal.τ).loc Cert.KernelCvecBwdIdeal.main_arg2) = m ((c.tc : Thread Cert.KernelCvecBwdIdeal.nD Cert.KernelCvecBwdIdeal.τ).loc Cert.KernelCvecBwdIdeal.main_arg2))
      ∧ r.2.sem = fun _ => 0)

def quiescent_KernelCvecBwdIdeal_pre_finite_cvec [hKernelCvecBwdIdeal : Cert.KernelCvecBwdIdeal.Facts] [hPre_finite_cvec : Cert.Pre_finite_cvec.Facts] : Prop :=
  ∀ (m : (ℓ : Loc Cert.KernelCvecBwdIdeal.nD Cert.KernelCvecBwdIdeal.τ Cert.KernelCvecBwdIdeal.sig) → Buf (Elt Ideal) ℓ) (g : Dev Cert.KernelCvecBwdIdeal.nD → PrngReg), Pre_KernelCvecBwdIdeal_finite_cvec m →
    θ_run (Cert.KernelCvecBwdIdeal.defs (F := Ideal)) (onTc (τ := Cert.KernelCvecBwdIdeal.τ) (Cert.KernelCvecBwdIdeal.main (F := Ideal))) ⟨m, fun _ => 0, g⟩ (fun r => (∀ c : Dev Cert.KernelCvecBwdIdeal.nD,
      r.2.mem ((c.tc : Thread Cert.KernelCvecBwdIdeal.nD Cert.KernelCvecBwdIdeal.τ).loc Cert.KernelCvecBwdIdeal.main_arg0) = m ((c.tc : Thread Cert.KernelCvecBwdIdeal.nD Cert.KernelCvecBwdIdeal.τ).loc Cert.KernelCvecBwdIdeal.main_arg0)
      ∧ r.2.mem ((c.tc : Thread Cert.KernelCvecBwdIdeal.nD Cert.KernelCvecBwdIdeal.τ).loc Cert.KernelCvecBwdIdeal.main_arg1) = m ((c.tc : Thread Cert.KernelCvecBwdIdeal.nD Cert.KernelCvecBwdIdeal.τ).loc Cert.KernelCvecBwdIdeal.main_arg1)
      ∧ r.2.mem ((c.tc : Thread Cert.KernelCvecBwdIdeal.nD Cert.KernelCvecBwdIdeal.τ).loc Cert.KernelCvecBwdIdeal.main_arg2) = m ((c.tc : Thread Cert.KernelCvecBwdIdeal.nD Cert.KernelCvecBwdIdeal.τ).loc Cert.KernelCvecBwdIdeal.main_arg2))
      ∧ r.2.sem = fun _ => 0)

def quiescent_ReferenceCvecBwdIdeal [hReferenceCvecBwdIdeal : Cert.ReferenceCvecBwdIdeal.Facts] : Prop :=
  ∀ (m : (ℓ : Loc Cert.ReferenceCvecBwdIdeal.nD Cert.ReferenceCvecBwdIdeal.τ Cert.ReferenceCvecBwdIdeal.sig) → Buf (Elt Ideal) ℓ) (g : Dev Cert.ReferenceCvecBwdIdeal.nD → PrngReg), Pre_ReferenceCvecBwdIdeal m →
    θ_run (Cert.ReferenceCvecBwdIdeal.defs (F := Ideal)) (onTc (τ := Cert.ReferenceCvecBwdIdeal.τ) (Cert.ReferenceCvecBwdIdeal.main (F := Ideal))) ⟨m, fun _ => 0, g⟩ (fun r => (∀ c : Dev Cert.ReferenceCvecBwdIdeal.nD,
      r.2.mem ((c.tc : Thread Cert.ReferenceCvecBwdIdeal.nD Cert.ReferenceCvecBwdIdeal.τ).loc Cert.ReferenceCvecBwdIdeal.main_arg0) = m ((c.tc : Thread Cert.ReferenceCvecBwdIdeal.nD Cert.ReferenceCvecBwdIdeal.τ).loc Cert.ReferenceCvecBwdIdeal.main_arg0)
      ∧ r.2.mem ((c.tc : Thread Cert.ReferenceCvecBwdIdeal.nD Cert.ReferenceCvecBwdIdeal.τ).loc Cert.ReferenceCvecBwdIdeal.main_arg1) = m ((c.tc : Thread Cert.ReferenceCvecBwdIdeal.nD Cert.ReferenceCvecBwdIdeal.τ).loc Cert.ReferenceCvecBwdIdeal.main_arg1)
      ∧ r.2.mem ((c.tc : Thread Cert.ReferenceCvecBwdIdeal.nD Cert.ReferenceCvecBwdIdeal.τ).loc Cert.ReferenceCvecBwdIdeal.main_arg2) = m ((c.tc : Thread Cert.ReferenceCvecBwdIdeal.nD Cert.ReferenceCvecBwdIdeal.τ).loc Cert.ReferenceCvecBwdIdeal.main_arg2))
      ∧ r.2.sem = fun _ => 0)

def quiescent_ReferenceCvecBwdIdeal_pre_finite_cvec [hReferenceCvecBwdIdeal : Cert.ReferenceCvecBwdIdeal.Facts] [hPre_finite_cvec : Cert.Pre_finite_cvec.Facts] : Prop :=
  ∀ (m : (ℓ : Loc Cert.ReferenceCvecBwdIdeal.nD Cert.ReferenceCvecBwdIdeal.τ Cert.ReferenceCvecBwdIdeal.sig) → Buf (Elt Ideal) ℓ) (g : Dev Cert.ReferenceCvecBwdIdeal.nD → PrngReg), Pre_ReferenceCvecBwdIdeal_finite_cvec m →
    θ_run (Cert.ReferenceCvecBwdIdeal.defs (F := Ideal)) (onTc (τ := Cert.ReferenceCvecBwdIdeal.τ) (Cert.ReferenceCvecBwdIdeal.main (F := Ideal))) ⟨m, fun _ => 0, g⟩ (fun r => (∀ c : Dev Cert.ReferenceCvecBwdIdeal.nD,
      r.2.mem ((c.tc : Thread Cert.ReferenceCvecBwdIdeal.nD Cert.ReferenceCvecBwdIdeal.τ).loc Cert.ReferenceCvecBwdIdeal.main_arg0) = m ((c.tc : Thread Cert.ReferenceCvecBwdIdeal.nD Cert.ReferenceCvecBwdIdeal.τ).loc Cert.ReferenceCvecBwdIdeal.main_arg0)
      ∧ r.2.mem ((c.tc : Thread Cert.ReferenceCvecBwdIdeal.nD Cert.ReferenceCvecBwdIdeal.τ).loc Cert.ReferenceCvecBwdIdeal.main_arg1) = m ((c.tc : Thread Cert.ReferenceCvecBwdIdeal.nD Cert.ReferenceCvecBwdIdeal.τ).loc Cert.ReferenceCvecBwdIdeal.main_arg1)
      ∧ r.2.mem ((c.tc : Thread Cert.ReferenceCvecBwdIdeal.nD Cert.ReferenceCvecBwdIdeal.τ).loc Cert.ReferenceCvecBwdIdeal.main_arg2) = m ((c.tc : Thread Cert.ReferenceCvecBwdIdeal.nD Cert.ReferenceCvecBwdIdeal.τ).loc Cert.ReferenceCvecBwdIdeal.main_arg2))
      ∧ r.2.sem = fun _ => 0)

def quiescent_KernelNormBwd [hKernelNormBwd : Cert.KernelNormBwd.Facts] : Prop :=
  ∀ (m : (ℓ : Loc Cert.KernelNormBwd.nD Cert.KernelNormBwd.τ Cert.KernelNormBwd.sig) → Buf (Elt Bits) ℓ) (g : Dev Cert.KernelNormBwd.nD → PrngReg), Pre_KernelNormBwd m →
    θ_run (Cert.KernelNormBwd.defs (F := Bits)) (onTc (τ := Cert.KernelNormBwd.τ) (Cert.KernelNormBwd.main (F := Bits))) ⟨m, fun _ => 0, g⟩ (fun r => (∀ c : Dev Cert.KernelNormBwd.nD,
      r.2.mem ((c.tc : Thread Cert.KernelNormBwd.nD Cert.KernelNormBwd.τ).loc Cert.KernelNormBwd.main_arg0) = m ((c.tc : Thread Cert.KernelNormBwd.nD Cert.KernelNormBwd.τ).loc Cert.KernelNormBwd.main_arg0)
      ∧ r.2.mem ((c.tc : Thread Cert.KernelNormBwd.nD Cert.KernelNormBwd.τ).loc Cert.KernelNormBwd.main_arg1) = m ((c.tc : Thread Cert.KernelNormBwd.nD Cert.KernelNormBwd.τ).loc Cert.KernelNormBwd.main_arg1)
      ∧ r.2.mem ((c.tc : Thread Cert.KernelNormBwd.nD Cert.KernelNormBwd.τ).loc Cert.KernelNormBwd.main_arg2) = m ((c.tc : Thread Cert.KernelNormBwd.nD Cert.KernelNormBwd.τ).loc Cert.KernelNormBwd.main_arg2)
      ∧ r.2.mem ((c.tc : Thread Cert.KernelNormBwd.nD Cert.KernelNormBwd.τ).loc Cert.KernelNormBwd.main_arg3) = m ((c.tc : Thread Cert.KernelNormBwd.nD Cert.KernelNormBwd.τ).loc Cert.KernelNormBwd.main_arg3)
      ∧ r.2.mem ((c.tc : Thread Cert.KernelNormBwd.nD Cert.KernelNormBwd.τ).loc Cert.KernelNormBwd.main_arg4) = m ((c.tc : Thread Cert.KernelNormBwd.nD Cert.KernelNormBwd.τ).loc Cert.KernelNormBwd.main_arg4))
      ∧ r.2.sem = fun _ => 0)

def quiescent_KernelNormBwdIdeal [hKernelNormBwdIdeal : Cert.KernelNormBwdIdeal.Facts] : Prop :=
  ∀ (m : (ℓ : Loc Cert.KernelNormBwdIdeal.nD Cert.KernelNormBwdIdeal.τ Cert.KernelNormBwdIdeal.sig) → Buf (Elt Ideal) ℓ) (g : Dev Cert.KernelNormBwdIdeal.nD → PrngReg), Pre_KernelNormBwdIdeal m →
    θ_run (Cert.KernelNormBwdIdeal.defs (F := Ideal)) (onTc (τ := Cert.KernelNormBwdIdeal.τ) (Cert.KernelNormBwdIdeal.main (F := Ideal))) ⟨m, fun _ => 0, g⟩ (fun r => (∀ c : Dev Cert.KernelNormBwdIdeal.nD,
      r.2.mem ((c.tc : Thread Cert.KernelNormBwdIdeal.nD Cert.KernelNormBwdIdeal.τ).loc Cert.KernelNormBwdIdeal.main_arg0) = m ((c.tc : Thread Cert.KernelNormBwdIdeal.nD Cert.KernelNormBwdIdeal.τ).loc Cert.KernelNormBwdIdeal.main_arg0)
      ∧ r.2.mem ((c.tc : Thread Cert.KernelNormBwdIdeal.nD Cert.KernelNormBwdIdeal.τ).loc Cert.KernelNormBwdIdeal.main_arg1) = m ((c.tc : Thread Cert.KernelNormBwdIdeal.nD Cert.KernelNormBwdIdeal.τ).loc Cert.KernelNormBwdIdeal.main_arg1)
      ∧ r.2.mem ((c.tc : Thread Cert.KernelNormBwdIdeal.nD Cert.KernelNormBwdIdeal.τ).loc Cert.KernelNormBwdIdeal.main_arg2) = m ((c.tc : Thread Cert.KernelNormBwdIdeal.nD Cert.KernelNormBwdIdeal.τ).loc Cert.KernelNormBwdIdeal.main_arg2)
      ∧ r.2.mem ((c.tc : Thread Cert.KernelNormBwdIdeal.nD Cert.KernelNormBwdIdeal.τ).loc Cert.KernelNormBwdIdeal.main_arg3) = m ((c.tc : Thread Cert.KernelNormBwdIdeal.nD Cert.KernelNormBwdIdeal.τ).loc Cert.KernelNormBwdIdeal.main_arg3)
      ∧ r.2.mem ((c.tc : Thread Cert.KernelNormBwdIdeal.nD Cert.KernelNormBwdIdeal.τ).loc Cert.KernelNormBwdIdeal.main_arg4) = m ((c.tc : Thread Cert.KernelNormBwdIdeal.nD Cert.KernelNormBwdIdeal.τ).loc Cert.KernelNormBwdIdeal.main_arg4))
      ∧ r.2.sem = fun _ => 0)

def quiescent_ReferenceNormBwdIdeal [hReferenceNormBwdIdeal : Cert.ReferenceNormBwdIdeal.Facts] : Prop :=
  ∀ (m : (ℓ : Loc Cert.ReferenceNormBwdIdeal.nD Cert.ReferenceNormBwdIdeal.τ Cert.ReferenceNormBwdIdeal.sig) → Buf (Elt Ideal) ℓ) (g : Dev Cert.ReferenceNormBwdIdeal.nD → PrngReg), Pre_ReferenceNormBwdIdeal m →
    θ_run (Cert.ReferenceNormBwdIdeal.defs (F := Ideal)) (onTc (τ := Cert.ReferenceNormBwdIdeal.τ) (Cert.ReferenceNormBwdIdeal.main (F := Ideal))) ⟨m, fun _ => 0, g⟩ (fun r => (∀ c : Dev Cert.ReferenceNormBwdIdeal.nD,
      r.2.mem ((c.tc : Thread Cert.ReferenceNormBwdIdeal.nD Cert.ReferenceNormBwdIdeal.τ).loc Cert.ReferenceNormBwdIdeal.main_arg0) = m ((c.tc : Thread Cert.ReferenceNormBwdIdeal.nD Cert.ReferenceNormBwdIdeal.τ).loc Cert.ReferenceNormBwdIdeal.main_arg0)
      ∧ r.2.mem ((c.tc : Thread Cert.ReferenceNormBwdIdeal.nD Cert.ReferenceNormBwdIdeal.τ).loc Cert.ReferenceNormBwdIdeal.main_arg1) = m ((c.tc : Thread Cert.ReferenceNormBwdIdeal.nD Cert.ReferenceNormBwdIdeal.τ).loc Cert.ReferenceNormBwdIdeal.main_arg1)
      ∧ r.2.mem ((c.tc : Thread Cert.ReferenceNormBwdIdeal.nD Cert.ReferenceNormBwdIdeal.τ).loc Cert.ReferenceNormBwdIdeal.main_arg2) = m ((c.tc : Thread Cert.ReferenceNormBwdIdeal.nD Cert.ReferenceNormBwdIdeal.τ).loc Cert.ReferenceNormBwdIdeal.main_arg2)
      ∧ r.2.mem ((c.tc : Thread Cert.ReferenceNormBwdIdeal.nD Cert.ReferenceNormBwdIdeal.τ).loc Cert.ReferenceNormBwdIdeal.main_arg3) = m ((c.tc : Thread Cert.ReferenceNormBwdIdeal.nD Cert.ReferenceNormBwdIdeal.τ).loc Cert.ReferenceNormBwdIdeal.main_arg3)
      ∧ r.2.mem ((c.tc : Thread Cert.ReferenceNormBwdIdeal.nD Cert.ReferenceNormBwdIdeal.τ).loc Cert.ReferenceNormBwdIdeal.main_arg4) = m ((c.tc : Thread Cert.ReferenceNormBwdIdeal.nD Cert.ReferenceNormBwdIdeal.τ).loc Cert.ReferenceNormBwdIdeal.main_arg4))
      ∧ r.2.sem = fun _ => 0)

def preserves_Kernel_KernelIdeal : Prop :=
  IdealRules.named_const.Statement Cert.KernelIdeal.κ "gelu_3ca" .f32 0x3DDB33B6#32 ((241015141496493 / 2251799813685248 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v166) = v2 c
          ∧ r.2.mem ((c.tc : Thread Cert.ReferenceIdeal.nD Cert.ReferenceIdeal.τ).loc Cert.ReferenceIdeal.main_v167) = v3 c
          ∧ r.2.mem ((c.tc : Thread Cert.ReferenceIdeal.nD Cert.ReferenceIdeal.τ).loc Cert.ReferenceIdeal.main_v168) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KernelDwIn_KernelDwInIdeal : Prop :=
  True

def algebraic_KernelDwInIdeal_ReferenceDwInIdeal [hKernelDwInIdeal : Cert.KernelDwInIdeal.Facts] [hReferenceDwInIdeal : Cert.ReferenceDwInIdeal.Facts] : Prop :=
  ∀ (m : (ℓ : Loc Cert.KernelDwInIdeal.nD Cert.KernelDwInIdeal.τ Cert.KernelDwInIdeal.sig) → Buf (Elt Ideal) ℓ) (g : Dev Cert.KernelDwInIdeal.nD → PrngReg)
    (m' : (ℓ : Loc Cert.ReferenceDwInIdeal.nD Cert.ReferenceDwInIdeal.τ Cert.ReferenceDwInIdeal.sig) → Buf (Elt Ideal) ℓ) (g' : Dev Cert.ReferenceDwInIdeal.nD → PrngReg), Pre_KernelDwInIdeal m →
    (∀ c : Dev Cert.KernelDwInIdeal.nD,
      m' ((c.tc : Thread Cert.ReferenceDwInIdeal.nD Cert.ReferenceDwInIdeal.τ).loc Cert.ReferenceDwInIdeal.main_arg0) = m ((c.tc : Thread Cert.KernelDwInIdeal.nD Cert.KernelDwInIdeal.τ).loc Cert.KernelDwInIdeal.main_arg0)
      ∧ m' ((c.tc : Thread Cert.ReferenceDwInIdeal.nD Cert.ReferenceDwInIdeal.τ).loc Cert.ReferenceDwInIdeal.main_arg1) = m ((c.tc : Thread Cert.KernelDwInIdeal.nD Cert.KernelDwInIdeal.τ).loc Cert.KernelDwInIdeal.main_arg1)) →
    ∃ (v0 : (c : Dev Cert.KernelDwInIdeal.nD) → Buf (Elt Ideal) ((c.tc : Thread Cert.KernelDwInIdeal.nD Cert.KernelDwInIdeal.τ).loc Cert.KernelDwInIdeal.main_v0)),
      θ_run (Cert.KernelDwInIdeal.defs (F := Ideal)) (onTc (τ := Cert.KernelDwInIdeal.τ) (Cert.KernelDwInIdeal.main (F := Ideal))) ⟨m, fun _ => 0, g⟩ (fun r => ∀ c : Dev Cert.KernelDwInIdeal.nD,
          r.2.mem ((c.tc : Thread Cert.KernelDwInIdeal.nD Cert.KernelDwInIdeal.τ).loc Cert.KernelDwInIdeal.main_v0) = v0 c
          ∧ r.2.mem ((c.tc : Thread Cert.KernelDwInIdeal.nD Cert.KernelDwInIdeal.τ).loc Cert.KernelDwInIdeal.main_arg0) = m ((c.tc : Thread Cert.KernelDwInIdeal.nD Cert.KernelDwInIdeal.τ).loc Cert.KernelDwInIdeal.main_arg0)
          ∧ r.2.mem ((c.tc : Thread Cert.KernelDwInIdeal.nD Cert.KernelDwInIdeal.τ).loc Cert.KernelDwInIdeal.main_arg1) = m ((c.tc : Thread Cert.KernelDwInIdeal.nD Cert.KernelDwInIdeal.τ).loc Cert.KernelDwInIdeal.main_arg1))
      ∧ θ_run (Cert.ReferenceDwInIdeal.defs (F := Ideal)) (onTc (τ := Cert.ReferenceDwInIdeal.τ) (Cert.ReferenceDwInIdeal.main (F := Ideal))) ⟨m', fun _ => 0, g'⟩ (fun r => ∀ c : Dev Cert.ReferenceDwInIdeal.nD,
          r.2.mem ((c.tc : Thread Cert.ReferenceDwInIdeal.nD Cert.ReferenceDwInIdeal.τ).loc Cert.ReferenceDwInIdeal.main_v7) = v0 c
          ∧ r.2.mem ((c.tc : Thread Cert.ReferenceDwInIdeal.nD Cert.ReferenceDwInIdeal.τ).loc Cert.ReferenceDwInIdeal.main_arg0) = m' ((c.tc : Thread Cert.ReferenceDwInIdeal.nD Cert.ReferenceDwInIdeal.τ).loc Cert.ReferenceDwInIdeal.main_arg0)
          ∧ r.2.mem ((c.tc : Thread Cert.ReferenceDwInIdeal.nD Cert.ReferenceDwInIdeal.τ).loc Cert.ReferenceDwInIdeal.main_arg1) = m' ((c.tc : Thread Cert.ReferenceDwInIdeal.nD Cert.ReferenceDwInIdeal.τ).loc Cert.ReferenceDwInIdeal.main_arg1))

def preserves_KernelDhIn_KernelDhInIdeal : Prop :=
  True

def algebraic_KernelDhInIdeal_ReferenceDhInIdeal [hKernelDhInIdeal : Cert.KernelDhInIdeal.Facts] [hReferenceDhInIdeal : Cert.ReferenceDhInIdeal.Facts] : Prop :=
  ∀ (m : (ℓ : Loc Cert.KernelDhInIdeal.nD Cert.KernelDhInIdeal.τ Cert.KernelDhInIdeal.sig) → Buf (Elt Ideal) ℓ) (g : Dev Cert.KernelDhInIdeal.nD → PrngReg)
    (m' : (ℓ : Loc Cert.ReferenceDhInIdeal.nD Cert.ReferenceDhInIdeal.τ Cert.ReferenceDhInIdeal.sig) → Buf (Elt Ideal) ℓ) (g' : Dev Cert.ReferenceDhInIdeal.nD → PrngReg), Pre_KernelDhInIdeal m →
    (∀ c : Dev Cert.KernelDhInIdeal.nD,
      m' ((c.tc : Thread Cert.ReferenceDhInIdeal.nD Cert.ReferenceDhInIdeal.τ).loc Cert.ReferenceDhInIdeal.main_arg0) = m ((c.tc : Thread Cert.KernelDhInIdeal.nD Cert.KernelDhInIdeal.τ).loc Cert.KernelDhInIdeal.main_arg0)
      ∧ m' ((c.tc : Thread Cert.ReferenceDhInIdeal.nD Cert.ReferenceDhInIdeal.τ).loc Cert.ReferenceDhInIdeal.main_arg1) = m ((c.tc : Thread Cert.KernelDhInIdeal.nD Cert.KernelDhInIdeal.τ).loc Cert.KernelDhInIdeal.main_arg1)) →
    ∃ (v0 : (c : Dev Cert.KernelDhInIdeal.nD) → Buf (Elt Ideal) ((c.tc : Thread Cert.KernelDhInIdeal.nD Cert.KernelDhInIdeal.τ).loc Cert.KernelDhInIdeal.main_v3)),
      θ_run (Cert.KernelDhInIdeal.defs (F := Ideal)) (onTc (τ := Cert.KernelDhInIdeal.τ) (Cert.KernelDhInIdeal.main (F := Ideal))) ⟨m, fun _ => 0, g⟩ (fun r => ∀ c : Dev Cert.KernelDhInIdeal.nD,
          r.2.mem ((c.tc : Thread Cert.KernelDhInIdeal.nD Cert.KernelDhInIdeal.τ).loc Cert.KernelDhInIdeal.main_v3) = v0 c
          ∧ r.2.mem ((c.tc : Thread Cert.KernelDhInIdeal.nD Cert.KernelDhInIdeal.τ).loc Cert.KernelDhInIdeal.main_arg0) = m ((c.tc : Thread Cert.KernelDhInIdeal.nD Cert.KernelDhInIdeal.τ).loc Cert.KernelDhInIdeal.main_arg0)
          ∧ r.2.mem ((c.tc : Thread Cert.KernelDhInIdeal.nD Cert.KernelDhInIdeal.τ).loc Cert.KernelDhInIdeal.main_arg1) = m ((c.tc : Thread Cert.KernelDhInIdeal.nD Cert.KernelDhInIdeal.τ).loc Cert.KernelDhInIdeal.main_arg1))
      ∧ θ_run (Cert.ReferenceDhInIdeal.defs (F := Ideal)) (onTc (τ := Cert.ReferenceDhInIdeal.τ) (Cert.ReferenceDhInIdeal.main (F := Ideal))) ⟨m', fun _ => 0, g'⟩ (fun r => ∀ c : Dev Cert.ReferenceDhInIdeal.nD,
          r.2.mem ((c.tc : Thread Cert.ReferenceDhInIdeal.nD Cert.ReferenceDhInIdeal.τ).loc Cert.ReferenceDhInIdeal.main_v3) = v0 c
          ∧ r.2.mem ((c.tc : Thread Cert.ReferenceDhInIdeal.nD Cert.ReferenceDhInIdeal.τ).loc Cert.ReferenceDhInIdeal.main_arg0) = m' ((c.tc : Thread Cert.ReferenceDhInIdeal.nD Cert.ReferenceDhInIdeal.τ).loc Cert.ReferenceDhInIdeal.main_arg0)
          ∧ r.2.mem ((c.tc : Thread Cert.ReferenceDhInIdeal.nD Cert.ReferenceDhInIdeal.τ).loc Cert.ReferenceDhInIdeal.main_arg1) = m' ((c.tc : Thread Cert.ReferenceDhInIdeal.nD Cert.ReferenceDhInIdeal.τ).loc Cert.ReferenceDhInIdeal.main_arg1))

def preserves_KernelDwSquare_KernelDwSquareIdeal : Prop :=
  True

def algebraic_KernelDwSquareIdeal_ReferenceDwSquareIdeal [hKernelDwSquareIdeal : Cert.KernelDwSquareIdeal.Facts] [hReferenceDwSquareIdeal : Cert.ReferenceDwSquareIdeal.Facts] : Prop :=
  ∀ (m : (ℓ : Loc Cert.KernelDwSquareIdeal.nD Cert.KernelDwSquareIdeal.τ Cert.KernelDwSquareIdeal.sig) → Buf (Elt Ideal) ℓ) (g : Dev Cert.KernelDwSquareIdeal.nD → PrngReg)
    (m' : (ℓ : Loc Cert.ReferenceDwSquareIdeal.nD Cert.ReferenceDwSquareIdeal.τ Cert.ReferenceDwSquareIdeal.sig) → Buf (Elt Ideal) ℓ) (g' : Dev Cert.ReferenceDwSquareIdeal.nD → PrngReg), Pre_KernelDwSquareIdeal m →
    (∀ c : Dev Cert.KernelDwSquareIdeal.nD,
      m' ((c.tc : Thread Cert.ReferenceDwSquareIdeal.nD Cert.ReferenceDwSquareIdeal.τ).loc Cert.ReferenceDwSquareIdeal.main_arg0) = m ((c.tc : Thread Cert.KernelDwSquareIdeal.nD Cert.KernelDwSquareIdeal.τ).loc Cert.KernelDwSquareIdeal.main_arg0)
      ∧ m' ((c.tc : Thread Cert.ReferenceDwSquareIdeal.nD Cert.ReferenceDwSquareIdeal.τ).loc Cert.ReferenceDwSquareIdeal.main_arg1) = m ((c.tc : Thread Cert.KernelDwSquareIdeal.nD Cert.KernelDwSquareIdeal.τ).loc Cert.KernelDwSquareIdeal.main_arg1)) →
    ∃ (v0 : (c : Dev Cert.KernelDwSquareIdeal.nD) → Buf (Elt Ideal) ((c.tc : Thread Cert.KernelDwSquareIdeal.nD Cert.KernelDwSquareIdeal.τ).loc Cert.KernelDwSquareIdeal.main_v0)),
      θ_run (Cert.KernelDwSquareIdeal.defs (F := Ideal)) (onTc (τ := Cert.KernelDwSquareIdeal.τ) (Cert.KernelDwSquareIdeal.main (F := Ideal))) ⟨m, fun _ => 0, g⟩ (fun r => ∀ c : Dev Cert.KernelDwSquareIdeal.nD,
          r.2.mem ((c.tc : Thread Cert.KernelDwSquareIdeal.nD Cert.KernelDwSquareIdeal.τ).loc Cert.KernelDwSquareIdeal.main_v0) = v0 c
          ∧ r.2.mem ((c.tc : Thread Cert.KernelDwSquareIdeal.nD Cert.KernelDwSquareIdeal.τ).loc Cert.KernelDwSquareIdeal.main_arg0) = m ((c.tc : Thread Cert.KernelDwSquareIdeal.nD Cert.KernelDwSquareIdeal.τ).loc Cert.KernelDwSquareIdeal.main_arg0)
          ∧ r.2.mem ((c.tc : Thread Cert.KernelDwSquareIdeal.nD Cert.KernelDwSquareIdeal.τ).loc Cert.KernelDwSquareIdeal.main_arg1) = m ((c.tc : Thread Cert.KernelDwSquareIdeal.nD Cert.KernelDwSquareIdeal.τ).loc Cert.KernelDwSquareIdeal.main_arg1))
      ∧ θ_run (Cert.ReferenceDwSquareIdeal.defs (F := Ideal)) (onTc (τ := Cert.ReferenceDwSquareIdeal.τ) (Cert.ReferenceDwSquareIdeal.main (F := Ideal))) ⟨m', fun _ => 0, g'⟩ (fun r => ∀ c : Dev Cert.ReferenceDwSquareIdeal.nD,
          r.2.mem ((c.tc : Thread Cert.ReferenceDwSquareIdeal.nD Cert.ReferenceDwSquareIdeal.τ).loc Cert.ReferenceDwSquareIdeal.main_v5) = v0 c
          ∧ r.2.mem ((c.tc : Thread Cert.ReferenceDwSquareIdeal.nD Cert.ReferenceDwSquareIdeal.τ).loc Cert.ReferenceDwSquareIdeal.main_arg0) = m' ((c.tc : Thread Cert.ReferenceDwSquareIdeal.nD Cert.ReferenceDwSquareIdeal.τ).loc Cert.ReferenceDwSquareIdeal.main_arg0)
          ∧ r.2.mem ((c.tc : Thread Cert.ReferenceDwSquareIdeal.nD Cert.ReferenceDwSquareIdeal.τ).loc Cert.ReferenceDwSquareIdeal.main_arg1) = m' ((c.tc : Thread Cert.ReferenceDwSquareIdeal.nD Cert.ReferenceDwSquareIdeal.τ).loc Cert.ReferenceDwSquareIdeal.main_arg1))

def preserves_KernelDwUp_KernelDwUpIdeal : Prop :=
  True

def algebraic_KernelDwUpIdeal_ReferenceDwUpIdeal [hKernelDwUpIdeal : Cert.KernelDwUpIdeal.Facts] [hReferenceDwUpIdeal : Cert.ReferenceDwUpIdeal.Facts] : Prop :=
  ∀ (m : (ℓ : Loc Cert.KernelDwUpIdeal.nD Cert.KernelDwUpIdeal.τ Cert.KernelDwUpIdeal.sig) → Buf (Elt Ideal) ℓ) (g : Dev Cert.KernelDwUpIdeal.nD → PrngReg)
    (m' : (ℓ : Loc Cert.ReferenceDwUpIdeal.nD Cert.ReferenceDwUpIdeal.τ Cert.ReferenceDwUpIdeal.sig) → Buf (Elt Ideal) ℓ) (g' : Dev Cert.ReferenceDwUpIdeal.nD → PrngReg), Pre_KernelDwUpIdeal m →
    (∀ c : Dev Cert.KernelDwUpIdeal.nD,
      m' ((c.tc : Thread Cert.ReferenceDwUpIdeal.nD Cert.ReferenceDwUpIdeal.τ).loc Cert.ReferenceDwUpIdeal.main_arg0) = m ((c.tc : Thread Cert.KernelDwUpIdeal.nD Cert.KernelDwUpIdeal.τ).loc Cert.KernelDwUpIdeal.main_arg0)
      ∧ m' ((c.tc : Thread Cert.ReferenceDwUpIdeal.nD Cert.ReferenceDwUpIdeal.τ).loc Cert.ReferenceDwUpIdeal.main_arg1) = m ((c.tc : Thread Cert.KernelDwUpIdeal.nD Cert.KernelDwUpIdeal.τ).loc Cert.KernelDwUpIdeal.main_arg1)
      ∧ m' ((c.tc : Thread Cert.ReferenceDwUpIdeal.nD Cert.ReferenceDwUpIdeal.τ).loc Cert.ReferenceDwUpIdeal.main_arg2) = m ((c.tc : Thread Cert.KernelDwUpIdeal.nD Cert.KernelDwUpIdeal.τ).loc Cert.KernelDwUpIdeal.main_arg2)) →
    ∃ (v0 : (c : Dev Cert.KernelDwUpIdeal.nD) → Buf (Elt Ideal) ((c.tc : Thread Cert.KernelDwUpIdeal.nD Cert.KernelDwUpIdeal.τ).loc Cert.KernelDwUpIdeal.main_v0)),
      θ_run (Cert.KernelDwUpIdeal.defs (F := Ideal)) (onTc (τ := Cert.KernelDwUpIdeal.τ) (Cert.KernelDwUpIdeal.main (F := Ideal))) ⟨m, fun _ => 0, g⟩ (fun r => ∀ c : Dev Cert.KernelDwUpIdeal.nD,
          r.2.mem ((c.tc : Thread Cert.KernelDwUpIdeal.nD Cert.KernelDwUpIdeal.τ).loc Cert.KernelDwUpIdeal.main_v0) = v0 c
          ∧ r.2.mem ((c.tc : Thread Cert.KernelDwUpIdeal.nD Cert.KernelDwUpIdeal.τ).loc Cert.KernelDwUpIdeal.main_arg0) = m ((c.tc : Thread Cert.KernelDwUpIdeal.nD Cert.KernelDwUpIdeal.τ).loc Cert.KernelDwUpIdeal.main_arg0)
          ∧ r.2.mem ((c.tc : Thread Cert.KernelDwUpIdeal.nD Cert.KernelDwUpIdeal.τ).loc Cert.KernelDwUpIdeal.main_arg1) = m ((c.tc : Thread Cert.KernelDwUpIdeal.nD Cert.KernelDwUpIdeal.τ).loc Cert.KernelDwUpIdeal.main_arg1)
          ∧ r.2.mem ((c.tc : Thread Cert.KernelDwUpIdeal.nD Cert.KernelDwUpIdeal.τ).loc Cert.KernelDwUpIdeal.main_arg2) = m ((c.tc : Thread Cert.KernelDwUpIdeal.nD Cert.KernelDwUpIdeal.τ).loc Cert.KernelDwUpIdeal.main_arg2))
      ∧ θ_run (Cert.ReferenceDwUpIdeal.defs (F := Ideal)) (onTc (τ := Cert.ReferenceDwUpIdeal.τ) (Cert.ReferenceDwUpIdeal.main (F := Ideal))) ⟨m', fun _ => 0, g'⟩ (fun r => ∀ c : Dev Cert.ReferenceDwUpIdeal.nD,
          r.2.mem ((c.tc : Thread Cert.ReferenceDwUpIdeal.nD Cert.ReferenceDwUpIdeal.τ).loc Cert.ReferenceDwUpIdeal.main_v8) = v0 c
          ∧ r.2.mem ((c.tc : Thread Cert.ReferenceDwUpIdeal.nD Cert.ReferenceDwUpIdeal.τ).loc Cert.ReferenceDwUpIdeal.main_arg0) = m' ((c.tc : Thread Cert.ReferenceDwUpIdeal.nD Cert.ReferenceDwUpIdeal.τ).loc Cert.ReferenceDwUpIdeal.main_arg0)
          ∧ r.2.mem ((c.tc : Thread Cert.ReferenceDwUpIdeal.nD Cert.ReferenceDwUpIdeal.τ).loc Cert.ReferenceDwUpIdeal.main_arg1) = m' ((c.tc : Thread Cert.ReferenceDwUpIdeal.nD Cert.ReferenceDwUpIdeal.τ).loc Cert.ReferenceDwUpIdeal.main_arg1)
          ∧ r.2.mem ((c.tc : Thread Cert.ReferenceDwUpIdeal.nD Cert.ReferenceDwUpIdeal.τ).loc Cert.ReferenceDwUpIdeal.main_arg2) = m' ((c.tc : Thread Cert.ReferenceDwUpIdeal.nD Cert.ReferenceDwUpIdeal.τ).loc Cert.ReferenceDwUpIdeal.main_arg2))

def preserves_KernelDhUp_KernelDhUpIdeal : Prop :=
  True

def algebraic_KernelDhUpIdeal_ReferenceDhUpIdeal [hKernelDhUpIdeal : Cert.KernelDhUpIdeal.Facts] [hReferenceDhUpIdeal : Cert.ReferenceDhUpIdeal.Facts] : Prop :=
  ∀ (m : (ℓ : Loc Cert.KernelDhUpIdeal.nD Cert.KernelDhUpIdeal.τ Cert.KernelDhUpIdeal.sig) → Buf (Elt Ideal) ℓ) (g : Dev Cert.KernelDhUpIdeal.nD → PrngReg)
    (m' : (ℓ : Loc Cert.ReferenceDhUpIdeal.nD Cert.ReferenceDhUpIdeal.τ Cert.ReferenceDhUpIdeal.sig) → Buf (Elt Ideal) ℓ) (g' : Dev Cert.ReferenceDhUpIdeal.nD → PrngReg), Pre_KernelDhUpIdeal m →
    (∀ c : Dev Cert.KernelDhUpIdeal.nD,
      m' ((c.tc : Thread Cert.ReferenceDhUpIdeal.nD Cert.ReferenceDhUpIdeal.τ).loc Cert.ReferenceDhUpIdeal.main_arg0) = m ((c.tc : Thread Cert.KernelDhUpIdeal.nD Cert.KernelDhUpIdeal.τ).loc Cert.KernelDhUpIdeal.main_arg0)
      ∧ m' ((c.tc : Thread Cert.ReferenceDhUpIdeal.nD Cert.ReferenceDhUpIdeal.τ).loc Cert.ReferenceDhUpIdeal.main_arg1) = m ((c.tc : Thread Cert.KernelDhUpIdeal.nD Cert.KernelDhUpIdeal.τ).loc Cert.KernelDhUpIdeal.main_arg1)
      ∧ m' ((c.tc : Thread Cert.ReferenceDhUpIdeal.nD Cert.ReferenceDhUpIdeal.τ).loc Cert.ReferenceDhUpIdeal.main_arg2) = m ((c.tc : Thread Cert.KernelDhUpIdeal.nD Cert.KernelDhUpIdeal.τ).loc Cert.KernelDhUpIdeal.main_arg2)) →
    ∃ (v0 : (c : Dev Cert.KernelDhUpIdeal.nD) → Buf (Elt Ideal) ((c.tc : Thread Cert.KernelDhUpIdeal.nD Cert.KernelDhUpIdeal.τ).loc Cert.KernelDhUpIdeal.main_v3)),
      θ_run (Cert.KernelDhUpIdeal.defs (F := Ideal)) (onTc (τ := Cert.KernelDhUpIdeal.τ) (Cert.KernelDhUpIdeal.main (F := Ideal))) ⟨m, fun _ => 0, g⟩ (fun r => ∀ c : Dev Cert.KernelDhUpIdeal.nD,
          r.2.mem ((c.tc : Thread Cert.KernelDhUpIdeal.nD Cert.KernelDhUpIdeal.τ).loc Cert.KernelDhUpIdeal.main_v3) = v0 c
          ∧ r.2.mem ((c.tc : Thread Cert.KernelDhUpIdeal.nD Cert.KernelDhUpIdeal.τ).loc Cert.KernelDhUpIdeal.main_arg0) = m ((c.tc : Thread Cert.KernelDhUpIdeal.nD Cert.KernelDhUpIdeal.τ).loc Cert.KernelDhUpIdeal.main_arg0)
          ∧ r.2.mem ((c.tc : Thread Cert.KernelDhUpIdeal.nD Cert.KernelDhUpIdeal.τ).loc Cert.KernelDhUpIdeal.main_arg1) = m ((c.tc : Thread Cert.KernelDhUpIdeal.nD Cert.KernelDhUpIdeal.τ).loc Cert.KernelDhUpIdeal.main_arg1)
          ∧ r.2.mem ((c.tc : Thread Cert.KernelDhUpIdeal.nD Cert.KernelDhUpIdeal.τ).loc Cert.KernelDhUpIdeal.main_arg2) = m ((c.tc : Thread Cert.KernelDhUpIdeal.nD Cert.KernelDhUpIdeal.τ).loc Cert.KernelDhUpIdeal.main_arg2))
      ∧ θ_run (Cert.ReferenceDhUpIdeal.defs (F := Ideal)) (onTc (τ := Cert.ReferenceDhUpIdeal.τ) (Cert.ReferenceDhUpIdeal.main (F := Ideal))) ⟨m', fun _ => 0, g'⟩ (fun r => ∀ c : Dev Cert.ReferenceDhUpIdeal.nD,
          r.2.mem ((c.tc : Thread Cert.ReferenceDhUpIdeal.nD Cert.ReferenceDhUpIdeal.τ).loc Cert.ReferenceDhUpIdeal.main_v4) = v0 c
          ∧ r.2.mem ((c.tc : Thread Cert.ReferenceDhUpIdeal.nD Cert.ReferenceDhUpIdeal.τ).loc Cert.ReferenceDhUpIdeal.main_arg0) = m' ((c.tc : Thread Cert.ReferenceDhUpIdeal.nD Cert.ReferenceDhUpIdeal.τ).loc Cert.ReferenceDhUpIdeal.main_arg0)
          ∧ r.2.mem ((c.tc : Thread Cert.ReferenceDhUpIdeal.nD Cert.ReferenceDhUpIdeal.τ).loc Cert.ReferenceDhUpIdeal.main_arg1) = m' ((c.tc : Thread Cert.ReferenceDhUpIdeal.nD Cert.ReferenceDhUpIdeal.τ).loc Cert.ReferenceDhUpIdeal.main_arg1)
          ∧ r.2.mem ((c.tc : Thread Cert.ReferenceDhUpIdeal.nD Cert.ReferenceDhUpIdeal.τ).loc Cert.ReferenceDhUpIdeal.main_arg2) = m' ((c.tc : Thread Cert.ReferenceDhUpIdeal.nD Cert.ReferenceDhUpIdeal.τ).loc Cert.ReferenceDhUpIdeal.main_arg2))

def preserves_KernelDwDown_KernelDwDownIdeal : Prop :=
  True

def algebraic_KernelDwDownIdeal_ReferenceDwDownIdeal [hKernelDwDownIdeal : Cert.KernelDwDownIdeal.Facts] [hReferenceDwDownIdeal : Cert.ReferenceDwDownIdeal.Facts] : Prop :=
  ∀ (m : (ℓ : Loc Cert.KernelDwDownIdeal.nD Cert.KernelDwDownIdeal.τ Cert.KernelDwDownIdeal.sig) → Buf (Elt Ideal) ℓ) (g : Dev Cert.KernelDwDownIdeal.nD → PrngReg)
    (m' : (ℓ : Loc Cert.ReferenceDwDownIdeal.nD Cert.ReferenceDwDownIdeal.τ Cert.ReferenceDwDownIdeal.sig) → Buf (Elt Ideal) ℓ) (g' : Dev Cert.ReferenceDwDownIdeal.nD → PrngReg), Pre_KernelDwDownIdeal m →
    (∀ c : Dev Cert.KernelDwDownIdeal.nD,
      m' ((c.tc : Thread Cert.ReferenceDwDownIdeal.nD Cert.ReferenceDwDownIdeal.τ).loc Cert.ReferenceDwDownIdeal.main_arg0) = m ((c.tc : Thread Cert.KernelDwDownIdeal.nD Cert.KernelDwDownIdeal.τ).loc Cert.KernelDwDownIdeal.main_arg0)
      ∧ m' ((c.tc : Thread Cert.ReferenceDwDownIdeal.nD Cert.ReferenceDwDownIdeal.τ).loc Cert.ReferenceDwDownIdeal.main_arg1) = m ((c.tc : Thread Cert.KernelDwDownIdeal.nD Cert.KernelDwDownIdeal.τ).loc Cert.KernelDwDownIdeal.main_arg1)) →
    ∃ (v0 : (c : Dev Cert.KernelDwDownIdeal.nD) → Buf (Elt Ideal) ((c.tc : Thread Cert.KernelDwDownIdeal.nD Cert.KernelDwDownIdeal.τ).loc Cert.KernelDwDownIdeal.main_v0)),
      θ_run (Cert.KernelDwDownIdeal.defs (F := Ideal)) (onTc (τ := Cert.KernelDwDownIdeal.τ) (Cert.KernelDwDownIdeal.main (F := Ideal))) ⟨m, fun _ => 0, g⟩ (fun r => ∀ c : Dev Cert.KernelDwDownIdeal.nD,
          r.2.mem ((c.tc : Thread Cert.KernelDwDownIdeal.nD Cert.KernelDwDownIdeal.τ).loc Cert.KernelDwDownIdeal.main_v0) = v0 c
          ∧ r.2.mem ((c.tc : Thread Cert.KernelDwDownIdeal.nD Cert.KernelDwDownIdeal.τ).loc Cert.KernelDwDownIdeal.main_arg0) = m ((c.tc : Thread Cert.KernelDwDownIdeal.nD Cert.KernelDwDownIdeal.τ).loc Cert.KernelDwDownIdeal.main_arg0)
          ∧ r.2.mem ((c.tc : Thread Cert.KernelDwDownIdeal.nD Cert.KernelDwDownIdeal.τ).loc Cert.KernelDwDownIdeal.main_arg1) = m ((c.tc : Thread Cert.KernelDwDownIdeal.nD Cert.KernelDwDownIdeal.τ).loc Cert.KernelDwDownIdeal.main_arg1))
      ∧ θ_run (Cert.ReferenceDwDownIdeal.defs (F := Ideal)) (onTc (τ := Cert.ReferenceDwDownIdeal.τ) (Cert.ReferenceDwDownIdeal.main (F := Ideal))) ⟨m', fun _ => 0, g'⟩ (fun r => ∀ c : Dev Cert.ReferenceDwDownIdeal.nD,
          r.2.mem ((c.tc : Thread Cert.ReferenceDwDownIdeal.nD Cert.ReferenceDwDownIdeal.τ).loc Cert.ReferenceDwDownIdeal.main_v5) = v0 c
          ∧ r.2.mem ((c.tc : Thread Cert.ReferenceDwDownIdeal.nD Cert.ReferenceDwDownIdeal.τ).loc Cert.ReferenceDwDownIdeal.main_arg0) = m' ((c.tc : Thread Cert.ReferenceDwDownIdeal.nD Cert.ReferenceDwDownIdeal.τ).loc Cert.ReferenceDwDownIdeal.main_arg0)
          ∧ r.2.mem ((c.tc : Thread Cert.ReferenceDwDownIdeal.nD Cert.ReferenceDwDownIdeal.τ).loc Cert.ReferenceDwDownIdeal.main_arg1) = m' ((c.tc : Thread Cert.ReferenceDwDownIdeal.nD Cert.ReferenceDwDownIdeal.τ).loc Cert.ReferenceDwDownIdeal.main_arg1))

def preserves_KernelInProj_KernelInProjIdeal : Prop :=
  True

def algebraic_KernelInProjIdeal_ReferenceInProjIdeal [hKernelInProjIdeal : Cert.KernelInProjIdeal.Facts] [hReferenceInProjIdeal : Cert.ReferenceInProjIdeal.Facts] : Prop :=
  ∀ (m : (ℓ : Loc Cert.KernelInProjIdeal.nD Cert.KernelInProjIdeal.τ Cert.KernelInProjIdeal.sig) → Buf (Elt Ideal) ℓ) (g : Dev Cert.KernelInProjIdeal.nD → PrngReg)
    (m' : (ℓ : Loc Cert.ReferenceInProjIdeal.nD Cert.ReferenceInProjIdeal.τ Cert.ReferenceInProjIdeal.sig) → Buf (Elt Ideal) ℓ) (g' : Dev Cert.ReferenceInProjIdeal.nD → PrngReg), Pre_KernelInProjIdeal m →
    (∀ c : Dev Cert.KernelInProjIdeal.nD,
      m' ((c.tc : Thread Cert.ReferenceInProjIdeal.nD Cert.ReferenceInProjIdeal.τ).loc Cert.ReferenceInProjIdeal.main_arg0) = m ((c.tc : Thread Cert.KernelInProjIdeal.nD Cert.KernelInProjIdeal.τ).loc Cert.KernelInProjIdeal.main_arg0)
      ∧ m' ((c.tc : Thread Cert.ReferenceInProjIdeal.nD Cert.ReferenceInProjIdeal.τ).loc Cert.ReferenceInProjIdeal.main_arg1) = m ((c.tc : Thread Cert.KernelInProjIdeal.nD Cert.KernelInProjIdeal.τ).loc Cert.KernelInProjIdeal.main_arg1)) →
    ∃ (v0 : (c : Dev Cert.KernelInProjIdeal.nD) → Buf (Elt Ideal) ((c.tc : Thread Cert.KernelInProjIdeal.nD Cert.KernelInProjIdeal.τ).loc Cert.KernelInProjIdeal.main_v3)),
      θ_run (Cert.KernelInProjIdeal.defs (F := Ideal)) (onTc (τ := Cert.KernelInProjIdeal.τ) (Cert.KernelInProjIdeal.main (F := Ideal))) ⟨m, fun _ => 0, g⟩ (fun r => ∀ c : Dev Cert.KernelInProjIdeal.nD,
          r.2.mem ((c.tc : Thread Cert.KernelInProjIdeal.nD Cert.KernelInProjIdeal.τ).loc Cert.KernelInProjIdeal.main_v3) = v0 c
          ∧ r.2.mem ((c.tc : Thread Cert.KernelInProjIdeal.nD Cert.KernelInProjIdeal.τ).loc Cert.KernelInProjIdeal.main_arg0) = m ((c.tc : Thread Cert.KernelInProjIdeal.nD Cert.KernelInProjIdeal.τ).loc Cert.KernelInProjIdeal.main_arg0)
          ∧ r.2.mem ((c.tc : Thread Cert.KernelInProjIdeal.nD Cert.KernelInProjIdeal.τ).loc Cert.KernelInProjIdeal.main_arg1) = m ((c.tc : Thread Cert.KernelInProjIdeal.nD Cert.KernelInProjIdeal.τ).loc Cert.KernelInProjIdeal.main_arg1))
      ∧ θ_run (Cert.ReferenceInProjIdeal.defs (F := Ideal)) (onTc (τ := Cert.ReferenceInProjIdeal.τ) (Cert.ReferenceInProjIdeal.main (F := Ideal))) ⟨m', fun _ => 0, g'⟩ (fun r => ∀ c : Dev Cert.ReferenceInProjIdeal.nD,
          r.2.mem ((c.tc : Thread Cert.ReferenceInProjIdeal.nD Cert.ReferenceInProjIdeal.τ).loc Cert.ReferenceInProjIdeal.main_v1) = v0 c
          ∧ r.2.mem ((c.tc : Thread Cert.ReferenceInProjIdeal.nD Cert.ReferenceInProjIdeal.τ).loc Cert.ReferenceInProjIdeal.main_arg0) = m' ((c.tc : Thread Cert.ReferenceInProjIdeal.nD Cert.ReferenceInProjIdeal.τ).loc Cert.ReferenceInProjIdeal.main_arg0)
          ∧ r.2.mem ((c.tc : Thread Cert.ReferenceInProjIdeal.nD Cert.ReferenceInProjIdeal.τ).loc Cert.ReferenceInProjIdeal.main_arg1) = m' ((c.tc : Thread Cert.ReferenceInProjIdeal.nD Cert.ReferenceInProjIdeal.τ).loc Cert.ReferenceInProjIdeal.main_arg1))

def preserves_KernelUpProj_KernelUpProjIdeal : Prop :=
  True

def algebraic_KernelUpProjIdeal_ReferenceUpProjIdeal [hKernelUpProjIdeal : Cert.KernelUpProjIdeal.Facts] [hReferenceUpProjIdeal : Cert.ReferenceUpProjIdeal.Facts] : Prop :=
  ∀ (m : (ℓ : Loc Cert.KernelUpProjIdeal.nD Cert.KernelUpProjIdeal.τ Cert.KernelUpProjIdeal.sig) → Buf (Elt Ideal) ℓ) (g : Dev Cert.KernelUpProjIdeal.nD → PrngReg)
    (m' : (ℓ : Loc Cert.ReferenceUpProjIdeal.nD Cert.ReferenceUpProjIdeal.τ Cert.ReferenceUpProjIdeal.sig) → Buf (Elt Ideal) ℓ) (g' : Dev Cert.ReferenceUpProjIdeal.nD → PrngReg), Pre_KernelUpProjIdeal m →
    (∀ c : Dev Cert.KernelUpProjIdeal.nD,
      m' ((c.tc : Thread Cert.ReferenceUpProjIdeal.nD Cert.ReferenceUpProjIdeal.τ).loc Cert.ReferenceUpProjIdeal.main_arg0) = m ((c.tc : Thread Cert.KernelUpProjIdeal.nD Cert.KernelUpProjIdeal.τ).loc Cert.KernelUpProjIdeal.main_arg0)
      ∧ m' ((c.tc : Thread Cert.ReferenceUpProjIdeal.nD Cert.ReferenceUpProjIdeal.τ).loc Cert.ReferenceUpProjIdeal.main_arg1) = m ((c.tc : Thread Cert.KernelUpProjIdeal.nD Cert.KernelUpProjIdeal.τ).loc Cert.KernelUpProjIdeal.main_arg1)) →
    ∃ (v0 : (c : Dev Cert.KernelUpProjIdeal.nD) → Buf (Elt Ideal) ((c.tc : Thread Cert.KernelUpProjIdeal.nD Cert.KernelUpProjIdeal.τ).loc Cert.KernelUpProjIdeal.main_v3)),
      θ_run (Cert.KernelUpProjIdeal.defs (F := Ideal)) (onTc (τ := Cert.KernelUpProjIdeal.τ) (Cert.KernelUpProjIdeal.main (F := Ideal))) ⟨m, fun _ => 0, g⟩ (fun r => ∀ c : Dev Cert.KernelUpProjIdeal.nD,
          r.2.mem ((c.tc : Thread Cert.KernelUpProjIdeal.nD Cert.KernelUpProjIdeal.τ).loc Cert.KernelUpProjIdeal.main_v3) = v0 c
          ∧ r.2.mem ((c.tc : Thread Cert.KernelUpProjIdeal.nD Cert.KernelUpProjIdeal.τ).loc Cert.KernelUpProjIdeal.main_arg0) = m ((c.tc : Thread Cert.KernelUpProjIdeal.nD Cert.KernelUpProjIdeal.τ).loc Cert.KernelUpProjIdeal.main_arg0)
          ∧ r.2.mem ((c.tc : Thread Cert.KernelUpProjIdeal.nD Cert.KernelUpProjIdeal.τ).loc Cert.KernelUpProjIdeal.main_arg1) = m ((c.tc : Thread Cert.KernelUpProjIdeal.nD Cert.KernelUpProjIdeal.τ).loc Cert.KernelUpProjIdeal.main_arg1))
      ∧ θ_run (Cert.ReferenceUpProjIdeal.defs (F := Ideal)) (onTc (τ := Cert.ReferenceUpProjIdeal.τ) (Cert.ReferenceUpProjIdeal.main (F := Ideal))) ⟨m', fun _ => 0, g'⟩ (fun r => ∀ c : Dev Cert.ReferenceUpProjIdeal.nD,
          r.2.mem ((c.tc : Thread Cert.ReferenceUpProjIdeal.nD Cert.ReferenceUpProjIdeal.τ).loc Cert.ReferenceUpProjIdeal.main_v1) = v0 c
          ∧ r.2.mem ((c.tc : Thread Cert.ReferenceUpProjIdeal.nD Cert.ReferenceUpProjIdeal.τ).loc Cert.ReferenceUpProjIdeal.main_arg0) = m' ((c.tc : Thread Cert.ReferenceUpProjIdeal.nD Cert.ReferenceUpProjIdeal.τ).loc Cert.ReferenceUpProjIdeal.main_arg0)
          ∧ r.2.mem ((c.tc : Thread Cert.ReferenceUpProjIdeal.nD Cert.ReferenceUpProjIdeal.τ).loc Cert.ReferenceUpProjIdeal.main_arg1) = m' ((c.tc : Thread Cert.ReferenceUpProjIdeal.nD Cert.ReferenceUpProjIdeal.τ).loc Cert.ReferenceUpProjIdeal.main_arg1))

def preserves_KernelFfnOutFwd_KernelFfnOutFwdIdeal : Prop :=
  True

def algebraic_KernelFfnOutFwdIdeal_ReferenceFfnOutFwdIdeal [hKernelFfnOutFwdIdeal : Cert.KernelFfnOutFwdIdeal.Facts] [hReferenceFfnOutFwdIdeal : Cert.ReferenceFfnOutFwdIdeal.Facts] : Prop :=
  ∀ (m : (ℓ : Loc Cert.KernelFfnOutFwdIdeal.nD Cert.KernelFfnOutFwdIdeal.τ Cert.KernelFfnOutFwdIdeal.sig) → Buf (Elt Ideal) ℓ) (g : Dev Cert.KernelFfnOutFwdIdeal.nD → PrngReg)
    (m' : (ℓ : Loc Cert.ReferenceFfnOutFwdIdeal.nD Cert.ReferenceFfnOutFwdIdeal.τ Cert.ReferenceFfnOutFwdIdeal.sig) → Buf (Elt Ideal) ℓ) (g' : Dev Cert.ReferenceFfnOutFwdIdeal.nD → PrngReg), Pre_KernelFfnOutFwdIdeal m →
    (∀ c : Dev Cert.KernelFfnOutFwdIdeal.nD,
      m' ((c.tc : Thread Cert.ReferenceFfnOutFwdIdeal.nD Cert.ReferenceFfnOutFwdIdeal.τ).loc Cert.ReferenceFfnOutFwdIdeal.main_arg0) = m ((c.tc : Thread Cert.KernelFfnOutFwdIdeal.nD Cert.KernelFfnOutFwdIdeal.τ).loc Cert.KernelFfnOutFwdIdeal.main_arg0)
      ∧ m' ((c.tc : Thread Cert.ReferenceFfnOutFwdIdeal.nD Cert.ReferenceFfnOutFwdIdeal.τ).loc Cert.ReferenceFfnOutFwdIdeal.main_arg1) = m ((c.tc : Thread Cert.KernelFfnOutFwdIdeal.nD Cert.KernelFfnOutFwdIdeal.τ).loc Cert.KernelFfnOutFwdIdeal.main_arg1)
      ∧ m' ((c.tc : Thread Cert.ReferenceFfnOutFwdIdeal.nD Cert.ReferenceFfnOutFwdIdeal.τ).loc Cert.ReferenceFfnOutFwdIdeal.main_arg2) = m ((c.tc : Thread Cert.KernelFfnOutFwdIdeal.nD Cert.KernelFfnOutFwdIdeal.τ).loc Cert.KernelFfnOutFwdIdeal.main_arg2)
      ∧ m' ((c.tc : Thread Cert.ReferenceFfnOutFwdIdeal.nD Cert.ReferenceFfnOutFwdIdeal.τ).loc Cert.ReferenceFfnOutFwdIdeal.main_arg3) = m ((c.tc : Thread Cert.KernelFfnOutFwdIdeal.nD Cert.KernelFfnOutFwdIdeal.τ).loc Cert.KernelFfnOutFwdIdeal.main_arg3)) →
    ∃ (v0 : (c : Dev Cert.KernelFfnOutFwdIdeal.nD) → Buf (Elt Ideal) ((c.tc : Thread Cert.KernelFfnOutFwdIdeal.nD Cert.KernelFfnOutFwdIdeal.τ).loc Cert.KernelFfnOutFwdIdeal.main_v2_0)) (v1 : (c : Dev Cert.KernelFfnOutFwdIdeal.nD) → Buf (Elt Ideal) ((c.tc : Thread Cert.KernelFfnOutFwdIdeal.nD Cert.KernelFfnOutFwdIdeal.τ).loc Cert.KernelFfnOutFwdIdeal.main_v2_1)),
      θ_run (Cert.KernelFfnOutFwdIdeal.defs (F := Ideal)) (onTc (τ := Cert.KernelFfnOutFwdIdeal.τ) (Cert.KernelFfnOutFwdIdeal.main (F := Ideal))) ⟨m, fun _ => 0, g⟩ (fun r => ∀ c : Dev Cert.KernelFfnOutFwdIdeal.nD,
          r.2.mem ((c.tc : Thread Cert.KernelFfnOutFwdIdeal.nD Cert.KernelFfnOutFwdIdeal.τ).loc Cert.KernelFfnOutFwdIdeal.main_v2_0) = v0 c
          ∧ r.2.mem ((c.tc : Thread Cert.KernelFfnOutFwdIdeal.nD Cert.KernelFfnOutFwdIdeal.τ).loc Cert.KernelFfnOutFwdIdeal.main_v2_1) = v1 c
          ∧ r.2.mem ((c.tc : Thread Cert.KernelFfnOutFwdIdeal.nD Cert.KernelFfnOutFwdIdeal.τ).loc Cert.KernelFfnOutFwdIdeal.main_arg0) = m ((c.tc : Thread Cert.KernelFfnOutFwdIdeal.nD Cert.KernelFfnOutFwdIdeal.τ).loc Cert.KernelFfnOutFwdIdeal.main_arg0)
          ∧ r.2.mem ((c.tc : Thread Cert.KernelFfnOutFwdIdeal.nD Cert.KernelFfnOutFwdIdeal.τ).loc Cert.KernelFfnOutFwdIdeal.main_arg1) = m ((c.tc : Thread Cert.KernelFfnOutFwdIdeal.nD Cert.KernelFfnOutFwdIdeal.τ).loc Cert.KernelFfnOutFwdIdeal.main_arg1)
          ∧ r.2.mem ((c.tc : Thread Cert.KernelFfnOutFwdIdeal.nD Cert.KernelFfnOutFwdIdeal.τ).loc Cert.KernelFfnOutFwdIdeal.main_arg2) = m ((c.tc : Thread Cert.KernelFfnOutFwdIdeal.nD Cert.KernelFfnOutFwdIdeal.τ).loc Cert.KernelFfnOutFwdIdeal.main_arg2)
          ∧ r.2.mem ((c.tc : Thread Cert.KernelFfnOutFwdIdeal.nD Cert.KernelFfnOutFwdIdeal.τ).loc Cert.KernelFfnOutFwdIdeal.main_arg3) = m ((c.tc : Thread Cert.KernelFfnOutFwdIdeal.nD Cert.KernelFfnOutFwdIdeal.τ).loc Cert.KernelFfnOutFwdIdeal.main_arg3))
      ∧ θ_run (Cert.ReferenceFfnOutFwdIdeal.defs (F := Ideal)) (onTc (τ := Cert.ReferenceFfnOutFwdIdeal.τ) (Cert.ReferenceFfnOutFwdIdeal.main (F := Ideal))) ⟨m', fun _ => 0, g'⟩ (fun r => ∀ c : Dev Cert.ReferenceFfnOutFwdIdeal.nD,
          r.2.mem ((c.tc : Thread Cert.ReferenceFfnOutFwdIdeal.nD Cert.ReferenceFfnOutFwdIdeal.τ).loc Cert.ReferenceFfnOutFwdIdeal.main_v18) = v0 c
          ∧ r.2.mem ((c.tc : Thread Cert.ReferenceFfnOutFwdIdeal.nD Cert.ReferenceFfnOutFwdIdeal.τ).loc Cert.ReferenceFfnOutFwdIdeal.main_v19) = v1 c
          ∧ r.2.mem ((c.tc : Thread Cert.ReferenceFfnOutFwdIdeal.nD Cert.ReferenceFfnOutFwdIdeal.τ).loc Cert.ReferenceFfnOutFwdIdeal.main_arg0) = m' ((c.tc : Thread Cert.ReferenceFfnOutFwdIdeal.nD Cert.ReferenceFfnOutFwdIdeal.τ).loc Cert.ReferenceFfnOutFwdIdeal.main_arg0)
          ∧ r.2.mem ((c.tc : Thread Cert.ReferenceFfnOutFwdIdeal.nD Cert.ReferenceFfnOutFwdIdeal.τ).loc Cert.ReferenceFfnOutFwdIdeal.main_arg1) = m' ((c.tc : Thread Cert.ReferenceFfnOutFwdIdeal.nD Cert.ReferenceFfnOutFwdIdeal.τ).loc Cert.ReferenceFfnOutFwdIdeal.main_arg1)
          ∧ r.2.mem ((c.tc : Thread Cert.ReferenceFfnOutFwdIdeal.nD Cert.ReferenceFfnOutFwdIdeal.τ).loc Cert.ReferenceFfnOutFwdIdeal.main_arg2) = m' ((c.tc : Thread Cert.ReferenceFfnOutFwdIdeal.nD Cert.ReferenceFfnOutFwdIdeal.τ).loc Cert.ReferenceFfnOutFwdIdeal.main_arg2)
          ∧ r.2.mem ((c.tc : Thread Cert.ReferenceFfnOutFwdIdeal.nD Cert.ReferenceFfnOutFwdIdeal.τ).loc Cert.ReferenceFfnOutFwdIdeal.main_arg3) = m' ((c.tc : Thread Cert.ReferenceFfnOutFwdIdeal.nD Cert.ReferenceFfnOutFwdIdeal.τ).loc Cert.ReferenceFfnOutFwdIdeal.main_arg3))

def preserves_KernelAdamAda_KernelAdamAdaIdeal : Prop :=
  True

def algebraic_KernelAdamAdaIdeal_ReferenceAdamAdaIdeal [hKernelAdamAdaIdeal : Cert.KernelAdamAdaIdeal.Facts] [hReferenceAdamAdaIdeal : Cert.ReferenceAdamAdaIdeal.Facts] : Prop :=
  ∀ (m : (ℓ : Loc Cert.KernelAdamAdaIdeal.nD Cert.KernelAdamAdaIdeal.τ Cert.KernelAdamAdaIdeal.sig) → Buf (Elt Ideal) ℓ) (g : Dev Cert.KernelAdamAdaIdeal.nD → PrngReg)
    (m' : (ℓ : Loc Cert.ReferenceAdamAdaIdeal.nD Cert.ReferenceAdamAdaIdeal.τ Cert.ReferenceAdamAdaIdeal.sig) → Buf (Elt Ideal) ℓ) (g' : Dev Cert.ReferenceAdamAdaIdeal.nD → PrngReg), Pre_KernelAdamAdaIdeal m →
    (∀ c : Dev Cert.KernelAdamAdaIdeal.nD,
      m' ((c.tc : Thread Cert.ReferenceAdamAdaIdeal.nD Cert.ReferenceAdamAdaIdeal.τ).loc Cert.ReferenceAdamAdaIdeal.main_arg0) = m ((c.tc : Thread Cert.KernelAdamAdaIdeal.nD Cert.KernelAdamAdaIdeal.τ).loc Cert.KernelAdamAdaIdeal.main_arg0)
      ∧ m' ((c.tc : Thread Cert.ReferenceAdamAdaIdeal.nD Cert.ReferenceAdamAdaIdeal.τ).loc Cert.ReferenceAdamAdaIdeal.main_arg1) = m ((c.tc : Thread Cert.KernelAdamAdaIdeal.nD Cert.KernelAdamAdaIdeal.τ).loc Cert.KernelAdamAdaIdeal.main_arg1)
      ∧ m' ((c.tc : Thread Cert.ReferenceAdamAdaIdeal.nD Cert.ReferenceAdamAdaIdeal.τ).loc Cert.ReferenceAdamAdaIdeal.main_arg2) = m ((c.tc : Thread Cert.KernelAdamAdaIdeal.nD Cert.KernelAdamAdaIdeal.τ).loc Cert.KernelAdamAdaIdeal.main_arg2)
      ∧ m' ((c.tc : Thread Cert.ReferenceAdamAdaIdeal.nD Cert.ReferenceAdamAdaIdeal.τ).loc Cert.ReferenceAdamAdaIdeal.main_arg3) = m ((c.tc : Thread Cert.KernelAdamAdaIdeal.nD Cert.KernelAdamAdaIdeal.τ).loc Cert.KernelAdamAdaIdeal.main_arg3)
      ∧ m' ((c.tc : Thread Cert.ReferenceAdamAdaIdeal.nD Cert.ReferenceAdamAdaIdeal.τ).loc Cert.ReferenceAdamAdaIdeal.main_arg4) = m ((c.tc : Thread Cert.KernelAdamAdaIdeal.nD Cert.KernelAdamAdaIdeal.τ).loc Cert.KernelAdamAdaIdeal.main_arg4)) →
    ∃ (v0 : (c : Dev Cert.KernelAdamAdaIdeal.nD) → Buf (Elt Ideal) ((c.tc : Thread Cert.KernelAdamAdaIdeal.nD Cert.KernelAdamAdaIdeal.τ).loc Cert.KernelAdamAdaIdeal.main_v0_0)) (v1 : (c : Dev Cert.KernelAdamAdaIdeal.nD) → Buf (Elt Ideal) ((c.tc : Thread Cert.KernelAdamAdaIdeal.nD Cert.KernelAdamAdaIdeal.τ).loc Cert.KernelAdamAdaIdeal.main_v0_1)) (v2 : (c : Dev Cert.KernelAdamAdaIdeal.nD) → Buf (Elt Ideal) ((c.tc : Thread Cert.KernelAdamAdaIdeal.nD Cert.KernelAdamAdaIdeal.τ).loc Cert.KernelAdamAdaIdeal.main_v0_2)) (v3 : (c : Dev Cert.KernelAdamAdaIdeal.nD) → Buf (Elt Ideal) ((c.tc : Thread Cert.KernelAdamAdaIdeal.nD Cert.KernelAdamAdaIdeal.τ).loc Cert.KernelAdamAdaIdeal.main_v0_3)),
      θ_run (Cert.KernelAdamAdaIdeal.defs (F := Ideal)) (onTc (τ := Cert.KernelAdamAdaIdeal.τ) (Cert.KernelAdamAdaIdeal.main (F := Ideal))) ⟨m, fun _ => 0, g⟩ (fun r => ∀ c : Dev Cert.KernelAdamAdaIdeal.nD,
          r.2.mem ((c.tc : Thread Cert.KernelAdamAdaIdeal.nD Cert.KernelAdamAdaIdeal.τ).loc Cert.KernelAdamAdaIdeal.main_v0_0) = v0 c
          ∧ r.2.mem ((c.tc : Thread Cert.KernelAdamAdaIdeal.nD Cert.KernelAdamAdaIdeal.τ).loc Cert.KernelAdamAdaIdeal.main_v0_1) = v1 c
          ∧ r.2.mem ((c.tc : Thread Cert.KernelAdamAdaIdeal.nD Cert.KernelAdamAdaIdeal.τ).loc Cert.KernelAdamAdaIdeal.main_v0_2) = v2 c
          ∧ r.2.mem ((c.tc : Thread Cert.KernelAdamAdaIdeal.nD Cert.KernelAdamAdaIdeal.τ).loc Cert.KernelAdamAdaIdeal.main_v0_3) = v3 c
          ∧ r.2.mem ((c.tc : Thread Cert.KernelAdamAdaIdeal.nD Cert.KernelAdamAdaIdeal.τ).loc Cert.KernelAdamAdaIdeal.main_arg0) = m ((c.tc : Thread Cert.KernelAdamAdaIdeal.nD Cert.KernelAdamAdaIdeal.τ).loc Cert.KernelAdamAdaIdeal.main_arg0)
          ∧ r.2.mem ((c.tc : Thread Cert.KernelAdamAdaIdeal.nD Cert.KernelAdamAdaIdeal.τ).loc Cert.KernelAdamAdaIdeal.main_arg1) = m ((c.tc : Thread Cert.KernelAdamAdaIdeal.nD Cert.KernelAdamAdaIdeal.τ).loc Cert.KernelAdamAdaIdeal.main_arg1)
          ∧ r.2.mem ((c.tc : Thread Cert.KernelAdamAdaIdeal.nD Cert.KernelAdamAdaIdeal.τ).loc Cert.KernelAdamAdaIdeal.main_arg2) = m ((c.tc : Thread Cert.KernelAdamAdaIdeal.nD Cert.KernelAdamAdaIdeal.τ).loc Cert.KernelAdamAdaIdeal.main_arg2)
          ∧ r.2.mem ((c.tc : Thread Cert.KernelAdamAdaIdeal.nD Cert.KernelAdamAdaIdeal.τ).loc Cert.KernelAdamAdaIdeal.main_arg3) = m ((c.tc : Thread Cert.KernelAdamAdaIdeal.nD Cert.KernelAdamAdaIdeal.τ).loc Cert.KernelAdamAdaIdeal.main_arg3)
          ∧ r.2.mem ((c.tc : Thread Cert.KernelAdamAdaIdeal.nD Cert.KernelAdamAdaIdeal.τ).loc Cert.KernelAdamAdaIdeal.main_arg4) = m ((c.tc : Thread Cert.KernelAdamAdaIdeal.nD Cert.KernelAdamAdaIdeal.τ).loc Cert.KernelAdamAdaIdeal.main_arg4))
      ∧ θ_run (Cert.ReferenceAdamAdaIdeal.defs (F := Ideal)) (onTc (τ := Cert.ReferenceAdamAdaIdeal.τ) (Cert.ReferenceAdamAdaIdeal.main (F := Ideal))) ⟨m', fun _ => 0, g'⟩ (fun r => ∀ c : Dev Cert.ReferenceAdamAdaIdeal.nD,
          r.2.mem ((c.tc : Thread Cert.ReferenceAdamAdaIdeal.nD Cert.ReferenceAdamAdaIdeal.τ).loc Cert.ReferenceAdamAdaIdeal.main_v2) = v0 c
          ∧ r.2.mem ((c.tc : Thread Cert.ReferenceAdamAdaIdeal.nD Cert.ReferenceAdamAdaIdeal.τ).loc Cert.ReferenceAdamAdaIdeal.main_v26) = v1 c
          ∧ r.2.mem ((c.tc : Thread Cert.ReferenceAdamAdaIdeal.nD Cert.ReferenceAdamAdaIdeal.τ).loc Cert.ReferenceAdamAdaIdeal.main_v7) = v2 c
          ∧ r.2.mem ((c.tc : Thread Cert.ReferenceAdamAdaIdeal.nD Cert.ReferenceAdamAdaIdeal.τ).loc Cert.ReferenceAdamAdaIdeal.main_v13) = v3 c
          ∧ r.2.mem ((c.tc : Thread Cert.ReferenceAdamAdaIdeal.nD Cert.ReferenceAdamAdaIdeal.τ).loc Cert.ReferenceAdamAdaIdeal.main_arg0) = m' ((c.tc : Thread Cert.ReferenceAdamAdaIdeal.nD Cert.ReferenceAdamAdaIdeal.τ).loc Cert.ReferenceAdamAdaIdeal.main_arg0)
          ∧ r.2.mem ((c.tc : Thread Cert.ReferenceAdamAdaIdeal.nD Cert.ReferenceAdamAdaIdeal.τ).loc Cert.ReferenceAdamAdaIdeal.main_arg1) = m' ((c.tc : Thread Cert.ReferenceAdamAdaIdeal.nD Cert.ReferenceAdamAdaIdeal.τ).loc Cert.ReferenceAdamAdaIdeal.main_arg1)
          ∧ r.2.mem ((c.tc : Thread Cert.ReferenceAdamAdaIdeal.nD Cert.ReferenceAdamAdaIdeal.τ).loc Cert.ReferenceAdamAdaIdeal.main_arg2) = m' ((c.tc : Thread Cert.ReferenceAdamAdaIdeal.nD Cert.ReferenceAdamAdaIdeal.τ).loc Cert.ReferenceAdamAdaIdeal.main_arg2)
          ∧ r.2.mem ((c.tc : Thread Cert.ReferenceAdamAdaIdeal.nD Cert.ReferenceAdamAdaIdeal.τ).loc Cert.ReferenceAdamAdaIdeal.main_arg3) = m' ((c.tc : Thread Cert.ReferenceAdamAdaIdeal.nD Cert.ReferenceAdamAdaIdeal.τ).loc Cert.ReferenceAdamAdaIdeal.main_arg3)
          ∧ r.2.mem ((c.tc : Thread Cert.ReferenceAdamAdaIdeal.nD Cert.ReferenceAdamAdaIdeal.τ).loc Cert.ReferenceAdamAdaIdeal.main_arg4) = m' ((c.tc : Thread Cert.ReferenceAdamAdaIdeal.nD Cert.ReferenceAdamAdaIdeal.τ).loc Cert.ReferenceAdamAdaIdeal.main_arg4))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)
      ∧ m' ((c.tc : Thread Cert.ReferenceAdamInIdeal.nD Cert.ReferenceAdamInIdeal.τ).loc Cert.ReferenceAdamInIdeal.main_arg4) = m ((c.tc : Thread Cert.KernelAdamInIdeal.nD Cert.KernelAdamInIdeal.τ).loc Cert.KernelAdamInIdeal.main_arg4)) →
    ∃ (v0 : (c : Dev Cert.KernelAdamInIdeal.nD) → Buf (Elt Ideal) ((c.tc : Thread Cert.KernelAdamInIdeal.nD Cert.KernelAdamInIdeal.τ).loc Cert.KernelAdamInIdeal.main_v0_0)) (v1 : (c : Dev Cert.KernelAdamInIdeal.nD) → Buf (Elt Ideal) ((c.tc : Thread Cert.KernelAdamInIdeal.nD Cert.KernelAdamInIdeal.τ).loc Cert.KernelAdamInIdeal.main_v0_1)) (v2 : (c : Dev Cert.KernelAdamInIdeal.nD) → Buf (Elt Ideal) ((c.tc : Thread Cert.KernelAdamInIdeal.nD Cert.KernelAdamInIdeal.τ).loc Cert.KernelAdamInIdeal.main_v0_2)) (v3 : (c : Dev Cert.KernelAdamInIdeal.nD) → Buf (Elt Ideal) ((c.tc : Thread Cert.KernelAdamInIdeal.nD Cert.KernelAdamInIdeal.τ).loc Cert.KernelAdamInIdeal.main_v0_3)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v0_0) = v0 c
          ∧ r.2.mem ((c.tc : Thread Cert.KernelAdamInIdeal.nD Cert.KernelAdamInIdeal.τ).loc Cert.KernelAdamInIdeal.main_v0_1) = v1 c
          ∧ r.2.mem ((c.tc : Thread Cert.KernelAdamInIdeal.nD Cert.KernelAdamInIdeal.τ).loc Cert.KernelAdamInIdeal.main_v0_2) = v2 c
          ∧ r.2.mem ((c.tc : Thread Cert.KernelAdamInIdeal.nD Cert.KernelAdamInIdeal.τ).loc Cert.KernelAdamInIdeal.main_v0_3) = v3 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3)
          ∧ r.2.mem ((c.tc : Thread Cert.KernelAdamInIdeal.nD Cert.KernelAdamInIdeal.τ).loc Cert.KernelAdamInIdeal.main_arg4) = m ((c.tc : Thread Cert.KernelAdamInIdeal.nD Cert.KernelAdamInIdeal.τ).loc Cert.KernelAdamInIdeal.main_arg4))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v2) = v0 c
          ∧ r.2.mem ((c.tc : Thread Cert.ReferenceAdamInIdeal.nD Cert.ReferenceAdamInIdeal.τ).loc Cert.ReferenceAdamInIdeal.main_v26) = v1 c
          ∧ r.2.mem ((c.tc : Thread Cert.ReferenceAdamInIdeal.nD Cert.ReferenceAdamInIdeal.τ).loc Cert.ReferenceAdamInIdeal.main_v7) = v2 c
          ∧ r.2.mem ((c.tc : Thread Cert.ReferenceAdamInIdeal.nD Cert.ReferenceAdamInIdeal.τ).loc Cert.ReferenceAdamInIdeal.main_v13) = v3 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3)
          ∧ r.2.mem ((c.tc : Thread Cert.ReferenceAdamInIdeal.nD Cert.ReferenceAdamInIdeal.τ).loc Cert.ReferenceAdamInIdeal.main_arg4) = m' ((c.tc : Thread Cert.ReferenceAdamInIdeal.nD Cert.ReferenceAdamInIdeal.τ).loc Cert.ReferenceAdamInIdeal.main_arg4))

def preserves_KernelAdamSquare_KernelAdamSquareIdeal : Prop :=
  True

def algebraic_KernelAdamSquareIdeal_ReferenceAdamSquareIdeal [hKernelAdamSquareIdeal : Cert.KernelAdamSquareIdeal.Facts] [hReferenceAdamSquareIdeal : Cert.ReferenceAdamSquareIdeal.Facts] : Prop :=
  ∀ (m : (ℓ : Loc Cert.KernelAdamSquareIdeal.nD Cert.KernelAdamSquareIdeal.τ Cert.KernelAdamSquareIdeal.sig) → Buf (Elt Ideal) ℓ) (g : Dev Cert.KernelAdamSquareIdeal.nD → PrngReg)
    (m' : (ℓ : Loc Cert.ReferenceAdamSquareIdeal.nD Cert.ReferenceAdamSquareIdeal.τ Cert.ReferenceAdamSquareIdeal.sig) → Buf (Elt Ideal) ℓ) (g' : Dev Cert.ReferenceAdamSquareIdeal.nD → PrngReg), Pre_KernelAdamSquareIdeal m →
    (∀ c : Dev Cert.KernelAdamSquareIdeal.nD,
      m' ((c.tc : Thread Cert.ReferenceAdamSquareIdeal.nD Cert.ReferenceAdamSquareIdeal.τ).loc Cert.ReferenceAdamSquareIdeal.main_arg0) = m ((c.tc : Thread Cert.KernelAdamSquareIdeal.nD Cert.KernelAdamSquareIdeal.τ).loc Cert.KernelAdamSquareIdeal.main_arg0)
      ∧ m' ((c.tc : Thread Cert.ReferenceAdamSquareIdeal.nD Cert.ReferenceAdamSquareIdeal.τ).loc Cert.ReferenceAdamSquareIdeal.main_arg1) = m ((c.tc : Thread Cert.KernelAdamSquareIdeal.nD Cert.KernelAdamSquareIdeal.τ).loc Cert.KernelAdamSquareIdeal.main_arg1)
      ∧ m' ((c.tc : Thread Cert.ReferenceAdamSquareIdeal.nD Cert.ReferenceAdamSquareIdeal.τ).loc Cert.ReferenceAdamSquareIdeal.main_arg2) = m ((c.tc : Thread Cert.KernelAdamSquareIdeal.nD Cert.KernelAdamSquareIdeal.τ).loc Cert.KernelAdamSquareIdeal.main_arg2)
      ∧ m' ((c.tc : Thread Cert.ReferenceAdamSquareIdeal.nD Cert.ReferenceAdamSquareIdeal.τ).loc Cert.ReferenceAdamSquareIdeal.main_arg3) = m ((c.tc : Thread Cert.KernelAdamSquareIdeal.nD Cert.KernelAdamSquareIdeal.τ).loc Cert.KernelAdamSquareIdeal.main_arg3)
      ∧ m' ((c.tc : Thread Cert.ReferenceAdamSquareIdeal.nD Cert.ReferenceAdamSquareIdeal.τ).loc Cert.ReferenceAdamSquareIdeal.main_arg4) = m ((c.tc : Thread Cert.KernelAdamSquareIdeal.nD Cert.KernelAdamSquareIdeal.τ).loc Cert.KernelAdamSquareIdeal.main_arg4)) →
    ∃ (v0 : (c : Dev Cert.KernelAdamSquareIdeal.nD) → Buf (Elt Ideal) ((c.tc : Thread Cert.KernelAdamSquareIdeal.nD Cert.KernelAdamSquareIdeal.τ).loc Cert.KernelAdamSquareIdeal.main_v0_0)) (v1 : (c : Dev Cert.KernelAdamSquareIdeal.nD) → Buf (Elt Ideal) ((c.tc : Thread Cert.KernelAdamSquareIdeal.nD Cert.KernelAdamSquareIdeal.τ).loc Cert.KernelAdamSquareIdeal.main_v0_1)) (v2 : (c : Dev Cert.KernelAdamSquareIdeal.nD) → Buf (Elt Ideal) ((c.tc : Thread Cert.KernelAdamSquareIdeal.nD Cert.KernelAdamSquareIdeal.τ).loc Cert.KernelAdamSquareIdeal.main_v0_2)) (v3 : (c : Dev Cert.KernelAdamSquareIdeal.nD) → Buf (Elt Ideal) ((c.tc : Thread Cert.KernelAdamSquareIdeal.nD Cert.KernelAdamSquareIdeal.τ).loc Cert.KernelAdamSquareIdeal.main_v0_3)),
      θ_run (Cert.KernelAdamSquareIdeal.defs (F := Ideal)) (onTc (τ := Cert.KernelAdamSquareIdeal.τ) (Cert.KernelAdamSquareIdeal.main (F := Ideal))) ⟨m, fun _ => 0, g⟩ (fun r => ∀ c : Dev Cert.KernelAdamSquareIdeal.nD,
          r.2.mem ((c.tc : Thread Cert.KernelAdamSquareIdeal.nD Cert.KernelAdamSquareIdeal.τ).loc Cert.KernelAdamSquareIdeal.main_v0_0) = v0 c
          ∧ r.2.mem ((c.tc : Thread Cert.KernelAdamSquareIdeal.nD Cert.KernelAdamSquareIdeal.τ).loc Cert.KernelAdamSquareIdeal.main_v0_1) = v1 c
          ∧ r.2.mem ((c.tc : Thread Cert.KernelAdamSquareIdeal.nD Cert.KernelAdamSquareIdeal.τ).loc Cert.KernelAdamSquareIdeal.main_v0_2) = v2 c
          ∧ r.2.mem ((c.tc : Thread Cert.KernelAdamSquareIdeal.nD Cert.KernelAdamSquareIdeal.τ).loc Cert.KernelAdamSquareIdeal.main_v0_3) = v3 c
          ∧ r.2.mem ((c.tc : Thread Cert.KernelAdamSquareIdeal.nD Cert.KernelAdamSquareIdeal.τ).loc Cert.KernelAdamSquareIdeal.main_arg0) = m ((c.tc : Thread Cert.KernelAdamSquareIdeal.nD Cert.KernelAdamSquareIdeal.τ).loc Cert.KernelAdamSquareIdeal.main_arg0)
          ∧ r.2.mem ((c.tc : Thread Cert.KernelAdamSquareIdeal.nD Cert.KernelAdamSquareIdeal.τ).loc Cert.KernelAdamSquareIdeal.main_arg1) = m ((c.tc : Thread Cert.KernelAdamSquareIdeal.nD Cert.KernelAdamSquareIdeal.τ).loc Cert.KernelAdamSquareIdeal.main_arg1)
          ∧ r.2.mem ((c.tc : Thread Cert.KernelAdamSquareIdeal.nD Cert.KernelAdamSquareIdeal.τ).loc Cert.KernelAdamSquareIdeal.main_arg2) = m ((c.tc : Thread Cert.KernelAdamSquareIdeal.nD Cert.KernelAdamSquareIdeal.τ).loc Cert.KernelAdamSquareIdeal.main_arg2)
          ∧ r.2.mem ((c.tc : Thread Cert.KernelAdamSquareIdeal.nD Cert.KernelAdamSquareIdeal.τ).loc Cert.KernelAdamSquareIdeal.main_arg3) = m ((c.tc : Thread Cert.KernelAdamSquareIdeal.nD Cert.KernelAdamSquareIdeal.τ).loc Cert.KernelAdamSquareIdeal.main_arg3)
          ∧ r.2.mem ((c.tc : Thread Cert.KernelAdamSquareIdeal.nD Cert.KernelAdamSquareIdeal.τ).loc Cert.KernelAdamSquareIdeal.main_arg4) = m ((c.tc : Thread Cert.KernelAdamSquareIdeal.nD Cert.KernelAdamSquareIdeal.τ).loc Cert.KernelAdamSquareIdeal.main_arg4))
      ∧ θ_run (Cert.ReferenceAdamSquareIdeal.defs (F := Ideal)) (onTc (τ := Cert.ReferenceAdamSquareIdeal.τ) (Cert.ReferenceAdamSquareIdeal.main (F := Ideal))) ⟨m', fun _ => 0, g'⟩ (fun r => ∀ c : Dev Cert.ReferenceAdamSquareIdeal.nD,
          r.2.mem ((c.tc : Thread Cert.ReferenceAdamSquareIdeal.nD Cert.ReferenceAdamSquareIdeal.τ).loc Cert.ReferenceAdamSquareIdeal.main_v2) = v0 c
          ∧ r.2.mem ((c.tc : Thread Cert.ReferenceAdamSquareIdeal.nD Cert.ReferenceAdamSquareIdeal.τ).loc Cert.ReferenceAdamSquareIdeal.main_v26) = v1 c
          ∧ r.2.mem ((c.tc : Thread Cert.ReferenceAdamSquareIdeal.nD Cert.ReferenceAdamSquareIdeal.τ).loc Cert.ReferenceAdamSquareIdeal.main_v7) = v2 c
          ∧ r.2.mem ((c.tc : Thread Cert.ReferenceAdamSquareIdeal.nD Cert.ReferenceAdamSquareIdeal.τ).loc Cert.ReferenceAdamSquareIdeal.main_v13) = v3 c
          ∧ r.2.mem ((c.tc : Thread Cert.ReferenceAdamSquareIdeal.nD Cert.ReferenceAdamSquareIdeal.τ).loc Cert.ReferenceAdamSquareIdeal.main_arg0) = m' ((c.tc : Thread Cert.ReferenceAdamSquareIdeal.nD Cert.ReferenceAdamSquareIdeal.τ).loc Cert.ReferenceAdamSquareIdeal.main_arg0)
          ∧ r.2.mem ((c.tc : Thread Cert.ReferenceAdamSquareIdeal.nD Cert.ReferenceAdamSquareIdeal.τ).loc Cert.ReferenceAdamSquareIdeal.main_arg1) = m' ((c.tc : Thread Cert.ReferenceAdamSquareIdeal.nD Cert.ReferenceAdamSquareIdeal.τ).loc Cert.ReferenceAdamSquareIdeal.main_arg1)
          ∧ r.2.mem ((c.tc : Thread Cert.ReferenceAdamSquareIdeal.nD Cert.ReferenceAdamSquareIdeal.τ).loc Cert.ReferenceAdamSquareIdeal.main_arg2) = m' ((c.tc : Thread Cert.ReferenceAdamSquareIdeal.nD Cert.ReferenceAdamSquareIdeal.τ).loc Cert.ReferenceAdamSquareIdeal.main_arg2)
          ∧ r.2.mem ((c.tc : Thread Cert.ReferenceAdamSquareIdeal.nD Cert.ReferenceAdamSquareIdeal.τ).loc Cert.ReferenceAdamSquareIdeal.main_arg3) = m' ((c.tc : Thread Cert.ReferenceAdamSquareIdeal.nD Cert.ReferenceAdamSquareIdeal.τ).loc Cert.ReferenceAdamSquareIdeal.main_arg3)
          ∧ r.2.mem ((c.tc : Thread Cert.ReferenceAdamSquareIdeal.nD Cert.ReferenceAdamSquareIdeal.τ).loc Cert.ReferenceAdamSquareIdeal.main_arg4) = m' ((c.tc : Thread Cert.ReferenceAdamSquareIdeal.nD Cert.ReferenceAdamSquareIdeal.τ).loc Cert.ReferenceAdamSquareIdeal.main_arg4))

def preserves_KernelAdamUp_KernelAdamUpIdeal : Prop :=
  True

def algebraic_KernelAdamUpIdeal_ReferenceAdamUpIdeal [hKernelAdamUpIdeal : Cert.KernelAdamUpIdeal.Facts] [hReferenceAdamUpIdeal : Cert.ReferenceAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg)
    (m' : (ℓ : Loc Cert.ReferenceAdamUpIdeal.nD Cert.ReferenceAdamUpIdeal.τ Cert.ReferenceAdamUpIdeal.sig) → Buf (Elt Ideal) ℓ) (g' : Dev Cert.ReferenceAdamUpIdeal.nD → PrngReg), Pre_KernelAdamUpIdeal m →
    (∀ c : Dev Cert.KernelAdamUpIdeal.nD,
      m' ((c.tc : Thread Cert.ReferenceAdamUpIdeal.nD Cert.ReferenceAdamUpIdeal.τ).loc Cert.ReferenceAdamUpIdeal.main_arg0) = m ((c.tc : Thread Cert.KernelAdamUpIdeal.nD Cert.KernelAdamUpIdeal.τ).loc Cert.KernelAdamUpIdeal.main_arg0)
      ∧ m' ((c.tc : Thread Cert.ReferenceAdamUpIdeal.nD Cert.ReferenceAdamUpIdeal.τ).loc Cert.ReferenceAdamUpIdeal.main_arg1) = m ((c.tc : Thread Cert.KernelAdamUpIdeal.nD Cert.KernelAdamUpIdeal.τ).loc Cert.KernelAdamUpIdeal.main_arg1)
      ∧ m' ((c.tc : Thread Cert.ReferenceAdamUpIdeal.nD Cert.ReferenceAdamUpIdeal.τ).loc Cert.ReferenceAdamUpIdeal.main_arg2) = m ((c.tc : Thread Cert.KernelAdamUpIdeal.nD Cert.KernelAdamUpIdeal.τ).loc Cert.KernelAdamUpIdeal.main_arg2)
      ∧ m' ((c.tc : Thread Cert.ReferenceAdamUpIdeal.nD Cert.ReferenceAdamUpIdeal.τ).loc Cert.ReferenceAdamUpIdeal.main_arg3) = m ((c.tc : Thread Cert.KernelAdamUpIdeal.nD Cert.KernelAdamUpIdeal.τ).loc Cert.KernelAdamUpIdeal.main_arg3)
      ∧ m' ((c.tc : Thread Cert.ReferenceAdamUpIdeal.nD Cert.ReferenceAdamUpIdeal.τ).loc Cert.ReferenceAdamUpIdeal.main_arg4) = m ((c.tc : Thread Cert.KernelAdamUpIdeal.nD Cert.KernelAdamUpIdeal.τ).loc Cert.KernelAdamUpIdeal.main_arg4)) →
    ∃ (v0 : (c : Dev Cert.KernelAdamUpIdeal.nD) → Buf (Elt Ideal) ((c.tc : Thread Cert.KernelAdamUpIdeal.nD Cert.KernelAdamUpIdeal.τ).loc Cert.KernelAdamUpIdeal.main_v0_0)) (v1 : (c : Dev Cert.KernelAdamUpIdeal.nD) → Buf (Elt Ideal) ((c.tc : Thread Cert.KernelAdamUpIdeal.nD Cert.KernelAdamUpIdeal.τ).loc Cert.KernelAdamUpIdeal.main_v0_1)) (v2 : (c : Dev Cert.KernelAdamUpIdeal.nD) → Buf (Elt Ideal) ((c.tc : Thread Cert.KernelAdamUpIdeal.nD Cert.KernelAdamUpIdeal.τ).loc Cert.KernelAdamUpIdeal.main_v0_2)) (v3 : (c : Dev Cert.KernelAdamUpIdeal.nD) → Buf (Elt Ideal) ((c.tc : Thread Cert.KernelAdamUpIdeal.nD Cert.KernelAdamUpIdeal.τ).loc Cert.KernelAdamUpIdeal.main_v0_3)),
      θ_run (Cert.KernelAdamUpIdeal.defs (F := Ideal)) (onTc (τ := Cert.KernelAdamUpIdeal.τ) (Cert.KernelAdamUpIdeal.main (F := Ideal))) ⟨m, fun _ => 0, g⟩ (fun r => ∀ c : Dev Cert.KernelAdamUpIdeal.nD,
          r.2.mem ((c.tc : Thread Cert.KernelAdamUpIdeal.nD Cert.KernelAdamUpIdeal.τ).loc Cert.KernelAdamUpIdeal.main_v0_0) = v0 c
          ∧ r.2.mem ((c.tc : Thread Cert.KernelAdamUpIdeal.nD Cert.KernelAdamUpIdeal.τ).loc Cert.KernelAdamUpIdeal.main_v0_1) = v1 c
          ∧ r.2.mem ((c.tc : Thread Cert.KernelAdamUpIdeal.nD Cert.KernelAdamUpIdeal.τ).loc Cert.KernelAdamUpIdeal.main_v0_2) = v2 c
          ∧ r.2.mem ((c.tc : Thread Cert.KernelAdamUpIdeal.nD Cert.KernelAdamUpIdeal.τ).loc Cert.KernelAdamUpIdeal.main_v0_3) = v3 c
          ∧ r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
          ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
          ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
          ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3)
          ∧ r.2.mem ((c.tc : Thread Cert.KernelAdamUpIdeal.nD Cert.KernelAdamUpIdeal.τ).loc Cert.KernelAdamUpIdeal.main_arg4) = m ((c.tc : Thread Cert.KernelAdamUpIdeal.nD Cert.KernelAdamUpIdeal.τ).loc Cert.KernelAdamUpIdeal.main_arg4))
      ∧ θ_run (Cert.ReferenceAdamUpIdeal.defs (F := Ideal)) (onTc (τ := Cert.ReferenceAdamUpIdeal.τ) (Cert.ReferenceAdamUpIdeal.main (F := Ideal))) ⟨m', fun _ => 0, g'⟩ (fun r => ∀ c : Dev Cert.ReferenceAdamUpIdeal.nD,
          r.2.mem ((c.tc : Thread Cert.ReferenceAdamUpIdeal.nD Cert.ReferenceAdamUpIdeal.τ).loc Cert.ReferenceAdamUpIdeal.main_v2) = v0 c
          ∧ r.2.mem ((c.tc : Thread Cert.ReferenceAdamUpIdeal.nD Cert.ReferenceAdamUpIdeal.τ).loc Cert.ReferenceAdamUpIdeal.main_v26) = v1 c
          ∧ r.2.mem ((c.tc : Thread Cert.ReferenceAdamUpIdeal.nD Cert.ReferenceAdamUpIdeal.τ).loc Cert.ReferenceAdamUpIdeal.main_v7) = v2 c
          ∧ r.2.mem ((c.tc : Thread Cert.ReferenceAdamUpIdeal.nD Cert.ReferenceAdamUpIdeal.τ).loc Cert.ReferenceAdamUpIdeal.main_v13) = v3 c
          ∧ r.2.mem ((c.tc : Thread Cert.ReferenceAdamUpIdeal.nD Cert.ReferenceAdamUpIdeal.τ).loc Cert.ReferenceAdamUpIdeal.main_arg0) = m' ((c.tc : Thread Cert.ReferenceAdamUpIdeal.nD Cert.ReferenceAdamUpIdeal.τ).loc Cert.ReferenceAdamUpIdeal.main_arg0)
          ∧ r.2.mem ((c.tc : Thread Cert.ReferenceAdamUpIdeal.nD Cert.ReferenceAdamUpIdeal.τ).loc Cert.ReferenceAdamUpIdeal.main_arg1) = m' ((c.tc : Thread Cert.ReferenceAdamUpIdeal.nD Cert.ReferenceAdamUpIdeal.τ).loc Cert.ReferenceAdamUpIdeal.main_arg1)
          ∧ r.2.mem ((c.tc : Thread Cert.ReferenceAdamUpIdeal.nD Cert.ReferenceAdamUpIdeal.τ).loc Cert.ReferenceAdamUpIdeal.main_arg2) = m' ((c.tc : Thread Cert.ReferenceAdamUpIdeal.nD Cert.ReferenceAdamUpIdeal.τ).loc Cert.ReferenceAdamUpIdeal.main_arg2)
          ∧ r.2.mem ((c.tc : Thread Cert.ReferenceAdamUpIdeal.nD Cert.ReferenceAdamUpIdeal.τ).loc Cert.ReferenceAdamUpIdeal.main_arg3) = m' ((c.tc : Thread Cert.ReferenceAdamUpIdeal.nD Cert.ReferenceAdamUpIdeal.τ).loc Cert.ReferenceAdamUpIdeal.main_arg3)
          ∧ r.2.mem ((c.tc : Thread Cert.ReferenceAdamUpIdeal.nD Cert.ReferenceAdamUpIdeal.τ).loc Cert.ReferenceAdamUpIdeal.main_arg4) = m' ((c.tc : Thread Cert.ReferenceAdamUpIdeal.nD Cert.ReferenceAdamUpIdeal.τ).loc Cert.ReferenceAdamUpIdeal.main_arg4))

def preserves_KernelAdamDown_KernelAdamDownIdeal : Prop :=
  True

def algebraic_KernelAdamDownIdeal_ReferenceAdamDownIdeal [hKernelAdamDownIdeal : Cert.KernelAdamDownIdeal.Facts] [hReferenceAdamDownIdeal : Cert.ReferenceAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg)
    (m' : (ℓ : Loc Cert.ReferenceAdamDownIdeal.nD Cert.ReferenceAdamDownIdeal.τ Cert.ReferenceAdamDownIdeal.sig) → Buf (Elt Ideal) ℓ) (g' : Dev Cert.ReferenceAdamDownIdeal.nD → PrngReg), Pre_KernelAdamDownIdeal m →
    (∀ c : Dev Cert.KernelAdamDownIdeal.nD,
      m' ((c.tc : Thread Cert.ReferenceAdamDownIdeal.nD Cert.ReferenceAdamDownIdeal.τ).loc Cert.ReferenceAdamDownIdeal.main_arg0) = m ((c.tc : Thread Cert.KernelAdamDownIdeal.nD Cert.KernelAdamDownIdeal.τ).loc Cert.KernelAdamDownIdeal.main_arg0)
      ∧ m' ((c.tc : Thread Cert.ReferenceAdamDownIdeal.nD Cert.ReferenceAdamDownIdeal.τ).loc Cert.ReferenceAdamDownIdeal.main_arg1) = m ((c.tc : Thread Cert.KernelAdamDownIdeal.nD Cert.KernelAdamDownIdeal.τ).loc Cert.KernelAdamDownIdeal.main_arg1)
      ∧ m' ((c.tc : Thread Cert.ReferenceAdamDownIdeal.nD Cert.ReferenceAdamDownIdeal.τ).loc Cert.ReferenceAdamDownIdeal.main_arg2) = m ((c.tc : Thread Cert.KernelAdamDownIdeal.nD Cert.KernelAdamDownIdeal.τ).loc Cert.KernelAdamDownIdeal.main_arg2)
      ∧ m' ((c.tc : Thread Cert.ReferenceAdamDownIdeal.nD Cert.ReferenceAdamDownIdeal.τ).loc Cert.ReferenceAdamDownIdeal.main_arg3) = m ((c.tc : Thread Cert.KernelAdamDownIdeal.nD Cert.KernelAdamDownIdeal.τ).loc Cert.KernelAdamDownIdeal.main_arg3)
      ∧ m' ((c.tc : Thread Cert.ReferenceAdamDownIdeal.nD Cert.ReferenceAdamDownIdeal.τ).loc Cert.ReferenceAdamDownIdeal.main_arg4) = m ((c.tc : Thread Cert.KernelAdamDownIdeal.nD Cert.KernelAdamDownIdeal.τ).loc Cert.KernelAdamDownIdeal.main_arg4)) →
    ∃ (v0 : (c : Dev Cert.KernelAdamDownIdeal.nD) → Buf (Elt Ideal) ((c.tc : Thread Cert.KernelAdamDownIdeal.nD Cert.KernelAdamDownIdeal.τ).loc Cert.KernelAdamDownIdeal.main_v0_0)) (v1 : (c : Dev Cert.KernelAdamDownIdeal.nD) → Buf (Elt Ideal) ((c.tc : Thread Cert.KernelAdamDownIdeal.nD Cert.KernelAdamDownIdeal.τ).loc Cert.KernelAdamDownIdeal.main_v0_1)) (v2 : (c : Dev Cert.KernelAdamDownIdeal.nD) → Buf (Elt Ideal) ((c.tc : Thread Cert.KernelAdamDownIdeal.nD Cert.KernelAdamDownIdeal.τ).loc Cert.KernelAdamDownIdeal.main_v0_2)) (v3 : (c : Dev Cert.KernelAdamDownIdeal.nD) → Buf (Elt Ideal) ((c.tc : Thread Cert.KernelAdamDownIdeal.nD Cert.KernelAdamDownIdeal.τ).loc Cert.KernelAdamDownIdeal.main_v0_3)),
      θ_run (Cert.KernelAdamDownIdeal.defs (F := Ideal)) (onTc (τ := Cert.KernelAdamDownIdeal.τ) (Cert.KernelAdamDownIdeal.main (F := Ideal))) ⟨m, fun _ => 0, g⟩ (fun r => ∀ c : Dev Cert.KernelAdamDownIdeal.nD,
          r.2.mem ((c.tc : Thread Cert.KernelAdamDownIdeal.nD Cert.KernelAdamDownIdeal.τ).loc Cert.KernelAdamDownIdeal.main_v0_0) = v0 c
          ∧ r.2.mem ((c.tc : Thread Cert.KernelAdamDownIdeal.nD Cert.KernelAdamDownIdeal.τ).loc Cert.KernelAdamDownIdeal.main_v0_1) = v1 c
          ∧ r.2.mem ((c.tc : Thread Cert.KernelAdamDownIdeal.nD Cert.KernelAdamDownIdeal.τ).loc Cert.KernelAdamDownIdeal.main_v0_2) = v2 c
          ∧ r.2.mem ((c.tc : Thread Cert.KernelAdamDownIdeal.nD Cert.KernelAdamDownIdeal.τ).loc Cert.KernelAdamDownIdeal.main_v0_3) = v3 c
          ∧ r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
          ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
          ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
          ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3)
          ∧ r.2.mem ((c.tc : Thread Cert.KernelAdamDownIdeal.nD Cert.KernelAdamDownIdeal.τ).loc Cert.KernelAdamDownIdeal.main_arg4) = m ((c.tc : Thread Cert.KernelAdamDownIdeal.nD Cert.KernelAdamDownIdeal.τ).loc Cert.KernelAdamDownIdeal.main_arg4))
      ∧ θ_run (Cert.ReferenceAdamDownIdeal.defs (F := Ideal)) (onTc (τ := Cert.ReferenceAdamDownIdeal.τ) (Cert.ReferenceAdamDownIdeal.main (F := Ideal))) ⟨m', fun _ => 0, g'⟩ (fun r => ∀ c : Dev Cert.ReferenceAdamDownIdeal.nD,
          r.2.mem ((c.tc : Thread Cert.ReferenceAdamDownIdeal.nD Cert.ReferenceAdamDownIdeal.τ).loc Cert.ReferenceAdamDownIdeal.main_v2) = v0 c
          ∧ r.2.mem ((c.tc : Thread Cert.ReferenceAdamDownIdeal.nD Cert.ReferenceAdamDownIdeal.τ).loc Cert.ReferenceAdamDownIdeal.main_v26) = v1 c
          ∧ r.2.mem ((c.tc : Thread Cert.ReferenceAdamDownIdeal.nD Cert.ReferenceAdamDownIdeal.τ).loc Cert.ReferenceAdamDownIdeal.main_v7) = v2 c
          ∧ r.2.mem ((c.tc : Thread Cert.ReferenceAdamDownIdeal.nD Cert.ReferenceAdamDownIdeal.τ).loc Cert.ReferenceAdamDownIdeal.main_v13) = v3 c
          ∧ r.2.mem ((c.tc : Thread Cert.ReferenceAdamDownIdeal.nD Cert.ReferenceAdamDownIdeal.τ).loc Cert.ReferenceAdamDownIdeal.main_arg0) = m' ((c.tc : Thread Cert.ReferenceAdamDownIdeal.nD Cert.ReferenceAdamDownIdeal.τ).loc Cert.ReferenceAdamDownIdeal.main_arg0)
          ∧ r.2.mem ((c.tc : Thread Cert.ReferenceAdamDownIdeal.nD Cert.ReferenceAdamDownIdeal.τ).loc Cert.ReferenceAdamDownIdeal.main_arg1) = m' ((c.tc : Thread Cert.ReferenceAdamDownIdeal.nD Cert.ReferenceAdamDownIdeal.τ).loc Cert.ReferenceAdamDownIdeal.main_arg1)
          ∧ r.2.mem ((c.tc : Thread Cert.ReferenceAdamDownIdeal.nD Cert.ReferenceAdamDownIdeal.τ).loc Cert.ReferenceAdamDownIdeal.main_arg2) = m' ((c.tc : Thread Cert.ReferenceAdamDownIdeal.nD Cert.ReferenceAdamDownIdeal.τ).loc Cert.ReferenceAdamDownIdeal.main_arg2)
          ∧ r.2.mem ((c.tc : Thread Cert.ReferenceAdamDownIdeal.nD Cert.ReferenceAdamDownIdeal.τ).loc Cert.ReferenceAdamDownIdeal.main_arg3) = m' ((c.tc : Thread Cert.ReferenceAdamDownIdeal.nD Cert.ReferenceAdamDownIdeal.τ).loc Cert.ReferenceAdamDownIdeal.main_arg3)
          ∧ r.2.mem ((c.tc : Thread Cert.ReferenceAdamDownIdeal.nD Cert.ReferenceAdamDownIdeal.τ).loc Cert.ReferenceAdamDownIdeal.main_arg4) = m' ((c.tc : Thread Cert.ReferenceAdamDownIdeal.nD Cert.ReferenceAdamDownIdeal.τ).loc Cert.ReferenceAdamDownIdeal.main_arg4))

def preserves_KernelAdamPacked_KernelAdamPackedIdeal : Prop :=
  True

def algebraic_KernelAdamPackedIdeal_ReferenceAdamPackedIdeal [hKernelAdamPackedIdeal : Cert.KernelAdamPackedIdeal.Facts] [hReferenceAdamPackedIdeal : Cert.ReferenceAdamPackedIdeal.Facts] : Prop :=
  ∀ (m : (ℓ : Loc Cert.KernelAdamPackedIdeal.nD Cert.KernelAdamPackedIdeal.τ Cert.KernelAdamPackedIdeal.sig) → Buf (Elt Ideal) ℓ) (g : Dev Cert.KernelAdamPackedIdeal.nD → PrngReg)
    (m' : (ℓ : Loc Cert.ReferenceAdamPackedIdeal.nD Cert.ReferenceAdamPackedIdeal.τ Cert.ReferenceAdamPackedIdeal.sig) → Buf (Elt Ideal) ℓ) (g' : Dev Cert.ReferenceAdamPackedIdeal.nD → PrngReg), Pre_KernelAdamPackedIdeal m →
    (∀ c : Dev Cert.KernelAdamPackedIdeal.nD,
      m' ((c.tc : Thread Cert.ReferenceAdamPackedIdeal.nD Cert.ReferenceAdamPackedIdeal.τ).loc Cert.ReferenceAdamPackedIdeal.main_arg0) = m ((c.tc : Thread Cert.KernelAdamPackedIdeal.nD Cert.KernelAdamPackedIdeal.τ).loc Cert.KernelAdamPackedIdeal.main_arg0)
      ∧ m' ((c.tc : Thread Cert.ReferenceAdamPackedIdeal.nD Cert.ReferenceAdamPackedIdeal.τ).loc Cert.ReferenceAdamPackedIdeal.main_arg1) = m ((c.tc : Thread Cert.KernelAdamPackedIdeal.nD Cert.KernelAdamPackedIdeal.τ).loc Cert.KernelAdamPackedIdeal.main_arg1)
      ∧ m' ((c.tc : Thread Cert.ReferenceAdamPackedIdeal.nD Cert.ReferenceAdamPackedIdeal.τ).loc Cert.ReferenceAdamPackedIdeal.main_arg2) = m ((c.tc : Thread Cert.KernelAdamPackedIdeal.nD Cert.KernelAdamPackedIdeal.τ).loc Cert.KernelAdamPackedIdeal.main_arg2)
      ∧ m' ((c.tc : Thread Cert.ReferenceAdamPackedIdeal.nD Cert.ReferenceAdamPackedIdeal.τ).loc Cert.ReferenceAdamPackedIdeal.main_arg3) = m ((c.tc : Thread Cert.KernelAdamPackedIdeal.nD Cert.KernelAdamPackedIdeal.τ).loc Cert.KernelAdamPackedIdeal.main_arg3)) →
    ∃ (v0 : (c : Dev Cert.KernelAdamPackedIdeal.nD) → Buf (Elt Ideal) ((c.tc : Thread Cert.KernelAdamPackedIdeal.nD Cert.KernelAdamPackedIdeal.τ).loc Cert.KernelAdamPackedIdeal.main_v1_0)) (v1 : (c : Dev Cert.KernelAdamPackedIdeal.nD) → Buf (Elt Ideal) ((c.tc : Thread Cert.KernelAdamPackedIdeal.nD Cert.KernelAdamPackedIdeal.τ).loc Cert.KernelAdamPackedIdeal.main_v1_1)) (v2 : (c : Dev Cert.KernelAdamPackedIdeal.nD) → Buf (Elt Ideal) ((c.tc : Thread Cert.KernelAdamPackedIdeal.nD Cert.KernelAdamPackedIdeal.τ).loc Cert.KernelAdamPackedIdeal.main_v1_2)) (v3 : (c : Dev Cert.KernelAdamPackedIdeal.nD) → Buf (Elt Ideal) ((c.tc : Thread Cert.KernelAdamPackedIdeal.nD Cert.KernelAdamPackedIdeal.τ).loc Cert.KernelAdamPackedIdeal.main_v1_3)),
      θ_run (Cert.KernelAdamPackedIdeal.defs (F := Ideal)) (onTc (τ := Cert.KernelAdamPackedIdeal.τ) (Cert.KernelAdamPackedIdeal.main (F := Ideal))) ⟨m, fun _ => 0, g⟩ (fun r => ∀ c : Dev Cert.KernelAdamPackedIdeal.nD,
          r.2.mem ((c.tc : Thread Cert.KernelAdamPackedIdeal.nD Cert.KernelAdamPackedIdeal.τ).loc Cert.KernelAdamPackedIdeal.main_v1_0) = v0 c
          ∧ r.2.mem ((c.tc : Thread Cert.KernelAdamPackedIdeal.nD Cert.KernelAdamPackedIdeal.τ).loc Cert.KernelAdamPackedIdeal.main_v1_1) = v1 c
          ∧ r.2.mem ((c.tc : Thread Cert.KernelAdamPackedIdeal.nD Cert.KernelAdamPackedIdeal.τ).loc Cert.KernelAdamPackedIdeal.main_v1_2) = v2 c
          ∧ r.2.mem ((c.tc : Thread Cert.KernelAdamPackedIdeal.nD Cert.KernelAdamPackedIdeal.τ).loc Cert.KernelAdamPackedIdeal.main_v1_3) = v3 c
          ∧ r.2.mem ((c.tc : Thread Cert.KernelAdamPackedIdeal.nD Cert.KernelAdamPackedIdeal.τ).loc Cert.KernelAdamPackedIdeal.main_arg0) = m ((c.tc : Thread Cert.KernelAdamPackedIdeal.nD Cert.KernelAdamPackedIdeal.τ).loc Cert.KernelAdamPackedIdeal.main_arg0)
          ∧ r.2.mem ((c.tc : Thread Cert.KernelAdamPackedIdeal.nD Cert.KernelAdamPackedIdeal.τ).loc Cert.KernelAdamPackedIdeal.main_arg1) = m ((c.tc : Thread Cert.KernelAdamPackedIdeal.nD Cert.KernelAdamPackedIdeal.τ).loc Cert.KernelAdamPackedIdeal.main_arg1)
          ∧ r.2.mem ((c.tc : Thread Cert.KernelAdamPackedIdeal.nD Cert.KernelAdamPackedIdeal.τ).loc Cert.KernelAdamPackedIdeal.main_arg2) = m ((c.tc : Thread Cert.KernelAdamPackedIdeal.nD Cert.KernelAdamPackedIdeal.τ).loc Cert.KernelAdamPackedIdeal.main_arg2)
          ∧ r.2.mem ((c.tc : Thread Cert.KernelAdamPackedIdeal.nD Cert.KernelAdamPackedIdeal.τ).loc Cert.KernelAdamPackedIdeal.main_arg3) = m ((c.tc : Thread Cert.KernelAdamPackedIdeal.nD Cert.KernelAdamPackedIdeal.τ).loc Cert.KernelAdamPackedIdeal.main_arg3))
      ∧ θ_run (Cert.ReferenceAdamPackedIdeal.defs (F := Ideal)) (onTc (τ := Cert.ReferenceAdamPackedIdeal.τ) (Cert.ReferenceAdamPackedIdeal.main (F := Ideal))) ⟨m', fun _ => 0, g'⟩ (fun r => ∀ c : Dev Cert.ReferenceAdamPackedIdeal.nD,
          r.2.mem ((c.tc : Thread Cert.ReferenceAdamPackedIdeal.nD Cert.ReferenceAdamPackedIdeal.τ).loc Cert.ReferenceAdamPackedIdeal.main_arg1) = v0 c
          ∧ r.2.mem ((c.tc : Thread Cert.ReferenceAdamPackedIdeal.nD Cert.ReferenceAdamPackedIdeal.τ).loc Cert.ReferenceAdamPackedIdeal.main_v23) = v1 c
          ∧ r.2.mem ((c.tc : Thread Cert.ReferenceAdamPackedIdeal.nD Cert.ReferenceAdamPackedIdeal.τ).loc Cert.ReferenceAdamPackedIdeal.main_v4) = v2 c
          ∧ r.2.mem ((c.tc : Thread Cert.ReferenceAdamPackedIdeal.nD Cert.ReferenceAdamPackedIdeal.τ).loc Cert.ReferenceAdamPackedIdeal.main_v10) = v3 c
          ∧ r.2.mem ((c.tc : Thread Cert.ReferenceAdamPackedIdeal.nD Cert.ReferenceAdamPackedIdeal.τ).loc Cert.ReferenceAdamPackedIdeal.main_arg0) = m' ((c.tc : Thread Cert.ReferenceAdamPackedIdeal.nD Cert.ReferenceAdamPackedIdeal.τ).loc Cert.ReferenceAdamPackedIdeal.main_arg0)
          ∧ r.2.mem ((c.tc : Thread Cert.ReferenceAdamPackedIdeal.nD Cert.ReferenceAdamPackedIdeal.τ).loc Cert.ReferenceAdamPackedIdeal.main_arg1) = m' ((c.tc : Thread Cert.ReferenceAdamPackedIdeal.nD Cert.ReferenceAdamPackedIdeal.τ).loc Cert.ReferenceAdamPackedIdeal.main_arg1)
          ∧ r.2.mem ((c.tc : Thread Cert.ReferenceAdamPackedIdeal.nD Cert.ReferenceAdamPackedIdeal.τ).loc Cert.ReferenceAdamPackedIdeal.main_arg2) = m' ((c.tc : Thread Cert.ReferenceAdamPackedIdeal.nD Cert.ReferenceAdamPackedIdeal.τ).loc Cert.ReferenceAdamPackedIdeal.main_arg2)
          ∧ r.2.mem ((c.tc : Thread Cert.ReferenceAdamPackedIdeal.nD Cert.ReferenceAdamPackedIdeal.τ).loc Cert.ReferenceAdamPackedIdeal.main_arg3) = m' ((c.tc : Thread Cert.ReferenceAdamPackedIdeal.nD Cert.ReferenceAdamPackedIdeal.τ).loc Cert.ReferenceAdamPackedIdeal.main_arg3))

def preserves_KernelNormMod_KernelNormModIdeal : Prop :=
  True

def algebraic_KernelNormModIdeal_ReferenceNormModIdeal [hKernelNormModIdeal : Cert.KernelNormModIdeal.Facts] [hReferenceNormModIdeal : Cert.ReferenceNormModIdeal.Facts] : Prop :=
  ∀ (m : (ℓ : Loc Cert.KernelNormModIdeal.nD Cert.KernelNormModIdeal.τ Cert.KernelNormModIdeal.sig) → Buf (Elt Ideal) ℓ) (g : Dev Cert.KernelNormModIdeal.nD → PrngReg)
    (m' : (ℓ : Loc Cert.ReferenceNormModIdeal.nD Cert.ReferenceNormModIdeal.τ Cert.ReferenceNormModIdeal.sig) → Buf (Elt Ideal) ℓ) (g' : Dev Cert.ReferenceNormModIdeal.nD → PrngReg), Pre_KernelNormModIdeal m →
    (∀ c : Dev Cert.KernelNormModIdeal.nD,
      m' ((c.tc : Thread Cert.ReferenceNormModIdeal.nD Cert.ReferenceNormModIdeal.τ).loc Cert.ReferenceNormModIdeal.main_arg0) = m ((c.tc : Thread Cert.KernelNormModIdeal.nD Cert.KernelNormModIdeal.τ).loc Cert.KernelNormModIdeal.main_arg0)
      ∧ m' ((c.tc : Thread Cert.ReferenceNormModIdeal.nD Cert.ReferenceNormModIdeal.τ).loc Cert.ReferenceNormModIdeal.main_arg1) = m ((c.tc : Thread Cert.KernelNormModIdeal.nD Cert.KernelNormModIdeal.τ).loc Cert.KernelNormModIdeal.main_arg1)
      ∧ m' ((c.tc : Thread Cert.ReferenceNormModIdeal.nD Cert.ReferenceNormModIdeal.τ).loc Cert.ReferenceNormModIdeal.main_arg2) = m ((c.tc : Thread Cert.KernelNormModIdeal.nD Cert.KernelNormModIdeal.τ).loc Cert.KernelNormModIdeal.main_arg2)) →
    ∃ (v0 : (c : Dev Cert.KernelNormModIdeal.nD) → Buf (Elt Ideal) ((c.tc : Thread Cert.KernelNormModIdeal.nD Cert.KernelNormModIdeal.τ).loc Cert.KernelNormModIdeal.main_v1)),
      θ_run (Cert.KernelNormModIdeal.defs (F := Ideal)) (onTc (τ := Cert.KernelNormModIdeal.τ) (Cert.KernelNormModIdeal.main (F := Ideal))) ⟨m, fun _ => 0, g⟩ (fun r => ∀ c : Dev Cert.KernelNormModIdeal.nD,
          r.2.mem ((c.tc : Thread Cert.KernelNormModIdeal.nD Cert.KernelNormModIdeal.τ).loc Cert.KernelNormModIdeal.main_v1) = v0 c
          ∧ r.2.mem ((c.tc : Thread Cert.KernelNormModIdeal.nD Cert.KernelNormModIdeal.τ).loc Cert.KernelNormModIdeal.main_arg0) = m ((c.tc : Thread Cert.KernelNormModIdeal.nD Cert.KernelNormModIdeal.τ).loc Cert.KernelNormModIdeal.main_arg0)
          ∧ r.2.mem ((c.tc : Thread Cert.KernelNormModIdeal.nD Cert.KernelNormModIdeal.τ).loc Cert.KernelNormModIdeal.main_arg1) = m ((c.tc : Thread Cert.KernelNormModIdeal.nD Cert.KernelNormModIdeal.τ).loc Cert.KernelNormModIdeal.main_arg1)
          ∧ r.2.mem ((c.tc : Thread Cert.KernelNormModIdeal.nD Cert.KernelNormModIdeal.τ).loc Cert.KernelNormModIdeal.main_arg2) = m ((c.tc : Thread Cert.KernelNormModIdeal.nD Cert.KernelNormModIdeal.τ).loc Cert.KernelNormModIdeal.main_arg2))
      ∧ θ_run (Cert.ReferenceNormModIdeal.defs (F := Ideal)) (onTc (τ := Cert.ReferenceNormModIdeal.τ) (Cert.ReferenceNormModIdeal.main (F := Ideal))) ⟨m', fun _ => 0, g'⟩ (fun r => ∀ c : Dev Cert.ReferenceNormModIdeal.nD,
          r.2.mem ((c.tc : Thread Cert.ReferenceNormModIdeal.nD Cert.ReferenceNormModIdeal.τ).loc Cert.ReferenceNormModIdeal.main_v73) = v0 c
          ∧ r.2.mem ((c.tc : Thread Cert.ReferenceNormModIdeal.nD Cert.ReferenceNormModIdeal.τ).loc Cert.ReferenceNormModIdeal.main_arg0) = m' ((c.tc : Thread Cert.ReferenceNormModIdeal.nD Cert.ReferenceNormModIdeal.τ).loc Cert.ReferenceNormModIdeal.main_arg0)
          ∧ r.2.mem ((c.tc : Thread Cert.ReferenceNormModIdeal.nD Cert.ReferenceNormModIdeal.τ).loc Cert.ReferenceNormModIdeal.main_arg1) = m' ((c.tc : Thread Cert.ReferenceNormModIdeal.nD Cert.ReferenceNormModIdeal.τ).loc Cert.ReferenceNormModIdeal.main_arg1)
          ∧ r.2.mem ((c.tc : Thread Cert.ReferenceNormModIdeal.nD Cert.ReferenceNormModIdeal.τ).loc Cert.ReferenceNormModIdeal.main_arg2) = m' ((c.tc : Thread Cert.ReferenceNormModIdeal.nD Cert.ReferenceNormModIdeal.τ).loc Cert.ReferenceNormModIdeal.main_arg2))

def preserves_KernelDwAda_KernelDwAdaIdeal : Prop :=
  True

def algebraic_KernelDwAdaIdeal_ReferenceDwAdaIdeal [hKernelDwAdaIdeal : Cert.KernelDwAdaIdeal.Facts] [hReferenceDwAdaIdeal : Cert.ReferenceDwAdaIdeal.Facts] : Prop :=
  ∀ (m : (ℓ : Loc Cert.KernelDwAdaIdeal.nD Cert.KernelDwAdaIdeal.τ Cert.KernelDwAdaIdeal.sig) → Buf (Elt Ideal) ℓ) (g : Dev Cert.KernelDwAdaIdeal.nD → PrngReg)
    (m' : (ℓ : Loc Cert.ReferenceDwAdaIdeal.nD Cert.ReferenceDwAdaIdeal.τ Cert.ReferenceDwAdaIdeal.sig) → Buf (Elt Ideal) ℓ) (g' : Dev Cert.ReferenceDwAdaIdeal.nD → PrngReg), Pre_KernelDwAdaIdeal m →
    (∀ c : Dev Cert.KernelDwAdaIdeal.nD,
      m' ((c.tc : Thread Cert.ReferenceDwAdaIdeal.nD Cert.ReferenceDwAdaIdeal.τ).loc Cert.ReferenceDwAdaIdeal.main_arg0) = m ((c.tc : Thread Cert.KernelDwAdaIdeal.nD Cert.KernelDwAdaIdeal.τ).loc Cert.KernelDwAdaIdeal.main_arg0)
      ∧ m' ((c.tc : Thread Cert.ReferenceDwAdaIdeal.nD Cert.ReferenceDwAdaIdeal.τ).loc Cert.ReferenceDwAdaIdeal.main_arg1) = m ((c.tc : Thread Cert.KernelDwAdaIdeal.nD Cert.KernelDwAdaIdeal.τ).loc Cert.KernelDwAdaIdeal.main_arg1)) →
    ∃ (v0 : (c : Dev Cert.KernelDwAdaIdeal.nD) → Buf (Elt Ideal) ((c.tc : Thread Cert.KernelDwAdaIdeal.nD Cert.KernelDwAdaIdeal.τ).loc Cert.KernelDwAdaIdeal.main_v0)),
      θ_run (Cert.KernelDwAdaIdeal.defs (F := Ideal)) (onTc (τ := Cert.KernelDwAdaIdeal.τ) (Cert.KernelDwAdaIdeal.main (F := Ideal))) ⟨m, fun _ => 0, g⟩ (fun r => ∀ c : Dev Cert.KernelDwAdaIdeal.nD,
          r.2.mem ((c.tc : Thread Cert.KernelDwAdaIdeal.nD Cert.KernelDwAdaIdeal.τ).loc Cert.KernelDwAdaIdeal.main_v0) = v0 c
          ∧ r.2.mem ((c.tc : Thread Cert.KernelDwAdaIdeal.nD Cert.KernelDwAdaIdeal.τ).loc Cert.KernelDwAdaIdeal.main_arg0) = m ((c.tc : Thread Cert.KernelDwAdaIdeal.nD Cert.KernelDwAdaIdeal.τ).loc Cert.KernelDwAdaIdeal.main_arg0)
          ∧ r.2.mem ((c.tc : Thread Cert.KernelDwAdaIdeal.nD Cert.KernelDwAdaIdeal.τ).loc Cert.KernelDwAdaIdeal.main_arg1) = m ((c.tc : Thread Cert.KernelDwAdaIdeal.nD Cert.KernelDwAdaIdeal.τ).loc Cert.KernelDwAdaIdeal.main_arg1))
      ∧ θ_run (Cert.ReferenceDwAdaIdeal.defs (F := Ideal)) (onTc (τ := Cert.ReferenceDwAdaIdeal.τ) (Cert.ReferenceDwAdaIdeal.main (F := Ideal))) ⟨m', fun _ => 0, g'⟩ (fun r => ∀ c : Dev Cert.ReferenceDwAdaIdeal.nD,
          r.2.mem ((c.tc : Thread Cert.ReferenceDwAdaIdeal.nD Cert.ReferenceDwAdaIdeal.τ).loc Cert.ReferenceDwAdaIdeal.main_v5) = v0 c
          ∧ r.2.mem ((c.tc : Thread Cert.ReferenceDwAdaIdeal.nD Cert.ReferenceDwAdaIdeal.τ).loc Cert.ReferenceDwAdaIdeal.main_arg0) = m' ((c.tc : Thread Cert.ReferenceDwAdaIdeal.nD Cert.ReferenceDwAdaIdeal.τ).loc Cert.ReferenceDwAdaIdeal.main_arg0)
          ∧ r.2.mem ((c.tc : Thread Cert.ReferenceDwAdaIdeal.nD Cert.ReferenceDwAdaIdeal.τ).loc Cert.ReferenceDwAdaIdeal.main_arg1) = m' ((c.tc : Thread Cert.ReferenceDwAdaIdeal.nD Cert.ReferenceDwAdaIdeal.τ).loc Cert.ReferenceDwAdaIdeal.main_arg1))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)) →
    ∃ (v0 : (c : Dev Cert.KernelLossIdeal.nD) → Buf (Elt Ideal) ((c.tc : Thread Cert.KernelLossIdeal.nD Cert.KernelLossIdeal.τ).loc Cert.KernelLossIdeal.main_v1_0)) (v1 : (c : Dev Cert.KernelLossIdeal.nD) → Buf (Elt Ideal) ((c.tc : Thread Cert.KernelLossIdeal.nD Cert.KernelLossIdeal.τ).loc Cert.KernelLossIdeal.main_v1_1)) (v2 : (c : Dev Cert.KernelLossIdeal.nD) → Buf (Elt Ideal) ((c.tc : Thread Cert.KernelLossIdeal.nD Cert.KernelLossIdeal.τ).loc Cert.KernelLossIdeal.main_v1_2)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v1_0) = v0 c
          ∧ r.2.mem ((c.tc : Thread Cert.KernelLossIdeal.nD Cert.KernelLossIdeal.τ).loc Cert.KernelLossIdeal.main_v1_1) = v1 c
          ∧ r.2.mem ((c.tc : Thread Cert.KernelLossIdeal.nD Cert.KernelLossIdeal.τ).loc Cert.KernelLossIdeal.main_v1_2) = v2 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v52) = v0 c
          ∧ r.2.mem ((c.tc : Thread Cert.ReferenceLossIdeal.nD Cert.ReferenceLossIdeal.τ).loc Cert.ReferenceLossIdeal.main_v53) = v1 c
          ∧ r.2.mem ((c.tc : Thread Cert.ReferenceLossIdeal.nD Cert.ReferenceLossIdeal.τ).loc Cert.ReferenceLossIdeal.main_v54) = v2 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2))

def preserves_KernelMod_KernelModIdeal : Prop :=
  True

def algebraic_KernelModIdeal_ReferenceModIdeal [hKernelModIdeal : Cert.KernelModIdeal.Facts] [hReferenceModIdeal : Cert.ReferenceModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg)
    (m' : (ℓ : Loc Cert.ReferenceModIdeal.nD Cert.ReferenceModIdeal.τ Cert.ReferenceModIdeal.sig) → Buf (Elt Ideal) ℓ) (g' : Dev Cert.ReferenceModIdeal.nD → PrngReg), Pre_KernelModIdeal m →
    (∀ c : Dev Cert.KernelModIdeal.nD,
      m' ((c.tc : Thread Cert.ReferenceModIdeal.nD Cert.ReferenceModIdeal.τ).loc Cert.ReferenceModIdeal.main_arg0) = m ((c.tc : Thread Cert.KernelModIdeal.nD Cert.KernelModIdeal.τ).loc Cert.KernelModIdeal.main_arg0)
      ∧ m' ((c.tc : Thread Cert.ReferenceModIdeal.nD Cert.ReferenceModIdeal.τ).loc Cert.ReferenceModIdeal.main_arg1) = m ((c.tc : Thread Cert.KernelModIdeal.nD Cert.KernelModIdeal.τ).loc Cert.KernelModIdeal.main_arg1)
      ∧ m' ((c.tc : Thread Cert.ReferenceModIdeal.nD Cert.ReferenceModIdeal.τ).loc Cert.ReferenceModIdeal.main_arg2) = m ((c.tc : Thread Cert.KernelModIdeal.nD Cert.KernelModIdeal.τ).loc Cert.KernelModIdeal.main_arg2)) →
    ∃ (v0 : (c : Dev Cert.KernelModIdeal.nD) → Buf (Elt Ideal) ((c.tc : Thread Cert.KernelModIdeal.nD Cert.KernelModIdeal.τ).loc Cert.KernelModIdeal.main_v4_0)) (v1 : (c : Dev Cert.KernelModIdeal.nD) → Buf (Elt Ideal) ((c.tc : Thread Cert.KernelModIdeal.nD Cert.KernelModIdeal.τ).loc Cert.KernelModIdeal.main_v4_1)),
      θ_run (Cert.KernelModIdeal.defs (F := Ideal)) (onTc (τ := Cert.KernelModIdeal.τ) (Cert.KernelModIdeal.main (F := Ideal))) ⟨m, fun _ => 0, g⟩ (fun r => ∀ c : Dev Cert.KernelModIdeal.nD,
          r.2.mem ((c.tc : Thread Cert.KernelModIdeal.nD Cert.KernelModIdeal.τ).loc Cert.KernelModIdeal.main_v4_0) = v0 c
          ∧ r.2.mem ((c.tc : Thread Cert.KernelModIdeal.nD Cert.KernelModIdeal.τ).loc Cert.KernelModIdeal.main_v4_1) = v1 c
          ∧ r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
          ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
          ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2))
      ∧ θ_run (Cert.ReferenceModIdeal.defs (F := Ideal)) (onTc (τ := Cert.ReferenceModIdeal.τ) (Cert.ReferenceModIdeal.main (F := Ideal))) ⟨m', fun _ => 0, g'⟩ (fun r => ∀ c : Dev Cert.ReferenceModIdeal.nD,
          r.2.mem ((c.tc : Thread Cert.ReferenceModIdeal.nD Cert.ReferenceModIdeal.τ).loc Cert.ReferenceModIdeal.main_v4) = v0 c
          ∧ r.2.mem ((c.tc : Thread Cert.ReferenceModIdeal.nD Cert.ReferenceModIdeal.τ).loc Cert.ReferenceModIdeal.main_v6) = v1 c
          ∧ r.2.mem ((c.tc : Thread Cert.ReferenceModIdeal.nD Cert.ReferenceModIdeal.τ).loc Cert.ReferenceModIdeal.main_arg0) = m' ((c.tc : Thread Cert.ReferenceModIdeal.nD Cert.ReferenceModIdeal.τ).loc Cert.ReferenceModIdeal.main_arg0)
          ∧ r.2.mem ((c.tc : Thread Cert.ReferenceModIdeal.nD Cert.ReferenceModIdeal.τ).loc Cert.ReferenceModIdeal.main_arg1) = m' ((c.tc : Thread Cert.ReferenceModIdeal.nD Cert.ReferenceModIdeal.τ).loc Cert.ReferenceModIdeal.main_arg1)
          ∧ r.2.mem ((c.tc : Thread Cert.ReferenceModIdeal.nD Cert.ReferenceModIdeal.τ).loc Cert.ReferenceModIdeal.main_arg2) = m' ((c.tc : Thread Cert.ReferenceModIdeal.nD Cert.ReferenceModIdeal.τ).loc Cert.ReferenceModIdeal.main_arg2))

def preserves_KernelCvecBwd_KernelCvecBwdIdeal : Prop :=
  True

def algebraic_KernelCvecBwdIdeal_ReferenceCvecBwdIdeal_pre_finite_cvec [hKernelCvecBwdIdeal : Cert.KernelCvecBwdIdeal.Facts] [hReferenceCvecBwdIdeal : Cert.ReferenceCvecBwdIdeal.Facts] [hPre_finite_cvec : Cert.Pre_finite_cvec.Facts] : Prop :=
  ∀ (m : (ℓ : Loc Cert.KernelCvecBwdIdeal.nD Cert.KernelCvecBwdIdeal.τ Cert.KernelCvecBwdIdeal.sig) → Buf (Elt Ideal) ℓ) (g : Dev Cert.KernelCvecBwdIdeal.nD → PrngReg)
    (m' : (ℓ : Loc Cert.ReferenceCvecBwdIdeal.nD Cert.ReferenceCvecBwdIdeal.τ Cert.ReferenceCvecBwdIdeal.sig) → Buf (Elt Ideal) ℓ) (g' : Dev Cert.ReferenceCvecBwdIdeal.nD → PrngReg), Pre_KernelCvecBwdIdeal_finite_cvec m →
    (∀ c : Dev Cert.KernelCvecBwdIdeal.nD,
      m' ((c.tc : Thread Cert.ReferenceCvecBwdIdeal.nD Cert.ReferenceCvecBwdIdeal.τ).loc Cert.ReferenceCvecBwdIdeal.main_arg0) = m ((c.tc : Thread Cert.KernelCvecBwdIdeal.nD Cert.KernelCvecBwdIdeal.τ).loc Cert.KernelCvecBwdIdeal.main_arg0)
      ∧ m' ((c.tc : Thread Cert.ReferenceCvecBwdIdeal.nD Cert.ReferenceCvecBwdIdeal.τ).loc Cert.ReferenceCvecBwdIdeal.main_arg1) = m ((c.tc : Thread Cert.KernelCvecBwdIdeal.nD Cert.KernelCvecBwdIdeal.τ).loc Cert.KernelCvecBwdIdeal.main_arg1)
      ∧ m' ((c.tc : Thread Cert.ReferenceCvecBwdIdeal.nD Cert.ReferenceCvecBwdIdeal.τ).loc Cert.ReferenceCvecBwdIdeal.main_arg2) = m ((c.tc : Thread Cert.KernelCvecBwdIdeal.nD Cert.KernelCvecBwdIdeal.τ).loc Cert.KernelCvecBwdIdeal.main_arg2)) →
    ∃ (v0 : (c : Dev Cert.KernelCvecBwdIdeal.nD) → Buf (Elt Ideal) ((c.tc : Thread Cert.KernelCvecBwdIdeal.nD Cert.KernelCvecBwdIdeal.τ).loc Cert.KernelCvecBwdIdeal.main_v3)),
      θ_run (Cert.KernelCvecBwdIdeal.defs (F := Ideal)) (onTc (τ := Cert.KernelCvecBwdIdeal.τ) (Cert.KernelCvecBwdIdeal.main (F := Ideal))) ⟨m, fun _ => 0, g⟩ (fun r => ∀ c : Dev Cert.KernelCvecBwdIdeal.nD,
          r.2.mem ((c.tc : Thread Cert.KernelCvecBwdIdeal.nD Cert.KernelCvecBwdIdeal.τ).loc Cert.KernelCvecBwdIdeal.main_v3) = v0 c
          ∧ r.2.mem ((c.tc : Thread Cert.KernelCvecBwdIdeal.nD Cert.KernelCvecBwdIdeal.τ).loc Cert.KernelCvecBwdIdeal.main_arg0) = m ((c.tc : Thread Cert.KernelCvecBwdIdeal.nD Cert.KernelCvecBwdIdeal.τ).loc Cert.KernelCvecBwdIdeal.main_arg0)
          ∧ r.2.mem ((c.tc : Thread Cert.KernelCvecBwdIdeal.nD Cert.KernelCvecBwdIdeal.τ).loc Cert.KernelCvecBwdIdeal.main_arg1) = m ((c.tc : Thread Cert.KernelCvecBwdIdeal.nD Cert.KernelCvecBwdIdeal.τ).loc Cert.KernelCvecBwdIdeal.main_arg1)
          ∧ r.2.mem ((c.tc : Thread Cert.KernelCvecBwdIdeal.nD Cert.KernelCvecBwdIdeal.τ).loc Cert.KernelCvecBwdIdeal.main_arg2) = m ((c.tc : Thread Cert.KernelCvecBwdIdeal.nD Cert.KernelCvecBwdIdeal.τ).loc Cert.KernelCvecBwdIdeal.main_arg2))
      ∧ θ_run (Cert.ReferenceCvecBwdIdeal.defs (F := Ideal)) (onTc (τ := Cert.ReferenceCvecBwdIdeal.τ) (Cert.ReferenceCvecBwdIdeal.main (F := Ideal))) ⟨m', fun _ => 0, g'⟩ (fun r => ∀ c : Dev Cert.ReferenceCvecBwdIdeal.nD,
          r.2.mem ((c.tc : Thread Cert.ReferenceCvecBwdIdeal.nD Cert.ReferenceCvecBwdIdeal.τ).loc Cert.ReferenceCvecBwdIdeal.main_v3) = v0 c
          ∧ r.2.mem ((c.tc : Thread Cert.ReferenceCvecBwdIdeal.nD Cert.ReferenceCvecBwdIdeal.τ).loc Cert.ReferenceCvecBwdIdeal.main_arg0) = m' ((c.tc : Thread Cert.ReferenceCvecBwdIdeal.nD Cert.ReferenceCvecBwdIdeal.τ).loc Cert.ReferenceCvecBwdIdeal.main_arg0)
          ∧ r.2.mem ((c.tc : Thread Cert.ReferenceCvecBwdIdeal.nD Cert.ReferenceCvecBwdIdeal.τ).loc Cert.ReferenceCvecBwdIdeal.main_arg1) = m' ((c.tc : Thread Cert.ReferenceCvecBwdIdeal.nD Cert.ReferenceCvecBwdIdeal.τ).loc Cert.ReferenceCvecBwdIdeal.main_arg1)
          ∧ r.2.mem ((c.tc : Thread Cert.ReferenceCvecBwdIdeal.nD Cert.ReferenceCvecBwdIdeal.τ).loc Cert.ReferenceCvecBwdIdeal.main_arg2) = m' ((c.tc : Thread Cert.ReferenceCvecBwdIdeal.nD Cert.ReferenceCvecBwdIdeal.τ).loc Cert.ReferenceCvecBwdIdeal.main_arg2))

def preserves_KernelNormBwd_KernelNormBwdIdeal : Prop :=
  True

def algebraic_KernelNormBwdIdeal_ReferenceNormBwdIdeal [hKernelNormBwdIdeal : Cert.KernelNormBwdIdeal.Facts] [hReferenceNormBwdIdeal : Cert.ReferenceNormBwdIdeal.Facts] : Prop :=
  ∀ (m : (ℓ : Loc Cert.KernelNormBwdIdeal.nD Cert.KernelNormBwdIdeal.τ Cert.KernelNormBwdIdeal.sig) → Buf (Elt Ideal) ℓ) (g : Dev Cert.KernelNormBwdIdeal.nD → PrngReg)
    (m' : (ℓ : Loc Cert.ReferenceNormBwdIdeal.nD Cert.ReferenceNormBwdIdeal.τ Cert.ReferenceNormBwdIdeal.sig) → Buf (Elt Ideal) ℓ) (g' : Dev Cert.ReferenceNormBwdIdeal.nD → PrngReg), Pre_KernelNormBwdIdeal m →
    (∀ c : Dev Cert.KernelNormBwdIdeal.nD,
      m' ((c.tc : Thread Cert.ReferenceNormBwdIdeal.nD Cert.ReferenceNormBwdIdeal.τ).loc Cert.ReferenceNormBwdIdeal.main_arg0) = m ((c.tc : Thread Cert.KernelNormBwdIdeal.nD Cert.KernelNormBwdIdeal.τ).loc Cert.KernelNormBwdIdeal.main_arg0)
      ∧ m' ((c.tc : Thread Cert.ReferenceNormBwdIdeal.nD Cert.ReferenceNormBwdIdeal.τ).loc Cert.ReferenceNormBwdIdeal.main_arg1) = m ((c.tc : Thread Cert.KernelNormBwdIdeal.nD Cert.KernelNormBwdIdeal.τ).loc Cert.KernelNormBwdIdeal.main_arg1)
      ∧ m' ((c.tc : Thread Cert.ReferenceNormBwdIdeal.nD Cert.ReferenceNormBwdIdeal.τ).loc Cert.ReferenceNormBwdIdeal.main_arg2) = m ((c.tc : Thread Cert.KernelNormBwdIdeal.nD Cert.KernelNormBwdIdeal.τ).loc Cert.KernelNormBwdIdeal.main_arg2)
      ∧ m' ((c.tc : Thread Cert.ReferenceNormBwdIdeal.nD Cert.ReferenceNormBwdIdeal.τ).loc Cert.ReferenceNormBwdIdeal.main_arg3) = m ((c.tc : Thread Cert.KernelNormBwdIdeal.nD Cert.KernelNormBwdIdeal.τ).loc Cert.KernelNormBwdIdeal.main_arg3)
      ∧ m' ((c.tc : Thread Cert.ReferenceNormBwdIdeal.nD Cert.ReferenceNormBwdIdeal.τ).loc Cert.ReferenceNormBwdIdeal.main_arg4) = m ((c.tc : Thread Cert.KernelNormBwdIdeal.nD Cert.KernelNormBwdIdeal.τ).loc Cert.KernelNormBwdIdeal.main_arg4)) →
    ∃ (v0 : (c : Dev Cert.KernelNormBwdIdeal.nD) → Buf (Elt Ideal) ((c.tc : Thread Cert.KernelNormBwdIdeal.nD Cert.KernelNormBwdIdeal.τ).loc Cert.KernelNormBwdIdeal.main_v1_0)) (v1 : (c : Dev Cert.KernelNormBwdIdeal.nD) → Buf (Elt Ideal) ((c.tc : Thread Cert.KernelNormBwdIdeal.nD Cert.KernelNormBwdIdeal.τ).loc Cert.KernelNormBwdIdeal.main_v1_1)) (v2 : (c : Dev Cert.KernelNormBwdIdeal.nD) → Buf (Elt Ideal) ((c.tc : Thread Cert.KernelNormBwdIdeal.nD Cert.KernelNormBwdIdeal.τ).loc Cert.KernelNormBwdIdeal.main_v1_2)),
      θ_run (Cert.KernelNormBwdIdeal.defs (F := Ideal)) (onTc (τ := Cert.KernelNormBwdIdeal.τ) (Cert.KernelNormBwdIdeal.main (F := Ideal))) ⟨m, fun _ => 0, g⟩ (fun r => ∀ c : Dev Cert.KernelNormBwdIdeal.nD,
          r.2.mem ((c.tc : Thread Cert.KernelNormBwdIdeal.nD Cert.KernelNormBwdIdeal.τ).loc Cert.KernelNormBwdIdeal.main_v1_0) = v0 c
          ∧ r.2.mem ((c.tc : Thread Cert.KernelNormBwdIdeal.nD Cert.KernelNormBwdIdeal.τ).loc Cert.KernelNormBwdIdeal.main_v1_1) = v1 c
          ∧ r.2.mem ((c.tc : Thread Cert.KernelNormBwdIdeal.nD Cert.KernelNormBwdIdeal.τ).loc Cert.KernelNormBwdIdeal.main_v1_2) = v2 c
          ∧ r.2.mem ((c.tc : Thread Cert.KernelNormBwdIdeal.nD Cert.KernelNormBwdIdeal.τ).loc Cert.KernelNormBwdIdeal.main_arg0) = m ((c.tc : Thread Cert.KernelNormBwdIdeal.nD Cert.KernelNormBwdIdeal.τ).loc Cert.KernelNormBwdIdeal.main_arg0)
          ∧ r.2.mem ((c.tc : Thread Cert.KernelNormBwdIdeal.nD Cert.KernelNormBwdIdeal.τ).loc Cert.KernelNormBwdIdeal.main_arg1) = m ((c.tc : Thread Cert.KernelNormBwdIdeal.nD Cert.KernelNormBwdIdeal.τ).loc Cert.KernelNormBwdIdeal.main_arg1)
          ∧ r.2.mem ((c.tc : Thread Cert.KernelNormBwdIdeal.nD Cert.KernelNormBwdIdeal.τ).loc Cert.KernelNormBwdIdeal.main_arg2) = m ((c.tc : Thread Cert.KernelNormBwdIdeal.nD Cert.KernelNormBwdIdeal.τ).loc Cert.KernelNormBwdIdeal.main_arg2)
          ∧ r.2.mem ((c.tc : Thread Cert.KernelNormBwdIdeal.nD Cert.KernelNormBwdIdeal.τ).loc Cert.KernelNormBwdIdeal.main_arg3) = m ((c.tc : Thread Cert.KernelNormBwdIdeal.nD Cert.KernelNormBwdIdeal.τ).loc Cert.KernelNormBwdIdeal.main_arg3)
          ∧ r.2.mem ((c.tc : Thread Cert.KernelNormBwdIdeal.nD Cert.KernelNormBwdIdeal.τ).loc Cert.KernelNormBwdIdeal.main_arg4) = m ((c.tc : Thread Cert.KernelNormBwdIdeal.nD Cert.KernelNormBwdIdeal.τ).loc Cert.KernelNormBwdIdeal.main_arg4))
      ∧ θ_run (Cert.ReferenceNormBwdIdeal.defs (F := Ideal)) (onTc (τ := Cert.ReferenceNormBwdIdeal.τ) (Cert.ReferenceNormBwdIdeal.main (F := Ideal))) ⟨m', fun _ => 0, g'⟩ (fun r => ∀ c : Dev Cert.ReferenceNormBwdIdeal.nD,
          r.2.mem ((c.tc : Thread Cert.ReferenceNormBwdIdeal.nD Cert.ReferenceNormBwdIdeal.τ).loc Cert.ReferenceNormBwdIdeal.main_v97) = v0 c
          ∧ r.2.mem ((c.tc : Thread Cert.ReferenceNormBwdIdeal.nD Cert.ReferenceNormBwdIdeal.τ).loc Cert.ReferenceNormBwdIdeal.main_v98) = v1 c
          ∧ r.2.mem ((c.tc : Thread Cert.ReferenceNormBwdIdeal.nD Cert.ReferenceNormBwdIdeal.τ).loc Cert.ReferenceNormBwdIdeal.main_v99) = v2 c
          ∧ r.2.mem ((c.tc : Thread Cert.ReferenceNormBwdIdeal.nD Cert.ReferenceNormBwdIdeal.τ).loc Cert.ReferenceNormBwdIdeal.main_arg0) = m' ((c.tc : Thread Cert.ReferenceNormBwdIdeal.nD Cert.ReferenceNormBwdIdeal.τ).loc Cert.ReferenceNormBwdIdeal.main_arg0)
          ∧ r.2.mem ((c.tc : Thread Cert.ReferenceNormBwdIdeal.nD Cert.ReferenceNormBwdIdeal.τ).loc Cert.ReferenceNormBwdIdeal.main_arg1) = m' ((c.tc : Thread Cert.ReferenceNormBwdIdeal.nD Cert.ReferenceNormBwdIdeal.τ).loc Cert.ReferenceNormBwdIdeal.main_arg1)
          ∧ r.2.mem ((c.tc : Thread Cert.ReferenceNormBwdIdeal.nD Cert.ReferenceNormBwdIdeal.τ).loc Cert.ReferenceNormBwdIdeal.main_arg2) = m' ((c.tc : Thread Cert.ReferenceNormBwdIdeal.nD Cert.ReferenceNormBwdIdeal.τ).loc Cert.ReferenceNormBwdIdeal.main_arg2)
          ∧ r.2.mem ((c.tc : Thread Cert.ReferenceNormBwdIdeal.nD Cert.ReferenceNormBwdIdeal.τ).loc Cert.ReferenceNormBwdIdeal.main_arg3) = m' ((c.tc : Thread Cert.ReferenceNormBwdIdeal.nD Cert.ReferenceNormBwdIdeal.τ).loc Cert.ReferenceNormBwdIdeal.main_arg3)
          ∧ r.2.mem ((c.tc : Thread Cert.ReferenceNormBwdIdeal.nD Cert.ReferenceNormBwdIdeal.τ).loc Cert.ReferenceNormBwdIdeal.main_arg4) = m' ((c.tc : Thread Cert.ReferenceNormBwdIdeal.nD Cert.ReferenceNormBwdIdeal.τ).loc Cert.ReferenceNormBwdIdeal.main_arg4))

def Claim : Prop :=
  ∃ (hKernel : Cert.Kernel.Facts) (hKernelIdeal : Cert.KernelIdeal.Facts) (hReferenceIdeal : Cert.ReferenceIdeal.Facts) (hKernelDwIn : Cert.KernelDwIn.Facts) (hKernelDwInIdeal : Cert.KernelDwInIdeal.Facts) (hReferenceDwInIdeal : Cert.ReferenceDwInIdeal.Facts) (hKernelDhIn : Cert.KernelDhIn.Facts) (hKernelDhInIdeal : Cert.KernelDhInIdeal.Facts) (hReferenceDhInIdeal : Cert.ReferenceDhInIdeal.Facts) (hKernelDwSquare : Cert.KernelDwSquare.Facts) (hKernelDwSquareIdeal : Cert.KernelDwSquareIdeal.Facts) (hReferenceDwSquareIdeal : Cert.ReferenceDwSquareIdeal.Facts) (hKernelDwUp : Cert.KernelDwUp.Facts) (hKernelDwUpIdeal : Cert.KernelDwUpIdeal.Facts) (hReferenceDwUpIdeal : Cert.ReferenceDwUpIdeal.Facts) (hKernelDhUp : Cert.KernelDhUp.Facts) (hKernelDhUpIdeal : Cert.KernelDhUpIdeal.Facts) (hReferenceDhUpIdeal : Cert.ReferenceDhUpIdeal.Facts) (hKernelDwDown : Cert.KernelDwDown.Facts) (hKernelDwDownIdeal : Cert.KernelDwDownIdeal.Facts) (hReferenceDwDownIdeal : Cert.ReferenceDwDownIdeal.Facts) (hKernelInProj : Cert.KernelInProj.Facts) (hKernelInProjIdeal : Cert.KernelInProjIdeal.Facts) (hReferenceInProjIdeal : Cert.ReferenceInProjIdeal.Facts) (hKernelUpProj : Cert.KernelUpProj.Facts) (hKernelUpProjIdeal : Cert.KernelUpProjIdeal.Facts) (hReferenceUpProjIdeal : Cert.ReferenceUpProjIdeal.Facts) (hKernelFfnOutFwd : Cert.KernelFfnOutFwd.Facts) (hKernelFfnOutFwdIdeal : Cert.KernelFfnOutFwdIdeal.Facts) (hReferenceFfnOutFwdIdeal : Cert.ReferenceFfnOutFwdIdeal.Facts) (hKernelAdamAda : Cert.KernelAdamAda.Facts) (hKernelAdamAdaIdeal : Cert.KernelAdamAdaIdeal.Facts) (hReferenceAdamAdaIdeal : Cert.ReferenceAdamAdaIdeal.Facts) (hKernelAdamIn : Cert.KernelAdamIn.Facts) (hKernelAdamInIdeal : Cert.KernelAdamInIdeal.Facts) (hReferenceAdamInIdeal : Cert.ReferenceAdamInIdeal.Facts) (hKernelAdamSquare : Cert.KernelAdamSquare.Facts) (hKernelAdamSquareIdeal : Cert.KernelAdamSquareIdeal.Facts) (hReferenceAdamSquareIdeal : Cert.ReferenceAdamSquareIdeal.Facts) (hKernelAdamUp : Cert.KernelAdamUp.Facts) (hKernelAdamUpIdeal : Cert.KernelAdamUpIdeal.Facts) (hReferenceAdamUpIdeal : Cert.ReferenceAdamUpIdeal.Facts) (hKernelAdamDown : Cert.KernelAdamDown.Facts) (hKernelAdamDownIdeal : Cert.KernelAdamDownIdeal.Facts) (hReferenceAdamDownIdeal : Cert.ReferenceAdamDownIdeal.Facts) (hKernelAdamPacked : Cert.KernelAdamPacked.Facts) (hKernelAdamPackedIdeal : Cert.KernelAdamPackedIdeal.Facts) (hReferenceAdamPackedIdeal : Cert.ReferenceAdamPackedIdeal.Facts) (hKernelNormMod : Cert.KernelNormMod.Facts) (hKernelNormModIdeal : Cert.KernelNormModIdeal.Facts) (hReferenceNormModIdeal : Cert.ReferenceNormModIdeal.Facts) (hKernelDwAda : Cert.KernelDwAda.Facts) (hKernelDwAdaIdeal : Cert.KernelDwAdaIdeal.Facts) (hReferenceDwAdaIdeal : Cert.ReferenceDwAdaIdeal.Facts) (hKernelLoss : Cert.KernelLoss.Facts) (hKernelLossIdeal : Cert.KernelLossIdeal.Facts) (hReferenceLossIdeal : Cert.ReferenceLossIdeal.Facts) (hKernelMod : Cert.KernelMod.Facts) (hKernelModIdeal : Cert.KernelModIdeal.Facts) (hReferenceModIdeal : Cert.ReferenceModIdeal.Facts) (hKernelCvecBwd : Cert.KernelCvecBwd.Facts) (hKernelCvecBwdIdeal : Cert.KernelCvecBwdIdeal.Facts) (hReferenceCvecBwdIdeal : Cert.ReferenceCvecBwdIdeal.Facts) (hKernelNormBwd : Cert.KernelNormBwd.Facts) (hKernelNormBwdIdeal : Cert.KernelNormBwdIdeal.Facts) (hReferenceNormBwdIdeal : Cert.ReferenceNormBwdIdeal.Facts) (hPre_finite : Cert.Pre_finite.Facts) (hPre_finite_cvec : Cert.Pre_finite_cvec.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDwIn (hKernelDwIn := hKernelDwIn)
    ∧ quiescent_KernelDwInIdeal (hKernelDwInIdeal := hKernelDwInIdeal)
    ∧ quiescent_ReferenceDwInIdeal (hReferenceDwInIdeal := hReferenceDwInIdeal)
    ∧ quiescent_KernelDhIn (hKernelDhIn := hKernelDhIn)
    ∧ quiescent_KernelDhInIdeal (hKernelDhInIdeal := hKernelDhInIdeal)
    ∧ quiescent_ReferenceDhInIdeal (hReferenceDhInIdeal := hReferenceDhInIdeal)
    ∧ quiescent_KernelDwSquare (hKernelDwSquare := hKernelDwSquare)
    ∧ quiescent_KernelDwSquareIdeal (hKernelDwSquareIdeal := hKernelDwSquareIdeal)
    ∧ quiescent_ReferenceDwSquareIdeal (hReferenceDwSquareIdeal := hReferenceDwSquareIdeal)
    ∧ quiescent_KernelDwUp (hKernelDwUp := hKernelDwUp)
    ∧ quiescent_KernelDwUpIdeal (hKernelDwUpIdeal := hKernelDwUpIdeal)
    ∧ quiescent_ReferenceDwUpIdeal (hReferenceDwUpIdeal := hReferenceDwUpIdeal)
    ∧ quiescent_KernelDhUp (hKernelDhUp := hKernelDhUp)
    ∧ quiescent_KernelDhUpIdeal (hKernelDhUpIdeal := hKernelDhUpIdeal)
    ∧ quiescent_ReferenceDhUpIdeal (hReferenceDhUpIdeal := hReferenceDhUpIdeal)
    ∧ quiescent_KernelDwDown (hKernelDwDown := hKernelDwDown)
    ∧ quiescent_KernelDwDownIdeal (hKernelDwDownIdeal := hKernelDwDownIdeal)
    ∧ quiescent_ReferenceDwDownIdeal (hReferenceDwDownIdeal := hReferenceDwDownIdeal)
    ∧ quiescent_KernelInProj (hKernelInProj := hKernelInProj)
    ∧ quiescent_KernelInProjIdeal (hKernelInProjIdeal := hKernelInProjIdeal)
    ∧ quiescent_ReferenceInProjIdeal (hReferenceInProjIdeal := hReferenceInProjIdeal)
    ∧ quiescent_KernelUpProj (hKernelUpProj := hKernelUpProj)
    ∧ quiescent_KernelUpProjIdeal (hKernelUpProjIdeal := hKernelUpProjIdeal)
    ∧ quiescent_ReferenceUpProjIdeal (hReferenceUpProjIdeal := hReferenceUpProjIdeal)
    ∧ quiescent_KernelFfnOutFwd (hKernelFfnOutFwd := hKernelFfnOutFwd)
    ∧ quiescent_KernelFfnOutFwdIdeal (hKernelFfnOutFwdIdeal := hKernelFfnOutFwdIdeal)
    ∧ quiescent_ReferenceFfnOutFwdIdeal (hReferenceFfnOutFwdIdeal := hReferenceFfnOutFwdIdeal)
    ∧ quiescent_KernelAdamAda (hKernelAdamAda := hKernelAdamAda)
    ∧ quiescent_KernelAdamAdaIdeal (hKernelAdamAdaIdeal := hKernelAdamAdaIdeal)
    ∧ quiescent_ReferenceAdamAdaIdeal (hReferenceAdamAdaIdeal := hReferenceAdamAdaIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ quiescent_KernelAdamSquare (hKernelAdamSquare := hKernelAdamSquare)
    ∧ quiescent_KernelAdamSquareIdeal (hKernelAdamSquareIdeal := hKernelAdamSquareIdeal)
    ∧ quiescent_ReferenceAdamSquareIdeal (hReferenceAdamSquareIdeal := hReferenceAdamSquareIdeal)
    ∧ quiescent_KernelAdamUp (hKernelAdamUp := hKernelAdamUp)
    ∧ quiescent_KernelAdamUpIdeal (hKernelAdamUpIdeal := hKernelAdamUpIdeal)
    ∧ quiescent_ReferenceAdamUpIdeal (hReferenceAdamUpIdeal := hReferenceAdamUpIdeal)
    ∧ quiescent_KernelAdamDown (hKernelAdamDown := hKernelAdamDown)
    ∧ quiescent_KernelAdamDownIdeal (hKernelAdamDownIdeal := hKernelAdamDownIdeal)
    ∧ quiescent_ReferenceAdamDownIdeal (hReferenceAdamDownIdeal := hReferenceAdamDownIdeal)
    ∧ quiescent_KernelAdamPacked (hKernelAdamPacked := hKernelAdamPacked)
    ∧ quiescent_KernelAdamPackedIdeal (hKernelAdamPackedIdeal := hKernelAdamPackedIdeal)
    ∧ quiescent_ReferenceAdamPackedIdeal (hReferenceAdamPackedIdeal := hReferenceAdamPackedIdeal)
    ∧ quiescent_KernelNormMod (hKernelNormMod := hKernelNormMod)
    ∧ quiescent_KernelNormModIdeal (hKernelNormModIdeal := hKernelNormModIdeal)
    ∧ quiescent_ReferenceNormModIdeal (hReferenceNormModIdeal := hReferenceNormModIdeal)
    ∧ quiescent_KernelDwAda (hKernelDwAda := hKernelDwAda)
    ∧ quiescent_KernelDwAdaIdeal (hKernelDwAdaIdeal := hKernelDwAdaIdeal)
    ∧ quiescent_ReferenceDwAdaIdeal (hReferenceDwAdaIdeal := hReferenceDwAdaIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelMod (hKernelMod := hKernelMod)
    ∧ quiescent_KernelModIdeal (hKernelModIdeal := hKernelModIdeal)
    ∧ quiescent_ReferenceModIdeal (hReferenceModIdeal := hReferenceModIdeal)
    ∧ quiescent_KernelCvecBwd (hKernelCvecBwd := hKernelCvecBwd)
    ∧ quiescent_KernelCvecBwdIdeal (hKernelCvecBwdIdeal := hKernelCvecBwdIdeal)
    ∧ quiescent_KernelCvecBwdIdeal_pre_finite_cvec (hKernelCvecBwdIdeal := hKernelCvecBwdIdeal) (hPre_finite_cvec := hPre_finite_cvec)
    ∧ quiescent_ReferenceCvecBwdIdeal (hReferenceCvecBwdIdeal := hReferenceCvecBwdIdeal)
    ∧ quiescent_ReferenceCvecBwdIdeal_pre_finite_cvec (hReferenceCvecBwdIdeal := hReferenceCvecBwdIdeal) (hPre_finite_cvec := hPre_finite_cvec)
    ∧ quiescent_KernelNormBwd (hKernelNormBwd := hKernelNormBwd)
    ∧ quiescent_KernelNormBwdIdeal (hKernelNormBwdIdeal := hKernelNormBwdIdeal)
    ∧ quiescent_ReferenceNormBwdIdeal (hReferenceNormBwdIdeal := hReferenceNormBwdIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDwIn_KernelDwInIdeal
    ∧ algebraic_KernelDwInIdeal_ReferenceDwInIdeal (hKernelDwInIdeal := hKernelDwInIdeal) (hReferenceDwInIdeal := hReferenceDwInIdeal)
    ∧ preserves_KernelDhIn_KernelDhInIdeal
    ∧ algebraic_KernelDhInIdeal_ReferenceDhInIdeal (hKernelDhInIdeal := hKernelDhInIdeal) (hReferenceDhInIdeal := hReferenceDhInIdeal)
    ∧ preserves_KernelDwSquare_KernelDwSquareIdeal
    ∧ algebraic_KernelDwSquareIdeal_ReferenceDwSquareIdeal (hKernelDwSquareIdeal := hKernelDwSquareIdeal) (hReferenceDwSquareIdeal := hReferenceDwSquareIdeal)
    ∧ preserves_KernelDwUp_KernelDwUpIdeal
    ∧ algebraic_KernelDwUpIdeal_ReferenceDwUpIdeal (hKernelDwUpIdeal := hKernelDwUpIdeal) (hReferenceDwUpIdeal := hReferenceDwUpIdeal)
    ∧ preserves_KernelDhUp_KernelDhUpIdeal
    ∧ algebraic_KernelDhUpIdeal_ReferenceDhUpIdeal (hKernelDhUpIdeal := hKernelDhUpIdeal) (hReferenceDhUpIdeal := hReferenceDhUpIdeal)
    ∧ preserves_KernelDwDown_KernelDwDownIdeal
    ∧ algebraic_KernelDwDownIdeal_ReferenceDwDownIdeal (hKernelDwDownIdeal := hKernelDwDownIdeal) (hReferenceDwDownIdeal := hReferenceDwDownIdeal)
    ∧ preserves_KernelInProj_KernelInProjIdeal
    ∧ algebraic_KernelInProjIdeal_ReferenceInProjIdeal (hKernelInProjIdeal := hKernelInProjIdeal) (hReferenceInProjIdeal := hReferenceInProjIdeal)
    ∧ preserves_KernelUpProj_KernelUpProjIdeal
    ∧ algebraic_KernelUpProjIdeal_ReferenceUpProjIdeal (hKernelUpProjIdeal := hKernelUpProjIdeal) (hReferenceUpProjIdeal := hReferenceUpProjIdeal)
    ∧ preserves_KernelFfnOutFwd_KernelFfnOutFwdIdeal
    ∧ algebraic_KernelFfnOutFwdIdeal_ReferenceFfnOutFwdIdeal (hKernelFfnOutFwdIdeal := hKernelFfnOutFwdIdeal) (hReferenceFfnOutFwdIdeal := hReferenceFfnOutFwdIdeal)
    ∧ preserves_KernelAdamAda_KernelAdamAdaIdeal
    ∧ algebraic_KernelAdamAdaIdeal_ReferenceAdamAdaIdeal (hKernelAdamAdaIdeal := hKernelAdamAdaIdeal) (hReferenceAdamAdaIdeal := hReferenceAdamAdaIdeal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
    ∧ preserves_KernelAdamSquare_KernelAdamSquareIdeal
    ∧ algebraic_KernelAdamSquareIdeal_ReferenceAdamSquareIdeal (hKernelAdamSquareIdeal := hKernelAdamSquareIdeal) (hReferenceAdamSquareIdeal := hReferenceAdamSquareIdeal)
    ∧ preserves_KernelAdamUp_KernelAdamUpIdeal
    ∧ algebraic_KernelAdamUpIdeal_ReferenceAdamUpIdeal (hKernelAdamUpIdeal := hKernelAdamUpIdeal) (hReferenceAdamUpIdeal := hReferenceAdamUpIdeal)
    ∧ preserves_KernelAdamDown_KernelAdamDownIdeal
    ∧ algebraic_KernelAdamDownIdeal_ReferenceAdamDownIdeal (hKernelAdamDownIdeal := hKernelAdamDownIdeal) (hReferenceAdamDownIdeal := hReferenceAdamDownIdeal)
    ∧ preserves_KernelAdamPacked_KernelAdamPackedIdeal
    ∧ algebraic_KernelAdamPackedIdeal_ReferenceAdamPackedIdeal (hKernelAdamPackedIdeal := hKernelAdamPackedIdeal) (hReferenceAdamPackedIdeal := hReferenceAdamPackedIdeal)
    ∧ preserves_KernelNormMod_KernelNormModIdeal
    ∧ algebraic_KernelNormModIdeal_ReferenceNormModIdeal (hKernelNormModIdeal := hKernelNormModIdeal) (hReferenceNormModIdeal := hReferenceNormModIdeal)
    ∧ preserves_KernelDwAda_KernelDwAdaIdeal
    ∧ algebraic_KernelDwAdaIdeal_ReferenceDwAdaIdeal (hKernelDwAdaIdeal := hKernelDwAdaIdeal) (hReferenceDwAdaIdeal := hReferenceDwAdaIdeal)
    ∧ preserves_KernelLoss_KernelLossIdeal
    ∧ algebraic_KernelLossIdeal_ReferenceLossIdeal (hKernelLossIdeal := hKernelLossIdeal) (hReferenceLossIdeal := hReferenceLossIdeal)
    ∧ preserves_KernelMod_KernelModIdeal
    ∧ algebraic_KernelModIdeal_ReferenceModIdeal (hKernelModIdeal := hKernelModIdeal) (hReferenceModIdeal := hReferenceModIdeal)
    ∧ preserves_KernelCvecBwd_KernelCvecBwdIdeal
    ∧ algebraic_KernelCvecBwdIdeal_ReferenceCvecBwdIdeal_pre_finite_cvec (hKernelCvecBwdIdeal := hKernelCvecBwdIdeal) (hReferenceCvecBwdIdeal := hReferenceCvecBwdIdeal) (hPre_finite_cvec := hPre_finite_cvec)
    ∧ preserves_KernelNormBwd_KernelNormBwdIdeal
    ∧ algebraic_KernelNormBwdIdeal_ReferenceNormBwdIdeal (hKernelNormBwdIdeal := hKernelNormBwdIdeal) (hReferenceNormBwdIdeal := hReferenceNormBwdIdeal)
-- ==== Pre_finite.lean ====
abbrev S4352x9216 : Shape := ⟨2, ![4352, 9216]⟩
abbrev S4352x1024 : Shape := ⟨2, ![4352, 1024]⟩
abbrev S1024 : Shape := ⟨1, ![1024]⟩
abbrev S8x128x128 : Shape := ⟨3, ![8, 128, 128]⟩
abbrev S8x128 : Shape := ⟨2, ![8, 128]⟩
abbrev S4352x2048 : Shape := ⟨2, ![4352, 2048]⟩
abbrev S_ : Shape := ⟨0, ![]⟩

class Facts : Prop where
  slices_S4352x9216_S4352x2048_0_4096 : S4352x9216.Slices ![0, 4096] S4352x2048
  bcast_S_S4352x2048 : S_.BroadcastsInDim S4352x2048 (![] : Fin 0 → Fin S4352x2048.rank)
  reducesTo_S4352x2048_S_d0_1 : S4352x2048.ReducesTo [0, 1] S_
  h_S_ : 0 < S_.numel
  bcast_S_S4352x1024 : S_.BroadcastsInDim S4352x1024 (![] : Fin 0 → Fin S4352x1024.rank)
  reducesTo_S4352x1024_S_d0_1 : S4352x1024.ReducesTo [0, 1] S_
  bcast_S_S1024 : S_.BroadcastsInDim S1024 (![] : Fin 0 → Fin S1024.rank)
  reducesTo_S1024_S_d0 : S1024.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg4 : FVec F S8x128x128 .f32) (main_arg5 : FVec F S8x128 .f32) (main_v14 : IVec S_ 1) (main_v15 : FVec F S1024 .f32) (main_v16 : FVec F S1024 .f32) : IVec S_ 1 :=
  let main_v17 : IVec S1024 1 := cmpf .olt main_v15 main_v16
  let main_c_5 : IVec S_ 1 := constantI S_ 1 1#1
  let main_v18 : IVec S_ 1 := (fun x v => Host.reduce IntOp.andi x v reducesTo_S1024_S_d0 h_S_) main_v17 main_c_5
  let main_v19 : IVec S_ 1 := andi main_v14 main_v18
  let main_v20 : FVec F S8x128x128 .f32 := Host.absf main_arg4
  let main_cst_6 : FVec F S_ .f32 := constant S_ .f32 0x7F800000#32
  let main_v21 : FVec F S8x128x128 .f32 := broadcastInDim S8x128x128 ![] bcast_S_S8x128x128 main_cst_6
  let main_v22 : IVec S8x128x128 1 := cmpf .olt main_v20 main_v21
  let main_c_7 : IVec S_ 1 := constantI S_ 1 1#1
  let main_v23 : IVec S_ 1 := (fun x v => Host.reduce IntOp.andi x v reducesTo_S8x128x128_S_d0_1_2 h_S_) main_v22 main_c_7
  let main_v24 : IVec S_ 1 := andi main_v19 main_v23
  let main_v25 : FVec F S8x128 .f32 := Host.absf main_arg5
  let main_cst_8 : FVec F S_ .f32 := constant S_ .f32 0x7F800000#32
  let main_v26 : FVec F S8x128 .f32 := broadcastInDim S8x128 ![] bcast_S_S8x128 main_cst_8
  let main_v27 : IVec S8x128 1 := cmpf .olt main_v25 main_v26
  let main_c_9 : IVec S_ 1 := constantI S_ 1 1#1
  let main_v28 : IVec S_ 1 := (fun x v => Host.reduce IntOp.andi x v reducesTo_S8x128_S_d0_1 h_S_) main_v27 main_c_9
  let main_v29 : IVec S_ 1 := andi main_v24 main_v28
  main_v29

def fn {F : FTy → Type} [FloatOps F] (main_arg0 : FVec F S4352x9216 .f32) (main_arg1 : FVec F S4352x1024 .f32) (main_arg2 : FVec F S1024 .f32) (main_arg3 : FVec F S1024 .f32) (main_arg4 : FVec F S8x128x128 .f32) (main_arg5 : FVec F S8x128 .f32) (main_arg6 : FVec F S4352x9216 .bf16) : IVec S_ 1 :=
  let main_v0 : FVec F S4352x2048 .f32 := (extractStridedSlice S4352x2048 ![0, 4096] · slices_S4352x9216_S4352x2048_0_4096) main_arg0
  let main_v1 : FVec F S4352x2048 .f32 := Host.absf main_v0
  let main_cst : FVec F S_ .f32 := constant S_ .f32 0x7F800000#32
  let main_v2 : FVec F S4352x2048 .f32 := broadcastInDim S4352x2048 ![] bcast_S_S4352x2048 main_cst
  let main_v3 : IVec S4352x2048 1 := cmpf .olt main_v1 main_v2
  let main_c : IVec S_ 1 := constantI S_ 1 1#1
  let main_v4 : IVec S_ 1 := (fun x v => Host.reduce IntOp.andi x v reducesTo_S4352x2048_S_d0_1 h_S_) main_v3 main_c
  let main_v5 : FVec F S4352x1024 .f32 := Host.absf main_arg1
  let main_cst_0 : FVec F S_ .f32 := constant S_ .f32 0x7F800000#32
  let main_v6 : FVec F S4352x1024 .f32 := broadcastInDim S4352x1024 ![] bcast_S_S4352x1024 main_cst_0
  let main_v7 : IVec S4352x1024 1 := cmpf .olt main_v5 main_v6
  let main_c_1 : IVec S_ 1 := constantI S_ 1 1#1
  let main_v8 : IVec S_ 1 := (fun x v => Host.reduce IntOp.andi x v reducesTo_S4352x1024_S_d0_1 h_S_) main_v7 main_c_1
  let main_v9 : IVec S_ 1 := andi main_v4 main_v8
  let main_v10 : FVec F S1024 .f32 := Host.absf main_arg2
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_c_3 : IVec S_ 1 := constantI S_ 1 1#1
  let main_v13 : IVec S_ 1 := (fun x v => Host.reduce IntOp.andi x v reducesTo_S1024_S_d0 h_S_) main_v12 main_c_3
  let main_v14 : IVec S_ 1 := andi main_v9 main_v13
  let main_v15 : FVec F S1024 .f32 := Host.absf main_arg3
  let main_cst_4 : FVec F S_ .f32 := constant S_ .f32 0x7F800000#32
  let main_v16 : FVec F S1024 .f32 := broadcastInDim S1024 ![] bcast_S_S1024 main_cst_4
  fn_part1 (F := F) main_arg4 main_arg5 main_v14 main_v15 main_v16
-- ==== Pre_finite_cvec.lean ====
abbrev S16x6144 : Shape := ⟨2, ![16, 6144]⟩
abbrev S1024x6144 : Shape := ⟨2, ![1024, 6144]⟩
abbrev S16x1024 : Shape := ⟨2, ![16, 1024]⟩
abbrev S_ : Shape := ⟨0, ![]⟩

class Facts : Prop where
  bcast_S_S16x6144 : S_.BroadcastsInDim S16x6144 (![] : Fin 0 → Fin S16x6144.rank)
  reducesTo_S16x6144_S_d0_1 : S16x6144.ReducesTo [0, 1] S_
  h_S_ : 0 < S_.numel
  bcast_S_S1024x6144 : S_.BroadcastsInDim S1024x6144 (![] : Fin 0 → Fin S1024x6144.rank)
  reducesTo_S1024x6144_S_d0_1 : S1024x6144.ReducesTo [0, 1] S_

variable [Facts]

def fn {F : FTy → Type} [FloatOps F] (main_arg0 : FVec F S16x6144 .f32) (main_arg1 : FVec F S1024x6144 .f32) (main_arg2 : FVec F S16x1024 .f32) : IVec S_ 1 :=
  let main_v0 : FVec F S16x6144 .f32 := Host.absf main_arg0
  let main_cst : FVec F S_ .f32 := constant S_ .f32 0x7F800000#32
  let main_v1 : FVec F S16x6144 .f32 := broadcastInDim S16x6144 ![] bcast_S_S16x6144 main_cst
  let main_v2 : IVec S16x6144 1 := cmpf .olt main_v0 main_v1
  let main_c : IVec S_ 1 := constantI S_ 1 1#1
  let main_v3 : IVec S_ 1 := (fun x v => Host.reduce IntOp.andi x v reducesTo_S16x6144_S_d0_1 h_S_) main_v2 main_c
  let main_v4 : FVec F S1024x6144 .f32 := Host.absf main_arg1
  let main_cst_0 : FVec F S_ .f32 := constant S_ .f32 0x7F800000#32
  let main_v5 : FVec F S1024x6144 .f32 := broadcastInDim S1024x6144 ![] bcast_S_S1024x6144 main_cst_0
  let main_v6 : IVec S1024x6144 1 := cmpf .olt main_v4 main_v5
  let main_c_1 : IVec S_ 1 := constantI S_ 1 1#1
  let main_v7 : IVec S_ 1 := (fun x v => Host.reduce IntOp.andi x v reducesTo_S1024x6144_S_d0_1 h_S_) main_v6 main_c_1
  let main_v8 : IVec S_ 1 := andi main_v3 main_v7
  main_v8
-- ==== Kernel.lean ====
abbrev S4352x9216 : Shape := ⟨2, ![4352, 9216]⟩
abbrev S4352x1024 : Shape := ⟨2, ![4352, 1024]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S128x8 : Shape := ⟨2, ![128, 8]⟩
abbrev S128x1024 : Shape := ⟨2, ![128, 1024]⟩
abbrev S128x2048 : Shape := ⟨2, ![128, 2048]⟩
abbrev S128 : Shape := ⟨1, ![128]⟩
abbrev S128x1 : Shape := ⟨2, ![128, 1]⟩
abbrev S1x128x128 : Shape := ⟨3, ![1, 128, 128]⟩
abbrev S128x128 : Shape := ⟨2, ![128, 128]⟩

abbrev nBuf : Space → Nat
  | .hbm => 16
  | .vmem => 17
  | .smem => 0
  | _ => 0

abbrev bufTy : (tb : Table) → Fin (tcTables nBuf tb) → BufTy
  | .hbm, ⟨0, _⟩ => ⟨S4352x9216, .f32⟩
  | .hbm, ⟨1, _⟩ => ⟨S4352x1024, .f32⟩
  | .hbm, ⟨2, _⟩ => ⟨S1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S4352x9216, .bf16⟩
  | .hbm, ⟨7, _⟩ => ⟨S1x1024, .f32⟩
  | .hbm, ⟨8, _⟩ => ⟨S1x1024, .f32⟩
  | .hbm, ⟨9, _⟩ => ⟨S8x128x128, .bf16⟩
  | .hbm, ⟨10, _⟩ => ⟨S128x8, .f32⟩
  | .hbm, ⟨11, _⟩ => ⟨S4352x9216, .bf16⟩
  | .hbm, ⟨12, _⟩ => ⟨S8x128x128, .f32⟩
  | .hbm, ⟨13, _⟩ => ⟨S128x8, .f32⟩
  | .hbm, ⟨14, _⟩ => ⟨S1x1024, .f32⟩
  | .hbm, ⟨15, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x1024, .f32⟩
  | .local _ .vmem, ⟨7, _⟩ => ⟨S1x1024, .f32⟩
  | .local _ .vmem, ⟨8, _⟩ => ⟨S8x128x128, .bf16⟩
  | .local _ .vmem, ⟨9, _⟩ => ⟨S128x8, .f32⟩
  | .local _ .vmem, ⟨10, _⟩ => ⟨S128x2048, .bf16⟩
  | .local _ .vmem, ⟨11, _⟩ => ⟨S128x2048, .bf16⟩
  | .local _ .vmem, ⟨12, _⟩ => ⟨S8x128x128, .f32⟩
  | .local _ .vmem, ⟨13, _⟩ => ⟨S128x8, .f32⟩
  | .local _ .vmem, ⟨14, _⟩ => ⟨S1x1024, .f32⟩
  | .local _ .vmem, ⟨15, _⟩ => ⟨S1x1024, .f32⟩
  | .local _ .vmem, ⟨16, _⟩ => ⟨S128x1024, .f32⟩
  | _, _ => ⟨S4352x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "gelu_3ca" => some ((241015141496493 / 2251799813685248 : ℝ) : EReal)
  | _ => none
-- ==== ReferenceIdeal.lean ====
abbrev S4352x9216 : Shape := ⟨2, ![4352, 9216]⟩
abbrev S4352x1024 : Shape := ⟨2, ![4352, 1024]⟩
abbrev S1024 : Shape := ⟨1, ![1024]⟩
abbrev S8x128x128 : Shape := ⟨3, ![8, 128, 128]⟩
abbrev S8x128 : Shape := ⟨2, ![8, 128]⟩
abbrev S1x4352x1024 : Shape := ⟨3, ![1, 4352, 1024]⟩
abbrev S_ : Shape := ⟨0, ![]⟩
abbrev S1x4352 : Shape := ⟨2, ![1, 4352]⟩
abbrev S1x4352x1 : Shape := ⟨3, ![1, 4352, 1]⟩
abbrev S1x1x1024 : Shape := ⟨3, ![1, 1, 1024]⟩
abbrev S1x34x128x8x128 : Shape := ⟨5, ![1, 34, 128, 8, 128]⟩
abbrev S8x1x34x128x128 : Shape := ⟨5, ![8, 1, 34, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S1x128x8 : Shape := ⟨3, ![1, 128, 8]⟩
abbrev S1x1024 : Shape := ⟨2, ![1, 1024]⟩
abbrev S4352 : Shape := ⟨1, ![4352]⟩
abbrev S4352x4096 : Shape := ⟨2, ![4352, 4096]⟩
abbrev S4352x3072 : Shape := ⟨2, ![4352, 3072]⟩

abbrev nBuf : Space → Nat
  | .hbm => 217
  | .vmem => 0
  | .smem => 0
  | _ => 0

abbrev hbmTy0_0 (i : Nat) : BufTy := match i % 128 with
  | 0 => ⟨S4352x9216, .f32⟩
  | 1 => ⟨S4352x1024, .f32⟩
  | 2 => ⟨S1024, .f32⟩
  | 3 => ⟨S1024, .f32⟩
  | 4 => ⟨S8x128x128, .f32⟩
  | 5 => ⟨S8x128, .f32⟩
  | 6 => ⟨S4352x9216, .bf16⟩
  | 7 => ⟨S4352x1024, .f32⟩
  | 8 => ⟨S1x4352x1024, .f32⟩
  | 9 => ⟨S4352x1024, .f32⟩
  | 10 => ⟨S1x4352x1024, .f32⟩
  | 11 => ⟨S1x4352x1024, .f32⟩
  | 12 => ⟨S1x4352x1024, .f32⟩
  | 13 => ⟨S1x4352x1024, .f32⟩
  | 14 => ⟨S_, .f32⟩
  | 15 => ⟨S1x4352x1024, .f32⟩
  | 16 => ⟨S1x4352x1024, .f32⟩
  | 17 => ⟨S_, .f32⟩
  | 18 => ⟨S1x4352x1024, .f32⟩
  | 19 => ⟨S1x4352x1024, .f32⟩
  | 20 => ⟨S1x4352x1024, .f32⟩
  | 21 => ⟨S_, .f32⟩
  | 22 => ⟨S1x4352x1024, .f32⟩
  | 23 => ⟨S1x4352x1024, .f32⟩
  | 24 => ⟨S1x4352x1024, .f32⟩
  | 25 => ⟨S_, .f32⟩
  | 26 => ⟨S1x4352x1024, .f32⟩
  | 27 => ⟨S1x4352x1024, .f32⟩
  | 28 => ⟨S_, .f32⟩
  | 29 => ⟨S1x4352x1024, .f32⟩
  | 30 => ⟨S1x4352x1024, .f32⟩
  | 31 => ⟨S1x4352x1024, .f32⟩
  | 32 => ⟨S_, .f32⟩
  | 33 => ⟨S1x4352x1024, .f32⟩
  | 34 => ⟨S1x4352x1024, .f32⟩
  | 35 => ⟨S_, .f32⟩
  | 36 => ⟨S1x4352x1024, .f32⟩
  | 37 => ⟨S1x4352x1024, .f32⟩
  | 38 => ⟨S1x4352x1024, .f32⟩
  | 39 => ⟨S1x4352x1024, .f32⟩
  | 40 => ⟨S1x4352x1024, .f32⟩
  | 41 => ⟨S1x4352x1024, .f32⟩
  | 42 => ⟨S_, .f32⟩
  | 43 => ⟨S1x4352x1024, .f32⟩
  | 44 => ⟨S1x4352x1024, .f32⟩
  | 45 => ⟨S_, .f32⟩
  | 46 => ⟨S1x4352x1024, .f32⟩
  | 47 => ⟨S1x4352x1024, .f32⟩
  | 48 => ⟨S1x4352x1024, .f32⟩
  | 49 => ⟨S_, .f32⟩
  | 50 => ⟨S1x4352x1024, .f32⟩
  | 51 => ⟨S1x4352x1024, .f32⟩
  | 52 => ⟨S1x4352x1024, .f32⟩
  | 53 => ⟨S_, .f32⟩
  | 54 => ⟨S1x4352x1024, .f32⟩
  | 55 => ⟨S1x4352x1024, .f32⟩
  | 56 => ⟨S_, .f32⟩
  | 57 => ⟨S1x4352x1024, .f32⟩
  | 58 => ⟨S1x4352x1024, .f32⟩
  | 59 => ⟨S1x4352x1024, .f32⟩
  | 60 => ⟨S_, .f32⟩
  | 61 => ⟨S1x4352x1024, .f32⟩
  | 62 => ⟨S1x4352x1024, .f32⟩
  | 63 => ⟨S_, .f32⟩
  | 64 => ⟨S1x4352x1024, .f32⟩
  | 65 => ⟨S1x4352x1024, .f32⟩
  | 66 => ⟨S1x4352x1024, .f32⟩
  | 67 => ⟨S_, .f32⟩
  | 68 => ⟨S1x4352, .f32⟩
  | 69 => ⟨S1x4352x1, .f32⟩
  | 70 => ⟨S_, .f32⟩
  | 71 => ⟨S1x4352x1, .f32⟩
  | 72 => ⟨S1x4352x1, .f32⟩
  | 73 => ⟨S1x4352x1024, .f32⟩
  | 74 => ⟨S1x4352x1024, .f32⟩
  | 75 => ⟨S1x4352x1024, .f32⟩
  | 76 => ⟨S_, .f32⟩
  | 77 => ⟨S1x4352x1024, .f32⟩
  | 78 => ⟨S1x4352x1024, .f32⟩
  | 79 => ⟨S_, .f32⟩
  | 80 => ⟨S1x4352, .f32⟩
  | 81 => ⟨S1x4352x1, .f32⟩
  | 82 => ⟨S_, .f32⟩
  | 83 => ⟨S1x4352x1, .f32⟩
  | 84 => ⟨S1x4352x1, .f32⟩
  | 85 => ⟨S1x4352x1024, .f32⟩
  | 86 => ⟨S1x4352x1024, .f32⟩
  | 87 => ⟨S_, .f32⟩
  | 88 => ⟨S1x4352x1, .f32⟩
  | 89 => ⟨S1x4352x1, .f32⟩
  | 90 => ⟨S1x4352x1, .f32⟩
  | 91 => ⟨S1x4352x1, .f32⟩
  | 92 => ⟨S_, .f32⟩
  | 93 => ⟨S1x4352x1, .f32⟩
  | 94 => ⟨S1x4352x1, .f32⟩
  | 95 => ⟨S1x4352x1024, .f32⟩
  | 96 => ⟨S1x4352x1024, .f32⟩
  | 97 => ⟨S1x1x1024, .f32⟩
  | 98 => ⟨S1x4352x1024, .f32⟩
  | 99 => ⟨S1x4352x1024, .f32⟩
  | 100 => ⟨S1x1x1024, .f32⟩
  | 101 => ⟨S1x4352x1024, .f32⟩
  | 102 => ⟨S1x4352x1024, .f32⟩
  | 103 => ⟨S1x34x128x8x128, .f32⟩
  | 104 => ⟨S8x1x34x128x128, .f32⟩
  | 105 => ⟨S1x34x128x8x128, .f32⟩
  | 106 => ⟨S128x8, .f32⟩
  | 107 => ⟨S128x8x1, .f32⟩
  | 108 => ⟨S1x1x128x8x1, .f32⟩
  | 109 => ⟨S1x34x128x8x128, .f32⟩
  | 110 => ⟨S1x34x128x8x128, .f32⟩
  | 111 => ⟨S1x4352x1024, .f32⟩
  | 112 => ⟨S1x4352x1024, .f32⟩
  | 113 => ⟨S1x4352x1024, .f32⟩
  | 114 => ⟨S1x4352x1024, .f32⟩
  | 115 => ⟨S1x4352x1024, .f32⟩
  | 116 => ⟨S1x34x128x8x128, .f32⟩
  | 117 => ⟨S_, .f32⟩
  | 118 => ⟨S1x128x8, .f32⟩
  | 119 => ⟨S1x1x128x8x1, .f32⟩
  | 120 => ⟨S_, .f32⟩
  | 121 => ⟨S128x8, .f32⟩
  | 122 => ⟨S128x8x1, .f32⟩
  | 123 => ⟨S_, .f32⟩
  | 124 => ⟨S128x8, .f32⟩
  | 125 => ⟨S8x128, .f32⟩
  | 126 => ⟨S8x1x34x128x128, .f32⟩
  | 127 => ⟨S8x128x128, .f32⟩
  | _ => ⟨S4352x9216, .f32⟩

abbrev hbmTy0_1 (i : Nat) : BufTy := match i % 128 with
  | 0 => ⟨S8x1x34x128x128, .f32⟩
  | 1 => ⟨S1x34x128x8x128, .f32⟩
  | 2 => ⟨S1x4352x1024, .f32⟩
  | 3 => ⟨S_, .f32⟩
  | 4 => ⟨S1x1024, .f32⟩
  | 5 => ⟨S1x1x1024, .f32⟩
  | 6 => ⟨S_, .f32⟩
  | 7 => ⟨S1024, .f32⟩
  | 8 => ⟨S1x4352x1024, .f32⟩
  | 9 => ⟨S_, .f32⟩
  | 10 => ⟨S1x1024, .f32⟩
  | 11 => ⟨S1x1x1024, .f32⟩
  | 12 => ⟨S1x4352x1024, .f32⟩
  | 13 => ⟨S1x4352x1024, .f32⟩
  | 14 => ⟨S_, .f32⟩
  | 15 => ⟨S1024, .f32⟩
  | 16 => ⟨S1x4352x1024, .f32⟩
  | 17 => ⟨S_, .f32⟩
  | 18 => ⟨S1x4352, .f32⟩
  | 19 => ⟨S1x4352x1, .f32⟩
  | 20 => ⟨S1x4352x1024, .f32⟩
  | 21 => ⟨S1x4352x1024, .f32⟩
  | 22 => ⟨S1x4352x1, .f32⟩
  | 23 => ⟨S1x4352x1024, .f32⟩
  | 24 => ⟨S_, .f32⟩
  | 25 => ⟨S1x4352, .f32⟩
  | 26 => ⟨S1x4352x1, .f32⟩
  | 27 => ⟨S_, .f32⟩
  | 28 => ⟨S1x4352x1, .f32⟩
  | 29 => ⟨S1x4352x1, .f32⟩
  | 30 => ⟨S_, .f32⟩
  | 31 => ⟨S4352, .f32⟩
  | 32 => ⟨S1x4352, .f32⟩
  | 33 => ⟨S1x4352x1024, .f32⟩
  | 34 => ⟨S1x4352x1024, .f32⟩
  | 35 => ⟨S1x4352x1024, .f32⟩
  | 36 => ⟨S_, .f32⟩
  | 37 => ⟨S1x4352, .f32⟩
  | 38 => ⟨S1x4352x1, .f32⟩
  | 39 => ⟨S1x4352x1024, .f32⟩
  | 40 => ⟨S1x4352x1, .f32⟩
  | 41 => ⟨S_, .f32⟩
  | 42 => ⟨S1x4352x1, .f32⟩
  | 43 => ⟨S1x4352x1, .f32⟩
  | 44 => ⟨S_, .f32⟩
  | 45 => ⟨S4352, .f32⟩
  | 46 => ⟨S1x4352, .f32⟩
  | 47 => ⟨S1x4352x1024, .f32⟩
  | 48 => ⟨S1x4352x1024, .f32⟩
  | 49 => ⟨S1x4352x1024, .f32⟩
  | 50 => ⟨S1x4352x1024, .f32⟩
  | 51 => ⟨S_, .f32⟩
  | 52 => ⟨S1x4352x1024, .f32⟩
  | 53 => ⟨S1x4352x1024, .f32⟩
  | 54 => ⟨S1x4352x1024, .f32⟩
  | 55 => ⟨S_, .f32⟩
  | 56 => ⟨S1x4352x1024, .f32⟩
  | 57 => ⟨S1x4352x1024, .f32⟩
  | 58 => ⟨S1x4352x1024, .f32⟩
  | 59 => ⟨S_, .f32⟩
  | 60 => ⟨S1x4352x1024, .f32⟩
  | 61 => ⟨S1x4352x1024, .f32⟩
  | 62 => ⟨S1x4352x1024, .f32⟩
  | 63 => ⟨S1x4352x1024, .f32⟩
  | 64 => ⟨S1x4352x1024, .f32⟩
  | 65 => ⟨S1x4352x1024, .f32⟩
  | 66 => ⟨S_, .f32⟩
  | 67 => ⟨S1x4352x1024, .f32⟩
  | 68 => ⟨S1x4352x1024, .f32⟩
  | 69 => ⟨S1x4352x1024, .f32⟩
  | 70 => ⟨S_, .f32⟩
  | 71 => ⟨S1x4352x1024, .f32⟩
  | 72 => ⟨S1x4352x1024, .f32⟩
  | 73 => ⟨S1x4352x1024, .f32⟩
  | 74 => ⟨S_, .f32⟩
  | 75 => ⟨S1x4352x1024, .f32⟩
  | 76 => ⟨S1x4352x1024, .f32⟩
  | 77 => ⟨S1x4352x1024, .f32⟩
  | 78 => ⟨S1x4352x1024, .f32⟩
  | 79 => ⟨S4352x4096, .bf16⟩
  | 80 => ⟨S4352x1024, .f32⟩
  | 81 => ⟨S4352x1024, .bf16⟩
  | 82 => ⟨S4352x1024, .f32⟩
  | 83 => ⟨S4352x1024, .bf16⟩
  | 84 => ⟨S4352x3072, .bf16⟩
  | 85 => ⟨S4352x9216, .bf16⟩
  | 86 => ⟨S128x8, .f32⟩
  | 87 => ⟨S1x1024, .f32⟩
  | 88 => ⟨S1x1024, .f32⟩
  | _ => ⟨S4352x9216, .f32⟩

abbrev hbmTy (i : Nat) : BufTy := match i / 128 with
  | 0 => hbmTy0_0 i
  | 1 => hbmTy0_1 i
  | _ => ⟨S4352x9216, .f32⟩

abbrev bufTy : (tb : Table) → Fin (tcTables nBuf tb) → BufTy
  | .hbm, ⟨i, _⟩ => hbmTy i
  | _, _ => ⟨S4352x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_cst_10 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_v42 : Ref sig .tc := ⟨.hbm, 62, rfl⟩
abbrev main_cst_12 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_13 : Ref sig .tc := ⟨.hbm, 67, rfl⟩
abbrev main_v46 : Ref sig .tc := ⟨.hbm, 68, rfl⟩
abbrev main_v47 : Ref sig .tc := ⟨.hbm, 69, rfl⟩
abbrev main_cst_14 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_15 : Ref sig .tc := ⟨.hbm, 76, rfl⟩
abbrev main_v53 : Ref sig .tc := ⟨.hbm, 77, rfl⟩
abbrev main_v54 : Ref sig .tc := ⟨.hbm, 78, rfl⟩
abbrev main_cst_16 : Ref sig .tc := ⟨.hbm, 79, rfl⟩
abbrev main_v55 : Ref sig .tc := ⟨.hbm, 80, rfl⟩
abbrev main_v56 : Ref sig .tc := ⟨.hbm, 81, rfl⟩
abbrev main_cst_17 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_18 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_19 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_20 : Ref sig .tc := ⟨.hbm, 117, rfl⟩
abbrev main_v89 : Ref sig .tc := ⟨.hbm, 118, rfl⟩
abbrev main_v90 : Ref sig .tc := ⟨.hbm, 119, rfl⟩
abbrev main_cst_21 : Ref sig .tc := ⟨.hbm, 120, rfl⟩
abbrev main_v91 : Ref sig .tc := ⟨.hbm, 121, rfl⟩
abbrev main_v92 : Ref sig .tc := ⟨.hbm, 122, rfl⟩
abbrev main_cst_22 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_23 : Ref sig .tc := ⟨.hbm, 131, rfl⟩
abbrev main_v100 : Ref sig .tc := ⟨.hbm, 132, rfl⟩
abbrev main_v101 : Ref sig .tc := ⟨.hbm, 133, rfl⟩
abbrev main_cst_24 : Ref sig .tc := ⟨.hbm, 134, rfl⟩
abbrev main_v102 : Ref sig .tc := ⟨.hbm, 135, rfl⟩
abbrev main_v103 : Ref sig .tc := ⟨.hbm, 136, rfl⟩
abbrev main_cst_25 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_26 : Ref sig .tc := ⟨.hbm, 142, rfl⟩
abbrev main_v108 : Ref sig .tc := ⟨.hbm, 143, rfl⟩
abbrev main_v109 : Ref sig .tc := ⟨.hbm, 144, rfl⟩
abbrev main_cst_27 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_28 : Ref sig .tc := ⟨.hbm, 152, rfl⟩
abbrev main_v116 : Ref sig .tc := ⟨.hbm, 153, rfl⟩
abbrev main_v117 : Ref sig .tc := ⟨.hbm, 154, rfl⟩
abbrev main_cst_29 : Ref sig .tc := ⟨.hbm, 155, rfl⟩
abbrev main_v118 : Ref sig .tc := ⟨.hbm, 156, rfl⟩
abbrev main_v119 : Ref sig .tc := ⟨.hbm, 157, rfl⟩
abbrev main_cst_30 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_cst_31 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_cst_32 : Ref sig .tc := ⟨.hbm, 169, rfl⟩
abbrev main_v129 : Ref sig .tc := ⟨.hbm, 170, rfl⟩
abbrev main_v130 : Ref sig .tc := ⟨.hbm, 171, rfl⟩
abbrev main_cst_33 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_cst_34 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_cst_35 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_cst_36 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_cst_37 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_cst_38 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_cst_39 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩

abbrev nD : Nat := 1
abbrev τ : Topo := Topo.v7x

variable {F : FTy → Type} [FloatOps F]
-- ==== KernelDwIn.lean ====
abbrev S4352x1024 : Shape := ⟨2, ![4352, 1024]⟩
abbrev S4352x9216 : Shape := ⟨2, ![4352, 9216]⟩
abbrev S4x1024x2304 : Shape := ⟨3, ![4, 1024, 2304]⟩
abbrev S4352x1152 : Shape := ⟨2, ![4352, 1152]⟩
abbrev S1x1024x1152 : Shape := ⟨3, ![1, 1024, 1152]⟩
abbrev S1024x1152 : Shape := ⟨2, ![1024, 1152]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x9216, .bf16⟩
  | .hbm, ⟨2, _⟩ => ⟨S4x1024x2304, .f32⟩
  | .local _ .vmem, ⟨0, _⟩ => ⟨S4352x1024, .bf16⟩
  | .local _ .vmem, ⟨1, _⟩ => ⟨S4352x1152, .bf16⟩
  | .local _ .vmem, ⟨2, _⟩ => ⟨S4352x1152, .bf16⟩
  | .local _ .vmem, ⟨3, _⟩ => ⟨S1x1024x1152, .f32⟩
  | .local _ .vmem, ⟨4, _⟩ => ⟨S1x1024x1152, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S4352x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwInIdeal.lean ====
abbrev S4352x1024 : Shape := ⟨2, ![4352, 1024]⟩
abbrev S4352x9216 : Shape := ⟨2, ![4352, 9216]⟩
abbrev S_ : Shape := ⟨0, ![]⟩
abbrev S1024x9216 : Shape := ⟨2, ![1024, 9216]⟩
abbrev S9216x1024 : Shape := ⟨2, ![9216, 1024]⟩
abbrev S1024x4x2304 : Shape := ⟨3, ![1024, 4, 2304]⟩
abbrev S4x1024x2304 : Shape := ⟨3, ![4, 1024, 2304]⟩

abbrev nBuf : Space → Nat
  | .hbm => 11
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x9216, .bf16⟩
  | .hbm, ⟨2, _⟩ => ⟨S_, .f32⟩
  | .hbm, ⟨3, _⟩ => ⟨S1024x9216, .f32⟩
  | .hbm, ⟨4, _⟩ => ⟨S4352x1024, .f32⟩
  | .hbm, ⟨5, _⟩ => ⟨S4352x9216, .f32⟩
  | .hbm, ⟨6, _⟩ => ⟨S4352x9216, .f32⟩
  | .hbm, ⟨7, _⟩ => ⟨S9216x1024, .f32⟩
  | .hbm, ⟨8, _⟩ => ⟨S1024x9216, .f32⟩
  | .hbm, ⟨9, _⟩ => ⟨S1024x4x2304, .f32⟩
  | .hbm, ⟨10, _⟩ => ⟨S4x1024x2304, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelDhIn.lean ====
abbrev S1024x9216 : Shape := ⟨2, ![1024, 9216]⟩
abbrev S4352x9216 : Shape := ⟨2, ![4352, 9216]⟩
abbrev S1024x4x2304 : Shape := ⟨3, ![1024, 4, 2304]⟩
abbrev S4x1024x2304 : Shape := ⟨3, ![4, 1024, 2304]⟩
abbrev S4352x1024 : Shape := ⟨2, ![4352, 1024]⟩
abbrev S1088x2304 : Shape := ⟨2, ![1088, 2304]⟩
abbrev S1x1024x2304 : Shape := ⟨3, ![1, 1024, 2304]⟩
abbrev S1088x1024 : Shape := ⟨2, ![1088, 1024]⟩
abbrev S1024x2304 : Shape := ⟨2, ![1024, 2304]⟩

abbrev nBuf : Space → Nat
  | .hbm => 6
  | .vmem => 7
  | .smem => 0
  | _ => 0

abbrev bufTy : (tb : Table) → Fin (tcTables nBuf tb) → BufTy
  | .hbm, ⟨0, _⟩ => ⟨S1024x9216, .f32⟩
  | .hbm, ⟨1, _⟩ => ⟨S4352x9216, .bf16⟩
  | .hbm, ⟨2, _⟩ => ⟨S1024x9216, .bf16⟩
  | .hbm, ⟨3, _⟩ => ⟨S1024x4x2304, .bf16⟩
  | .hbm, ⟨4, _⟩ => ⟨S4x1024x2304, .bf16⟩
  | .hbm, ⟨5, _⟩ => ⟨S4352x1024, .f32⟩
  | .local _ .vmem, ⟨0, _⟩ => ⟨S1088x2304, .bf16⟩
  | .local _ .vmem, ⟨1, _⟩ => ⟨S1088x2304, .bf16⟩
  | .local _ .vmem, ⟨2, _⟩ => ⟨S1x1024x2304, .bf16⟩
  | .local _ .vmem, ⟨3, _⟩ => ⟨S1x1024x2304, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S1024x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDhInIdeal.lean ====
abbrev S1024x9216 : Shape := ⟨2, ![1024, 9216]⟩
abbrev S4352x9216 : Shape := ⟨2, ![4352, 9216]⟩
abbrev S_ : Shape := ⟨0, ![]⟩
abbrev S4352x1024 : Shape := ⟨2, ![4352, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x9216, .f32⟩
  | .hbm, ⟨1, _⟩ => ⟨S4352x9216, .bf16⟩
  | .hbm, ⟨2, _⟩ => ⟨S_, .f32⟩
  | .hbm, ⟨3, _⟩ => ⟨S4352x1024, .f32⟩
  | .hbm, ⟨4, _⟩ => ⟨S4352x9216, .f32⟩
  | .hbm, ⟨5, _⟩ => ⟨S4352x9216, .f32⟩
  | .hbm, ⟨6, _⟩ => ⟨S4352x1024, .f32⟩
  | _, _ => ⟨S1024x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDwSquare.lean ====
abbrev S4352x1024 : Shape := ⟨2, ![4352, 1024]⟩
abbrev S1024x1024 : Shape := ⟨2, ![1024, 1024]⟩
abbrev S2176x1024 : Shape := ⟨2, ![2176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S1024x1024, .f32⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .f32⟩
  | .local _ .vmem, ⟨5, _⟩ => ⟨S1024x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceDwSquareIdeal.lean ====
abbrev S4352x1024 : Shape := ⟨2, ![4352, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S_, .f32⟩
  | .hbm, ⟨3, _⟩ => ⟨S1024x1024, .f32⟩
  | .hbm, ⟨4, _⟩ => ⟨S4352x1024, .f32⟩
  | .hbm, ⟨5, _⟩ => ⟨S4352x1024, .f32⟩
  | .hbm, ⟨6, _⟩ => ⟨S4352x1024, .f32⟩
  | .hbm, ⟨7, _⟩ => ⟨S1024x1024, .f32⟩
  | .hbm, ⟨8, _⟩ => ⟨S1024x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDwUp.lean ====
abbrev S4352x1024 : Shape := ⟨2, ![4352, 1024]⟩
abbrev S4352x2816 : Shape := ⟨2, ![4352, 2816]⟩
abbrev S4x1024x1408 : Shape := ⟨3, ![4, 1024, 1408]⟩
abbrev S2176x1024 : Shape := ⟨2, ![2176, 1024]⟩
abbrev S2176x1408 : Shape := ⟨2, ![2176, 1408]⟩
abbrev S1x1024x1408 : Shape := ⟨3, ![1, 1024, 1408]⟩
abbrev S1024x1408 : Shape := ⟨2, ![1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S4352x1024, .bf16⟩
  | .hbm, ⟨1, _⟩ => ⟨S4352x2816, .bf16⟩
  | .hbm, ⟨2, _⟩ => ⟨S4352x2816, .bf16⟩
  | .hbm, ⟨3, _⟩ => ⟨S4x1024x1408, .f32⟩
  | .local _ .vmem, ⟨0, _⟩ => ⟨S2176x1024, .bf16⟩
  | .local _ .vmem, ⟨1, _⟩ => ⟨S2176x1024, .bf16⟩
  | .local _ .vmem, ⟨2, _⟩ => ⟨S2176x1408, .bf16⟩
  | .local _ .vmem, ⟨3, _⟩ => ⟨S2176x1408, .bf16⟩
  | .local _ .vmem, ⟨4, _⟩ => ⟨S2176x1408, .bf16⟩
  | .local _ .vmem, ⟨5, _⟩ => ⟨S2176x1408, .bf16⟩
  | .local _ .vmem, ⟨6, _⟩ => ⟨S1x1024x1408, .f32⟩
  | .local _ .vmem, ⟨7, _⟩ => ⟨S1x1024x1408, .f32⟩
  | .local _ .vmem, ⟨8, _⟩ => ⟨S1024x1408, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond4 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg0 c1_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  ![arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2176x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2176x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDwUpIdeal.lean ====
abbrev S4352x1024 : Shape := ⟨2, ![4352, 1024]⟩
abbrev S4352x2816 : Shape := ⟨2, ![4352, 2816]⟩
abbrev S_ : Shape := ⟨0, ![]⟩
abbrev S1024x5632 : Shape := ⟨2, ![1024, 5632]⟩
abbrev S4352x5632 : Shape := ⟨2, ![4352, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 13
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x2816, .bf16⟩
  | .hbm, ⟨2, _⟩ => ⟨S4352x2816, .bf16⟩
  | .hbm, ⟨3, _⟩ => ⟨S_, .f32⟩
  | .hbm, ⟨4, _⟩ => ⟨S1024x5632, .f32⟩
  | .hbm, ⟨5, _⟩ => ⟨S4352x5632, .bf16⟩
  | .hbm, ⟨6, _⟩ => ⟨S4352x5632, .f32⟩
  | .hbm, ⟨7, _⟩ => ⟨S4352x1024, .f32⟩
  | .hbm, ⟨8, _⟩ => ⟨S4352x5632, .f32⟩
  | .hbm, ⟨9, _⟩ => ⟨S5632x1024, .f32⟩
  | .hbm, ⟨10, _⟩ => ⟨S1024x5632, .f32⟩
  | .hbm, ⟨11, _⟩ => ⟨S1024x4x1408, .f32⟩
  | .hbm, ⟨12, _⟩ => ⟨S4x1024x1408, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== KernelDhUp.lean ====
abbrev S1024x5632 : Shape := ⟨2, ![1024, 5632]⟩
abbrev S4352x2816 : Shape := ⟨2, ![4352, 2816]⟩
abbrev S1024x4x1408 : Shape := ⟨3, ![1024, 4, 1408]⟩
abbrev S4x1024x1408 : Shape := ⟨3, ![4, 1024, 1408]⟩
abbrev S4352x1024 : Shape := ⟨2, ![4352, 1024]⟩
abbrev S1088x1408 : Shape := ⟨2, ![1088, 1408]⟩
abbrev S1x1024x1408 : Shape := ⟨3, ![1, 1024, 1408]⟩
abbrev S1088x1024 : Shape := ⟨2, ![1088, 1024]⟩
abbrev S1024x1408 : Shape := ⟨2, ![1024, 1408]⟩

abbrev nBuf : Space → Nat
  | .hbm => 7
  | .vmem => 9
  | .smem => 0
  | _ => 0

abbrev bufTy : (tb : Table) → Fin (tcTables nBuf tb) → BufTy
  | .hbm, ⟨0, _⟩ => ⟨S1024x5632, .f32⟩
  | .hbm, ⟨1, _⟩ => ⟨S4352x2816, .bf16⟩
  | .hbm, ⟨2, _⟩ => ⟨S4352x2816, .bf16⟩
  | .hbm, ⟨3, _⟩ => ⟨S1024x5632, .bf16⟩
  | .hbm, ⟨4, _⟩ => ⟨S1024x4x1408, .bf16⟩
  | .hbm, ⟨5, _⟩ => ⟨S4x1024x1408, .bf16⟩
  | .hbm, ⟨6, _⟩ => ⟨S4352x1024, .f32⟩
  | .local _ .vmem, ⟨0, _⟩ => ⟨S1088x1408, .bf16⟩
  | .local _ .vmem, ⟨1, _⟩ => ⟨S1088x1408, .bf16⟩
  | .local _ .vmem, ⟨2, _⟩ => ⟨S1088x1408, .bf16⟩
  | .local _ .vmem, ⟨3, _⟩ => ⟨S1088x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1088x1024, .f32⟩
  | .local _ .vmem, ⟨7, _⟩ => ⟨S1088x1024, .f32⟩
  | .local _ .vmem, ⟨8, _⟩ => ⟨S1088x1024, .f32⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c0_i32_0 : BitVec 32 := 0#32
  ![arg1.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1088x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDhUpIdeal.lean ====
abbrev S1024x5632 : Shape := ⟨2, ![1024, 5632]⟩
abbrev S4352x2816 : Shape := ⟨2, ![4352, 2816]⟩
abbrev S_ : Shape := ⟨0, ![]⟩
abbrev S4352x1024 : Shape := ⟨2, ![4352, 1024]⟩
abbrev S4352x5632 : Shape := ⟨2, ![4352, 5632]⟩

abbrev nBuf : Space → Nat
  | .hbm => 9
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S4352x2816, .bf16⟩
  | .hbm, ⟨2, _⟩ => ⟨S4352x2816, .bf16⟩
  | .hbm, ⟨3, _⟩ => ⟨S_, .f32⟩
  | .hbm, ⟨4, _⟩ => ⟨S4352x1024, .f32⟩
  | .hbm, ⟨5, _⟩ => ⟨S4352x5632, .bf16⟩
  | .hbm, ⟨6, _⟩ => ⟨S4352x5632, .f32⟩
  | .hbm, ⟨7, _⟩ => ⟨S4352x5632, .f32⟩
  | .hbm, ⟨8, _⟩ => ⟨S4352x1024, .f32⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelDwDown.lean ====
abbrev S4352x2816 : Shape := ⟨2, ![4352, 2816]⟩
abbrev S4352x1024 : Shape := ⟨2, ![4352, 1024]⟩
abbrev S2816x1024 : Shape := ⟨2, ![2816, 1024]⟩
abbrev S2176x1408 : Shape := ⟨2, ![2176, 1408]⟩
abbrev S2176x1024 : Shape := ⟨2, ![2176, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x2816, .bf16⟩
  | .hbm, ⟨1, _⟩ => ⟨S4352x1024, .bf16⟩
  | .hbm, ⟨2, _⟩ => ⟨S2816x1024, .f32⟩
  | .local _ .vmem, ⟨0, _⟩ => ⟨S2176x1408, .bf16⟩
  | .local _ .vmem, ⟨1, _⟩ => ⟨S2176x1408, .bf16⟩
  | .local _ .vmem, ⟨2, _⟩ => ⟨S2176x1024, .bf16⟩
  | .local _ .vmem, ⟨3, _⟩ => ⟨S2176x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4352x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2176x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwDownIdeal.lean ====
abbrev S4352x2816 : Shape := ⟨2, ![4352, 2816]⟩
abbrev S4352x1024 : Shape := ⟨2, ![4352, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4352x2816, .bf16⟩
  | .hbm, ⟨1, _⟩ => ⟨S4352x1024, .bf16⟩
  | .hbm, ⟨2, _⟩ => ⟨S_, .f32⟩
  | .hbm, ⟨3, _⟩ => ⟨S2816x1024, .f32⟩
  | .hbm, ⟨4, _⟩ => ⟨S4352x2816, .f32⟩
  | .hbm, ⟨5, _⟩ => ⟨S4352x1024, .f32⟩
  | .hbm, ⟨6, _⟩ => ⟨S4352x1024, .f32⟩
  | .hbm, ⟨7, _⟩ => ⟨S1024x2816, .f32⟩
  | .hbm, ⟨8, _⟩ => ⟨S2816x1024, .f32⟩
  | _, _ => ⟨S4352x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelInProj.lean ====
abbrev S4352x1024 : Shape := ⟨2, ![4352, 1024]⟩
abbrev S1024x9216 : Shape := ⟨2, ![1024, 9216]⟩
abbrev S1024x4x2304 : Shape := ⟨3, ![1024, 4, 2304]⟩
abbrev S4x1024x2304 : Shape := ⟨3, ![4, 1024, 2304]⟩
abbrev S4352x9216 : Shape := ⟨2, ![4352, 9216]⟩
abbrev S2176x1024 : Shape := ⟨2, ![2176, 1024]⟩
abbrev S1x1024x1152 : Shape := ⟨3, ![1, 1024, 1152]⟩
abbrev S2176x1152 : Shape := ⟨2, ![2176, 1152]⟩
abbrev S1024x1152 : Shape := ⟨2, ![1024, 1152]⟩

abbrev nBuf : Space → Nat
  | .hbm => 6
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S1024x9216, .f32⟩
  | .hbm, ⟨2, _⟩ => ⟨S1024x9216, .bf16⟩
  | .hbm, ⟨3, _⟩ => ⟨S1024x4x2304, .bf16⟩
  | .hbm, ⟨4, _⟩ => ⟨S4x1024x2304, .bf16⟩
  | .hbm, ⟨5, _⟩ => ⟨S4352x9216, .f32⟩
  | .local _ .vmem, ⟨0, _⟩ => ⟨S2176x1024, .bf16⟩
  | .local _ .vmem, ⟨1, _⟩ => ⟨S2176x1024, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S2176x1152, .f32⟩
  | .local _ .vmem, ⟨5, _⟩ => ⟨S2176x1152, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2176x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInProjIdeal.lean ====
abbrev S4352x1024 : Shape := ⟨2, ![4352, 1024]⟩
abbrev S1024x9216 : Shape := ⟨2, ![1024, 9216]⟩
abbrev S4352x9216 : Shape := ⟨2, ![4352, 9216]⟩

abbrev nBuf : Space → Nat
  | .hbm => 4
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x9216, .f32⟩
  | .hbm, ⟨2, _⟩ => ⟨S4352x1024, .f32⟩
  | .hbm, ⟨3, _⟩ => ⟨S4352x9216, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelUpProj.lean ====
abbrev S4352x1024 : Shape := ⟨2, ![4352, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4352x5632 : Shape := ⟨2, ![4352, 5632]⟩
abbrev S2176x1024 : Shape := ⟨2, ![2176, 1024]⟩
abbrev S1x1024x1408 : Shape := ⟨3, ![1, 1024, 1408]⟩
abbrev S2176x1408 : Shape := ⟨2, ![2176, 1408]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S1024x5632, .f32⟩
  | .hbm, ⟨2, _⟩ => ⟨S1024x5632, .bf16⟩
  | .hbm, ⟨3, _⟩ => ⟨S1024x4x1408, .bf16⟩
  | .hbm, ⟨4, _⟩ => ⟨S4x1024x1408, .bf16⟩
  | .hbm, ⟨5, _⟩ => ⟨S4352x5632, .f32⟩
  | .local _ .vmem, ⟨0, _⟩ => ⟨S2176x1024, .bf16⟩
  | .local _ .vmem, ⟨1, _⟩ => ⟨S2176x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2176x1408, .f32⟩
  | .local _ .vmem, ⟨5, _⟩ => ⟨S2176x1408, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2176x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpProjIdeal.lean ====
abbrev S4352x1024 : Shape := ⟨2, ![4352, 1024]⟩
abbrev S1024x5632 : Shape := ⟨2, ![1024, 5632]⟩
abbrev S4352x5632 : Shape := ⟨2, ![4352, 5632]⟩

abbrev nBuf : Space → Nat
  | .hbm => 4
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x5632, .f32⟩
  | .hbm, ⟨2, _⟩ => ⟨S4352x1024, .f32⟩
  | .hbm, ⟨3, _⟩ => ⟨S4352x5632, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelFfnOutFwd.lean ====
abbrev S4352x2816 : Shape := ⟨2, ![4352, 2816]⟩
abbrev S4352x1024 : Shape := ⟨2, ![4352, 1024]⟩
abbrev S2x6x1024 : Shape := ⟨3, ![2, 6, 1024]⟩
abbrev S2816x1024 : Shape := ⟨2, ![2816, 1024]⟩
abbrev S4x704x1024 : Shape := ⟨3, ![4, 704, 1024]⟩
abbrev S256x2816 : Shape := ⟨2, ![256, 2816]⟩
abbrev S256x1024 : Shape := ⟨2, ![256, 1024]⟩
abbrev S1x6x1024 : Shape := ⟨3, ![1, 6, 1024]⟩
abbrev S1x1x1024 : Shape := ⟨3, ![1, 1, 1024]⟩
abbrev S1x1024 : Shape := ⟨2, ![1, 1024]⟩

abbrev nBuf : Space → Nat
  | .hbm => 8
  | .vmem => 11
  | .smem => 0
  | _ => 0

abbrev bufTy : (tb : Table) → Fin (tcTables nBuf tb) → BufTy
  | .hbm, ⟨0, _⟩ => ⟨S4352x2816, .bf16⟩
  | .hbm, ⟨1, _⟩ => ⟨S4352x1024, .f32⟩
  | .hbm, ⟨2, _⟩ => ⟨S2x6x1024, .f32⟩
  | .hbm, ⟨3, _⟩ => ⟨S2816x1024, .f32⟩
  | .hbm, ⟨4, _⟩ => ⟨S2816x1024, .bf16⟩
  | .hbm, ⟨5, _⟩ => ⟨S4x704x1024, .bf16⟩
  | .hbm, ⟨6, _⟩ => ⟨S4352x1024, .f32⟩
  | .hbm, ⟨7, _⟩ => ⟨S4352x1024, .bf16⟩
  | .local _ .vmem, ⟨0, _⟩ => ⟨S256x2816, .bf16⟩
  | .local _ .vmem, ⟨1, _⟩ => ⟨S256x2816, .bf16⟩
  | .local _ .vmem, ⟨2, _⟩ => ⟨S256x1024, .f32⟩
  | .local _ .vmem, ⟨3, _⟩ => ⟨S256x1024, .f32⟩
  | .local _ .vmem, ⟨4, _⟩ => ⟨S1x6x1024, .f32⟩
  | .local _ .vmem, ⟨5, _⟩ => ⟨S1x6x1024, .f32⟩
  | .local _ .vmem, ⟨6, _⟩ => ⟨S4x704x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | _, _ => ⟨S4352x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let v0 : BitVec 1 := Scalar.cmpi .sge arg0 c1_i32
  let v1 : BitVec 32 := Scalar.extui v0
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceFfnOutFwdIdeal.lean ====
abbrev S4352x2816 : Shape := ⟨2, ![4352, 2816]⟩
abbrev S4352x1024 : Shape := ⟨2, ![4352, 1024]⟩
abbrev S2x6x1024 : Shape := ⟨3, ![2, 6, 1024]⟩
abbrev S2816x1024 : Shape := ⟨2, ![2816, 1024]⟩
abbrev S1x1x1024 : Shape := ⟨3, ![1, 1, 1024]⟩
abbrev S1024 : Shape := ⟨1, ![1024]⟩
abbrev S256x1024 : Shape := ⟨2, ![256, 1024]⟩
abbrev S1x1024 : Shape := ⟨2, ![1, 1024]⟩
abbrev S4096x1024 : Shape := ⟨2, ![4096, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4352x2816, .bf16⟩
  | .hbm, ⟨1, _⟩ => ⟨S4352x1024, .f32⟩
  | .hbm, ⟨2, _⟩ => ⟨S2x6x1024, .f32⟩
  | .hbm, ⟨3, _⟩ => ⟨S2816x1024, .f32⟩
  | .hbm, ⟨4, _⟩ => ⟨S4352x2816, .f32⟩
  | .hbm, ⟨5, _⟩ => ⟨S4352x1024, .f32⟩
  | .hbm, ⟨6, _⟩ => ⟨S1x1x1024, .f32⟩
  | .hbm, ⟨7, _⟩ => ⟨S1024, .f32⟩
  | .hbm, ⟨8, _⟩ => ⟨S1x1x1024, .f32⟩
  | .hbm, ⟨9, _⟩ => ⟨S1024, .f32⟩
  | .hbm, ⟨10, _⟩ => ⟨S256x1024, .f32⟩
  | .hbm, ⟨11, _⟩ => ⟨S256x1024, .f32⟩
  | .hbm, ⟨12, _⟩ => ⟨S1x1024, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4352x1024, .f32⟩
  | .hbm, ⟨23, _⟩ => ⟨S4352x1024, .bf16⟩
  | _, _ => ⟨S4352x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== KernelAdamAda.lean ====
abbrev S2x1024x1536 : Shape := ⟨3, ![2, 1024, 1536]⟩
abbrev S1024x1536 : Shape := ⟨2, ![1024, 1536]⟩
abbrev S1x256x1536 : Shape := ⟨3, ![1, 256, 1536]⟩
abbrev S256x1536 : Shape := ⟨2, ![256, 1536]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x1536, .f32⟩
  | .hbm, ⟨1, _⟩ => ⟨S1024x1536, .f32⟩
  | .hbm, ⟨2, _⟩ => ⟨S1024x1536, .f32⟩
  | .hbm, ⟨3, _⟩ => ⟨S2x1024x1536, .f32⟩
  | .hbm, ⟨4, _⟩ => ⟨S2x1024x1536, .f32⟩
  | .hbm, ⟨5, _⟩ => ⟨S2x1024x1536, .f32⟩
  | .hbm, ⟨6, _⟩ => ⟨S2x1024x1536, .f32⟩
  | .hbm, ⟨7, _⟩ => ⟨S2x1024x1536, .f32⟩
  | .hbm, ⟨8, _⟩ => ⟨S2x1024x1536, .f32⟩
  | .local _ .vmem, ⟨0, _⟩ => ⟨S1x256x1536, .f32⟩
  | .local _ .vmem, ⟨1, _⟩ => ⟨S1x256x1536, .f32⟩
  | .local _ .vmem, ⟨2, _⟩ => ⟨S1x256x1536, .f32⟩
  | .local _ .vmem, ⟨3, _⟩ => ⟨S1x256x1536, .f32⟩
  | .local _ .vmem, ⟨4, _⟩ => ⟨S1x256x1536, .f32⟩
  | .local _ .vmem, ⟨5, _⟩ => ⟨S1x256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | .local _ .vmem, ⟨16, _⟩ => ⟨S1x256x1536, .f32⟩
  | .local _ .vmem, ⟨17, _⟩ => ⟨S1x256x1536, .f32⟩
  | _, _ => ⟨S2x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelAdamAdaIdeal.lean ====
abbrev S2x1024x1536 : Shape := ⟨3, ![2, 1024, 1536]⟩
abbrev S1024x1536 : Shape := ⟨2, ![1024, 1536]⟩
abbrev S1x256x1536 : Shape := ⟨3, ![1, 256, 1536]⟩
abbrev S256x1536 : Shape := ⟨2, ![256, 1536]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x1536, .f32⟩
  | .hbm, ⟨1, _⟩ => ⟨S1024x1536, .f32⟩
  | .hbm, ⟨2, _⟩ => ⟨S1024x1536, .f32⟩
  | .hbm, ⟨3, _⟩ => ⟨S2x1024x1536, .f32⟩
  | .hbm, ⟨4, _⟩ => ⟨S2x1024x1536, .f32⟩
  | .hbm, ⟨5, _⟩ => ⟨S2x1024x1536, .f32⟩
  | .hbm, ⟨6, _⟩ => ⟨S2x1024x1536, .f32⟩
  | .hbm, ⟨7, _⟩ => ⟨S2x1024x1536, .f32⟩
  | .hbm, ⟨8, _⟩ => ⟨S2x1024x1536, .f32⟩
  | .local _ .vmem, ⟨0, _⟩ => ⟨S1x256x1536, .f32⟩
  | .local _ .vmem, ⟨1, _⟩ => ⟨S1x256x1536, .f32⟩
  | .local _ .vmem, ⟨2, _⟩ => ⟨S1x256x1536, .f32⟩
  | .local _ .vmem, ⟨3, _⟩ => ⟨S1x256x1536, .f32⟩
  | .local _ .vmem, ⟨4, _⟩ => ⟨S1x256x1536, .f32⟩
  | .local _ .vmem, ⟨5, _⟩ => ⟨S1x256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | .local _ .vmem, ⟨16, _⟩ => ⟨S1x256x1536, .f32⟩
  | .local _ .vmem, ⟨17, _⟩ => ⟨S1x256x1536, .f32⟩
  | _, _ => ⟨S2x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAdamAdaIdeal.lean ====
abbrev S2x1024x1536 : Shape := ⟨3, ![2, 1024, 1536]⟩
abbrev S1024x1536 : Shape := ⟨2, ![1024, 1536]⟩
abbrev S1x1024x1536 : Shape := ⟨3, ![1, 1024, 1536]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x1536, .f32⟩
  | .hbm, ⟨1, _⟩ => ⟨S1024x1536, .f32⟩
  | .hbm, ⟨2, _⟩ => ⟨S1024x1536, .f32⟩
  | .hbm, ⟨3, _⟩ => ⟨S2x1024x1536, .f32⟩
  | .hbm, ⟨4, _⟩ => ⟨S2x1024x1536, .f32⟩
  | .hbm, ⟨5, _⟩ => ⟨S1x1024x1536, .f32⟩
  | .hbm, ⟨6, _⟩ => ⟨S1x1024x1536, .f32⟩
  | .hbm, ⟨7, _⟩ => ⟨S2x1024x1536, .f32⟩
  | .hbm, ⟨8, _⟩ => ⟨S_, .f32⟩
  | .hbm, ⟨9, _⟩ => ⟨S2x1024x1536, .f32⟩
  | .hbm, ⟨10, _⟩ => ⟨S2x1024x1536, .f32⟩
  | .hbm, ⟨11, _⟩ => ⟨S_, .f32⟩
  | .hbm, ⟨12, _⟩ => ⟨S2x1024x1536, .f32⟩
  | .hbm, ⟨13, _⟩ => ⟨S2x1024x1536, .f32⟩
  | .hbm, ⟨14, _⟩ => ⟨S2x1024x1536, .f32⟩
  | .hbm, ⟨15, _⟩ => ⟨S_, .f32⟩
  | .hbm, ⟨16, _⟩ => ⟨S2x1024x1536, .f32⟩
  | .hbm, ⟨17, _⟩ => ⟨S2x1024x1536, .f32⟩
  | .hbm, ⟨18, _⟩ => ⟨S2x1024x1536, .f32⟩
  | .hbm, ⟨19, _⟩ => ⟨S_, .f32⟩
  | .hbm, ⟨20, _⟩ => ⟨S2x1024x1536, .f32⟩
  | .hbm, ⟨21, _⟩ => ⟨S2x1024x1536, .f32⟩
  | .hbm, ⟨22, _⟩ => ⟨S2x1024x1536, .f32⟩
  | .hbm, ⟨23, _⟩ => ⟨S_, .f32⟩
  | .hbm, ⟨24, _⟩ => ⟨S2x1024x1536, .f32⟩
  | .hbm, ⟨25, _⟩ => ⟨S2x1024x1536, .f32⟩
  | .hbm, ⟨26, _⟩ => ⟨S_, .f32⟩
  | .hbm, ⟨27, _⟩ => ⟨S2x1024x1536, .f32⟩
  | .hbm, ⟨28, _⟩ => ⟨S2x1024x1536, .f32⟩
  | .hbm, ⟨29, _⟩ => ⟨S2x1024x1536, .f32⟩
  | .hbm, ⟨30, _⟩ => ⟨S_, .f32⟩
  | .hbm, ⟨31, _⟩ => ⟨S2x1024x1536, .f32⟩
  | .hbm, ⟨32, _⟩ => ⟨S2x1024x1536, .f32⟩
  | .hbm, ⟨33, _⟩ => ⟨S2x1024x1536, .f32⟩
  | .hbm, ⟨34, _⟩ => ⟨S_, .f32⟩
  | .hbm, ⟨35, _⟩ => ⟨S2x1024x1536, .f32⟩
  | .hbm, ⟨36, _⟩ => ⟨S2x1024x1536, .f32⟩
  | .hbm, ⟨37, _⟩ => ⟨S2x1024x1536, .f32⟩
  | .hbm, ⟨38, _⟩ => ⟨S_, .f32⟩
  | .hbm, ⟨39, _⟩ => ⟨S2x1024x1536, .f32⟩
  | .hbm, ⟨40, _⟩ => ⟨S2x1024x1536, .f32⟩
  | _, _ => ⟨S2x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdamIn.lean ====
abbrev S2x1024x2304 : Shape := ⟨3, ![2, 1024, 2304]⟩
abbrev S1024x2304 : Shape := ⟨2, ![1024, 2304]⟩
abbrev S1x128x2304 : Shape := ⟨3, ![1, 128, 2304]⟩
abbrev S128x2304 : Shape := ⟨2, ![128, 2304]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x2304, .f32⟩
  | .hbm, ⟨1, _⟩ => ⟨S1024x2304, .f32⟩
  | .hbm, ⟨2, _⟩ => ⟨S1024x2304, .f32⟩
  | .hbm, ⟨3, _⟩ => ⟨S2x1024x2304, .f32⟩
  | .hbm, ⟨4, _⟩ => ⟨S2x1024x2304, .f32⟩
  | .hbm, ⟨5, _⟩ => ⟨S2x1024x2304, .f32⟩
  | .hbm, ⟨6, _⟩ => ⟨S2x1024x2304, .f32⟩
  | .hbm, ⟨7, _⟩ => ⟨S2x1024x2304, .f32⟩
  | .hbm, ⟨8, _⟩ => ⟨S2x1024x2304, .f32⟩
  | .local _ .vmem, ⟨0, _⟩ => ⟨S1x128x2304, .f32⟩
  | .local _ .vmem, ⟨1, _⟩ => ⟨S1x128x2304, .f32⟩
  | .local _ .vmem, ⟨2, _⟩ => ⟨S1x128x2304, .f32⟩
  | .local _ .vmem, ⟨3, _⟩ => ⟨S1x128x2304, .f32⟩
  | .local _ .vmem, ⟨4, _⟩ => ⟨S1x128x2304, .f32⟩
  | .local _ .vmem, ⟨5, _⟩ => ⟨S1x128x2304, .f32⟩
  | .local _ .vmem, ⟨6, _⟩ => ⟨S128x2304, .f32⟩
  | .local _ .vmem, ⟨7, _⟩ => ⟨S128x2304, .f32⟩
  | .local _ .vmem, ⟨8, _⟩ => ⟨S128x2304, .f32⟩
  | .local _ .vmem, ⟨9, _⟩ => ⟨S128x2304, .f32⟩
  | .local _ .vmem, ⟨10, _⟩ => ⟨S1x128x2304, .f32⟩
  | .local _ .vmem, ⟨11, _⟩ => ⟨S1x128x2304, .f32⟩
  | .local _ .vmem, ⟨12, _⟩ => ⟨S1x128x2304, .f32⟩
  | .local _ .vmem, ⟨13, _⟩ => ⟨S1x128x2304, .f32⟩
  | .local _ .vmem, ⟨14, _⟩ => ⟨S1x128x2304, .f32⟩
  | .local _ .vmem, ⟨15, _⟩ => ⟨S1x128x2304, .f32⟩
  | .local _ .vmem, ⟨16, _⟩ => ⟨S1x128x2304, .f32⟩
  | .local _ .vmem, ⟨17, _⟩ => ⟨S1x128x2304, .f32⟩
  | _, _ => ⟨S2x1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2304 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelAdamInIdeal.lean ====
abbrev S2x1024x2304 : Shape := ⟨3, ![2, 1024, 2304]⟩
abbrev S1024x2304 : Shape := ⟨2, ![1024, 2304]⟩
abbrev S1x128x2304 : Shape := ⟨3, ![1, 128, 2304]⟩
abbrev S128x2304 : Shape := ⟨2, ![128, 2304]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x2304, .f32⟩
  | .hbm, ⟨1, _⟩ => ⟨S1024x2304, .f32⟩
  | .hbm, ⟨2, _⟩ => ⟨S1024x2304, .f32⟩
  | .hbm, ⟨3, _⟩ => ⟨S2x1024x2304, .f32⟩
  | .hbm, ⟨4, _⟩ => ⟨S2x1024x2304, .f32⟩
  | .hbm, ⟨5, _⟩ => ⟨S2x1024x2304, .f32⟩
  | .hbm, ⟨6, _⟩ => ⟨S2x1024x2304, .f32⟩
  | .hbm, ⟨7, _⟩ => ⟨S2x1024x2304, .f32⟩
  | .hbm, ⟨8, _⟩ => ⟨S2x1024x2304, .f32⟩
  | .local _ .vmem, ⟨0, _⟩ => ⟨S1x128x2304, .f32⟩
  | .local _ .vmem, ⟨1, _⟩ => ⟨S1x128x2304, .f32⟩
  | .local _ .vmem, ⟨2, _⟩ => ⟨S1x128x2304, .f32⟩
  | .local _ .vmem, ⟨3, _⟩ => ⟨S1x128x2304, .f32⟩
  | .local _ .vmem, ⟨4, _⟩ => ⟨S1x128x2304, .f32⟩
  | .local _ .vmem, ⟨5, _⟩ => ⟨S1x128x2304, .f32⟩
  | .local _ .vmem, ⟨6, _⟩ => ⟨S128x2304, .f32⟩
  | .local _ .vmem, ⟨7, _⟩ => ⟨S128x2304, .f32⟩
  | .local _ .vmem, ⟨8, _⟩ => ⟨S128x2304, .f32⟩
  | .local _ .vmem, ⟨9, _⟩ => ⟨S128x2304, .f32⟩
  | .local _ .vmem, ⟨10, _⟩ => ⟨S1x128x2304, .f32⟩
  | .local _ .vmem, ⟨11, _⟩ => ⟨S1x128x2304, .f32⟩
  | .local _ .vmem, ⟨12, _⟩ => ⟨S1x128x2304, .f32⟩
  | .local _ .vmem, ⟨13, _⟩ => ⟨S1x128x2304, .f32⟩
  | .local _ .vmem, ⟨14, _⟩ => ⟨S1x128x2304, .f32⟩
  | .local _ .vmem, ⟨15, _⟩ => ⟨S1x128x2304, .f32⟩
  | .local _ .vmem, ⟨16, _⟩ => ⟨S1x128x2304, .f32⟩
  | .local _ .vmem, ⟨17, _⟩ => ⟨S1x128x2304, .f32⟩
  | _, _ => ⟨S2x1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2304 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAdamInIdeal.lean ====
abbrev S2x1024x2304 : Shape := ⟨3, ![2, 1024, 2304]⟩
abbrev S1024x2304 : Shape := ⟨2, ![1024, 2304]⟩
abbrev S1x1024x2304 : Shape := ⟨3, ![1, 1024, 2304]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x2304, .f32⟩
  | .hbm, ⟨1, _⟩ => ⟨S1024x2304, .f32⟩
  | .hbm, ⟨2, _⟩ => ⟨S1024x2304, .f32⟩
  | .hbm, ⟨3, _⟩ => ⟨S2x1024x2304, .f32⟩
  | .hbm, ⟨4, _⟩ => ⟨S2x1024x2304, .f32⟩
  | .hbm, ⟨5, _⟩ => ⟨S1x1024x2304, .f32⟩
  | .hbm, ⟨6, _⟩ => ⟨S1x1024x2304, .f32⟩
  | .hbm, ⟨7, _⟩ => ⟨S2x1024x2304, .f32⟩
  | .hbm, ⟨8, _⟩ => ⟨S_, .f32⟩
  | .hbm, ⟨9, _⟩ => ⟨S2x1024x2304, .f32⟩
  | .hbm, ⟨10, _⟩ => ⟨S2x1024x2304, .f32⟩
  | .hbm, ⟨11, _⟩ => ⟨S_, .f32⟩
  | .hbm, ⟨12, _⟩ => ⟨S2x1024x2304, .f32⟩
  | .hbm, ⟨13, _⟩ => ⟨S2x1024x2304, .f32⟩
  | .hbm, ⟨14, _⟩ => ⟨S2x1024x2304, .f32⟩
  | .hbm, ⟨15, _⟩ => ⟨S_, .f32⟩
  | .hbm, ⟨16, _⟩ => ⟨S2x1024x2304, .f32⟩
  | .hbm, ⟨17, _⟩ => ⟨S2x1024x2304, .f32⟩
  | .hbm, ⟨18, _⟩ => ⟨S2x1024x2304, .f32⟩
  | .hbm, ⟨19, _⟩ => ⟨S_, .f32⟩
  | .hbm, ⟨20, _⟩ => ⟨S2x1024x2304, .f32⟩
  | .hbm, ⟨21, _⟩ => ⟨S2x1024x2304, .f32⟩
  | .hbm, ⟨22, _⟩ => ⟨S2x1024x2304, .f32⟩
  | .hbm, ⟨23, _⟩ => ⟨S_, .f32⟩
  | .hbm, ⟨24, _⟩ => ⟨S2x1024x2304, .f32⟩
  | .hbm, ⟨25, _⟩ => ⟨S2x1024x2304, .f32⟩
  | .hbm, ⟨26, _⟩ => ⟨S_, .f32⟩
  | .hbm, ⟨27, _⟩ => ⟨S2x1024x2304, .f32⟩
  | .hbm, ⟨28, _⟩ => ⟨S2x1024x2304, .f32⟩
  | .hbm, ⟨29, _⟩ => ⟨S2x1024x2304, .f32⟩
  | .hbm, ⟨30, _⟩ => ⟨S_, .f32⟩
  | .hbm, ⟨31, _⟩ => ⟨S2x1024x2304, .f32⟩
  | .hbm, ⟨32, _⟩ => ⟨S2x1024x2304, .f32⟩
  | .hbm, ⟨33, _⟩ => ⟨S2x1024x2304, .f32⟩
  | .hbm, ⟨34, _⟩ => ⟨S_, .f32⟩
  | .hbm, ⟨35, _⟩ => ⟨S2x1024x2304, .f32⟩
  | .hbm, ⟨36, _⟩ => ⟨S2x1024x2304, .f32⟩
  | .hbm, ⟨37, _⟩ => ⟨S2x1024x2304, .f32⟩
  | .hbm, ⟨38, _⟩ => ⟨S_, .f32⟩
  | .hbm, ⟨39, _⟩ => ⟨S2x1024x2304, .f32⟩
  | .hbm, ⟨40, _⟩ => ⟨S2x1024x2304, .f32⟩
  | _, _ => ⟨S2x1024x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdamSquare.lean ====
abbrev S2x256x1024 : Shape := ⟨3, ![2, 256, 1024]⟩
abbrev S256x1024 : Shape := ⟨2, ![256, 1024]⟩
abbrev S1x256x1024 : Shape := ⟨3, ![1, 256, 1024]⟩

abbrev nBuf : Space → Nat
  | .hbm => 9
  | .vmem => 16
  | .smem => 0
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelAdamSquareIdeal.lean ====
abbrev S2x256x1024 : Shape := ⟨3, ![2, 256, 1024]⟩
abbrev S256x1024 : Shape := ⟨2, ![256, 1024]⟩
abbrev S1x256x1024 : Shape := ⟨3, ![1, 256, 1024]⟩

abbrev nBuf : Space → Nat
  | .hbm => 9
  | .vmem => 16
  | .smem => 0
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAdamSquareIdeal.lean ====
abbrev S2x256x1024 : Shape := ⟨3, ![2, 256, 1024]⟩
abbrev S256x1024 : Shape := ⟨2, ![256, 1024]⟩
abbrev S1x256x1024 : Shape := ⟨3, ![1, 256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S256x1024, .f32⟩
  | .hbm, ⟨3, _⟩ => ⟨S2x256x1024, .f32⟩
  | .hbm, ⟨4, _⟩ => ⟨S2x256x1024, .f32⟩
  | .hbm, ⟨5, _⟩ => ⟨S1x256x1024, .f32⟩
  | .hbm, ⟨6, _⟩ => ⟨S1x256x1024, .f32⟩
  | .hbm, ⟨7, _⟩ => ⟨S2x256x1024, .f32⟩
  | .hbm, ⟨8, _⟩ => ⟨S_, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S2x256x1024, .f32⟩
  | .hbm, ⟨23, _⟩ => ⟨S_, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S2x256x1024, .f32⟩
  | .hbm, ⟨38, _⟩ => ⟨S_, .f32⟩
  | .hbm, ⟨39, _⟩ => ⟨S2x256x1024, .f32⟩
  | .hbm, ⟨40, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdamUp.lean ====
abbrev S2x1024x1408 : Shape := ⟨3, ![2, 1024, 1408]⟩
abbrev S1024x1408 : Shape := ⟨2, ![1024, 1408]⟩
abbrev S1x256x1408 : Shape := ⟨3, ![1, 256, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x1408, .f32⟩
  | .hbm, ⟨1, _⟩ => ⟨S1024x1408, .f32⟩
  | .hbm, ⟨2, _⟩ => ⟨S1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelAdamUpIdeal.lean ====
abbrev S2x1024x1408 : Shape := ⟨3, ![2, 1024, 1408]⟩
abbrev S1024x1408 : Shape := ⟨2, ![1024, 1408]⟩
abbrev S1x256x1408 : Shape := ⟨3, ![1, 256, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x1408, .f32⟩
  | .hbm, ⟨1, _⟩ => ⟨S1024x1408, .f32⟩
  | .hbm, ⟨2, _⟩ => ⟨S1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAdamUpIdeal.lean ====
abbrev S2x1024x1408 : Shape := ⟨3, ![2, 1024, 1408]⟩
abbrev S1024x1408 : Shape := ⟨2, ![1024, 1408]⟩
abbrev S1x1024x1408 : Shape := ⟨3, ![1, 1024, 1408]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S1024x1408, .f32⟩
  | .hbm, ⟨2, _⟩ => ⟨S1024x1408, .f32⟩
  | .hbm, ⟨3, _⟩ => ⟨S2x1024x1408, .f32⟩
  | .hbm, ⟨4, _⟩ => ⟨S2x1024x1408, .f32⟩
  | .hbm, ⟨5, _⟩ => ⟨S1x1024x1408, .f32⟩
  | .hbm, ⟨6, _⟩ => ⟨S1x1024x1408, .f32⟩
  | .hbm, ⟨7, _⟩ => ⟨S2x1024x1408, .f32⟩
  | .hbm, ⟨8, _⟩ => ⟨S_, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S2x1024x1408, .f32⟩
  | .hbm, ⟨23, _⟩ => ⟨S_, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2x1024x1408, .f32⟩
  | .hbm, ⟨38, _⟩ => ⟨S_, .f32⟩
  | .hbm, ⟨39, _⟩ => ⟨S2x1024x1408, .f32⟩
  | .hbm, ⟨40, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdamDown.lean ====
abbrev S2x704x1024 : Shape := ⟨3, ![2, 704, 1024]⟩
abbrev S704x1024 : Shape := ⟨2, ![704, 1024]⟩
abbrev S1x352x1024 : Shape := ⟨3, ![1, 352, 1024]⟩
abbrev S352x1024 : Shape := ⟨2, ![352, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x704x1024, .f32⟩
  | .hbm, ⟨1, _⟩ => ⟨S704x1024, .f32⟩
  | .hbm, ⟨2, _⟩ => ⟨S704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceAdamDownIdeal.lean ====
abbrev S2x704x1024 : Shape := ⟨3, ![2, 704, 1024]⟩
abbrev S704x1024 : Shape := ⟨2, ![704, 1024]⟩
abbrev S1x704x1024 : Shape := ⟨3, ![1, 704, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S704x1024, .f32⟩
  | .hbm, ⟨2, _⟩ => ⟨S704x1024, .f32⟩
  | .hbm, ⟨3, _⟩ => ⟨S2x704x1024, .f32⟩
  | .hbm, ⟨4, _⟩ => ⟨S2x704x1024, .f32⟩
  | .hbm, ⟨5, _⟩ => ⟨S1x704x1024, .f32⟩
  | .hbm, ⟨6, _⟩ => ⟨S1x704x1024, .f32⟩
  | .hbm, ⟨7, _⟩ => ⟨S2x704x1024, .f32⟩
  | .hbm, ⟨8, _⟩ => ⟨S_, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S2x704x1024, .f32⟩
  | .hbm, ⟨23, _⟩ => ⟨S_, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S2x704x1024, .f32⟩
  | .hbm, ⟨38, _⟩ => ⟨S_, .f32⟩
  | .hbm, ⟨39, _⟩ => ⟨S2x704x1024, .f32⟩
  | .hbm, ⟨40, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdamPacked.lean ====
abbrev S1x304x1024 : Shape := ⟨3, ![1, 304, 1024]⟩
abbrev S304x1024 : Shape := ⟨2, ![304, 1024]⟩

abbrev nBuf : Space → Nat
  | .hbm => 9
  | .vmem => 8
  | .smem => 0
  | _ => 0

abbrev bufTy : (tb : Table) → Fin (tcTables nBuf tb) → BufTy
  | .hbm, ⟨0, _⟩ => ⟨S1x304x1024, .f32⟩
  | .hbm, ⟨1, _⟩ => ⟨S1x304x1024, .f32⟩
  | .hbm, ⟨2, _⟩ => ⟨S1x304x1024, .f32⟩
  | .hbm, ⟨3, _⟩ => ⟨S1x304x1024, .f32⟩
  | .hbm, ⟨4, _⟩ => ⟨S304x1024, .f32⟩
  | .hbm, ⟨5, _⟩ => ⟨S1x304x1024, .f32⟩
  | .hbm, ⟨6, _⟩ => ⟨S1x304x1024, .f32⟩
  | .hbm, ⟨7, _⟩ => ⟨S1x304x1024, .f32⟩
  | .hbm, ⟨8, _⟩ => ⟨S1x304x1024, .f32⟩
  | .local _ .vmem, ⟨0, _⟩ => ⟨S1x304x1024, .f32⟩
  | .local _ .vmem, ⟨1, _⟩ => ⟨S1x304x1024, .f32⟩
  | .local _ .vmem, ⟨2, _⟩ => ⟨S1x304x1024, .f32⟩
  | .local _ .vmem, ⟨3, _⟩ => ⟨S304x1024, .f32⟩
  | .local _ .vmem, ⟨4, _⟩ => ⟨S1x304x1024, .f32⟩
  | .local _ .vmem, ⟨5, _⟩ => ⟨S1x304x1024, .f32⟩
  | .local _ .vmem, ⟨6, _⟩ => ⟨S1x304x1024, .f32⟩
  | .local _ .vmem, ⟨7, _⟩ => ⟨S1x304x1024, .f32⟩
  | _, _ => ⟨S1x304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x304x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x304x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x304x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S304x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x304x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x304x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x304x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x304x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== ReferenceAdamPackedIdeal.lean ====
abbrev S1x304x1024 : Shape := ⟨3, ![1, 304, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x304x1024, .f32⟩
  | .hbm, ⟨1, _⟩ => ⟨S1x304x1024, .f32⟩
  | .hbm, ⟨2, _⟩ => ⟨S1x304x1024, .f32⟩
  | .hbm, ⟨3, _⟩ => ⟨S1x304x1024, .f32⟩
  | .hbm, ⟨4, _⟩ => ⟨S_, .f32⟩
  | .hbm, ⟨5, _⟩ => ⟨S1x304x1024, .f32⟩
  | .hbm, ⟨6, _⟩ => ⟨S1x304x1024, .f32⟩
  | .hbm, ⟨7, _⟩ => ⟨S_, .f32⟩
  | .hbm, ⟨8, _⟩ => ⟨S1x304x1024, .f32⟩
  | .hbm, ⟨9, _⟩ => ⟨S1x304x1024, .f32⟩
  | .hbm, ⟨10, _⟩ => ⟨S1x304x1024, .f32⟩
  | .hbm, ⟨11, _⟩ => ⟨S_, .f32⟩
  | .hbm, ⟨12, _⟩ => ⟨S1x304x1024, .f32⟩
  | .hbm, ⟨13, _⟩ => ⟨S1x304x1024, .f32⟩
  | .hbm, ⟨14, _⟩ => ⟨S1x304x1024, .f32⟩
  | .hbm, ⟨15, _⟩ => ⟨S_, .f32⟩
  | .hbm, ⟨16, _⟩ => ⟨S1x304x1024, .f32⟩
  | .hbm, ⟨17, _⟩ => ⟨S1x304x1024, .f32⟩
  | .hbm, ⟨18, _⟩ => ⟨S1x304x1024, .f32⟩
  | .hbm, ⟨19, _⟩ => ⟨S_, .f32⟩
  | .hbm, ⟨20, _⟩ => ⟨S1x304x1024, .f32⟩
  | .hbm, ⟨21, _⟩ => ⟨S1x304x1024, .f32⟩
  | .hbm, ⟨22, _⟩ => ⟨S_, .f32⟩
  | .hbm, ⟨23, _⟩ => ⟨S1x304x1024, .f32⟩
  | .hbm, ⟨24, _⟩ => ⟨S1x304x1024, .f32⟩
  | .hbm, ⟨25, _⟩ => ⟨S1x304x1024, .f32⟩
  | .hbm, ⟨26, _⟩ => ⟨S_, .f32⟩
  | .hbm, ⟨27, _⟩ => ⟨S1x304x1024, .f32⟩
  | .hbm, ⟨28, _⟩ => ⟨S1x304x1024, .f32⟩
  | .hbm, ⟨29, _⟩ => ⟨S1x304x1024, .f32⟩
  | .hbm, ⟨30, _⟩ => ⟨S_, .f32⟩
  | .hbm, ⟨31, _⟩ => ⟨S1x304x1024, .f32⟩
  | .hbm, ⟨32, _⟩ => ⟨S1x304x1024, .f32⟩
  | .hbm, ⟨33, _⟩ => ⟨S1x304x1024, .f32⟩
  | .hbm, ⟨34, _⟩ => ⟨S_, .f32⟩
  | .hbm, ⟨35, _⟩ => ⟨S1x304x1024, .f32⟩
  | .hbm, ⟨36, _⟩ => ⟨S1x304x1024, .f32⟩
  | _, _ => ⟨S1x304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelNormMod.lean ====
abbrev S4352x1024 : Shape := ⟨2, ![4352, 1024]⟩
abbrev S1024 : Shape := ⟨1, ![1024]⟩
abbrev S2x6x1024 : Shape := ⟨3, ![2, 6, 1024]⟩
abbrev S1x1024 : Shape := ⟨2, ![1, 1024]⟩
abbrev S256x1024 : Shape := ⟨2, ![256, 1024]⟩
abbrev S1x6x1024 : Shape := ⟨3, ![1, 6, 1024]⟩
abbrev S256 : Shape := ⟨1, ![256]⟩
abbrev S256x1 : Shape := ⟨2, ![256, 1]⟩
abbrev S1x1x1024 : Shape := ⟨3, ![1, 1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S2x6x1024, .f32⟩
  | .hbm, ⟨3, _⟩ => ⟨S1x1024, .f32⟩
  | .hbm, ⟨4, _⟩ => ⟨S4352x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S256x1024, .bf16⟩
  | .local _ .vmem, ⟨6, _⟩ => ⟨S256x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 1 := Scalar.cmpi .sge arg0 c1_i32
  let v1 : BitVec 32 := Scalar.extui v0
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceNormModIdeal.lean ====
abbrev S4352x1024 : Shape := ⟨2, ![4352, 1024]⟩
abbrev S1024 : Shape := ⟨1, ![1024]⟩
abbrev S2x6x1024 : Shape := ⟨3, ![2, 6, 1024]⟩
abbrev S1x6x1024 : Shape := ⟨3, ![1, 6, 1024]⟩
abbrev S6x1024 : Shape := ⟨2, ![6, 1024]⟩
abbrev S1x1024 : Shape := ⟨2, ![1, 1024]⟩
abbrev S256x1024 : Shape := ⟨2, ![256, 1024]⟩
abbrev S_ : Shape := ⟨0, ![]⟩
abbrev S256 : Shape := ⟨1, ![256]⟩
abbrev S256x1 : Shape := ⟨2, ![256, 1]⟩
abbrev S4096x1024 : Shape := ⟨2, ![4096, 1024]⟩
abbrev S4096 : Shape := ⟨1, ![4096]⟩
abbrev S4096x1 : Shape := ⟨2, ![4096, 1]⟩

abbrev nBuf : Space → Nat
  | .hbm => 85
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S2x6x1024, .f32⟩
  | .hbm, ⟨3, _⟩ => ⟨S1x6x1024, .f32⟩
  | .hbm, ⟨4, _⟩ => ⟨S6x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x6x1024, .f32⟩
  | .hbm, ⟨18, _⟩ => ⟨S6x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256, .f32⟩
  | .hbm, ⟨35, _⟩ => ⟨S256x1, .f32⟩
  | .hbm, ⟨36, _⟩ => ⟨S_, .f32⟩
  | .hbm, ⟨37, _⟩ => ⟨S256x1, .f32⟩
  | .hbm, ⟨38, _⟩ => ⟨S256x1, .f32⟩
  | .hbm, ⟨39, _⟩ => ⟨S_, .f32⟩
  | .hbm, ⟨40, _⟩ => ⟨S256x1, .f32⟩
  | .hbm, ⟨41, _⟩ => ⟨S256x1, .f32⟩
  | .hbm, ⟨42, _⟩ => ⟨S256x1, .f32⟩
  | .hbm, ⟨43, _⟩ => ⟨S256x1024, .f32⟩
  | .hbm, ⟨44, _⟩ => ⟨S256x1024, .f32⟩
  | .hbm, ⟨45, _⟩ => ⟨S1x1024, .f32⟩
  | .hbm, ⟨46, _⟩ => ⟨S256x1024, .f32⟩
  | .hbm, ⟨47, _⟩ => ⟨S256x1024, .f32⟩
  | .hbm, ⟨48, _⟩ => ⟨S_, .f32⟩
  | .hbm, ⟨49, _⟩ => ⟨S1024, .f32⟩
  | .hbm, ⟨50, _⟩ => ⟨S1024, .f32⟩
  | .hbm, ⟨51, _⟩ => ⟨S1x1024, .f32⟩
  | .hbm, ⟨52, _⟩ => ⟨S256x1024, .f32⟩
  | .hbm, ⟨53, _⟩ => ⟨S256x1024, .f32⟩
  | .hbm, ⟨54, _⟩ => ⟨S1x1024, .f32⟩
  | .hbm, ⟨55, _⟩ => ⟨S256x1024, .f32⟩
  | .hbm, ⟨56, _⟩ => ⟨S256x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1024, .f32⟩
  | .hbm, ⟨77, _⟩ => ⟨S1x1024, .f32⟩
  | .hbm, ⟨78, _⟩ => ⟨S4096x1024, .f32⟩
  | .hbm, ⟨79, _⟩ => ⟨S4096x1024, .f32⟩
  | .hbm, ⟨80, _⟩ => ⟨S1x1024, .f32⟩
  | .hbm, ⟨81, _⟩ => ⟨S4096x1024, .f32⟩
  | .hbm, ⟨82, _⟩ => ⟨S4096x1024, .f32⟩
  | .hbm, ⟨83, _⟩ => ⟨S4352x1024, .f32⟩
  | .hbm, ⟨84, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_cst : Ref sig .tc := ⟨.hbm, 33, rfl⟩
abbrev main_v30 : Ref sig .tc := ⟨.hbm, 34, rfl⟩
abbrev main_v31 : Ref sig .tc := ⟨.hbm, 35, rfl⟩
abbrev main_cst_0 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst_2 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_cst_3 : Ref sig .tc := ⟨.hbm, 59, rfl⟩
abbrev main_v52 : Ref sig .tc := ⟨.hbm, 60, rfl⟩
abbrev main_v53 : Ref sig .tc := ⟨.hbm, 61, rfl⟩
abbrev main_cst_4 : Ref sig .tc := ⟨.hbm, 62, rfl⟩
abbrev main_v54 : Ref sig .tc := ⟨.hbm, 63, rfl⟩
abbrev main_v55 : Ref sig .tc := ⟨.hbm, 64, rfl⟩
abbrev main_cst_5 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_cst_6 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩

abbrev nD : Nat := 1
abbrev τ : Topo := Topo.v7x

variable {F : FTy → Type} [FloatOps F]
-- ==== KernelDwAda.lean ====
abbrev S16x1024 : Shape := ⟨2, ![16, 1024]⟩
abbrev S16x1536 : Shape := ⟨2, ![16, 1536]⟩
abbrev S1024x1536 : Shape := ⟨2, ![1024, 1536]⟩
abbrev S16x768 : Shape := ⟨2, ![16, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S16x1024, .bf16⟩
  | .hbm, ⟨1, _⟩ => ⟨S16x1536, .bf16⟩
  | .hbm, ⟨2, _⟩ => ⟨S1024x1536, .f32⟩
  | .local _ .vmem, ⟨0, _⟩ => ⟨S16x1024, .bf16⟩
  | .local _ .vmem, ⟨1, _⟩ => ⟨S16x768, .bf16⟩
  | .local _ .vmem, ⟨2, _⟩ => ⟨S16x768, .bf16⟩
  | .local _ .vmem, ⟨3, _⟩ => ⟨S1024x768, .f32⟩
  | .local _ .vmem, ⟨4, _⟩ => ⟨S1024x768, .f32⟩
  | _, _ => ⟨S16x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S16x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S16x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwAdaIdeal.lean ====
abbrev S16x1024 : Shape := ⟨2, ![16, 1024]⟩
abbrev S16x1536 : Shape := ⟨2, ![16, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16x1024, .bf16⟩
  | .hbm, ⟨1, _⟩ => ⟨S16x1536, .bf16⟩
  | .hbm, ⟨2, _⟩ => ⟨S_, .f32⟩
  | .hbm, ⟨3, _⟩ => ⟨S1024x1536, .f32⟩
  | .hbm, ⟨4, _⟩ => ⟨S16x1024, .f32⟩
  | .hbm, ⟨5, _⟩ => ⟨S16x1536, .f32⟩
  | .hbm, ⟨6, _⟩ => ⟨S16x1536, .f32⟩
  | .hbm, ⟨7, _⟩ => ⟨S1536x1024, .f32⟩
  | .hbm, ⟨8, _⟩ => ⟨S1024x1536, .f32⟩
  | _, _ => ⟨S16x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelLoss.lean ====
abbrev S4352x1024 : Shape := ⟨2, ![4352, 1024]⟩
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4352x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S4352x1024, .f32⟩
  | .hbm, ⟨5, _⟩ => ⟨S1x128, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S1x128, .f32⟩
  | .local _ .vmem, ⟨8, _⟩ => ⟨S1x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c1_i32 : BitVec 32 := 1#32
  let v3 : BitVec 1 := Scalar.cmpi .slt arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c1_i32_2 : BitVec 32 := 1#32
  let v6 : BitVec 1 := Scalar.cmpi .sge arg0 c1_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceLossIdeal.lean ====
abbrev S4352x1024 : Shape := ⟨2, ![4352, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4352x1024, .f32⟩
  | .hbm, ⟨74, _⟩ => ⟨S1x128, .f32⟩
  | .hbm, ⟨75, _⟩ => ⟨S1x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_16 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== KernelMod.lean ====
abbrev S16x1024 : Shape := ⟨2, ![16, 1024]⟩
abbrev S1024x6144 : Shape := ⟨2, ![1024, 6144]⟩
abbrev S6144 : Shape := ⟨1, ![6144]⟩
abbrev S1024x4x1536 : Shape := ⟨3, ![1024, 4, 1536]⟩
abbrev S4x1024x1536 : Shape := ⟨3, ![4, 1024, 1536]⟩
abbrev S1x6144 : Shape := ⟨2, ![1, 6144]⟩
abbrev S16x6144 : Shape := ⟨2, ![16, 6144]⟩
abbrev S1x1024x1536 : Shape := ⟨3, ![1, 1024, 1536]⟩
abbrev S1x1536 : Shape := ⟨2, ![1, 1536]⟩
abbrev S16x1536 : Shape := ⟨2, ![16, 1536]⟩
abbrev S1024x1536 : Shape := ⟨2, ![1024, 1536]⟩

abbrev nBuf : Space → Nat
  | .hbm => 9
  | .vmem => 8
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S1024x6144, .bf16⟩
  | .hbm, ⟨4, _⟩ => ⟨S1024x4x1536, .bf16⟩
  | .hbm, ⟨5, _⟩ => ⟨S4x1024x1536, .bf16⟩
  | .hbm, ⟨6, _⟩ => ⟨S1x6144, .f32⟩
  | .hbm, ⟨7, _⟩ => ⟨S16x6144, .f32⟩
  | .hbm, ⟨8, _⟩ => ⟨S16x1024, .bf16⟩
  | .local _ .vmem, ⟨0, _⟩ => ⟨S16x1024, .f32⟩
  | .local _ .vmem, ⟨1, _⟩ => ⟨S1x1024x1536, .bf16⟩
  | .local _ .vmem, ⟨2, _⟩ => ⟨S1x1024x1536, .bf16⟩
  | .local _ .vmem, ⟨3, _⟩ => ⟨S1x1536, .f32⟩
  | .local _ .vmem, ⟨4, _⟩ => ⟨S1x1536, .f32⟩
  | .local _ .vmem, ⟨5, _⟩ => ⟨S16x1536, .f32⟩
  | .local _ .vmem, ⟨6, _⟩ => ⟨S16x1536, .f32⟩
  | .local _ .vmem, ⟨7, _⟩ => ⟨S16x1024, .bf16⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceModIdeal.lean ====
abbrev S16x1024 : Shape := ⟨2, ![16, 1024]⟩
abbrev S1024x6144 : Shape := ⟨2, ![1024, 6144]⟩
abbrev S6144 : Shape := ⟨1, ![6144]⟩
abbrev S_ : Shape := ⟨0, ![]⟩
abbrev S16x6144 : Shape := ⟨2, ![16, 6144]⟩
abbrev S1x6144 : Shape := ⟨2, ![1, 6144]⟩

abbrev nBuf : Space → Nat
  | .hbm => 26
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x6144, .f32⟩
  | .hbm, ⟨13, _⟩ => ⟨S1x6144, .f32⟩
  | .hbm, ⟨14, _⟩ => ⟨S16x6144, .f32⟩
  | .hbm, ⟨15, _⟩ => ⟨S16x6144, .f32⟩
  | .hbm, ⟨16, _⟩ => ⟨S16x1024, .f32⟩
  | .hbm, ⟨17, _⟩ => ⟨S16x1024, .f32⟩
  | .hbm, ⟨18, _⟩ => ⟨S_, .f32⟩
  | .hbm, ⟨19, _⟩ => ⟨S16x1024, .f32⟩
  | .hbm, ⟨20, _⟩ => ⟨S16x1024, .f32⟩
  | .hbm, ⟨21, _⟩ => ⟨S_, .f32⟩
  | .hbm, ⟨22, _⟩ => ⟨S16x1024, .f32⟩
  | .hbm, ⟨23, _⟩ => ⟨S16x1024, .f32⟩
  | .hbm, ⟨24, _⟩ => ⟨S16x1024, .f32⟩
  | .hbm, ⟨25, _⟩ => ⟨S16x1024, .bf16⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call1_v0 : Ref sig .tc := ⟨.hbm, 16, rfl⟩
abbrev main_call1_v1 : Ref sig .tc := ⟨.hbm, 17, rfl⟩
abbrev main_call1_cst : Ref sig .tc := ⟨.hbm, 18, rfl⟩
abbrev main_call1_v2 : Ref sig .tc := ⟨.hbm, 19, rfl⟩
abbrev main_call1_v3 : Ref sig .tc := ⟨.hbm, 20, rfl⟩
abbrev main_call1_cst_0 : Ref sig .tc := ⟨.hbm, 21, rfl⟩
abbrev main_call1_v4 : Ref sig .tc := ⟨.hbm, 22, rfl⟩
abbrev main_call1_v5 : Ref sig .tc := ⟨.hbm, 23, rfl⟩
abbrev main_v5 : Ref sig .tc := ⟨.hbm, 24, rfl⟩
abbrev main_v6 : Ref sig .tc := ⟨.hbm, 25, rfl⟩

abbrev nD : Nat := 1
abbrev τ : Topo := Topo.v7x

variable {F : FTy → Type} [FloatOps F]
-- ==== KernelCvecBwd.lean ====
abbrev S16x6144 : Shape := ⟨2, ![16, 6144]⟩
abbrev S1024x6144 : Shape := ⟨2, ![1024, 6144]⟩
abbrev S16x1024 : Shape := ⟨2, ![16, 1024]⟩
abbrev S1024x4x1536 : Shape := ⟨3, ![1024, 4, 1536]⟩
abbrev S4x1024x1536 : Shape := ⟨3, ![4, 1024, 1536]⟩
abbrev S16x1536 : Shape := ⟨2, ![16, 1536]⟩
abbrev S1x1024x1536 : Shape := ⟨3, ![1, 1024, 1536]⟩
abbrev S1024x1536 : Shape := ⟨2, ![1024, 1536]⟩

abbrev nBuf : Space → Nat
  | .hbm => 7
  | .vmem => 6
  | .smem => 0
  | _ => 0

abbrev bufTy : (tb : Table) → Fin (tcTables nBuf tb) → BufTy
  | .hbm, ⟨0, _⟩ => ⟨S16x6144, .f32⟩
  | .hbm, ⟨1, _⟩ => ⟨S1024x6144, .f32⟩
  | .hbm, ⟨2, _⟩ => ⟨S16x1024, .f32⟩
  | .hbm, ⟨3, _⟩ => ⟨S1024x6144, .bf16⟩
  | .hbm, ⟨4, _⟩ => ⟨S1024x4x1536, .bf16⟩
  | .hbm, ⟨5, _⟩ => ⟨S4x1024x1536, .bf16⟩
  | .hbm, ⟨6, _⟩ => ⟨S16x1024, .f32⟩
  | .local _ .vmem, ⟨0, _⟩ => ⟨S16x1536, .f32⟩
  | .local _ .vmem, ⟨1, _⟩ => ⟨S16x1536, .f32⟩
  | .local _ .vmem, ⟨2, _⟩ => ⟨S1x1024x1536, .bf16⟩
  | .local _ .vmem, ⟨3, _⟩ => ⟨S1x1024x1536, .bf16⟩
  | .local _ .vmem, ⟨4, _⟩ => ⟨S16x1024, .f32⟩
  | .local _ .vmem, ⟨5, _⟩ => ⟨S16x1024, .f32⟩
  | _, _ => ⟨S16x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceCvecBwdIdeal.lean ====
abbrev S16x6144 : Shape := ⟨2, ![16, 6144]⟩
abbrev S1024x6144 : Shape := ⟨2, ![1024, 6144]⟩
abbrev S16x1024 : Shape := ⟨2, ![16, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16x6144, .f32⟩
  | .hbm, ⟨1, _⟩ => ⟨S1024x6144, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S16x1024, .f32⟩
  | .hbm, ⟨16, _⟩ => ⟨S16x6144, .f32⟩
  | .hbm, ⟨17, _⟩ => ⟨S16x1024, .f32⟩
  | .hbm, ⟨18, _⟩ => ⟨S16x1024, .f32⟩
  | .hbm, ⟨19, _⟩ => ⟨S16x1024, .f32⟩
  | .hbm, ⟨20, _⟩ => ⟨S16x1024, .f32⟩
  | .hbm, ⟨21, _⟩ => ⟨S16x1024, .f32⟩
  | _, _ => ⟨S16x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v0_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_v0_0 : Ref sig .tc := ⟨.hbm, 15, rfl⟩
abbrev main_v1 : Ref sig .tc := ⟨.hbm, 16, rfl⟩
abbrev main_v2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v3 : Ref sig .tc := ⟨.hbm, 21, rfl⟩

abbrev nD : Nat := 1
abbrev τ : Topo := Topo.v7x

variable {F : FTy → Type} [FloatOps F]
-- ==== KernelNormBwd.lean ====
abbrev S4352x1024 : Shape := ⟨2, ![4352, 1024]⟩
abbrev S1024 : Shape := ⟨1, ![1024]⟩
abbrev S2x6x1024 : Shape := ⟨3, ![2, 6, 1024]⟩
abbrev S1x1024 : Shape := ⟨2, ![1, 1024]⟩
abbrev S2x2x1024 : Shape := ⟨3, ![2, 2, 1024]⟩
abbrev S256x1024 : Shape := ⟨2, ![256, 1024]⟩
abbrev S1x6x1024 : Shape := ⟨3, ![1, 6, 1024]⟩
abbrev S1x2x1024 : Shape := ⟨3, ![1, 2, 1024]⟩
abbrev S2x1024 : Shape := ⟨2, ![2, 1024]⟩
abbrev S256 : Shape := ⟨1, ![256]⟩
abbrev S256x1 : Shape := ⟨2, ![256, 1]⟩
abbrev S1x1x1024 : Shape := ⟨3, ![1, 1, 1024]⟩

abbrev nBuf : Space → Nat
  | .hbm => 9
  | .vmem => 14
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S4352x1024, .f32⟩
  | .hbm, ⟨3, _⟩ => ⟨S1024, .f32⟩
  | .hbm, ⟨4, _⟩ => ⟨S2x6x1024, .f32⟩
  | .hbm, ⟨5, _⟩ => ⟨S1x1024, .f32⟩
  | .hbm, ⟨6, _⟩ => ⟨S4352x1024, .f32⟩
  | .hbm, ⟨7, _⟩ => ⟨S2x2x1024, .f32⟩
  | .hbm, ⟨8, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x6x1024, .f32⟩
  | .local _ .vmem, ⟨8, _⟩ => ⟨S1x6x1024, .f32⟩
  | .local _ .vmem, ⟨9, _⟩ => ⟨S256x1024, .f32⟩
  | .local _ .vmem, ⟨10, _⟩ => ⟨S256x1024, .f32⟩
  | .local _ .vmem, ⟨11, _⟩ => ⟨S1x2x1024, .f32⟩
  | .local _ .vmem, ⟨12, _⟩ => ⟨S1x2x1024, .f32⟩
  | .local _ .vmem, ⟨13, _⟩ => ⟨S1x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let v0 : BitVec 1 := Scalar.cmpi .sge arg0 c1_i32
  let v1 : BitVec 32 := Scalar.extui v0
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c1_i32 : BitVec 32 := 1#32
  let v0 : BitVec 1 := Scalar.cmpi .sge arg0 c1_i32
  let v1 : BitVec 32 := Scalar.extui v0
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceNormBwdIdeal.lean ====
abbrev S4352x1024 : Shape := ⟨2, ![4352, 1024]⟩
abbrev S1024 : Shape := ⟨1, ![1024]⟩
abbrev S2x6x1024 : Shape := ⟨3, ![2, 6, 1024]⟩
abbrev S_ : Shape := ⟨0, ![]⟩
abbrev S4352 : Shape := ⟨1, ![4352]⟩
abbrev S4352x1 : Shape := ⟨2, ![4352, 1]⟩
abbrev S1x1024 : Shape := ⟨2, ![1, 1024]⟩
abbrev S256x1024 : Shape := ⟨2, ![256, 1024]⟩
abbrev S1x1x1024 : Shape := ⟨3, ![1, 1, 1024]⟩
abbrev S4096x1024 : Shape := ⟨2, ![4096, 1024]⟩
abbrev S2x2x1024 : Shape := ⟨3, ![2, 2, 1024]⟩

abbrev nBuf : Space → Nat
  | .hbm => 130
  | .vmem => 0
  | .smem => 0
  | _ => 0

abbrev hbmTy0_0 (i : Nat) : BufTy := match i % 128 with
  | 0 => ⟨S4352x1024, .f32⟩
  | 1 => ⟨S4352x1024, .f32⟩
  | 2 => ⟨S4352x1024, .f32⟩
  | 3 => ⟨S1024, .f32⟩
  | 4 => ⟨S2x6x1024, .f32⟩
  | 5 => ⟨S4352x1024, .f32⟩
  | 6 => ⟨S_, .f32⟩
  | 7 => ⟨S4352, .f32⟩
  | 8 => ⟨S4352x1, .f32⟩
  | 9 => ⟨S_, .f32⟩
  | 10 => ⟨S4352x1, .f32⟩
  | 11 => ⟨S4352x1, .f32⟩
  | 12 => ⟨S_, .f32⟩
  | 13 => ⟨S4352x1, .f32⟩
  | 14 => ⟨S4352x1, .f32⟩
  | 15 => ⟨S4352x1, .f32⟩
  | 16 => ⟨S4352x1, .f32⟩
  | 17 => ⟨S_, .f32⟩
  | 18 => ⟨S4352x1, .f32⟩
  | 19 => ⟨S4352x1, .f32⟩
  | 20 => ⟨S4352x1024, .f32⟩
  | 21 => ⟨S4352x1024, .f32⟩
  | 22 => ⟨S1x1024, .f32⟩
  | 23 => ⟨S4352x1024, .f32⟩
  | 24 => ⟨S4352x1024, .f32⟩
  | 25 => ⟨S256x1024, .f32⟩
  | 26 => ⟨S1x1x1024, .f32⟩
  | 27 => ⟨S1024, .f32⟩
  | 28 => ⟨S1x1x1024, .f32⟩
  | 29 => ⟨S1024, .f32⟩
  | 30 => ⟨S_, .f32⟩
  | 31 => ⟨S1024, .f32⟩
  | 32 => ⟨S1024, .f32⟩
  | 33 => ⟨S1x1024, .f32⟩
  | 34 => ⟨S256x1024, .f32⟩
  | 35 => ⟨S256x1024, .f32⟩
  | 36 => ⟨S1x1024, .f32⟩
  | 37 => ⟨S256x1024, .f32⟩
  | 38 => ⟨S256x1024, .f32⟩
  | 39 => ⟨S4096x1024, .f32⟩
  | 40 => ⟨S1x1x1024, .f32⟩
  | 41 => ⟨S1024, .f32⟩
  | 42 => ⟨S1x1x1024, .f32⟩
  | 43 => ⟨S1024, .f32⟩
  | 44 => ⟨S_, .f32⟩
  | 45 => ⟨S1024, .f32⟩
  | 46 => ⟨S1024, .f32⟩
  | 47 => ⟨S1x1024, .f32⟩
  | 48 => ⟨S4096x1024, .f32⟩
  | 49 => ⟨S4096x1024, .f32⟩
  | 50 => ⟨S1x1024, .f32⟩
  | 51 => ⟨S4096x1024, .f32⟩
  | 52 => ⟨S4096x1024, .f32⟩
  | 53 => ⟨S4352x1024, .f32⟩
  | 54 => ⟨S256x1024, .f32⟩
  | 55 => ⟨S4096x1024, .f32⟩
  | 56 => ⟨S_, .f32⟩
  | 57 => ⟨S1024, .f32⟩
  | 58 => ⟨S1x1024, .f32⟩
  | 59 => ⟨S_, .f32⟩
  | 60 => ⟨S1024, .f32⟩
  | 61 => ⟨S4096x1024, .f32⟩
  | 62 => ⟨S_, .f32⟩
  | 63 => ⟨S1024, .f32⟩
  | 64 => ⟨S1x1024, .f32⟩
  | 65 => ⟨S4096x1024, .f32⟩
  | 66 => ⟨S4096x1024, .f32⟩
  | 67 => ⟨S_, .f32⟩
  | 68 => ⟨S1024, .f32⟩
  | 69 => ⟨S1x1x1024, .f32⟩
  | 70 => ⟨S_, .f32⟩
  | 71 => ⟨S2x6x1024, .f32⟩
  | 72 => ⟨S1x1x1024, .f32⟩
  | 73 => ⟨S_, .f32⟩
  | 74 => ⟨S2x6x1024, .f32⟩
  | 75 => ⟨S2x6x1024, .f32⟩
  | 76 => ⟨S_, .f32⟩
  | 77 => ⟨S4352x1024, .f32⟩
  | 78 => ⟨S_, .f32⟩
  | 79 => ⟨S1024, .f32⟩
  | 80 => ⟨S1x1024, .f32⟩
  | 81 => ⟨S_, .f32⟩
  | 82 => ⟨S1024, .f32⟩
  | 83 => ⟨S256x1024, .f32⟩
  | 84 => ⟨S_, .f32⟩
  | 85 => ⟨S1024, .f32⟩
  | 86 => ⟨S1x1024, .f32⟩
  | 87 => ⟨S256x1024, .f32⟩
  | 88 => ⟨S256x1024, .f32⟩
  | 89 => ⟨S_, .f32⟩
  | 90 => ⟨S1024, .f32⟩
  | 91 => ⟨S1x1x1024, .f32⟩
  | 92 => ⟨S_, .f32⟩
  | 93 => ⟨S2x6x1024, .f32⟩
  | 94 => ⟨S2x6x1024, .f32⟩
  | 95 => ⟨S1x1x1024, .f32⟩
  | 96 => ⟨S_, .f32⟩
  | 97 => ⟨S2x6x1024, .f32⟩
  | 98 => ⟨S2x6x1024, .f32⟩
  | 99 => ⟨S_, .f32⟩
  | 100 => ⟨S4352x1024, .f32⟩
  | 101 => ⟨S4352x1024, .f32⟩
  | 102 => ⟨S4352x1024, .f32⟩
  | 103 => ⟨S_, .f32⟩
  | 104 => ⟨S1024, .f32⟩
  | 105 => ⟨S1x1024, .f32⟩
  | 106 => ⟨S4352x1024, .f32⟩
  | 107 => ⟨S4352x1024, .f32⟩
  | 108 => ⟨S_, .f32⟩
  | 109 => ⟨S1024, .f32⟩
  | 110 => ⟨S4352x1024, .f32⟩
  | 111 => ⟨S_, .f32⟩
  | 112 => ⟨S4352, .f32⟩
  | 113 => ⟨S4352x1, .f32⟩
  | 114 => ⟨S4352x1024, .f32⟩
  | 115 => ⟨S4352x1024, .f32⟩
  | 116 => ⟨S4352x1, .f32⟩
  | 117 => ⟨S_, .f32⟩
  | 118 => ⟨S4352x1, .f32⟩
  | 119 => ⟨S4352x1, .f32⟩
  | 120 => ⟨S_, .f32⟩
  | 121 => ⟨S4352, .f32⟩
  | 122 => ⟨S4352x1024, .f32⟩
  | 123 => ⟨S4352x1024, .f32⟩
  | 124 => ⟨S4352x1024, .f32⟩
  | 125 => ⟨S4352x1024, .f32⟩
  | 126 => ⟨S4352x1024, .f32⟩
  | 127 => ⟨S4352x1024, .f32⟩
  | _ => ⟨S4352x1024, .f32⟩

abbrev hbmTy0_1 (i : Nat) : BufTy := match i % 128 with
  | 0 => ⟨S2x2x1024, .f32⟩
  | 1 => ⟨S1x1024, .f32⟩
  | _ => ⟨S4352x1024, .f32⟩

abbrev hbmTy (i : Nat) : BufTy := match i / 128 with
  | 0 => hbmTy0_0 i
  | 1 => hbmTy0_1 i
  | _ => ⟨S4352x1024, .f32⟩

abbrev bufTy : (tb : Table) → Fin (tcTables nBuf tb) → BufTy
  | .hbm, ⟨i, _⟩ => hbmTy i
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_cst_10 : Ref sig .tc := ⟨.hbm, 73, rfl⟩
abbrev main_v57 : Ref sig .tc := ⟨.hbm, 74, rfl⟩
abbrev main_v58 : Ref sig .tc := ⟨.hbm, 75, rfl⟩
abbrev main_cst_11 : Ref sig .tc := ⟨.hbm, 76, rfl⟩
abbrev main_v59 : Ref sig .tc := ⟨.hbm, 77, rfl⟩
abbrev main_cst_12 : Ref sig .tc := ⟨.hbm, 78, rfl⟩
abbrev main_v60 : Ref sig .tc := ⟨.hbm, 79, rfl⟩
abbrev main_v61 : Ref sig .tc := ⟨.hbm, 80, rfl⟩
abbrev main_cst_13 : Ref sig .tc := ⟨.hbm, 81, rfl⟩
abbrev main_v62 : Ref sig .tc := ⟨.hbm, 82, rfl⟩
abbrev main_v63 : Ref sig .tc := ⟨.hbm, 83, rfl⟩
abbrev main_cst_14 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_15 : Ref sig .tc := ⟨.hbm, 89, rfl⟩
abbrev main_v68 : Ref sig .tc := ⟨.hbm, 90, rfl⟩
abbrev main_v69 : Ref sig .tc := ⟨.hbm, 91, rfl⟩
abbrev main_cst_16 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_17 : Ref sig .tc := ⟨.hbm, 96, rfl⟩
abbrev main_v73 : Ref sig .tc := ⟨.hbm, 97, rfl⟩
abbrev main_v74 : Ref sig .tc := ⟨.hbm, 98, rfl⟩
abbrev main_cst_18 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_19 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_20 : Ref sig .tc := ⟨.hbm, 108, rfl⟩
abbrev main_v82 : Ref sig .tc := ⟨.hbm, 109, rfl⟩
abbrev main_v83 : Ref sig .tc := ⟨.hbm, 110, rfl⟩
abbrev main_cst_21 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_22 : Ref sig .tc := ⟨.hbm, 117, rfl⟩
abbrev main_v89 : Ref sig .tc := ⟨.hbm, 118, rfl⟩
abbrev main_v90 : Ref sig .tc := ⟨.hbm, 119, rfl⟩
abbrev main_cst_23 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩

abbrev nD : Nat := 1
abbrev τ : Topo := Topo.v7x

variable {F : FTy → Type} [FloatOps F]
-- ==== Proof.Sgu.Real.lean ====
/-
  The spatial gating unit's gradient over the real numbers: the functions both programs compute, with no arrays in them.
  A row is a function of its 1024 columns; a chunk is 128 rows; a column is 128 times its group plus its lane.
-/
module

public import Mathlib.Analysis.SpecialFunctions.Trigonometric.DerivHyp
public import Mathlib.Data.EReal.Inv

@[expose] public section

noncomputable section

namespace Cert.Sgu

/-- The four rounded constants the programs share: the slope and the cubic coefficient of GELU, and the layer norm's epsilon. -/
def gc : ℝ := 13386282 / 16777216
def ga : ℝ := 12003091 / 268435456
def eps : ℝ := 10995116 / 1099511627776

/-- The hyperbolic tangent inside GELU. -/
def gt (x : ℝ) : ℝ := Real.tanh (gc * (x + ga * (x * x) * x))

/-- GELU by its tangent. -/
def gelu (x : ℝ) : ℝ := x * (1 / 2 * (1 + gt x))

/-- GELU's derivative. -/
def dgelu (x : ℝ) : ℝ := 1 / 2 * (1 + gt x) + 1 / 2 * x * (1 - gt x * gt x) * (gc + 3 * gc * ga * (x * x))

/-- A row's mean. -/
def mean (x : Fin 1024 → ℝ) : ℝ := (∑ j, x j) * (1 / 1024)

/-- A row less its mean. -/
def cen (x : Fin 1024 → ℝ) (j : Fin 1024) : ℝ := x j - mean x

/-- The row's variance plus epsilon. -/
def vare (x : Fin 1024 → ℝ) : ℝ := mean (fun j => cen x j * cen x j) + eps

/-- The reciprocal of the row's standard deviation. -/
def rs (x : Fin 1024 → ℝ) : ℝ := (Real.sqrt (vare x))⁻¹

/-- The normalized row. -/
def xh (x : Fin 1024 → ℝ) (j : Fin 1024) : ℝ := cen x j * rs x

/-- The layer norm's row. -/
def vn (lw lb : Fin 1024 → ℝ) (x : Fin 1024 → ℝ) (j : Fin 1024) : ℝ := xh x j * lw j + lb j

/-- The layer norm's gradient with respect to its input, `dx` being the gradient with respect to the normalized row. -/
def dln (x dx : Fin 1024 → ℝ) (j : Fin 1024) : ℝ :=
  rs x * (dx j - mean dx - xh x j * mean (fun k => dx k * xh x k))

theorem eps_pos : 0 < eps := by unfold eps; norm_num

theorem vare_pos (x : Fin 1024 → ℝ) : 0 < vare x := by
  have h : 0 ≤ mean (fun j => cen x j * cen x j) :=
    mul_nonneg (Finset.sum_nonneg fun j _ => mul_self_nonneg _) (by norm_num)
  have := eps_pos
  unfold vare
  linarith

/-- The centred row sums to zero. -/
theorem sum_cen (x : Fin 1024 → ℝ) : ∑ j, cen x j = 0 := by
  simp only [cen, Finset.sum_sub_distrib, Finset.sum_const, Finset.card_univ, Fintype.card_fin, mean]
  ring

/-- The gradient as automatic differentiation states it, term by term, is the factored one. -/
theorem dln_eq (x dx : Fin 1024 → ℝ) (j : Fin 1024) :
    dx j * rs x + ((∑ k, cen x k * dx k) * (-(1 / 2) * (rs x * (1 / vare x))) * (1 / 1024)) * (2 * cen x j)
      + ((∑ k, -(dx k * rs x)) + ∑ k, -(((∑ k, cen x k * dx k) * (-(1 / 2) * (rs x * (1 / vare x))) * (1 / 1024)) * (2 * cen x k)))
        * (1 / 1024)
    = dln x dx j := by
  have hv : 1 / vare x = rs x * rs x := by
    unfold rs
    rw [← mul_inv, Real.mul_self_sqrt (vare_pos x).le, one_div]
  have h0 : ∑ k, -(((∑ k, cen x k * dx k) * (-(1 / 2) * (rs x * (1 / vare x))) * (1 / 1024)) * (2 * cen x k)) = 0 := by
    rw [Finset.sum_neg_distrib, ← Finset.mul_sum, ← Finset.mul_sum, sum_cen]
    ring
  have h1 : ∑ k, -(dx k * rs x) = -((∑ k, dx k) * rs x) := by
    rw [Finset.sum_neg_distrib, ← Finset.sum_mul]
  have h2 : ∑ k, dx k * xh x k = (∑ k, cen x k * dx k) * rs x := by
    rw [Finset.sum_mul]
    exact Finset.sum_congr rfl fun k _ => by unfold xh; ring
  rw [h0, h1, hv]
  simp only [dln, mean]
  rw [h2]
  simp only [xh]
  ring

/-- Column `128 g + d`. -/
def col (g : Fin 8) (d : Fin 128) : Fin 1024 := ⟨g.val * 128 + d.val, by omega⟩
/-- A column's group and lane. -/
def grp (j : Fin 1024) : Fin 8 := ⟨j.val / 128, by omega⟩
def lane (j : Fin 1024) : Fin 128 := ⟨j.val % 128, by omega⟩
/-- Row `128 n + t`. -/
def row (n : Fin 34) (t : Fin 128) : Fin 4352 := ⟨n.val * 128 + t.val, by omega⟩
/-- A row's chunk and place in it. -/
def chk (r : Fin 4352) : Fin 34 := ⟨r.val / 128, by omega⟩
def pos (r : Fin 4352) : Fin 128 := ⟨r.val % 128, by omega⟩

theorem col_grp_lane (j : Fin 1024) : col (grp j) (lane j) = j := Fin.ext (by simp only [col, grp, lane]; omega)
theorem grp_col (g : Fin 8) (d : Fin 128) : grp (col g d) = g := Fin.ext (by simp only [col, grp]; omega)
theorem lane_col (g : Fin 8) (d : Fin 128) : lane (col g d) = d := Fin.ext (by simp only [col, lane]; omega)
theorem row_chk_pos (r : Fin 4352) : row (chk r) (pos r) = r := Fin.ext (by simp only [row, chk, pos]; omega)
theorem chk_row (n : Fin 34) (t : Fin 128) : chk (row n t) = n := Fin.ext (by simp only [row, chk]; omega)
theorem pos_row (n : Fin 34) (t : Fin 128) : pos (row n t) = t := Fin.ext (by simp only [row, pos]; omega)

section Chunk

variable (u v y : Fin 128 → Fin 1024 → ℝ) (lw lb : Fin 1024 → ℝ) (w : Fin 8 → Fin 128 → Fin 128 → ℝ) (b : Fin 8 → Fin 128 → ℝ)

/-- The rows the norm takes: GELU of the second half. -/
def gv (s : Fin 128) (j : Fin 1024) : ℝ := gelu (v s j)
/-- The mixed rows: each group's matrix times its normalized lanes, plus the bias. -/
def mixed (t : Fin 128) (j : Fin 1024) : ℝ := (∑ s, w (grp j) t s * vn lw lb (gv v s) j) + b (grp j) t
/-- The gradient with respect to the mixed rows. -/
def dmix (t : Fin 128) (j : Fin 1024) : ℝ := y t j * gelu (u t j)
/-- The gradient with respect to the first half. -/
def du (t : Fin 128) (j : Fin 1024) : ℝ := y t j * mixed v lw lb w b t j * dgelu (u t j)
/-- The gradient with respect to the normalized rows. -/
def dvn (s : Fin 128) (j : Fin 1024) : ℝ := ∑ t, w (grp j) t s * dmix u y t j
/-- The gradient with respect to the second half. -/
def dv (s : Fin 128) (j : Fin 1024) : ℝ := dln (gv v s) (fun k => dvn u y w s k * lw k) j * dgelu (v s j)
/-- One chunk's part of the gradients of the matrices, the biases, the norm's scale and the norm's shift. -/
def dw (g : Fin 8) (t s : Fin 128) : ℝ := ∑ d, dmix u y t (col g d) * vn lw lb (gv v s) (col g d)
def db (t : Fin 128) (g : Fin 8) : ℝ := ∑ d, dmix u y t (col g d)
def dlw (j : Fin 1024) : ℝ := ∑ s, dvn u y w s j * xh (gv v s) j
def dlb (j : Fin 1024) : ℝ := ∑ s, dvn u y w s j

end Chunk

/-- A finite sum of reals, in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

end Cert.Sgu

end
-- ==== Proof.Sgu.Consts.lean ====
/-
  The float constants the two programs spell, as the real numbers their patterns denote, stated once for every module.
-/
module

public import proofs.«01_k».proof.Proof.Sgu.Real
public import Idealize.ShloMosaic.PureOps.Ideal

@[expose] public section

noncomputable section

namespace Cert.Sgu

open Idealize.ShloMosaic

theorem bits_zero : Ideal.ofBits .f32 0x00000000#32 = ((0 : ℝ) : EReal) := by
  simp [Ideal.ofBits, Ideal.ieee]
theorem bits_half : Ideal.ofBits .f32 0x3F000000#32 = ((1 / 2 : ℝ) : EReal) := by
  simp [Ideal.ofBits, Ideal.ieee, -EReal.coe_mul]; norm_num
theorem bits_neg_half : Ideal.ofBits .f32 0xBF000000#32 = ((-(1 / 2) : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_three : Ideal.ofBits .f32 0x40400000#32 = ((3 : ℝ) : EReal) := by
  simp [Ideal.ofBits, Ideal.ieee, -EReal.coe_mul]; norm_num
theorem bits_1024 : Ideal.ofBits .f32 0x44800000#32 = ((1024 : ℝ) : EReal) := by
  simp [Ideal.ofBits, Ideal.ieee, -EReal.coe_mul]; norm_num
theorem bits_gc : Ideal.ofBits .f32 0x3F4C422A#32 = (gc : EReal) := by
  unfold gc; simp [Ideal.ofBits, Ideal.ieee, -EReal.coe_mul]; norm_num
theorem bits_ga : Ideal.ofBits .f32 0x3D372713#32 = (ga : EReal) := by
  unfold ga; simp [Ideal.ofBits, Ideal.ieee, -EReal.coe_mul]; norm_num
theorem bits_eps : Ideal.ofBits .f32 0x3727C5AC#32 = (eps : EReal) := by
  unfold eps; simp [Ideal.ofBits, Ideal.ieee, -EReal.coe_mul]; norm_num
theorem bits_inf : Ideal.ofBits .f32 0x7F800000#32 = (⊤ : EReal) := by
  simp [Ideal.ofBits, Ideal.ieee]

end Cert.Sgu

end
-- ==== Proof.Sgu.Block.lean ====
/-
  One grid point's blocks: what the kernel's body computes of the rows it holds, when they are real numbers.
-/
module

public import proofs.«01_k».proof.Proof.Gen.KernelIdeal.Skeleton
public import proofs.«01_k».proof.Proof.Sgu.Consts
public import Idealize.ShloMosaic.Lib.Pipeline.ValueKit

@[expose] public section

noncomputable section

namespace Cert.Sgu

open Idealize.ShloMosaic

/-- A real matrix as an array of extended reals. -/
def up2 {a b : ℕ} (f : Fin a → Fin b → ℝ) : (⟨2, ![a, b]⟩ : Shape).Idx → EReal := fun i => (f (i 0) (i 1) : EReal)

theorem up2_apply {a b : ℕ} (f : Fin a → Fin b → ℝ) (i : (⟨2, ![a, b]⟩ : Shape).Idx) : up2 f i = (f (i 0) (i 1) : EReal) := rfl

/-- A stack of real matrices as an array of extended reals. -/
def up3 {a b c : ℕ} (f : Fin a → Fin b → Fin c → ℝ) : (⟨3, ![a, b, c]⟩ : Shape).Idx → EReal := fun i => (f (i 0) (i 1) (i 2) : EReal)

theorem up3_apply {a b c : ℕ} (f : Fin a → Fin b → Fin c → ℝ) (i : (⟨3, ![a, b, c]⟩ : Shape).Idx) : up3 f i = (f (i 0) (i 1) (i 2) : EReal) := rfl

end Cert.Sgu

namespace Cert.KernelIdeal.Block

open Cert.KernelIdeal Cert.KernelIdeal.Gen Idealize.ShloMosaic Cert.Sgu

/-- The named product of GELU's three constants. -/
theorem gelu_3ca : Named.named (F := Ideal) κ "gelu_3ca" (φ := .f32) 0x3DDB33B6#32 = ((3 * gc * ga : ℝ) : EReal) :=
  (IdealRules.named_const.ideal_named_scalar _ _ _ _ rfl).trans (by unfold gc ga; norm_num)

/-- The first half's GELU. -/
theorem pay8 (U : Fin 128 → Fin 1024 → ℝ) : k0_pay8 (F := Ideal) (up2 U) = up2 fun t j => gelu (U t j) := by
  funext i
  pointwise [k0_pay8, k0_pay7, k0_pay6, k0_pay5]
  simp only [up2, bits_half, bits_gc, bits_ga, ← EReal.coe_one, ← EReal.coe_mul, ← EReal.coe_add, ← EReal.coe_sub, Ideal.tanh_coe, gelu, gt]

/-- The first half's GELU derivative. -/
theorem pay9 (U : Fin 128 → Fin 1024 → ℝ) : k0_pay9 (F := Ideal) (up2 U) = up2 fun t j => dgelu (U t j) := by
  funext i
  pointwise [k0_pay9, k0_pay7, k0_pay6, k0_pay5]
  simp only [up2, bits_half, bits_gc, bits_ga, gelu_3ca, ← EReal.coe_one, ← EReal.coe_mul, ← EReal.coe_add, ← EReal.coe_sub, Ideal.tanh_coe, dgelu, gt]

/-- The second half's GELU, as the layer norm takes it. -/
theorem gelu_v (V : Fin 128 → Fin 1024 → ℝ) (i : S128x1024.Idx) :
    (V (i 0) (i 1) : EReal) * k0_pay13 (F := Ideal) (k0_pay12 (up2 V)) (Ideal.ofBits .f32 0x3F000000#32) i = (gv V (i 0) (i 1) : EReal) := by
  pointwise [k0_pay13, k0_pay12, k0_pay11, k0_pay10]
  simp only [up2, bits_half, bits_gc, bits_ga, ← EReal.coe_one, ← EReal.coe_mul, ← EReal.coe_add, ← EReal.coe_sub, Ideal.tanh_coe, gv, gelu, gt]

/-- The second half's GELU derivative. -/
theorem pay14 (V : Fin 128 → Fin 1024 → ℝ) :
    k0_pay14 (F := Ideal) (up2 V) (k0_pay10 (up2 V)) (k0_pay11 (up2 V)) (k0_pay12 (up2 V)) (FloatOps.ofBits .f32 0x3F000000#32) = up2 fun s j => dgelu (V s j) := by
  funext i
  pointwise [k0_pay14, k0_pay13, k0_pay12, k0_pay11, k0_pay10]
  simp only [up2, bits_half, bits_gc, bits_ga, gelu_3ca, ← EReal.coe_one, ← EReal.coe_mul, ← EReal.coe_add, ← EReal.coe_sub, Ideal.tanh_coe, dgelu, gt]

/-- The rows less their means. -/
theorem pay15 (V : Fin 128 → Fin 1024 → ℝ) :
    k0_pay15 (F := Ideal) (up2 V) (k0_pay12 (up2 V)) (FloatOps.ofBits .f32 0x3F000000#32) = up2 fun s j => cen (gv V s) j := by
  funext i
  pointwise [k0_pay15]
  simp only [up2_apply, ix2_0, ix2_1, gelu_v, bits_1024, Ideal.div_coe (by norm_num : (1024 : ℝ) ≠ 0), ← coe_sum, ← EReal.coe_mul, ← EReal.coe_sub, cen, mean]
  rfl

/-- The reciprocal of a row's standard deviation. -/
theorem rsqrt_vare (x : Fin 1024 → ℝ) : Ideal.rsqrt (vare x : EReal) = (rs x : EReal) := by
  rw [Ideal.rsqrt_coe, if_neg (vare_pos x).le.not_gt, if_neg (vare_pos x).ne']
  rfl

theorem pay16 (V : Fin 128 → Fin 1024 → ℝ) :
    k0_pay16 (F := Ideal) (up2 V) (k0_pay12 (up2 V)) (FloatOps.ofBits .f32 0x3F000000#32) = up2 fun s _ => rs (gv V s) := by
  unfold k0_pay16
  rw [pay15]
  funext i
  pointwise []
  simp only [up2, bits_1024, bits_eps, ix2_0, ix2_1, Ideal.div_coe (by norm_num : (1024 : ℝ) ≠ 0), ← coe_sum, ← EReal.coe_mul, ← EReal.coe_add]
  exact rsqrt_vare _

/-- The normalized rows. -/
theorem pay17 (V : Fin 128 → Fin 1024 → ℝ) :
    k0_pay17 (F := Ideal) (up2 V) (k0_pay12 (up2 V)) (FloatOps.ofBits .f32 0x3F000000#32) = up2 fun s j => xh (gv V s) j := by
  unfold k0_pay17
  rw [pay15, pay16]
  funext i
  pointwise []
  simp only [up2, ix2_0, ix2_1, ← EReal.coe_mul, xh]
  rfl

/-- The layer norm's rows. -/
theorem pay18 (V : Fin 128 → Fin 1024 → ℝ) (LW LB : Fin 1024 → ℝ) :
    k0_pay18 (F := Ideal) (up2 V) (k0_pay12 (up2 V)) (FloatOps.ofBits .f32 0x3F000000#32) (up2 fun _ : Fin 1 => LW) (up2 fun _ : Fin 1 => LB)
      = up2 fun s j => vn LW LB (gv V s) j := by
  unfold k0_pay18
  rw [pay17]
  funext i
  pointwise []
  simp only [up2, ix2_0, ix2_1, ← EReal.coe_mul, ← EReal.coe_add, vn]
  rfl

/-- The second half's gradient, from the normalized rows' gradient. -/
theorem pay87 (V : Fin 128 → Fin 1024 → ℝ) (LW : Fin 1024 → ℝ) (D : Fin 128 → Fin 1024 → ℝ) :
    k0_pay87 (F := Ideal) (up2 fun s j => dgelu (V s j)) (up2 fun s _ => rs (gv V s)) (up2 fun s j => xh (gv V s) j) (up2 D)
      (up2 fun _ : Fin 1 => LW)
      = up2 fun s j => dln (gv V s) (fun k => D s k * LW k) j * dgelu (V s j) := by
  funext i
  pointwise [k0_pay87]
  simp only [up2, bits_1024, ix2_0, ix2_1, Ideal.div_coe (by norm_num : (1024 : ℝ) ≠ 0), ← coe_sum, ← EReal.coe_mul, ← EReal.coe_add,
    ← EReal.coe_sub, dln, mean]
  rfl

end Cert.KernelIdeal.Block

end
-- ==== Proof.Sgu.Groups.lean ====
/-
  One grid point's groups: the eight lane tiles of the normalized rows' gradient, of the first half's gradient and of the matrices' gradient.
-/
module

public import proofs.«01_k».proof.Proof.Sgu.Block
public import proofs.«01_k».proof.Proof.Gen.KernelIdeal.Frame

@[expose] public section

noncomputable section

namespace Cert.KernelIdeal.Block

open Cert.KernelIdeal Cert.KernelIdeal.Gen Idealize.ShloMosaic Cert.Sgu

variable (U V Y : Fin 128 → Fin 1024 → ℝ) (LW LB : Fin 1024 → ℝ) (W : Fin 8 → Fin 128 → Fin 128 → ℝ) (B : Fin 8 → Fin 128 → ℝ)

/-- The first group's columns are its lanes. -/
theorem col_zero (d : Fin 128) : col 0 d = ⟨d.val, by omega⟩ := Fin.ext (by simp [col])

/-- The normalized rows' gradient at a group's lane. -/
theorem dvn_at (y : S128x1024.Idx) (g : Fin 8) (s d : Fin 128) (h0 : (y 0).val = s.val) (h1 : (y 1).val = g.val * 128 + d.val) :
    up2 (dvn U Y W) y
      = ∑ k, up3 W (ix3 g k s) * (up2 Y (ix2 k (col g d)) * up2 (fun t j => gelu (U t j)) (ix2 k (col g d))) := by
  obtain rfl : y = ix2 s (col g d) := by
    rw [eq_ix2 y]
    exact congrArg₂ ix2 (Fin.ext h0) (Fin.ext h1)
  simp only [up2_apply, up3_apply, ix2_0, ix2_1, ix3_0, ix3_1, ix3_2, ← EReal.coe_mul, ← coe_sum, dvn, dmix, grp_col]

/-- The scratch after its eight stores holds the normalized rows' gradient. -/
theorem scratch {sig : RefSig} {κ : Kind} {sp : Space} (v : View sig κ sp S128x1024 .f32) :
    v.readCov (Val := Elt Ideal)
      [⟨Rect.unit ![0, 896] ![128, 128] inb_S128x1024_S128x128_0_896, k0_pay82 (F := Ideal) (up2 fun t j => gelu (U t j)) (up2 Y) (k0_pay76 (F := Ideal) (View.ld (Val := Elt Ideal) (e' := .bf16) (up3 W) (Rect.unit ![7, 0, 0] ![1, 128, 128] inb_S8x128x128_S1x128x128_7_0_0)))⟩,
        ⟨Rect.unit ![0, 768] ![128, 128] inb_S128x1024_S128x128_0_768, k0_pay73 (F := Ideal) (k0_pay68 (F := Ideal) (View.ld (Val := Elt Ideal) (e' := .bf16) (up3 W) (Rect.unit ![6, 0, 0] ![1, 128, 128] inb_S8x128x128_S1x128x128_6_0_0))) (k0_pay69 (F := Ideal) (up2 fun t j => gelu (U t j)) (up2 Y))⟩,
        ⟨Rect.unit ![0, 640] ![128, 128] inb_S128x1024_S128x128_0_640, k0_pay65 (F := Ideal) (k0_pay60 (F := Ideal) (View.ld (Val := Elt Ideal) (e' := .bf16) (up3 W) (Rect.unit ![5, 0, 0] ![1, 128, 128] inb_S8x128x128_S1x128x128_5_0_0))) (k0_pay61 (F := Ideal) (up2 fun t j => gelu (U t j)) (up2 Y))⟩,
        ⟨Rect.unit ![0, 512] ![128, 128] inb_S128x1024_S128x128_0_512, k0_pay57 (F := Ideal) (k0_pay56 (F := Ideal) (up2 fun t j => gelu (U t j)) (up2 Y) (View.ld (Val := Elt Ideal) (e' := .bf16) (up3 W) (Rect.unit ![4, 0, 0] ![1, 128, 128] inb_S8x128x128_S1x128x128_4_0_0)))⟩,
        ⟨Rect.unit ![0, 384] ![128, 128] inb_S128x1024_S128x128_0_384, k0_pay49 (F := Ideal) (up2 fun t j => gelu (U t j)) (up2 Y) (View.ld (Val := Elt Ideal) (e' := .bf16) (up3 W) (Rect.unit ![3, 0, 0] ![1, 128, 128] inb_S8x128x128_S1x128x128_3_0_0))⟩,
        ⟨Rect.unit ![0, 256] ![128, 128] inb_S128x1024_S128x128_0_256, k0_pay40 (F := Ideal) (up2 fun t j => gelu (U t j)) (up2 Y) (View.ld (Val := Elt Ideal) (e' := .bf16) (up3 W) (Rect.unit ![2, 0, 0] ![1, 128, 128] inb_S8x128x128_S1x128x128_2_0_0))⟩,
        ⟨Rect.unit ![0, 128] ![128, 128] inb_S128x1024_S128x128_0_128, k0_pay33 (F := Ideal) (up2 fun t j => gelu (U t j)) (up2 Y) (View.ld (Val := Elt Ideal) (e' := .bf16) (up3 W) (Rect.unit ![1, 0, 0] ![1, 128, 128] inb_S8x128x128_S1x128x128_1_0_0))⟩,
        ⟨Rect.unit ![0, 0] ![128, 128] inb_S128x1024_S128x128_0_0, k0_pay24 (F := Ideal) (up2 fun t j => gelu (U t j)) (up2 Y) (View.ld (Val := Elt Ideal) (e' := .bf16) (up3 W) (Rect.unit ![0, 0, 0] ![1, 128, 128] inb_S8x128x128_S1x128x128_0_0_0))⟩]
      (Rect.unit ![0, 0] ![128, 1024] inb_S128x1024_S128x1024_0_0).toLoadRect = up2 (dvn U Y W) := by
  rw [View.readCov_eq_canon_ld _ _ _ (View.cover_of_tiled_head _ _ _ (by rfl))]
  funext y
  rw [View.ld_unit_apply_of _ _ _ _ _ y (fun a => by fin_cases a <;> simp)]
  canon_tiles x h
  · pointwise [k0_pay82, k0_pay79, k0_pay76, k0_pay81]
    exact (dvn_at U Y W y 7 (x 0) (x 1) h0 h1).symm
  · pointwise [k0_pay73, k0_pay72, k0_pay69, k0_pay68]
    exact (dvn_at U Y W y 6 (x 0) (x 1) h0 h1).symm
  · pointwise [k0_pay65, k0_pay64, k0_pay61, k0_pay60]
    exact (dvn_at U Y W y 5 (x 0) (x 1) h0 h1).symm
  · pointwise [k0_pay57, k0_pay56, k0_pay55, k0_pay53, k0_pay52]
    exact (dvn_at U Y W y 4 (x 0) (x 1) h0 h1).symm
  · pointwise [k0_pay49, k0_pay48, k0_pay46, k0_pay45]
    exact (dvn_at U Y W y 3 (x 0) (x 1) h0 h1).symm
  · pointwise [k0_pay40, k0_pay39, k0_pay37, k0_pay36]
    exact (dvn_at U Y W y 2 (x 0) (x 1) h0 h1).symm
  · pointwise [k0_pay33, k0_pay32, k0_pay30, k0_pay29]
    exact (dvn_at U Y W y 1 (x 0) (x 1) h0 h1).symm
  · pointwise [k0_pay24, k0_pay23, k0_pay21, k0_pay20]
    have e := dvn_at U Y W y 0 (x 0) (x 1) h0 (by simp [h1])
    rw [col_zero (x 1)] at e
    exact e.symm

/-- The two halves' gradients side by side, as the point stores them. -/
def duv (t : Fin 128) (c : Fin 2048) : ℝ :=
  if h : c.val < 1024 then du U V Y LW LB W B t ⟨c.val, h⟩ else dv U V Y LW W t ⟨c.val - 1024, by omega⟩

/-- A column of the first half, and of the second, in the pair. -/
def lo (j : Fin 1024) : Fin 2048 := ⟨j.val, by omega⟩
def hi (j : Fin 1024) : Fin 2048 := ⟨1024 + j.val, by omega⟩

theorem duv_lo (t : Fin 128) (j : Fin 1024) : duv U V Y LW LB W B t (lo j) = du U V Y LW LB W B t j := by
  simp [duv, lo]

theorem duv_hi (t : Fin 128) (j : Fin 1024) : duv U V Y LW LB W B t (hi j) = dv U V Y LW W t j := by
  simp [duv, hi]

/-- The first half's gradient at a group's lane. -/
theorem du_at (y : S128x2048.Idx) (g : Fin 8) (t d : Fin 128) (h0 : (y 0).val = t.val) (h1 : (y 1).val = g.val * 128 + d.val) :
    up2 (duv U V Y LW LB W B) y
      = up2 Y (ix2 t (col g d)) * (∑ k, up3 W (ix3 g t k) * up2 (fun s j => vn LW LB (gv V s) j) (ix2 k (col g d))
          + up2 (fun t g => B g t) (ix2 t g)) * up2 (fun t j => dgelu (U t j)) (ix2 t (col g d)) := by
  have hy : up2 (duv U V Y LW LB W B) y = du U V Y LW LB W B t (col g d) := by
    have e0 : (y 0 : Fin 128) = t := Fin.ext h0
    have e1 : (y 1 : Fin 2048) = lo (col g d) := Fin.ext h1
    show ((duv U V Y LW LB W B (y 0) (y 1) : ℝ) : EReal) = _
    rw [e0, e1, duv_lo]
  rw [hy]
  simp only [up2_apply, up3_apply, ix2_0, ix2_1, ix3_0, ix3_1, ix3_2, ← EReal.coe_mul, ← EReal.coe_add, ← coe_sum, du, mixed, grp_col]

theorem du_tile0 (y : S128x2048.Idx) (x : S128x128.Idx) (h0 : (y 0).val = (x 0).val) (h1 : (y 1).val = 0 + (x 1).val) :
    k0_pay22 (F := Ideal) (up2 fun t j => dgelu (U t j)) (up2 fun s j => vn LW LB (gv V s) j) (up2 Y) (View.ld (Val := Elt Ideal) (e' := .bf16) (up3 W) (Rect.unit ![0, 0, 0] ![1, 128, 128] inb_S8x128x128_S1x128x128_0_0_0)) (View.ld (Val := Elt Ideal) (e' := .f32) (up2 fun t g => B g t) (Rect.unit ![0, 0] ![128, 1] inb_S128x8_S128x1_0_0)) x
      = up2 (duv U V Y LW LB W B) y := by
  pointwise [k0_pay22, k0_pay20]
  have e := du_at U V Y LW LB W B y 0 (x 0) (x 1) h0 (by simp [h1])
  rw [col_zero (x 1)] at e
  exact e.symm

theorem du_tile1 (y : S128x2048.Idx) (x : S128x128.Idx) (h0 : (y 0).val = (x 0).val) (h1 : (y 1).val = 128 + (x 1).val) :
    k0_pay31 (F := Ideal) (up2 fun t j => dgelu (U t j)) (up2 fun s j => vn LW LB (gv V s) j) (up2 Y) (View.ld (Val := Elt Ideal) (e' := .bf16) (up3 W) (Rect.unit ![1, 0, 0] ![1, 128, 128] inb_S8x128x128_S1x128x128_1_0_0)) (View.ld (Val := Elt Ideal) (e' := .f32) (up2 fun t g => B g t) (Rect.unit ![0, 1] ![128, 1] inb_S128x8_S128x1_0_1)) x
      = up2 (duv U V Y LW LB W B) y := by
  pointwise [k0_pay31, k0_pay29]
  exact (du_at U V Y LW LB W B y 1 (x 0) (x 1) h0 (by simp [h1])).symm

theorem du_tile2 (y : S128x2048.Idx) (x : S128x128.Idx) (h0 : (y 0).val = (x 0).val) (h1 : (y 1).val = 256 + (x 1).val) :
    k0_pay38 (F := Ideal) (up2 fun t j => dgelu (U t j)) (up2 fun s j => vn LW LB (gv V s) j) (up2 Y) (View.ld (Val := Elt Ideal) (e' := .bf16) (up3 W) (Rect.unit ![2, 0, 0] ![1, 128, 128] inb_S8x128x128_S1x128x128_2_0_0)) (View.ld (Val := Elt Ideal) (e' := .f32) (up2 fun t g => B g t) (Rect.unit ![0, 2] ![128, 1] inb_S128x8_S128x1_0_2)) x
      = up2 (duv U V Y LW LB W B) y := by
  pointwise [k0_pay38, k0_pay36]
  exact (du_at U V Y LW LB W B y 2 (x 0) (x 1) h0 (by simp [h1])).symm

theorem du_tile3 (y : S128x2048.Idx) (x : S128x128.Idx) (h0 : (y 0).val = (x 0).val) (h1 : (y 1).val = 384 + (x 1).val) :
    k0_pay47 (F := Ideal) (up2 fun t j => dgelu (U t j)) (up2 fun s j => vn LW LB (gv V s) j) (up2 Y) (View.ld (Val := Elt Ideal) (e' := .bf16) (up3 W) (Rect.unit ![3, 0, 0] ![1, 128, 128] inb_S8x128x128_S1x128x128_3_0_0)) (View.ld (Val := Elt Ideal) (e' := .f32) (up2 fun t g => B g t) (Rect.unit ![0, 3] ![128, 1] inb_S128x8_S128x1_0_3)) x
      = up2 (duv U V Y LW LB W B) y := by
  pointwise [k0_pay47, k0_pay45]
  exact (du_at U V Y LW LB W B y 3 (x 0) (x 1) h0 (by simp [h1])).symm

theorem du_tile4 (y : S128x2048.Idx) (x : S128x128.Idx) (h0 : (y 0).val = (x 0).val) (h1 : (y 1).val = 512 + (x 1).val) :
    k0_pay54 (F := Ideal) (up2 fun t j => dgelu (U t j)) (up2 fun s j => vn LW LB (gv V s) j) (up2 Y) (View.ld (Val := Elt Ideal) (e' := .bf16) (up3 W) (Rect.unit ![4, 0, 0] ![1, 128, 128] inb_S8x128x128_S1x128x128_4_0_0)) (View.ld (Val := Elt Ideal) (e' := .f32) (up2 fun t g => B g t) (Rect.unit ![0, 4] ![128, 1] inb_S128x8_S128x1_0_4)) x
      = up2 (duv U V Y LW LB W B) y := by
  pointwise [k0_pay54, k0_pay52]
  exact (du_at U V Y LW LB W B y 4 (x 0) (x 1) h0 (by simp [h1])).symm

theorem du_tile5 (y : S128x2048.Idx) (x : S128x128.Idx) (h0 : (y 0).val = (x 0).val) (h1 : (y 1).val = 640 + (x 1).val) :
    k0_pay63 (F := Ideal) (k0_pay62 (F := Ideal) (up2 fun t j => dgelu (U t j)) (up2 fun s j => vn LW LB (gv V s) j) (up2 Y) (View.ld (Val := Elt Ideal) (e' := .bf16) (up3 W) (Rect.unit ![5, 0, 0] ![1, 128, 128] inb_S8x128x128_S1x128x128_5_0_0)) (View.ld (Val := Elt Ideal) (e' := .f32) (up2 fun t g => B g t) (Rect.unit ![0, 5] ![128, 1] inb_S128x8_S128x1_0_5))) x
      = up2 (duv U V Y LW LB W B) y := by
  pointwise [k0_pay63, k0_pay62, k0_pay60]
  exact (du_at U V Y LW LB W B y 5 (x 0) (x 1) h0 (by simp [h1])).symm

theorem du_tile6 (y : S128x2048.Idx) (x : S128x128.Idx) (h0 : (y 0).val = (x 0).val) (h1 : (y 1).val = 768 + (x 1).val) :
    k0_pay71 (F := Ideal) (up2 fun t j => dgelu (U t j)) (k0_pay70 (F := Ideal) (up2 fun s j => vn LW LB (gv V s) j) (up2 Y) (View.ld (Val := Elt Ideal) (e' := .bf16) (up3 W) (Rect.unit ![6, 0, 0] ![1, 128, 128] inb_S8x128x128_S1x128x128_6_0_0)) (View.ld (Val := Elt Ideal) (e' := .f32) (up2 fun t g => B g t) (Rect.unit ![0, 6] ![128, 1] inb_S128x8_S128x1_0_6))) x
      = up2 (duv U V Y LW LB W B) y := by
  pointwise [k0_pay71, k0_pay70, k0_pay68]
  exact (du_at U V Y LW LB W B y 6 (x 0) (x 1) h0 (by simp [h1])).symm

theorem du_tile7 (y : S128x2048.Idx) (x : S128x128.Idx) (h0 : (y 0).val = (x 0).val) (h1 : (y 1).val = 896 + (x 1).val) :
    k0_pay80 (F := Ideal) (up2 fun t j => dgelu (U t j)) (up2 Y) (k0_pay77 (F := Ideal) (up2 fun s j => vn LW LB (gv V s) j) (View.ld (Val := Elt Ideal) (e' := .bf16) (up3 W) (Rect.unit ![7, 0, 0] ![1, 128, 128] inb_S8x128x128_S1x128x128_7_0_0))) (k0_pay78 (F := Ideal) (View.ld (Val := Elt Ideal) (e' := .f32) (up2 fun t g => B g t) (Rect.unit ![0, 7] ![128, 1] inb_S128x8_S128x1_0_7))) x
      = up2 (duv U V Y LW LB W B) y := by
  pointwise [k0_pay80, k0_pay78, k0_pay77, k0_pay76]
  exact (du_at U V Y LW LB W B y 7 (x 0) (x 1) h0 (by simp [h1])).symm

/-- A chunk's part of a matrix's gradient, on top of what the block held. -/
theorem dw_at (g : Fin 8) (t s : Fin 128) :
    (dw U V Y LW LB g t s : EReal)
      = ∑ k, up2 Y (ix2 t (col g k)) * up2 (fun t j => gelu (U t j)) (ix2 t (col g k))
          * up2 (fun s j => vn LW LB (gv V s) j) (ix2 s (col g k)) := by
  simp only [up2_apply, ix2_0, ix2_1, ← EReal.coe_mul, ← coe_sum, dw, dmix]

theorem dw_tile0 (A : S1x128x128.Idx → EReal) (x : S1x128x128.Idx) :
    k0_pay25 (F := Ideal) (up2 fun t j => gelu (U t j)) (up2 fun s j => vn LW LB (gv V s) j) (up2 Y) A x
      = A x + dw U V Y LW LB 0 (x 1) (x 2) := by
  pointwise [k0_pay25, k0_pay23, k0_pay21]
  have e := dw_at U V Y LW LB 0 (x 1) (x 2)
  simp only [col_zero] at e
  exact congrArg (A x + ·) e.symm

theorem dw_tile1 (A : S1x128x128.Idx → EReal) (x : S1x128x128.Idx) :
    k0_pay34 (F := Ideal) (up2 fun t j => gelu (U t j)) (up2 fun s j => vn LW LB (gv V s) j) (up2 Y) A x
      = A x + dw U V Y LW LB 1 (x 1) (x 2) := by
  pointwise [k0_pay34, k0_pay32, k0_pay30]
  exact congrArg (A x + ·) (dw_at U V Y LW LB 1 (x 1) (x 2)).symm

theorem dw_tile2 (A : S1x128x128.Idx → EReal) (x : S1x128x128.Idx) :
    k0_pay43 (F := Ideal) (k0_pay41 (F := Ideal) A) (k0_pay42 (F := Ideal) (up2 fun t j => gelu (U t j)) (up2 fun s j => vn LW LB (gv V s) j) (up2 Y)) x
      = A x + dw U V Y LW LB 2 (x 1) (x 2) := by
  pointwise [k0_pay43, k0_pay42, k0_pay41, k0_pay39, k0_pay37]
  exact congrArg (A x + ·) (dw_at U V Y LW LB 2 (x 1) (x 2)).symm

theorem dw_tile3 (A : S1x128x128.Idx → EReal) (x : S1x128x128.Idx) :
    k0_pay50 (F := Ideal) (up2 fun s j => vn LW LB (gv V s) j) (k0_pay48 (F := Ideal) (up2 fun t j => gelu (U t j)) (up2 Y)) A x
      = A x + dw U V Y LW LB 3 (x 1) (x 2) := by
  pointwise [k0_pay50, k0_pay48, k0_pay46]
  exact congrArg (A x + ·) (dw_at U V Y LW LB 3 (x 1) (x 2)).symm

theorem dw_tile4 (A : S1x128x128.Idx → EReal) (x : S1x128x128.Idx) :
    k0_pay58 (F := Ideal) (up2 fun s j => vn LW LB (gv V s) j) (k0_pay55 (F := Ideal) (up2 fun t j => gelu (U t j)) (up2 Y)) A x
      = A x + dw U V Y LW LB 4 (x 1) (x 2) := by
  pointwise [k0_pay58, k0_pay55, k0_pay53]
  exact congrArg (A x + ·) (dw_at U V Y LW LB 4 (x 1) (x 2)).symm

theorem dw_tile5 (A : S1x128x128.Idx → EReal) (x : S1x128x128.Idx) :
    k0_pay66 (F := Ideal) (up2 fun s j => vn LW LB (gv V s) j) (k0_pay61 (F := Ideal) (up2 fun t j => gelu (U t j)) (up2 Y)) A x
      = A x + dw U V Y LW LB 5 (x 1) (x 2) := by
  pointwise [k0_pay66, k0_pay64, k0_pay61]
  exact congrArg (A x + ·) (dw_at U V Y LW LB 5 (x 1) (x 2)).symm

theorem dw_tile6 (A : S1x128x128.Idx → EReal) (x : S1x128x128.Idx) :
    k0_pay74 (F := Ideal) (up2 fun s j => vn LW LB (gv V s) j) (k0_pay69 (F := Ideal) (up2 fun t j => gelu (U t j)) (up2 Y)) A x
      = A x + dw U V Y LW LB 6 (x 1) (x 2) := by
  pointwise [k0_pay74, k0_pay72, k0_pay69]
  exact congrArg (A x + ·) (dw_at U V Y LW LB 6 (x 1) (x 2)).symm

theorem dw_tile7 (A : S1x128x128.Idx → EReal) (x : S1x128x128.Idx) :
    k0_pay83 (F := Ideal) (up2 fun t j => gelu (U t j)) (up2 fun s j => vn LW LB (gv V s) j) (up2 Y) A x
      = A x + dw U V Y LW LB 7 (x 1) (x 2) := by
  pointwise [k0_pay83, k0_pay81, k0_pay79]
  exact congrArg (A x + ·) (dw_at U V Y LW LB 7 (x 1) (x 2)).symm

/-- The second half's gradient at a column past the first half. -/
theorem dv_tile (y : S128x2048.Idx) (x : S128x1024.Idx) (h0 : (y 0).val = (x 0).val) (h1 : (y 1).val = 1024 + (x 1).val) :
    up2 (dv U V Y LW W) x = up2 (duv U V Y LW LB W B) y := by
  have e0 : (y 0 : Fin 128) = x 0 := Fin.ext h0
  have e1 : (y 1 : Fin 2048) = hi (x 1) := Fin.ext h1
  show ((dv U V Y LW W (x 0) (x 1) : ℝ) : EReal) = ((duv U V Y LW LB W B (y 0) (y 1) : ℝ) : EReal)
  rw [e0, e1]
  exact congrArg _ (duv_hi U V Y LW LB W B (x 0) (x 1)).symm

end Cert.KernelIdeal.Block

end
-- ==== Proof.Sgu.Sums.lean ====
/-
  The parts of a chunk that the summed outputs take up: the biases' gradient and the two of the layer norm's weight and bias.
-/
module

public import proofs.«01_k».proof.Proof.Sgu.Groups

@[expose] public section

noncomputable section

open Idealize.ShloMosaic
open Cert.Sgu

namespace Cert.KernelIdeal.Block

open Cert.KernelIdeal.Gen
open Cert.KernelIdeal

variable (U V Y : Fin 128 → Fin 1024 → ℝ) (W : Fin 8 → Fin 128 → Fin 128 → ℝ)

/-- The layer norm's weight gradient. -/
theorem dlw_acc (A : S1x1024.Idx → EReal) (x : S1x1024.Idx) :
    k0_pay85 (F := Ideal) (up2 fun s j => xh (gv V s) j) (up2 (dvn U Y W)) A x = A x + dlw U V Y W (x 1) := by
  pointwise [k0_pay85]
  refine congrArg (A x + ·) ?_
  show ∑ k, up2 (dvn U Y W) (ix2 k (x 1)) * up2 (fun s j => xh (gv V s) j) (ix2 k (x 1)) = ((dlw U V Y W (x 1 : Fin 1024) : ℝ) : EReal)
  simp only [up2_apply, ix2_0, ix2_1, ← EReal.coe_mul, ← coe_sum, dlw]
  rfl

/-- The layer norm's bias gradient. -/
theorem dlb_acc (A : S1x1024.Idx → EReal) (x : S1x1024.Idx) :
    k0_pay86 (F := Ideal) (up2 (dvn U Y W)) A x = A x + dlb U Y W (x 1) := by
  pointwise [k0_pay86]
  refine congrArg (A x + ·) ?_
  show ∑ k, up2 (dvn U Y W) (ix2 k (x 1)) = ((dlb U Y W (x 1 : Fin 1024) : ℝ) : EReal)
  simp only [up2_apply, ix2_0, ix2_1, ← coe_sum, dlb]
  rfl

/-- Eight columns picked one at a time leave the column asked for. -/
theorem pick (S : Fin 8 → EReal) (S0 : EReal) (h : S0 = S 0) (g : Fin 8) :
    Scalar.select (IntOp.cmpi CmpIPredicate.eq (BitVec.ofNat 32 g.val) 0#32) S0 (0 : EReal)
      + Scalar.select (IntOp.cmpi CmpIPredicate.eq (BitVec.ofNat 32 g.val) 1#32) (S 1) (0 : EReal)
      + Scalar.select (IntOp.cmpi CmpIPredicate.eq (BitVec.ofNat 32 g.val) 2#32) (S 2) (0 : EReal)
      + Scalar.select (IntOp.cmpi CmpIPredicate.eq (BitVec.ofNat 32 g.val) 3#32) (S 3) (0 : EReal)
      + Scalar.select (IntOp.cmpi CmpIPredicate.eq (BitVec.ofNat 32 g.val) 4#32) (S 4) (0 : EReal)
      + Scalar.select (IntOp.cmpi CmpIPredicate.eq (BitVec.ofNat 32 g.val) 5#32) (S 5) (0 : EReal)
      + Scalar.select (IntOp.cmpi CmpIPredicate.eq (BitVec.ofNat 32 g.val) 6#32) (S 6) (0 : EReal)
      + Scalar.select (IntOp.cmpi CmpIPredicate.eq (BitVec.ofNat 32 g.val) 7#32) (S 7) (0 : EReal) = S g := by
  subst h
  have hd : ∀ (g : Fin 8) (k : Nat), k < 8 → ∀ a b : EReal,
      Scalar.select (IntOp.cmpi CmpIPredicate.eq (BitVec.ofNat 32 g.val) (BitVec.ofNat 32 k)) a b = if g.val = k then a else b := by
    intro g k hk a b
    have : IntOp.cmpi CmpIPredicate.eq (BitVec.ofNat 32 g.val) (BitVec.ofNat 32 k) = if g.val = k then 1#1 else 0#1 := by
      interval_cases k <;> revert g <;> decide
    rw [this]
    split <;> simp [Scalar.select]
  have h0 := hd g 0 (by decide); have h1 := hd g 1 (by decide); have h2 := hd g 2 (by decide); have h3 := hd g 3 (by decide)
  have h4 := hd g 4 (by decide); have h5 := hd g 5 (by decide); have h6 := hd g 6 (by decide); have h7 := hd g 7 (by decide)
  rw [h0, h1, h2, h3, h4, h5, h6, h7]
  fin_cases g <;> simp

/-- The biases' gradient, collected column by column. -/
theorem db_acc (A : S128x8.Idx → EReal) (x : S128x8.Idx) :
    k0_pay84 (F := Ideal) (up2 fun t j => gelu (U t j)) (up2 Y) (iota Kind.tc S128x8 32 [1] iota_S128x8_d1_w32)
      (k0_pay75 (F := Ideal) (iota Kind.tc S128x8 32 [1] iota_S128x8_d1_w32)
      (k0_pay67 (F := Ideal) (iota Kind.tc S128x8 32 [1] iota_S128x8_d1_w32)
      (k0_pay59 (F := Ideal) (iota Kind.tc S128x8 32 [1] iota_S128x8_d1_w32)
      (k0_pay51 (F := Ideal) (iota Kind.tc S128x8 32 [1] iota_S128x8_d1_w32)
      (k0_pay44 (F := Ideal) (iota Kind.tc S128x8 32 [1] iota_S128x8_d1_w32)
      (k0_pay35 (F := Ideal) (iota Kind.tc S128x8 32 [1] iota_S128x8_d1_w32)
      (k0_pay28 (F := Ideal) (k0_pay19 (F := Ideal)) (k0_pay26 (iota Kind.tc S128x8 32 [1] iota_S128x8_d1_w32))
        (k0_pay27 (F := Ideal) (up2 fun t j => gelu (U t j)) (up2 Y)))
      (k0_pay30 (F := Ideal) (up2 fun t j => gelu (U t j)) (up2 Y)))
      (k0_pay37 (F := Ideal) (up2 fun t j => gelu (U t j)) (up2 Y)))
      (k0_pay46 (F := Ideal) (up2 fun t j => gelu (U t j)) (up2 Y)))
      (k0_pay53 (F := Ideal) (up2 fun t j => gelu (U t j)) (up2 Y)))
      (k0_pay61 (F := Ideal) (up2 fun t j => gelu (U t j)) (up2 Y)))
      (k0_pay69 (F := Ideal) (up2 fun t j => gelu (U t j)) (up2 Y))) A x
      = A x + db U Y (x 0) (x 1) := by
  pointwise [k0_pay84, k0_pay75, k0_pay67, k0_pay59, k0_pay51, k0_pay44, k0_pay35, k0_pay28, k0_pay19, k0_pay26, k0_pay27,
    k0_pay21, k0_pay30, k0_pay37, k0_pay46, k0_pay53, k0_pay61, k0_pay69, k0_pay79]
  refine congrArg (A x + ·) ?_
  refine (pick (fun g => ∑ k, up2 Y (ix2 (x 0) (col g k)) * up2 (fun t j => gelu (U t j)) (ix2 (x 0) (col g k))) _ ?_ (x 1)).trans ?_
  · simp only [col_zero]
  · show ∑ k, up2 Y (ix2 (x 0) (col (x 1) k)) * up2 (fun t j => gelu (U t j)) (ix2 (x 0) (col (x 1) k)) = ((db U Y (x 0 : Fin 128) (x 1 : Fin 8) : ℝ) : EReal)
    simp only [up2_apply, ix2_0, ix2_1, ← EReal.coe_mul, ← coe_sum, db, dmix]
    rfl

end Cert.KernelIdeal.Block
-- ==== Proof.Sgu.Points.lean ====
/-
  What one grid point leaves in each output's staging buffer.
-/
module

public import proofs.«01_k».proof.Proof.Sgu.Sums
public import Idealize.ShloMosaic.Lib.Pipeline.ReadBack

@[expose] public section

noncomputable section

namespace Cert.KernelIdeal.Block

open Cert.KernelIdeal Cert.KernelIdeal.Gen Idealize.ShloMosaic Cert.Sgu

variable {U V Y : Fin 128 → Fin 1024 → ℝ} {LW LB : Fin 1024 → ℝ} {W : Fin 8 → Fin 128 → Fin 128 → ℝ} {B : Fin 8 → Fin 128 → ℝ}

variable (m : (ℓ : Loc nD τ sig) → Buf (Elt Ideal) ℓ) (c : Dev nD) (t : Fin cfg0.N)

/-- A group's slice of the running sum plus the chunk's part is the sum one chunk on. -/
theorem dw_join (U V Y : Fin 128 → Fin 1024 → ℝ) (LW LB : Fin 1024 → ℝ) (Z : S8x128x128.Idx → EReal) (g : Fin 8) (y : S8x128x128.Idx) (x : S1x128x128.Idx)
    (inb : ∀ a, (![g.val, 0, 0] : Fin 3 → ℕ) a + (![1, 128, 128] : Fin 3 → ℕ) a ≤ S8x128x128.size a)
    (h0 : (y 0).val = g.val + (x 0).val) (hx : (x 0).val < 1) (h1 : (y 1).val = (x 1).val) (h2 : (y 2).val = (x 2).val) :
    View.ld (Val := Elt Ideal) (e' := .f32) Z (Rect.unit ![g.val, 0, 0] ![1, 128, 128] inb) x + dw U V Y LW LB g (x 1) (x 2)
      = Z y + up3 (dw U V Y LW LB) y := by
  have e0 : (y 0 : Fin 8) = g := Fin.ext (by omega)
  have e1 : (y 1 : Fin 128) = x 1 := Fin.ext h1
  have e2 : (y 2 : Fin 128) = x 2 := Fin.ext h2
  have hz : View.ld (Val := Elt Ideal) (e' := .f32) Z (Rect.unit ![g.val, 0, 0] ![1, 128, 128] inb) x = Z y :=
    View.ld_unit_apply_of _ _ _ _ _ y (fun a => by fin_cases a <;> simp [h0, h1, h2])
  have hd : (dw U V Y LW LB g (x 1) (x 2) : EReal) = up3 (dw U V Y LW LB) y := by
    show _ = ((dw U V Y LW LB (y 0) (y 1) (y 2) : ℝ) : EReal)
    rw [e0, e1, e2]
  rw [hz, hd]

/-- Over the zeros of the first point the chunk's part alone. -/
theorem dw_fill (U V Y : Fin 128 → Fin 1024 → ℝ) (LW LB : Fin 1024 → ℝ) (g : Fin 8) (x : S1x128x128.Idx)
    (inb : ∀ a, (![g.val, 0, 0] : Fin 3 → ℕ) a + (![1, 128, 128] : Fin 3 → ℕ) a ≤ S8x128x128.size a) :
    View.ld (Val := Elt Ideal) (e' := .f32) (k0_pay1 (F := Ideal)) (Rect.unit ![g.val, 0, 0] ![1, 128, 128] inb) x + dw U V Y LW LB g (x 1) (x 2)
      = up3 (dw U V Y LW LB) ((Rect.unit (s := S8x128x128) ![g.val, 0, 0] ![1, 128, 128] inb).emb x) := by
  have hv := Rect.idx_unit_val (s := S8x128x128) ![g.val, 0, 0] ![1, 128, 128] inb x
  have hz : ∀ y : S8x128x128.Idx, k0_pay1 (F := Ideal) y = 0 := fun y => by
    pointwise [k0_pay1]
    try exact bits_zero
  refine (dw_join U V Y LW LB (k0_pay1 (F := Ideal)) g ((Rect.unit (s := S8x128x128) ![g.val, 0, 0] ![1, 128, 128] inb).emb x) x inb (hv 0) (x 0).isLt
    ((hv 1).trans (Nat.zero_add _)) ((hv 2).trans (Nat.zero_add _))).trans ?_
  rw [hz, zero_add]

/-- Output 7: the two halves' gradients. -/
theorem out7 (hu : iblk m c 0 t = up2 U) (hv : iblk m c 1 t = up2 V) (hy : iblk m c 2 t = up2 Y)
    (hlw : iblk m c 3 t = up2 fun _ : Fin 1 => LW) (hlb : iblk m c 4 t = up2 fun _ : Fin 1 => LB)
    (hw : iblk m c 5 t = up3 W) (hb : iblk m c 6 t = up2 fun t g => B g t) :
    (outsAt0 m c t.val t.isLt).1 = up2 (duv U V Y LW LB W B) := by
  by_cases h : t.val % 34 = 0
  · rw [outsAt0_A m c t h]
    frame_out
    simp only [hu, hv, hy, hlw, hlb, hw, hb]
    rw [pay8, pay9, pay14, pay16, pay17, pay18, scratch, pay87]
    funext y
    canon_tiles x h using (View.cover_of_tiledBy _ ![128, 128] (by sl_kernel_rfl) y)
    · exact dv_tile U V Y LW LB W B y x h0 h1
    · exact du_tile7 U V Y LW LB W B y x h0 h1
    · exact du_tile6 U V Y LW LB W B y x h0 h1
    · exact du_tile5 U V Y LW LB W B y x h0 h1
    · exact du_tile4 U V Y LW LB W B y x h0 h1
    · exact du_tile3 U V Y LW LB W B y x h0 h1
    · exact du_tile2 U V Y LW LB W B y x h0 h1
    · exact du_tile1 U V Y LW LB W B y x h0 h1
    · exact du_tile0 U V Y LW LB W B y x h0 (by simp [h1])
  · rw [outsAt0_B m c t h]
    frame_out
    simp only [hu, hv, hy, hlw, hlb, hw, hb]
    rw [pay8, pay9, pay14, pay16, pay17, pay18, scratch, pay87]
    funext y
    canon_tiles x h using (View.cover_of_tiledBy _ ![128, 128] (by sl_kernel_rfl) y)
    · exact dv_tile U V Y LW LB W B y x h0 h1
    · exact du_tile7 U V Y LW LB W B y x h0 h1
    · exact du_tile6 U V Y LW LB W B y x h0 h1
    · exact du_tile5 U V Y LW LB W B y x h0 h1
    · exact du_tile4 U V Y LW LB W B y x h0 h1
    · exact du_tile3 U V Y LW LB W B y x h0 h1
    · exact du_tile2 U V Y LW LB W B y x h0 h1
    · exact du_tile1 U V Y LW LB W B y x h0 h1
    · exact du_tile0 U V Y LW LB W B y x h0 (by simp [h1])

/-- Output 8, first point. -/
theorem out8_A (h : t.val % 34 = 0) (hu : iblk m c 0 t = up2 U) (hv : iblk m c 1 t = up2 V) (hy : iblk m c 2 t = up2 Y)
    (hlw : iblk m c 3 t = up2 fun _ : Fin 1 => LW) (hlb : iblk m c 4 t = up2 fun _ : Fin 1 => LB)
    (hw : iblk m c 5 t = up3 W) (hb : iblk m c 6 t = up2 fun t g => B g t) :
    (outsAt0 m c t.val t.isLt).2.1 = up3 (dw U V Y LW LB) := by
  rw [outsAt0_A m c t h]
  frame_open
  simp (disch := decide) only [↓View.readCov_skip, ↓View.readCov_fill]
  frame_out
  simp only [hu, hv, hy, hlw, hlb, hw, hb]
  rw [pay8, pay18]
  funext y
  refine View.canon_append_of_piecesOf (Val := Elt Ideal) (e := .f32) (up3 (dw U V Y LW LB)) [_] [_, _, _, _, _, _, _, _] ⟨?_, ?_, ?_, ?_, ?_, ?_, ?_, ?_, trivial⟩ y
    (View.cover_of_tiledL _ ![1, 128, 128] (by sl_kernel_rfl) y)
  · intro x
    exact (dw_tile7 U V Y LW LB _ x).trans (dw_fill U V Y LW LB 7 x _)
  · intro x
    exact (dw_tile6 U V Y LW LB _ x).trans (dw_fill U V Y LW LB 6 x _)
  · intro x
    exact (dw_tile5 U V Y LW LB _ x).trans (dw_fill U V Y LW LB 5 x _)
  · intro x
    exact (dw_tile4 U V Y LW LB _ x).trans (dw_fill U V Y LW LB 4 x _)
  · intro x
    exact (dw_tile3 U V Y LW LB _ x).trans (dw_fill U V Y LW LB 3 x _)
  · intro x
    exact (dw_tile2 U V Y LW LB _ x).trans (dw_fill U V Y LW LB 2 x _)
  · intro x
    exact (dw_tile1 U V Y LW LB _ x).trans (dw_fill U V Y LW LB 1 x _)
  · intro x
    exact (dw_tile0 U V Y LW LB _ x).trans (dw_fill U V Y LW LB 0 x _)

theorem out8_B (h : ¬ t.val % 34 = 0) (hu : iblk m c 0 t = up2 U) (hv : iblk m c 1 t = up2 V) (hy : iblk m c 2 t = up2 Y)
    (hlw : iblk m c 3 t = up2 fun _ : Fin 1 => LW) (hlb : iblk m c 4 t = up2 fun _ : Fin 1 => LB)
    (hw : iblk m c 5 t = up3 W) (hb : iblk m c 6 t = up2 fun t g => B g t) (y : S8x128x128.Idx) :
    (outsAt0 m c t.val t.isLt).2.1 y = (outsAt0 m c (t.val - 1) (by omega)).2.1 y + up3 (dw U V Y LW LB) y := by
  rw [outsAt0_B m c t h]
  frame_out
  simp only [hu, hv, hy, hlw, hlb, hw, hb]
  rw [pay8, pay18]
  canon_tiles x h
  · exact (dw_tile7 U V Y LW LB _ x).trans (dw_join U V Y LW LB _ 7 y x _ h0 x0_lt h1 h2)
  · exact (dw_tile6 U V Y LW LB _ x).trans (dw_join U V Y LW LB _ 6 y x _ h0 x0_lt h1 h2)
  · exact (dw_tile5 U V Y LW LB _ x).trans (dw_join U V Y LW LB _ 5 y x _ h0 x0_lt h1 h2)
  · exact (dw_tile4 U V Y LW LB _ x).trans (dw_join U V Y LW LB _ 4 y x _ h0 x0_lt h1 h2)
  · exact (dw_tile3 U V Y LW LB _ x).trans (dw_join U V Y LW LB _ 3 y x _ h0 x0_lt h1 h2)
  · exact (dw_tile2 U V Y LW LB _ x).trans (dw_join U V Y LW LB _ 2 y x _ h0 x0_lt h1 h2)
  · exact (dw_tile1 U V Y LW LB _ x).trans (dw_join U V Y LW LB _ 1 y x _ h0 x0_lt h1 h2)
  · exact (dw_tile0 U V Y LW LB _ x).trans (dw_join U V Y LW LB _ 0 y x _ (by omega) x0_lt h1 h2)

theorem out9_A (h : t.val % 34 = 0) (hu : iblk m c 0 t = up2 U) (hv : iblk m c 1 t = up2 V) (hy : iblk m c 2 t = up2 Y)
    (hlw : iblk m c 3 t = up2 fun _ : Fin 1 => LW) (hlb : iblk m c 4 t = up2 fun _ : Fin 1 => LB)
    (hw : iblk m c 5 t = up3 W) (hb : iblk m c 6 t = up2 fun t g => B g t) :
    (outsAt0 m c t.val t.isLt).2.2.1 = up2 (db U Y) := by
  rw [outsAt0_A m c t h]
  frame_out
  simp only [hu, hv, hy, hlw, hlb, hw, hb]
  rw [pay8]
  funext y
  refine (db_acc _ _ _ _).trans ?_
  pointwise [k0_pay2]
  rfl

theorem out9_B (h : ¬ t.val % 34 = 0) (hu : iblk m c 0 t = up2 U) (hv : iblk m c 1 t = up2 V) (hy : iblk m c 2 t = up2 Y)
    (hlw : iblk m c 3 t = up2 fun _ : Fin 1 => LW) (hlb : iblk m c 4 t = up2 fun _ : Fin 1 => LB)
    (hw : iblk m c 5 t = up3 W) (hb : iblk m c 6 t = up2 fun t g => B g t) (y : S128x8.Idx) :
    (outsAt0 m c t.val t.isLt).2.2.1 y = (outsAt0 m c (t.val - 1) (by omega)).2.2.1 y + (up2 (db U Y)) y := by
  rw [outsAt0_B m c t h]
  frame_out
  simp only [hu, hv, hy, hlw, hlb, hw, hb]
  rw [pay8]
  exact db_acc _ _ _ _

theorem out10_A (h : t.val % 34 = 0) (hu : iblk m c 0 t = up2 U) (hv : iblk m c 1 t = up2 V) (hy : iblk m c 2 t = up2 Y)
    (hlw : iblk m c 3 t = up2 fun _ : Fin 1 => LW) (hlb : iblk m c 4 t = up2 fun _ : Fin 1 => LB)
    (hw : iblk m c 5 t = up3 W) (hb : iblk m c 6 t = up2 fun t g => B g t) :
    (outsAt0 m c t.val t.isLt).2.2.2.1 = up2 fun _ : Fin 1 => dlw U V Y W := by
  rw [outsAt0_A m c t h]
  frame_out
  simp only [hu, hv, hy, hlw, hlb, hw, hb]
  rw [pay8, pay17, scratch]
  funext y
  refine (dlw_acc _ _ _ _ _ _).trans ?_
  pointwise [k0_pay3]
  rfl

theorem out10_B (h : ¬ t.val % 34 = 0) (hu : iblk m c 0 t = up2 U) (hv : iblk m c 1 t = up2 V) (hy : iblk m c 2 t = up2 Y)
    (hlw : iblk m c 3 t = up2 fun _ : Fin 1 => LW) (hlb : iblk m c 4 t = up2 fun _ : Fin 1 => LB)
    (hw : iblk m c 5 t = up3 W) (hb : iblk m c 6 t = up2 fun t g => B g t) (y : S1x1024.Idx) :
    (outsAt0 m c t.val t.isLt).2.2.2.1 y = (outsAt0 m c (t.val - 1) (by omega)).2.2.2.1 y + (up2 fun _ : Fin 1 => dlw U V Y W) y := by
  rw [outsAt0_B m c t h]
  frame_out
  simp only [hu, hv, hy, hlw, hlb, hw, hb]
  rw [pay8, pay17, scratch]
  exact dlw_acc _ _ _ _ _ _

theorem out11_A (h : t.val % 34 = 0) (hu : iblk m c 0 t = up2 U) (hv : iblk m c 1 t = up2 V) (hy : iblk m c 2 t = up2 Y)
    (hlw : iblk m c 3 t = up2 fun _ : Fin 1 => LW) (hlb : iblk m c 4 t = up2 fun _ : Fin 1 => LB)
    (hw : iblk m c 5 t = up3 W) (hb : iblk m c 6 t = up2 fun t g => B g t) :
    (outsAt0 m c t.val t.isLt).2.2.2.2 = up2 fun _ : Fin 1 => dlb U Y W := by
  rw [outsAt0_A m c t h]
  frame_out
  simp only [hu, hv, hy, hlw, hlb, hw, hb]
  rw [pay8, scratch]
  funext y
  refine (dlb_acc _ _ _ _ _).trans ?_
  pointwise [k0_pay4]
  rfl

theorem out11_B (h : ¬ t.val % 34 = 0) (hu : iblk m c 0 t = up2 U) (hv : iblk m c 1 t = up2 V) (hy : iblk m c 2 t = up2 Y)
    (hlw : iblk m c 3 t = up2 fun _ : Fin 1 => LW) (hlb : iblk m c 4 t = up2 fun _ : Fin 1 => LB)
    (hw : iblk m c 5 t = up3 W) (hb : iblk m c 6 t = up2 fun t g => B g t) (y : S1x1024.Idx) :
    (outsAt0 m c t.val t.isLt).2.2.2.2 y = (outsAt0 m c (t.val - 1) (by omega)).2.2.2.2 y + (up2 fun _ : Fin 1 => dlb U Y W) y := by
  rw [outsAt0_B m c t h]
  frame_out
  simp only [hu, hv, hy, hlw, hlb, hw, hb]
  rw [pay8, scratch]
  exact dlb_acc _ _ _ _ _

end Cert.KernelIdeal.Block
-- ==== Proof.Sgu.Blocks.lean ====
/-
  The blocks the grid points take, as real matrices read off the arguments.
-/
module

public import proofs.«01_k».proof.Proof.Sgu.Points
public import proofs.«01_k».proof.Proof.Gen.KernelIdeal.Value

@[expose] public section

noncomputable section

namespace Cert.KernelIdeal.Block

open Cert.KernelIdeal Cert.KernelIdeal.Gen Idealize.ShloMosaic Idealize.ShloMosaic.TcCoe Cert.Sgu
open Idealize.ShloMosaic.Pipeline (Dat)

variable (m : (ℓ : Loc nD τ sig) → Buf (Elt Ideal) ℓ) (c : Dev nD)

/-- The two halves' columns among the projection's. -/
def colU (j : Fin 1024) : Fin 9216 := ⟨4096 + j.val, by omega⟩
def colV (j : Fin 1024) : Fin 9216 := ⟨5120 + j.val, by omega⟩

/-- The arguments as real arrays: the two halves, the result's gradient, the layer norm's weight and bias, the matrices, the biases. -/
def argU (r : Fin 4352) (j : Fin 1024) : ℝ := EReal.toReal (m ((c : Thread nD τ).loc main_arg0) (ix2 r (colU j)))
def argV (r : Fin 4352) (j : Fin 1024) : ℝ := EReal.toReal (m ((c : Thread nD τ).loc main_arg0) (ix2 r (colV j)))
def argY (r : Fin 4352) (j : Fin 1024) : ℝ := EReal.toReal (m ((c : Thread nD τ).loc main_arg1) (ix2 r j))
def argLW (j : Fin 1024) : ℝ := EReal.toReal (m ((c : Thread nD τ).loc main_arg2) (ix1 j))
def argLB (j : Fin 1024) : ℝ := EReal.toReal (m ((c : Thread nD τ).loc main_arg3) (ix1 j))
def argW (g : Fin 8) (t s : Fin 128) : ℝ := EReal.toReal (m ((c : Thread nD τ).loc main_arg4) (ix3 g t s))
def argB (g : Fin 8) (t : Fin 128) : ℝ := EReal.toReal (m ((c : Thread nD τ).loc main_arg5) (ix2 g t))

/-- The arguments hold real numbers where the gradients read them. -/
structure RealArgs : Prop where
  u : ∀ r j, (m ((c : Thread nD τ).loc main_arg0) (ix2 r (colU j)) : EReal) = ((argU m c r j : ℝ) : EReal)
  v : ∀ r j, (m ((c : Thread nD τ).loc main_arg0) (ix2 r (colV j)) : EReal) = ((argV m c r j : ℝ) : EReal)
  y : ∀ r j, (m ((c : Thread nD τ).loc main_arg1) (ix2 r j) : EReal) = ((argY m c r j : ℝ) : EReal)
  lw : ∀ j, (m ((c : Thread nD τ).loc main_arg2) (ix1 j) : EReal) = ((argLW m c j : ℝ) : EReal)
  lb : ∀ j, (m ((c : Thread nD τ).loc main_arg3) (ix1 j) : EReal) = ((argLB m c j : ℝ) : EReal)
  w : ∀ g t s, (m ((c : Thread nD τ).loc main_arg4) (ix3 g t s) : EReal) = ((argW m c g t s : ℝ) : EReal)
  b : ∀ g t, (m ((c : Thread nD τ).loc main_arg5) (ix2 g t) : EReal) = ((argB m c g t : ℝ) : EReal)

/-- A grid point is a chunk. -/
def chunk (t : Fin cfg0.N) : Fin 34 := ⟨t.val, lt_of_lt_of_eq t.isLt N_0⟩

theorem idx0 : ∀ t : Fin cfg0.N, win0_0.index t = ![t.val, 4] := (by decide +kernel : ∀ t : Fin grid0.N, _)
theorem idx1 : ∀ t : Fin cfg0.N, win0_1.index t = ![t.val, 5] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0] := (by decide +kernel : ∀ t : Fin grid0.N, _)

variable {m c} (H : RealArgs m c) (t : Fin cfg0.N)

include H

theorem blk_u : iblk m c 0 t = up2 fun s j => argU m c (row (chunk t) s) j := by
  funext i
  have e : iblk m c 0 t i = m ((c : Thread nD τ).loc main_arg0) (ix2 (row (chunk t) (i 0)) (colU (i 1))) := by
    blk_point [iblk, V, idx0 t, row, chunk, colU, colV]
  exact e.trans (H.u (row (chunk t) (i 0)) (i 1))

theorem blk_v : iblk m c 1 t = up2 fun s j => argV m c (row (chunk t) s) j := by
  funext i
  have e : iblk m c 1 t i = m ((c : Thread nD τ).loc main_arg0) (ix2 (row (chunk t) (i 0)) (colV (i 1))) := by
    blk_point [iblk, V, idx1 t, row, chunk, colU, colV]
  exact e.trans (H.v (row (chunk t) (i 0)) (i 1))

theorem blk_y : iblk m c 2 t = up2 fun s j => argY m c (row (chunk t) s) j := by
  funext i
  have e : iblk m c 2 t i = m ((c : Thread nD τ).loc main_arg1) (ix2 (row (chunk t) (i 0)) (i 1)) := by
    blk_point [iblk, V, idx2 t, row, chunk, colU, colV]
  exact e.trans (H.y (row (chunk t) (i 0)) (i 1))

theorem blk_lw : iblk m c 3 t = up2 fun _ : Fin 1 => argLW m c := by
  funext i
  have e : iblk m c 3 t i = m ((c : Thread nD τ).loc main_arg2) (ix1 (i 1)) := by
    blk_point [iblk, V, idx3 t, row, chunk, colU, colV]
  exact e.trans (H.lw (i 1))

theorem blk_lb : iblk m c 4 t = up2 fun _ : Fin 1 => argLB m c := by
  funext i
  have e : iblk m c 4 t i = m ((c : Thread nD τ).loc main_arg3) (ix1 (i 1)) := by
    blk_point [iblk, V, idx4 t, row, chunk, colU, colV]
  exact e.trans (H.lb (i 1))

theorem blk_w : iblk m c 5 t = up3 (argW m c) := by
  funext i
  have e : iblk m c 5 t i = m ((c : Thread nD τ).loc main_arg4) (ix3 (i 0) (i 1) (i 2)) := by
    blk_point [iblk, V, idx5 t, row, chunk, colU, colV]
  exact e.trans (H.w (i 0) (i 1) (i 2))

theorem blk_b : iblk m c 6 t = up2 fun t g => argB m c g t := by
  funext i
  have e : iblk m c 6 t i = m ((c : Thread nD τ).loc main_arg5) (ix2 (i 1) (i 0)) := by
    blk_point [iblk, V, idx6 t, row, chunk, colU, colV]
  exact e.trans (H.b (i 1) (i 0))

/-- What the last of the summed points leaves is the sum over the chunks; the row gradients come chunk by chunk. -/
theorem at7 : (outsAt0 m c t.val t.isLt).1
    = up2 (duv (fun s j => argU m c (row (chunk t) s) j) (fun s j => argV m c (row (chunk t) s) j) (fun s j => argY m c (row (chunk t) s) j)
        (argLW m c) (argLB m c) (argW m c) (argB m c)) :=
  out7 m c t (blk_u H t) (blk_v H t) (blk_y H t) (blk_lw H t) (blk_lb H t) (blk_w H t) (blk_b H t)

end Cert.KernelIdeal.Block
-- ==== Proof.Sgu.Arrays.lean ====
/-
  The output arrays after the run, as sums and blocks of real numbers.
-/
module

public import proofs.«01_k».proof.Proof.Sgu.Blocks

@[expose] public section

noncomputable section

namespace Cert.KernelIdeal.Block

open Cert.KernelIdeal Cert.KernelIdeal.Gen Idealize.ShloMosaic Idealize.ShloMosaic.TcCoe Cert.Sgu
open Idealize.ShloMosaic.Pipeline (Dat)

variable (m : (ℓ : Loc nD τ sig) → Buf (Elt Ideal) ℓ) (c : Dev nD)

/-- A chunk's rows of the arguments. -/
def cU (n : Fin 34) (s : Fin 128) (j : Fin 1024) : ℝ := argU m c (row n s) j
def cV (n : Fin 34) (s : Fin 128) (j : Fin 1024) : ℝ := argV m c (row n s) j
def cY (n : Fin 34) (s : Fin 128) (j : Fin 1024) : ℝ := argY m c (row n s) j

/-- The gradients over all the chunks. -/
def DW (g : Fin 8) (t s : Fin 128) : ℝ := ∑ n, dw (cU m c n) (cV m c n) (cY m c n) (argLW m c) (argLB m c) g t s
def DB (t : Fin 128) (g : Fin 8) : ℝ := ∑ n, db (cU m c n) (cY m c n) t g
def DLW (j : Fin 1024) : ℝ := ∑ n, dlw (cU m c n) (cV m c n) (cY m c n) (argW m c) j
def DLB (j : Fin 1024) : ℝ := ∑ n, dlb (cU m c n) (cY m c n) (argW m c) j

/-- The projection's gradient: the two halves' columns replaced, the rest kept. -/
def DPARTS : S4352x9216.Idx → EReal := fun i =>
  if h : (i 1).val / 2048 = 2 then
    ((duv (cU m c (chk (i 0))) (cV m c (chk (i 0))) (cY m c (chk (i 0))) (argLW m c) (argLB m c) (argW m c) (argB m c) (pos (i 0))
      ⟨(i 1).val - 4096, by omega⟩ : ℝ) : EReal)
  else m ((c : Thread nD τ).loc main_arg6) i

theorem idx7 : ∀ t : Fin cfg0.N, win0_7.index t = ![t.val, 2] := (by decide +kernel : ∀ t : Fin grid0.N, _)

/-- The last point. -/
def tL : Fin cfg0.N := ⟨33, lt_of_lt_of_eq (by decide) N_0.symm⟩

/-- A sum over the points of real matrices is the matrices' sum over the chunks. -/
theorem sum_points (f : Fin 34 → ℝ) : (0 : EReal) + ∑ p : Fin cfg0.N, ((f (chunk p) : ℝ) : EReal) = ((∑ n, f n : ℝ) : EReal) := by
  rw [zero_add, coe_sum]
  exact Fintype.sum_equiv (finCongr N_0) _ _ fun p => rfl

variable {m c} (H : RealArgs m c)

include H

theorem last8 (i : S8x128x128.Idx) : (outsAt0 m c tL.val tL.isLt).2.1 i = (up3 (DW m c)) i :=
  (Pipeline.eq_sum_fin_of_reset_step_apply_last (fun n h => (outsAt0 m c n h).2.1) 34 (fun _ => (0 : EReal))
    (fun t => up3 (dw (cU m c (chunk t)) (cV m c (chunk t)) (cY m c (chunk t)) (argLW m c) (argLB m c)))
    (fun t h i => (congrFun (out8_A m c t h (blk_u H t) (blk_v H t) (blk_y H t) (blk_lw H t) (blk_lb H t) (blk_w H t) (blk_b H t)) i).trans (zero_add _).symm)
    (fun t h i => out8_B m c t h (blk_u H t) (blk_v H t) (blk_y H t) (blk_lw H t) (blk_lb H t) (blk_w H t) (blk_b H t) i) (le_of_eq N_0) tL rfl i).trans
    (sum_points (fun n => dw (cU m c n) (cV m c n) (cY m c n) (argLW m c) (argLB m c) (i 0) (i 1) (i 2)))

theorem arr8 : (dats m 0 c).arrAt 8 cfg0.N = up3 (DW m c) := by
  refine (dats m 0 c).arrAt_eq_of_after_last 8 tL (by decide +kernel) (up3 (DW m c)) (fun j => ?_)
  blk_simp
  rw [after0_8]
  exact last8 H j

theorem last9 (i : S128x8.Idx) : (outsAt0 m c tL.val tL.isLt).2.2.1 i = (up2 (DB m c)) i :=
  (Pipeline.eq_sum_fin_of_reset_step_apply_last (fun n h => (outsAt0 m c n h).2.2.1) 34 (fun _ => (0 : EReal))
    (fun t => up2 (db (cU m c (chunk t)) (cY m c (chunk t))))
    (fun t h i => (congrFun (out9_A m c t h (blk_u H t) (blk_v H t) (blk_y H t) (blk_lw H t) (blk_lb H t) (blk_w H t) (blk_b H t)) i).trans (zero_add _).symm)
    (fun t h i => out9_B m c t h (blk_u H t) (blk_v H t) (blk_y H t) (blk_lw H t) (blk_lb H t) (blk_w H t) (blk_b H t) i) (le_of_eq N_0) tL rfl i).trans
    (sum_points (fun n => db (cU m c n) (cY m c n) (i 0) (i 1)))

theorem arr9 : (dats m 0 c).arrAt 9 cfg0.N = up2 (DB m c) := by
  refine (dats m 0 c).arrAt_eq_of_after_last 9 tL (by decide +kernel) (up2 (DB m c)) (fun j => ?_)
  blk_simp
  rw [after0_9]
  exact last9 H j

theorem last10 (i : S1x1024.Idx) : (outsAt0 m c tL.val tL.isLt).2.2.2.1 i = (up2 fun _ : Fin 1 => DLW m c) i :=
  (Pipeline.eq_sum_fin_of_reset_step_apply_last (fun n h => (outsAt0 m c n h).2.2.2.1) 34 (fun _ => (0 : EReal))
    (fun t => up2 fun _ : Fin 1 => dlw (cU m c (chunk t)) (cV m c (chunk t)) (cY m c (chunk t)) (argW m c))
    (fun t h i => (congrFun (out10_A m c t h (blk_u H t) (blk_v H t) (blk_y H t) (blk_lw H t) (blk_lb H t) (blk_w H t) (blk_b H t)) i).trans (zero_add _).symm)
    (fun t h i => out10_B m c t h (blk_u H t) (blk_v H t) (blk_y H t) (blk_lw H t) (blk_lb H t) (blk_w H t) (blk_b H t) i) (le_of_eq N_0) tL rfl i).trans
    (sum_points (fun n => dlw (cU m c n) (cV m c n) (cY m c n) (argW m c) (i 1)))

theorem arr10 : (dats m 0 c).arrAt 10 cfg0.N = up2 fun _ : Fin 1 => DLW m c := by
  refine (dats m 0 c).arrAt_eq_of_after_last 10 tL (by decide +kernel) (up2 fun _ : Fin 1 => DLW m c) (fun j => ?_)
  blk_simp
  rw [after0_10]
  exact last10 H j

theorem last11 (i : S1x1024.Idx) : (outsAt0 m c tL.val tL.isLt).2.2.2.2 i = (up2 fun _ : Fin 1 => DLB m c) i :=
  (Pipeline.eq_sum_fin_of_reset_step_apply_last (fun n h => (outsAt0 m c n h).2.2.2.2) 34 (fun _ => (0 : EReal))
    (fun t => up2 fun _ : Fin 1 => dlb (cU m c (chunk t)) (cY m c (chunk t)) (argW m c))
    (fun t h i => (congrFun (out11_A m c t h (blk_u H t) (blk_v H t) (blk_y H t) (blk_lw H t) (blk_lb H t) (blk_w H t) (blk_b H t)) i).trans (zero_add _).symm)
    (fun t h i => out11_B m c t h (blk_u H t) (blk_v H t) (blk_y H t) (blk_lw H t) (blk_lb H t) (blk_w H t) (blk_b H t) i) (le_of_eq N_0) tL rfl i).trans
    (sum_points (fun n => dlb (cU m c n) (cY m c n) (argW m c) (i 1)))

theorem arr11 : (dats m 0 c).arrAt 11 cfg0.N = up2 fun _ : Fin 1 => DLB m c := by
  refine (dats m 0 c).arrAt_eq_of_after_last 11 tL (by decide +kernel) (up2 fun _ : Fin 1 => DLB m c) (fun j => ?_)
  blk_simp
  rw [after0_11]
  exact last11 H j

/-- The replaced columns at a chunk's row. -/
theorem DPARTS_at (i : S4352x9216.Idx) (n : Fin 34) (s : Fin 128) (k : Fin 2048) (h0 : (i 0).val = n.val * 128 + s.val)
    (h1 : (i 1).val = 2 * 2048 + k.val) : DPARTS m c i
      = ((duv (cU m c n) (cV m c n) (cY m c n) (argLW m c) (argLB m c) (argW m c) (argB m c) s k : ℝ) : EReal) := by
  have e0 : (i 0 : Fin 4352) = row n s := Fin.ext (by rw [h0]; simp only [row])
  have e1 : (⟨(i 1).val - 4096, by have := k.isLt; omega⟩ : Fin 2048) = k := Fin.ext (by simp only [h1]; omega)
  have hd : (i 1).val / 2048 = 2 := by have := k.isLt; omega
  have ec : chk (i 0) = n := (congrArg chk e0).trans (chk_row n s)
  have ep : pos (i 0) = s := (congrArg pos e0).trans (pos_row n s)
  rw [DPARTS, dif_pos hd, ec, ep, e1]

set_option maxRecDepth 40000 in
theorem arr7 : (dats m 0 c).arrAt 7 cfg0.N = DPARTS m c := by
  refine (dats m 0 c).arrAt_eq_of_coversWhere_of_agree 7 (DPARTS m c) (fun β => β 1 = 2) (by decide +kernel) (fun t hf y => ?_) (fun j hj => ?_)
  · blk_simp
    rw [after0_7, at7 H t]
    refine Eq.trans ?_ (DPARTS_at H _ (chunk t) ((cfg0.win 7).xinj (cfg0.grid.coords t) y 0)
      ((cfg0.win 7).xinj (cfg0.grid.coords t) y 1) ?_ ?_).symm
    · rfl
    · refine Eq.trans (b := win0_7.index t 0 * 128 + (y 0).val) (by blk_simp) ?_
      rw [idx7 t]; rfl
    · refine Eq.trans (b := win0_7.index t 1 * 2048 + (y 1).val) (by blk_simp) ?_
      rw [idx7 t]; rfl
  · blk_simp [Pipeline.Window.cell_apply] at hj
    refine Eq.trans ?_ (dif_neg hj).symm
    rw [A_eq]
    show V m c main_v4_0 j = m (c.tc.loc main_arg6) j
    entry_read
    rfl

end Cert.KernelIdeal.Block
-- ==== Proof.Sgu.RefGelu.lean ====
/-
  The reference's elementwise stages: both halves' GELU and what its derivative takes.
-/
module

public import proofs.«01_k».proof.Proof.Gen.ReferenceIdeal.Read
public import proofs.«01_k».proof.Proof.Sgu.Block

@[expose] public section

noncomputable section

namespace Cert.ReferenceIdeal.Read

open Cert.ReferenceIdeal Cert.ReferenceIdeal.Gen Idealize.ShloMosaic Cert.Sgu

variable {x0 : (⟨S4352x9216, .f32⟩ : BufTy).Contents (Elt Ideal)} {U V : Fin 4352 → Fin 1024 → ℝ}

section
variable (hu : val_main_v1 (F := Ideal) x0 = up3 fun (_ : Fin 1) r j => U r j)
include hu

/-- The first half's tangent. -/
theorem r14 : val_main_v14 (F := Ideal) x0 = up3 fun (_ : Fin 1) r j => gt (U r j) := by
  funext i
  pointwise [val_main_v14_apply, val_main_v13_apply, val_main_v12_apply, val_main_cst_1_apply, val_main_v11_apply, val_main_v10_apply, val_main_v9_apply, val_main_cst_0_apply, val_main_v5_apply, val_main_v4_apply, hu]
  simp only [up2, up3, bits_half, bits_neg_half, bits_one, bits_two, bits_three, bits_gc, bits_ga, bits_zero, bits_1024, bits_eps, ← EReal.coe_one, ← EReal.coe_mul, ← EReal.coe_add, ← EReal.coe_sub, ← EReal.coe_neg, ← coe_sum, Ideal.tanh_coe]
  exact congrArg (fun r : ℝ => (r : EReal)) (by unfold gt; congr 1; ring)

/-- One less its square. -/
theorem r19 : val_main_v19 (F := Ideal) x0 = up3 fun (_ : Fin 1) r j => (1 + gt (U r j)) * (1 - gt (U r j)) := by
  funext i
  pointwise [val_main_v19_apply, val_main_v16_apply, val_main_v15_apply, val_main_cst_2_apply, val_main_v18_apply, val_main_v17_apply, val_main_cst_3_apply, r14 hu]
  simp only [up2, up3, bits_half, bits_neg_half, bits_one, bits_two, bits_three, bits_gc, bits_ga, bits_zero, bits_1024, bits_eps, ← EReal.coe_one, ← EReal.coe_mul, ← EReal.coe_add, ← EReal.coe_sub, ← EReal.coe_neg, ← coe_sum]

/-- Half of one more. -/
theorem r23 : val_main_v23 (F := Ideal) x0 = up3 fun (_ : Fin 1) r j => 1 / 2 * (1 + gt (U r j)) := by
  funext i
  pointwise [val_main_v23_apply, val_main_v22_apply, val_main_cst_5_apply, val_main_v21_apply, val_main_v20_apply, val_main_cst_4_apply, r14 hu]
  simp only [up2, up3, bits_half, bits_neg_half, bits_one, bits_two, bits_three, bits_gc, bits_ga, bits_zero, bits_1024, bits_eps, ← EReal.coe_one, ← EReal.coe_mul, ← EReal.coe_add, ← EReal.coe_sub, ← EReal.coe_neg, ← coe_sum]

/-- GELU. -/
theorem r24 : val_main_v24 (F := Ideal) x0 = up3 fun (_ : Fin 1) r j => gelu (U r j) := by
  funext i
  pointwise [val_main_v24_apply, r23 hu, hu]
  simp only [up2, up3, bits_half, bits_neg_half, bits_one, bits_two, bits_three, bits_gc, bits_ga, bits_zero, bits_1024, bits_eps, ← EReal.coe_one, ← EReal.coe_mul, ← EReal.coe_add, ← EReal.coe_sub, ← EReal.coe_neg, ← coe_sum, gelu]

/-- Three times the square. -/
theorem r8 : val_main_v8 (F := Ideal) x0 = up3 fun (_ : Fin 1) r j => 3 * (U r j * U r j) := by
  funext i
  pointwise [val_main_v8_apply, val_main_v7_apply, val_main_cst_apply, val_main_v6_apply, hu]
  simp only [up2, up3, bits_half, bits_neg_half, bits_one, bits_two, bits_three, bits_gc, bits_ga, bits_zero, bits_1024, bits_eps, ← EReal.coe_one, ← EReal.coe_mul, ← EReal.coe_add, ← EReal.coe_sub, ← EReal.coe_neg, ← coe_sum]

end

section
variable (hv : val_main_v3 (F := Ideal) x0 = up3 fun (_ : Fin 1) r j => V r j)
include hv

/-- The second half's tangent. -/
theorem r35 : val_main_v35 (F := Ideal) x0 = up3 fun (_ : Fin 1) r j => gt (V r j) := by
  funext i
  pointwise [val_main_v35_apply, val_main_v34_apply, val_main_v33_apply, val_main_cst_8_apply, val_main_v32_apply, val_main_v31_apply, val_main_v30_apply, val_main_cst_7_apply, val_main_v26_apply, val_main_v25_apply, hv]
  simp only [up2, up3, bits_half, bits_neg_half, bits_one, bits_two, bits_three, bits_gc, bits_ga, bits_zero, bits_1024, bits_eps, ← EReal.coe_one, ← EReal.coe_mul, ← EReal.coe_add, ← EReal.coe_sub, ← EReal.coe_neg, ← coe_sum, Ideal.tanh_coe]
  exact congrArg (fun r : ℝ => (r : EReal)) (by unfold gt; congr 1; ring)

/-- One less its square. -/
theorem r40 : val_main_v40 (F := Ideal) x0 = up3 fun (_ : Fin 1) r j => (1 + gt (V r j)) * (1 - gt (V r j)) := by
  funext i
  pointwise [val_main_v40_apply, val_main_v37_apply, val_main_v36_apply, val_main_cst_9_apply, val_main_v39_apply, val_main_v38_apply, val_main_cst_10_apply, r35 hv]
  simp only [up2, up3, bits_half, bits_neg_half, bits_one, bits_two, bits_three, bits_gc, bits_ga, bits_zero, bits_1024, bits_eps, ← EReal.coe_one, ← EReal.coe_mul, ← EReal.coe_add, ← EReal.coe_sub, ← EReal.coe_neg, ← coe_sum]

/-- Half of one more. -/
theorem r44 : val_main_v44 (F := Ideal) x0 = up3 fun (_ : Fin 1) r j => 1 / 2 * (1 + gt (V r j)) := by
  funext i
  pointwise [val_main_v44_apply, val_main_v43_apply, val_main_cst_12_apply, val_main_v42_apply, val_main_v41_apply, val_main_cst_11_apply, r35 hv]
  simp only [up2, up3, bits_half, bits_neg_half, bits_one, bits_two, bits_three, bits_gc, bits_ga, bits_zero, bits_1024, bits_eps, ← EReal.coe_one, ← EReal.coe_mul, ← EReal.coe_add, ← EReal.coe_sub, ← EReal.coe_neg, ← coe_sum]

/-- GELU. -/
theorem r45 : val_main_v45 (F := Ideal) x0 = up3 fun (_ : Fin 1) r j => gelu (V r j) := by
  funext i
  pointwise [val_main_v45_apply, r44 hv, hv]
  simp only [up2, up3, bits_half, bits_neg_half, bits_one, bits_two, bits_three, bits_gc, bits_ga, bits_zero, bits_1024, bits_eps, ← EReal.coe_one, ← EReal.coe_mul, ← EReal.coe_add, ← EReal.coe_sub, ← EReal.coe_neg, ← coe_sum, gelu]

/-- Three times the square. -/
theorem r29 : val_main_v29 (F := Ideal) x0 = up3 fun (_ : Fin 1) r j => 3 * (V r j * V r j) := by
  funext i
  pointwise [val_main_v29_apply, val_main_v28_apply, val_main_cst_6_apply, val_main_v27_apply, hv]
  simp only [up2, up3, bits_half, bits_neg_half, bits_one, bits_two, bits_three, bits_gc, bits_ga, bits_zero, bits_1024, bits_eps, ← EReal.coe_one, ← EReal.coe_mul, ← EReal.coe_add, ← EReal.coe_sub, ← EReal.coe_neg, ← coe_sum]

end

end Cert.ReferenceIdeal.Read

end
-- ==== Proof.Sgu.RefNorm.lean ====
/-
  The reference's layer norm over each row of the second half's GELU.
-/
module

public import proofs.«01_k».proof.Proof.Sgu.RefGelu

@[expose] public section

noncomputable section

namespace Cert.ReferenceIdeal.Read

open Cert.ReferenceIdeal Cert.ReferenceIdeal.Gen Idealize.ShloMosaic Cert.Sgu

variable {x0 : (⟨S4352x9216, .f32⟩ : BufTy).Contents (Elt Ideal)} {V : Fin 4352 → Fin 1024 → ℝ}
variable {x2 x3 : (⟨S1024, .f32⟩ : BufTy).Contents (Elt Ideal)} {LW LB : Fin 1024 → ℝ}
/-- A real row as an array of extended reals. -/
def up1 {a : ℕ} (f : Fin a → ℝ) : (⟨1, ![a]⟩ : Shape).Idx → EReal := fun i => (f (i 0) : EReal)

/-- A row as the norm takes it. -/
def gvr (V : Fin 4352 → Fin 1024 → ℝ) (r : Fin 4352) (j : Fin 1024) : ℝ := gelu (V r j)

variable (hv : val_main_v3 (F := Ideal) x0 = up3 fun (_ : Fin 1) r j => V r j)
variable (hlw : x2 = up1 LW) (hlb : x3 = up1 LB)
include hv

/-- Each row's mean. -/
theorem r49 : val_main_v49 (F := Ideal) x0 = up3 fun (_ : Fin 1) r (_ : Fin 1) => mean (gvr V r) := by
  funext i
  pointwise [val_main_v49_apply, val_main_v48_apply, val_main_cst_14_apply, val_main_v47_apply, val_main_v46_apply, val_main_cst_13_apply, r45 hv]
  simp only [up2, up3, bits_half, bits_neg_half, bits_one, bits_two, bits_three, bits_gc, bits_ga, bits_zero, bits_1024, bits_eps, ← EReal.coe_one, ← EReal.coe_mul, ← EReal.coe_add, ← EReal.coe_sub, ← EReal.coe_neg, ← coe_sum, Ideal.div_coe (by norm_num : (1024 : ℝ) ≠ 0)]
  rfl

/-- Each row less its mean. -/
theorem r51 : val_main_v51 (F := Ideal) x0 = up3 fun (_ : Fin 1) r j => cen (gvr V r) j := by
  funext i
  pointwise [val_main_v51_apply, val_main_v50_apply, r45 hv, r49 hv]
  simp only [up2, up3, bits_half, bits_neg_half, bits_one, bits_two, bits_three, bits_gc, bits_ga, bits_zero, bits_1024, bits_eps, ← EReal.coe_one, ← EReal.coe_mul, ← EReal.coe_add, ← EReal.coe_sub, ← EReal.coe_neg, ← coe_sum, cen]
  rfl

/-- Each row less its mean. -/
theorem r60 : val_main_v60 (F := Ideal) x0 = up3 fun (_ : Fin 1) r j => cen (gvr V r) j := by
  funext i
  pointwise [val_main_v60_apply, val_main_v59_apply, r45 hv, r49 hv]
  simp only [up2, up3, bits_half, bits_neg_half, bits_one, bits_two, bits_three, bits_gc, bits_ga, bits_zero, bits_1024, bits_eps, ← EReal.coe_one, ← EReal.coe_mul, ← EReal.coe_add, ← EReal.coe_sub, ← EReal.coe_neg, ← coe_sum, cen]
  rfl

/-- Twice that. -/
theorem r54 : val_main_v54 (F := Ideal) x0 = up3 fun (_ : Fin 1) r j => 2 * cen (gvr V r) j := by
  funext i
  pointwise [val_main_v54_apply, val_main_v53_apply, val_main_cst_15_apply, r51 hv]
  simp only [up2, up3, bits_half, bits_neg_half, bits_one, bits_two, bits_three, bits_gc, bits_ga, bits_zero, bits_1024, bits_eps, ← EReal.coe_one, ← EReal.coe_mul, ← EReal.coe_add, ← EReal.coe_sub, ← EReal.coe_neg, ← coe_sum]

/-- Each row's variance plus epsilon. -/
theorem r62 : val_main_v62 (F := Ideal) x0 = up3 fun (_ : Fin 1) r (_ : Fin 1) => vare (gvr V r) := by
  funext i
  pointwise [val_main_v62_apply, val_main_v61_apply, val_main_cst_18_apply, val_main_v58_apply, val_main_v57_apply, val_main_cst_17_apply, val_main_v56_apply, val_main_v55_apply, val_main_cst_16_apply, val_main_v52_apply, r51 hv]
  simp only [up2, up3, bits_half, bits_neg_half, bits_one, bits_two, bits_three, bits_gc, bits_ga, bits_zero, bits_1024, bits_eps, ← EReal.coe_one, ← EReal.coe_mul, ← EReal.coe_add, ← EReal.coe_sub, ← EReal.coe_neg, ← coe_sum, Ideal.div_coe (by norm_num : (1024 : ℝ) ≠ 0)]
  rfl

/-- Its square root's reciprocal. -/
theorem r63 : val_main_v63 (F := Ideal) x0 = up3 fun (_ : Fin 1) r (_ : Fin 1) => rs (gvr V r) := by
  funext i
  pointwise [val_main_v63_apply, r62 hv]
  exact Cert.KernelIdeal.Block.rsqrt_vare _

/-- Half that over the variance, negated. -/
theorem r66 : val_main_v66 (F := Ideal) x0 = up3 fun (_ : Fin 1) r (_ : Fin 1) => -(1 / 2) * (rs (gvr V r) * (1 / vare (gvr V r))) := by
  funext i
  pointwise [val_main_v66_apply, val_main_v65_apply, val_main_cst_19_apply, val_main_v64_apply, r62 hv, r63 hv]
  simp only [up2, up3, bits_half, bits_neg_half, bits_one, bits_two, bits_three, bits_gc, bits_ga, bits_zero, bits_1024, bits_eps, ← EReal.coe_one, ← EReal.coe_mul, ← EReal.coe_add, ← EReal.coe_sub, ← EReal.coe_neg, ← coe_sum, Ideal.div_coe (vare_pos _).ne']

/-- The normalized rows. -/
theorem r68 : val_main_v68 (F := Ideal) x0 = up3 fun (_ : Fin 1) r j => xh (gvr V r) j := by
  funext i
  pointwise [val_main_v68_apply, val_main_v67_apply, r60 hv, r63 hv]
  simp only [up2, up3, bits_half, bits_neg_half, bits_one, bits_two, bits_three, bits_gc, bits_ga, bits_zero, bits_1024, bits_eps, ← EReal.coe_one, ← EReal.coe_mul, ← EReal.coe_add, ← EReal.coe_sub, ← EReal.coe_neg, ← coe_sum, xh]
  rfl

include hlw hlb

/-- The layer norm's rows. -/
theorem r74 : val_main_v74 (F := Ideal) x0 x2 x3 = up3 fun (_ : Fin 1) r j => vn LW LB (gvr V r) j := by
  funext i
  pointwise [val_main_v74_apply, val_main_v73_apply, val_main_v72_apply, val_main_v71_apply, val_main_v70_apply, val_main_v69_apply, r68 hv, hlw, hlb]
  simp only [up1, up2, up3, bits_half, bits_neg_half, bits_one, bits_two, bits_three, bits_gc, bits_ga, bits_zero, bits_1024, bits_eps, ← EReal.coe_one, ← EReal.coe_mul, ← EReal.coe_add, ← EReal.coe_sub, ← EReal.coe_neg, ← coe_sum, vn]
  rfl

end Cert.ReferenceIdeal.Read

end
-- ==== Proof.Sgu.RefMix.lean ====
/-
  The reference's mixing of each chunk's rows by its group's matrix, and the gradient's way back through it.
-/
module

public import proofs.«01_k».proof.Proof.Sgu.RefNorm

@[expose] public section

noncomputable section

namespace Cert.ReferenceIdeal.Read

open Cert.ReferenceIdeal Cert.ReferenceIdeal.Gen Idealize.ShloMosaic Cert.Sgu

/-- A real array of chunks, rows, groups and lanes. -/
def up5 (f : Fin 34 → Fin 128 → Fin 8 → Fin 128 → ℝ) : S1x34x128x8x128.Idx → EReal := fun i => (f (i 1) (i 2) (i 3) (i 4) : EReal)

/-- A chunk's rows. -/
def cut (A : Fin 4352 → Fin 1024 → ℝ) (n : Fin 34) (s : Fin 128) (j : Fin 1024) : ℝ := A (row n s) j

/-- Where a reshape into chunks and groups reads, and where one out of them does. -/
theorem idx75_1 (i : S1x34x128x8x128.Idx) : (idx_main_v75 i 1 : Fin 4352) = row (i 1) (i 2) := Fin.ext (by
  have h0 : (i 0).val < 1 := (i 0).isLt; have h1 : (i 1).val < 34 := (i 1).isLt; have h2 : (i 2).val < 128 := (i 2).isLt
  have h3 : (i 3).val < 8 := (i 3).isLt; have h4 : (i 4).val < 128 := (i 4).isLt
  show (((((i 0).val * 34 + (i 1).val) * 128 + (i 2).val) * 8 + (i 3).val) * 128 + (i 4).val) / 1024 % 4352 = (i 1).val * 128 + (i 2).val
  omega)
theorem idx75_2 (i : S1x34x128x8x128.Idx) : (idx_main_v75 i 2 : Fin 1024) = col (i 3) (i 4) := Fin.ext (by
  have h3 : (i 3).val < 8 := (i 3).isLt; have h4 : (i 4).val < 128 := (i 4).isLt
  show (((((i 0).val * 34 + (i 1).val) * 128 + (i 2).val) * 8 + (i 3).val) * 128 + (i 4).val) % 1024 = (i 3).val * 128 + (i 4).val
  omega)
theorem idx83_1 (i : S1x4352x1024.Idx) : (idx_main_v83 i 1 : Fin 34) = chk (i 1) := Fin.ext (by
  have h0 : (i 0).val < 1 := (i 0).isLt; have h1 : (i 1).val < 4352 := (i 1).isLt; have h2 : (i 2).val < 1024 := (i 2).isLt
  show (((i 0).val * 4352 + (i 1).val) * 1024 + (i 2).val) / 131072 % 34 = (i 1).val / 128
  omega)
theorem idx83_2 (i : S1x4352x1024.Idx) : (idx_main_v83 i 2 : Fin 128) = pos (i 1) := Fin.ext (by
  have h0 : (i 0).val < 1 := (i 0).isLt; have h1 : (i 1).val < 4352 := (i 1).isLt; have h2 : (i 2).val < 1024 := (i 2).isLt
  show (((i 0).val * 4352 + (i 1).val) * 1024 + (i 2).val) / 1024 % 128 = (i 1).val % 128
  omega)
theorem idx83_3 (i : S1x4352x1024.Idx) : (idx_main_v83 i 3 : Fin 8) = grp (i 2) := Fin.ext (by
  have h0 : (i 0).val < 1 := (i 0).isLt; have h1 : (i 1).val < 4352 := (i 1).isLt; have h2 : (i 2).val < 1024 := (i 2).isLt
  show (((i 0).val * 4352 + (i 1).val) * 1024 + (i 2).val) / 128 % 8 = (i 2).val / 128
  omega)
theorem idx83_4 (i : S1x4352x1024.Idx) : (idx_main_v83 i 4 : Fin 128) = lane (i 2) := Fin.ext (by
  have h0 : (i 0).val < 1 := (i 0).isLt; have h1 : (i 1).val < 4352 := (i 1).isLt; have h2 : (i 2).val < 1024 := (i 2).isLt
  show (((i 0).val * 4352 + (i 1).val) * 1024 + (i 2).val) % 128 = (i 2).val % 128
  omega)

/-- An array reshaped into chunks and groups, and one reshaped out of them. -/
theorem into5 (f : Fin 4352 → Fin 1024 → ℝ) (i : S1x34x128x8x128.Idx) :
    up3 (fun (_ : Fin 1) r j => f r j) (idx_main_v75 i) = up5 (fun n s g d => f (row n s) (col g d)) i := by
  show ((f (idx_main_v75 i 1) (idx_main_v75 i 2) : ℝ) : EReal) = _
  rw [idx75_1, idx75_2]
  rfl
theorem outof5 (f : Fin 34 → Fin 128 → Fin 8 → Fin 128 → ℝ) (i : S1x4352x1024.Idx) :
    up5 f (idx_main_v83 i) = up3 (fun (_ : Fin 1) r j => f (chk r) (pos r) (grp j) (lane j)) i := by
  show ((f (idx_main_v83 i 1) (idx_main_v83 i 2) (idx_main_v83 i 3) (idx_main_v83 i 4) : ℝ) : EReal) = _
  rw [idx83_1, idx83_2, idx83_3, idx83_4]
  rfl

variable {x0 : (⟨S4352x9216, .f32⟩ : BufTy).Contents (Elt Ideal)} {U V : Fin 4352 → Fin 1024 → ℝ}
variable {x1 : (⟨S4352x1024, .f32⟩ : BufTy).Contents (Elt Ideal)} {Y : Fin 4352 → Fin 1024 → ℝ}
variable {x2 x3 : (⟨S1024, .f32⟩ : BufTy).Contents (Elt Ideal)} {LW LB : Fin 1024 → ℝ}
variable {x4 : (⟨S8x128x128, .f32⟩ : BufTy).Contents (Elt Ideal)} {W : Fin 8 → Fin 128 → Fin 128 → ℝ}
variable {x5 : (⟨S8x128, .f32⟩ : BufTy).Contents (Elt Ideal)} {B : Fin 8 → Fin 128 → ℝ}
variable (hu : val_main_v1 (F := Ideal) x0 = up3 fun (_ : Fin 1) r j => U r j) (hv : val_main_v3 (F := Ideal) x0 = up3 fun (_ : Fin 1) r j => V r j)
variable (hy : x1 = up2 Y) (hlw : x2 = up1 LW) (hlb : x3 = up1 LB) (hw : x4 = up3 W) (hb : x5 = up2 B)

section Mixed
include hv hlw hlb

/-- The norm's rows in chunks and groups. -/
theorem r75 : val_main_v75 (F := Ideal) x0 x2 x3 = up5 fun n s g d => vn LW LB (gvr V (row n s)) (col g d) := by
  funext i
  rw [val_main_v75_apply, r74 hv hlw hlb]
  exact into5 (fun r j => vn LW LB (gvr V r) j) i

include hw hb
/-- The mixed rows in chunks and groups. -/
theorem r82 : val_main_v82 (F := Ideal) x0 x2 x3 x4 x5 = up5 fun n t g d => (∑ s, W g t s * vn LW LB (gvr V (row n s)) (col g d)) + B g t := by
  funext i
  pointwise [val_main_v82_apply, val_main_v77_apply, val_main_v76_apply, val_main_v81_apply, val_main_v80_apply, val_main_v79_apply, val_main_v78_apply, r75 hv hlw hlb, hw, hb]
  simp only [up1, up2, up3, up5, bits_half, bits_neg_half, bits_one, bits_two, bits_three, bits_gc, bits_ga, bits_zero, bits_1024, bits_eps, ← EReal.coe_one, ← EReal.coe_mul, ← EReal.coe_add, ← EReal.coe_sub, ← EReal.coe_neg, ← coe_sum]
  refine congrArg (fun r : ℝ => (r : EReal)) (congrArg₂ (· + ·) (Finset.sum_congr rfl fun k _ => ?_) rfl)
  exact mul_comm _ _

/-- The mixed rows. -/
theorem r83 : val_main_v83 (F := Ideal) x0 x2 x3 x4 x5 = up3 fun (_ : Fin 1) r j => mixed (cut V (chk r)) LW LB W B (pos r) j := by
  funext i
  rw [val_main_v83_apply, r82 hv hlw hlb hw hb]
  refine (outof5 (fun n t g d => (∑ s, W g t s * vn LW LB (gvr V (row n s)) (col g d)) + B g t) i).trans ?_
  refine congrArg (fun f : Fin 4352 → Fin 1024 → ℝ => up3 (fun (_ : Fin 1) => f) i) (funext fun r => funext fun j => ?_)
  simp only [col_grp_lane]
  rfl

include hy
/-- The gradient with respect to the first half's GELU. -/
theorem r87 : val_main_v87 (F := Ideal) x0 x1 x2 x3 x4 x5 = up3 fun (_ : Fin 1) r j => Y r j * mixed (cut V (chk r)) LW LB W B (pos r) j := by
  funext i
  pointwise [val_main_v87_apply, val_main_v85_apply, r83 hv hlw hlb hw hb, hy]
  simp only [up1, up2, up3, up5, bits_half, bits_neg_half, bits_one, bits_two, bits_three, bits_gc, bits_ga, bits_zero, bits_1024, bits_eps, ← EReal.coe_one, ← EReal.coe_mul, ← EReal.coe_add, ← EReal.coe_sub, ← EReal.coe_neg, ← coe_sum]
  rfl

end Mixed

section Back
include hu hy

/-- The gradient with respect to the mixed rows. -/
theorem r86 : val_main_v86 (F := Ideal) x0 x1 = up3 fun (_ : Fin 1) r j => Y r j * gelu (U r j) := by
  funext i
  pointwise [val_main_v86_apply, val_main_v85_apply, r24 hu, hy]
  simp only [up1, up2, up3, up5, bits_half, bits_neg_half, bits_one, bits_two, bits_three, bits_gc, bits_ga, bits_zero, bits_1024, bits_eps, ← EReal.coe_one, ← EReal.coe_mul, ← EReal.coe_add, ← EReal.coe_sub, ← EReal.coe_neg, ← coe_sum]
  exact congrArg (fun r : ℝ => (r : EReal)) (mul_comm _ _)

/-- The same in chunks and groups. -/
theorem r88 : val_main_v88 (F := Ideal) x0 x1 = up5 fun n t g d => dmix (cut U n) (cut Y n) t (col g d) := by
  funext i
  rw [val_main_v88_apply, r86 hu hy]
  exact into5 (fun r j => Y r j * gelu (U r j)) i

include hw
/-- The gradient with respect to the norm's rows, in chunks and groups. -/
theorem r98 : val_main_v98 (F := Ideal) x0 x1 x4 = up5 fun n s g d => ∑ t, W g t s * dmix (cut U n) (cut Y n) t (col g d) := by
  funext i
  pointwise [val_main_v98_apply, val_main_v97_apply, val_main_v95_apply, r88 hu hy, hw]
  simp only [up1, up2, up3, up5, bits_half, bits_neg_half, bits_one, bits_two, bits_three, bits_gc, bits_ga, bits_zero, bits_1024, bits_eps, ← EReal.coe_one, ← EReal.coe_mul, ← EReal.coe_add, ← EReal.coe_sub, ← EReal.coe_neg, ← coe_sum]
  refine congrArg (fun r : ℝ => (r : EReal)) (Finset.sum_congr rfl fun k _ => ?_)
  exact mul_comm _ _

/-- The gradient with respect to the norm's rows. -/
theorem r99 : val_main_v99 (F := Ideal) x0 x1 x4 = up3 fun (_ : Fin 1) r j => dvn (cut U (chk r)) (cut Y (chk r)) W (pos r) j := by
  funext i
  rw [val_main_v99_apply, r98 hu hy hw]
  refine (outof5 (fun n s g d => ∑ t, W g t s * dmix (cut U n) (cut Y n) t (col g d)) i).trans ?_
  refine congrArg (fun f : Fin 4352 → Fin 1024 → ℝ => up3 (fun (_ : Fin 1) => f) i) (funext fun r => funext fun j => ?_)
  simp only [col_grp_lane]
  rfl

include hlw
/-- The gradient with respect to the normalized rows. -/
theorem r107 : val_main_v107 (F := Ideal) x0 x1 x2 x4 = up3 fun (_ : Fin 1) r j => dvn (cut U (chk r)) (cut Y (chk r)) W (pos r) j * LW j := by
  funext i
  pointwise [val_main_v107_apply, val_main_v106_apply, val_main_v69_apply, r99 hu hy hw, hlw]
  simp only [up1, up2, up3, up5, bits_half, bits_neg_half, bits_one, bits_two, bits_three, bits_gc, bits_ga, bits_zero, bits_1024, bits_eps, ← EReal.coe_one, ← EReal.coe_mul, ← EReal.coe_add, ← EReal.coe_sub, ← EReal.coe_neg, ← coe_sum]
  rfl

end Back

end Cert.ReferenceIdeal.Read

end
-- ==== Proof.Sgu.RefDln.lean ====
/-
  The reference's gradient of the layer norm and of both halves' GELU.
-/
module

public import proofs.«01_k».proof.Proof.Sgu.RefMix

@[expose] public section

noncomputable section

namespace Cert.ReferenceIdeal.Read

open Cert.ReferenceIdeal Cert.ReferenceIdeal.Gen Idealize.ShloMosaic Cert.Sgu

/-- A host sum whose summed indices are listed once each by `e`. -/
theorem sum_listed {s t : Shape} {axes : List (Fin s.rank)} (h : s.ReducesTo axes t) (x : s.Idx → EReal) (init : EReal) (j : t.Idx)
    {K : Type} [Fintype K] (e : K → s.Idx) (inj : Function.Injective e) (h1 : ∀ k, h.drop (e k) = j)
    (h2 : ∀ i, h.drop i = j → ∃ k, e k = i) :
    Idealize.ShloMosaic.Ideal.hostReduceAdd h x init j = init + ∑ k, x (e k) := by
  classical
  unfold Idealize.ShloMosaic.Ideal.hostReduceAdd
  refine congrArg (init + ·) ?_
  have hs : Finset.univ.filter (fun i => h.drop i = j) = Finset.univ.map ⟨e, inj⟩ := by
    ext i
    simp only [Finset.mem_filter, Finset.mem_univ, true_and, Finset.mem_map, Function.Embedding.coeFn_mk]
    exact ⟨h2 i, fun ⟨k, hk⟩ => hk ▸ h1 k⟩
  rw [hs, Finset.sum_map]
  rfl

/-- A host sum over unit axes alone: the one index read. -/
theorem sum_unit {s t : Shape} {axes : List (Fin s.rank)} (h : s.ReducesTo axes t) (x : s.Idx → EReal) (j : t.Idx) (i : s.Idx)
    (h1 : h.drop i = j) (h2 : ∀ i', h.drop i' = j → i' = i) : Idealize.ShloMosaic.Ideal.hostReduceAdd h x 0 j = x i := by
  rw [sum_listed h x 0 j (fun _ : Unit => i) (fun _ _ _ => rfl) (fun _ => h1) (fun i' h' => ⟨(), (h2 i' h').symm⟩)]
  simp

/-- A column of row values summed over its unit axes. -/
theorem rows_unit (x : S1x4352x1.Idx → EReal) (j : S4352.Idx) :
    Idealize.ShloMosaic.Ideal.hostReduceAdd reducesTo_S1x4352x1_S4352_d0_2 x 0 j = x (ix3 (0 : Fin 1) (j 0 : Fin 4352) (0 : Fin 1)) :=
  sum_unit _ x j _ (by funext b; match b with | ⟨0, _⟩ => rfl) (fun i h => by
    funext a
    match a with
    | ⟨0, _⟩ => exact Subsingleton.elim (α := Fin 1) _ _
    | ⟨1, _⟩ => exact Fin.ext (congrArg Fin.val (congrFun h 0))
    | ⟨2, _⟩ => exact Subsingleton.elim (α := Fin 1) _ _)

/-- A row's value read through the reshape that gives it a unit axis. -/
theorem unit_col (f : Fin 4352 → ℝ) (i : S1x4352x1.Idx) :
    up2 (fun (_ : Fin 1) r => f r) (idx_main_v111 i) = up3 (fun (_ : Fin 1) r (_ : Fin 1) => f r) i := by
  have e : (idx_main_v111 i 1 : Fin 4352) = i 1 := Fin.ext (by
    have h0 : (i 0).val < 1 := (i 0).isLt; have h1 : (i 1).val < 4352 := (i 1).isLt; have h2 : (i 2).val < 1 := (i 2).isLt
    show (((i 0).val * 4352 + (i 1).val) * 1 + (i 2).val) % 4352 = (i 1).val
    omega)
  show ((f (idx_main_v111 i 1) : ℝ) : EReal) = _
  rw [e]
  rfl

variable {x0 : (⟨S4352x9216, .f32⟩ : BufTy).Contents (Elt Ideal)} {U V : Fin 4352 → Fin 1024 → ℝ}
variable {x1 : (⟨S4352x1024, .f32⟩ : BufTy).Contents (Elt Ideal)} {Y : Fin 4352 → Fin 1024 → ℝ}
variable {x2 x3 : (⟨S1024, .f32⟩ : BufTy).Contents (Elt Ideal)} {LW LB : Fin 1024 → ℝ}
variable {x4 : (⟨S8x128x128, .f32⟩ : BufTy).Contents (Elt Ideal)} {W : Fin 8 → Fin 128 → Fin 128 → ℝ}
variable {x5 : (⟨S8x128, .f32⟩ : BufTy).Contents (Elt Ideal)} {B : Fin 8 → Fin 128 → ℝ}
variable (hu : val_main_v1 (F := Ideal) x0 = up3 fun (_ : Fin 1) r j => U r j) (hv : val_main_v3 (F := Ideal) x0 = up3 fun (_ : Fin 1) r j => V r j)
variable (hy : x1 = up2 Y) (hlw : x2 = up1 LW) (hlb : x3 = up1 LB) (hw : x4 = up3 W) (hb : x5 = up2 B)

/-- The gradient with respect to a normalized row. -/
def dxr (U Y : Fin 4352 → Fin 1024 → ℝ) (LW : Fin 1024 → ℝ) (W : Fin 8 → Fin 128 → Fin 128 → ℝ) (r : Fin 4352) (j : Fin 1024) : ℝ :=
  dvn (cut U (chk r)) (cut Y (chk r)) W (pos r) j * LW j
/-- The variance's gradient, as every entry of the row's square takes it. -/
def dvr (x dx : Fin 1024 → ℝ) : ℝ := (∑ k, cen x k * dx k) * (-(1 / 2) * (rs x * (1 / vare x))) * (1 / 1024)

/-- A row of its chunk is the row. -/
theorem cut_pos (A : Fin 4352 → Fin 1024 → ℝ) (r : Fin 4352) : cut A (chk r) (pos r) = A r :=
  funext fun j => congrArg (fun r => A r j) (row_chk_pos r)
theorem gv_pos (A : Fin 4352 → Fin 1024 → ℝ) (r : Fin 4352) : gv (cut A (chk r)) (pos r) = gvr A r :=
  funext fun j => congrArg (fun r => gelu (A r j)) (row_chk_pos r)

/-- The second half's gradient in the order the reference multiplies it out. -/
theorem dv_form (U V Y : Fin 4352 → Fin 1024 → ℝ) (LW : Fin 1024 → ℝ) (W : Fin 8 → Fin 128 → Fin 128 → ℝ) (r : Fin 4352) (j : Fin 1024)
    (D : ℝ) (hD : D = dln (gvr V r) (dxr U Y LW W r) j) :
    D * (1 / 2 * (1 + gt (V r j))) + gc * (1 / 2 * (V r j * D) * ((1 + gt (V r j)) * (1 - gt (V r j))))
      + ga * (gc * (1 / 2 * (V r j * D) * ((1 + gt (V r j)) * (1 - gt (V r j))))) * (3 * (V r j * V r j))
    = dv (cut U (chk r)) (cut V (chk r)) (cut Y (chk r)) LW W (pos r) j := by
  unfold dv
  rw [gv_pos, cut_pos]
  show _ = dln (gvr V r) (dxr U Y LW W r) j * _
  rw [← hD]
  unfold dgelu
  ring

/-- The first half's likewise. -/
theorem du_form (U V Y : Fin 4352 → Fin 1024 → ℝ) (LW LB : Fin 1024 → ℝ) (W : Fin 8 → Fin 128 → Fin 128 → ℝ) (B : Fin 8 → Fin 128 → ℝ)
    (r : Fin 4352) (j : Fin 1024) (D : ℝ) (hD : D = Y r j * mixed (cut V (chk r)) LW LB W B (pos r) j) :
    D * (1 / 2 * (1 + gt (U r j))) + gc * (1 / 2 * (U r j * D) * ((1 + gt (U r j)) * (1 - gt (U r j))))
      + ga * (gc * (1 / 2 * (U r j * D) * ((1 + gt (U r j)) * (1 - gt (U r j))))) * (3 * (U r j * U r j))
    = du (cut U (chk r)) (cut V (chk r)) (cut Y (chk r)) LW LB W B (pos r) j := by
  unfold du
  rw [cut_pos, cut_pos, ← hD]
  unfold dgelu
  ring

include hu hv hy hlw hw

/-- The centred row against the gradient. -/
theorem r110 : val_main_v110 (F := Ideal) x0 x1 x2 x4 = up2 fun (_ : Fin 1) r => ∑ k, cen (gvr V r) k * dxr U Y LW W r k := by
  funext i
  pointwise [val_main_v110_apply, val_main_cst_27_apply, val_main_v109_apply, r60 hv, r107 hu hy hlw hw]
  simp only [up1, up2, up3, up5, bits_half, bits_neg_half, bits_one, bits_two, bits_three, bits_gc, bits_ga, bits_zero, bits_1024, bits_eps, ← EReal.coe_one, ← EReal.coe_mul, ← EReal.coe_add, ← EReal.coe_sub, ← EReal.coe_neg, ← coe_sum]
  rfl

theorem r111 : val_main_v111 (F := Ideal) x0 x1 x2 x4 = up3 fun (_ : Fin 1) r (_ : Fin 1) => ∑ k, cen (gvr V r) k * dxr U Y LW W r k := by
  funext i
  rw [val_main_v111_apply, r110 hu hv hy hlw hw]
  exact unit_col _ i

/-- The gradient over the deviation. -/
theorem r113 : val_main_v113 (F := Ideal) x0 x1 x2 x4 = up3 fun (_ : Fin 1) r j => dxr U Y LW W r j * rs (gvr V r) := by
  funext i
  pointwise [val_main_v113_apply, val_main_v112_apply, r63 hv, r107 hu hy hlw hw]
  simp only [up1, up2, up3, up5, bits_half, bits_neg_half, bits_one, bits_two, bits_three, bits_gc, bits_ga, bits_zero, bits_1024, bits_eps, ← EReal.coe_one, ← EReal.coe_mul, ← EReal.coe_add, ← EReal.coe_sub, ← EReal.coe_neg, ← coe_sum]
  rfl

/-- Its negated sum. -/
theorem r116 : val_main_v116 (F := Ideal) x0 x1 x2 x4 = up2 fun (_ : Fin 1) r => ∑ k, -(dxr U Y LW W r k * rs (gvr V r)) := by
  funext i
  pointwise [val_main_v116_apply, val_main_cst_28_apply, val_main_v115_apply, r113 hu hv hy hlw hw]
  simp only [up1, up2, up3, up5, bits_half, bits_neg_half, bits_one, bits_two, bits_three, bits_gc, bits_ga, bits_zero, bits_1024, bits_eps, ← EReal.coe_one, ← EReal.coe_mul, ← EReal.coe_add, ← EReal.coe_sub, ← EReal.coe_neg, ← coe_sum]
  rfl

theorem r117 : val_main_v117 (F := Ideal) x0 x1 x2 x4 = up3 fun (_ : Fin 1) r (_ : Fin 1) => ∑ k, -(dxr U Y LW W r k * rs (gvr V r)) := by
  funext i
  rw [val_main_v117_apply, r116 hu hv hy hlw hw]
  exact unit_col _ i

/-- The variance's gradient. -/
theorem r119 : val_main_v119 (F := Ideal) x0 x1 x2 x4 = up3 fun (_ : Fin 1) r (_ : Fin 1) => dvr (gvr V r) (dxr U Y LW W r) := by
  funext i
  pointwise [val_main_v119_apply, val_main_v118_apply, val_main_cst_29_apply, val_main_v114_apply, r111 hu hv hy hlw hw, r66 hv]
  simp only [up1, up2, up3, up5, bits_half, bits_neg_half, bits_one, bits_two, bits_three, bits_gc, bits_ga, bits_zero, bits_1024, bits_eps, ← EReal.coe_one, ← EReal.coe_mul, ← EReal.coe_add, ← EReal.coe_sub, ← EReal.coe_neg, ← coe_sum, Ideal.div_coe (by norm_num : (1024 : ℝ) ≠ 0)]
  rfl

/-- The same, a row's. -/
theorem r120 : val_main_v120 (F := Ideal) x0 x1 x2 x4 = up1 fun r => dvr (gvr V r) (dxr U Y LW W r) := by
  funext i
  unfold val_main_v120
  rw [r119 hu hv hy hlw hw]
  simp only [Host.reduceAdd, Ideal.hostReduceAdd_def, val_main_cst_30_apply]
  pointwise []
  rw [rows_unit]
  rfl

/-- The variance's gradient at each entry. -/
theorem r123 : val_main_v123 (F := Ideal) x0 x1 x2 x4 = up3 fun (_ : Fin 1) r j => dvr (gvr V r) (dxr U Y LW W r) * (2 * cen (gvr V r) j) := by
  funext i
  pointwise [val_main_v123_apply, val_main_v122_apply, val_main_v121_apply, r120 hu hv hy hlw hw, r54 hv]
  simp only [up1, up2, up3, up5, bits_half, bits_neg_half, bits_one, bits_two, bits_three, bits_gc, bits_ga, bits_zero, bits_1024, bits_eps, ← EReal.coe_one, ← EReal.coe_mul, ← EReal.coe_add, ← EReal.coe_sub, ← EReal.coe_neg, ← coe_sum]
  rfl

/-- Its negated sum. -/
theorem r125 : val_main_v125 (F := Ideal) x0 x1 x2 x4 = up2 fun (_ : Fin 1) r => ∑ k, -(dvr (gvr V r) (dxr U Y LW W r) * (2 * cen (gvr V r) k)) := by
  funext i
  pointwise [val_main_v125_apply, val_main_cst_31_apply, val_main_v124_apply, r123 hu hv hy hlw hw]
  simp only [up1, up2, up3, up5, bits_half, bits_neg_half, bits_one, bits_two, bits_three, bits_gc, bits_ga, bits_zero, bits_1024, bits_eps, ← EReal.coe_one, ← EReal.coe_mul, ← EReal.coe_add, ← EReal.coe_sub, ← EReal.coe_neg, ← coe_sum]
  rfl

theorem r126 : val_main_v126 (F := Ideal) x0 x1 x2 x4 = up3 fun (_ : Fin 1) r (_ : Fin 1) => ∑ k, -(dvr (gvr V r) (dxr U Y LW W r) * (2 * cen (gvr V r) k)) := by
  funext i
  rw [val_main_v126_apply, r125 hu hv hy hlw hw]
  exact unit_col _ i

/-- The mean's gradient. -/
theorem r130 : val_main_v130 (F := Ideal) x0 x1 x2 x4 = up3 fun (_ : Fin 1) r (_ : Fin 1) => ((∑ k, -(dxr U Y LW W r k * rs (gvr V r))) + ∑ k, -(dvr (gvr V r) (dxr U Y LW W r) * (2 * cen (gvr V r) k))) * (1 / 1024) := by
  funext i
  pointwise [val_main_v130_apply, val_main_v129_apply, val_main_cst_32_apply, val_main_v128_apply, r117 hu hv hy hlw hw, r126 hu hv hy hlw hw]
  simp only [up1, up2, up3, up5, bits_half, bits_neg_half, bits_one, bits_two, bits_three, bits_gc, bits_ga, bits_zero, bits_1024, bits_eps, ← EReal.coe_one, ← EReal.coe_mul, ← EReal.coe_add, ← EReal.coe_sub, ← EReal.coe_neg, ← coe_sum, Ideal.div_coe (by norm_num : (1024 : ℝ) ≠ 0)]

/-- The same, a row's. -/
theorem r131 : val_main_v131 (F := Ideal) x0 x1 x2 x4 = up1 fun r =>
    ((∑ k, -(dxr U Y LW W r k * rs (gvr V r))) + ∑ k, -(dvr (gvr V r) (dxr U Y LW W r) * (2 * cen (gvr V r) k))) * (1 / 1024) := by
  funext i
  unfold val_main_v131
  rw [r130 hu hv hy hlw hw]
  simp only [Host.reduceAdd, Ideal.hostReduceAdd_def, val_main_cst_33_apply]
  pointwise []
  rw [rows_unit]
  rfl

/-- The norm's gradient. -/
theorem r134 : val_main_v134 (F := Ideal) x0 x1 x2 x4 = up3 fun (_ : Fin 1) r j => dln (gvr V r) (dxr U Y LW W r) j := by
  funext i
  pointwise [val_main_v134_apply, val_main_v127_apply, val_main_v133_apply, val_main_v132_apply, r113 hu hv hy hlw hw, r123 hu hv hy hlw hw, r131 hu hv hy hlw hw]
  simp only [up1, up2, up3, up5, bits_half, bits_neg_half, bits_one, bits_two, bits_three, bits_gc, bits_ga, bits_zero, bits_1024, bits_eps, ← EReal.coe_one, ← EReal.coe_mul, ← EReal.coe_add, ← EReal.coe_sub, ← EReal.coe_neg, ← coe_sum]
  exact congrArg (fun r : ℝ => (r : EReal)) (dln_eq _ _ _)

/-- The second half's gradient. -/
theorem r146 : val_main_v146 (F := Ideal) x0 x1 x2 x4 = up3 fun (_ : Fin 1) r j => dv (cut U (chk r)) (cut V (chk r)) (cut Y (chk r)) LW W (pos r) j := by
  funext i
  pointwise [val_main_v146_apply, val_main_v145_apply, val_main_v144_apply, val_main_v143_apply, val_main_cst_36_apply, val_main_v142_apply, val_main_v141_apply, val_main_v140_apply, val_main_cst_35_apply, val_main_v139_apply, val_main_v138_apply, val_main_v137_apply, val_main_cst_34_apply, val_main_v136_apply, val_main_v135_apply, r134 hu hv hy hlw hw, r44 hv, r40 hv, r29 hv, hv]
  simp only [up1, up2, up3, up5, bits_half, bits_neg_half, bits_one, bits_two, bits_three, bits_gc, bits_ga, bits_zero, bits_1024, bits_eps, ← EReal.coe_one, ← EReal.coe_mul, ← EReal.coe_add, ← EReal.coe_sub, ← EReal.coe_neg, ← coe_sum]
  exact congrArg (fun r : ℝ => (r : EReal)) (dv_form U V Y LW W (i 1) (i 2) _ rfl)

omit hu hv hy hlw hw in
include hu hv hy hlw hlb hw hb in
/-- The first half's gradient. -/
theorem r158 : val_main_v158 (F := Ideal) x0 x1 x2 x3 x4 x5 = up3 fun (_ : Fin 1) r j => du (cut U (chk r)) (cut V (chk r)) (cut Y (chk r)) LW LB W B (pos r) j := by
  funext i
  pointwise [val_main_v158_apply, val_main_v157_apply, val_main_v156_apply, val_main_v155_apply, val_main_cst_39_apply, val_main_v154_apply, val_main_v153_apply, val_main_v152_apply, val_main_cst_38_apply, val_main_v151_apply, val_main_v150_apply, val_main_v149_apply, val_main_cst_37_apply, val_main_v148_apply, val_main_v147_apply, r87 hv hy hlw hlb hw hb, r23 hu, r19 hu, r8 hu, hu]
  simp only [up1, up2, up3, up5, bits_half, bits_neg_half, bits_one, bits_two, bits_three, bits_gc, bits_ga, bits_zero, bits_1024, bits_eps, ← EReal.coe_one, ← EReal.coe_mul, ← EReal.coe_add, ← EReal.coe_sub, ← EReal.coe_neg, ← coe_sum]
  exact congrArg (fun r : ℝ => (r : EReal)) (du_form U V Y LW LB W B (i 1) (i 2) _ rfl)

end Cert.ReferenceIdeal.Read

end
-- ==== Proof.Sgu.RefOut.lean ====
/-
  The reference's gradients of the matrices, the biases and the norm's scale and shift, and the joined row gradient.
-/
module

public import proofs.«01_k».proof.Proof.Sgu.RefDln

@[expose] public section

noncomputable section

namespace Cert.ReferenceIdeal.Read

open Cert.ReferenceIdeal Cert.ReferenceIdeal.Gen Idealize.ShloMosaic Cert.Sgu

/-- A sum over all the rows, chunk by chunk. -/
theorem rows_sum (f : Fin 4352 → ℝ) : ∑ r, f r = ∑ n, ∑ t, f (row n t) := by
  rw [← Fintype.sum_prod_type' (f := fun n t => f (row n t))]
  exact Fintype.sum_equiv ⟨fun r => (chk r, pos r), fun p => row p.1 p.2, row_chk_pos, fun p => Prod.ext (chk_row _ _) (pos_row _ _)⟩ _ _
    fun r => congrArg f (row_chk_pos r).symm

/-- The product over chunks and lanes reads its operands at these places. -/
theorem lhs96_0 (i : S8x128x128.Idx) (q : dot_S8x1x34x128x128_S1x34x128x8x128_S8x128x128_123_014_4_2_0_3.contr.Idx) :
    (dot_S8x1x34x128x128_S1x34x128x8x128_S8x128x128_123_014_4_2_0_3.lhsIdx i q 0).val = (i 0).val := by
  unfold DotDims.lhsIdx
  rw [dif_pos (show (0 : Fin S8x1x34x128x128.rank) ∈ dot_S8x1x34x128x128_S1x34x128x8x128_S8x128x128_123_014_4_2_0_3.lhsBatch by decide)]
  rfl
theorem lhs96_1 (i : S8x128x128.Idx) (q : dot_S8x1x34x128x128_S1x34x128x8x128_S8x128x128_123_014_4_2_0_3.contr.Idx) :
    (dot_S8x1x34x128x128_S1x34x128x8x128_S8x128x128_123_014_4_2_0_3.lhsIdx i q 1).val = (q ⟨0, by decide⟩).val := by
  unfold DotDims.lhsIdx
  rw [dif_neg (show ¬(1 : Fin S8x1x34x128x128.rank) ∈ dot_S8x1x34x128x128_S1x34x128x8x128_S8x128x128_123_014_4_2_0_3.lhsBatch by decide), dif_neg (show ¬(1 : Fin S8x1x34x128x128.rank) ∈ dot_S8x1x34x128x128_S1x34x128x8x128_S8x128x128_123_014_4_2_0_3.lhsNonContracting by decide)]
  rfl
theorem lhs96_2 (i : S8x128x128.Idx) (q : dot_S8x1x34x128x128_S1x34x128x8x128_S8x128x128_123_014_4_2_0_3.contr.Idx) :
    (dot_S8x1x34x128x128_S1x34x128x8x128_S8x128x128_123_014_4_2_0_3.lhsIdx i q 2).val = (q ⟨1, by decide⟩).val := by
  unfold DotDims.lhsIdx
  rw [dif_neg (show ¬(2 : Fin S8x1x34x128x128.rank) ∈ dot_S8x1x34x128x128_S1x34x128x8x128_S8x128x128_123_014_4_2_0_3.lhsBatch by decide), dif_neg (show ¬(2 : Fin S8x1x34x128x128.rank) ∈ dot_S8x1x34x128x128_S1x34x128x8x128_S8x128x128_123_014_4_2_0_3.lhsNonContracting by decide)]
  rfl
theorem lhs96_3 (i : S8x128x128.Idx) (q : dot_S8x1x34x128x128_S1x34x128x8x128_S8x128x128_123_014_4_2_0_3.contr.Idx) :
    (dot_S8x1x34x128x128_S1x34x128x8x128_S8x128x128_123_014_4_2_0_3.lhsIdx i q 3).val = (q ⟨2, by decide⟩).val := by
  unfold DotDims.lhsIdx
  rw [dif_neg (show ¬(3 : Fin S8x1x34x128x128.rank) ∈ dot_S8x1x34x128x128_S1x34x128x8x128_S8x128x128_123_014_4_2_0_3.lhsBatch by decide), dif_neg (show ¬(3 : Fin S8x1x34x128x128.rank) ∈ dot_S8x1x34x128x128_S1x34x128x8x128_S8x128x128_123_014_4_2_0_3.lhsNonContracting by decide)]
  rfl
theorem lhs96_4 (i : S8x128x128.Idx) (q : dot_S8x1x34x128x128_S1x34x128x8x128_S8x128x128_123_014_4_2_0_3.contr.Idx) :
    (dot_S8x1x34x128x128_S1x34x128x8x128_S8x128x128_123_014_4_2_0_3.lhsIdx i q 4).val = (i 1).val := by
  unfold DotDims.lhsIdx
  rw [dif_neg (show ¬(4 : Fin S8x1x34x128x128.rank) ∈ dot_S8x1x34x128x128_S1x34x128x8x128_S8x128x128_123_014_4_2_0_3.lhsBatch by decide), dif_pos (show (4 : Fin S8x1x34x128x128.rank) ∈ dot_S8x1x34x128x128_S1x34x128x8x128_S8x128x128_123_014_4_2_0_3.lhsNonContracting by decide)]
  rfl
theorem rhs96_0 (i : S8x128x128.Idx) (q : dot_S8x1x34x128x128_S1x34x128x8x128_S8x128x128_123_014_4_2_0_3.contr.Idx) :
    (dot_S8x1x34x128x128_S1x34x128x8x128_S8x128x128_123_014_4_2_0_3.rhsIdx i q 0).val = (q ⟨0, by decide⟩).val := by
  unfold DotDims.rhsIdx
  rw [dif_neg (show ¬(0 : Fin S1x34x128x8x128.rank) ∈ dot_S8x1x34x128x128_S1x34x128x8x128_S8x128x128_123_014_4_2_0_3.rhsBatch by decide), dif_neg (show ¬(0 : Fin S1x34x128x8x128.rank) ∈ dot_S8x1x34x128x128_S1x34x128x8x128_S8x128x128_123_014_4_2_0_3.rhsNonContracting by decide)]
  rfl
theorem rhs96_1 (i : S8x128x128.Idx) (q : dot_S8x1x34x128x128_S1x34x128x8x128_S8x128x128_123_014_4_2_0_3.contr.Idx) :
    (dot_S8x1x34x128x128_S1x34x128x8x128_S8x128x128_123_014_4_2_0_3.rhsIdx i q 1).val = (q ⟨1, by decide⟩).val := by
  unfold DotDims.rhsIdx
  rw [dif_neg (show ¬(1 : Fin S1x34x128x8x128.rank) ∈ dot_S8x1x34x128x128_S1x34x128x8x128_S8x128x128_123_014_4_2_0_3.rhsBatch by decide), dif_neg (show ¬(1 : Fin S1x34x128x8x128.rank) ∈ dot_S8x1x34x128x128_S1x34x128x8x128_S8x128x128_123_014_4_2_0_3.rhsNonContracting by decide)]
  rfl
theorem rhs96_2 (i : S8x128x128.Idx) (q : dot_S8x1x34x128x128_S1x34x128x8x128_S8x128x128_123_014_4_2_0_3.contr.Idx) :
    (dot_S8x1x34x128x128_S1x34x128x8x128_S8x128x128_123_014_4_2_0_3.rhsIdx i q 2).val = (i 2).val := by
  unfold DotDims.rhsIdx
  rw [dif_neg (show ¬(2 : Fin S1x34x128x8x128.rank) ∈ dot_S8x1x34x128x128_S1x34x128x8x128_S8x128x128_123_014_4_2_0_3.rhsBatch by decide), dif_pos (show (2 : Fin S1x34x128x8x128.rank) ∈ dot_S8x1x34x128x128_S1x34x128x8x128_S8x128x128_123_014_4_2_0_3.rhsNonContracting by decide)]
  rfl
theorem rhs96_3 (i : S8x128x128.Idx) (q : dot_S8x1x34x128x128_S1x34x128x8x128_S8x128x128_123_014_4_2_0_3.contr.Idx) :
    (dot_S8x1x34x128x128_S1x34x128x8x128_S8x128x128_123_014_4_2_0_3.rhsIdx i q 3).val = (i 0).val := by
  unfold DotDims.rhsIdx
  rw [dif_pos (show (3 : Fin S1x34x128x8x128.rank) ∈ dot_S8x1x34x128x128_S1x34x128x8x128_S8x128x128_123_014_4_2_0_3.rhsBatch by decide)]
  rfl
theorem rhs96_4 (i : S8x128x128.Idx) (q : dot_S8x1x34x128x128_S1x34x128x8x128_S8x128x128_123_014_4_2_0_3.contr.Idx) :
    (dot_S8x1x34x128x128_S1x34x128x8x128_S8x128x128_123_014_4_2_0_3.rhsIdx i q 4).val = (q ⟨2, by decide⟩).val := by
  unfold DotDims.rhsIdx
  rw [dif_neg (show ¬(4 : Fin S1x34x128x8x128.rank) ∈ dot_S8x1x34x128x128_S1x34x128x8x128_S8x128x128_123_014_4_2_0_3.rhsBatch by decide), dif_neg (show ¬(4 : Fin S1x34x128x8x128.rank) ∈ dot_S8x1x34x128x128_S1x34x128x8x128_S8x128x128_123_014_4_2_0_3.rhsNonContracting by decide)]
  rfl

/-- The chunks and lanes the product sums over. -/
def contr96 : dot_S8x1x34x128x128_S1x34x128x8x128_S8x128x128_123_014_4_2_0_3.contr.Idx ≃ Fin 34 × Fin 128 where
  toFun q := (q ⟨1, by decide⟩, q ⟨2, by decide⟩)
  invFun p := fun a => match a with
    | ⟨0, _⟩ => (0 : Fin 1)
    | ⟨1, _⟩ => p.1
    | ⟨2, _⟩ => p.2
  left_inv q := by
    funext a
    match a with
    | ⟨0, _⟩ => exact Subsingleton.elim (α := Fin 1) _ _
    | ⟨1, _⟩ => rfl
    | ⟨2, _⟩ => rfl
  right_inv p := rfl

/-- A row array read through the reshape that drops its unit axis. -/
theorem flat2 (f : Fin 4352 → Fin 1024 → ℝ) (i : S4352x1024.Idx) : up3 (fun (_ : Fin 1) r j => f r j) (idx_main_v160 i) = up2 f i := by
  have e1 : (idx_main_v160 i 1 : Fin 4352) = i 0 := Fin.ext (by
    have h0 : (i 0).val < 4352 := (i 0).isLt; have h1 : (i 1).val < 1024 := (i 1).isLt
    show ((i 0).val * 1024 + (i 1).val) / 1024 % 4352 = (i 0).val
    omega)
  have e2 : (idx_main_v160 i 2 : Fin 1024) = i 1 := Fin.ext (by
    have h0 : (i 0).val < 4352 := (i 0).isLt; have h1 : (i 1).val < 1024 := (i 1).isLt
    show ((i 0).val * 1024 + (i 1).val) % 1024 = (i 1).val
    omega)
  show ((f (idx_main_v160 i 1) (idx_main_v160 i 2) : ℝ) : EReal) = _
  rw [e1, e2]
  rfl

/-- Values read through the reshapes that move unit axes. -/
theorem unit90 (f : Fin 128 → Fin 8 → ℝ) (t : Fin 128) (g : Fin 8) :
    up3 (fun (_ : Fin 1) t g => f t g) (idx_main_v90 (ix5 (0 : Fin 1) (0 : Fin 1) t g (0 : Fin 1))) = ((f t g : ℝ) : EReal) := by
  have e1 : (idx_main_v90 (ix5 (0 : Fin 1) (0 : Fin 1) t g (0 : Fin 1)) 1 : Fin 128) = t := Fin.ext (by
    show ((((0 * 1 + 0) * 128 + t.val) * 8 + g.val) * 1 + 0) / 8 % 128 = t.val
    omega)
  have e2 : (idx_main_v90 (ix5 (0 : Fin 1) (0 : Fin 1) t g (0 : Fin 1)) 2 : Fin 8) = g := Fin.ext (by
    show ((((0 * 1 + 0) * 128 + t.val) * 8 + g.val) * 1 + 0) % 8 = g.val
    omega)
  show ((f (idx_main_v90 (ix5 (0 : Fin 1) (0 : Fin 1) t g (0 : Fin 1)) 1) (idx_main_v90 (ix5 (0 : Fin 1) (0 : Fin 1) t g (0 : Fin 1)) 2) : ℝ) : EReal) = _
  rw [e1, e2]
theorem unit101 (f : Fin 1024 → ℝ) (j : Fin 1024) :
    up2 (fun (_ : Fin 1) j => f j) (idx_main_v101 (ix3 (0 : Fin 1) (0 : Fin 1) j)) = ((f j : ℝ) : EReal) := by
  have e : (idx_main_v101 (ix3 (0 : Fin 1) (0 : Fin 1) j) 1 : Fin 1024) = j := Fin.ext (by
    show ((0 * 1 + 0) * 1024 + j.val) % 1024 = j.val
    omega)
  show ((f (idx_main_v101 (ix3 (0 : Fin 1) (0 : Fin 1) j) 1) : ℝ) : EReal) = _
  rw [e]

variable {x0 : (⟨S4352x9216, .f32⟩ : BufTy).Contents (Elt Ideal)} {U V : Fin 4352 → Fin 1024 → ℝ}
variable {x1 : (⟨S4352x1024, .f32⟩ : BufTy).Contents (Elt Ideal)} {Y : Fin 4352 → Fin 1024 → ℝ}
variable {x2 x3 : (⟨S1024, .f32⟩ : BufTy).Contents (Elt Ideal)} {LW LB : Fin 1024 → ℝ}
variable {x4 : (⟨S8x128x128, .f32⟩ : BufTy).Contents (Elt Ideal)} {W : Fin 8 → Fin 128 → Fin 128 → ℝ}
variable {x5 : (⟨S8x128, .f32⟩ : BufTy).Contents (Elt Ideal)} {B : Fin 8 → Fin 128 → ℝ}
variable (hu : val_main_v1 (F := Ideal) x0 = up3 fun (_ : Fin 1) r j => U r j) (hv : val_main_v3 (F := Ideal) x0 = up3 fun (_ : Fin 1) r j => V r j)
variable (hy : x1 = up2 Y) (hlw : x2 = up1 LW) (hlb : x3 = up1 LB) (hw : x4 = up3 W) (hb : x5 = up2 B)

include hu hy

/-- The biases' gradient: a chunk's sum over lanes, summed over the chunks. -/
theorem r89 : val_main_v89 (F := Ideal) x0 x1 = up3 fun (_ : Fin 1) t g => ∑ n, db (cut U n) (cut Y n) t g := by
  funext i
  unfold val_main_v89
  rw [r88 hu hy]
  simp only [Host.reduceAdd, Ideal.hostReduceAdd_def, val_main_cst_20_apply]
  pointwise []
  refine (sum_listed _ _ _ i (fun p : Fin 34 × Fin 128 => ix5 (0 : Fin 1) p.1 (i 1 : Fin 128) (i 2 : Fin 8) p.2)
    (fun p q h => Prod.ext (congrFun h 1) (congrFun h 4))
    (fun p => by funext b; match b with
      | ⟨0, _⟩ => exact Subsingleton.elim (α := Fin 1) _ _
      | ⟨1, _⟩ => rfl
      | ⟨2, _⟩ => rfl)
    (fun k h => ⟨(k 1, k 4), by
      subst h
      funext a; match a with
      | ⟨0, _⟩ => exact Subsingleton.elim (α := Fin 1) _ _
      | ⟨1, _⟩ => rfl
      | ⟨2, _⟩ => rfl
      | ⟨3, _⟩ => rfl
      | ⟨4, _⟩ => rfl⟩)).trans ?_
  rw [Fintype.sum_prod_type, zero_add]
  show ∑ n : Fin 34, ∑ d : Fin 128, ((dmix (cut U n) (cut Y n) (i 1) (col (i 2) d) : ℝ) : EReal) = _
  simp only [← coe_sum]
  rfl

theorem r91 : val_main_v91 (F := Ideal) x0 x1 = up2 fun t g => ∑ n, db (cut U n) (cut Y n) t g := by
  funext i
  unfold val_main_v91
  simp only [Host.reduceAdd, Ideal.hostReduceAdd_def, val_main_cst_21_apply]
  pointwise []
  refine (sum_unit _ _ i (ix5 (0 : Fin 1) (0 : Fin 1) (i 0 : Fin 128) (i 1 : Fin 8) (0 : Fin 1))
    (by funext b; match b with | ⟨0, _⟩ => rfl | ⟨1, _⟩ => rfl)
    (fun k h => by
      subst h
      funext a; match a with
      | ⟨0, _⟩ => exact Subsingleton.elim (α := Fin 1) _ _
      | ⟨1, _⟩ => exact Subsingleton.elim (α := Fin 1) _ _
      | ⟨2, _⟩ => rfl
      | ⟨3, _⟩ => rfl
      | ⟨4, _⟩ => exact Subsingleton.elim (α := Fin 1) _ _)).trans ?_
  refine (val_main_v90_apply x0 x1 _).trans ?_
  rw [r89 hu hy]
  exact unit90 _ (i 0) (i 1)

theorem r166 : val_main_v166 (F := Ideal) x0 x1 = up2 fun t g => ∑ n, db (cut U n) (cut Y n) t g := by
  funext i
  rw [val_main_v166_apply, val_main_v94_apply, val_main_v93_apply, Fin.sum_univ_one, val_main_v92_apply, r91 hu hy, val_main_cst_22_apply]
  refine Eq.trans (congrArg (· + _) (Idealize.ShloMosaic.Ideal.ofBits_zero_f32)) ((zero_add _).trans ?_)
  rfl

omit hu hy in
include hu hv hy hlw hlb in
/-- The matrices' gradient. -/
theorem r96 : val_main_v96 (F := Ideal) x0 x1 x2 x3
    = up3 fun g t s => ∑ n, dw (cut U n) (cut V n) (cut Y n) LW LB g t s := by
  funext i
  unfold val_main_v96
  rw [r75 hv hlw hlb]
  have e95 : val_main_v95 (F := Ideal) x0 x1 = fun i => up5 (fun n t g d => dmix (cut U n) (cut Y n) t (col g d)) (idx_main_v95 i) := by
    funext i; rw [val_main_v95_apply, r88 hu hy]
  rw [e95]
  simp only [Host.dotGeneral]
  rw [Ideal.dotGeneral_apply, ← Equiv.sum_comp contr96.symm, Fintype.sum_prod_type]
  have el (n : Fin 34) (d : Fin 128) : idx_main_v95 (dot_S8x1x34x128x128_S1x34x128x8x128_S8x128x128_123_014_4_2_0_3.lhsIdx i (contr96.symm (n, d))) = ix5 (0 : Fin 1) n (i 1 : Fin 128) (i 0 : Fin 8) d := funext fun a => Fin.ext (by
    match a with
    | ⟨0, _⟩ => exact lhs96_1 i (contr96.symm (n, d))
    | ⟨1, _⟩ => exact lhs96_2 i (contr96.symm (n, d))
    | ⟨2, _⟩ => exact lhs96_4 i (contr96.symm (n, d))
    | ⟨3, _⟩ => exact lhs96_0 i (contr96.symm (n, d))
    | ⟨4, _⟩ => exact lhs96_3 i (contr96.symm (n, d)))
  have er (n : Fin 34) (d : Fin 128) : dot_S8x1x34x128x128_S1x34x128x8x128_S8x128x128_123_014_4_2_0_3.rhsIdx i (contr96.symm (n, d)) = ix5 (0 : Fin 1) n (i 2 : Fin 128) (i 0 : Fin 8) d := funext fun a => Fin.ext (by
    match a with
    | ⟨0, _⟩ => exact rhs96_0 i (contr96.symm (n, d))
    | ⟨1, _⟩ => exact rhs96_1 i (contr96.symm (n, d))
    | ⟨2, _⟩ => exact rhs96_2 i (contr96.symm (n, d))
    | ⟨3, _⟩ => exact rhs96_3 i (contr96.symm (n, d))
    | ⟨4, _⟩ => exact rhs96_4 i (contr96.symm (n, d)))
  simp only [el, er]
  show ∑ n : Fin 34, ∑ d : Fin 128, ((dmix (cut U n) (cut Y n) (i 1) (col (i 0) d) : ℝ) : EReal) * ((vn LW LB (gvr V (row n (i 2))) (col (i 0) d) : ℝ) : EReal) = _
  simp only [← EReal.coe_mul, ← coe_sum]
  rfl

include hw

/-- The norm's shift's gradient. -/
theorem r100 : val_main_v100 (F := Ideal) x0 x1 x4 = up2 fun (_ : Fin 1) j => ∑ n, dlb (cut U n) (cut Y n) W j := by
  funext i
  pointwise [val_main_v100_apply, val_main_cst_23_apply, r99 hu hy hw]
  simp only [up1, up2, up3, up5, bits_half, bits_neg_half, bits_one, bits_two, bits_three, bits_gc, bits_ga, bits_zero, bits_1024, bits_eps, ← EReal.coe_one, ← EReal.coe_mul, ← EReal.coe_add, ← EReal.coe_sub, ← EReal.coe_neg, ← coe_sum]
  refine congrArg (fun r : ℝ => (r : EReal)) ((rows_sum fun r => dvn (cut U (chk r)) (cut Y (chk r)) W (pos r) (i 1)).trans ?_)
  simp only [chk_row, pos_row]
  rfl

theorem r102 : val_main_v102 (F := Ideal) x0 x1 x4 = up1 fun j => ∑ n, dlb (cut U n) (cut Y n) W j := by
  funext i
  unfold val_main_v102
  simp only [Host.reduceAdd, Ideal.hostReduceAdd_def, val_main_cst_24_apply]
  pointwise []
  refine (sum_unit _ _ i (ix3 (0 : Fin 1) (0 : Fin 1) (i 0 : Fin 1024))
    (by funext b; match b with | ⟨0, _⟩ => rfl)
    (fun k h => by
      subst h
      funext a; match a with
      | ⟨0, _⟩ => exact Subsingleton.elim (α := Fin 1) _ _
      | ⟨1, _⟩ => exact Subsingleton.elim (α := Fin 1) _ _
      | ⟨2, _⟩ => rfl)).trans ?_
  refine (val_main_v101_apply x0 x1 x4 _).trans ?_
  rw [r100 hu hy hw]
  exact unit101 _ (i 0)

theorem r168 : val_main_v168 (F := Ideal) x0 x1 x4 = up2 fun (_ : Fin 1) j => ∑ n, dlb (cut U n) (cut Y n) W j := by
  funext i
  rw [val_main_v168_apply, r102 hu hy hw]
  rfl

include hv

/-- The norm's scale's gradient. -/
theorem r104 : val_main_v104 (F := Ideal) x0 x1 x4 = up2 fun (_ : Fin 1) j => ∑ n, dlw (cut U n) (cut V n) (cut Y n) W j := by
  funext i
  pointwise [val_main_v104_apply, val_main_cst_25_apply, val_main_v103_apply, r99 hu hy hw, r68 hv]
  simp only [up1, up2, up3, up5, bits_half, bits_neg_half, bits_one, bits_two, bits_three, bits_gc, bits_ga, bits_zero, bits_1024, bits_eps, ← EReal.coe_one, ← EReal.coe_mul, ← EReal.coe_add, ← EReal.coe_sub, ← EReal.coe_neg, ← coe_sum]
  refine congrArg (fun r : ℝ => (r : EReal)) ((rows_sum fun r => xh (gvr V r) (i 1) * dvn (cut U (chk r)) (cut Y (chk r)) W (pos r) (i 1)).trans ?_)
  simp only [chk_row, pos_row]
  exact Finset.sum_congr rfl fun n _ => Finset.sum_congr rfl fun s _ => mul_comm _ _

theorem r108 : val_main_v108 (F := Ideal) x0 x1 x4 = up1 fun j => ∑ n, dlw (cut U n) (cut V n) (cut Y n) W j := by
  funext i
  unfold val_main_v108
  simp only [Host.reduceAdd, Ideal.hostReduceAdd_def, val_main_cst_26_apply]
  pointwise []
  refine (sum_unit _ _ i (ix3 (0 : Fin 1) (0 : Fin 1) (i 0 : Fin 1024))
    (by funext b; match b with | ⟨0, _⟩ => rfl)
    (fun k h => by
      subst h
      funext a; match a with
      | ⟨0, _⟩ => exact Subsingleton.elim (α := Fin 1) _ _
      | ⟨1, _⟩ => exact Subsingleton.elim (α := Fin 1) _ _
      | ⟨2, _⟩ => rfl)).trans ?_
  refine (val_main_v105_apply x0 x1 x4 _).trans ?_
  rw [r104 hu hv hy hw]
  exact unit101 _ (i 0)

theorem r167 : val_main_v167 (F := Ideal) x0 x1 x4 = up2 fun (_ : Fin 1) j => ∑ n, dlw (cut U n) (cut V n) (cut Y n) W j := by
  funext i
  rw [val_main_v167_apply, r108 hu hv hy hw]
  rfl

include hlw hlb hb

theorem r161 : val_main_v161 (F := Ideal) x0 x1 x2 x3 x4 x5
    = up2 fun r j => du (cut U (chk r)) (cut V (chk r)) (cut Y (chk r)) LW LB W B (pos r) j := by
  funext i
  pointwise [val_main_v161_apply, val_main_v160_apply, r158 hu hv hy hlw hlb hw hb]
  exact flat2 _ i

theorem r163 : val_main_v163 (F := Ideal) x0 x1 x2 x4
    = up2 fun r j => dv (cut U (chk r)) (cut V (chk r)) (cut Y (chk r)) LW W (pos r) j := by
  funext i
  pointwise [val_main_v163_apply, val_main_v162_apply, r146 hu hv hy hlw hw]
  exact flat2 _ i

/-- The joined row gradient: the two halves' columns replaced, the rest kept. -/
theorem r165 (x6 : (⟨S4352x9216, .bf16⟩ : BufTy).Contents (Elt Ideal)) (i : S4352x9216.Idx) :
    val_main_v165 (F := Ideal) x0 x1 x2 x3 x4 x5 x6 i = if h : (i 1).val / 2048 = 2 then
      (if h2 : (i 1).val < 5120 then
        ((du (cut U (chk (i 0))) (cut V (chk (i 0))) (cut Y (chk (i 0))) LW LB W B (pos (i 0)) ⟨(i 1).val - 4096, by omega⟩ : ℝ) : EReal)
      else ((dv (cut U (chk (i 0))) (cut V (chk (i 0))) (cut Y (chk (i 0))) LW W (pos (i 0)) ⟨(i 1).val - 5120, by omega⟩ : ℝ) : EReal))
      else x6 i := by
  pointwise [val_main_v165]
  have h9 : (i 1).val < 9216 := (i 1).isLt
  by_cases a : (i 1).val < 4096
  · rw [dif_pos a, dif_neg (by omega), val_main_v159_apply]
    refine congrArg x6 (funext fun k => Fin.ext ?_)
    match k with
    | ⟨0, _⟩ => rfl
    | ⟨1, _⟩ => rfl
  by_cases b : (i 1).val < 5120
  · rw [dif_neg a, dif_pos (by omega), dif_pos (by omega), dif_pos b, r161 hu hv hy hlw hlb hw hb]
    rfl
  by_cases d : (i 1).val < 6144
  · rw [dif_neg a, dif_neg (by omega), dif_pos (by omega), dif_pos (by omega), dif_neg b, r163 hu hv hy hlw hlb hw hb]
    exact congrArg (fun j : Fin 1024 => ((dv (cut U (chk (i 0))) (cut V (chk (i 0))) (cut Y (chk (i 0))) LW W (pos (i 0)) j : ℝ) : EReal))
      (Fin.ext (show (i 1).val - 4096 - 1024 = (i 1).val - 5120 by omega))
  · rw [dif_neg a, dif_neg (by omega), dif_neg (by omega), dif_neg (by omega), val_main_v164_apply]
    refine congrArg x6 (funext fun k => Fin.ext ?_)
    match k with
    | ⟨0, _⟩ => rfl
    | ⟨1, _⟩ => show 6144 + ((i 1).val - 4096 - 1024 - 1024) = (i 1).val; omega

end Cert.ReferenceIdeal.Read

end
-- ==== Proof.Sgu.Finite.lean ====
/-
  The precondition read element by element: every entry of the arguments the gradients take is a real number.
-/
module

public import proofs.«01_k».proof.Proof.Gen.Pre_finite
public import Idealize.ShloMosaic.Lib.ReduceAll
public import proofs.«01_k».proof.Proof.Sgu.Block
public import proofs.«01_k».proof.Proof.Sgu.Consts

@[expose] public section

noncomputable section

namespace Cert.Pre_finite

open Idealize.ShloMosaic Cert.Sgu

/-- A magnitude below infinity is a real number's. -/
theorem real_of_abs (a : EReal) (h : Ideal.cmp .olt (max a (-a)) ⊤ = 1) : a = (a.toReal : EReal) := by
  rw [Idealize.ShloMosaic.Ideal.cmp_olt_eq_one] at h
  induction a with
  | bot => exact absurd h (by simp)
  | coe a => rfl
  | top => exact absurd h (by simp)

/-- An array whose magnitudes are all below infinity holds real numbers. -/
theorem real_of_all {s : Shape} (x : FVec Ideal s .f32) (init : S_.Idx → BitVec 1) {dims : Fin 0 → Fin s.rank} (hb : S_.BroadcastsInDim s dims)
    {axes : List (Fin s.rank)} (h : s.ReducesTo axes S_) (hu : 0 < S_.numel) (j : S_.Idx)
    (e : Host.reduce IntOp.andi (cmpf .olt (Host.absf x) (broadcastInDim s dims hb (constant S_ .f32 0x7F800000#32))) init h hu j = 1#1)
    (i : s.Idx) : (x i : EReal) = ((x i : EReal).toReal : EReal) := by
  have hs : Subsingleton S_.Idx := ⟨fun a b => funext fun k => k.elim0⟩
  have p := Host.reduce_andi_all _ _ _ _ _ e i
  refine real_of_abs _ ?_
  have hi : (FloatOps.ofBits (F := Ideal) .f32 0x7F800000#32 : EReal) = ⊤ := bits_inf
  rw [← hi]
  exact p

/-- The precondition, entry by entry: the two halves' columns and the five arrays hold real numbers. -/
theorem elems (a0 : FVec Ideal S4352x9216 .f32) (a1 : FVec Ideal S4352x1024 .f32) (a2 a3 : FVec Ideal S1024 .f32)
    (a4 : FVec Ideal S8x128x128 .f32) (a5 : FVec Ideal S8x128 .f32) (a6 : FVec Ideal S4352x9216 .bf16)
    (h : fn (F := Ideal) a0 a1 a2 a3 a4 a5 a6 = fun _ => 1#1) :
    (∀ (r : Fin 4352) (j : Fin 2048), (a0 (ix2 r ⟨4096 + j.val, by omega⟩) : EReal) = ((a0 (ix2 r ⟨4096 + j.val, by omega⟩) : EReal).toReal : EReal))
    ∧ (∀ i, (a1 i : EReal) = ((a1 i : EReal).toReal : EReal)) ∧ (∀ i, (a2 i : EReal) = ((a2 i : EReal).toReal : EReal))
    ∧ (∀ i, (a3 i : EReal) = ((a3 i : EReal).toReal : EReal)) ∧ (∀ i, (a4 i : EReal) = ((a4 i : EReal).toReal : EReal))
    ∧ ∀ i, (a5 i : EReal) = ((a5 i : EReal).toReal : EReal) := by
  have andi_one (a b : BitVec 1) : IntOp.andi a b = 1#1 ↔ a = 1#1 ∧ b = 1#1 := by revert a b; decide
  have pre := congrFun h (fun a => a.elim0)
  simp only [fn, fn_part1, andi, andi_one] at pre
  obtain ⟨⟨⟨⟨⟨p0, p1⟩, p2⟩, p3⟩, p4⟩, p5⟩ := pre
  refine ⟨fun r j => ?_, real_of_all _ _ _ _ _ _ p1, real_of_all _ _ _ _ _ _ p2, real_of_all _ _ _ _ _ _ p3, real_of_all _ _ _ _ _ _ p4, real_of_all _ _ _ _ _ _ p5⟩
  have e := real_of_all _ _ _ _ _ _ p0 (ix2 r j)
  have hx : extractStridedSlice S4352x2048 ![0, 4096] a0 Facts.slices_S4352x9216_S4352x2048_0_4096 (ix2 r j) = a0 (ix2 r ⟨4096 + j.val, by omega⟩) := by
    pointwise []
  rw [hx] at e
  exact e

end Cert.Pre_finite
-- ==== Proof.Sgu.Match.lean ====
/-
  The reference's results, read at the kernel's arguments, are the kernel's output arrays.
-/
module

public import proofs.«01_k».proof.Proof.Sgu.Arrays
public import proofs.«01_k».proof.Proof.Sgu.RefOut
public import proofs.«01_k».proof.Proof.Sgu.Finite

@[expose] public section

noncomputable section

namespace Cert.KernelIdeal.Block

open Cert.KernelIdeal Cert.KernelIdeal.Gen Idealize.ShloMosaic Idealize.ShloMosaic.TcCoe Cert.Sgu
open Cert.ReferenceIdeal.Read

variable {m : (ℓ : Loc nD τ sig) → Buf (Elt Ideal) ℓ} {c : Dev nD}

/-- The precondition gives real arguments. -/
theorem real_args (h : Cert.Pre_finite.fn (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) = fun _ => 1#1) : RealArgs m c := by
  obtain ⟨h0, h1, h2, h3, h4, h5⟩ := Cert.Pre_finite.elems _ _ _ _ _ _ _ h
  refine ⟨fun r j => h0 r ⟨j.val, by omega⟩, fun r j => ?_, fun r j => h1 _, fun j => h2 _, fun j => h3 _, fun g t s => h4 _, fun g t => h5 _⟩
  have e : (⟨4096 + (⟨1024 + j.val, by omega⟩ : Fin 2048).val, by have := j.isLt; show 4096 + (1024 + j.val) < 9216; omega⟩ : Fin 9216) = colV j :=
    Fin.ext (show 4096 + (1024 + j.val) = 5120 + j.val by omega)
  have q := h0 r ⟨1024 + j.val, by omega⟩
  rw [e] at q
  exact q

variable (H : RealArgs m c)
include H

theorem ref_u : val_main_v1 (F := Ideal) (m ((c : Thread nD τ).loc main_arg0)) = up3 fun (_ : Fin 1) r j => argU m c r j := by
  funext i
  refine (val_main_v1_apply _ i).trans ((val_main_v0_apply _ _).trans ?_)
  refine Eq.trans (congrArg (m ((c : Thread nD τ).loc main_arg0)) (?_ : _ = ix2 (i 1) (colU (i 2)))) (H.u (i 1) (i 2))
  funext a
  match a with
  | ⟨0, _⟩ => rfl
  | ⟨1, _⟩ => rfl

theorem ref_v : val_main_v3 (F := Ideal) (m ((c : Thread nD τ).loc main_arg0)) = up3 fun (_ : Fin 1) r j => argV m c r j := by
  funext i
  refine (val_main_v3_apply _ i).trans ((val_main_v2_apply _ _).trans ?_)
  refine Eq.trans (congrArg (m ((c : Thread nD τ).loc main_arg0)) (?_ : _ = ix2 (i 1) (colV (i 2)))) (H.v (i 1) (i 2))
  funext a
  match a with
  | ⟨0, _⟩ => rfl
  | ⟨1, _⟩ => rfl

theorem ref_y : m ((c : Thread nD τ).loc main_arg1) = up2 (argY m c) := by
  funext i
  refine Eq.trans (congrArg (m ((c : Thread nD τ).loc main_arg1)) (?_ : _ = ix2 (i 0) (i 1))) (H.y (i 0) (i 1))
  funext a
  match a with
  | ⟨0, _⟩ => rfl
  | ⟨1, _⟩ => rfl

theorem ref_lw : m ((c : Thread nD τ).loc main_arg2) = up1 (argLW m c) := by
  funext i
  refine Eq.trans (congrArg (m ((c : Thread nD τ).loc main_arg2)) (?_ : _ = ix1 (i 0))) (H.lw (i 0))
  funext a
  match a with
  | ⟨0, _⟩ => rfl

theorem ref_lb : m ((c : Thread nD τ).loc main_arg3) = up1 (argLB m c) := by
  funext i
  refine Eq.trans (congrArg (m ((c : Thread nD τ).loc main_arg3)) (?_ : _ = ix1 (i 0))) (H.lb (i 0))
  funext a
  match a with
  | ⟨0, _⟩ => rfl

theorem ref_w : m ((c : Thread nD τ).loc main_arg4) = up3 (argW m c) := by
  funext i
  refine Eq.trans (congrArg (m ((c : Thread nD τ).loc main_arg4)) (?_ : _ = ix3 (i 0) (i 1) (i 2))) (H.w (i 0) (i 1) (i 2))
  funext a
  match a with
  | ⟨0, _⟩ => rfl
  | ⟨1, _⟩ => rfl
  | ⟨2, _⟩ => rfl

theorem ref_b : m ((c : Thread nD τ).loc main_arg5) = up2 (argB m c) := by
  funext i
  refine Eq.trans (congrArg (m ((c : Thread nD τ).loc main_arg5)) (?_ : _ = ix2 (i 0) (i 1))) (H.b (i 0) (i 1))
  funext a
  match a with
  | ⟨0, _⟩ => rfl
  | ⟨1, _⟩ => rfl

/-- The matrices' gradient. -/
theorem match8 : val_main_v96 (F := Ideal) (m ((c : Thread nD τ).loc main_arg0)) (m ((c : Thread nD τ).loc main_arg1))
    (m ((c : Thread nD τ).loc main_arg2)) (m ((c : Thread nD τ).loc main_arg3)) = (dats m 0 c).arrAt 8 cfg0.N :=
  (r96 (ref_u H) (ref_v H) (ref_y H) (ref_lw H) (ref_lb H)).trans (arr8 H).symm

/-- The biases' gradient. -/
theorem match9 : val_main_v166 (F := Ideal) (m ((c : Thread nD τ).loc main_arg0)) (m ((c : Thread nD τ).loc main_arg1))
    = (dats m 0 c).arrAt 9 cfg0.N :=
  (r166 (ref_u H) (ref_y H)).trans (arr9 H).symm

/-- The norm's scale's gradient. -/
theorem match10 : val_main_v167 (F := Ideal) (m ((c : Thread nD τ).loc main_arg0)) (m ((c : Thread nD τ).loc main_arg1))
    (m ((c : Thread nD τ).loc main_arg4)) = (dats m 0 c).arrAt 10 cfg0.N :=
  (r167 (ref_u H) (ref_v H) (ref_y H) (ref_w H)).trans (arr10 H).symm

/-- The norm's shift's gradient. -/
theorem match11 : val_main_v168 (F := Ideal) (m ((c : Thread nD τ).loc main_arg0)) (m ((c : Thread nD τ).loc main_arg1))
    (m ((c : Thread nD τ).loc main_arg4)) = (dats m 0 c).arrAt 11 cfg0.N :=
  (r168 (ref_u H) (ref_y H) (ref_w H)).trans (arr11 H).symm

/-- The joined rows' gradient. -/
theorem match7 : val_main_v165 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) = (dats m 0 c).arrAt 7 cfg0.N := by
  refine Eq.trans ?_ (arr7 H).symm
  funext i
  refine (r165 (ref_u H) (ref_v H) (ref_y H) (ref_lw H) (ref_lb H) (ref_w H) (ref_b H) _ i).trans ?_
  unfold DPARTS
  by_cases h : (i 1).val / 2048 = 2
  · rw [dif_pos h, dif_pos h]
    unfold duv
    by_cases h2 : (i 1).val < 5120
    · rw [dif_pos h2, dif_pos (show (i 1).val - 4096 < 1024 by omega)]
      rfl
    · rw [dif_neg h2, dif_neg (show ¬(i 1).val - 4096 < 1024 by omega)]
      refine congrArg (fun k => ((dv _ _ _ _ _ _ k : ℝ) : EReal)) (Fin.ext ?_)
      show (i 1).val - 5120 = (i 1).val - 4096 - 1024
      omega
  · rw [dif_neg h, dif_neg h]

end Cert.KernelIdeal.Block

end
-- ==== Proof.Products.Sums.lean ====
/-
  Sums taken block by block.
-/
module

public import Idealize.ShloMosaic.PureOps.Ideal.Laws
public import Idealize.ShloMosaic.Lib.Pipeline.ValueKit

@[expose] public section

namespace Cert.Products

/-- The place of a block's entry in the whole range. -/
def at' (n t : ℕ) {N : ℕ} (h : N = n * t) (l : Fin n) (k : Fin t) : Fin N :=
  ⟨t * l.val + k.val, by
    have h1 := Nat.mul_le_mul_left t (Nat.succ_le_of_lt l.isLt)
    have h2 := k.isLt
    rw [h, Nat.mul_comm n t]
    rw [Nat.mul_succ] at h1
    omega⟩

/-- A sum over a range is the sum over its blocks of the sums over each. -/
theorem sum_blocks {M : Type*} [AddCommMonoid M] (n t : ℕ) {N : ℕ} (h : N = n * t) (f : Fin N → M) :
    ∑ k, f k = ∑ l : Fin n, ∑ k : Fin t, f (at' n t h l k) := by
  subst h
  rw [← Fintype.sum_prod_type', ← Equiv.sum_comp finProdFinEquiv]
  exact Finset.sum_congr rfl fun p _ => congrArg f (Fin.ext (Nat.add_comm _ _))

open Idealize.ShloMosaic in
/-- A place in a matrix by its two coordinates. -/
theorem eq_ix2 {n0 n1 : ℕ} (i : (⟨2, ![n0, n1]⟩ : Shape).Idx) (a : Fin n0) (b : Fin n1) (h0 : (i 0).val = a.val) (h1 : (i 1).val = b.val) :
    i = ix2 a b :=
  funext fun d => Fin.ext (match d with
    | ⟨0, _⟩ => h0
    | ⟨1, _⟩ => h1)

end Cert.Products
-- ==== Proof.Products.DwIn.lean ====
/-
  The input projection's weight gradient: each grid point one whole product, an eighth of the weight's columns.
-/
module

public import proofs.«01_k».proof.Proof.Products.Sums
public import proofs.«01_k».proof.Proof.Gen.KernelDwInIdeal.Value
public import proofs.«01_k».proof.Proof.Gen.ReferenceDwInIdeal.Read
public import Idealize.ShloMosaic.Lib.Pipeline.ReadBack
public import Idealize.ShloMosaic.Lib.Pipeline.ValueKit

@[expose] public section

noncomputable section

namespace Cert.KernelDwInIdeal.Block

open Cert.KernelDwInIdeal Cert.KernelDwInIdeal.Gen Idealize.ShloMosaic Idealize.ShloMosaic.TcCoe Cert.Products
open Idealize.ShloMosaic.Pipeline (Dat)

variable (m : (ℓ : Loc nD τ sig) → Buf (Elt Ideal) ℓ) (c : Dev nD)

theorem pay1_at (A : S4352x1024.Idx → EReal) (B : S4352x1152.Idx → EReal) (j : S1x1024x1152.Idx) :
    k0_pay1 (F := Ideal) A B j = ∑ k : Fin 4352, A (ix2 k (j 1)) * B (ix2 k (j 2)) := by
  pointwise [k0_pay1]

/-- The arguments, and the gradient as the chips hold it: a sum over all the tokens. -/
def argA : S4352x1024.Idx → EReal := m ((c : Thread nD τ).loc main_arg0)
def argB : S4352x9216.Idx → EReal := m ((c : Thread nD τ).loc main_arg1)
def col (i : S4x1024x2304.Idx) : Fin 9216 := ⟨(i 0).val * 2304 + (i 2).val, by
  have h0 : (i 0).val < 4 := (i 0).isLt
  have h2 : (i 2).val < 2304 := (i 2).isLt
  omega⟩
def grad (A : S4352x1024.Idx → EReal) (B : S4352x9216.Idx → EReal) : S4x1024x2304.Idx → EReal :=
  fun i => ∑ k : Fin 4352, A (ix2 k (i 1)) * B (ix2 k (col i))

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![t.val / 2, 0, t.val % 2] := (by decide +kernel : ∀ t : Fin grid0.N, _)

/-- The blocks a grid point takes. -/
def blkA (t : Fin cfg0.N) : S4352x1024.Idx → EReal := iblk m c 0 t
def blkB (t : Fin cfg0.N) : S4352x1152.Idx → EReal := iblk m c 1 t

/-- What a grid point leaves at a place of its block. -/
theorem out_at (t : Fin cfg0.N) (i : S4x1024x2304.Idx) (j : S1x1024x1152.Idx)
    (h0 : (i 0).val = t.val / 2) (h1 : (i 1).val = (j 1).val) (h2 : (i 2).val = t.val % 2 * 1152 + (j 2).val) :
    out0_2 (F := Ideal) (iblk m c 0 t) (iblk m c 1 t) j = grad (argA m c) (argB m c) i := by
  frame_out
  refine (pay1_at (blkA m c t) (blkB m c t) j).trans (Finset.sum_congr rfl fun k _ => congrArg₂ (· * ·) ?_ ?_)
  · blk_point [blkA, iblk, V, idx0 t, argA]
  · blk_point [blkB, iblk, V, idx1 t, argB, col]

theorem array : (dats m 0 c).arrAt 2 cfg0.N = grad (argA m c) (argB m c) := by
  refine (dats m 0 c).arrAt_eq_of_coversWhere_of_agree 2 (grad (argA m c) (argB m c)) (fun _ => True) (by decide +kernel) (fun t hf y => ?_) (fun j hj => absurd trivial hj)
  blk_simp
  rw [after0_2]
  refine out_at m c t _ _ ?_ ?_ ?_
  · refine Eq.trans (b := win0_2.index t 0 * 1 + (y 0).val) (by blk_simp) ?_
    have hy : (y 0).val < 1 := (y 0).isLt
    rw [idx2 t]
    show t.val / 2 * 1 + (y 0).val = t.val / 2
    omega
  · refine Eq.trans (b := win0_2.index t 1 * 1024 + (y 1).val) (by blk_simp) ?_
    rw [idx2 t]
    show 0 * 1024 + (y 1).val = (y 1).val
    omega
  · refine Eq.trans (b := win0_2.index t 2 * 1152 + (y 2).val) (by blk_simp) ?_
    rw [idx2 t]
    rfl

end Cert.KernelDwInIdeal.Block

namespace Cert.ReferenceDwInIdeal.Block

open Cert.ReferenceDwInIdeal Cert.ReferenceDwInIdeal.Gen Cert.ReferenceDwInIdeal.Read Idealize.ShloMosaic Cert.Products

/-- The derivative is the same sum, its factors the other way round. -/
theorem read (x0 : S4352x1024.Idx → EReal) (x1 : S4352x9216.Idx → EReal) :
    val_main_v7 (F := Ideal) x0 x1 = Cert.KernelDwInIdeal.Block.grad x0 x1 := by
  refine funext fun (i : S4x1024x2304.Idx) => ?_
  pointwise [val_main_v7_apply, val_main_v6_apply, val_main_v5_apply, val_main_v4_apply, val_main_v3_apply, val_main_v1_apply]
  have h1 : (i 1).val < 1024 := (i 1).isLt
  have h2 : (i 2).val < 2304 := (i 2).isLt
  have h0 : (i 0).val < 4 := (i 0).isLt
  refine Finset.sum_congr rfl fun k _ => (mul_comm _ _).trans (congrArg₂ (· * ·) (congrArg x0 (eq_ix2 _ k (i 1) rfl ?_)) (congrArg x1 (eq_ix2 _ k (Cert.KernelDwInIdeal.Block.col i) rfl ?_)))
  · show (((i 1).val * 4 + (i 0).val) * 2304 + (i 2).val) / 9216 = (i 1).val
    omega
  · show (((i 1).val * 4 + (i 0).val) * 2304 + (i 2).val) % 9216 = (i 0).val * 2304 + (i 2).val
    omega

end Cert.ReferenceDwInIdeal.Block
-- ==== Proof.Products.DhIn.lean ====
/-
  The input projection's gradient of its input: for each quarter of the tokens four blocks of the weight's columns, one on each chip,
  each block's product added to what the blocks before left.
-/
module

public import proofs.«01_k».proof.Proof.Products.Sums
public import proofs.«01_k».proof.Proof.Gen.KernelDhInIdeal.Value
public import proofs.«01_k».proof.Proof.Gen.ReferenceDhInIdeal.Read
public import Idealize.ShloMosaic.Lib.Pipeline.ReadBack
public import Idealize.ShloMosaic.Lib.Pipeline.ValueKit

@[expose] public section

noncomputable section

namespace Cert.KernelDhInIdeal.Block

open Cert.KernelDhInIdeal Cert.KernelDhInIdeal.Gen Idealize.ShloMosaic Idealize.ShloMosaic.TcCoe Cert.Products
open Idealize.ShloMosaic.Pipeline (Dat)

variable (m : (ℓ : Loc nD τ sig) → Buf (Elt Ideal) ℓ) (c : Dev nD)

/-- A block's product over what is there before it. -/
theorem pay2_at (A : S1088x2304.Idx → EReal) (B : S1x1024x2304.Idx → EReal) (Z : S1088x1024.Idx → EReal) (j : S1088x1024.Idx) :
    k0_pay2 (F := Ideal) A B Z j = Z j + ∑ k : Fin 2304, A (ix2 (j 0) k) * B (ix3 0 (j 1) k) := by
  pointwise [k0_pay2]
  try rfl

theorem pay1_at (j : S1088x1024.Idx) : k0_pay1 (F := Ideal) j = 0 := by
  pointwise [k0_pay1]

theorem scratch_A (t : Fin cfg0.N) (h0 : t.val % 4 = 0) :
    (outsAt0 m c t.val t.isLt).2 = k0_pay2 (F := Ideal) (iblk m c 0 t) (iblk m c 1 t) (k0_pay1 (F := Ideal)) := by
  rw [outsAt0_A m c t h0 (by omega)]
  frame_out

theorem scratch_B (t : Fin cfg0.N) (h0 : ¬t.val % 4 = 0) (h1 : ¬t.val % 4 = 3) :
    (outsAt0 m c t.val t.isLt).2 = k0_pay2 (F := Ideal) (iblk m c 0 t) (iblk m c 1 t)
      (outsAt0 m c (t.val - 1) (Nat.lt_of_le_of_lt (Nat.sub_le _ _) t.isLt)).2 := by
  rw [outsAt0_B m c t h0 h1]
  frame_out
  exact congrArg (k0_pay2 (F := Ideal) (iblk m c 0 t) (iblk m c 1 t)) (read_unread_whole _ _ _)

theorem out_C (t : Fin cfg0.N) (h1 : t.val % 4 = 3) :
    (outsAt0 m c t.val t.isLt).1 = k0_pay2 (F := Ideal) (iblk m c 0 t) (iblk m c 1 t)
      (outsAt0 m c (t.val - 1) (Nat.lt_of_le_of_lt (Nat.sub_le _ _) t.isLt)).2 := by
  rw [outsAt0_C m c t (by omega) h1]
  frame_out
  exact congrArg (k0_pay2 (F := Ideal) (iblk m c 0 t) (iblk m c 1 t)) (read_unread_whole _ _ _)

/-- The arguments, and the gradient: a sum over all the weight's columns. -/
def argW : S1024x9216.Idx → EReal := m ((c : Thread nD τ).loc main_arg0)
def argD : S4352x9216.Idx → EReal := m ((c : Thread nD τ).loc main_arg1)
def grad (W : S1024x9216.Idx → EReal) (D : S4352x9216.Idx → EReal) : S4352x1024.Idx → EReal :=
  fun i => ∑ k : Fin 9216, D (ix2 (i 0) k) * W (ix2 (i 1) k)

theorem idx0 : ∀ t : Fin cfg0.N, win0_0.index t = ![t.val / 4, t.val % 4] := (by decide +kernel : ∀ t : Fin grid0.N, _)
theorem idx1 : ∀ t : Fin cfg0.N, win0_1.index t = ![t.val % 4, 0, 0] := (by decide +kernel : ∀ t : Fin grid0.N, _)

/-- The blocks a grid point takes. -/
def blkD (t : Fin cfg0.N) : S1088x2304.Idx → EReal := iblk m c 0 t
def blkW (t : Fin cfg0.N) : S1x1024x2304.Idx → EReal := iblk m c 1 t

/-- A grid point's part of the sum at a place in the quarter it writes. -/
theorem part (t : Fin cfg0.N) (l : Fin 4) (hl : t.val % 4 = l.val) (i : S4352x1024.Idx) (j : S1088x1024.Idx)
    (h0 : (i 0).val = t.val / 4 * 1088 + (j 0).val) (h1 : (i 1).val = (j 1).val) :
    ∑ k : Fin 2304, blkD m c t (ix2 (j 0) k) * blkW m c t (ix3 0 (j 1) k)
      = ∑ k : Fin 2304, argD m c (ix2 (i 0) (at' 4 2304 rfl l k)) * argW m c (ix2 (i 1) (at' 4 2304 rfl l k)) := by
  refine Finset.sum_congr rfl fun k _ => congrArg₂ (· * ·) ?_ ?_
  · blk_point [blkD, iblk, V, idx0 t, hl, at', argD]
  · blk_point [blkW, iblk, V, idx1 t, hl, at', argW]

/-- The last point of a run of four leaves the whole sum. -/
theorem out_at (t : Fin cfg0.N) (h : t.val % 4 = 3) (i : S4352x1024.Idx) (j : S1088x1024.Idx)
    (h0 : (i 0).val = t.val / 4 * 1088 + (j 0).val) (h1 : (i 1).val = (j 1).val) :
    (outsAt0 m c t.val t.isLt).1 j = grad (argW m c) (argD m c) i := by
  have hp : ∀ n, t.val - n < cfg0.N := fun n => Nat.lt_of_le_of_lt (Nat.sub_le _ _) t.isLt
  rw [out_C m c t h, pay2_at, scratch_B m c ⟨t.val - 1, hp 1⟩ (by show ¬(t.val - 1) % 4 = 0; omega) (by show ¬(t.val - 1) % 4 = 3; omega), pay2_at,
    scratch_B m c ⟨t.val - 1 - 1, hp 2⟩ (by show ¬(t.val - 1 - 1) % 4 = 0; omega) (by show ¬(t.val - 1 - 1) % 4 = 3; omega), pay2_at,
    scratch_A m c ⟨t.val - 1 - 1 - 1, hp 3⟩ (by show (t.val - 1 - 1 - 1) % 4 = 0; omega), pay2_at, pay1_at, zero_add]
  refine (congrArg₂ (· + ·) (congrArg₂ (· + ·) (congrArg₂ (· + ·)
    (part m c ⟨t.val - 1 - 1 - 1, hp 3⟩ 0 (by show (t.val - 1 - 1 - 1) % 4 = 0; omega) i j (by show _ = (t.val - 1 - 1 - 1) / 4 * 1088 + _; omega) h1)
    (part m c ⟨t.val - 1 - 1, hp 2⟩ 1 (by show (t.val - 1 - 1) % 4 = 1; omega) i j (by show _ = (t.val - 1 - 1) / 4 * 1088 + _; omega) h1))
    (part m c ⟨t.val - 1, hp 1⟩ 2 (by show (t.val - 1) % 4 = 2; omega) i j (by show _ = (t.val - 1) / 4 * 1088 + _; omega) h1))
    (part m c t 3 h i j h0 h1)).trans ?_
  exact ((sum_blocks 4 2304 rfl fun k : Fin 9216 => argD m c (ix2 (i 0) k) * argW m c (ix2 (i 1) k)).trans (Fin.sum_univ_four _)).symm

theorem array : Value.G2 m c = grad (argW m c) (argD m c) := by
  refine funext fun (i : S4352x1024.Idx) => ?_
  have h0 : (i 0).val < 4352 := (i 0).isLt
  have h1 : (i 1).val < 1024 := (i 1).isLt
  have hb : Value.pt2Of i < cfg0.N := lt_of_lt_of_eq (by show 4 * (1 * ((i 0).val / 1088 - 0) + 1 * ((i 1).val / 1024 - 0)) + 3 < 16; omega) N_0.symm
  rw [Value.G2, dif_pos hb, ← Value.outsAt0_sweep m c _ hb]
  refine out_at m c ⟨_, hb⟩ (by show (4 * _ + 3) % 4 = 3; omega) i _ ?_ (Nat.mod_eq_of_lt h1).symm
  show (i 0).val = (4 * (1 * ((i 0).val / 1088 - 0) + 1 * ((i 1).val / 1024 - 0)) + 3) / 4 * 1088 + (i 0).val % 1088
  omega

end Cert.KernelDhInIdeal.Block

namespace Cert.ReferenceDhInIdeal.Block

open Cert.ReferenceDhInIdeal Cert.ReferenceDhInIdeal.Gen Cert.ReferenceDhInIdeal.Read Idealize.ShloMosaic Cert.Products

/-- The derivative is the same sum. -/
theorem read (x0 : S1024x9216.Idx → EReal) (x1 : S4352x9216.Idx → EReal) :
    val_main_v3 (F := Ideal) x0 x1 = Cert.KernelDhInIdeal.Block.grad x0 x1 := by
  refine funext fun (i : S4352x1024.Idx) => ?_
  pointwise [val_main_v3_apply, val_main_v2_apply]
  exact Finset.sum_congr rfl fun k _ => congrArg₂ (· * ·) (congrArg x1 (eq_ix2 _ (i 0) k rfl rfl)) (congrArg x0 (eq_ix2 _ (i 1) k rfl rfl))

end Cert.ReferenceDhInIdeal.Block
-- ==== Proof.Products.DwSquare.lean ====
/-
  The weight gradient of a square product: two blocks of rows, each block's product added to what the block before left.
-/
module

public import proofs.«01_k».proof.Proof.Products.Sums
public import proofs.«01_k».proof.Proof.Gen.KernelDwSquareIdeal.Value
public import proofs.«01_k».proof.Proof.Gen.ReferenceDwSquareIdeal.Read
public import Idealize.ShloMosaic.Lib.Pipeline.ReadBack
public import Idealize.ShloMosaic.Lib.Pipeline.ValueKit

@[expose] public section

noncomputable section

namespace Cert.KernelDwSquareIdeal.Block

open Cert.KernelDwSquareIdeal Cert.KernelDwSquareIdeal.Gen Idealize.ShloMosaic Idealize.ShloMosaic.TcCoe Cert.Products
open Idealize.ShloMosaic.Pipeline (Dat)

variable (m : (ℓ : Loc nD τ sig) → Buf (Elt Ideal) ℓ) (c : Dev nD)

/-- A block's product over what is there before it. -/
theorem pay2_at (A : S2176x1024.Idx → EReal) (B : S2176x1024.Idx → EReal) (Z : S1024x1024.Idx → EReal) (j : S1024x1024.Idx) :
    k0_pay2 (F := Ideal) A B Z j = Z j + ∑ k : Fin 2176, A (ix2 k (j 0)) * B (ix2 k (j 1)) := by
  pointwise [k0_pay2]

theorem pay1_at (j : S1024x1024.Idx) : k0_pay1 (F := Ideal) j = 0 := by
  pointwise [k0_pay1]

theorem scratch_A (t : Fin cfg0.N) (h0 : t.val % 2 = 0) (h1 : ¬t.val % 2 = 1) :
    (outsAt0 m c t.val t.isLt).2 = k0_pay2 (F := Ideal) (iblk m c 0 t) (iblk m c 1 t) (k0_pay1 (F := Ideal)) := by
  rw [outsAt0_A m c t h0 h1]
  frame_out

theorem out_B (t : Fin cfg0.N) (h0 : ¬t.val % 2 = 0) (h1 : t.val % 2 = 1) :
    (outsAt0 m c t.val t.isLt).1 = k0_pay2 (F := Ideal) (iblk m c 0 t) (iblk m c 1 t)
      (outsAt0 m c (t.val - 1) (Nat.lt_of_le_of_lt (Nat.sub_le _ _) t.isLt)).2 := by
  rw [outsAt0_B m c t h0 h1]
  frame_out
  exact congrArg (k0_pay2 (F := Ideal) (iblk m c 0 t) (iblk m c 1 t)) (read_unread_whole _ _ _)

/-- The arguments, and the gradient: a sum over all the rows. -/
def argA : S4352x1024.Idx → EReal := m ((c : Thread nD τ).loc main_arg0)
def argB : S4352x1024.Idx → EReal := m ((c : Thread nD τ).loc main_arg1)
def grad (A B : S4352x1024.Idx → EReal) : S1024x1024.Idx → EReal := fun i => ∑ k : Fin 4352, A (ix2 k (i 0)) * B (ix2 k (i 1))

theorem idx0 : ∀ t : Fin cfg0.N, win0_0.index t = ![t.val % 2, 0] := (by decide +kernel : ∀ t : Fin grid0.N, _)
theorem idx1 : ∀ t : Fin cfg0.N, win0_1.index t = ![t.val % 2, 0] := (by decide +kernel : ∀ t : Fin grid0.N, _)

/-- The blocks a grid point takes. -/
def blkA (t : Fin cfg0.N) : S2176x1024.Idx → EReal := iblk m c 0 t
def blkB (t : Fin cfg0.N) : S2176x1024.Idx → EReal := iblk m c 1 t

/-- A grid point's part of the sum: the product of its blocks, rows of the arguments. -/
theorem part (t : Fin cfg0.N) (l : Fin 2) (hl : t.val % 2 = l.val) (j : S1024x1024.Idx) :
    ∑ k : Fin 2176, blkA m c t (ix2 k (j 0)) * blkB m c t (ix2 k (j 1))
      = ∑ k : Fin 2176, argA m c (ix2 (at' 2 2176 rfl l k) (j 0)) * argB m c (ix2 (at' 2 2176 rfl l k) (j 1)) := by
  refine Finset.sum_congr rfl fun k _ => congrArg₂ (· * ·) ?_ ?_
  · blk_point [blkA, iblk, V, idx0 t, hl, at', argA]
  · blk_point [blkB, iblk, V, idx1 t, hl, at', argB]

/-- The last point of a run of two leaves the whole sum. -/
theorem out_at (t : Fin cfg0.N) (h : t.val % 2 = 1) (j : S1024x1024.Idx) :
    (outsAt0 m c t.val t.isLt).1 j = grad (argA m c) (argB m c) j := by
  have hp : t.val - 1 < cfg0.N := Nat.lt_of_le_of_lt (Nat.sub_le _ _) t.isLt
  have h0 : (t.val - 1) % 2 = 0 := by omega
  rw [out_B m c t (by omega) h, pay2_at, scratch_A m c ⟨t.val - 1, hp⟩ h0 (by show ¬(t.val - 1) % 2 = 1; omega), pay2_at, pay1_at, zero_add]
  refine (congrArg₂ (· + ·) (part m c ⟨t.val - 1, hp⟩ 0 h0 j) (part m c t 1 h j)).trans ?_
  exact ((sum_blocks 2 2176 rfl fun k : Fin 4352 => argA m c (ix2 k (j 0)) * argB m c (ix2 k (j 1))).trans (Fin.sum_univ_two _)).symm

theorem array : Value.G2 m c = grad (argA m c) (argB m c) := by
  refine funext fun (i : S1024x1024.Idx) => ?_
  have h0 : (i 0).val < 1024 := (i 0).isLt
  have h1 : (i 1).val < 1024 := (i 1).isLt
  have hb : Value.pt2Of i < cfg0.N := lt_of_lt_of_eq (by show 2 * (1 * ((i 0).val / 1024 - 0) + 1 * ((i 1).val / 1024 - 0)) + 1 < 2; omega) N_0.symm
  have e : Value.loc2Of i = i := funext fun a => Fin.ext (match a with
    | ⟨0, _⟩ => Nat.mod_eq_of_lt h0
    | ⟨1, _⟩ => Nat.mod_eq_of_lt h1)
  rw [Value.G2, dif_pos hb, ← Value.outsAt0_sweep m c _ hb, out_at m c ⟨_, hb⟩ (by show (2 * _ + 1) % 2 = 1; omega), e]

end Cert.KernelDwSquareIdeal.Block

namespace Cert.ReferenceDwSquareIdeal.Block

open Cert.ReferenceDwSquareIdeal Cert.ReferenceDwSquareIdeal.Gen Cert.ReferenceDwSquareIdeal.Read Idealize.ShloMosaic Cert.Products

/-- The derivative is the same sum, its factors the other way round. -/
theorem read (x0 x1 : S4352x1024.Idx → EReal) :
    val_main_v5 (F := Ideal) x0 x1 = Cert.KernelDwSquareIdeal.Block.grad x0 x1 := by
  refine funext fun (i : S1024x1024.Idx) => ?_
  pointwise [val_main_v5_apply, val_main_v4_apply, val_main_v3_apply, val_main_v1_apply]
  exact Finset.sum_congr rfl fun k _ => (mul_comm _ _).trans (congrArg₂ (· * ·) (congrArg x0 (eq_ix2 _ k (i 0) rfl rfl)) (congrArg x1 (eq_ix2 _ k (i 1) rfl rfl)))

end Cert.ReferenceDwSquareIdeal.Block
-- ==== Proof.Products.Joined.lean ====
/-
  Two matrices of derivatives joined side by side.
-/
module

public import Idealize.ShloMosaic.PureOps.Ideal.Laws
public import Idealize.ShloMosaic.Lib.Pipeline.Value
public import Idealize.ShloMosaic.Lib.Pipeline.ValueKit

@[expose] public section

noncomputable section

namespace Cert.Products

open Idealize.ShloMosaic

/-- The matrix of both: the first's columns, then the second's. -/
def joined (x y : (⟨2, ![4352, 2816]⟩ : Shape).Idx → EReal) : (⟨2, ![4352, 5632]⟩ : Shape).Idx → EReal := fun i =>
  if h : (i 1).val < 2816 then x (ix2 (i 0) ⟨(i 1).val, h⟩)
  else y (ix2 (i 0) ⟨(i 1).val - 2816, by
    have h1 : (i 1).val < 5632 := (i 1).isLt
    omega⟩)

theorem joined_left (x y : (⟨2, ![4352, 2816]⟩ : Shape).Idx → EReal) (p : Fin 4352) (q : Fin 5632) (k : Fin 2816) (h : q.val = k.val) :
    joined x y (ix2 p q) = x (ix2 p k) := by
  have hk : ((ix2 p q : (⟨2, ![4352, 5632]⟩ : Shape).Idx) 1).val < 2816 := lt_of_eq_of_lt h k.isLt
  rw [joined, dif_pos hk]
  exact congrArg (fun n : Fin 2816 => x (ix2 p n)) (Fin.ext h)

theorem joined_right (x y : (⟨2, ![4352, 2816]⟩ : Shape).Idx → EReal) (p : Fin 4352) (q : Fin 5632) (k : Fin 2816) (h : q.val = 2816 + k.val) :
    joined x y (ix2 p q) = y (ix2 p k) := by
  have hk : ¬((ix2 p q : (⟨2, ![4352, 5632]⟩ : Shape).Idx) 1).val < 2816 := by
    show ¬q.val < 2816
    omega
  rw [joined, dif_neg hk]
  exact congrArg (fun n : Fin 2816 => y (ix2 p n)) (Fin.ext (by show q.val - 2816 = k.val; omega))

/-- Concatenating them is that matrix. -/
theorem concatenate_joined (x y : (⟨2, ![4352, 2816]⟩ : Shape).Idx → EReal)
    (h : Shape.Concatenates [(⟨2, ![4352, 2816]⟩ : Shape), ⟨2, ![4352, 2816]⟩] ⟨2, ![4352, 5632]⟩ 1) (i : (⟨2, ![4352, 5632]⟩ : Shape).Idx) :
    concatenate (⟨2, ![4352, 5632]⟩ : Shape) 1 [⟨⟨2, ![4352, 2816]⟩, x⟩, ⟨⟨2, ![4352, 2816]⟩, y⟩] h i = joined x y i := by
  by_cases hk : (i 1).val < 2816
  · rw [joined, dif_pos hk]
    refine concatenate_pair_apply_left 1 x y h i rfl _ fun b => ?_
    match b with
    | ⟨0, _⟩ => rfl
    | ⟨1, _⟩ => rfl
  · rw [joined, dif_neg hk]
    refine concatenate_pair_apply_right 1 x y h i rfl rfl _ (fun b hb => ?_) ?_
    · match b with
      | ⟨0, _⟩ => rfl
      | ⟨1, _⟩ => exact absurd rfl hb
    · show (i 1).val - 2816 + 2816 = (i 1).val
      omega

end Cert.Products
-- ==== Proof.Products.DwUp.lean ====
/-
  The second layer's weight gradient: a chip's columns at a time, half the tokens' product and then the other half's,
  the first two chips' against the gate's derivative and the last two's against the other's.
-/
module

public import proofs.«01_k».proof.Proof.Products.Sums
public import proofs.«01_k».proof.Proof.Products.Joined
public import proofs.«01_k».proof.Proof.Gen.KernelDwUpIdeal.Value
public import proofs.«01_k».proof.Proof.Gen.ReferenceDwUpIdeal.Read
public import Idealize.ShloMosaic.Lib.Pipeline.ReadBack
public import Idealize.ShloMosaic.Lib.Pipeline.ValueKit

@[expose] public section

noncomputable section

namespace Cert.KernelDwUpIdeal.Block

open Cert.KernelDwUpIdeal Cert.KernelDwUpIdeal.Gen Idealize.ShloMosaic Idealize.ShloMosaic.TcCoe Cert.Products
open Idealize.ShloMosaic.Pipeline (Dat)

variable (m : (ℓ : Loc nD τ sig) → Buf (Elt Ideal) ℓ) (c : Dev nD)

/-- Half the tokens' product over what is there before it, with the gate's derivative or the other's. -/
theorem pay2_at (A : S2176x1024.Idx → EReal) (B : S2176x1408.Idx → EReal) (Z : S1024x1408.Idx → EReal) (j : S1024x1408.Idx) :
    k0_pay2 (F := Ideal) A B Z j = Z j + ∑ k : Fin 2176, A (ix2 k (j 0)) * B (ix2 k (j 1)) := by
  pointwise [k0_pay2]

theorem pay3_at (A : S2176x1024.Idx → EReal) (B : S2176x1408.Idx → EReal) (Z : S1024x1408.Idx → EReal) (j : S1024x1408.Idx) :
    k0_pay3 (F := Ideal) A B Z j = Z j + ∑ k : Fin 2176, A (ix2 k (j 0)) * B (ix2 k (j 1)) := by
  pointwise [k0_pay3]

theorem pay1_at (j : S1024x1408.Idx) : k0_pay1 (F := Ideal) j = 0 := by
  pointwise [k0_pay1]

theorem pay4_at (Z : S1024x1408.Idx → EReal) (j : S1x1024x1408.Idx) : k0_pay4 (F := Ideal) Z j = Z (ix2 (j 1) (j 2)) := by
  pointwise [k0_pay4]

theorem scratch_A (t : Fin cfg0.N) (h : t.val % 2 = 0) (h4 : t.val < 4) :
    (outsAt0 m c t.val t.isLt).2 = k0_pay2 (F := Ideal) (iblk m c 0 t) (iblk m c 1 t) (k0_pay1 (F := Ideal)) := by
  rw [outsAt0_A m c t (by omega) (by omega) (by omega) (by omega)]
  frame_out

theorem out_B (t : Fin cfg0.N) (h : t.val % 2 = 1) (h4 : t.val < 4) :
    (outsAt0 m c t.val t.isLt).1 = k0_pay4 (F := Ideal) (k0_pay2 (F := Ideal) (iblk m c 0 t) (iblk m c 1 t)
      (outsAt0 m c (t.val - 1) (Nat.lt_of_le_of_lt (Nat.sub_le _ _) t.isLt)).2) := by
  rw [outsAt0_B m c t (by omega) (by omega) (by omega) (by omega)]
  frame_out
  exact congrArg (fun z => k0_pay4 (F := Ideal) (k0_pay2 (F := Ideal) (iblk m c 0 t) (iblk m c 1 t) z)) (read_unread_whole _ _ _)

theorem scratch_C (t : Fin cfg0.N) (h : t.val % 2 = 0) (h4 : 4 ≤ t.val) :
    (outsAt0 m c t.val t.isLt).2 = k0_pay3 (F := Ideal) (iblk m c 0 t) (iblk m c 2 t) (k0_pay1 (F := Ideal)) := by
  rw [outsAt0_C m c t (by omega) (by omega) (by omega) (by omega)]
  frame_out

theorem out_D (t : Fin cfg0.N) (h : t.val % 2 = 1) (h4 : 4 ≤ t.val) :
    (outsAt0 m c t.val t.isLt).1 = k0_pay4 (F := Ideal) (k0_pay3 (F := Ideal) (iblk m c 0 t) (iblk m c 2 t)
      (outsAt0 m c (t.val - 1) (Nat.lt_of_le_of_lt (Nat.sub_le _ _) t.isLt)).2) := by
  rw [outsAt0_D m c t (by omega) (by omega) (by omega) (by omega)]
  frame_out
  exact congrArg (fun z => k0_pay4 (F := Ideal) (k0_pay3 (F := Ideal) (iblk m c 0 t) (iblk m c 2 t) z)) (read_unread_whole _ _ _)

/-- The arguments, and the gradient as the chips hold it: a sum over all the tokens. -/
def argH : S4352x1024.Idx → EReal := m ((c : Thread nD τ).loc main_arg0)
def argA : S4352x2816.Idx → EReal := m ((c : Thread nD τ).loc main_arg1)
def argV : S4352x2816.Idx → EReal := m ((c : Thread nD τ).loc main_arg2)
def col (i : S4x1024x1408.Idx) : Fin 5632 := ⟨(i 0).val * 1408 + (i 2).val, by
  have h0 : (i 0).val < 4 := (i 0).isLt
  have h2 : (i 2).val < 1408 := (i 2).isLt
  omega⟩
def grad (H : S4352x1024.Idx → EReal) (A V : S4352x2816.Idx → EReal) : S4x1024x1408.Idx → EReal :=
  fun i => ∑ k : Fin 4352, H (ix2 k (i 1)) * joined A V (ix2 k (col i))

theorem idx0 : ∀ t : Fin cfg0.N, win0_0.index t = ![t.val % 2, 0] := (by decide +kernel : ∀ t : Fin grid0.N, _)
theorem idx1 : ∀ t : Fin cfg0.N, win0_1.index t = ![t.val % 2, min (t.val / 2) 1] := (by decide +kernel : ∀ t : Fin grid0.N, _)
theorem idx2 : ∀ t : Fin cfg0.N, win0_2.index t = ![t.val % 2, t.val / 2 - 2] := (by decide +kernel : ∀ t : Fin grid0.N, _)

/-- The blocks a grid point takes. -/
def blkH (t : Fin cfg0.N) : S2176x1024.Idx → EReal := iblk m c 0 t
def blkA (t : Fin cfg0.N) : S2176x1408.Idx → EReal := iblk m c 1 t
def blkV (t : Fin cfg0.N) : S2176x1408.Idx → EReal := iblk m c 2 t

theorem blkH_at (t : Fin cfg0.N) (l : Fin 2) (hl : t.val % 2 = l.val) (i : S4x1024x1408.Idx) (p : Fin 1024)
    (h1 : (i 1).val = p.val) (k : Fin 2176) :
    blkH m c t (ix2 k p) = argH m c (ix2 (at' 2 2176 rfl l k) (i 1)) := by
  blk_point [blkH, iblk, V, idx0 t, hl, at', argH]

/-- A grid point's part of the sum at a place in the columns it writes: of the first two chips, and of the last two. -/
theorem part_left (t : Fin cfg0.N) (l : Fin 2) (hl : t.val % 2 = l.val) (h4 : t.val < 4) (i : S4x1024x1408.Idx) (p : Fin 1024) (q : Fin 1408)
    (h0 : (i 0).val = t.val / 2) (h1 : (i 1).val = p.val) (h2 : (i 2).val = q.val) :
    ∑ k : Fin 2176, blkH m c t (ix2 k p) * blkA m c t (ix2 k q)
      = ∑ k : Fin 2176, argH m c (ix2 (at' 2 2176 rfl l k) (i 1)) * joined (argA m c) (argV m c) (ix2 (at' 2 2176 rfl l k) (col i)) := by
  have ht : t.val < 8 := lt_of_lt_of_eq t.isLt N_0
  refine Finset.sum_congr rfl fun k _ => congrArg₂ (· * ·) (blkH_at m c t l hl i p h1 k) ?_
  have hq : 1408 * (t.val / 2) + q.val < 2816 := by have := q.isLt; omega
  refine Eq.trans ?_ (joined_left _ _ _ _ (⟨1408 * (t.val / 2) + q.val, hq⟩ : Fin 2816)
    (by show (i 0).val * 1408 + (i 2).val = (1408 * (t.val / 2) + q.val); omega)).symm
  blk_point [blkA, iblk, V, idx1 t, hl, at', argA]

theorem part_right (t : Fin cfg0.N) (l : Fin 2) (hl : t.val % 2 = l.val) (h4 : 4 ≤ t.val) (i : S4x1024x1408.Idx) (p : Fin 1024) (q : Fin 1408)
    (h0 : (i 0).val = t.val / 2) (h1 : (i 1).val = p.val) (h2 : (i 2).val = q.val) :
    ∑ k : Fin 2176, blkH m c t (ix2 k p) * blkV m c t (ix2 k q)
      = ∑ k : Fin 2176, argH m c (ix2 (at' 2 2176 rfl l k) (i 1)) * joined (argA m c) (argV m c) (ix2 (at' 2 2176 rfl l k) (col i)) := by
  have ht : t.val < 8 := lt_of_lt_of_eq t.isLt N_0
  refine Finset.sum_congr rfl fun k _ => congrArg₂ (· * ·) (blkH_at m c t l hl i p h1 k) ?_
  have hq : 1408 * (t.val / 2 - 2) + q.val < 2816 := by have := q.isLt; omega
  refine Eq.trans ?_ (joined_right _ _ _ _ (⟨1408 * (t.val / 2 - 2) + q.val, hq⟩ : Fin 2816)
    (by show (i 0).val * 1408 + (i 2).val = 2816 + (1408 * (t.val / 2 - 2) + q.val); omega)).symm
  blk_point [blkV, iblk, V, idx2 t, hl, at', argV]

/-- The second of a chip's two points leaves the whole sum. -/
theorem out_left (t : Fin cfg0.N) (h : t.val % 2 = 1) (h4 : t.val < 4) (i : S4x1024x1408.Idx) (j : S1x1024x1408.Idx)
    (h0 : (i 0).val = t.val / 2) (h1 : (i 1).val = (j 1).val) (h2 : (i 2).val = (j 2).val) :
    (outsAt0 m c t.val t.isLt).1 j = grad (argH m c) (argA m c) (argV m c) i := by
  have hp : t.val - 1 < cfg0.N := Nat.lt_of_le_of_lt (Nat.sub_le _ _) t.isLt
  rw [out_B m c t h h4, pay4_at, pay2_at, scratch_A m c ⟨t.val - 1, hp⟩ (by show (t.val - 1) % 2 = 0; omega) (by show t.val - 1 < 4; omega), pay2_at, pay1_at, zero_add]
  refine (congrArg₂ (· + ·)
    (part_left m c ⟨t.val - 1, hp⟩ 0 (by show (t.val - 1) % 2 = 0; omega) (by show t.val - 1 < 4; omega) i (j 1) (j 2) (by show _ = (t.val - 1) / 2; omega) h1 h2)
    (part_left m c t 1 h h4 i (j 1) (j 2) h0 h1 h2)).trans ?_
  exact ((sum_blocks 2 2176 rfl fun k : Fin 4352 => argH m c (ix2 k (i 1)) * joined (argA m c) (argV m c) (ix2 k (col i))).trans (Fin.sum_univ_two _)).symm

theorem out_right (t : Fin cfg0.N) (h : t.val % 2 = 1) (h4 : 4 ≤ t.val) (i : S4x1024x1408.Idx) (j : S1x1024x1408.Idx)
    (h0 : (i 0).val = t.val / 2) (h1 : (i 1).val = (j 1).val) (h2 : (i 2).val = (j 2).val) :
    (outsAt0 m c t.val t.isLt).1 j = grad (argH m c) (argA m c) (argV m c) i := by
  have hp : t.val - 1 < cfg0.N := Nat.lt_of_le_of_lt (Nat.sub_le _ _) t.isLt
  rw [out_D m c t h h4, pay4_at, pay3_at, scratch_C m c ⟨t.val - 1, hp⟩ (by show (t.val - 1) % 2 = 0; omega) (by show 4 ≤ t.val - 1; omega), pay3_at, pay1_at, zero_add]
  refine (congrArg₂ (· + ·)
    (part_right m c ⟨t.val - 1, hp⟩ 0 (by show (t.val - 1) % 2 = 0; omega) (by show 4 ≤ t.val - 1; omega) i (j 1) (j 2) (by show _ = (t.val - 1) / 2; omega) h1 h2)
    (part_right m c t 1 h h4 i (j 1) (j 2) h0 h1 h2)).trans ?_
  exact ((sum_blocks 2 2176 rfl fun k : Fin 4352 => argH m c (ix2 k (i 1)) * joined (argA m c) (argV m c) (ix2 k (col i))).trans (Fin.sum_univ_two _)).symm

theorem array : Value.G3 m c = grad (argH m c) (argA m c) (argV m c) := by
  refine funext fun (i : S4x1024x1408.Idx) => ?_
  have h0 : (i 0).val < 4 := (i 0).isLt
  have h1 : (i 1).val < 1024 := (i 1).isLt
  have h2 : (i 2).val < 1408 := (i 2).isLt
  have hb : Value.pt3Of i < cfg0.N := lt_of_lt_of_eq (by
    show 2 * (1 * ((i 0).val / 1 - 0) + 1 * ((i 1).val / 1024 - 0) + 1 * ((i 2).val / 1408 - 0)) + 1 < 8
    omega) N_0.symm
  have hc : (i 0).val = Value.pt3Of i / 2 := by
    show (i 0).val = (2 * (1 * ((i 0).val / 1 - 0) + 1 * ((i 1).val / 1024 - 0) + 1 * ((i 2).val / 1408 - 0)) + 1) / 2
    omega
  have ho : Value.pt3Of i % 2 = 1 := by
    show (2 * _ + 1) % 2 = 1
    omega
  rw [Value.G3, dif_pos hb, ← Value.outsAt0_sweep m c _ hb]
  rcases Nat.lt_or_ge (Value.pt3Of i) 4 with h4 | h4
  · exact out_left m c ⟨_, hb⟩ ho h4 i _ hc (Nat.mod_eq_of_lt h1).symm (Nat.mod_eq_of_lt h2).symm
  · exact out_right m c ⟨_, hb⟩ ho h4 i _ hc (Nat.mod_eq_of_lt h1).symm (Nat.mod_eq_of_lt h2).symm

end Cert.KernelDwUpIdeal.Block

namespace Cert.ReferenceDwUpIdeal.Block

open Cert.ReferenceDwUpIdeal Cert.ReferenceDwUpIdeal.Gen Cert.ReferenceDwUpIdeal.Read Idealize.ShloMosaic Cert.Products

/-- The derivative is the same sum, its factors the other way round. -/
theorem read (x0 : S4352x1024.Idx → EReal) (x1 x2 : S4352x2816.Idx → EReal) :
    val_main_v8 (F := Ideal) x0 x1 x2 = Cert.KernelDwUpIdeal.Block.grad x0 x1 x2 := by
  refine funext fun (i : S4x1024x1408.Idx) => ?_
  have h1 : (i 1).val < 1024 := (i 1).isLt
  have h2 : (i 2).val < 1408 := (i 2).isLt
  have h0 : (i 0).val < 4 := (i 0).isLt
  rw [val_main_v8_apply, val_main_v7_apply, val_main_v6_apply, val_main_v5_apply]
  refine Finset.sum_congr rfl fun k _ => (mul_comm _ _).trans (congrArg₂ (· * ·) (congrArg x0 (eq_ix2 _ k (i 1) rfl ?_)) ?_)
  · show (((i 1).val * 4 + (i 0).val) * 1408 + (i 2).val) / 5632 = (i 1).val
    omega
  · refine Eq.trans (concatenate_joined x1 x2 concatenates_S4352x2816_S4352x2816_S4352x5632_d1 (lidx_main_v5 _ k)) ?_
    refine congrArg (joined x1 x2) (eq_ix2 _ k (Cert.KernelDwUpIdeal.Block.col i) rfl ?_)
    show (((i 1).val * 4 + (i 0).val) * 1408 + (i 2).val) % 5632 = (i 0).val * 1408 + (i 2).val
    omega

end Cert.ReferenceDwUpIdeal.Block
-- ==== Proof.Products.DhUp.lean ====
/-
  The second layer's gradient of its input: for each quarter of the tokens four blocks of the weight's columns, one on each chip,
  the first two against the gate's derivative and the last two against the other's.
-/
module

public import proofs.«01_k».proof.Proof.Products.Sums
public import proofs.«01_k».proof.Proof.Products.Joined
public import proofs.«01_k».proof.Proof.Gen.KernelDhUpIdeal.Value
public import proofs.«01_k».proof.Proof.Gen.ReferenceDhUpIdeal.Read
public import Idealize.ShloMosaic.Lib.Pipeline.ReadBack
public import Idealize.ShloMosaic.Lib.Pipeline.ValueKit

@[expose] public section

noncomputable section

namespace Cert.KernelDhUpIdeal.Block

open Cert.KernelDhUpIdeal Cert.KernelDhUpIdeal.Gen Idealize.ShloMosaic Idealize.ShloMosaic.TcCoe Cert.Products
open Idealize.ShloMosaic.Pipeline (Dat)

variable (m : (ℓ : Loc nD τ sig) → Buf (Elt Ideal) ℓ) (c : Dev nD)

/-- A block's product over what is there before it, with the gate's derivative or the other's. -/
theorem pay2_at (A : S1088x1408.Idx → EReal) (B : S1x1024x1408.Idx → EReal) (Z : S1088x1024.Idx → EReal) (j : S1088x1024.Idx) :
    k0_pay2 (F := Ideal) A B Z j = Z j + ∑ k : Fin 1408, A (ix2 (j 0) k) * B (ix3 0 (j 1) k) := by
  pointwise [k0_pay2]
  try rfl

theorem pay3_at (A : S1088x1408.Idx → EReal) (B : S1x1024x1408.Idx → EReal) (Z : S1088x1024.Idx → EReal) (j : S1088x1024.Idx) :
    k0_pay3 (F := Ideal) A B Z j = Z j + ∑ k : Fin 1408, A (ix2 (j 0) k) * B (ix3 0 (j 1) k) := by
  pointwise [k0_pay3]
  try rfl

theorem pay1_at (j : S1088x1024.Idx) : k0_pay1 (F := Ideal) j = 0 := by
  pointwise [k0_pay1]

theorem scratch_A (t : Fin cfg0.N) (h : t.val % 4 = 0) :
    (outsAt0 m c t.val t.isLt).2 = k0_pay2 (F := Ideal) (iblk m c 0 t) (iblk m c 2 t) (k0_pay1 (F := Ideal)) := by
  rw [outsAt0_A m c t (by omega) (by omega) (by omega) (by omega)]
  frame_out

theorem scratch_B (t : Fin cfg0.N) (h : t.val % 4 = 1) :
    (outsAt0 m c t.val t.isLt).2 = k0_pay2 (F := Ideal) (iblk m c 0 t) (iblk m c 2 t)
      (outsAt0 m c (t.val - 1) (Nat.lt_of_le_of_lt (Nat.sub_le _ _) t.isLt)).2 := by
  rw [outsAt0_B m c t (by omega) (by omega) (by omega) (by omega)]
  frame_out
  exact congrArg (k0_pay2 (F := Ideal) (iblk m c 0 t) (iblk m c 2 t)) (read_unread_whole _ _ _)

theorem scratch_C (t : Fin cfg0.N) (h : t.val % 4 = 2) :
    (outsAt0 m c t.val t.isLt).2 = k0_pay3 (F := Ideal) (iblk m c 1 t) (iblk m c 2 t)
      (outsAt0 m c (t.val - 1) (Nat.lt_of_le_of_lt (Nat.sub_le _ _) t.isLt)).2 := by
  rw [outsAt0_C m c t (by omega) (by omega) (by omega) (by omega)]
  frame_out
  exact congrArg (k0_pay3 (F := Ideal) (iblk m c 1 t) (iblk m c 2 t)) (read_unread_whole _ _ _)

theorem out_D (t : Fin cfg0.N) (h : t.val % 4 = 3) :
    (outsAt0 m c t.val t.isLt).1 = k0_pay3 (F := Ideal) (iblk m c 1 t) (iblk m c 2 t)
      (outsAt0 m c (t.val - 1) (Nat.lt_of_le_of_lt (Nat.sub_le _ _) t.isLt)).2 := by
  rw [outsAt0_D m c t (by omega) (by omega) (by omega) (by omega)]
  frame_out
  exact congrArg (k0_pay3 (F := Ideal) (iblk m c 1 t) (iblk m c 2 t)) (read_unread_whole _ _ _)

/-- The arguments, and the gradient: a sum over all the weight's columns. -/
def argW : S1024x5632.Idx → EReal := m ((c : Thread nD τ).loc main_arg0)
def argA : S4352x2816.Idx → EReal := m ((c : Thread nD τ).loc main_arg1)
def argV : S4352x2816.Idx → EReal := m ((c : Thread nD τ).loc main_arg2)
def grad (W : S1024x5632.Idx → EReal) (A V : S4352x2816.Idx → EReal) : S4352x1024.Idx → EReal :=
  fun i => ∑ k : Fin 5632, joined A V (ix2 (i 0) k) * W (ix2 (i 1) k)

theorem idx0 : ∀ t : Fin cfg0.N, win0_0.index t = ![t.val / 4, min (t.val % 4) 1] := (by decide +kernel : ∀ t : Fin grid0.N, _)
theorem idx1 : ∀ t : Fin cfg0.N, win0_1.index t = ![t.val / 4, t.val % 4 - 2] := (by decide +kernel : ∀ t : Fin grid0.N, _)
theorem idx2 : ∀ t : Fin cfg0.N, win0_2.index t = ![t.val % 4, 0, 0] := (by decide +kernel : ∀ t : Fin grid0.N, _)

/-- The blocks a grid point takes. -/
def blkA (t : Fin cfg0.N) : S1088x1408.Idx → EReal := iblk m c 0 t
def blkV (t : Fin cfg0.N) : S1088x1408.Idx → EReal := iblk m c 1 t
def blkW (t : Fin cfg0.N) : S1x1024x1408.Idx → EReal := iblk m c 2 t

theorem blkW_at (t : Fin cfg0.N) (l : Fin 4) (hl : t.val % 4 = l.val) (i : S4352x1024.Idx) (j : S1088x1024.Idx)
    (h1 : (i 1).val = (j 1).val) (k : Fin 1408) :
    blkW m c t (ix3 0 (j 1) k) = argW m c (ix2 (i 1) (at' 4 1408 rfl l k)) := by
  blk_point [blkW, iblk, V, idx2 t, hl, at', argW]

/-- A grid point's part of the sum at a place in the quarter it writes: of the first two points, and of the last two. -/
theorem part_left (t : Fin cfg0.N) (l : Fin 4) (hl : t.val % 4 = l.val) (h2 : l.val < 2) (i : S4352x1024.Idx) (j : S1088x1024.Idx)
    (h0 : (i 0).val = t.val / 4 * 1088 + (j 0).val) (h1 : (i 1).val = (j 1).val) :
    ∑ k : Fin 1408, blkA m c t (ix2 (j 0) k) * blkW m c t (ix3 0 (j 1) k)
      = ∑ k : Fin 1408, joined (argA m c) (argV m c) (ix2 (i 0) (at' 4 1408 rfl l k)) * argW m c (ix2 (i 1) (at' 4 1408 rfl l k)) := by
  refine Finset.sum_congr rfl fun k _ => congrArg₂ (· * ·) ?_ (blkW_at m c t l hl i j h1 k)
  have hk : 1408 * l.val + k.val < 2816 := by have := k.isLt; omega
  refine Eq.trans ?_ (joined_left _ _ _ _ (⟨1408 * l.val + k.val, hk⟩ : Fin 2816) rfl).symm
  blk_point [blkA, iblk, V, idx0 t, hl, argA]

theorem part_right (t : Fin cfg0.N) (l : Fin 4) (hl : t.val % 4 = l.val) (h2 : 2 ≤ l.val) (i : S4352x1024.Idx) (j : S1088x1024.Idx)
    (h0 : (i 0).val = t.val / 4 * 1088 + (j 0).val) (h1 : (i 1).val = (j 1).val) :
    ∑ k : Fin 1408, blkV m c t (ix2 (j 0) k) * blkW m c t (ix3 0 (j 1) k)
      = ∑ k : Fin 1408, joined (argA m c) (argV m c) (ix2 (i 0) (at' 4 1408 rfl l k)) * argW m c (ix2 (i 1) (at' 4 1408 rfl l k)) := by
  refine Finset.sum_congr rfl fun k _ => congrArg₂ (· * ·) ?_ (blkW_at m c t l hl i j h1 k)
  have hk : 1408 * (l.val - 2) + k.val < 2816 := by have := k.isLt; have := l.isLt; omega
  refine Eq.trans ?_ (joined_right _ _ _ _ (⟨1408 * (l.val - 2) + k.val, hk⟩ : Fin 2816)
    (by show 1408 * l.val + k.val = 2816 + (1408 * (l.val - 2) + k.val); omega)).symm
  blk_point [blkV, iblk, V, idx1 t, hl, argV]

/-- The last point of a run of four leaves the whole sum. -/
theorem out_at (t : Fin cfg0.N) (h : t.val % 4 = 3) (i : S4352x1024.Idx) (j : S1088x1024.Idx)
    (h0 : (i 0).val = t.val / 4 * 1088 + (j 0).val) (h1 : (i 1).val = (j 1).val) :
    (outsAt0 m c t.val t.isLt).1 j = grad (argW m c) (argA m c) (argV m c) i := by
  have hp : ∀ n, t.val - n < cfg0.N := fun n => Nat.lt_of_le_of_lt (Nat.sub_le _ _) t.isLt
  rw [out_D m c t h, pay3_at, scratch_C m c ⟨t.val - 1, hp 1⟩ (by show (t.val - 1) % 4 = 2; omega), pay3_at,
    scratch_B m c ⟨t.val - 1 - 1, hp 2⟩ (by show (t.val - 1 - 1) % 4 = 1; omega), pay2_at,
    scratch_A m c ⟨t.val - 1 - 1 - 1, hp 3⟩ (by show (t.val - 1 - 1 - 1) % 4 = 0; omega), pay2_at, pay1_at, zero_add]
  refine (congrArg₂ (· + ·) (congrArg₂ (· + ·) (congrArg₂ (· + ·)
    (part_left m c ⟨t.val - 1 - 1 - 1, hp 3⟩ 0 (by show (t.val - 1 - 1 - 1) % 4 = 0; omega) (by decide) i j (by show _ = (t.val - 1 - 1 - 1) / 4 * 1088 + _; omega) h1)
    (part_left m c ⟨t.val - 1 - 1, hp 2⟩ 1 (by show (t.val - 1 - 1) % 4 = 1; omega) (by decide) i j (by show _ = (t.val - 1 - 1) / 4 * 1088 + _; omega) h1))
    (part_right m c ⟨t.val - 1, hp 1⟩ 2 (by show (t.val - 1) % 4 = 2; omega) (by decide) i j (by show _ = (t.val - 1) / 4 * 1088 + _; omega) h1))
    (part_right m c t 3 h (by decide) i j h0 h1)).trans ?_
  exact ((sum_blocks 4 1408 rfl fun k : Fin 5632 => joined (argA m c) (argV m c) (ix2 (i 0) k) * argW m c (ix2 (i 1) k)).trans (Fin.sum_univ_four _)).symm

theorem array : Value.G3 m c = grad (argW m c) (argA m c) (argV m c) := by
  refine funext fun (i : S4352x1024.Idx) => ?_
  have h0 : (i 0).val < 4352 := (i 0).isLt
  have h1 : (i 1).val < 1024 := (i 1).isLt
  have hb : Value.pt3Of i < cfg0.N := lt_of_lt_of_eq (by show 4 * (1 * ((i 0).val / 1088 - 0) + 1 * ((i 1).val / 1024 - 0)) + 3 < 16; omega) N_0.symm
  rw [Value.G3, dif_pos hb, ← Value.outsAt0_sweep m c _ hb]
  refine out_at m c ⟨_, hb⟩ (by show (4 * _ + 3) % 4 = 3; omega) i _ ?_ (Nat.mod_eq_of_lt h1).symm
  show (i 0).val = (4 * (1 * ((i 0).val / 1088 - 0) + 1 * ((i 1).val / 1024 - 0)) + 3) / 4 * 1088 + (i 0).val % 1088
  omega

end Cert.KernelDhUpIdeal.Block

namespace Cert.ReferenceDhUpIdeal.Block

open Cert.ReferenceDhUpIdeal Cert.ReferenceDhUpIdeal.Gen Cert.ReferenceDhUpIdeal.Read Idealize.ShloMosaic Cert.Products

/-- The derivative is the same sum. -/
theorem read (x0 : S1024x5632.Idx → EReal) (x1 x2 : S4352x2816.Idx → EReal) :
    val_main_v4 (F := Ideal) x0 x1 x2 = Cert.KernelDhUpIdeal.Block.grad x0 x1 x2 := by
  refine funext fun (i : S4352x1024.Idx) => ?_
  refine (val_main_v4_apply x0 x1 x2 i).trans (Finset.sum_congr rfl fun k _ => congrArg₂ (· * ·) ?_ (congrArg x0 (eq_ix2 _ (i 1) k rfl rfl)))
  refine Eq.trans (concatenate_joined x1 x2 concatenates_S4352x2816_S4352x2816_S4352x5632_d1 (lidx_main_v4 i k)) ?_
  exact congrArg (joined x1 x2) (eq_ix2 _ (i 0) k rfl rfl)

end Cert.ReferenceDhUpIdeal.Block
-- ==== Proof.Products.DwDown.lean ====
/-
  The down projection's weight gradient: for each half of the weight's rows two blocks of tokens, the second block's product added to the first's.
-/
module

public import proofs.«01_k».proof.Proof.Products.Sums
public import proofs.«01_k».proof.Proof.Gen.KernelDwDownIdeal.Value
public import proofs.«01_k».proof.Proof.Gen.ReferenceDwDownIdeal.Read
public import Idealize.ShloMosaic.Lib.Pipeline.ReadBack
public import Idealize.ShloMosaic.Lib.Pipeline.ValueKit

@[expose] public section

noncomputable section

namespace Cert.KernelDwDownIdeal.Block

open Cert.KernelDwDownIdeal Cert.KernelDwDownIdeal.Gen Idealize.ShloMosaic Idealize.ShloMosaic.TcCoe Cert.Products
open Idealize.ShloMosaic.Pipeline (Dat)

variable (m : (ℓ : Loc nD τ sig) → Buf (Elt Ideal) ℓ) (c : Dev nD)

/-- A block's product over what is there before it. -/
theorem pay2_at (A : S2176x1408.Idx → EReal) (B : S2176x1024.Idx → EReal) (Z : S1408x1024.Idx → EReal) (j : S1408x1024.Idx) :
    k0_pay2 (F := Ideal) A B Z j = Z j + ∑ k : Fin 2176, A (ix2 k (j 0)) * B (ix2 k (j 1)) := by
  pointwise [k0_pay2]

theorem pay1_at (j : S1408x1024.Idx) : k0_pay1 (F := Ideal) j = 0 := by
  pointwise [k0_pay1]

theorem scratch_A (t : Fin cfg0.N) (h0 : t.val % 2 = 0) (h1 : ¬t.val % 2 = 1) :
    (outsAt0 m c t.val t.isLt).2 = k0_pay2 (F := Ideal) (iblk m c 0 t) (iblk m c 1 t) (k0_pay1 (F := Ideal)) := by
  rw [outsAt0_A m c t h0 h1]
  frame_out

theorem out_B (t : Fin cfg0.N) (h0 : ¬t.val % 2 = 0) (h1 : t.val % 2 = 1) :
    (outsAt0 m c t.val t.isLt).1 = k0_pay2 (F := Ideal) (iblk m c 0 t) (iblk m c 1 t)
      (outsAt0 m c (t.val - 1) (Nat.lt_of_le_of_lt (Nat.sub_le _ _) t.isLt)).2 := by
  rw [outsAt0_B m c t h0 h1]
  frame_out
  exact congrArg (k0_pay2 (F := Ideal) (iblk m c 0 t) (iblk m c 1 t)) (read_unread_whole _ _ _)

/-- The arguments, and the gradient: a sum over all the tokens. -/
def argA : S4352x2816.Idx → EReal := m ((c : Thread nD τ).loc main_arg0)
def argB : S4352x1024.Idx → EReal := m ((c : Thread nD τ).loc main_arg1)
def grad (A : S4352x2816.Idx → EReal) (B : S4352x1024.Idx → EReal) : S2816x1024.Idx → EReal :=
  fun i => ∑ k : Fin 4352, A (ix2 k (i 0)) * B (ix2 k (i 1))

theorem idx0 : ∀ t : Fin cfg0.N, win0_0.index t = ![t.val % 2, t.val / 2] := (by decide +kernel : ∀ t : Fin grid0.N, _)
theorem idx1 : ∀ t : Fin cfg0.N, win0_1.index t = ![t.val % 2, 0] := (by decide +kernel : ∀ t : Fin grid0.N, _)

/-- The blocks a grid point takes. -/
def blkA (t : Fin cfg0.N) : S2176x1408.Idx → EReal := iblk m c 0 t
def blkB (t : Fin cfg0.N) : S2176x1024.Idx → EReal := iblk m c 1 t

/-- A grid point's part of the sum at a place in the half it writes: the product of its blocks, tokens' rows of the arguments. -/
theorem part (t : Fin cfg0.N) (l : Fin 2) (hl : t.val % 2 = l.val) (i : S2816x1024.Idx) (j : S1408x1024.Idx)
    (h0 : (i 0).val = t.val / 2 * 1408 + (j 0).val) (h1 : (i 1).val = (j 1).val) :
    ∑ k : Fin 2176, blkA m c t (ix2 k (j 0)) * blkB m c t (ix2 k (j 1))
      = ∑ k : Fin 2176, argA m c (ix2 (at' 2 2176 rfl l k) (i 0)) * argB m c (ix2 (at' 2 2176 rfl l k) (i 1)) := by
  refine Finset.sum_congr rfl fun k _ => congrArg₂ (· * ·) ?_ ?_
  · blk_point [blkA, iblk, V, idx0 t, hl, at', argA]
  · blk_point [blkB, iblk, V, idx1 t, hl, at', argB]

/-- The last point of a run of two leaves the whole sum. -/
theorem out_at (t : Fin cfg0.N) (h : t.val % 2 = 1) (i : S2816x1024.Idx) (j : S1408x1024.Idx)
    (h0 : (i 0).val = t.val / 2 * 1408 + (j 0).val) (h1 : (i 1).val = (j 1).val) :
    (outsAt0 m c t.val t.isLt).1 j = grad (argA m c) (argB m c) i := by
  have hp : t.val - 1 < cfg0.N := Nat.lt_of_le_of_lt (Nat.sub_le _ _) t.isLt
  have hm : (t.val - 1) % 2 = 0 := by omega
  rw [out_B m c t (by omega) h, pay2_at, scratch_A m c ⟨t.val - 1, hp⟩ hm (by show ¬(t.val - 1) % 2 = 1; omega), pay2_at, pay1_at, zero_add]
  refine (congrArg₂ (· + ·) (part m c ⟨t.val - 1, hp⟩ 0 hm i j (by show _ = (t.val - 1) / 2 * 1408 + _; omega) h1) (part m c t 1 h i j h0 h1)).trans ?_
  exact ((sum_blocks 2 2176 rfl fun k : Fin 4352 => argA m c (ix2 k (i 0)) * argB m c (ix2 k (i 1))).trans (Fin.sum_univ_two _)).symm

theorem array : Value.G2 m c = grad (argA m c) (argB m c) := by
  refine funext fun (i : S2816x1024.Idx) => ?_
  have h0 : (i 0).val < 2816 := (i 0).isLt
  have h1 : (i 1).val < 1024 := (i 1).isLt
  have hb : Value.pt2Of i < cfg0.N := lt_of_lt_of_eq (by show 2 * (1 * ((i 0).val / 1408 - 0) + 1 * ((i 1).val / 1024 - 0)) + 1 < 4; omega) N_0.symm
  rw [Value.G2, dif_pos hb, ← Value.outsAt0_sweep m c _ hb]
  refine out_at m c ⟨_, hb⟩ (by show (2 * _ + 1) % 2 = 1; omega) i _ ?_ (Nat.mod_eq_of_lt h1).symm
  show (i 0).val = (2 * (1 * ((i 0).val / 1408 - 0) + 1 * ((i 1).val / 1024 - 0)) + 1) / 2 * 1408 + (i 0).val % 1408
  omega

end Cert.KernelDwDownIdeal.Block

namespace Cert.ReferenceDwDownIdeal.Block

open Cert.ReferenceDwDownIdeal Cert.ReferenceDwDownIdeal.Gen Cert.ReferenceDwDownIdeal.Read Idealize.ShloMosaic Cert.Products

/-- The derivative is the same sum, its factors the other way round. -/
theorem read (x0 : S4352x2816.Idx → EReal) (x1 : S4352x1024.Idx → EReal) :
    val_main_v5 (F := Ideal) x0 x1 = Cert.KernelDwDownIdeal.Block.grad x0 x1 := by
  refine funext fun (i : S2816x1024.Idx) => ?_
  pointwise [val_main_v5_apply, val_main_v4_apply, val_main_v3_apply, val_main_v1_apply]
  exact Finset.sum_congr rfl fun k _ => (mul_comm _ _).trans (congrArg₂ (· * ·) (congrArg x0 (eq_ix2 _ k (i 0) rfl rfl)) (congrArg x1 (eq_ix2 _ k (i 1) rfl rfl)))

end Cert.ReferenceDwDownIdeal.Block
-- ==== Proof.Products.InProj.lean ====
/-
  The input projection: each grid point a product of half the tokens and an eighth of the weight's columns, half of what one chip holds.
-/
module

public import proofs.«01_k».proof.Proof.Products.Sums
public import proofs.«01_k».proof.Proof.Gen.KernelInProjIdeal.Value
public import proofs.«01_k».proof.Proof.Gen.ReferenceInProjIdeal.Read
public import Idealize.ShloMosaic.Lib.Pipeline.ReadBack
public import Idealize.ShloMosaic.Lib.Pipeline.ValueKit

@[expose] public section

noncomputable section

namespace Cert.KernelInProjIdeal.Block

open Cert.KernelInProjIdeal Cert.KernelInProjIdeal.Gen Idealize.ShloMosaic Idealize.ShloMosaic.TcCoe Cert.Products
open Idealize.ShloMosaic.Pipeline (Dat)

variable (m : (ℓ : Loc nD τ sig) → Buf (Elt Ideal) ℓ) (c : Dev nD)

theorem pay1_at (A : S2176x1024.Idx → EReal) (W : S1x1024x1152.Idx → EReal) (j : S2176x1152.Idx) :
    k0_pay1 (F := Ideal) A W j = ∑ k : Fin 1024, A (ix2 (j 0) k) * W (ix3 0 k (j 1)) := by
  pointwise [k0_pay1]
  try rfl

/-- The arguments, and the product. -/
def argA : S4352x1024.Idx → EReal := m ((c : Thread nD τ).loc main_arg0)
def argW : S1024x9216.Idx → EReal := m ((c : Thread nD τ).loc main_arg1)
def product (A : S4352x1024.Idx → EReal) (W : S1024x9216.Idx → EReal) : S4352x9216.Idx → EReal :=
  fun i => ∑ k : Fin 1024, A (ix2 (i 0) k) * W (ix2 k (i 1))

theorem idx0 : ∀ t : Fin cfg0.N, win0_0.index t = ![t.val % 2, 0] := (by decide +kernel : ∀ t : Fin grid0.N, _)
theorem idx1 : ∀ t : Fin cfg0.N, win0_1.index t = ![t.val / 4, 0, t.val / 2 % 2] := (by decide +kernel : ∀ t : Fin grid0.N, _)
theorem idx2 : ∀ t : Fin cfg0.N, win0_2.index t = ![t.val % 2, t.val / 2] := (by decide +kernel : ∀ t : Fin grid0.N, _)

/-- The blocks a grid point takes. -/
def blkA (t : Fin cfg0.N) : S2176x1024.Idx → EReal := iblk m c 0 t
def blkW (t : Fin cfg0.N) : S1x1024x1152.Idx → EReal := iblk m c 1 t

/-- What a grid point leaves at a place of its block. -/
theorem out_at (t : Fin cfg0.N) (i : S4352x9216.Idx) (j : S2176x1152.Idx)
    (h0 : (i 0).val = t.val % 2 * 2176 + (j 0).val) (h1 : (i 1).val = t.val / 2 * 1152 + (j 1).val) :
    out0_2 (F := Ideal) (iblk m c 0 t) (iblk m c 1 t) j = product (argA m c) (argW m c) i := by
  frame_out
  refine (pay1_at (blkA m c t) (blkW m c t) j).trans (Finset.sum_congr rfl fun k _ => congrArg₂ (· * ·) ?_ ?_)
  · blk_point [blkA, iblk, V, idx0 t, argA]
  · blk_point [blkW, iblk, V, idx1 t, argW]

theorem array : (dats m 0 c).arrAt 2 cfg0.N = product (argA m c) (argW m c) := by
  refine (dats m 0 c).arrAt_eq_of_coversWhere_of_agree 2 (product (argA m c) (argW m c)) (fun _ => True) (by decide +kernel) (fun t hf y => ?_) (fun j hj => absurd trivial hj)
  blk_simp
  rw [after0_2]
  refine out_at m c t _ _ ?_ ?_
  · refine Eq.trans (b := win0_2.index t 0 * 2176 + (y 0).val) (by blk_simp) ?_
    rw [idx2 t]
    rfl
  · refine Eq.trans (b := win0_2.index t 1 * 1152 + (y 1).val) (by blk_simp) ?_
    rw [idx2 t]
    rfl

end Cert.KernelInProjIdeal.Block

namespace Cert.ReferenceInProjIdeal.Block

open Cert.ReferenceInProjIdeal Cert.ReferenceInProjIdeal.Gen Cert.ReferenceInProjIdeal.Read Idealize.ShloMosaic Cert.Products

/-- The reference's product is the same sum. -/
theorem read (x0 : S4352x1024.Idx → EReal) (x1 : S1024x9216.Idx → EReal) :
    val_main_v1 (F := Ideal) x0 x1 = Cert.KernelInProjIdeal.Block.product x0 x1 := by
  refine funext fun (i : S4352x9216.Idx) => ?_
  pointwise [val_main_v1_apply, val_main_v0_apply]
  exact Finset.sum_congr rfl fun k _ => congrArg₂ (· * ·) (congrArg x0 (eq_ix2 _ (i 0) k rfl rfl)) (congrArg x1 (eq_ix2 _ k (i 1) rfl rfl))

end Cert.ReferenceInProjIdeal.Block
-- ==== Proof.Products.UpProj.lean ====
/-
  The up projection: each grid point a product of half the tokens and the quarter of the weight's columns one chip holds.
-/
module

public import proofs.«01_k».proof.Proof.Products.Sums
public import proofs.«01_k».proof.Proof.Gen.KernelUpProjIdeal.Value
public import proofs.«01_k».proof.Proof.Gen.ReferenceUpProjIdeal.Read
public import Idealize.ShloMosaic.Lib.Pipeline.ReadBack
public import Idealize.ShloMosaic.Lib.Pipeline.ValueKit

@[expose] public section

noncomputable section

namespace Cert.KernelUpProjIdeal.Block

open Cert.KernelUpProjIdeal Cert.KernelUpProjIdeal.Gen Idealize.ShloMosaic Idealize.ShloMosaic.TcCoe Cert.Products
open Idealize.ShloMosaic.Pipeline (Dat)

variable (m : (ℓ : Loc nD τ sig) → Buf (Elt Ideal) ℓ) (c : Dev nD)

theorem pay1_at (A : S2176x1024.Idx → EReal) (W : S1x1024x1408.Idx → EReal) (j : S2176x1408.Idx) :
    k0_pay1 (F := Ideal) A W j = ∑ k : Fin 1024, A (ix2 (j 0) k) * W (ix3 0 k (j 1)) := by
  pointwise [k0_pay1]
  try rfl

/-- The arguments, and the product. -/
def argA : S4352x1024.Idx → EReal := m ((c : Thread nD τ).loc main_arg0)
def argW : S1024x5632.Idx → EReal := m ((c : Thread nD τ).loc main_arg1)
def product (A : S4352x1024.Idx → EReal) (W : S1024x5632.Idx → EReal) : S4352x5632.Idx → EReal :=
  fun i => ∑ k : Fin 1024, A (ix2 (i 0) k) * W (ix2 k (i 1))

theorem idx0 : ∀ t : Fin cfg0.N, win0_0.index t = ![t.val % 2, 0] := (by decide +kernel : ∀ t : Fin grid0.N, _)
theorem idx1 : ∀ t : Fin cfg0.N, win0_1.index t = ![t.val / 2, 0, 0] := (by decide +kernel : ∀ t : Fin grid0.N, _)
theorem idx2 : ∀ t : Fin cfg0.N, win0_2.index t = ![t.val % 2, t.val / 2] := (by decide +kernel : ∀ t : Fin grid0.N, _)

/-- The blocks a grid point takes. -/
def blkA (t : Fin cfg0.N) : S2176x1024.Idx → EReal := iblk m c 0 t
def blkW (t : Fin cfg0.N) : S1x1024x1408.Idx → EReal := iblk m c 1 t

/-- What a grid point leaves at a place of its block. -/
theorem out_at (t : Fin cfg0.N) (i : S4352x5632.Idx) (j : S2176x1408.Idx)
    (h0 : (i 0).val = t.val % 2 * 2176 + (j 0).val) (h1 : (i 1).val = t.val / 2 * 1408 + (j 1).val) :
    out0_2 (F := Ideal) (iblk m c 0 t) (iblk m c 1 t) j = product (argA m c) (argW m c) i := by
  frame_out
  refine (pay1_at (blkA m c t) (blkW m c t) j).trans (Finset.sum_congr rfl fun k _ => congrArg₂ (· * ·) ?_ ?_)
  · blk_point [blkA, iblk, V, idx0 t, argA]
  · blk_point [blkW, iblk, V, idx1 t, argW]

theorem array : (dats m 0 c).arrAt 2 cfg0.N = product (argA m c) (argW m c) := by
  refine (dats m 0 c).arrAt_eq_of_coversWhere_of_agree 2 (product (argA m c) (argW m c)) (fun _ => True) (by decide +kernel) (fun t hf y => ?_) (fun j hj => absurd trivial hj)
  blk_simp
  rw [after0_2]
  refine out_at m c t _ _ ?_ ?_
  · refine Eq.trans (b := win0_2.index t 0 * 2176 + (y 0).val) (by blk_simp) ?_
    rw [idx2 t]
    rfl
  · refine Eq.trans (b := win0_2.index t 1 * 1408 + (y 1).val) (by blk_simp) ?_
    rw [idx2 t]
    rfl

end Cert.KernelUpProjIdeal.Block

namespace Cert.ReferenceUpProjIdeal.Block

open Cert.ReferenceUpProjIdeal Cert.ReferenceUpProjIdeal.Gen Cert.ReferenceUpProjIdeal.Read Idealize.ShloMosaic Cert.Products

/-- The reference's product is the same sum. -/
theorem read (x0 : S4352x1024.Idx → EReal) (x1 : S1024x5632.Idx → EReal) :
    val_main_v1 (F := Ideal) x0 x1 = Cert.KernelUpProjIdeal.Block.product x0 x1 := by
  refine funext fun (i : S4352x5632.Idx) => ?_
  pointwise [val_main_v1_apply, val_main_v0_apply]
  exact Finset.sum_congr rfl fun k _ => congrArg₂ (· * ·) (congrArg x0 (eq_ix2 _ (i 0) k rfl rfl)) (congrArg x1 (eq_ix2 _ k (i 1) rfl rfl))

end Cert.ReferenceUpProjIdeal.Block
-- ==== Proof.Forward.Places.lean ====
/-
  Places in arrays of three axes, and the logistic curve written with the hyperbolic tangent.
-/
module

public import Idealize.ShloMosaic.PureOps.Ideal.Laws
public import Idealize.ShloMosaic.Lib.Pipeline.Value
public import Idealize.ShloMosaic.Lib.Pipeline.ValueKit

@[expose] public section

noncomputable section

namespace Cert.Forward

open Idealize.ShloMosaic

/-- A place in an array of three axes by its coordinates. -/
theorem eq_ix3 {n0 n1 n2 : ℕ} (i : (⟨3, ![n0, n1, n2]⟩ : Shape).Idx) (a : Fin n0) (b : Fin n1) (d : Fin n2)
    (h0 : (i 0).val = a.val) (h1 : (i 1).val = b.val) (h2 : (i 2).val = d.val) : i = ix3 a b d :=
  funext fun e => Fin.ext (match e with
    | ⟨0, _⟩ => h0
    | ⟨1, _⟩ => h1
    | ⟨2, _⟩ => h2)

end Cert.Forward
-- ==== Proof.Forward.FfnOutFwd.lean ====
/-
  The feed-forward part's last product and its gated addition to the residual stream: each grid point a block of 256 tokens,
  the first block the context's and the rest the latents'.
-/
module

public import proofs.«01_k».proof.Proof.Products.Sums
public import proofs.«01_k».proof.Proof.Forward.Places
public import proofs.«01_k».proof.Proof.Gen.KernelFfnOutFwdIdeal.Value
public import proofs.«01_k».proof.Proof.Gen.ReferenceFfnOutFwdIdeal.Read
public import Idealize.ShloMosaic.Lib.Pipeline.ReadBack
public import Idealize.ShloMosaic.Lib.Pipeline.ValueKit

@[expose] public section

noncomputable section

namespace Cert.KernelFfnOutFwdIdeal.Block

open Cert.KernelFfnOutFwdIdeal Cert.KernelFfnOutFwdIdeal.Gen Idealize.ShloMosaic Idealize.ShloMosaic.TcCoe Cert.Products Cert.Forward
open Idealize.ShloMosaic.Pipeline (Dat)

variable (m : (ℓ : Loc nD τ sig) → Buf (Elt Ideal) ℓ) (c : Dev nD)

/-- The chip and the row on that chip of a row of the weight. -/
def chip (k : Fin 2816) : Fin 4 := ⟨k.val / 704, by have := k.isLt; omega⟩
def row (k : Fin 2816) : Fin 704 := ⟨k.val % 704, by omega⟩

theorem pay1_at (A : S256x2816.Idx → EReal) (W : S4x704x1024.Idx → EReal) (j : S256x1024.Idx) :
    k0_pay1 (F := Ideal) A W j = ∑ k : Fin 2816, A (ix2 (j 0) k) * W (ix3 (chip k) (row k) (j 1)) := by
  pointwise [k0_pay1]
  refine Finset.sum_congr rfl fun k _ => congrArg₂ (· * ·) (congrArg A (eq_ix2 _ (j 0) k rfl rfl)) rfl

theorem pay2_at (A : S256x2816.Idx → EReal) (W : S4x704x1024.Idx → EReal) (j : S256x1024.Idx) :
    k0_pay2 (F := Ideal) A W j = k0_pay1 (F := Ideal) A W j := by
  pointwise [k0_pay2]

theorem pay3_at (A : S256x2816.Idx → EReal) (W : S4x704x1024.Idx → EReal) (X : S256x1024.Idx → EReal) (g : S1x1x1024.Idx → EReal) (j : S256x1024.Idx) :
    k0_pay3 (F := Ideal) A W X g j = X j + g (ix3 0 0 (j 1)) * k0_pay1 (F := Ideal) A W j := by
  pointwise [k0_pay3]

/-- The arguments, the product, and the residual stream after it. -/
def argA : S4352x2816.Idx → EReal := m ((c : Thread nD τ).loc main_arg0)
def argX : S4352x1024.Idx → EReal := m ((c : Thread nD τ).loc main_arg1)
def argM : S2x6x1024.Idx → EReal := m ((c : Thread nD τ).loc main_arg2)
def argW : S2816x1024.Idx → EReal := m ((c : Thread nD τ).loc main_arg3)
def stream (i : S4352x1024.Idx) : Fin 2 := ⟨min ((i 0).val / 256) 1, by omega⟩
def product (A : S4352x2816.Idx → EReal) (W : S2816x1024.Idx → EReal) : S4352x1024.Idx → EReal :=
  fun i => ∑ k : Fin 2816, A (ix2 (i 0) k) * W (ix2 k (i 1))
def added (A : S4352x2816.Idx → EReal) (X : S4352x1024.Idx → EReal) (M : S2x6x1024.Idx → EReal) (W : S2816x1024.Idx → EReal) : S4352x1024.Idx → EReal :=
  fun i => X (ix2 (i 0) (i 1)) + M (ix3 (stream i) 5 (i 1)) * product A W i

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![min t.val 1, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

/-- The blocks a grid point takes. -/
def blkA (t : Fin cfg0.N) : S256x2816.Idx → EReal := iblk m c 0 t
def blkX (t : Fin cfg0.N) : S256x1024.Idx → EReal := iblk m c 1 t
def blkM (t : Fin cfg0.N) : S1x6x1024.Idx → EReal := iblk m c 2 t
def blkW (t : Fin cfg0.N) : S4x704x1024.Idx → EReal := iblk m c 3 t

theorem product_at (t : Fin cfg0.N) (i : S4352x1024.Idx) (j : S256x1024.Idx)
    (h0 : (i 0).val = t.val * 256 + (j 0).val) (h1 : (i 1).val = (j 1).val) :
    k0_pay1 (F := Ideal) (blkA m c t) (blkW m c t) j = product (argA m c) (argW m c) i := by
  refine (pay1_at (blkA m c t) (blkW m c t) j).trans (Finset.sum_congr rfl fun k _ => congrArg₂ (· * ·) ?_ ?_)
  · blk_point [blkA, iblk, V, idx0 t, argA]
  · blk_point [blkW, iblk, V, idx3 t, argW, chip, row]

/-- What a grid point leaves at a place of each of its two blocks. -/
theorem out5_at (t : Fin cfg0.N) (i : S4352x1024.Idx) (j : S256x1024.Idx)
    (h0 : (i 0).val = t.val * 256 + (j 0).val) (h1 : (i 1).val = (j 1).val) :
    out0_5 (F := Ideal) (iblk m c 0 t) (iblk m c 1 t) (iblk m c 2 t) (iblk m c 3 t) j = product (argA m c) (argW m c) i := by
  frame_out
  exact (pay2_at (blkA m c t) (blkW m c t) j).trans (product_at m c t i j h0 h1)

theorem out4_at (t : Fin cfg0.N) (i : S4352x1024.Idx) (j : S256x1024.Idx)
    (h0 : (i 0).val = t.val * 256 + (j 0).val) (h1 : (i 1).val = (j 1).val) :
    out0_4 (F := Ideal) (iblk m c 0 t) (iblk m c 1 t) (iblk m c 2 t) (iblk m c 3 t) j = added (argA m c) (argX m c) (argM m c) (argW m c) i := by
  frame_out
  refine (pay3_at (blkA m c t) (blkW m c t) (blkX m c t) _ j).trans (congrArg₂ (· + ·) ?_ (congrArg₂ (· * ·) ?_ (product_at m c t i j h0 h1)))
  · blk_point [blkX, iblk, V, idx1 t, argX]
  · blk_point [blkM, iblk, V, idx2 t, argM, stream]

theorem array4 : (dats m 0 c).arrAt 4 cfg0.N = added (argA m c) (argX m c) (argM m c) (argW m c) := by
  refine (dats m 0 c).arrAt_eq_of_coversWhere_of_agree 4 (added (argA m c) (argX m c) (argM m c) (argW m c)) (fun _ => True) (by decide +kernel) (fun t hf y => ?_) (fun j hj => absurd trivial hj)
  blk_simp
  rw [after0_4]
  refine out4_at m c t _ _ ?_ ?_
  · refine Eq.trans (b := win0_4.index t 0 * 256 + (y 0).val) (by blk_simp) ?_
    rw [idx4 t]
    rfl
  · refine Eq.trans (b := win0_4.index t 1 * 1024 + (y 1).val) (by blk_simp) ?_
    rw [idx4 t]
    show 0 * 1024 + (y 1).val = (y 1).val
    omega

theorem array5 : (dats m 0 c).arrAt 5 cfg0.N = product (argA m c) (argW m c) := by
  refine (dats m 0 c).arrAt_eq_of_coversWhere_of_agree 5 (product (argA m c) (argW m c)) (fun _ => True) (by decide +kernel) (fun t hf y => ?_) (fun j hj => absurd trivial hj)
  blk_simp
  rw [after0_5]
  refine out5_at m c t _ _ ?_ ?_
  · refine Eq.trans (b := win0_5.index t 0 * 256 + (y 0).val) (by blk_simp) ?_
    rw [idx5 t]
    rfl
  · refine Eq.trans (b := win0_5.index t 1 * 1024 + (y 1).val) (by blk_simp) ?_
    rw [idx5 t]
    show 0 * 1024 + (y 1).val = (y 1).val
    omega

end Cert.KernelFfnOutFwdIdeal.Block

namespace Cert.ReferenceFfnOutFwdIdeal.Block

open Cert.ReferenceFfnOutFwdIdeal Cert.ReferenceFfnOutFwdIdeal.Gen Cert.ReferenceFfnOutFwdIdeal.Read Idealize.ShloMosaic Cert.Products Cert.Forward
open Cert.KernelFfnOutFwdIdeal.Block (product added stream)

theorem product_read (x0 : S4352x2816.Idx → EReal) (x3 : S2816x1024.Idx → EReal) :
    val_main_v1 (F := Ideal) x0 x3 = product x0 x3 := by
  refine funext fun (i : S4352x1024.Idx) => ?_
  pointwise [val_main_v1_apply, val_main_v0_apply]
  exact Finset.sum_congr rfl fun k _ => congrArg₂ (· * ·) (congrArg x0 (eq_ix2 _ (i 0) k rfl rfl)) (congrArg x3 (eq_ix2 _ k (i 1) rfl rfl))

theorem read19 (x0 : S4352x2816.Idx → EReal) (x3 : S2816x1024.Idx → EReal) :
    val_main_v19 (F := Ideal) x0 x3 = product x0 x3 := by
  refine Eq.trans (funext fun (i : S4352x1024.Idx) => ?_) (product_read x0 x3)
  pointwise [val_main_v19_apply]

theorem read18 (x0 : S4352x2816.Idx → EReal) (x1 : S4352x1024.Idx → EReal) (x2 : S2x6x1024.Idx → EReal) (x3 : S2816x1024.Idx → EReal) :
    val_main_v18 (F := Ideal) x0 x1 x2 x3 = added x0 x1 x2 x3 := by
  refine funext fun (i : S4352x1024.Idx) => ?_
  unfold val_main_v18
  by_cases hi : (i 0).val < 256
  · refine (concatenate_pair_apply_left (s₁ := S256x1024) (s₂ := S4096x1024) 0 (val_main_v11 (F := Ideal) x0 x1 x2 x3) (val_main_v17 (F := Ideal) x0 x1 x2 x3) _ i rfl (ix2 ⟨(i 0).val, hi⟩ (i 1)) fun b => ?_).trans ?_
    · match b with
      | ⟨0, _⟩ => rfl
      | ⟨1, _⟩ => rfl
    · pointwise [val_main_v11_apply, val_main_v10_apply, val_main_v9_apply, val_main_v8_apply, val_main_v7_apply, val_main_v6_apply, val_main_v3_apply, val_main_v2_apply]
      rw [product_read]
      exact congrArg₂ (· + ·) (congrArg x1 (eq_ix2 _ (i 0) (i 1) rfl rfl))
        (congrArg₂ (· * ·) (congrArg x2 (eq_ix3 _ (stream i) 5 (i 1) (by show 0 = min ((i 0).val / 256) 1; omega) rfl (by show (i 1).val % 1024 = (i 1).val; have h1 : (i 1).val < 1024 := (i 1).isLt; omega))) (congrArg (product x0 x3) (funext fun e => Fin.ext (match e with
          | ⟨0, _⟩ => rfl
          | ⟨1, _⟩ => rfl))))
  · refine (concatenate_pair_apply_right (s₁ := S256x1024) (s₂ := S4096x1024) 0 (val_main_v11 (F := Ideal) x0 x1 x2 x3) (val_main_v17 (F := Ideal) x0 x1 x2 x3) _ i rfl rfl (ix2 ⟨(i 0).val - 256, by have h0 : (i 0).val < 4352 := (i 0).isLt; omega⟩ (i 1)) (fun b hb => ?_) ?_).trans ?_
    · match b with
      | ⟨0, _⟩ => exact absurd rfl hb
      | ⟨1, _⟩ => rfl
    · show (i 0).val - 256 + 256 = (i 0).val
      omega
    · pointwise [val_main_v17_apply, val_main_v16_apply, val_main_v15_apply, val_main_v14_apply, val_main_v13_apply, val_main_v12_apply, val_main_v5_apply, val_main_v4_apply]
      rw [product_read]
      exact congrArg₂ (· + ·) (congrArg x1 (eq_ix2 _ (i 0) (i 1) (by show 256 + ((i 0).val - 256) = (i 0).val; omega) rfl))
        (congrArg₂ (· * ·) (congrArg x2 (eq_ix3 _ (stream i) 5 (i 1) (by show 1 = min ((i 0).val / 256) 1; omega) rfl (by show (i 1).val % 1024 = (i 1).val; have h1 : (i 1).val < 1024 := (i 1).isLt; omega))) (congrArg (product x0 x3) (funext fun e => Fin.ext (match e with
          | ⟨0, _⟩ => (by show 256 + ((i 0).val - 256) = (i 0).val; omega)
          | ⟨1, _⟩ => rfl))))

end Cert.ReferenceFfnOutFwdIdeal.Block
-- ==== Proof.Adam.Step.lean ====
/-
  The AdamW step of one entry of a weight: its two moments, and the change of the weight.
-/
module

public import Idealize.ShloMosaic.PureOps.Ideal.Laws

@[expose] public section

noncomputable section

namespace Cert.Adam

open Idealize.ShloMosaic

/-- The new first moment. -/
def moment (m g : EReal) : EReal := Ideal.ofBits .f32 0x3F666666#32 * m + Ideal.ofBits .f32 0x3DCCCCCD#32 * g

/-- The new second moment. -/
def second (v g : EReal) : EReal := Ideal.ofBits .f32 0x3F7FBE77#32 * v + Ideal.ofBits .f32 0x3A83126F#32 * (g * g)

/-- The change of the weight, from the two new moments. -/
def change (w m v : EReal) : EReal :=
  Ideal.ofBits .f32 0xBA83126F#32 *
    (Ideal.div (Ideal.div m (Ideal.ofBits .f32 0x3F26BD02#32)) (Ideal.sqrt (Ideal.div v (Ideal.ofBits .f32 0x3C231ACC#32)) + Ideal.ofBits .f32 0x322BCC77#32)
      + Ideal.ofBits .f32 0x3C23D70A#32 * w)

end Cert.Adam
-- ==== Proof.Adam.Ada.lean ====
/-
  AdamW's step on the modulation's weight: each grid point a block of 256 rows of one layer, with that layer's gradient.
-/
module

public import proofs.«01_k».proof.Proof.Adam.Step
public import proofs.«01_k».proof.Proof.Products.Sums
public import proofs.«01_k».proof.Proof.Forward.Places
public import proofs.«01_k».proof.Proof.Gen.KernelAdamAdaIdeal.Value
public import proofs.«01_k».proof.Proof.Gen.ReferenceAdamAdaIdeal.Read
public import Idealize.ShloMosaic.Lib.Pipeline.ReadBack
public import Idealize.ShloMosaic.Lib.Pipeline.ValueKit

@[expose] public section

noncomputable section

namespace Cert.KernelAdamAdaIdeal.Block

open Cert.KernelAdamAdaIdeal Cert.KernelAdamAdaIdeal.Gen Idealize.ShloMosaic Idealize.ShloMosaic.TcCoe Cert.Products Cert.Forward Cert.Adam
open Idealize.ShloMosaic.Pipeline (Dat)

variable (m : (ℓ : Loc nD τ sig) → Buf (Elt Ideal) ℓ) (c : Dev nD)

/-- The weight, its gradient in each layer, and its two moments. -/
def argW : S2x1024x1536.Idx → EReal := m ((c : Thread nD τ).loc main_arg0)
def argG : S1024x1536.Idx → EReal := m ((c : Thread nD τ).loc main_arg1)
def argH : S1024x1536.Idx → EReal := m ((c : Thread nD τ).loc main_arg2)
def argM : S2x1024x1536.Idx → EReal := m ((c : Thread nD τ).loc main_arg3)
def argV : S2x1024x1536.Idx → EReal := m ((c : Thread nD τ).loc main_arg4)

/-- The results: the gradient of both layers, the new moments, and the change of the weight. -/
def grad (G H : S1024x1536.Idx → EReal) : S2x1024x1536.Idx → EReal :=
  fun i => if (i 0).val = 0 then G (ix2 (i 1) (i 2)) else H (ix2 (i 1) (i 2))
def newM (G H : S1024x1536.Idx → EReal) (M : S2x1024x1536.Idx → EReal) : S2x1024x1536.Idx → EReal := fun i => moment (M i) (grad G H i)
def newV (G H : S1024x1536.Idx → EReal) (V : S2x1024x1536.Idx → EReal) : S2x1024x1536.Idx → EReal := fun i => second (V i) (grad G H i)
def delta (W : S2x1024x1536.Idx → EReal) (G H : S1024x1536.Idx → EReal) (M V : S2x1024x1536.Idx → EReal) : S2x1024x1536.Idx → EReal :=
  fun i => change (W i) (newM G H M i) (newV G H V i)

theorem idx0 : ∀ t : Fin cfg0.N, win0_0.index t = ![t.val / 4, t.val % 4, 0] := (by decide +kernel : ∀ t : Fin grid0.N, _)
theorem idx1 : ∀ t : Fin cfg0.N, win0_1.index t = ![t.val / 4, t.val % 4, 0] := (by decide +kernel : ∀ t : Fin grid0.N, _)
theorem idx2 : ∀ t : Fin cfg0.N, win0_2.index t = ![t.val / 4, t.val % 4, 0] := (by decide +kernel : ∀ t : Fin grid0.N, _)
theorem idx3 : ∀ t : Fin cfg0.N, win0_3.index t = ![t.val % 4, 0] := (by decide +kernel : ∀ t : Fin grid0.N, _)
theorem idx4 : ∀ t : Fin cfg0.N, win0_4.index t = ![t.val % 4, 0] := (by decide +kernel : ∀ t : Fin grid0.N, _)
theorem idx5 : ∀ t : Fin cfg0.N, win0_5.index t = ![t.val / 4, t.val % 4, 0] := (by decide +kernel : ∀ t : Fin grid0.N, _)
theorem idx6 : ∀ t : Fin cfg0.N, win0_6.index t = ![t.val / 4, t.val % 4, 0] := (by decide +kernel : ∀ t : Fin grid0.N, _)
theorem idx7 : ∀ t : Fin cfg0.N, win0_7.index t = ![t.val / 4, t.val % 4, 0] := (by decide +kernel : ∀ t : Fin grid0.N, _)
theorem idx8 : ∀ t : Fin cfg0.N, win0_8.index t = ![t.val / 4, t.val % 4, 0] := (by decide +kernel : ∀ t : Fin grid0.N, _)

/-- The blocks a grid point takes. -/
def blkW (t : Fin cfg0.N) : S1x256x1536.Idx → EReal := iblk m c 0 t
def blkM (t : Fin cfg0.N) : S1x256x1536.Idx → EReal := iblk m c 1 t
def blkV (t : Fin cfg0.N) : S1x256x1536.Idx → EReal := iblk m c 2 t
def blkG (t : Fin cfg0.N) : S256x1536.Idx → EReal := iblk m c 3 t
def blkH (t : Fin cfg0.N) : S256x1536.Idx → EReal := iblk m c 4 t

theorem grad_A (G : S256x1536.Idx → EReal) (j : S1x256x1536.Idx) : k0_pay3 (F := Ideal) G j = G (ix2 (j 1) (j 2)) := by
  pointwise [k0_pay3]

theorem moment_A (G : S256x1536.Idx → EReal) (M : S1x256x1536.Idx → EReal) (j : S1x256x1536.Idx) :
    k0_pay6 (F := Ideal) G M j = moment (M j) (G (ix2 (j 1) (j 2))) := by
  pointwise [k0_pay6, k0_pay4]
  rfl

theorem second_A (G : S256x1536.Idx → EReal) (V : S1x256x1536.Idx → EReal) (j : S1x256x1536.Idx) :
    k0_pay7 (F := Ideal) G V j = second (V j) (G (ix2 (j 1) (j 2))) := by
  pointwise [k0_pay7, k0_pay5]
  rfl

theorem change_A (G : S256x1536.Idx → EReal) (W M V : S1x256x1536.Idx → EReal) (j : S1x256x1536.Idx) :
    k0_pay1 (F := Ideal) (k0_pay8 (F := Ideal) G M V) W j = change (W j) (moment (M j) (G (ix2 (j 1) (j 2)))) (second (V j) (G (ix2 (j 1) (j 2)))) := by
  pointwise [k0_pay1, k0_pay8, k0_pay4, k0_pay5]
  rfl

theorem grad_B (G : S256x1536.Idx → EReal) (j : S1x256x1536.Idx) : k0_pay9 (F := Ideal) G j = G (ix2 (j 1) (j 2)) := by
  pointwise [k0_pay9]

theorem moment_B (G : S256x1536.Idx → EReal) (M : S1x256x1536.Idx → EReal) (j : S1x256x1536.Idx) :
    k0_pay12 (F := Ideal) G M j = moment (M j) (G (ix2 (j 1) (j 2))) := by
  pointwise [k0_pay12, k0_pay10]
  rfl

theorem second_B (G : S256x1536.Idx → EReal) (V : S1x256x1536.Idx → EReal) (j : S1x256x1536.Idx) :
    k0_pay13 (F := Ideal) G V j = second (V j) (G (ix2 (j 1) (j 2))) := by
  pointwise [k0_pay13, k0_pay11]
  rfl

theorem change_B (G : S256x1536.Idx → EReal) (W M V : S1x256x1536.Idx → EReal) (j : S1x256x1536.Idx) :
    k0_pay2 (F := Ideal) (k0_pay14 (F := Ideal) G M V) W j = change (W j) (moment (M j) (G (ix2 (j 1) (j 2)))) (second (V j) (G (ix2 (j 1) (j 2)))) := by
  pointwise [k0_pay2, k0_pay14, k0_pay10, k0_pay11]
  rfl

/-- The gradient a grid point takes at a place of its block. -/
def blkD (t : Fin cfg0.N) (j : S1x256x1536.Idx) : EReal := if t.val < 4 then blkG m c t (ix2 (j 1) (j 2)) else blkH m c t (ix2 (j 1) (j 2))

/-- What a grid point leaves at a place of each of its four blocks. -/
theorem out_at (t : Fin cfg0.N) (j : S1x256x1536.Idx) :
    (outsAt0 m c t.val t.isLt).1 j = blkD m c t j
    ∧ (outsAt0 m c t.val t.isLt).2.1 j = change (blkW m c t j) (moment (blkM m c t j) (blkD m c t j)) (second (blkV m c t j) (blkD m c t j))
    ∧ (outsAt0 m c t.val t.isLt).2.2.1 j = moment (blkM m c t j) (blkD m c t j)
    ∧ (outsAt0 m c t.val t.isLt).2.2.2 j = second (blkV m c t j) (blkD m c t j) := by
  have ht : t.val < 8 := lt_of_lt_of_eq t.isLt N_0
  unfold blkD
  by_cases h : t.val < 4
  · rw [outsAt0_A m c t (by omega) (by omega)]
    simp only [if_pos h]
    refine ⟨?_, ?_, ?_, ?_⟩ <;> frame_out
    · exact grad_A (blkG m c t) j
    · exact change_A (blkG m c t) (blkW m c t) (blkM m c t) (blkV m c t) j
    · exact moment_A (blkG m c t) (blkM m c t) j
    · exact second_A (blkG m c t) (blkV m c t) j
  · rw [outsAt0_B m c t (by omega) (by omega)]
    simp only [if_neg h]
    refine ⟨?_, ?_, ?_, ?_⟩ <;> frame_out
    · exact grad_B (blkH m c t) j
    · exact change_B (blkH m c t) (blkW m c t) (blkM m c t) (blkV m c t) j
    · exact moment_B (blkH m c t) (blkM m c t) j
    · exact second_B (blkH m c t) (blkV m c t) j

section
variable (t : Fin cfg0.N) (i : S2x1024x1536.Idx) (j : S1x256x1536.Idx) (h0 : (i 0).val = t.val / 4 + (j 0).val) (h1 : (i 1).val = t.val % 4 * 256 + (j 1).val) (h2 : (i 2).val = (j 2).val)
include h0 h1 h2

theorem blkW_at : blkW m c t j = argW m c i := by blk_point [blkW, iblk, V, idx0 t, argW]
theorem blkM_at : blkM m c t j = argM m c i := by blk_point [blkM, iblk, V, idx1 t, argM]
theorem blkV_at : blkV m c t j = argV m c i := by blk_point [blkV, iblk, V, idx2 t, argV]
theorem blkD_at : blkD m c t j = grad (argG m c) (argH m c) i := by
  have hj : (j 0).val < 1 := (j 0).isLt
  unfold blkD grad
  by_cases h : t.val < 4
  · rw [if_pos h, if_pos (by omega)]
    blk_point [blkG, iblk, V, idx3 t, argG]
  · rw [if_neg h, if_neg (by omega)]
    blk_point [blkH, iblk, V, idx4 t, argH]

end

theorem out5_at (t : Fin cfg0.N) (i : S2x1024x1536.Idx) (j : S1x256x1536.Idx) (h0 : (i 0).val = t.val / 4 + (j 0).val) (h1 : (i 1).val = t.val % 4 * 256 + (j 1).val) (h2 : (i 2).val = (j 2).val) :
    (outsAt0 m c t.val t.isLt).1 j = grad (argG m c) (argH m c) i := by
  rw [(out_at m c t j).1, blkD_at m c t i j h0 h1 h2]

theorem array5 : (dats m 0 c).arrAt 5 cfg0.N = grad (argG m c) (argH m c) := by
  refine (dats m 0 c).arrAt_eq_of_coversWhere_of_agree 5 (grad (argG m c) (argH m c)) (fun _ => True) (by decide +kernel) (fun t hf y => ?_) (fun j hj => absurd trivial hj)
  blk_simp
  rw [after0_5]
  refine out5_at m c t _ _ ?_ ?_ ?_
  · refine Eq.trans (b := win0_5.index t 0 * 1 + (y 0).val) (by blk_simp) ?_
    rw [idx5 t]
    show t.val / 4 * 1 + (y 0).val = t.val / 4 + (y 0).val
    omega
  · refine Eq.trans (b := win0_5.index t 1 * 256 + (y 1).val) (by blk_simp) ?_
    rw [idx5 t]
    rfl
  · refine Eq.trans (b := win0_5.index t 2 * 1536 + (y 2).val) (by blk_simp) ?_
    rw [idx5 t]
    show 0 * 1536 + (y 2).val = (y 2).val
    omega

theorem out6_at (t : Fin cfg0.N) (i : S2x1024x1536.Idx) (j : S1x256x1536.Idx) (h0 : (i 0).val = t.val / 4 + (j 0).val) (h1 : (i 1).val = t.val % 4 * 256 + (j 1).val) (h2 : (i 2).val = (j 2).val) :
    (outsAt0 m c t.val t.isLt).2.1 j = delta (argW m c) (argG m c) (argH m c) (argM m c) (argV m c) i := by
  rw [(out_at m c t j).2.1, blkW_at m c t i j h0 h1 h2, blkM_at m c t i j h0 h1 h2, blkV_at m c t i j h0 h1 h2, blkD_at m c t i j h0 h1 h2]
  rfl

theorem array6 : (dats m 0 c).arrAt 6 cfg0.N = delta (argW m c) (argG m c) (argH m c) (argM m c) (argV m c) := by
  refine (dats m 0 c).arrAt_eq_of_coversWhere_of_agree 6 (delta (argW m c) (argG m c) (argH m c) (argM m c) (argV m c)) (fun _ => True) (by decide +kernel) (fun t hf y => ?_) (fun j hj => absurd trivial hj)
  blk_simp
  rw [after0_6]
  refine out6_at m c t _ _ ?_ ?_ ?_
  · refine Eq.trans (b := win0_6.index t 0 * 1 + (y 0).val) (by blk_simp) ?_
    rw [idx6 t]
    show t.val / 4 * 1 + (y 0).val = t.val / 4 + (y 0).val
    omega
  · refine Eq.trans (b := win0_6.index t 1 * 256 + (y 1).val) (by blk_simp) ?_
    rw [idx6 t]
    rfl
  · refine Eq.trans (b := win0_6.index t 2 * 1536 + (y 2).val) (by blk_simp) ?_
    rw [idx6 t]
    show 0 * 1536 + (y 2).val = (y 2).val
    omega

theorem out7_at (t : Fin cfg0.N) (i : S2x1024x1536.Idx) (j : S1x256x1536.Idx) (h0 : (i 0).val = t.val / 4 + (j 0).val) (h1 : (i 1).val = t.val % 4 * 256 + (j 1).val) (h2 : (i 2).val = (j 2).val) :
    (outsAt0 m c t.val t.isLt).2.2.1 j = newM (argG m c) (argH m c) (argM m c) i := by
  rw [(out_at m c t j).2.2.1, blkM_at m c t i j h0 h1 h2, blkD_at m c t i j h0 h1 h2]
  rfl

theorem array7 : (dats m 0 c).arrAt 7 cfg0.N = newM (argG m c) (argH m c) (argM m c) := by
  refine (dats m 0 c).arrAt_eq_of_coversWhere_of_agree 7 (newM (argG m c) (argH m c) (argM m c)) (fun _ => True) (by decide +kernel) (fun t hf y => ?_) (fun j hj => absurd trivial hj)
  blk_simp
  rw [after0_7]
  refine out7_at m c t _ _ ?_ ?_ ?_
  · refine Eq.trans (b := win0_7.index t 0 * 1 + (y 0).val) (by blk_simp) ?_
    rw [idx7 t]
    show t.val / 4 * 1 + (y 0).val = t.val / 4 + (y 0).val
    omega
  · refine Eq.trans (b := win0_7.index t 1 * 256 + (y 1).val) (by blk_simp) ?_
    rw [idx7 t]
    rfl
  · refine Eq.trans (b := win0_7.index t 2 * 1536 + (y 2).val) (by blk_simp) ?_
    rw [idx7 t]
    show 0 * 1536 + (y 2).val = (y 2).val
    omega

theorem out8_at (t : Fin cfg0.N) (i : S2x1024x1536.Idx) (j : S1x256x1536.Idx) (h0 : (i 0).val = t.val / 4 + (j 0).val) (h1 : (i 1).val = t.val % 4 * 256 + (j 1).val) (h2 : (i 2).val = (j 2).val) :
    (outsAt0 m c t.val t.isLt).2.2.2 j = newV (argG m c) (argH m c) (argV m c) i := by
  rw [(out_at m c t j).2.2.2, blkV_at m c t i j h0 h1 h2, blkD_at m c t i j h0 h1 h2]
  rfl

theorem array8 : (dats m 0 c).arrAt 8 cfg0.N = newV (argG m c) (argH m c) (argV m c) := by
  refine (dats m 0 c).arrAt_eq_of_coversWhere_of_agree 8 (newV (argG m c) (argH m c) (argV m c)) (fun _ => True) (by decide +kernel) (fun t hf y => ?_) (fun j hj => absurd trivial hj)
  blk_simp
  rw [after0_8]
  refine out8_at m c t _ _ ?_ ?_ ?_
  · refine Eq.trans (b := win0_8.index t 0 * 1 + (y 0).val) (by blk_simp) ?_
    rw [idx8 t]
    show t.val / 4 * 1 + (y 0).val = t.val / 4 + (y 0).val
    omega
  · refine Eq.trans (b := win0_8.index t 1 * 256 + (y 1).val) (by blk_simp) ?_
    rw [idx8 t]
    rfl
  · refine Eq.trans (b := win0_8.index t 2 * 1536 + (y 2).val) (by blk_simp) ?_
    rw [idx8 t]
    show 0 * 1536 + (y 2).val = (y 2).val
    omega

end Cert.KernelAdamAdaIdeal.Block

namespace Cert.ReferenceAdamAdaIdeal.Block

open Cert.ReferenceAdamAdaIdeal Cert.ReferenceAdamAdaIdeal.Gen Cert.ReferenceAdamAdaIdeal.Read Idealize.ShloMosaic Cert.Products Cert.Forward Cert.Adam
open Cert.KernelAdamAdaIdeal.Block (grad newM newV delta)

theorem read2 (x1 x2 : S1024x1536.Idx → EReal) : val_main_v2 (F := Ideal) x1 x2 = grad x1 x2 := by
  refine funext fun (i : S2x1024x1536.Idx) => ?_
  have hi : (i 0).val < 2 := (i 0).isLt
  unfold val_main_v2 grad
  by_cases h : (i 0).val = 0
  · rw [if_pos h]
    refine (concatenate_pair_apply_left (s₁ := S1x1024x1536) (s₂ := S1x1024x1536) 0 (val_main_v0 (F := Ideal) x1) (val_main_v1 (F := Ideal) x2) _ i rfl (ix3 ⟨(i 0).val, by omega⟩ (i 1) (i 2)) fun b => ?_).trans ?_
    · match b with
      | ⟨0, _⟩ => rfl
      | ⟨1, _⟩ => rfl
      | ⟨2, _⟩ => rfl
    · refine (val_main_v0_apply (F := Ideal) x1 _).trans ?_
      exact congrArg x1 (eq_ix2 _ (i 1) (i 2) rfl rfl)
  · rw [if_neg h]
    refine (concatenate_pair_apply_right (s₁ := S1x1024x1536) (s₂ := S1x1024x1536) 0 (val_main_v0 (F := Ideal) x1) (val_main_v1 (F := Ideal) x2) _ i rfl rfl (ix3 ⟨(i 0).val - 1, by omega⟩ (i 1) (i 2)) (fun b hb => ?_) ?_).trans ?_
    · match b with
      | ⟨0, _⟩ => exact absurd rfl hb
      | ⟨1, _⟩ => rfl
      | ⟨2, _⟩ => rfl
    · show (i 0).val - 1 + 1 = (i 0).val
      omega
    · refine (val_main_v1_apply (F := Ideal) x2 _).trans ?_
      exact congrArg x2 (eq_ix2 _ (i 1) (i 2) rfl rfl)

theorem read7 (x1 x2 : S1024x1536.Idx → EReal) (x3 : S2x1024x1536.Idx → EReal) : val_main_v7 (F := Ideal) x1 x2 x3 = newM x1 x2 x3 := by
  refine funext fun (i : S2x1024x1536.Idx) => ?_
  pointwise [val_main_v7_apply, val_main_v6_apply, val_main_v5_apply, val_main_v4_apply, val_main_v3_apply, val_main_cst_apply, val_main_cst_0_apply]
  rw [read2]
  rfl

theorem read13 (x1 x2 : S1024x1536.Idx → EReal) (x4 : S2x1024x1536.Idx → EReal) : val_main_v13 (F := Ideal) x1 x2 x4 = newV x1 x2 x4 := by
  refine funext fun (i : S2x1024x1536.Idx) => ?_
  pointwise [val_main_v13_apply, val_main_v12_apply, val_main_v11_apply, val_main_v10_apply, val_main_v9_apply, val_main_v8_apply, val_main_cst_1_apply, val_main_cst_2_apply]
  rw [read2]
  rfl

theorem read26 (x0 : S2x1024x1536.Idx → EReal) (x1 x2 : S1024x1536.Idx → EReal) (x3 x4 : S2x1024x1536.Idx → EReal) : val_main_v26 (F := Ideal) x0 x1 x2 x3 x4 = delta x0 x1 x2 x3 x4 := by
  refine funext fun (i : S2x1024x1536.Idx) => ?_
  pointwise [val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_cst_3_apply, val_main_cst_4_apply, val_main_cst_5_apply, val_main_cst_6_apply, val_main_cst_7_apply]
  rw [read7, read13]
  rfl

end Cert.ReferenceAdamAdaIdeal.Block
-- ==== Proof.Adam.In.lean ====
/-
  AdamW's step on the input projection's weight: each grid point a block of 128 rows of one layer, with that layer's gradient.
-/
module

public import proofs.«01_k».proof.Proof.Adam.Step
public import proofs.«01_k».proof.Proof.Products.Sums
public import proofs.«01_k».proof.Proof.Forward.Places
public import proofs.«01_k».proof.Proof.Gen.KernelAdamInIdeal.Value
public import proofs.«01_k».proof.Proof.Gen.ReferenceAdamInIdeal.Read
public import Idealize.ShloMosaic.Lib.Pipeline.ReadBack
public import Idealize.ShloMosaic.Lib.Pipeline.ValueKit

@[expose] public section

noncomputable section

namespace Cert.KernelAdamInIdeal.Block

open Cert.KernelAdamInIdeal Cert.KernelAdamInIdeal.Gen Idealize.ShloMosaic Idealize.ShloMosaic.TcCoe Cert.Products Cert.Forward Cert.Adam
open Idealize.ShloMosaic.Pipeline (Dat)

variable (m : (ℓ : Loc nD τ sig) → Buf (Elt Ideal) ℓ) (c : Dev nD)

/-- The weight, its gradient in each layer, and its two moments. -/
def argW : S2x1024x2304.Idx → EReal := m ((c : Thread nD τ).loc main_arg0)
def argG : S1024x2304.Idx → EReal := m ((c : Thread nD τ).loc main_arg1)
def argH : S1024x2304.Idx → EReal := m ((c : Thread nD τ).loc main_arg2)
def argM : S2x1024x2304.Idx → EReal := m ((c : Thread nD τ).loc main_arg3)
def argV : S2x1024x2304.Idx → EReal := m ((c : Thread nD τ).loc main_arg4)

/-- The results: the gradient of both layers, the new moments, and the change of the weight. -/
def grad (G H : S1024x2304.Idx → EReal) : S2x1024x2304.Idx → EReal :=
  fun i => if (i 0).val = 0 then G (ix2 (i 1) (i 2)) else H (ix2 (i 1) (i 2))
def newM (G H : S1024x2304.Idx → EReal) (M : S2x1024x2304.Idx → EReal) : S2x1024x2304.Idx → EReal := fun i => moment (M i) (grad G H i)
def newV (G H : S1024x2304.Idx → EReal) (V : S2x1024x2304.Idx → EReal) : S2x1024x2304.Idx → EReal := fun i => second (V i) (grad G H i)
def delta (W : S2x1024x2304.Idx → EReal) (G H : S1024x2304.Idx → EReal) (M V : S2x1024x2304.Idx → EReal) : S2x1024x2304.Idx → EReal :=
  fun i => change (W i) (newM G H M i) (newV G H V i)

theorem idx0 : ∀ t : Fin cfg0.N, win0_0.index t = ![t.val / 8, t.val % 8, 0] := (by decide +kernel : ∀ t : Fin grid0.N, _)
theorem idx1 : ∀ t : Fin cfg0.N, win0_1.index t = ![t.val / 8, t.val % 8, 0] := (by decide +kernel : ∀ t : Fin grid0.N, _)
theorem idx2 : ∀ t : Fin cfg0.N, win0_2.index t = ![t.val / 8, t.val % 8, 0] := (by decide +kernel : ∀ t : Fin grid0.N, _)
theorem idx3 : ∀ t : Fin cfg0.N, win0_3.index t = ![t.val % 8, 0] := (by decide +kernel : ∀ t : Fin grid0.N, _)
theorem idx4 : ∀ t : Fin cfg0.N, win0_4.index t = ![t.val % 8, 0] := (by decide +kernel : ∀ t : Fin grid0.N, _)
theorem idx5 : ∀ t : Fin cfg0.N, win0_5.index t = ![t.val / 8, t.val % 8, 0] := (by decide +kernel : ∀ t : Fin grid0.N, _)
theorem idx6 : ∀ t : Fin cfg0.N, win0_6.index t = ![t.val / 8, t.val % 8, 0] := (by decide +kernel : ∀ t : Fin grid0.N, _)
theorem idx7 : ∀ t : Fin cfg0.N, win0_7.index t = ![t.val / 8, t.val % 8, 0] := (by decide +kernel : ∀ t : Fin grid0.N, _)
theorem idx8 : ∀ t : Fin cfg0.N, win0_8.index t = ![t.val / 8, t.val % 8, 0] := (by decide +kernel : ∀ t : Fin grid0.N, _)

/-- The blocks a grid point takes. -/
def blkW (t : Fin cfg0.N) : S1x128x2304.Idx → EReal := iblk m c 0 t
def blkM (t : Fin cfg0.N) : S1x128x2304.Idx → EReal := iblk m c 1 t
def blkV (t : Fin cfg0.N) : S1x128x2304.Idx → EReal := iblk m c 2 t
def blkG (t : Fin cfg0.N) : S128x2304.Idx → EReal := iblk m c 3 t
def blkH (t : Fin cfg0.N) : S128x2304.Idx → EReal := iblk m c 4 t

theorem grad_A (G : S128x2304.Idx → EReal) (j : S1x128x2304.Idx) : k0_pay3 (F := Ideal) G j = G (ix2 (j 1) (j 2)) := by
  pointwise [k0_pay3]

theorem moment_A (G : S128x2304.Idx → EReal) (M : S1x128x2304.Idx → EReal) (j : S1x128x2304.Idx) :
    k0_pay6 (F := Ideal) G M j = moment (M j) (G (ix2 (j 1) (j 2))) := by
  pointwise [k0_pay6, k0_pay4]
  rfl

theorem second_A (G : S128x2304.Idx → EReal) (V : S1x128x2304.Idx → EReal) (j : S1x128x2304.Idx) :
    k0_pay7 (F := Ideal) G V j = second (V j) (G (ix2 (j 1) (j 2))) := by
  pointwise [k0_pay7, k0_pay5]
  rfl

theorem change_A (G : S128x2304.Idx → EReal) (W M V : S1x128x2304.Idx → EReal) (j : S1x128x2304.Idx) :
    k0_pay1 (F := Ideal) (k0_pay8 (F := Ideal) G M V) W j = change (W j) (moment (M j) (G (ix2 (j 1) (j 2)))) (second (V j) (G (ix2 (j 1) (j 2)))) := by
  pointwise [k0_pay1, k0_pay8, k0_pay4, k0_pay5]
  rfl

theorem grad_B (G : S128x2304.Idx → EReal) (j : S1x128x2304.Idx) : k0_pay9 (F := Ideal) G j = G (ix2 (j 1) (j 2)) := by
  pointwise [k0_pay9]

theorem moment_B (G : S128x2304.Idx → EReal) (M : S1x128x2304.Idx → EReal) (j : S1x128x2304.Idx) :
    k0_pay12 (F := Ideal) G M j = moment (M j) (G (ix2 (j 1) (j 2))) := by
  pointwise [k0_pay12, k0_pay10]
  rfl

theorem second_B (G : S128x2304.Idx → EReal) (V : S1x128x2304.Idx → EReal) (j : S1x128x2304.Idx) :
    k0_pay13 (F := Ideal) G V j = second (V j) (G (ix2 (j 1) (j 2))) := by
  pointwise [k0_pay13, k0_pay11]
  rfl

theorem change_B (G : S128x2304.Idx → EReal) (W M V : S1x128x2304.Idx → EReal) (j : S1x128x2304.Idx) :
    k0_pay2 (F := Ideal) (k0_pay14 (F := Ideal) G M V) W j = change (W j) (moment (M j) (G (ix2 (j 1) (j 2)))) (second (V j) (G (ix2 (j 1) (j 2)))) := by
  pointwise [k0_pay2, k0_pay14, k0_pay10, k0_pay11]
  rfl

/-- The gradient a grid point takes at a place of its block. -/
def blkD (t : Fin cfg0.N) (j : S1x128x2304.Idx) : EReal := if t.val < 8 then blkG m c t (ix2 (j 1) (j 2)) else blkH m c t (ix2 (j 1) (j 2))

/-- What a grid point leaves at a place of each of its four blocks. -/
theorem out_at (t : Fin cfg0.N) (j : S1x128x2304.Idx) :
    (outsAt0 m c t.val t.isLt).1 j = blkD m c t j
    ∧ (outsAt0 m c t.val t.isLt).2.1 j = change (blkW m c t j) (moment (blkM m c t j) (blkD m c t j)) (second (blkV m c t j) (blkD m c t j))
    ∧ (outsAt0 m c t.val t.isLt).2.2.1 j = moment (blkM m c t j) (blkD m c t j)
    ∧ (outsAt0 m c t.val t.isLt).2.2.2 j = second (blkV m c t j) (blkD m c t j) := by
  have ht : t.val < 16 := lt_of_lt_of_eq t.isLt N_0
  unfold blkD
  by_cases h : t.val < 8
  · rw [outsAt0_A m c t (by omega) (by omega)]
    simp only [if_pos h]
    refine ⟨?_, ?_, ?_, ?_⟩ <;> frame_out
    · exact grad_A (blkG m c t) j
    · exact change_A (blkG m c t) (blkW m c t) (blkM m c t) (blkV m c t) j
    · exact moment_A (blkG m c t) (blkM m c t) j
    · exact second_A (blkG m c t) (blkV m c t) j
  · rw [outsAt0_B m c t (by omega) (by omega)]
    simp only [if_neg h]
    refine ⟨?_, ?_, ?_, ?_⟩ <;> frame_out
    · exact grad_B (blkH m c t) j
    · exact change_B (blkH m c t) (blkW m c t) (blkM m c t) (blkV m c t) j
    · exact moment_B (blkH m c t) (blkM m c t) j
    · exact second_B (blkH m c t) (blkV m c t) j

section
variable (t : Fin cfg0.N) (i : S2x1024x2304.Idx) (j : S1x128x2304.Idx) (h0 : (i 0).val = t.val / 8 + (j 0).val) (h1 : (i 1).val = t.val % 8 * 128 + (j 1).val) (h2 : (i 2).val = (j 2).val)
include h0 h1 h2

theorem blkW_at : blkW m c t j = argW m c i := by blk_point [blkW, iblk, V, idx0 t, argW]
theorem blkM_at : blkM m c t j = argM m c i := by blk_point [blkM, iblk, V, idx1 t, argM]
theorem blkV_at : blkV m c t j = argV m c i := by blk_point [blkV, iblk, V, idx2 t, argV]
theorem blkD_at : blkD m c t j = grad (argG m c) (argH m c) i := by
  have hj : (j 0).val < 1 := (j 0).isLt
  unfold blkD grad
  by_cases h : t.val < 8
  · rw [if_pos h, if_pos (by omega)]
    blk_point [blkG, iblk, V, idx3 t, argG]
  · rw [if_neg h, if_neg (by omega)]
    blk_point [blkH, iblk, V, idx4 t, argH]

end

theorem out5_at (t : Fin cfg0.N) (i : S2x1024x2304.Idx) (j : S1x128x2304.Idx) (h0 : (i 0).val = t.val / 8 + (j 0).val) (h1 : (i 1).val = t.val % 8 * 128 + (j 1).val) (h2 : (i 2).val = (j 2).val) :
    (outsAt0 m c t.val t.isLt).1 j = grad (argG m c) (argH m c) i := by
  rw [(out_at m c t j).1, blkD_at m c t i j h0 h1 h2]

theorem array5 : (dats m 0 c).arrAt 5 cfg0.N = grad (argG m c) (argH m c) := by
  refine (dats m 0 c).arrAt_eq_of_coversWhere_of_agree 5 (grad (argG m c) (argH m c)) (fun _ => True) (by decide +kernel) (fun t hf y => ?_) (fun j hj => absurd trivial hj)
  blk_simp
  rw [after0_5]
  refine out5_at m c t _ _ ?_ ?_ ?_
  · refine Eq.trans (b := win0_5.index t 0 * 1 + (y 0).val) (by blk_simp) ?_
    rw [idx5 t]
    show t.val / 8 * 1 + (y 0).val = t.val / 8 + (y 0).val
    omega
  · refine Eq.trans (b := win0_5.index t 1 * 128 + (y 1).val) (by blk_simp) ?_
    rw [idx5 t]
    rfl
  · refine Eq.trans (b := win0_5.index t 2 * 2304 + (y 2).val) (by blk_simp) ?_
    rw [idx5 t]
    show 0 * 2304 + (y 2).val = (y 2).val
    omega

theorem out6_at (t : Fin cfg0.N) (i : S2x1024x2304.Idx) (j : S1x128x2304.Idx) (h0 : (i 0).val = t.val / 8 + (j 0).val) (h1 : (i 1).val = t.val % 8 * 128 + (j 1).val) (h2 : (i 2).val = (j 2).val) :
    (outsAt0 m c t.val t.isLt).2.1 j = delta (argW m c) (argG m c) (argH m c) (argM m c) (argV m c) i := by
  rw [(out_at m c t j).2.1, blkW_at m c t i j h0 h1 h2, blkM_at m c t i j h0 h1 h2, blkV_at m c t i j h0 h1 h2, blkD_at m c t i j h0 h1 h2]
  rfl

theorem array6 : (dats m 0 c).arrAt 6 cfg0.N = delta (argW m c) (argG m c) (argH m c) (argM m c) (argV m c) := by
  refine (dats m 0 c).arrAt_eq_of_coversWhere_of_agree 6 (delta (argW m c) (argG m c) (argH m c) (argM m c) (argV m c)) (fun _ => True) (by decide +kernel) (fun t hf y => ?_) (fun j hj => absurd trivial hj)
  blk_simp
  rw [after0_6]
  refine out6_at m c t _ _ ?_ ?_ ?_
  · refine Eq.trans (b := win0_6.index t 0 * 1 + (y 0).val) (by blk_simp) ?_
    rw [idx6 t]
    show t.val / 8 * 1 + (y 0).val = t.val / 8 + (y 0).val
    omega
  · refine Eq.trans (b := win0_6.index t 1 * 128 + (y 1).val) (by blk_simp) ?_
    rw [idx6 t]
    rfl
  · refine Eq.trans (b := win0_6.index t 2 * 2304 + (y 2).val) (by blk_simp) ?_
    rw [idx6 t]
    show 0 * 2304 + (y 2).val = (y 2).val
    omega

theorem out7_at (t : Fin cfg0.N) (i : S2x1024x2304.Idx) (j : S1x128x2304.Idx) (h0 : (i 0).val = t.val / 8 + (j 0).val) (h1 : (i 1).val = t.val % 8 * 128 + (j 1).val) (h2 : (i 2).val = (j 2).val) :
    (outsAt0 m c t.val t.isLt).2.2.1 j = newM (argG m c) (argH m c) (argM m c) i := by
  rw [(out_at m c t j).2.2.1, blkM_at m c t i j h0 h1 h2, blkD_at m c t i j h0 h1 h2]
  rfl

theorem array7 : (dats m 0 c).arrAt 7 cfg0.N = newM (argG m c) (argH m c) (argM m c) := by
  refine (dats m 0 c).arrAt_eq_of_coversWhere_of_agree 7 (newM (argG m c) (argH m c) (argM m c)) (fun _ => True) (by decide +kernel) (fun t hf y => ?_) (fun j hj => absurd trivial hj)
  blk_simp
  rw [after0_7]
  refine out7_at m c t _ _ ?_ ?_ ?_
  · refine Eq.trans (b := win0_7.index t 0 * 1 + (y 0).val) (by blk_simp) ?_
    rw [idx7 t]
    show t.val / 8 * 1 + (y 0).val = t.val / 8 + (y 0).val
    omega
  · refine Eq.trans (b := win0_7.index t 1 * 128 + (y 1).val) (by blk_simp) ?_
    rw [idx7 t]
    rfl
  · refine Eq.trans (b := win0_7.index t 2 * 2304 + (y 2).val) (by blk_simp) ?_
    rw [idx7 t]
    show 0 * 2304 + (y 2).val = (y 2).val
    omega

theorem out8_at (t : Fin cfg0.N) (i : S2x1024x2304.Idx) (j : S1x128x2304.Idx) (h0 : (i 0).val = t.val / 8 + (j 0).val) (h1 : (i 1).val = t.val % 8 * 128 + (j 1).val) (h2 : (i 2).val = (j 2).val) :
    (outsAt0 m c t.val t.isLt).2.2.2 j = newV (argG m c) (argH m c) (argV m c) i := by
  rw [(out_at m c t j).2.2.2, blkV_at m c t i j h0 h1 h2, blkD_at m c t i j h0 h1 h2]
  rfl

theorem array8 : (dats m 0 c).arrAt 8 cfg0.N = newV (argG m c) (argH m c) (argV m c) := by
  refine (dats m 0 c).arrAt_eq_of_coversWhere_of_agree 8 (newV (argG m c) (argH m c) (argV m c)) (fun _ => True) (by decide +kernel) (fun t hf y => ?_) (fun j hj => absurd trivial hj)
  blk_simp
  rw [after0_8]
  refine out8_at m c t _ _ ?_ ?_ ?_
  · refine Eq.trans (b := win0_8.index t 0 * 1 + (y 0).val) (by blk_simp) ?_
    rw [idx8 t]
    show t.val / 8 * 1 + (y 0).val = t.val / 8 + (y 0).val
    omega
  · refine Eq.trans (b := win0_8.index t 1 * 128 + (y 1).val) (by blk_simp) ?_
    rw [idx8 t]
    rfl
  · refine Eq.trans (b := win0_8.index t 2 * 2304 + (y 2).val) (by blk_simp) ?_
    rw [idx8 t]
    show 0 * 2304 + (y 2).val = (y 2).val
    omega

end Cert.KernelAdamInIdeal.Block

namespace Cert.ReferenceAdamInIdeal.Block

open Cert.ReferenceAdamInIdeal Cert.ReferenceAdamInIdeal.Gen Cert.ReferenceAdamInIdeal.Read Idealize.ShloMosaic Cert.Products Cert.Forward Cert.Adam
open Cert.KernelAdamInIdeal.Block (grad newM newV delta)

theorem read2 (x1 x2 : S1024x2304.Idx → EReal) : val_main_v2 (F := Ideal) x1 x2 = grad x1 x2 := by
  refine funext fun (i : S2x1024x2304.Idx) => ?_
  have hi : (i 0).val < 2 := (i 0).isLt
  unfold val_main_v2 grad
  by_cases h : (i 0).val = 0
  · rw [if_pos h]
    refine (concatenate_pair_apply_left (s₁ := S1x1024x2304) (s₂ := S1x1024x2304) 0 (val_main_v0 (F := Ideal) x1) (val_main_v1 (F := Ideal) x2) _ i rfl (ix3 ⟨(i 0).val, by omega⟩ (i 1) (i 2)) fun b => ?_).trans ?_
    · match b with
      | ⟨0, _⟩ => rfl
      | ⟨1, _⟩ => rfl
      | ⟨2, _⟩ => rfl
    · refine (val_main_v0_apply (F := Ideal) x1 _).trans ?_
      exact congrArg x1 (eq_ix2 _ (i 1) (i 2) rfl rfl)
  · rw [if_neg h]
    refine (concatenate_pair_apply_right (s₁ := S1x1024x2304) (s₂ := S1x1024x2304) 0 (val_main_v0 (F := Ideal) x1) (val_main_v1 (F := Ideal) x2) _ i rfl rfl (ix3 ⟨(i 0).val - 1, by omega⟩ (i 1) (i 2)) (fun b hb => ?_) ?_).trans ?_
    · match b with
      | ⟨0, _⟩ => exact absurd rfl hb
      | ⟨1, _⟩ => rfl
      | ⟨2, _⟩ => rfl
    · show (i 0).val - 1 + 1 = (i 0).val
      omega
    · refine (val_main_v1_apply (F := Ideal) x2 _).trans ?_
      exact congrArg x2 (eq_ix2 _ (i 1) (i 2) rfl rfl)

theorem read7 (x1 x2 : S1024x2304.Idx → EReal) (x3 : S2x1024x2304.Idx → EReal) : val_main_v7 (F := Ideal) x1 x2 x3 = newM x1 x2 x3 := by
  refine funext fun (i : S2x1024x2304.Idx) => ?_
  pointwise [val_main_v7_apply, val_main_v6_apply, val_main_v5_apply, val_main_v4_apply, val_main_v3_apply, val_main_cst_apply, val_main_cst_0_apply]
  rw [read2]
  rfl

theorem read13 (x1 x2 : S1024x2304.Idx → EReal) (x4 : S2x1024x2304.Idx → EReal) : val_main_v13 (F := Ideal) x1 x2 x4 = newV x1 x2 x4 := by
  refine funext fun (i : S2x1024x2304.Idx) => ?_
  pointwise [val_main_v13_apply, val_main_v12_apply, val_main_v11_apply, val_main_v10_apply, val_main_v9_apply, val_main_v8_apply, val_main_cst_1_apply, val_main_cst_2_apply]
  rw [read2]
  rfl

theorem read26 (x0 : S2x1024x2304.Idx → EReal) (x1 x2 : S1024x2304.Idx → EReal) (x3 x4 : S2x1024x2304.Idx → EReal) : val_main_v26 (F := Ideal) x0 x1 x2 x3 x4 = delta x0 x1 x2 x3 x4 := by
  refine funext fun (i : S2x1024x2304.Idx) => ?_
  pointwise [val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_cst_3_apply, val_main_cst_4_apply, val_main_cst_5_apply, val_main_cst_6_apply, val_main_cst_7_apply]
  rw [read7, read13]
  rfl

end Cert.ReferenceAdamInIdeal.Block
-- ==== Proof.Adam.Square.lean ====
/-
  AdamW's step on a square weight of the token mixer: each grid point the weight of one layer, with that layer's gradient.
-/
module

public import proofs.«01_k».proof.Proof.Adam.Step
public import proofs.«01_k».proof.Proof.Products.Sums
public import proofs.«01_k».proof.Proof.Forward.Places
public import proofs.«01_k».proof.Proof.Gen.KernelAdamSquareIdeal.Value
public import proofs.«01_k».proof.Proof.Gen.ReferenceAdamSquareIdeal.Read
public import Idealize.ShloMosaic.Lib.Pipeline.ReadBack
public import Idealize.ShloMosaic.Lib.Pipeline.ValueKit

@[expose] public section

noncomputable section

namespace Cert.KernelAdamSquareIdeal.Block

open Cert.KernelAdamSquareIdeal Cert.KernelAdamSquareIdeal.Gen Idealize.ShloMosaic Idealize.ShloMosaic.TcCoe Cert.Products Cert.Forward Cert.Adam
open Idealize.ShloMosaic.Pipeline (Dat)

variable (m : (ℓ : Loc nD τ sig) → Buf (Elt Ideal) ℓ) (c : Dev nD)

/-- The weight, its gradient in each layer, and its two moments. -/
def argW : S2x256x1024.Idx → EReal := m ((c : Thread nD τ).loc main_arg0)
def argG : S256x1024.Idx → EReal := m ((c : Thread nD τ).loc main_arg1)
def argH : S256x1024.Idx → EReal := m ((c : Thread nD τ).loc main_arg2)
def argM : S2x256x1024.Idx → EReal := m ((c : Thread nD τ).loc main_arg3)
def argV : S2x256x1024.Idx → EReal := m ((c : Thread nD τ).loc main_arg4)

/-- The results: the gradient of both layers, the new moments, and the change of the weight. -/
def grad (G H : S256x1024.Idx → EReal) : S2x256x1024.Idx → EReal :=
  fun i => if (i 0).val = 0 then G (ix2 (i 1) (i 2)) else H (ix2 (i 1) (i 2))
def newM (G H : S256x1024.Idx → EReal) (M : S2x256x1024.Idx → EReal) : S2x256x1024.Idx → EReal := fun i => moment (M i) (grad G H i)
def newV (G H : S256x1024.Idx → EReal) (V : S2x256x1024.Idx → EReal) : S2x256x1024.Idx → EReal := fun i => second (V i) (grad G H i)
def delta (W : S2x256x1024.Idx → EReal) (G H : S256x1024.Idx → EReal) (M V : S2x256x1024.Idx → EReal) : S2x256x1024.Idx → EReal :=
  fun i => change (W i) (newM G H M i) (newV G H V i)

theorem idx0 : ∀ t : Fin cfg0.N, win0_0.index t = ![t.val / 1, t.val % 1, 0] := (by decide +kernel : ∀ t : Fin grid0.N, _)
theorem idx1 : ∀ t : Fin cfg0.N, win0_1.index t = ![t.val / 1, t.val % 1, 0] := (by decide +kernel : ∀ t : Fin grid0.N, _)
theorem idx2 : ∀ t : Fin cfg0.N, win0_2.index t = ![t.val / 1, t.val % 1, 0] := (by decide +kernel : ∀ t : Fin grid0.N, _)
theorem idx3 : ∀ t : Fin cfg0.N, win0_3.index t = ![t.val % 1, 0] := (by decide +kernel : ∀ t : Fin grid0.N, _)
theorem idx4 : ∀ t : Fin cfg0.N, win0_4.index t = ![t.val % 1, 0] := (by decide +kernel : ∀ t : Fin grid0.N, _)
theorem idx5 : ∀ t : Fin cfg0.N, win0_5.index t = ![t.val / 1, t.val % 1, 0] := (by decide +kernel : ∀ t : Fin grid0.N, _)
theorem idx6 : ∀ t : Fin cfg0.N, win0_6.index t = ![t.val / 1, t.val % 1, 0] := (by decide +kernel : ∀ t : Fin grid0.N, _)
theorem idx7 : ∀ t : Fin cfg0.N, win0_7.index t = ![t.val / 1, t.val % 1, 0] := (by decide +kernel : ∀ t : Fin grid0.N, _)
theorem idx8 : ∀ t : Fin cfg0.N, win0_8.index t = ![t.val / 1, t.val % 1, 0] := (by decide +kernel : ∀ t : Fin grid0.N, _)

/-- The blocks a grid point takes. -/
def blkW (t : Fin cfg0.N) : S1x256x1024.Idx → EReal := iblk m c 0 t
def blkM (t : Fin cfg0.N) : S1x256x1024.Idx → EReal := iblk m c 1 t
def blkV (t : Fin cfg0.N) : S1x256x1024.Idx → EReal := iblk m c 2 t
def blkG (t : Fin cfg0.N) : S256x1024.Idx → EReal := iblk m c 3 t
def blkH (t : Fin cfg0.N) : S256x1024.Idx → EReal := iblk m c 4 t

theorem grad_A (G : S256x1024.Idx → EReal) (j : S1x256x1024.Idx) : k0_pay3 (F := Ideal) G j = G (ix2 (j 1) (j 2)) := by
  pointwise [k0_pay3]

theorem moment_A (G : S256x1024.Idx → EReal) (M : S1x256x1024.Idx → EReal) (j : S1x256x1024.Idx) :
    k0_pay6 (F := Ideal) G M j = moment (M j) (G (ix2 (j 1) (j 2))) := by
  pointwise [k0_pay6, k0_pay4]
  rfl

theorem second_A (G : S256x1024.Idx → EReal) (V : S1x256x1024.Idx → EReal) (j : S1x256x1024.Idx) :
    k0_pay7 (F := Ideal) G V j = second (V j) (G (ix2 (j 1) (j 2))) := by
  pointwise [k0_pay7, k0_pay5]
  rfl

theorem change_A (G : S256x1024.Idx → EReal) (W M V : S1x256x1024.Idx → EReal) (j : S1x256x1024.Idx) :
    k0_pay1 (F := Ideal) (k0_pay8 (F := Ideal) G M V) W j = change (W j) (moment (M j) (G (ix2 (j 1) (j 2)))) (second (V j) (G (ix2 (j 1) (j 2)))) := by
  pointwise [k0_pay1, k0_pay8, k0_pay4, k0_pay5]
  rfl

theorem grad_B (G : S256x1024.Idx → EReal) (j : S1x256x1024.Idx) : k0_pay9 (F := Ideal) G j = G (ix2 (j 1) (j 2)) := by
  pointwise [k0_pay9]

theorem moment_B (G : S256x1024.Idx → EReal) (M : S1x256x1024.Idx → EReal) (j : S1x256x1024.Idx) :
    k0_pay12 (F := Ideal) G M j = moment (M j) (G (ix2 (j 1) (j 2))) := by
  pointwise [k0_pay12, k0_pay10]
  rfl

theorem second_B (G : S256x1024.Idx → EReal) (V : S1x256x1024.Idx → EReal) (j : S1x256x1024.Idx) :
    k0_pay13 (F := Ideal) G V j = second (V j) (G (ix2 (j 1) (j 2))) := by
  pointwise [k0_pay13, k0_pay11]
  rfl

theorem change_B (G : S256x1024.Idx → EReal) (W M V : S1x256x1024.Idx → EReal) (j : S1x256x1024.Idx) :
    k0_pay2 (F := Ideal) (k0_pay14 (F := Ideal) G M V) W j = change (W j) (moment (M j) (G (ix2 (j 1) (j 2)))) (second (V j) (G (ix2 (j 1) (j 2)))) := by
  pointwise [k0_pay2, k0_pay14, k0_pay10, k0_pay11]
  rfl

/-- The gradient a grid point takes at a place of its block. -/
def blkD (t : Fin cfg0.N) (j : S1x256x1024.Idx) : EReal := if t.val < 1 then blkG m c t (ix2 (j 1) (j 2)) else blkH m c t (ix2 (j 1) (j 2))

/-- What a grid point leaves at a place of each of its four blocks. -/
theorem out_at (t : Fin cfg0.N) (j : S1x256x1024.Idx) :
    (outsAt0 m c t.val t.isLt).1 j = blkD m c t j
    ∧ (outsAt0 m c t.val t.isLt).2.1 j = change (blkW m c t j) (moment (blkM m c t j) (blkD m c t j)) (second (blkV m c t j) (blkD m c t j))
    ∧ (outsAt0 m c t.val t.isLt).2.2.1 j = moment (blkM m c t j) (blkD m c t j)
    ∧ (outsAt0 m c t.val t.isLt).2.2.2 j = second (blkV m c t j) (blkD m c t j) := by
  have ht : t.val < 2 := lt_of_lt_of_eq t.isLt N_0
  unfold blkD
  by_cases h : t.val < 1
  · rw [outsAt0_A m c t (by omega) (by omega)]
    simp only [if_pos h]
    refine ⟨?_, ?_, ?_, ?_⟩ <;> frame_out
    · exact grad_A (blkG m c t) j
    · exact change_A (blkG m c t) (blkW m c t) (blkM m c t) (blkV m c t) j
    · exact moment_A (blkG m c t) (blkM m c t) j
    · exact second_A (blkG m c t) (blkV m c t) j
  · rw [outsAt0_B m c t (by omega) (by omega)]
    simp only [if_neg h]
    refine ⟨?_, ?_, ?_, ?_⟩ <;> frame_out
    · exact grad_B (blkH m c t) j
    · exact change_B (blkH m c t) (blkW m c t) (blkM m c t) (blkV m c t) j
    · exact moment_B (blkH m c t) (blkM m c t) j
    · exact second_B (blkH m c t) (blkV m c t) j

section
variable (t : Fin cfg0.N) (i : S2x256x1024.Idx) (j : S1x256x1024.Idx) (h0 : (i 0).val = t.val / 1 + (j 0).val) (h1 : (i 1).val = t.val % 1 * 256 + (j 1).val) (h2 : (i 2).val = (j 2).val)
include h0 h1 h2

theorem blkW_at : blkW m c t j = argW m c i := by blk_point [blkW, iblk, V, idx0 t, argW]
theorem blkM_at : blkM m c t j = argM m c i := by blk_point [blkM, iblk, V, idx1 t, argM]
theorem blkV_at : blkV m c t j = argV m c i := by blk_point [blkV, iblk, V, idx2 t, argV]
theorem blkD_at : blkD m c t j = grad (argG m c) (argH m c) i := by
  have hj : (j 0).val < 1 := (j 0).isLt
  unfold blkD grad
  by_cases h : t.val < 1
  · rw [if_pos h, if_pos (by omega)]
    blk_point [blkG, iblk, V, idx3 t, argG]
  · rw [if_neg h, if_neg (by omega)]
    blk_point [blkH, iblk, V, idx4 t, argH]

end

theorem out5_at (t : Fin cfg0.N) (i : S2x256x1024.Idx) (j : S1x256x1024.Idx) (h0 : (i 0).val = t.val / 1 + (j 0).val) (h1 : (i 1).val = t.val % 1 * 256 + (j 1).val) (h2 : (i 2).val = (j 2).val) :
    (outsAt0 m c t.val t.isLt).1 j = grad (argG m c) (argH m c) i := by
  rw [(out_at m c t j).1, blkD_at m c t i j h0 h1 h2]

theorem array5 : (dats m 0 c).arrAt 5 cfg0.N = grad (argG m c) (argH m c) := by
  refine (dats m 0 c).arrAt_eq_of_coversWhere_of_agree 5 (grad (argG m c) (argH m c)) (fun _ => True) (by decide +kernel) (fun t hf y => ?_) (fun j hj => absurd trivial hj)
  blk_simp
  rw [after0_5]
  refine out5_at m c t _ _ ?_ ?_ ?_
  · refine Eq.trans (b := win0_5.index t 0 * 1 + (y 0).val) (by blk_simp) ?_
    rw [idx5 t]
    show t.val / 1 * 1 + (y 0).val = t.val / 1 + (y 0).val
    omega
  · refine Eq.trans (b := win0_5.index t 1 * 256 + (y 1).val) (by blk_simp) ?_
    rw [idx5 t]
    rfl
  · refine Eq.trans (b := win0_5.index t 2 * 1024 + (y 2).val) (by blk_simp) ?_
    rw [idx5 t]
    show 0 * 1024 + (y 2).val = (y 2).val
    omega

theorem out6_at (t : Fin cfg0.N) (i : S2x256x1024.Idx) (j : S1x256x1024.Idx) (h0 : (i 0).val = t.val / 1 + (j 0).val) (h1 : (i 1).val = t.val % 1 * 256 + (j 1).val) (h2 : (i 2).val = (j 2).val) :
    (outsAt0 m c t.val t.isLt).2.1 j = delta (argW m c) (argG m c) (argH m c) (argM m c) (argV m c) i := by
  rw [(out_at m c t j).2.1, blkW_at m c t i j h0 h1 h2, blkM_at m c t i j h0 h1 h2, blkV_at m c t i j h0 h1 h2, blkD_at m c t i j h0 h1 h2]
  rfl

theorem array6 : (dats m 0 c).arrAt 6 cfg0.N = delta (argW m c) (argG m c) (argH m c) (argM m c) (argV m c) := by
  refine (dats m 0 c).arrAt_eq_of_coversWhere_of_agree 6 (delta (argW m c) (argG m c) (argH m c) (argM m c) (argV m c)) (fun _ => True) (by decide +kernel) (fun t hf y => ?_) (fun j hj => absurd trivial hj)
  blk_simp
  rw [after0_6]
  refine out6_at m c t _ _ ?_ ?_ ?_
  · refine Eq.trans (b := win0_6.index t 0 * 1 + (y 0).val) (by blk_simp) ?_
    rw [idx6 t]
    show t.val / 1 * 1 + (y 0).val = t.val / 1 + (y 0).val
    omega
  · refine Eq.trans (b := win0_6.index t 1 * 256 + (y 1).val) (by blk_simp) ?_
    rw [idx6 t]
    rfl
  · refine Eq.trans (b := win0_6.index t 2 * 1024 + (y 2).val) (by blk_simp) ?_
    rw [idx6 t]
    show 0 * 1024 + (y 2).val = (y 2).val
    omega

theorem out7_at (t : Fin cfg0.N) (i : S2x256x1024.Idx) (j : S1x256x1024.Idx) (h0 : (i 0).val = t.val / 1 + (j 0).val) (h1 : (i 1).val = t.val % 1 * 256 + (j 1).val) (h2 : (i 2).val = (j 2).val) :
    (outsAt0 m c t.val t.isLt).2.2.1 j = newM (argG m c) (argH m c) (argM m c) i := by
  rw [(out_at m c t j).2.2.1, blkM_at m c t i j h0 h1 h2, blkD_at m c t i j h0 h1 h2]
  rfl

theorem array7 : (dats m 0 c).arrAt 7 cfg0.N = newM (argG m c) (argH m c) (argM m c) := by
  refine (dats m 0 c).arrAt_eq_of_coversWhere_of_agree 7 (newM (argG m c) (argH m c) (argM m c)) (fun _ => True) (by decide +kernel) (fun t hf y => ?_) (fun j hj => absurd trivial hj)
  blk_simp
  rw [after0_7]
  refine out7_at m c t _ _ ?_ ?_ ?_
  · refine Eq.trans (b := win0_7.index t 0 * 1 + (y 0).val) (by blk_simp) ?_
    rw [idx7 t]
    show t.val / 1 * 1 + (y 0).val = t.val / 1 + (y 0).val
    omega
  · refine Eq.trans (b := win0_7.index t 1 * 256 + (y 1).val) (by blk_simp) ?_
    rw [idx7 t]
    rfl
  · refine Eq.trans (b := win0_7.index t 2 * 1024 + (y 2).val) (by blk_simp) ?_
    rw [idx7 t]
    show 0 * 1024 + (y 2).val = (y 2).val
    omega

theorem out8_at (t : Fin cfg0.N) (i : S2x256x1024.Idx) (j : S1x256x1024.Idx) (h0 : (i 0).val = t.val / 1 + (j 0).val) (h1 : (i 1).val = t.val % 1 * 256 + (j 1).val) (h2 : (i 2).val = (j 2).val) :
    (outsAt0 m c t.val t.isLt).2.2.2 j = newV (argG m c) (argH m c) (argV m c) i := by
  rw [(out_at m c t j).2.2.2, blkV_at m c t i j h0 h1 h2, blkD_at m c t i j h0 h1 h2]
  rfl

theorem array8 : (dats m 0 c).arrAt 8 cfg0.N = newV (argG m c) (argH m c) (argV m c) := by
  refine (dats m 0 c).arrAt_eq_of_coversWhere_of_agree 8 (newV (argG m c) (argH m c) (argV m c)) (fun _ => True) (by decide +kernel) (fun t hf y => ?_) (fun j hj => absurd trivial hj)
  blk_simp
  rw [after0_8]
  refine out8_at m c t _ _ ?_ ?_ ?_
  · refine Eq.trans (b := win0_8.index t 0 * 1 + (y 0).val) (by blk_simp) ?_
    rw [idx8 t]
    show t.val / 1 * 1 + (y 0).val = t.val / 1 + (y 0).val
    omega
  · refine Eq.trans (b := win0_8.index t 1 * 256 + (y 1).val) (by blk_simp) ?_
    rw [idx8 t]
    rfl
  · refine Eq.trans (b := win0_8.index t 2 * 1024 + (y 2).val) (by blk_simp) ?_
    rw [idx8 t]
    show 0 * 1024 + (y 2).val = (y 2).val
    omega

end Cert.KernelAdamSquareIdeal.Block

namespace Cert.ReferenceAdamSquareIdeal.Block

open Cert.ReferenceAdamSquareIdeal Cert.ReferenceAdamSquareIdeal.Gen Cert.ReferenceAdamSquareIdeal.Read Idealize.ShloMosaic Cert.Products Cert.Forward Cert.Adam
open Cert.KernelAdamSquareIdeal.Block (grad newM newV delta)

theorem read2 (x1 x2 : S256x1024.Idx → EReal) : val_main_v2 (F := Ideal) x1 x2 = grad x1 x2 := by
  refine funext fun (i : S2x256x1024.Idx) => ?_
  have hi : (i 0).val < 2 := (i 0).isLt
  unfold val_main_v2 grad
  by_cases h : (i 0).val = 0
  · rw [if_pos h]
    refine (concatenate_pair_apply_left (s₁ := S1x256x1024) (s₂ := S1x256x1024) 0 (val_main_v0 (F := Ideal) x1) (val_main_v1 (F := Ideal) x2) _ i rfl (ix3 ⟨(i 0).val, by omega⟩ (i 1) (i 2)) fun b => ?_).trans ?_
    · match b with
      | ⟨0, _⟩ => rfl
      | ⟨1, _⟩ => rfl
      | ⟨2, _⟩ => rfl
    · refine (val_main_v0_apply (F := Ideal) x1 _).trans ?_
      exact congrArg x1 (eq_ix2 _ (i 1) (i 2) rfl rfl)
  · rw [if_neg h]
    refine (concatenate_pair_apply_right (s₁ := S1x256x1024) (s₂ := S1x256x1024) 0 (val_main_v0 (F := Ideal) x1) (val_main_v1 (F := Ideal) x2) _ i rfl rfl (ix3 ⟨(i 0).val - 1, by omega⟩ (i 1) (i 2)) (fun b hb => ?_) ?_).trans ?_
    · match b with
      | ⟨0, _⟩ => exact absurd rfl hb
      | ⟨1, _⟩ => rfl
      | ⟨2, _⟩ => rfl
    · show (i 0).val - 1 + 1 = (i 0).val
      omega
    · refine (val_main_v1_apply (F := Ideal) x2 _).trans ?_
      exact congrArg x2 (eq_ix2 _ (i 1) (i 2) rfl rfl)

theorem read7 (x1 x2 : S256x1024.Idx → EReal) (x3 : S2x256x1024.Idx → EReal) : val_main_v7 (F := Ideal) x1 x2 x3 = newM x1 x2 x3 := by
  refine funext fun (i : S2x256x1024.Idx) => ?_
  pointwise [val_main_v7_apply, val_main_v6_apply, val_main_v5_apply, val_main_v4_apply, val_main_v3_apply, val_main_cst_apply, val_main_cst_0_apply]
  rw [read2]
  rfl

theorem read13 (x1 x2 : S256x1024.Idx → EReal) (x4 : S2x256x1024.Idx → EReal) : val_main_v13 (F := Ideal) x1 x2 x4 = newV x1 x2 x4 := by
  refine funext fun (i : S2x256x1024.Idx) => ?_
  pointwise [val_main_v13_apply, val_main_v12_apply, val_main_v11_apply, val_main_v10_apply, val_main_v9_apply, val_main_v8_apply, val_main_cst_1_apply, val_main_cst_2_apply]
  rw [read2]
  rfl

theorem read26 (x0 : S2x256x1024.Idx → EReal) (x1 x2 : S256x1024.Idx → EReal) (x3 x4 : S2x256x1024.Idx → EReal) : val_main_v26 (F := Ideal) x0 x1 x2 x3 x4 = delta x0 x1 x2 x3 x4 := by
  refine funext fun (i : S2x256x1024.Idx) => ?_
  pointwise [val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_cst_3_apply, val_main_cst_4_apply, val_main_cst_5_apply, val_main_cst_6_apply, val_main_cst_7_apply]
  rw [read7, read13]
  rfl

end Cert.ReferenceAdamSquareIdeal.Block
-- ==== Proof.Adam.Up.lean ====
/-
  AdamW's step on the up projection's weight: each grid point a block of 256 rows of one layer, with that layer's gradient.
-/
module

public import proofs.«01_k».proof.Proof.Adam.Step
public import proofs.«01_k».proof.Proof.Products.Sums
public import proofs.«01_k».proof.Proof.Forward.Places
public import proofs.«01_k».proof.Proof.Gen.KernelAdamUpIdeal.Value
public import proofs.«01_k».proof.Proof.Gen.ReferenceAdamUpIdeal.Read
public import Idealize.ShloMosaic.Lib.Pipeline.ReadBack
public import Idealize.ShloMosaic.Lib.Pipeline.ValueKit

@[expose] public section

noncomputable section

namespace Cert.KernelAdamUpIdeal.Block

open Cert.KernelAdamUpIdeal Cert.KernelAdamUpIdeal.Gen Idealize.ShloMosaic Idealize.ShloMosaic.TcCoe Cert.Products Cert.Forward Cert.Adam
open Idealize.ShloMosaic.Pipeline (Dat)

variable (m : (ℓ : Loc nD τ sig) → Buf (Elt Ideal) ℓ) (c : Dev nD)

/-- The weight, its gradient in each layer, and its two moments. -/
def argW : S2x1024x1408.Idx → EReal := m ((c : Thread nD τ).loc main_arg0)
def argG : S1024x1408.Idx → EReal := m ((c : Thread nD τ).loc main_arg1)
def argH : S1024x1408.Idx → EReal := m ((c : Thread nD τ).loc main_arg2)
def argM : S2x1024x1408.Idx → EReal := m ((c : Thread nD τ).loc main_arg3)
def argV : S2x1024x1408.Idx → EReal := m ((c : Thread nD τ).loc main_arg4)

/-- The results: the gradient of both layers, the new moments, and the change of the weight. -/
def grad (G H : S1024x1408.Idx → EReal) : S2x1024x1408.Idx → EReal :=
  fun i => if (i 0).val = 0 then G (ix2 (i 1) (i 2)) else H (ix2 (i 1) (i 2))
def newM (G H : S1024x1408.Idx → EReal) (M : S2x1024x1408.Idx → EReal) : S2x1024x1408.Idx → EReal := fun i => moment (M i) (grad G H i)
def newV (G H : S1024x1408.Idx → EReal) (V : S2x1024x1408.Idx → EReal) : S2x1024x1408.Idx → EReal := fun i => second (V i) (grad G H i)
def delta (W : S2x1024x1408.Idx → EReal) (G H : S1024x1408.Idx → EReal) (M V : S2x1024x1408.Idx → EReal) : S2x1024x1408.Idx → EReal :=
  fun i => change (W i) (newM G H M i) (newV G H V i)

theorem idx0 : ∀ t : Fin cfg0.N, win0_0.index t = ![t.val / 4, t.val % 4, 0] := (by decide +kernel : ∀ t : Fin grid0.N, _)
theorem idx1 : ∀ t : Fin cfg0.N, win0_1.index t = ![t.val / 4, t.val % 4, 0] := (by decide +kernel : ∀ t : Fin grid0.N, _)
theorem idx2 : ∀ t : Fin cfg0.N, win0_2.index t = ![t.val / 4, t.val % 4, 0] := (by decide +kernel : ∀ t : Fin grid0.N, _)
theorem idx3 : ∀ t : Fin cfg0.N, win0_3.index t = ![t.val % 4, 0] := (by decide +kernel : ∀ t : Fin grid0.N, _)
theorem idx4 : ∀ t : Fin cfg0.N, win0_4.index t = ![t.val % 4, 0] := (by decide +kernel : ∀ t : Fin grid0.N, _)
theorem idx5 : ∀ t : Fin cfg0.N, win0_5.index t = ![t.val / 4, t.val % 4, 0] := (by decide +kernel : ∀ t : Fin grid0.N, _)
theorem idx6 : ∀ t : Fin cfg0.N, win0_6.index t = ![t.val / 4, t.val % 4, 0] := (by decide +kernel : ∀ t : Fin grid0.N, _)
theorem idx7 : ∀ t : Fin cfg0.N, win0_7.index t = ![t.val / 4, t.val % 4, 0] := (by decide +kernel : ∀ t : Fin grid0.N, _)
theorem idx8 : ∀ t : Fin cfg0.N, win0_8.index t = ![t.val / 4, t.val % 4, 0] := (by decide +kernel : ∀ t : Fin grid0.N, _)

/-- The blocks a grid point takes. -/
def blkW (t : Fin cfg0.N) : S1x256x1408.Idx → EReal := iblk m c 0 t
def blkM (t : Fin cfg0.N) : S1x256x1408.Idx → EReal := iblk m c 1 t
def blkV (t : Fin cfg0.N) : S1x256x1408.Idx → EReal := iblk m c 2 t
def blkG (t : Fin cfg0.N) : S256x1408.Idx → EReal := iblk m c 3 t
def blkH (t : Fin cfg0.N) : S256x1408.Idx → EReal := iblk m c 4 t

theorem grad_A (G : S256x1408.Idx → EReal) (j : S1x256x1408.Idx) : k0_pay3 (F := Ideal) G j = G (ix2 (j 1) (j 2)) := by
  pointwise [k0_pay3]

theorem moment_A (G : S256x1408.Idx → EReal) (M : S1x256x1408.Idx → EReal) (j : S1x256x1408.Idx) :
    k0_pay6 (F := Ideal) G M j = moment (M j) (G (ix2 (j 1) (j 2))) := by
  pointwise [k0_pay6, k0_pay4]
  rfl

theorem second_A (G : S256x1408.Idx → EReal) (V : S1x256x1408.Idx → EReal) (j : S1x256x1408.Idx) :
    k0_pay7 (F := Ideal) G V j = second (V j) (G (ix2 (j 1) (j 2))) := by
  pointwise [k0_pay7, k0_pay5]
  rfl

theorem change_A (G : S256x1408.Idx → EReal) (W M V : S1x256x1408.Idx → EReal) (j : S1x256x1408.Idx) :
    k0_pay1 (F := Ideal) (k0_pay8 (F := Ideal) G M V) W j = change (W j) (moment (M j) (G (ix2 (j 1) (j 2)))) (second (V j) (G (ix2 (j 1) (j 2)))) := by
  pointwise [k0_pay1, k0_pay8, k0_pay4, k0_pay5]
  rfl

theorem grad_B (G : S256x1408.Idx → EReal) (j : S1x256x1408.Idx) : k0_pay9 (F := Ideal) G j = G (ix2 (j 1) (j 2)) := by
  pointwise [k0_pay9]

theorem moment_B (G : S256x1408.Idx → EReal) (M : S1x256x1408.Idx → EReal) (j : S1x256x1408.Idx) :
    k0_pay12 (F := Ideal) G M j = moment (M j) (G (ix2 (j 1) (j 2))) := by
  pointwise [k0_pay12, k0_pay10]
  rfl

theorem second_B (G : S256x1408.Idx → EReal) (V : S1x256x1408.Idx → EReal) (j : S1x256x1408.Idx) :
    k0_pay13 (F := Ideal) G V j = second (V j) (G (ix2 (j 1) (j 2))) := by
  pointwise [k0_pay13, k0_pay11]
  rfl

theorem change_B (G : S256x1408.Idx → EReal) (W M V : S1x256x1408.Idx → EReal) (j : S1x256x1408.Idx) :
    k0_pay2 (F := Ideal) (k0_pay14 (F := Ideal) G M V) W j = change (W j) (moment (M j) (G (ix2 (j 1) (j 2)))) (second (V j) (G (ix2 (j 1) (j 2)))) := by
  pointwise [k0_pay2, k0_pay14, k0_pay10, k0_pay11]
  rfl

/-- The gradient a grid point takes at a place of its block. -/
def blkD (t : Fin cfg0.N) (j : S1x256x1408.Idx) : EReal := if t.val < 4 then blkG m c t (ix2 (j 1) (j 2)) else blkH m c t (ix2 (j 1) (j 2))

/-- What a grid point leaves at a place of each of its four blocks. -/
theorem out_at (t : Fin cfg0.N) (j : S1x256x1408.Idx) :
    (outsAt0 m c t.val t.isLt).1 j = blkD m c t j
    ∧ (outsAt0 m c t.val t.isLt).2.1 j = change (blkW m c t j) (moment (blkM m c t j) (blkD m c t j)) (second (blkV m c t j) (blkD m c t j))
    ∧ (outsAt0 m c t.val t.isLt).2.2.1 j = moment (blkM m c t j) (blkD m c t j)
    ∧ (outsAt0 m c t.val t.isLt).2.2.2 j = second (blkV m c t j) (blkD m c t j) := by
  have ht : t.val < 8 := lt_of_lt_of_eq t.isLt N_0
  unfold blkD
  by_cases h : t.val < 4
  · rw [outsAt0_A m c t (by omega) (by omega)]
    simp only [if_pos h]
    refine ⟨?_, ?_, ?_, ?_⟩ <;> frame_out
    · exact grad_A (blkG m c t) j
    · exact change_A (blkG m c t) (blkW m c t) (blkM m c t) (blkV m c t) j
    · exact moment_A (blkG m c t) (blkM m c t) j
    · exact second_A (blkG m c t) (blkV m c t) j
  · rw [outsAt0_B m c t (by omega) (by omega)]
    simp only [if_neg h]
    refine ⟨?_, ?_, ?_, ?_⟩ <;> frame_out
    · exact grad_B (blkH m c t) j
    · exact change_B (blkH m c t) (blkW m c t) (blkM m c t) (blkV m c t) j
    · exact moment_B (blkH m c t) (blkM m c t) j
    · exact second_B (blkH m c t) (blkV m c t) j

section
variable (t : Fin cfg0.N) (i : S2x1024x1408.Idx) (j : S1x256x1408.Idx) (h0 : (i 0).val = t.val / 4 + (j 0).val) (h1 : (i 1).val = t.val % 4 * 256 + (j 1).val) (h2 : (i 2).val = (j 2).val)
include h0 h1 h2

theorem blkW_at : blkW m c t j = argW m c i := by blk_point [blkW, iblk, V, idx0 t, argW]
theorem blkM_at : blkM m c t j = argM m c i := by blk_point [blkM, iblk, V, idx1 t, argM]
theorem blkV_at : blkV m c t j = argV m c i := by blk_point [blkV, iblk, V, idx2 t, argV]
theorem blkD_at : blkD m c t j = grad (argG m c) (argH m c) i := by
  have hj : (j 0).val < 1 := (j 0).isLt
  unfold blkD grad
  by_cases h : t.val < 4
  · rw [if_pos h, if_pos (by omega)]
    blk_point [blkG, iblk, V, idx3 t, argG]
  · rw [if_neg h, if_neg (by omega)]
    blk_point [blkH, iblk, V, idx4 t, argH]

end

theorem out5_at (t : Fin cfg0.N) (i : S2x1024x1408.Idx) (j : S1x256x1408.Idx) (h0 : (i 0).val = t.val / 4 + (j 0).val) (h1 : (i 1).val = t.val % 4 * 256 + (j 1).val) (h2 : (i 2).val = (j 2).val) :
    (outsAt0 m c t.val t.isLt).1 j = grad (argG m c) (argH m c) i := by
  rw [(out_at m c t j).1, blkD_at m c t i j h0 h1 h2]

theorem array5 : (dats m 0 c).arrAt 5 cfg0.N = grad (argG m c) (argH m c) := by
  refine (dats m 0 c).arrAt_eq_of_coversWhere_of_agree 5 (grad (argG m c) (argH m c)) (fun _ => True) (by decide +kernel) (fun t hf y => ?_) (fun j hj => absurd trivial hj)
  blk_simp
  rw [after0_5]
  refine out5_at m c t _ _ ?_ ?_ ?_
  · refine Eq.trans (b := win0_5.index t 0 * 1 + (y 0).val) (by blk_simp) ?_
    rw [idx5 t]
    show t.val / 4 * 1 + (y 0).val = t.val / 4 + (y 0).val
    omega
  · refine Eq.trans (b := win0_5.index t 1 * 256 + (y 1).val) (by blk_simp) ?_
    rw [idx5 t]
    rfl
  · refine Eq.trans (b := win0_5.index t 2 * 1408 + (y 2).val) (by blk_simp) ?_
    rw [idx5 t]
    show 0 * 1408 + (y 2).val = (y 2).val
    omega

theorem out6_at (t : Fin cfg0.N) (i : S2x1024x1408.Idx) (j : S1x256x1408.Idx) (h0 : (i 0).val = t.val / 4 + (j 0).val) (h1 : (i 1).val = t.val % 4 * 256 + (j 1).val) (h2 : (i 2).val = (j 2).val) :
    (outsAt0 m c t.val t.isLt).2.1 j = delta (argW m c) (argG m c) (argH m c) (argM m c) (argV m c) i := by
  rw [(out_at m c t j).2.1, blkW_at m c t i j h0 h1 h2, blkM_at m c t i j h0 h1 h2, blkV_at m c t i j h0 h1 h2, blkD_at m c t i j h0 h1 h2]
  rfl

theorem array6 : (dats m 0 c).arrAt 6 cfg0.N = delta (argW m c) (argG m c) (argH m c) (argM m c) (argV m c) := by
  refine (dats m 0 c).arrAt_eq_of_coversWhere_of_agree 6 (delta (argW m c) (argG m c) (argH m c) (argM m c) (argV m c)) (fun _ => True) (by decide +kernel) (fun t hf y => ?_) (fun j hj => absurd trivial hj)
  blk_simp
  rw [after0_6]
  refine out6_at m c t _ _ ?_ ?_ ?_
  · refine Eq.trans (b := win0_6.index t 0 * 1 + (y 0).val) (by blk_simp) ?_
    rw [idx6 t]
    show t.val / 4 * 1 + (y 0).val = t.val / 4 + (y 0).val
    omega
  · refine Eq.trans (b := win0_6.index t 1 * 256 + (y 1).val) (by blk_simp) ?_
    rw [idx6 t]
    rfl
  · refine Eq.trans (b := win0_6.index t 2 * 1408 + (y 2).val) (by blk_simp) ?_
    rw [idx6 t]
    show 0 * 1408 + (y 2).val = (y 2).val
    omega

theorem out7_at (t : Fin cfg0.N) (i : S2x1024x1408.Idx) (j : S1x256x1408.Idx) (h0 : (i 0).val = t.val / 4 + (j 0).val) (h1 : (i 1).val = t.val % 4 * 256 + (j 1).val) (h2 : (i 2).val = (j 2).val) :
    (outsAt0 m c t.val t.isLt).2.2.1 j = newM (argG m c) (argH m c) (argM m c) i := by
  rw [(out_at m c t j).2.2.1, blkM_at m c t i j h0 h1 h2, blkD_at m c t i j h0 h1 h2]
  rfl

theorem array7 : (dats m 0 c).arrAt 7 cfg0.N = newM (argG m c) (argH m c) (argM m c) := by
  refine (dats m 0 c).arrAt_eq_of_coversWhere_of_agree 7 (newM (argG m c) (argH m c) (argM m c)) (fun _ => True) (by decide +kernel) (fun t hf y => ?_) (fun j hj => absurd trivial hj)
  blk_simp
  rw [after0_7]
  refine out7_at m c t _ _ ?_ ?_ ?_
  · refine Eq.trans (b := win0_7.index t 0 * 1 + (y 0).val) (by blk_simp) ?_
    rw [idx7 t]
    show t.val / 4 * 1 + (y 0).val = t.val / 4 + (y 0).val
    omega
  · refine Eq.trans (b := win0_7.index t 1 * 256 + (y 1).val) (by blk_simp) ?_
    rw [idx7 t]
    rfl
  · refine Eq.trans (b := win0_7.index t 2 * 1408 + (y 2).val) (by blk_simp) ?_
    rw [idx7 t]
    show 0 * 1408 + (y 2).val = (y 2).val
    omega

theorem out8_at (t : Fin cfg0.N) (i : S2x1024x1408.Idx) (j : S1x256x1408.Idx) (h0 : (i 0).val = t.val / 4 + (j 0).val) (h1 : (i 1).val = t.val % 4 * 256 + (j 1).val) (h2 : (i 2).val = (j 2).val) :
    (outsAt0 m c t.val t.isLt).2.2.2 j = newV (argG m c) (argH m c) (argV m c) i := by
  rw [(out_at m c t j).2.2.2, blkV_at m c t i j h0 h1 h2, blkD_at m c t i j h0 h1 h2]
  rfl

theorem array8 : (dats m 0 c).arrAt 8 cfg0.N = newV (argG m c) (argH m c) (argV m c) := by
  refine (dats m 0 c).arrAt_eq_of_coversWhere_of_agree 8 (newV (argG m c) (argH m c) (argV m c)) (fun _ => True) (by decide +kernel) (fun t hf y => ?_) (fun j hj => absurd trivial hj)
  blk_simp
  rw [after0_8]
  refine out8_at m c t _ _ ?_ ?_ ?_
  · refine Eq.trans (b := win0_8.index t 0 * 1 + (y 0).val) (by blk_simp) ?_
    rw [idx8 t]
    show t.val / 4 * 1 + (y 0).val = t.val / 4 + (y 0).val
    omega
  · refine Eq.trans (b := win0_8.index t 1 * 256 + (y 1).val) (by blk_simp) ?_
    rw [idx8 t]
    rfl
  · refine Eq.trans (b := win0_8.index t 2 * 1408 + (y 2).val) (by blk_simp) ?_
    rw [idx8 t]
    show 0 * 1408 + (y 2).val = (y 2).val
    omega

end Cert.KernelAdamUpIdeal.Block

namespace Cert.ReferenceAdamUpIdeal.Block

open Cert.ReferenceAdamUpIdeal Cert.ReferenceAdamUpIdeal.Gen Cert.ReferenceAdamUpIdeal.Read Idealize.ShloMosaic Cert.Products Cert.Forward Cert.Adam
open Cert.KernelAdamUpIdeal.Block (grad newM newV delta)

theorem read2 (x1 x2 : S1024x1408.Idx → EReal) : val_main_v2 (F := Ideal) x1 x2 = grad x1 x2 := by
  refine funext fun (i : S2x1024x1408.Idx) => ?_
  have hi : (i 0).val < 2 := (i 0).isLt
  unfold val_main_v2 grad
  by_cases h : (i 0).val = 0
  · rw [if_pos h]
    refine (concatenate_pair_apply_left (s₁ := S1x1024x1408) (s₂ := S1x1024x1408) 0 (val_main_v0 (F := Ideal) x1) (val_main_v1 (F := Ideal) x2) _ i rfl (ix3 ⟨(i 0).val, by omega⟩ (i 1) (i 2)) fun b => ?_).trans ?_
    · match b with
      | ⟨0, _⟩ => rfl
      | ⟨1, _⟩ => rfl
      | ⟨2, _⟩ => rfl
    · refine (val_main_v0_apply (F := Ideal) x1 _).trans ?_
      exact congrArg x1 (eq_ix2 _ (i 1) (i 2) rfl rfl)
  · rw [if_neg h]
    refine (concatenate_pair_apply_right (s₁ := S1x1024x1408) (s₂ := S1x1024x1408) 0 (val_main_v0 (F := Ideal) x1) (val_main_v1 (F := Ideal) x2) _ i rfl rfl (ix3 ⟨(i 0).val - 1, by omega⟩ (i 1) (i 2)) (fun b hb => ?_) ?_).trans ?_
    · match b with
      | ⟨0, _⟩ => exact absurd rfl hb
      | ⟨1, _⟩ => rfl
      | ⟨2, _⟩ => rfl
    · show (i 0).val - 1 + 1 = (i 0).val
      omega
    · refine (val_main_v1_apply (F := Ideal) x2 _).trans ?_
      exact congrArg x2 (eq_ix2 _ (i 1) (i 2) rfl rfl)

theorem read7 (x1 x2 : S1024x1408.Idx → EReal) (x3 : S2x1024x1408.Idx → EReal) : val_main_v7 (F := Ideal) x1 x2 x3 = newM x1 x2 x3 := by
  refine funext fun (i : S2x1024x1408.Idx) => ?_
  pointwise [val_main_v7_apply, val_main_v6_apply, val_main_v5_apply, val_main_v4_apply, val_main_v3_apply, val_main_cst_apply, val_main_cst_0_apply]
  rw [read2]
  rfl

theorem read13 (x1 x2 : S1024x1408.Idx → EReal) (x4 : S2x1024x1408.Idx → EReal) : val_main_v13 (F := Ideal) x1 x2 x4 = newV x1 x2 x4 := by
  refine funext fun (i : S2x1024x1408.Idx) => ?_
  pointwise [val_main_v13_apply, val_main_v12_apply, val_main_v11_apply, val_main_v10_apply, val_main_v9_apply, val_main_v8_apply, val_main_cst_1_apply, val_main_cst_2_apply]
  rw [read2]
  rfl

theorem read26 (x0 : S2x1024x1408.Idx → EReal) (x1 x2 : S1024x1408.Idx → EReal) (x3 x4 : S2x1024x1408.Idx → EReal) : val_main_v26 (F := Ideal) x0 x1 x2 x3 x4 = delta x0 x1 x2 x3 x4 := by
  refine funext fun (i : S2x1024x1408.Idx) => ?_
  pointwise [val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_cst_3_apply, val_main_cst_4_apply, val_main_cst_5_apply, val_main_cst_6_apply, val_main_cst_7_apply]
  rw [read7, read13]
  rfl

end Cert.ReferenceAdamUpIdeal.Block
-- ==== Proof.Adam.Down.lean ====
/-
  AdamW's step on the down projection's weight: each grid point a block of 352 rows of one layer, with that layer's gradient.
-/
module

public import proofs.«01_k».proof.Proof.Adam.Step
public import proofs.«01_k».proof.Proof.Products.Sums
public import proofs.«01_k».proof.Proof.Forward.Places
public import proofs.«01_k».proof.Proof.Gen.KernelAdamDownIdeal.Value
public import proofs.«01_k».proof.Proof.Gen.ReferenceAdamDownIdeal.Read
public import Idealize.ShloMosaic.Lib.Pipeline.ReadBack
public import Idealize.ShloMosaic.Lib.Pipeline.ValueKit

@[expose] public section

noncomputable section

namespace Cert.KernelAdamDownIdeal.Block

open Cert.KernelAdamDownIdeal Cert.KernelAdamDownIdeal.Gen Idealize.ShloMosaic Idealize.ShloMosaic.TcCoe Cert.Products Cert.Forward Cert.Adam
open Idealize.ShloMosaic.Pipeline (Dat)

variable (m : (ℓ : Loc nD τ sig) → Buf (Elt Ideal) ℓ) (c : Dev nD)

/-- The weight, its gradient in each layer, and its two moments. -/
def argW : S2x704x1024.Idx → EReal := m ((c : Thread nD τ).loc main_arg0)
def argG : S704x1024.Idx → EReal := m ((c : Thread nD τ).loc main_arg1)
def argH : S704x1024.Idx → EReal := m ((c : Thread nD τ).loc main_arg2)
def argM : S2x704x1024.Idx → EReal := m ((c : Thread nD τ).loc main_arg3)
def argV : S2x704x1024.Idx → EReal := m ((c : Thread nD τ).loc main_arg4)

/-- The results: the gradient of both layers, the new moments, and the change of the weight. -/
def grad (G H : S704x1024.Idx → EReal) : S2x704x1024.Idx → EReal :=
  fun i => if (i 0).val = 0 then G (ix2 (i 1) (i 2)) else H (ix2 (i 1) (i 2))
def newM (G H : S704x1024.Idx → EReal) (M : S2x704x1024.Idx → EReal) : S2x704x1024.Idx → EReal := fun i => moment (M i) (grad G H i)
def newV (G H : S704x1024.Idx → EReal) (V : S2x704x1024.Idx → EReal) : S2x704x1024.Idx → EReal := fun i => second (V i) (grad G H i)
def delta (W : S2x704x1024.Idx → EReal) (G H : S704x1024.Idx → EReal) (M V : S2x704x1024.Idx → EReal) : S2x704x1024.Idx → EReal :=
  fun i => change (W i) (newM G H M i) (newV G H V i)

theorem idx0 : ∀ t : Fin cfg0.N, win0_0.index t = ![t.val / 2, t.val % 2, 0] := (by decide +kernel : ∀ t : Fin grid0.N, _)
theorem idx1 : ∀ t : Fin cfg0.N, win0_1.index t = ![t.val / 2, t.val % 2, 0] := (by decide +kernel : ∀ t : Fin grid0.N, _)
theorem idx2 : ∀ t : Fin cfg0.N, win0_2.index t = ![t.val / 2, t.val % 2, 0] := (by decide +kernel : ∀ t : Fin grid0.N, _)
theorem idx3 : ∀ t : Fin cfg0.N, win0_3.index t = ![t.val % 2, 0] := (by decide +kernel : ∀ t : Fin grid0.N, _)
theorem idx4 : ∀ t : Fin cfg0.N, win0_4.index t = ![t.val % 2, 0] := (by decide +kernel : ∀ t : Fin grid0.N, _)
theorem idx5 : ∀ t : Fin cfg0.N, win0_5.index t = ![t.val / 2, t.val % 2, 0] := (by decide +kernel : ∀ t : Fin grid0.N, _)
theorem idx6 : ∀ t : Fin cfg0.N, win0_6.index t = ![t.val / 2, t.val % 2, 0] := (by decide +kernel : ∀ t : Fin grid0.N, _)
theorem idx7 : ∀ t : Fin cfg0.N, win0_7.index t = ![t.val / 2, t.val % 2, 0] := (by decide +kernel : ∀ t : Fin grid0.N, _)
theorem idx8 : ∀ t : Fin cfg0.N, win0_8.index t = ![t.val / 2, t.val % 2, 0] := (by decide +kernel : ∀ t : Fin grid0.N, _)

/-- The blocks a grid point takes. -/
def blkW (t : Fin cfg0.N) : S1x352x1024.Idx → EReal := iblk m c 0 t
def blkM (t : Fin cfg0.N) : S1x352x1024.Idx → EReal := iblk m c 1 t
def blkV (t : Fin cfg0.N) : S1x352x1024.Idx → EReal := iblk m c 2 t
def blkG (t : Fin cfg0.N) : S352x1024.Idx → EReal := iblk m c 3 t
def blkH (t : Fin cfg0.N) : S352x1024.Idx → EReal := iblk m c 4 t

theorem grad_A (G : S352x1024.Idx → EReal) (j : S1x352x1024.Idx) : k0_pay3 (F := Ideal) G j = G (ix2 (j 1) (j 2)) := by
  pointwise [k0_pay3]

theorem moment_A (G : S352x1024.Idx → EReal) (M : S1x352x1024.Idx → EReal) (j : S1x352x1024.Idx) :
    k0_pay6 (F := Ideal) G M j = moment (M j) (G (ix2 (j 1) (j 2))) := by
  pointwise [k0_pay6, k0_pay4]
  rfl

theorem second_A (G : S352x1024.Idx → EReal) (V : S1x352x1024.Idx → EReal) (j : S1x352x1024.Idx) :
    k0_pay7 (F := Ideal) G V j = second (V j) (G (ix2 (j 1) (j 2))) := by
  pointwise [k0_pay7, k0_pay5]
  rfl

theorem change_A (G : S352x1024.Idx → EReal) (W M V : S1x352x1024.Idx → EReal) (j : S1x352x1024.Idx) :
    k0_pay1 (F := Ideal) (k0_pay8 (F := Ideal) G M V) W j = change (W j) (moment (M j) (G (ix2 (j 1) (j 2)))) (second (V j) (G (ix2 (j 1) (j 2)))) := by
  pointwise [k0_pay1, k0_pay8, k0_pay4, k0_pay5]
  rfl

theorem grad_B (G : S352x1024.Idx → EReal) (j : S1x352x1024.Idx) : k0_pay9 (F := Ideal) G j = G (ix2 (j 1) (j 2)) := by
  pointwise [k0_pay9]

theorem moment_B (G : S352x1024.Idx → EReal) (M : S1x352x1024.Idx → EReal) (j : S1x352x1024.Idx) :
    k0_pay12 (F := Ideal) G M j = moment (M j) (G (ix2 (j 1) (j 2))) := by
  pointwise [k0_pay12, k0_pay10]
  rfl

theorem second_B (G : S352x1024.Idx → EReal) (V : S1x352x1024.Idx → EReal) (j : S1x352x1024.Idx) :
    k0_pay13 (F := Ideal) G V j = second (V j) (G (ix2 (j 1) (j 2))) := by
  pointwise [k0_pay13, k0_pay11]
  rfl

theorem change_B (G : S352x1024.Idx → EReal) (W M V : S1x352x1024.Idx → EReal) (j : S1x352x1024.Idx) :
    k0_pay2 (F := Ideal) (k0_pay14 (F := Ideal) G M V) W j = change (W j) (moment (M j) (G (ix2 (j 1) (j 2)))) (second (V j) (G (ix2 (j 1) (j 2)))) := by
  pointwise [k0_pay2, k0_pay14, k0_pay10, k0_pay11]
  rfl

/-- The gradient a grid point takes at a place of its block. -/
def blkD (t : Fin cfg0.N) (j : S1x352x1024.Idx) : EReal := if t.val < 2 then blkG m c t (ix2 (j 1) (j 2)) else blkH m c t (ix2 (j 1) (j 2))

/-- What a grid point leaves at a place of each of its four blocks. -/
theorem out_at (t : Fin cfg0.N) (j : S1x352x1024.Idx) :
    (outsAt0 m c t.val t.isLt).1 j = blkD m c t j
    ∧ (outsAt0 m c t.val t.isLt).2.1 j = change (blkW m c t j) (moment (blkM m c t j) (blkD m c t j)) (second (blkV m c t j) (blkD m c t j))
    ∧ (outsAt0 m c t.val t.isLt).2.2.1 j = moment (blkM m c t j) (blkD m c t j)
    ∧ (outsAt0 m c t.val t.isLt).2.2.2 j = second (blkV m c t j) (blkD m c t j) := by
  have ht : t.val < 4 := lt_of_lt_of_eq t.isLt N_0
  unfold blkD
  by_cases h : t.val < 2
  · rw [outsAt0_A m c t (by omega) (by omega)]
    simp only [if_pos h]
    refine ⟨?_, ?_, ?_, ?_⟩ <;> frame_out
    · exact grad_A (blkG m c t) j
    · exact change_A (blkG m c t) (blkW m c t) (blkM m c t) (blkV m c t) j
    · exact moment_A (blkG m c t) (blkM m c t) j
    · exact second_A (blkG m c t) (blkV m c t) j
  · rw [outsAt0_B m c t (by omega) (by omega)]
    simp only [if_neg h]
    refine ⟨?_, ?_, ?_, ?_⟩ <;> frame_out
    · exact grad_B (blkH m c t) j
    · exact change_B (blkH m c t) (blkW m c t) (blkM m c t) (blkV m c t) j
    · exact moment_B (blkH m c t) (blkM m c t) j
    · exact second_B (blkH m c t) (blkV m c t) j

section
variable (t : Fin cfg0.N) (i : S2x704x1024.Idx) (j : S1x352x1024.Idx) (h0 : (i 0).val = t.val / 2 + (j 0).val) (h1 : (i 1).val = t.val % 2 * 352 + (j 1).val) (h2 : (i 2).val = (j 2).val)
include h0 h1 h2

theorem blkW_at : blkW m c t j = argW m c i := by blk_point [blkW, iblk, V, idx0 t, argW]
theorem blkM_at : blkM m c t j = argM m c i := by blk_point [blkM, iblk, V, idx1 t, argM]
theorem blkV_at : blkV m c t j = argV m c i := by blk_point [blkV, iblk, V, idx2 t, argV]
theorem blkD_at : blkD m c t j = grad (argG m c) (argH m c) i := by
  have hj : (j 0).val < 1 := (j 0).isLt
  unfold blkD grad
  by_cases h : t.val < 2
  · rw [if_pos h, if_pos (by omega)]
    blk_point [blkG, iblk, V, idx3 t, argG]
  · rw [if_neg h, if_neg (by omega)]
    blk_point [blkH, iblk, V, idx4 t, argH]

end

theorem out5_at (t : Fin cfg0.N) (i : S2x704x1024.Idx) (j : S1x352x1024.Idx) (h0 : (i 0).val = t.val / 2 + (j 0).val) (h1 : (i 1).val = t.val % 2 * 352 + (j 1).val) (h2 : (i 2).val = (j 2).val) :
    (outsAt0 m c t.val t.isLt).1 j = grad (argG m c) (argH m c) i := by
  rw [(out_at m c t j).1, blkD_at m c t i j h0 h1 h2]

theorem array5 : (dats m 0 c).arrAt 5 cfg0.N = grad (argG m c) (argH m c) := by
  refine (dats m 0 c).arrAt_eq_of_coversWhere_of_agree 5 (grad (argG m c) (argH m c)) (fun _ => True) (by decide +kernel) (fun t hf y => ?_) (fun j hj => absurd trivial hj)
  blk_simp
  rw [after0_5]
  refine out5_at m c t _ _ ?_ ?_ ?_
  · refine Eq.trans (b := win0_5.index t 0 * 1 + (y 0).val) (by blk_simp) ?_
    rw [idx5 t]
    show t.val / 2 * 1 + (y 0).val = t.val / 2 + (y 0).val
    omega
  · refine Eq.trans (b := win0_5.index t 1 * 352 + (y 1).val) (by blk_simp) ?_
    rw [idx5 t]
    rfl
  · refine Eq.trans (b := win0_5.index t 2 * 1024 + (y 2).val) (by blk_simp) ?_
    rw [idx5 t]
    show 0 * 1024 + (y 2).val = (y 2).val
    omega

theorem out6_at (t : Fin cfg0.N) (i : S2x704x1024.Idx) (j : S1x352x1024.Idx) (h0 : (i 0).val = t.val / 2 + (j 0).val) (h1 : (i 1).val = t.val % 2 * 352 + (j 1).val) (h2 : (i 2).val = (j 2).val) :
    (outsAt0 m c t.val t.isLt).2.1 j = delta (argW m c) (argG m c) (argH m c) (argM m c) (argV m c) i := by
  rw [(out_at m c t j).2.1, blkW_at m c t i j h0 h1 h2, blkM_at m c t i j h0 h1 h2, blkV_at m c t i j h0 h1 h2, blkD_at m c t i j h0 h1 h2]
  rfl

theorem array6 : (dats m 0 c).arrAt 6 cfg0.N = delta (argW m c) (argG m c) (argH m c) (argM m c) (argV m c) := by
  refine (dats m 0 c).arrAt_eq_of_coversWhere_of_agree 6 (delta (argW m c) (argG m c) (argH m c) (argM m c) (argV m c)) (fun _ => True) (by decide +kernel) (fun t hf y => ?_) (fun j hj => absurd trivial hj)
  blk_simp
  rw [after0_6]
  refine out6_at m c t _ _ ?_ ?_ ?_
  · refine Eq.trans (b := win0_6.index t 0 * 1 + (y 0).val) (by blk_simp) ?_
    rw [idx6 t]
    show t.val / 2 * 1 + (y 0).val = t.val / 2 + (y 0).val
    omega
  · refine Eq.trans (b := win0_6.index t 1 * 352 + (y 1).val) (by blk_simp) ?_
    rw [idx6 t]
    rfl
  · refine Eq.trans (b := win0_6.index t 2 * 1024 + (y 2).val) (by blk_simp) ?_
    rw [idx6 t]
    show 0 * 1024 + (y 2).val = (y 2).val
    omega

theorem out7_at (t : Fin cfg0.N) (i : S2x704x1024.Idx) (j : S1x352x1024.Idx) (h0 : (i 0).val = t.val / 2 + (j 0).val) (h1 : (i 1).val = t.val % 2 * 352 + (j 1).val) (h2 : (i 2).val = (j 2).val) :
    (outsAt0 m c t.val t.isLt).2.2.1 j = newM (argG m c) (argH m c) (argM m c) i := by
  rw [(out_at m c t j).2.2.1, blkM_at m c t i j h0 h1 h2, blkD_at m c t i j h0 h1 h2]
  rfl

theorem array7 : (dats m 0 c).arrAt 7 cfg0.N = newM (argG m c) (argH m c) (argM m c) := by
  refine (dats m 0 c).arrAt_eq_of_coversWhere_of_agree 7 (newM (argG m c) (argH m c) (argM m c)) (fun _ => True) (by decide +kernel) (fun t hf y => ?_) (fun j hj => absurd trivial hj)
  blk_simp
  rw [after0_7]
  refine out7_at m c t _ _ ?_ ?_ ?_
  · refine Eq.trans (b := win0_7.index t 0 * 1 + (y 0).val) (by blk_simp) ?_
    rw [idx7 t]
    show t.val / 2 * 1 + (y 0).val = t.val / 2 + (y 0).val
    omega
  · refine Eq.trans (b := win0_7.index t 1 * 352 + (y 1).val) (by blk_simp) ?_
    rw [idx7 t]
    rfl
  · refine Eq.trans (b := win0_7.index t 2 * 1024 + (y 2).val) (by blk_simp) ?_
    rw [idx7 t]
    show 0 * 1024 + (y 2).val = (y 2).val
    omega

theorem out8_at (t : Fin cfg0.N) (i : S2x704x1024.Idx) (j : S1x352x1024.Idx) (h0 : (i 0).val = t.val / 2 + (j 0).val) (h1 : (i 1).val = t.val % 2 * 352 + (j 1).val) (h2 : (i 2).val = (j 2).val) :
    (outsAt0 m c t.val t.isLt).2.2.2 j = newV (argG m c) (argH m c) (argV m c) i := by
  rw [(out_at m c t j).2.2.2, blkV_at m c t i j h0 h1 h2, blkD_at m c t i j h0 h1 h2]
  rfl

theorem array8 : (dats m 0 c).arrAt 8 cfg0.N = newV (argG m c) (argH m c) (argV m c) := by
  refine (dats m 0 c).arrAt_eq_of_coversWhere_of_agree 8 (newV (argG m c) (argH m c) (argV m c)) (fun _ => True) (by decide +kernel) (fun t hf y => ?_) (fun j hj => absurd trivial hj)
  blk_simp
  rw [after0_8]
  refine out8_at m c t _ _ ?_ ?_ ?_
  · refine Eq.trans (b := win0_8.index t 0 * 1 + (y 0).val) (by blk_simp) ?_
    rw [idx8 t]
    show t.val / 2 * 1 + (y 0).val = t.val / 2 + (y 0).val
    omega
  · refine Eq.trans (b := win0_8.index t 1 * 352 + (y 1).val) (by blk_simp) ?_
    rw [idx8 t]
    rfl
  · refine Eq.trans (b := win0_8.index t 2 * 1024 + (y 2).val) (by blk_simp) ?_
    rw [idx8 t]
    show 0 * 1024 + (y 2).val = (y 2).val
    omega

end Cert.KernelAdamDownIdeal.Block

namespace Cert.ReferenceAdamDownIdeal.Block

open Cert.ReferenceAdamDownIdeal Cert.ReferenceAdamDownIdeal.Gen Cert.ReferenceAdamDownIdeal.Read Idealize.ShloMosaic Cert.Products Cert.Forward Cert.Adam
open Cert.KernelAdamDownIdeal.Block (grad newM newV delta)

theorem read2 (x1 x2 : S704x1024.Idx → EReal) : val_main_v2 (F := Ideal) x1 x2 = grad x1 x2 := by
  refine funext fun (i : S2x704x1024.Idx) => ?_
  have hi : (i 0).val < 2 := (i 0).isLt
  unfold val_main_v2 grad
  by_cases h : (i 0).val = 0
  · rw [if_pos h]
    refine (concatenate_pair_apply_left (s₁ := S1x704x1024) (s₂ := S1x704x1024) 0 (val_main_v0 (F := Ideal) x1) (val_main_v1 (F := Ideal) x2) _ i rfl (ix3 ⟨(i 0).val, by omega⟩ (i 1) (i 2)) fun b => ?_).trans ?_
    · match b with
      | ⟨0, _⟩ => rfl
      | ⟨1, _⟩ => rfl
      | ⟨2, _⟩ => rfl
    · refine (val_main_v0_apply (F := Ideal) x1 _).trans ?_
      exact congrArg x1 (eq_ix2 _ (i 1) (i 2) rfl rfl)
  · rw [if_neg h]
    refine (concatenate_pair_apply_right (s₁ := S1x704x1024) (s₂ := S1x704x1024) 0 (val_main_v0 (F := Ideal) x1) (val_main_v1 (F := Ideal) x2) _ i rfl rfl (ix3 ⟨(i 0).val - 1, by omega⟩ (i 1) (i 2)) (fun b hb => ?_) ?_).trans ?_
    · match b with
      | ⟨0, _⟩ => exact absurd rfl hb
      | ⟨1, _⟩ => rfl
      | ⟨2, _⟩ => rfl
    · show (i 0).val - 1 + 1 = (i 0).val
      omega
    · refine (val_main_v1_apply (F := Ideal) x2 _).trans ?_
      exact congrArg x2 (eq_ix2 _ (i 1) (i 2) rfl rfl)

theorem read7 (x1 x2 : S704x1024.Idx → EReal) (x3 : S2x704x1024.Idx → EReal) : val_main_v7 (F := Ideal) x1 x2 x3 = newM x1 x2 x3 := by
  refine funext fun (i : S2x704x1024.Idx) => ?_
  pointwise [val_main_v7_apply, val_main_v6_apply, val_main_v5_apply, val_main_v4_apply, val_main_v3_apply, val_main_cst_apply, val_main_cst_0_apply]
  rw [read2]
  rfl

theorem read13 (x1 x2 : S704x1024.Idx → EReal) (x4 : S2x704x1024.Idx → EReal) : val_main_v13 (F := Ideal) x1 x2 x4 = newV x1 x2 x4 := by
  refine funext fun (i : S2x704x1024.Idx) => ?_
  pointwise [val_main_v13_apply, val_main_v12_apply, val_main_v11_apply, val_main_v10_apply, val_main_v9_apply, val_main_v8_apply, val_main_cst_1_apply, val_main_cst_2_apply]
  rw [read2]
  rfl

theorem read26 (x0 : S2x704x1024.Idx → EReal) (x1 x2 : S704x1024.Idx → EReal) (x3 x4 : S2x704x1024.Idx → EReal) : val_main_v26 (F := Ideal) x0 x1 x2 x3 x4 = delta x0 x1 x2 x3 x4 := by
  refine funext fun (i : S2x704x1024.Idx) => ?_
  pointwise [val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_cst_3_apply, val_main_cst_4_apply, val_main_cst_5_apply, val_main_cst_6_apply, val_main_cst_7_apply]
  rw [read7, read13]
  rfl

end Cert.ReferenceAdamDownIdeal.Block
-- ==== Proof.Adam.Packed.lean ====
/-
  AdamW's step on the small weights, which the step packs into one array: one grid point takes it whole.
-/
module

public import proofs.«01_k».proof.Proof.Adam.Step
public import proofs.«01_k».proof.Proof.Products.Sums
public import proofs.«01_k».proof.Proof.Forward.Places
public import proofs.«01_k».proof.Proof.Gen.KernelAdamPackedIdeal.Value
public import proofs.«01_k».proof.Proof.Gen.ReferenceAdamPackedIdeal.Read
public import Idealize.ShloMosaic.Lib.Pipeline.ReadBack
public import Idealize.ShloMosaic.Lib.Pipeline.ValueKit

@[expose] public section

noncomputable section

namespace Cert.KernelAdamPackedIdeal.Block

open Cert.KernelAdamPackedIdeal Cert.KernelAdamPackedIdeal.Gen Idealize.ShloMosaic Idealize.ShloMosaic.TcCoe Cert.Products Cert.Forward Cert.Adam
open Idealize.ShloMosaic.Pipeline (Dat)

variable (m : (ℓ : Loc nD τ sig) → Buf (Elt Ideal) ℓ) (c : Dev nD)

/-- The packed weights, their gradients, and their two moments. -/
def argW : S1x304x1024.Idx → EReal := m ((c : Thread nD τ).loc main_arg0)
def argG : S1x304x1024.Idx → EReal := m ((c : Thread nD τ).loc main_arg1)
def argM : S1x304x1024.Idx → EReal := m ((c : Thread nD τ).loc main_arg2)
def argV : S1x304x1024.Idx → EReal := m ((c : Thread nD τ).loc main_arg3)

/-- The new moments, and the change of the weights. -/
def newM (G M : S1x304x1024.Idx → EReal) : S1x304x1024.Idx → EReal := fun i => moment (M i) (G i)
def newV (G V : S1x304x1024.Idx → EReal) : S1x304x1024.Idx → EReal := fun i => second (V i) (G i)
def delta (W G M V : S1x304x1024.Idx → EReal) : S1x304x1024.Idx → EReal := fun i => change (W i) (newM G M i) (newV G V i)

theorem idx0 : ∀ t : Fin cfg0.N, win0_0.index t = ![0, 0, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0, 0] := (by decide +kernel : ∀ t : Fin grid0.N, _)

/-- The blocks the grid point takes. -/
def blkW (t : Fin cfg0.N) : S1x304x1024.Idx → EReal := iblk m c 0 t
def blkM (t : Fin cfg0.N) : S1x304x1024.Idx → EReal := iblk m c 1 t
def blkV (t : Fin cfg0.N) : S1x304x1024.Idx → EReal := iblk m c 2 t
def blkG (t : Fin cfg0.N) : S304x1024.Idx → EReal := iblk m c 3 t

theorem grad_read (G : S304x1024.Idx → EReal) (j : S1x304x1024.Idx) : k0_pay3 (F := Ideal) G j = G (ix2 (j 1) (j 2)) := by
  pointwise [k0_pay3, k0_pay2]

theorem moment_read (G : S304x1024.Idx → EReal) (M : S1x304x1024.Idx → EReal) (j : S1x304x1024.Idx) :
    k0_pay6 (F := Ideal) G M j = moment (M j) (G (ix2 (j 1) (j 2))) := by
  pointwise [k0_pay6, k0_pay4, k0_pay2]
  rfl

theorem second_read (G : S304x1024.Idx → EReal) (V : S1x304x1024.Idx → EReal) (j : S1x304x1024.Idx) :
    k0_pay7 (F := Ideal) G V j = second (V j) (G (ix2 (j 1) (j 2))) := by
  pointwise [k0_pay7, k0_pay5, k0_pay2]
  rfl

theorem change_read (G : S304x1024.Idx → EReal) (W M V : S1x304x1024.Idx → EReal) (j : S1x304x1024.Idx) :
    k0_pay1 (F := Ideal) (k0_pay8 (F := Ideal) G M) (k0_pay9 (F := Ideal) G V) W j = change (W j) (moment (M j) (G (ix2 (j 1) (j 2)))) (second (V j) (G (ix2 (j 1) (j 2)))) := by
  pointwise [k0_pay1, k0_pay8, k0_pay9, k0_pay4, k0_pay5, k0_pay2]
  rfl

/-- The gradient the grid point takes at a place. -/
def blkD (t : Fin cfg0.N) (j : S1x304x1024.Idx) : EReal := blkG m c t (ix2 (j 1) (j 2))

/-- What the grid point leaves at a place of each of its four blocks. -/
theorem out_at (t : Fin cfg0.N) (j : S1x304x1024.Idx) :
    (outsAt0 m c t).1 j = blkD m c t j
    ∧ (outsAt0 m c t).2.1 j = change (blkW m c t j) (moment (blkM m c t j) (blkD m c t j)) (second (blkV m c t j) (blkD m c t j))
    ∧ (outsAt0 m c t).2.2.1 j = moment (blkM m c t j) (blkD m c t j)
    ∧ (outsAt0 m c t).2.2.2 j = second (blkV m c t j) (blkD m c t j) := by
  unfold blkD outsAt0
  refine ⟨?_, ?_, ?_, ?_⟩ <;> frame_out
  · exact grad_read (blkG m c t) j
  · exact change_read (blkG m c t) (blkW m c t) (blkM m c t) (blkV m c t) j
  · exact moment_read (blkG m c t) (blkM m c t) j
  · exact second_read (blkG m c t) (blkV m c t) j

section
variable (t : Fin cfg0.N) (i j : S1x304x1024.Idx) (h0 : (i 0).val = (j 0).val) (h1 : (i 1).val = (j 1).val) (h2 : (i 2).val = (j 2).val)
include h0 h1 h2

theorem blkW_at : blkW m c t j = argW m c i := by blk_point [blkW, iblk, V, idx0 t, argW]
theorem blkM_at : blkM m c t j = argM m c i := by blk_point [blkM, iblk, V, idx1 t, argM]
theorem blkV_at : blkV m c t j = argV m c i := by blk_point [blkV, iblk, V, idx2 t, argV]
theorem blkD_at : blkD m c t j = argG m c i := by
  have hi : (i 0).val < 1 := (i 0).isLt
  have hj : (j 0).val < 1 := (j 0).isLt
  blk_point [blkD, blkG, iblk, V, idx3 t, argG]

end

theorem out4_at (t : Fin cfg0.N) (i j : S1x304x1024.Idx) (h0 : (i 0).val = (j 0).val) (h1 : (i 1).val = (j 1).val) (h2 : (i 2).val = (j 2).val) :
    (outsAt0 m c t).1 j = (argG m c) i := by
  rw [(out_at m c t j).1, blkD_at m c t i j h0 h1 h2]

theorem array4 : (dats m 0 c).arrAt 4 cfg0.N = argG m c := by
  refine (dats m 0 c).arrAt_eq_of_coversWhere_of_agree 4 (argG m c) (fun _ => True) (by decide +kernel) (fun t hf y => ?_) (fun j hj => absurd trivial hj)
  blk_simp
  rw [after0_4]
  refine out4_at m c t _ _ ?_ ?_ ?_
  · refine Eq.trans (b := win0_4.index t 0 * 1 + (y 0).val) (by blk_simp) ?_
    rw [idx4 t]
    show 0 * 1 + (y 0).val = (y 0).val
    omega
  · refine Eq.trans (b := win0_4.index t 1 * 304 + (y 1).val) (by blk_simp) ?_
    rw [idx4 t]
    show 0 * 304 + (y 1).val = (y 1).val
    omega
  · refine Eq.trans (b := win0_4.index t 2 * 1024 + (y 2).val) (by blk_simp) ?_
    rw [idx4 t]
    show 0 * 1024 + (y 2).val = (y 2).val
    omega

theorem out5_at (t : Fin cfg0.N) (i j : S1x304x1024.Idx) (h0 : (i 0).val = (j 0).val) (h1 : (i 1).val = (j 1).val) (h2 : (i 2).val = (j 2).val) :
    (outsAt0 m c t).2.1 j = (delta (argW m c) (argG m c) (argM m c) (argV m c)) i := by
  rw [(out_at m c t j).2.1, blkW_at m c t i j h0 h1 h2, blkM_at m c t i j h0 h1 h2, blkV_at m c t i j h0 h1 h2, blkD_at m c t i j h0 h1 h2]
  rfl

theorem array5 : (dats m 0 c).arrAt 5 cfg0.N = delta (argW m c) (argG m c) (argM m c) (argV m c) := by
  refine (dats m 0 c).arrAt_eq_of_coversWhere_of_agree 5 (delta (argW m c) (argG m c) (argM m c) (argV m c)) (fun _ => True) (by decide +kernel) (fun t hf y => ?_) (fun j hj => absurd trivial hj)
  blk_simp
  rw [after0_5]
  refine out5_at m c t _ _ ?_ ?_ ?_
  · refine Eq.trans (b := win0_5.index t 0 * 1 + (y 0).val) (by blk_simp) ?_
    rw [idx5 t]
    show 0 * 1 + (y 0).val = (y 0).val
    omega
  · refine Eq.trans (b := win0_5.index t 1 * 304 + (y 1).val) (by blk_simp) ?_
    rw [idx5 t]
    show 0 * 304 + (y 1).val = (y 1).val
    omega
  · refine Eq.trans (b := win0_5.index t 2 * 1024 + (y 2).val) (by blk_simp) ?_
    rw [idx5 t]
    show 0 * 1024 + (y 2).val = (y 2).val
    omega

theorem out6_at (t : Fin cfg0.N) (i j : S1x304x1024.Idx) (h0 : (i 0).val = (j 0).val) (h1 : (i 1).val = (j 1).val) (h2 : (i 2).val = (j 2).val) :
    (outsAt0 m c t).2.2.1 j = (newM (argG m c) (argM m c)) i := by
  rw [(out_at m c t j).2.2.1, blkM_at m c t i j h0 h1 h2, blkD_at m c t i j h0 h1 h2]
  rfl

theorem array6 : (dats m 0 c).arrAt 6 cfg0.N = newM (argG m c) (argM m c) := by
  refine (dats m 0 c).arrAt_eq_of_coversWhere_of_agree 6 (newM (argG m c) (argM m c)) (fun _ => True) (by decide +kernel) (fun t hf y => ?_) (fun j hj => absurd trivial hj)
  blk_simp
  rw [after0_6]
  refine out6_at m c t _ _ ?_ ?_ ?_
  · refine Eq.trans (b := win0_6.index t 0 * 1 + (y 0).val) (by blk_simp) ?_
    rw [idx6 t]
    show 0 * 1 + (y 0).val = (y 0).val
    omega
  · refine Eq.trans (b := win0_6.index t 1 * 304 + (y 1).val) (by blk_simp) ?_
    rw [idx6 t]
    show 0 * 304 + (y 1).val = (y 1).val
    omega
  · refine Eq.trans (b := win0_6.index t 2 * 1024 + (y 2).val) (by blk_simp) ?_
    rw [idx6 t]
    show 0 * 1024 + (y 2).val = (y 2).val
    omega

theorem out7_at (t : Fin cfg0.N) (i j : S1x304x1024.Idx) (h0 : (i 0).val = (j 0).val) (h1 : (i 1).val = (j 1).val) (h2 : (i 2).val = (j 2).val) :
    (outsAt0 m c t).2.2.2 j = (newV (argG m c) (argV m c)) i := by
  rw [(out_at m c t j).2.2.2, blkV_at m c t i j h0 h1 h2, blkD_at m c t i j h0 h1 h2]
  rfl

theorem array7 : (dats m 0 c).arrAt 7 cfg0.N = newV (argG m c) (argV m c) := by
  refine (dats m 0 c).arrAt_eq_of_coversWhere_of_agree 7 (newV (argG m c) (argV m c)) (fun _ => True) (by decide +kernel) (fun t hf y => ?_) (fun j hj => absurd trivial hj)
  blk_simp
  rw [after0_7]
  refine out7_at m c t _ _ ?_ ?_ ?_
  · refine Eq.trans (b := win0_7.index t 0 * 1 + (y 0).val) (by blk_simp) ?_
    rw [idx7 t]
    show 0 * 1 + (y 0).val = (y 0).val
    omega
  · refine Eq.trans (b := win0_7.index t 1 * 304 + (y 1).val) (by blk_simp) ?_
    rw [idx7 t]
    show 0 * 304 + (y 1).val = (y 1).val
    omega
  · refine Eq.trans (b := win0_7.index t 2 * 1024 + (y 2).val) (by blk_simp) ?_
    rw [idx7 t]
    show 0 * 1024 + (y 2).val = (y 2).val
    omega

end Cert.KernelAdamPackedIdeal.Block

namespace Cert.ReferenceAdamPackedIdeal.Block

open Cert.ReferenceAdamPackedIdeal Cert.ReferenceAdamPackedIdeal.Gen Cert.ReferenceAdamPackedIdeal.Read Idealize.ShloMosaic Cert.Products Cert.Forward Cert.Adam
open Cert.KernelAdamPackedIdeal.Block (newM newV delta)

theorem read4 (x1 x2 : S1x304x1024.Idx → EReal) : val_main_v4 (F := Ideal) x1 x2 = newM x1 x2 := by
  refine funext fun (i : S1x304x1024.Idx) => ?_
  pointwise [val_main_v4_apply, val_main_v3_apply, val_main_v2_apply, val_main_v1_apply, val_main_v0_apply, val_main_cst_apply, val_main_cst_0_apply]
  rfl

theorem read10 (x1 x3 : S1x304x1024.Idx → EReal) : val_main_v10 (F := Ideal) x1 x3 = newV x1 x3 := by
  refine funext fun (i : S1x304x1024.Idx) => ?_
  pointwise [val_main_v10_apply, val_main_v9_apply, val_main_v8_apply, val_main_v7_apply, val_main_v6_apply, val_main_v5_apply, val_main_cst_1_apply, val_main_cst_2_apply]
  rfl

theorem read23 (x0 x1 x2 x3 : S1x304x1024.Idx → EReal) : val_main_v23 (F := Ideal) x0 x1 x2 x3 = delta x0 x1 x2 x3 := by
  refine funext fun (i : S1x304x1024.Idx) => ?_
  pointwise [val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_cst_3_apply, val_main_cst_4_apply, val_main_cst_5_apply, val_main_cst_6_apply, val_main_cst_7_apply]
  rw [read4, read10]
  rfl

end Cert.ReferenceAdamPackedIdeal.Block
-- ==== Proof.Forward.NormMod.lean ====
/-
  The modulated norm: each row over its root mean square, times the norm's weight, scaled and shifted by its stream's modulation.
-/
module

public import proofs.«01_k».proof.Proof.Products.Sums
public import proofs.«01_k».proof.Proof.Forward.Places
public import proofs.«01_k».proof.Proof.Gen.KernelNormModIdeal.Value
public import proofs.«01_k».proof.Proof.Gen.ReferenceNormModIdeal.Read
public import Idealize.ShloMosaic.Lib.Pipeline.ReadBack
public import Idealize.ShloMosaic.Lib.Pipeline.ValueKit

@[expose] public section

noncomputable section

namespace Cert.KernelNormModIdeal.Block

open Cert.KernelNormModIdeal Cert.KernelNormModIdeal.Gen Idealize.ShloMosaic Idealize.ShloMosaic.TcCoe Cert.Products Cert.Forward
open Idealize.ShloMosaic.Pipeline (Dat)

variable (m : (ℓ : Loc nD τ sig) → Buf (Elt Ideal) ℓ) (c : Dev nD)

/-- One entry of the modulated norm, from its row, its weight, its scale and its shift. -/
def entry (x : Fin 1024 → EReal) (k : Fin 1024) (w sc sh : EReal) : EReal :=
  x k * Ideal.rsqrt (Ideal.div (∑ l : Fin 1024, x l * x l) (Ideal.ofBits .f32 0x44800000#32) + Ideal.ofBits .f32 0x358637BD#32) * w
    * (1 + sc) + sh

theorem pay1_at (X : S256x1024.Idx → EReal) (W : S1x1024.Idx → EReal) (sh sc : S1x1x1024.Idx → EReal) (j : S256x1024.Idx) :
    k0_pay1 (F := Ideal) X W sh sc j = entry (fun k => X (ix2 (j 0) k)) (j 1) (W (ix2 0 (j 1))) (sc (ix3 0 0 (j 1))) (sh (ix3 0 0 (j 1))) := by
  pointwise [k0_pay1]
  rw [show X j = X (ix2 (j 0) (j 1)) from congrArg X (eq_ix2 j (j 0) (j 1) rfl rfl)]
  rfl

/-- The arguments and the result. -/
def argX : S4352x1024.Idx → EReal := m ((c : Thread nD τ).loc main_arg0)
def argW : S1024.Idx → EReal := m ((c : Thread nD τ).loc main_arg1)
def argM : S2x6x1024.Idx → EReal := m ((c : Thread nD τ).loc main_arg2)
def stream (i : S4352x1024.Idx) : Fin 2 := ⟨min ((i 0).val / 256) 1, by omega⟩
def normed (X : S4352x1024.Idx → EReal) (W : S1024.Idx → EReal) (M : S2x6x1024.Idx → EReal) : S4352x1024.Idx → EReal :=
  fun i => entry (fun k => X (ix2 (i 0) k)) (i 1) (W (ix1 (i 1))) (M (ix3 (stream i) 1 (i 1))) (M (ix3 (stream i) 0 (i 1)))

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![min t.val 1, 0, 0] := (by decide +kernel : ∀ t : Fin grid0.N, _)
theorem idx3 : ∀ t : Fin cfg0.N, win0_3.index t = ![t.val, 0] := (by decide +kernel : ∀ t : Fin grid0.N, _)

/-- The blocks a grid point takes. -/
def blkX (t : Fin cfg0.N) : S256x1024.Idx → EReal := iblk m c 0 t
def blkW (t : Fin cfg0.N) : S1x1024.Idx → EReal := iblk m c 1 t

theorem out3_at (t : Fin cfg0.N) (i : S4352x1024.Idx) (j : S256x1024.Idx)
    (h0 : (i 0).val = t.val * 256 + (j 0).val) (h1 : (i 1).val = (j 1).val) :
    out0_3 (F := Ideal) (iblk m c 0 t) (iblk m c 1 t) (iblk m c 2 t) j = normed (argX m c) (argW m c) (argM m c) i := by
  frame_out
  refine (pay1_at (blkX m c t) (blkW m c t) _ _ j).trans ?_
  unfold normed
  have e1 : j 1 = i 1 := Fin.ext h1.symm
  have ex : (fun k => blkX m c t (ix2 (j 0) k)) = fun k => argX m c (ix2 (i 0) k) := by
    refine funext fun k => ?_
    blk_point [blkX, iblk, V, idx0 t, argX]
  rw [ex, e1]
  congr 1
  · blk_point [blkW, iblk, V, idx1 t, argW]
  · blk_point [iblk, V, idx2 t, argM, stream]
  · blk_point [iblk, V, idx2 t, argM, stream]

theorem array3 : (dats m 0 c).arrAt 3 cfg0.N = normed (argX m c) (argW m c) (argM m c) := by
  refine (dats m 0 c).arrAt_eq_of_coversWhere_of_agree 3 (normed (argX m c) (argW m c) (argM m c)) (fun _ => True) (by decide +kernel) (fun t hf y => ?_) (fun j hj => absurd trivial hj)
  blk_simp
  rw [after0_3]
  refine out3_at m c t _ _ ?_ ?_
  · refine Eq.trans (b := win0_3.index t 0 * 256 + (y 0).val) (by blk_simp) ?_
    rw [idx3 t]
    rfl
  · refine Eq.trans (b := win0_3.index t 1 * 1024 + (y 1).val) (by blk_simp) ?_
    rw [idx3 t]
    show 0 * 1024 + (y 1).val = (y 1).val
    omega

end Cert.KernelNormModIdeal.Block

namespace Cert.ReferenceNormModIdeal.Block

open Cert.ReferenceNormModIdeal Cert.ReferenceNormModIdeal.Gen Cert.ReferenceNormModIdeal.Read Idealize.ShloMosaic Idealize.ShloMosaic.StableHlo Cert.Products Cert.Forward
open Cert.KernelNormModIdeal.Block (entry normed stream)

theorem context_read (x0 : S4352x1024.Idx → EReal) (x1 : S1024.Idx → EReal) (x2 : S2x6x1024.Idx → EReal) (i : S4352x1024.Idx) (hi : (i 0).val < 256) :
    val_main_v49 (F := Ideal) x0 x1 x2 (ix2 ⟨(i 0).val, hi⟩ (i 1)) = normed x0 x1 x2 i := by
  pointwise [val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v5_apply, val_main_v4_apply, val_main_v3_apply, val_main_v2_apply, val_main_v1_apply, val_main_v0_apply, val_main_cst_apply, val_main_cst_0_apply, val_main_cst_1_apply, val_main_cst_2_apply]
  have e0 : ∀ k : Fin 1024, x0 (idx_main_v28 (idx_main_v30 (idx_main_v31 (idx_main_v37 (ix2 ⟨(i 0).val, hi⟩ (i 1)))) k)) = x0 (ix2 (i 0) k) :=
    fun k => congrArg x0 (eq_ix2 _ (i 0) k (rfl) rfl)
  have e1 : x0 (idx_main_v28 (ix2 ⟨(i 0).val, hi⟩ (i 1))) = x0 (ix2 (i 0) (i 1)) := congrArg x0 (eq_ix2 _ (i 0) (i 1) (rfl) rfl)
  have e2 : x1 (idx_main_v39 (idx_main_v40 (ix2 ⟨(i 0).val, hi⟩ (i 1)))) = x1 (ix1 (i 1)) := congrArg x1 (eq_ix1 _)
  have e3 : x2 (idx_main_v0 (idx_main_v1 (idx_main_v4 (idx_main_v5 (idx_main_v44 (idx_main_v45 (ix2 ⟨(i 0).val, hi⟩ (i 1)))))))) = x2 (ix3 (stream i) 1 (i 1)) := congrArg x2 (eq_ix3 _ (stream i) 1 (i 1) (by show 0 = min ((i 0).val / 256) 1; omega) (by show ((1 + 0) * 1024 + (i 1).val % 1024) / 1024 % 6 = 1; have h1 : (i 1).val < 1024 := (i 1).isLt; omega) (by show ((1 + 0) * 1024 + (i 1).val % 1024) % 1024 = (i 1).val; have h1 : (i 1).val < 1024 := (i 1).isLt; omega))
  have e4 : x2 (idx_main_v0 (idx_main_v1 (idx_main_v2 (idx_main_v3 (idx_main_v47 (idx_main_v48 (ix2 ⟨(i 0).val, hi⟩ (i 1)))))))) = x2 (ix3 (stream i) 0 (i 1)) := congrArg x2 (eq_ix3 _ (stream i) 0 (i 1) (by show 0 = min ((i 0).val / 256) 1; omega) (by show ((0) * 1024 + (i 1).val % 1024) / 1024 % 6 = 0; have h1 : (i 1).val < 1024 := (i 1).isLt; omega) (by show ((0) * 1024 + (i 1).val % 1024) % 1024 = (i 1).val; have h1 : (i 1).val < 1024 := (i 1).isLt; omega))
  simp only [e0, e1, e2, e3, e4]
  rfl

theorem read73 (x0 : S4352x1024.Idx → EReal) (x1 : S1024.Idx → EReal) (x2 : S2x6x1024.Idx → EReal) :
    val_main_v73 (F := Ideal) x0 x1 x2 = normed x0 x1 x2 := by
  refine funext fun (i : S4352x1024.Idx) => ?_
  refine (val_main_v73_apply (F := Ideal) x0 x1 x2 i).trans ?_
  show val_main_v72 (F := Ideal) x0 x1 x2 i = _
  unfold val_main_v72
  by_cases hi : (i 0).val < 256
  · refine (concatenate_pair_apply_left (s₁ := S256x1024) (s₂ := S4096x1024) 0 (val_main_v49 (F := Ideal) x0 x1 x2) (val_main_v71 (F := Ideal) x0 x1 x2) _ i rfl (ix2 ⟨(i 0).val, hi⟩ (i 1)) fun b => ?_).trans ?_
    · match b with
      | ⟨0, _⟩ => rfl
      | ⟨1, _⟩ => rfl
    · exact context_read x0 x1 x2 i hi
  · refine (concatenate_pair_apply_right (s₁ := S256x1024) (s₂ := S4096x1024) 0 (val_main_v49 (F := Ideal) x0 x1 x2) (val_main_v71 (F := Ideal) x0 x1 x2) _ i rfl rfl (ix2 ⟨(i 0).val - 256, by have h0 : (i 0).val < 4352 := (i 0).isLt; omega⟩ (i 1)) (fun b hb => ?_) ?_).trans ?_
    · match b with
      | ⟨0, _⟩ => exact absurd rfl hb
      | ⟨1, _⟩ => rfl
    · show (i 0).val - 256 + 256 = (i 0).val
      omega
    · pointwise [val_main_v71_apply, val_main_v70_apply, val_main_v69_apply, val_main_v68_apply, val_main_v67_apply, val_main_v66_apply, val_main_v65_apply, val_main_v64_apply, val_main_v63_apply, val_main_v62_apply, val_main_v61_apply, val_main_v60_apply, val_main_v59_apply, val_main_v58_apply, val_main_v57_apply, val_main_v56_apply, val_main_v55_apply, val_main_v54_apply, val_main_v53_apply, val_main_v52_apply, val_main_v51_apply, val_main_v50_apply, val_main_v19_apply, val_main_v18_apply, val_main_v17_apply, val_main_v16_apply, val_main_v15_apply, val_main_v14_apply, val_main_cst_3_apply, val_main_cst_4_apply, val_main_cst_5_apply, val_main_cst_6_apply]
      have e0 : ∀ k : Fin 1024, x0 (idx_main_v50 (idx_main_v52 (idx_main_v53 (idx_main_v59 (ix2 ⟨(i 0).val - 256, by have h0 : (i 0).val < 4352 := (i 0).isLt; omega⟩ (i 1)))) k)) = x0 (ix2 (i 0) k) :=
        fun k => congrArg x0 (eq_ix2 _ (i 0) k (by show 256 + ((i 0).val - 256) = (i 0).val; omega) rfl)
      have e1 : x0 (idx_main_v50 (ix2 ⟨(i 0).val - 256, by have h0 : (i 0).val < 4352 := (i 0).isLt; omega⟩ (i 1))) = x0 (ix2 (i 0) (i 1)) := congrArg x0 (eq_ix2 _ (i 0) (i 1) (by show 256 + ((i 0).val - 256) = (i 0).val; omega) rfl)
      have e2 : x1 (idx_main_v61 (idx_main_v62 (ix2 ⟨(i 0).val - 256, by have h0 : (i 0).val < 4352 := (i 0).isLt; omega⟩ (i 1)))) = x1 (ix1 (i 1)) := congrArg x1 (eq_ix1 _)
      have e3 : x2 (idx_main_v14 (idx_main_v15 (idx_main_v18 (idx_main_v19 (idx_main_v66 (idx_main_v67 (ix2 ⟨(i 0).val - 256, by have h0 : (i 0).val < 4352 := (i 0).isLt; omega⟩ (i 1)))))))) = x2 (ix3 (stream i) 1 (i 1)) := congrArg x2 (eq_ix3 _ (stream i) 1 (i 1) (by show 1 = min ((i 0).val / 256) 1; omega) (by show ((1 + 0) * 1024 + (i 1).val % 1024) / 1024 % 6 = 1; have h1 : (i 1).val < 1024 := (i 1).isLt; omega) (by show ((1 + 0) * 1024 + (i 1).val % 1024) % 1024 = (i 1).val; have h1 : (i 1).val < 1024 := (i 1).isLt; omega))
      have e4 : x2 (idx_main_v14 (idx_main_v15 (idx_main_v16 (idx_main_v17 (idx_main_v69 (idx_main_v70 (ix2 ⟨(i 0).val - 256, by have h0 : (i 0).val < 4352 := (i 0).isLt; omega⟩ (i 1)))))))) = x2 (ix3 (stream i) 0 (i 1)) := congrArg x2 (eq_ix3 _ (stream i) 0 (i 1) (by show 1 = min ((i 0).val / 256) 1; omega) (by show ((0) * 1024 + (i 1).val % 1024) / 1024 % 6 = 0; have h1 : (i 1).val < 1024 := (i 1).isLt; omega) (by show ((0) * 1024 + (i 1).val % 1024) % 1024 = (i 1).val; have h1 : (i 1).val < 1024 := (i 1).isLt; omega))
      simp only [e0, e1, e2, e3, e4]
      rfl

end Cert.ReferenceNormModIdeal.Block

end
-- ==== Proof.Backward.DwAda.lean ====
/-
  The gradient of the modulation's weight: one product over the sixteen rows of gathered factors, half the columns at a time.
-/
module

public import proofs.«01_k».proof.Proof.Products.Sums
public import proofs.«01_k».proof.Proof.Gen.KernelDwAdaIdeal.Value
public import proofs.«01_k».proof.Proof.Gen.ReferenceDwAdaIdeal.Read
public import Idealize.ShloMosaic.Lib.Pipeline.ReadBack
public import Idealize.ShloMosaic.Lib.Pipeline.ValueKit

@[expose] public section

noncomputable section

namespace Cert.KernelDwAdaIdeal.Block

open Cert.KernelDwAdaIdeal Cert.KernelDwAdaIdeal.Gen Idealize.ShloMosaic Idealize.ShloMosaic.TcCoe Cert.Products
open Idealize.ShloMosaic.Pipeline (Dat)

variable (m : (ℓ : Loc nD τ sig) → Buf (Elt Ideal) ℓ) (c : Dev nD)

theorem pay1_at (A : S16x1024.Idx → EReal) (B : S16x768.Idx → EReal) (j : S1024x768.Idx) :
    k0_pay1 (F := Ideal) A B j = ∑ k : Fin 16, A (ix2 k (j 0)) * B (ix2 k (j 1)) := by
  pointwise [k0_pay1]

/-- The arguments and the gradient. -/
def argA : S16x1024.Idx → EReal := m ((c : Thread nD τ).loc main_arg0)
def argB : S16x1536.Idx → EReal := m ((c : Thread nD τ).loc main_arg1)
def grad (A : S16x1024.Idx → EReal) (B : S16x1536.Idx → EReal) : S1024x1536.Idx → EReal :=
  fun i => ∑ k : Fin 16, A (ix2 k (i 0)) * B (ix2 k (i 1))

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

/-- The blocks a grid point takes. -/
def blkA (t : Fin cfg0.N) : S16x1024.Idx → EReal := iblk m c 0 t
def blkB (t : Fin cfg0.N) : S16x768.Idx → EReal := iblk m c 1 t

theorem out2_at (t : Fin cfg0.N) (i : S1024x1536.Idx) (j : S1024x768.Idx)
    (h0 : (i 0).val = (j 0).val) (h1 : (i 1).val = t.val * 768 + (j 1).val) :
    out0_2 (F := Ideal) (iblk m c 0 t) (iblk m c 1 t) j = grad (argA m c) (argB m c) i := by
  frame_out
  refine (pay1_at (blkA m c t) (blkB m c t) j).trans (Finset.sum_congr rfl fun k _ => congrArg₂ (· * ·) ?_ ?_)
  · blk_point [blkA, iblk, V, idx0 t, argA]
  · blk_point [blkB, iblk, V, idx1 t, argB]

theorem array2 : (dats m 0 c).arrAt 2 cfg0.N = grad (argA m c) (argB m c) := by
  refine (dats m 0 c).arrAt_eq_of_coversWhere_of_agree 2 (grad (argA m c) (argB m c)) (fun _ => True) (by decide +kernel) (fun t hf y => ?_) (fun j hj => absurd trivial hj)
  blk_simp
  rw [after0_2]
  refine out2_at m c t _ _ ?_ ?_
  · refine Eq.trans (b := win0_2.index t 0 * 1024 + (y 0).val) (by blk_simp) ?_
    rw [idx2 t]
    show 0 * 1024 + (y 0).val = (y 0).val
    omega
  · refine Eq.trans (b := win0_2.index t 1 * 768 + (y 1).val) (by blk_simp) ?_
    rw [idx2 t]
    rfl

end Cert.KernelDwAdaIdeal.Block

namespace Cert.ReferenceDwAdaIdeal.Block

open Cert.ReferenceDwAdaIdeal Cert.ReferenceDwAdaIdeal.Gen Cert.ReferenceDwAdaIdeal.Read Idealize.ShloMosaic Cert.Products

/-- The derivative is the same sum, its factors the other way round. -/
theorem read5 (x0 : S16x1024.Idx → EReal) (x1 : S16x1536.Idx → EReal) :
    val_main_v5 (F := Ideal) x0 x1 = Cert.KernelDwAdaIdeal.Block.grad x0 x1 := by
  refine funext fun (i : S1024x1536.Idx) => ?_
  pointwise [val_main_v5_apply, val_main_v4_apply, val_main_v3_apply, val_main_v1_apply]
  exact Finset.sum_congr rfl fun k _ => (mul_comm _ _).trans (congrArg₂ (· * ·) (congrArg x0 (eq_ix2 _ k (i 0) rfl rfl)) (congrArg x1 (eq_ix2 _ k (i 1) rfl rfl)))

end Cert.ReferenceDwAdaIdeal.Block
-- ==== Proof.Backward.Rms.lean ====
/-
  The derivative of the root-mean-square norm of a row, over the extended reals: the kernel's closed form and the chain rule's.
-/
module

public import proofs.«01_k».proof.Proof.Sgu.Consts

@[expose] public section

noncomputable section

namespace Cert.Backward

open Idealize.ShloMosaic

theorem bits_rms_eps : Ideal.ofBits .f32 0x358637BD#32 = ((8796093 / 8796093022208 : ℝ) : EReal) := by
  simp [Ideal.ofBits, Ideal.ieee, -EReal.coe_mul]; norm_num
theorem bits_1024th : Ideal.ofBits .f32 0x3A800000#32 = ((1 / 1024 : ℝ) : EReal) := by
  simp [Ideal.ofBits, Ideal.ieee, -EReal.coe_mul]; norm_num
theorem bits_2048th : Ideal.ofBits .f32 0x3A000000#32 = ((1 / 2048 : ℝ) : EReal) := by
  simp [Ideal.ofBits, Ideal.ieee, -EReal.coe_mul]; norm_num

theorem div_1024 (y : EReal) : Ideal.div y (Ideal.ofBits .f32 0x44800000#32) = y * ((1 / 1024 : ℝ) : EReal) := by
  rw [Sgu.bits_1024, Ideal.div, if_neg (by exact_mod_cast (by norm_num : (1024 : ℝ) ≠ 0)), ← EReal.coe_inv, one_div]

/-- A nonnegative real factor comes out of a sum of extended reals. -/
theorem scale_sum {ι : Type*} (s : Finset ι) (p : ℝ) (hp : 0 ≤ p) (f : ι → EReal) : (p : EReal) * ∑ l ∈ s, f l = ∑ l ∈ s, (p : EReal) * f l := by
  classical
  induction s using Finset.induction_on with
  | empty => simp
  | insert a s ha ih =>
    rw [Finset.sum_insert ha, Finset.sum_insert ha, ← ih, EReal.left_distrib_of_nonneg_of_ne_top (by exact_mod_cast hp) (EReal.coe_ne_top p)]

/-- Twice an extended real. -/
theorem twice (y : EReal) : y + y = ((2 : ℝ) : EReal) * y := by
  induction y with
  | bot => rw [EReal.coe_mul_bot_of_pos (by norm_num)]; rfl
  | coe r => rw [← EReal.coe_add, ← EReal.coe_mul, two_mul]
  | top => rw [EReal.coe_mul_top_of_pos (by norm_num)]; rfl

/-- A row's mean square and the small number, and the reciprocal of its root. -/
def meanSq (x : Fin 1024 → EReal) : EReal :=
  Ideal.div (∑ l, x l * x l) (Ideal.ofBits .f32 0x44800000#32) + Ideal.ofBits .f32 0x358637BD#32
def root (x : Fin 1024 → EReal) : EReal := Ideal.rsqrt (meanSq x)

theorem sq_nonneg' (y : EReal) : 0 ≤ y * y := by
  rcases le_total 0 y with h | h
  · exact mul_nonneg h h
  · exact EReal.mul_nonneg_iff.mpr (Or.inr ⟨h, h⟩)

/-- Either the root's reciprocal is zero, with its quotient by the mean square, or it is a positive real and the quotient is
its cube. -/
theorem root_cases (x : Fin 1024 → EReal) :
    (root x = 0 ∧ Ideal.div (root x) (meanSq x) = 0)
      ∨ ∃ p : ℝ, 0 < p ∧ root x = (p : EReal) ∧ Ideal.div (root x) (meanSq x) = ((p * p * p : ℝ) : EReal) := by
  have hs : (0 : EReal) ≤ ∑ l, x l * x l := Finset.sum_nonneg fun l _ => sq_nonneg' (x l)
  unfold root meanSq
  rw [div_1024, bits_rms_eps]
  generalize (∑ l, x l * x l) = s at hs
  induction s with
  | bot => simp at hs
  | top =>
    left
    rw [EReal.top_mul_coe_of_pos (by norm_num), EReal.top_add_coe, Ideal.rsqrt_top]
    exact ⟨rfl, by rw [Ideal.div, if_neg (by simp), zero_mul]⟩
  | coe s =>
    right
    have hs' : (0 : ℝ) ≤ s := by exact_mod_cast hs
    rw [← EReal.coe_mul, ← EReal.coe_add]
    have hv : 0 < s * (1 / 1024) + 8796093 / 8796093022208 := by positivity
    generalize s * (1 / 1024) + 8796093 / 8796093022208 = v at hv
    have hq : 0 < Real.sqrt v := Real.sqrt_pos.mpr hv
    refine ⟨(Real.sqrt v)⁻¹, inv_pos.mpr hq, ?_, ?_⟩
    · rw [Ideal.rsqrt_coe, if_neg (not_lt.mpr hv.le), if_neg hv.ne']
    · rw [Ideal.rsqrt_coe, if_neg (not_lt.mpr hv.le), if_neg hv.ne', Ideal.div, if_neg (by exact_mod_cast hv.ne'), ← EReal.coe_inv, ← EReal.coe_mul]
      congr 1
      conv_lhs => rw [← Real.mul_self_sqrt hv.le]
      rw [mul_inv]
      simp only [Real.mul_self_sqrt hv.le]
      ring

/-- The chain rule's half of the derivative that comes through the mean square. -/
def through (x d : Fin 1024 → EReal) : EReal :=
  Ideal.div ((∑ l, x l * d l) * (Ideal.ofBits .f32 0xBF000000#32 * Ideal.div (root x) (meanSq x))) (Ideal.ofBits .f32 0x44800000#32)

/-- The kernel's closed form is the chain rule's. -/
theorem norm_deriv (x d : Fin 1024 → EReal) (k : Fin 1024) :
    root x * (d k - x k * root x * Ideal.div (∑ l, d l * (x l * root x)) (Ideal.ofBits .f32 0x44800000#32))
      = d k * root x + x k * through x d + through x d * x k := by
  unfold through
  rw [div_1024, div_1024, Sgu.bits_neg_half]
  rcases root_cases x with ⟨h, h'⟩ | ⟨p, hp, h, h'⟩
  · rw [h', h]
    simp
  · rw [h', h]
    have e1 : ∑ l, d l * (x l * (p : EReal)) = (p : EReal) * ∑ l, x l * d l := by
      rw [scale_sum _ p hp.le]
      exact Finset.sum_congr rfl fun l _ => by ac_rfl
    rw [e1]
    generalize (∑ l, x l * d l) = S
    have e2 : x k * (p : EReal) * ((p : EReal) * S * ((1 / 1024 : ℝ) : EReal)) = ((p * p * (1 / 1024) : ℝ) : EReal) * (x k * S) := by
      simp only [EReal.coe_mul]; ac_rfl
    have e3 : x k * (S * (((-(1 / 2) : ℝ) : EReal) * ((p * p * p : ℝ) : EReal)) * ((1 / 1024 : ℝ) : EReal))
        = ((-(1 / 2) * (p * p * p) * (1 / 1024) : ℝ) : EReal) * (x k * S) := by
      simp only [EReal.coe_mul]; ac_rfl
    rw [mul_comm (S * _ * _) (x k), e2, e3, sub_eq_add_neg, EReal.left_distrib_of_nonneg_of_ne_top (by exact_mod_cast hp.le) (EReal.coe_ne_top p), add_assoc, twice,
      ← EReal.neg_mul, ← EReal.coe_neg, ← mul_assoc (p : EReal), ← mul_assoc ((2 : ℝ) : EReal), ← EReal.coe_mul, ← EReal.coe_mul, mul_comm (p : EReal) (d k)]
    congr 3
    ring

/-- The loss's derivative in an output: the kernel's, and the chain rule's. -/
theorem err_deriv (e : EReal) :
    e * Ideal.ofBits .f32 0x3A800000#32
      = Ideal.div (Ideal.ofBits .f32 0x3F000000#32 * Ideal.ofBits .f32 0x3F800000#32) (Ideal.ofBits .f32 0x44800000#32) * (Ideal.ofBits .f32 0x40000000#32 * e) := by
  rw [div_1024, bits_1024th, Sgu.bits_half, Sgu.bits_one, Sgu.bits_two, ← mul_assoc, ← EReal.coe_mul, ← EReal.coe_mul, ← EReal.coe_mul, mul_comm]
  congr 2
  norm_num

end Cert.Backward

end
-- ==== Proof.Backward.Loss.lean ====
/-
  The loss of the final norm's rows against their targets, and its derivatives in the rows and in the norm's weight.
-/
module

public import proofs.«01_k».proof.Proof.Backward.Rms
public import proofs.«01_k».proof.Proof.Products.Sums
public import proofs.«01_k».proof.Proof.Forward.Places
public import proofs.«01_k».proof.Proof.Gen.KernelLossIdeal.Value
public import proofs.«01_k».proof.Proof.Gen.ReferenceLossIdeal.Read
public import Idealize.ShloMosaic.Lib.Pipeline.ReadBack
public import Idealize.ShloMosaic.Lib.Pipeline.ValueKit
public import Idealize.ShloMosaic.Lib.KernelVsHost

@[expose] public section

noncomputable section

namespace Cert.Backward

open Idealize.ShloMosaic

/-- A row normed, its error against the target, and the loss's derivative in an output. -/
def xh (x : Fin 1024 → EReal) (k : Fin 1024) : EReal := x k * root x
def err (x w g : Fin 1024 → EReal) (k : Fin 1024) : EReal := xh x k * w k - g k
def dy (x w g : Fin 1024 → EReal) (k : Fin 1024) : EReal := err x w g k * Ideal.ofBits .f32 0x3A800000#32

/-- The derivative in the row: the kernel's closed form. -/
def dx (x w g : Fin 1024 → EReal) (k : Fin 1024) : EReal :=
  root x * (dy x w g k * w k - x k * root x * Ideal.div (∑ l, dy x w g l * w l * (x l * root x)) (Ideal.ofBits .f32 0x44800000#32))

end Cert.Backward

namespace Cert.KernelLossIdeal.Block

open Cert.KernelLossIdeal Cert.KernelLossIdeal.Gen Idealize.ShloMosaic Idealize.ShloMosaic.TcCoe Cert.Products Cert.Forward Cert.Backward
open Idealize.ShloMosaic.Pipeline (Dat)

variable (m : (ℓ : Loc nD τ sig) → Buf (Elt Ideal) ℓ) (c : Dev nD)

/-- A row of a block. -/
def row {n : Nat} (A : (⟨2, ![n, 1024]⟩ : Shape).Idx → EReal) (r : Fin n) : Fin 1024 → EReal := fun k => A (ix2 r k)

theorem pay5_at (A : S256x1024.Idx → EReal) (j : S256x1.Idx) : k0_pay5 (F := Ideal) A j = root (row A (j 0)) := by
  pointwise [k0_pay5]
  rfl

theorem pay6_at (A : S256x1024.Idx → EReal) (j : S256x1024.Idx) : k0_pay6 (F := Ideal) A j = xh (row A (j 0)) (j 1) := by
  pointwise [k0_pay6]
  rw [pay5_at]
  exact congrArg (· * _) (congrArg A (eq_ix2 j (j 0) (j 1) rfl rfl))

theorem pay8_at (A : S256x1024.Idx → EReal) (W : S1x1024.Idx → EReal) (T : S256x1024.Idx → EReal) (j : S256x1024.Idx) :
    k0_pay8 (F := Ideal) A W T j = err (row A (j 0)) (row W 0) (row T (j 0)) (j 1) := by
  pointwise [k0_pay8, k0_pay7]
  rw [pay6_at]
  exact congrArg (_ - ·) (congrArg T (eq_ix2 j (j 0) (j 1) rfl rfl))

theorem pay10_at (A : S256x1024.Idx → EReal) (W : S1x1024.Idx → EReal) (T : S256x1024.Idx → EReal) (j : S256x1024.Idx) :
    k0_pay10 (F := Ideal) A W T j = dy (row A (j 0)) (row W 0) (row T (j 0)) (j 1) := by
  pointwise [k0_pay10]
  rw [pay8_at]
  rfl

theorem pay4_at (A : S256x1024.Idx → EReal) (W : S1x1024.Idx → EReal) (T : S256x1024.Idx → EReal) (j : S256x1024.Idx) :
    k0_pay4 (F := Ideal) (k0_pay5 A) (k0_pay6 A) (k0_pay7 W) (k0_pay10 A W T) j = dx (row A (j 0)) (row W 0) (row T (j 0)) (j 1) := by
  pointwise [k0_pay4, k0_pay7]
  simp only [pay5_at, pay6_at, pay10_at]
  rfl

theorem pay9_at (A : S256x1024.Idx → EReal) (W : S1x1024.Idx → EReal) (T : S256x1024.Idx → EReal) (Z : S1x128.Idx → EReal) (j : S1x128.Idx) :
    k0_pay9 (F := Ideal) A W T Z j = Z j + Ideal.ofBits .f32 0x3A000000#32 * ∑ r : Fin 256, ∑ k : Fin 1024, err (row A r) (row W 0) (row T r) k * err (row A r) (row W 0) (row T r) k := by
  pointwise [k0_pay9]
  simp only [pay8_at]
  rfl

theorem pay11_at (A : S256x1024.Idx → EReal) (W : S1x1024.Idx → EReal) (T : S256x1024.Idx → EReal) (Z : S1x1024.Idx → EReal) (j : S1x1024.Idx) :
    k0_pay11 (F := Ideal) A W T Z j = Z j + ∑ r : Fin 256, dy (row A r) (row W 0) (row T r) (j 1) * xh (row A r) (j 1) := by
  pointwise [k0_pay11]
  simp only [pay10_at, pay6_at]
  rfl

theorem pay1_at (j : S1x128.Idx) : k0_pay1 (F := Ideal) j = 0 := by
  pointwise [k0_pay1]
theorem pay2_at (j : S1x1024.Idx) : k0_pay2 (F := Ideal) j = 0 := by
  pointwise [k0_pay2]
theorem pay3_at (j : S256x1024.Idx) : k0_pay3 (F := Ideal) j = 0 := by
  pointwise [k0_pay3]

/-- What the first point leaves: zeros. -/
theorem case_A (t : Fin cfg0.N) (h0 : t.val % 17 = 0) (h2 : ¬1 ≤ t.val) :
    outsAt0 m c t.val t.isLt = (k0_pay3 (F := Ideal), k0_pay1 (F := Ideal), k0_pay2 (F := Ideal)) := by
  rw [outsAt0_A m c t h0 h0 h2]
  frame_out

/-- The blocks a grid point takes. -/
def blkX (t : Fin cfg0.N) : S256x1024.Idx → EReal := iblk m c 0 t
def blkT (t : Fin cfg0.N) : S256x1024.Idx → EReal := iblk m c 1 t
def blkW (t : Fin cfg0.N) : S1x1024.Idx → EReal := iblk m c 2 t

/-- What a later point leaves, over what the point before it left. -/
theorem case_B (t : Fin cfg0.N) (h0 : ¬t.val % 17 = 0) (h2 : 1 ≤ t.val) :
    outsAt0 m c t.val t.isLt
      = (k0_pay4 (F := Ideal) (k0_pay5 (blkX m c t)) (k0_pay6 (blkX m c t)) (k0_pay7 (blkW m c t)) (k0_pay10 (blkX m c t) (blkW m c t) (blkT m c t)),
        k0_pay9 (F := Ideal) (blkX m c t) (blkW m c t) (blkT m c t) (outsAt0 m c (t.val - 1) (Nat.lt_of_le_of_lt (Nat.sub_le _ _) t.isLt)).2.1,
        k0_pay11 (F := Ideal) (blkX m c t) (blkW m c t) (blkT m c t) (outsAt0 m c (t.val - 1) (Nat.lt_of_le_of_lt (Nat.sub_le _ _) t.isLt)).2.2) := by
  rw [outsAt0_B m c t h0 h0 h2]
  frame_out
  rfl

/-- The arguments and the results. -/
def argX : S4352x1024.Idx → EReal := m ((c : Thread nD τ).loc main_arg0)
def argT : S4096x1024.Idx → EReal := m ((c : Thread nD τ).loc main_arg1)
def argW : S1024.Idx → EReal := m ((c : Thread nD τ).loc main_arg2)
def xrow (X : S4352x1024.Idx → EReal) (s : Fin 4096) : Fin 1024 → EReal := fun k => X (ix2 ⟨256 + s.val, by omega⟩ k)
def wrow (W : S1024.Idx → EReal) : Fin 1024 → EReal := fun k => W (ix1 k)
def trow (T : S4096x1024.Idx → EReal) (s : Fin 4096) : Fin 1024 → EReal := fun k => T (ix2 s k)

def dxArr (X : S4352x1024.Idx → EReal) (T : S4096x1024.Idx → EReal) (W : S1024.Idx → EReal) : S4352x1024.Idx → EReal := fun i =>
  if h : (i 0).val < 256 then 0
  else dx (xrow X ⟨(i 0).val - 256, by have h0 : (i 0).val < 4352 := (i 0).isLt; omega⟩) (wrow W) (trow T ⟨(i 0).val - 256, by have h0 : (i 0).val < 4352 := (i 0).isLt; omega⟩) (i 1)
def lossRow (X : S4352x1024.Idx → EReal) (T : S4096x1024.Idx → EReal) (W : S1024.Idx → EReal) (s : Fin 4096) : EReal :=
  ∑ k, err (xrow X s) (wrow W) (trow T s) k * err (xrow X s) (wrow W) (trow T s) k
def lossArr (X : S4352x1024.Idx → EReal) (T : S4096x1024.Idx → EReal) (W : S1024.Idx → EReal) : S1x128.Idx → EReal := fun _ =>
  Ideal.ofBits .f32 0x3A000000#32 * ∑ s : Fin 4096, lossRow X T W s
def dwArr (X : S4352x1024.Idx → EReal) (T : S4096x1024.Idx → EReal) (W : S1024.Idx → EReal) : S1x1024.Idx → EReal := fun i =>
  ∑ s : Fin 4096, dy (xrow X s) (wrow W) (trow T s) (i 1) * xh (xrow X s) (i 1)

theorem idx0 : ∀ t : Fin cfg0.N, win0_0.index t = ![t.val, 0] := (by decide +kernel : ∀ t : Fin grid0.N, _)
theorem idx1 : ∀ t : Fin cfg0.N, win0_1.index t = ![t.val - 1, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

/-- The rows a later point takes are latents' rows and their targets. -/
theorem rowX (t : Fin cfg0.N) (b : Fin 16) (hb : t.val = b.val + 1) (r : Fin 256) :
    row (blkX m c t) r = xrow (argX m c) (at' 16 256 rfl b r) := by
  refine funext fun k => ?_
  show blkX m c t (ix2 r k) = argX m c (ix2 _ k)
  blk_point [blkX, iblk, V, idx0 t, hb, at', argX]
theorem rowT (t : Fin cfg0.N) (b : Fin 16) (hb : t.val = b.val + 1) (r : Fin 256) :
    row (blkT m c t) r = trow (argT m c) (at' 16 256 rfl b r) := by
  refine funext fun k => ?_
  show blkT m c t (ix2 r k) = argT m c (ix2 _ k)
  blk_point [blkT, iblk, V, idx1 t, hb, at', argT]
theorem rowW (t : Fin cfg0.N) : row (blkW m c t) 0 = wrow (argW m c) := by
  refine funext fun k => ?_
  show blkW m c t (ix2 0 k) = argW m c (ix1 k)
  blk_point [blkW, iblk, V, idx2 t, argW]

/-- Sixteen additions to zero are the sum of what was added. -/
theorem fold (a : (n : ℕ) → n < cfg0.N → EReal) (g : Fin 16 → EReal) (h0 : a 0 (by decide) = 0)
    (hs : ∀ (b : Fin 16) (h : b.val + 1 < cfg0.N), a (b.val + 1) h = a b.val (Nat.lt_of_succ_lt h) + g b) (n : ℕ) (hn : n < cfg0.N) (h16 : n = 16) : a n hn = ∑ b, g b := by
  have key : ∀ (n : ℕ) (hn : n ≤ 16) (h : n < cfg0.N), a n h = ∑ b : Fin n, g ⟨b.val, lt_of_lt_of_le b.isLt hn⟩ := by
    intro n
    induction n with
    | zero => intro _ _; simpa using h0
    | succ n ih =>
      intro hn h
      rw [Fin.sum_univ_castSucc, hs ⟨n, hn⟩ h, ih (by omega) (Nat.lt_of_succ_lt h)]
      rfl
  rw [key n h16.le hn]
  subst h16
  rfl

theorem lt_N (t : Fin cfg0.N) : t.val < 17 := lt_of_lt_of_eq t.isLt N_0

theorem loss_at (n : ℕ) (hn : n < cfg0.N) (h16 : n = 16) (j : S1x128.Idx) :
    (outsAt0 m c n hn).2.1 j = lossArr (argX m c) (argT m c) (argW m c) j := by
  refine (fold (fun n h => (outsAt0 m c n h).2.1 j)
    (fun b => Ideal.ofBits .f32 0x3A000000#32 * ∑ r : Fin 256, lossRow (argX m c) (argT m c) (argW m c) (at' 16 256 rfl b r)) ?_ (fun b h => ?_) n hn h16).trans ?_
  · show (outsAt0 m c 0 _).2.1 j = 0
    rw [case_A m c ⟨0, by decide⟩ rfl (by decide)]
    exact pay1_at j
  · have hb : ¬(b.val + 1) % 17 = 0 := by omega
    show (outsAt0 m c (b.val + 1) h).2.1 j = _
    rw [case_B m c ⟨b.val + 1, h⟩ hb (Nat.le_add_left 1 _)]
    refine (pay9_at _ _ _ _ j).trans ?_
    refine congrArg (_ + ·) (congrArg (_ * ·) (Finset.sum_congr rfl fun r _ => ?_))
    rw [rowX m c ⟨b.val + 1, h⟩ b rfl, rowT m c ⟨b.val + 1, h⟩ b rfl, rowW]
    rfl
  · rw [lossArr, bits_2048th, ← scale_sum _ _ (by norm_num), sum_blocks 16 256 rfl]

theorem dw_at (n : ℕ) (hn : n < cfg0.N) (h16 : n = 16) (j : S1x1024.Idx) :
    (outsAt0 m c n hn).2.2 j = dwArr (argX m c) (argT m c) (argW m c) j := by
  refine (fold (fun n h => (outsAt0 m c n h).2.2 j)
    (fun b => ∑ r : Fin 256, (fun s => dy (xrow (argX m c) s) (wrow (argW m c)) (trow (argT m c) s) (j 1) * xh (xrow (argX m c) s) (j 1)) (at' 16 256 rfl b r)) ?_ (fun b h => ?_) n hn h16).trans ?_
  · show (outsAt0 m c 0 _).2.2 j = 0
    rw [case_A m c ⟨0, by decide⟩ rfl (by decide)]
    exact pay2_at j
  · have hb : ¬(b.val + 1) % 17 = 0 := by omega
    show (outsAt0 m c (b.val + 1) h).2.2 j = _
    rw [case_B m c ⟨b.val + 1, h⟩ hb (Nat.le_add_left 1 _)]
    refine (pay11_at _ _ _ _ j).trans ?_
    refine congrArg (_ + ·) (Finset.sum_congr rfl fun r _ => ?_)
    rw [rowX m c ⟨b.val + 1, h⟩ b rfl, rowT m c ⟨b.val + 1, h⟩ b rfl, rowW]
  · exact (sum_blocks 16 256 rfl fun s : Fin 4096 => dy (xrow (argX m c) s) (wrow (argW m c)) (trow (argT m c) s) (j 1) * xh (xrow (argX m c) s) (j 1)).symm

theorem dx_congr {x x' w w' g g' : Fin 1024 → EReal} {k k' : Fin 1024} (hx : x = x') (hw : w = w') (hg : g = g') (hk : k = k') :
    dx x w g k = dx x' w' g' k' := by
  rw [hx, hw, hg, hk]

theorem dx_at (t : Fin cfg0.N) (i : S4352x1024.Idx) (j : S256x1024.Idx)
    (h0 : (i 0).val = t.val * 256 + (j 0).val) (h1 : (i 1).val = (j 1).val) :
    (outsAt0 m c t.val t.isLt).1 j = dxArr (argX m c) (argT m c) (argW m c) i := by
  have hj : (j 0).val < 256 := (j 0).isLt
  have hN := lt_N t
  unfold dxArr
  by_cases ht : 1 ≤ t.val
  · rw [case_B m c t (by omega) ht, dif_neg (by omega)]
    refine (pay4_at _ _ _ j).trans ?_
    have hb : t.val = (⟨t.val - 1, by omega⟩ : Fin 16).val + 1 := by show t.val = t.val - 1 + 1; omega
    have e1 : j 1 = i 1 := Fin.ext h1.symm
    have e0 : at' 16 256 rfl (⟨t.val - 1, by omega⟩ : Fin 16) (j 0) = (⟨(i 0).val - 256, by have h0 : (i 0).val < 4352 := (i 0).isLt; omega⟩ : Fin 4096) :=
      Fin.ext (by show 256 * (t.val - 1) + (j 0).val = (i 0).val - 256; omega)
    exact dx_congr ((rowX m c t _ hb (j 0)).trans (congrArg _ e0)) (rowW m c t) ((rowT m c t _ hb (j 0)).trans (congrArg _ e0)) e1
  · rw [case_A m c t (by omega) ht, dif_pos (by omega)]
    exact pay3_at j

theorem array3 : (dats m 0 c).arrAt 3 cfg0.N = dxArr (argX m c) (argT m c) (argW m c) := by
  refine (dats m 0 c).arrAt_eq_of_coversWhere_of_agree 3 (dxArr (argX m c) (argT m c) (argW m c)) (fun _ => True) (by decide +kernel) (fun t hf y => ?_) (fun j hj => absurd trivial hj)
  blk_simp
  rw [after0_3]
  refine dx_at m c t _ _ ?_ ?_
  · refine Eq.trans (b := win0_3.index t 0 * 256 + (y 0).val) (by blk_simp) ?_
    rw [idx3 t]
    rfl
  · refine Eq.trans (b := win0_3.index t 1 * 1024 + (y 1).val) (by blk_simp) ?_
    rw [idx3 t]
    show 0 * 1024 + (y 1).val = (y 1).val
    omega

theorem dw_last (t : Fin cfg0.N) (ht : t.val = 16) (i j : S1x1024.Idx) (h1 : (i 1).val = (j 1).val) :
    (outsAt0 m c t.val t.isLt).2.2 j = dwArr (argX m c) (argT m c) (argW m c) i := by
  refine (dw_at m c t.val t.isLt ht j).trans ?_
  unfold dwArr
  rw [show j 1 = i 1 from Fin.ext h1.symm]

theorem array4 : (dats m 0 c).arrAt 4 cfg0.N = lossArr (argX m c) (argT m c) (argW m c) := by
  refine (dats m 0 c).arrAt_eq_of_coversWhere_of_agree 4 (lossArr (argX m c) (argT m c) (argW m c)) (fun _ => True) (by decide +kernel) (fun t hf y => ?_) (fun j hj => absurd trivial hj)
  have ht : t.val = 16 := by have h := (flush0_4 t).mp hf; have hN := lt_N t; omega
  blk_simp
  rw [after0_4]
  exact loss_at m c t.val t.isLt ht _

theorem idx5 : ∀ t : Fin cfg0.N, win0_5.index t = ![0, 0] := (by decide +kernel : ∀ t : Fin grid0.N, _)

theorem array5 : (dats m 0 c).arrAt 5 cfg0.N = dwArr (argX m c) (argT m c) (argW m c) := by
  refine (dats m 0 c).arrAt_eq_of_coversWhere_of_agree 5 (dwArr (argX m c) (argT m c) (argW m c)) (fun _ => True) (by decide +kernel) (fun t hf y => ?_) (fun j hj => absurd trivial hj)
  have ht : t.val = 16 := by have h := (flush0_5 t).mp hf; have hN := lt_N t; omega
  blk_simp
  rw [after0_5]
  refine dw_last m c t ht _ _ ?_
  refine Eq.trans (b := win0_5.index t 1 * 1024 + (y 1).val) (by blk_simp) ?_
  rw [idx5 t]
  show 0 * 1024 + (y 1).val = (y 1).val
  omega

end Cert.KernelLossIdeal.Block

end
-- ==== Proof.Backward.LossRead.lean ====
/-
  The reference's loss and derivatives, read off its operations: the chain rule's arrangement of the kernel's.
-/
module

public import proofs.«01_k».proof.Proof.Backward.Loss

@[expose] public section

noncomputable section

namespace Cert.ReferenceLossIdeal.Block

open Cert.ReferenceLossIdeal Cert.ReferenceLossIdeal.Gen Cert.ReferenceLossIdeal.Read Idealize.ShloMosaic Idealize.ShloMosaic.StableHlo Cert.Products Cert.Forward Cert.Backward
open Cert.KernelLossIdeal.Block (xrow wrow trow dxArr lossArr lossRow dwArr)

variable (x0 : S4352x1024.Idx → EReal) (x1 : S4096x1024.Idx → EReal) (x2 : S1024.Idx → EReal)

theorem v0_at (i : S4096x1024.Idx) : val_main_v0 (F := Ideal) x0 i = xrow x0 (i 0) (i 1) := by
  refine (val_main_v0_apply (F := Ideal) x0 i).trans ?_
  exact congrArg x0 (eq_ix2 _ ⟨256 + (i 0).val, by have h0 : (i 0).val < 4096 := (i 0).isLt; omega⟩ (i 1) rfl rfl)

theorem v7_at (i : S4096x1.Idx) : val_main_v7 (F := Ideal) x0 i = meanSq (xrow x0 (i 0)) := by
  pointwise [val_main_v7_apply, val_main_v6_apply, val_main_v5_apply, val_main_v4_apply, val_main_v3_apply, val_main_v2_apply, val_main_v1_apply,
    val_main_cst_apply, val_main_cst_0_apply, val_main_cst_1_apply]
  simp only [v0_at]
  rfl

theorem v8_at (i : S4096x1.Idx) : val_main_v8 (F := Ideal) x0 i = root (xrow x0 (i 0)) := by
  pointwise [val_main_v8_apply]
  rw [v7_at]
  rfl

theorem v13_at (i : S4096x1024.Idx) : val_main_v13 (F := Ideal) x0 i = xh (xrow x0 (i 0)) (i 1) := by
  pointwise [val_main_v13_apply, val_main_v12_apply]
  rw [v0_at, v8_at]
  rfl

theorem w_at (i : S4096x1024.Idx) : val_main_v15 (F := Ideal) x2 i = wrow x2 (i 1) := by
  pointwise [val_main_v15_apply, val_main_v14_apply]
  exact congrArg x2 (eq_ix1 _)

theorem w'_at (i : S4096x1024.Idx) : val_main_v35 (F := Ideal) x2 i = wrow x2 (i 1) := by
  pointwise [val_main_v35_apply, val_main_v14_apply]
  exact congrArg x2 (eq_ix1 _)

theorem v17_at (i : S4096x1024.Idx) : val_main_v17 (F := Ideal) x0 x1 x2 i = err (xrow x0 (i 0)) (wrow x2) (trow x1 (i 0)) (i 1) := by
  pointwise [val_main_v17_apply, val_main_v16_apply]
  rw [v13_at, w_at]
  exact congrArg (_ - ·) (congrArg x1 (eq_ix2 i (i 0) (i 1) rfl rfl))

theorem v31_at (i : S4096x1024.Idx) : val_main_v31 (F := Ideal) x0 x1 x2 i = dy (xrow x0 (i 0)) (wrow x2) (trow x1 (i 0)) (i 1) := by
  refine Eq.trans ?_ (err_deriv _).symm
  rw [← v17_at]
  refine (val_main_v31_apply (F := Ideal) x0 x1 x2 i).trans ?_
  rfl

theorem v36_at (i : S4096x1024.Idx) : val_main_v36 (F := Ideal) x0 x1 x2 i = dy (xrow x0 (i 0)) (wrow x2) (trow x1 (i 0)) (i 1) * wrow x2 (i 1) := by
  pointwise [val_main_v36_apply]
  rw [v31_at, w'_at]

theorem v11_at (i : S4096x1.Idx) : val_main_v11 (F := Ideal) x0 i
    = Ideal.ofBits .f32 0xBF000000#32 * Ideal.div (root (xrow x0 (i 0))) (meanSq (xrow x0 (i 0))) := by
  refine (val_main_v11_apply (F := Ideal) x0 i).trans (congrArg₂ (· * ·) ?_ ?_)
  · rfl
  · refine (val_main_v9_apply (F := Ideal) x0 i).trans ?_
    rw [v8_at, v7_at]
    rfl

theorem v40_at (i : S4096x1.Idx) : val_main_v40 (F := Ideal) x0 x1 x2 i
    = ∑ l, xrow x0 (i 0) l * (dy (xrow x0 (i 0)) (wrow x2) (trow x1 (i 0)) l * wrow x2 l) := by
  refine (val_main_v40_apply (F := Ideal) x0 x1 x2 i).trans ?_
  rw [show idx_main_v40 i = ix1 (i 0) from (eq_ix1 _).trans (congrArg ix1 (Fin.ext (by
    show (i 0).val * 1 + (i 1).val = (i 0).val
    have h1 : (i 1).val < 1 := (i 1).isLt
    omega)))]
  pointwise [val_main_v39_apply, val_main_v38_apply, val_main_cst_13_apply]
  simp only [v0_at, v36_at]
  rfl

/-- What comes through the mean square. -/
theorem v47_at (i : S4096x1024.Idx) : val_main_v47 (F := Ideal) x0 x1 x2 i
    = through (xrow x0 (i 0)) fun l => dy (xrow x0 (i 0)) (wrow x2) (trow x1 (i 0)) l * wrow x2 l := by
  pointwise [val_main_v47_apply, val_main_v46_apply, val_main_v45_apply, val_main_v44_apply, val_main_v43_apply,
    val_main_cst_14_apply, val_main_cst_15_apply]
  simp only [v11_at, v40_at]
  rw [Fin.sum_univ_one]
  rfl

theorem v51_at (i : S4096x1024.Idx) : val_main_v51 (F := Ideal) x0 x1 x2 i = dx (xrow x0 (i 0)) (wrow x2) (trow x1 (i 0)) (i 1) := by
  refine Eq.trans ?_ (norm_deriv (xrow x0 (i 0)) (fun l => dy (xrow x0 (i 0)) (wrow x2) (trow x1 (i 0)) l * wrow x2 l) (i 1)).symm
  pointwise [val_main_v51_apply, val_main_v50_apply, val_main_v49_apply, val_main_v48_apply, val_main_v42_apply, val_main_v41_apply]
  rw [v47_at, v36_at, v0_at, v8_at]
  rfl

theorem read52 : val_main_v52 (F := Ideal) x0 x1 x2 = dxArr x0 x1 x2 := by
  refine funext fun (i : S4352x1024.Idx) => ?_
  unfold val_main_v52 dxArr
  by_cases hi : (i 0).val < 256
  · rw [dif_pos hi]
    refine (pad_apply_of_not_inside _ _ _ _ _ _ _ i ⟨0, by decide⟩ (fun h => absurd h.1 (Nat.not_le.mpr hi))).trans ?_
    pointwise [val_main_cst_16_apply]
  · rw [dif_neg hi]
    refine (pad_apply_of_inside _ _ _ _ _ _ _ i (ix2 ⟨(i 0).val - 256, by have h0 : (i 0).val < 4352 := (i 0).isLt; omega⟩ (i 1)) (fun a => ?_)).trans ?_
    · match a with
      | ⟨0, _⟩ => show (i 0).val = 256 + ((i 0).val - 256) * 1; omega
      | ⟨1, _⟩ => show (i 1).val = 0 + (i 1).val * 1; omega
    · exact v51_at x0 x1 x2 _

/-- A sum over a rank-one array's indices. -/
theorem sum_rank1 {n : Nat} (f : (⟨1, ![n]⟩ : Shape).Idx → EReal) : ∑ j, f j = ∑ s : Fin n, f (ix1 s) :=
  (Function.Bijective.sum_comp (e := fun s : Fin n => ix1 s) ⟨fun a b h => congrFun h 0, fun j => ⟨j 0, (eq_ix1 j).symm⟩⟩ f).symm

theorem read53 : val_main_v53 (F := Ideal) x0 x1 x2 = lossArr x0 x1 x2 := by
  refine funext fun (i : S1x128.Idx) => ?_
  pointwise [val_main_v53_apply, val_main_v25_apply, val_main_v24_apply, val_main_v23_apply, val_main_v22_apply, val_main_v21_apply, val_main_v18_apply,
    val_main_cst_4_apply, val_main_cst_5_apply, val_main_cst_6_apply, val_main_cst_7_apply]
  simp only [v17_at]
  unfold lossArr
  rw [Sgu.bits_half, bits_2048th, sum_rank1]
  refine (congrArg (_ * ·) (Finset.sum_congr rfl fun s _ => (div_1024 (lossRow x0 x1 x2 s)).trans (mul_comm _ _))).trans ?_
  rw [← scale_sum _ _ (by norm_num), ← mul_assoc, ← EReal.coe_mul]
  congr 2
  norm_num

theorem read54 : val_main_v54 (F := Ideal) x0 x1 x2 = dwArr x0 x1 x2 := by
  refine funext fun (i : S1x1024.Idx) => ?_
  pointwise [val_main_v54_apply, val_main_v37_apply, val_main_v34_apply, val_main_v33_apply, val_main_v32_apply, val_main_cst_11_apply, val_main_cst_12_apply]
  simp only [v13_at, v31_at]
  rw [Fin.sum_univ_one]
  refine Finset.sum_congr rfl fun s _ => (mul_comm _ _).trans ?_
  rw [show idx_main_v33 (idx_main_v34 (idx_main_v37 (idx_main_v54 i) 0)) s = ix2 s (i 1) from
    eq_ix2 _ s (i 1) rfl (by show 0 * 1024 + (i 1).val = (i 1).val; omega)]
  rfl

end Cert.ReferenceLossIdeal.Block

end
-- ==== Proof.Forward.Logistic.lean ====
/-
  The logistic curve, which the kernel writes with the hyperbolic tangent and the reference with the exponential.
-/
module

public import proofs.«01_k».proof.Proof.Sgu.Consts
public import Mathlib.Analysis.SpecialFunctions.Trigonometric.DerivHyp

@[expose] public section

noncomputable section

namespace Cert.Forward

open Idealize.ShloMosaic

theorem half_tanh (x : ℝ) : 1 / 2 * Real.tanh (1 / 2 * x) + 1 / 2 = (1 + Real.exp (-x))⁻¹ := by
  have h1 : Real.exp x = Real.exp (1 / 2 * x) * Real.exp (1 / 2 * x) := by rw [← Real.exp_add]; ring_nf
  have h2 : (0 : ℝ) < Real.exp (1 / 2 * x) := Real.exp_pos _
  rw [Real.tanh_eq_sinh_div_cosh, Real.sinh_eq, Real.cosh_eq, Real.exp_neg x, h1, Real.exp_neg (1 / 2 * x)]
  field_simp
  ring

/-- The two forms agree on every extended real. -/
theorem logistic_tanh (x : EReal) :
    Ideal.ofBits .f32 0x3F000000#32 * Ideal.tanh (Ideal.ofBits .f32 0x3F000000#32 * x) + Ideal.ofBits .f32 0x3F000000#32 = Ideal.logistic x := by
  rw [Sgu.bits_half]
  induction x with
  | bot =>
    rw [EReal.coe_mul_bot_of_pos (by norm_num), Ideal.tanh_bot, Ideal.logistic_bot, ← EReal.coe_one, ← EReal.coe_neg, ← EReal.coe_mul, ← EReal.coe_add]
    norm_num
  | coe r =>
    rw [← EReal.coe_mul, Ideal.tanh_coe, Ideal.logistic_coe, ← EReal.coe_mul, ← EReal.coe_add, half_tanh]
  | top =>
    rw [EReal.coe_mul_top_of_pos (by norm_num), Ideal.tanh_top, Ideal.logistic_top, mul_one, ← EReal.coe_add]
    norm_num

end Cert.Forward
-- ==== Proof.Forward.Modulation.lean ====
/-
  The modulation: the smoothed conditioning, kept for the backward pass, and its product with the weight, a bias added.
-/
module

public import proofs.«01_k».proof.Proof.Forward.Logistic
public import proofs.«01_k».proof.Proof.Forward.Places
public import proofs.«01_k».proof.Proof.Products.Sums
public import proofs.«01_k».proof.Proof.Gen.KernelModIdeal.Value
public import proofs.«01_k».proof.Proof.Gen.ReferenceModIdeal.Read
public import Idealize.ShloMosaic.Lib.Pipeline.ReadBack
public import Idealize.ShloMosaic.Lib.Pipeline.ValueKit
public import Idealize.ShloMosaic.Lib.KernelVsHost

@[expose] public section

noncomputable section

namespace Cert.KernelModIdeal.Block

open Cert.KernelModIdeal Cert.KernelModIdeal.Gen Idealize.ShloMosaic Idealize.ShloMosaic.TcCoe Cert.Products Cert.Forward
open Idealize.ShloMosaic.Pipeline (Dat)

variable (m : (ℓ : Loc nD τ sig) → Buf (Elt Ideal) ℓ) (c : Dev nD)

/-- A number smoothed. -/
def silu (x : EReal) : EReal := x * Ideal.logistic x

theorem pay1_at (C : S16x1024.Idx → EReal) (j : S16x1024.Idx) : k0_pay1 (F := Ideal) C j = silu (C j) := by
  pointwise [k0_pay1]
  exact congrArg (_ * ·) (logistic_tanh _)

theorem pay2_at (C : S16x1024.Idx → EReal) (W : S1x1024x1536.Idx → EReal) (B : S1x1536.Idx → EReal) (j : S16x1536.Idx) :
    k0_pay2 (F := Ideal) C W B j = (∑ k : Fin 1024, silu (C (ix2 (j 0) k)) * W (ix3 0 k (j 1))) + B (ix2 0 (j 1)) := by
  pointwise [k0_pay2]
  simp only [pay1_at]
  try rfl

/-- The arguments and the results. -/
def argC : S16x1024.Idx → EReal := m ((c : Thread nD τ).loc main_arg0)
def argW : S1024x6144.Idx → EReal := m ((c : Thread nD τ).loc main_arg1)
def argB : S6144.Idx → EReal := m ((c : Thread nD τ).loc main_arg2)
def modulated (C : S16x1024.Idx → EReal) (W : S1024x6144.Idx → EReal) (B : S6144.Idx → EReal) : S16x6144.Idx → EReal :=
  fun i => (∑ k : Fin 1024, silu (C (ix2 (i 0) k)) * W (ix2 k (i 1))) + B (ix1 (i 1))
def smoothed (C : S16x1024.Idx → EReal) : S16x1024.Idx → EReal := fun i => silu (C i)

theorem idx0 : ∀ t : Fin cfg0.N, win0_0.index t = ![0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, 0] := (by decide +kernel : ∀ t : Fin grid0.N, _)

/-- The blocks a grid point takes. -/
def blkC (t : Fin cfg0.N) : S16x1024.Idx → EReal := iblk m c 0 t
def blkW (t : Fin cfg0.N) : S1x1024x1536.Idx → EReal := iblk m c 1 t
def blkB (t : Fin cfg0.N) : S1x1536.Idx → EReal := iblk m c 2 t

theorem out3_at (t : Fin cfg0.N) (i : S16x6144.Idx) (j : S16x1536.Idx)
    (h0 : (i 0).val = (j 0).val) (h1 : (i 1).val = t.val * 1536 + (j 1).val) :
    out0_3 (F := Ideal) (iblk m c 0 t) (iblk m c 1 t) (iblk m c 2 t) j = modulated (argC m c) (argW m c) (argB m c) i := by
  frame_out
  refine (pay2_at (blkC m c t) (blkW m c t) (blkB m c t) j).trans (congrArg₂ (· + ·) (Finset.sum_congr rfl fun k _ => congrArg₂ (· * ·) (congrArg silu ?_) ?_) ?_)
  · blk_point [blkC, iblk, V, idx0 t, argC]
  · blk_point [blkW, iblk, V, idx1 t, argW]
  · blk_point [blkB, iblk, V, idx2 t, argB]

theorem out4_at (t : Fin cfg0.N) (i : S16x1024.Idx) (j : S16x1024.Idx) (h0 : (i 0).val = (j 0).val) (h1 : (i 1).val = (j 1).val) :
    out0_4 (F := Ideal) (iblk m c 0 t) (iblk m c 1 t) (iblk m c 2 t) j = smoothed (argC m c) i := by
  frame_out
  refine (pay1_at (blkC m c t) j).trans (congrArg silu ?_)
  blk_point [blkC, iblk, V, idx0 t, argC]

theorem array3 : (dats m 0 c).arrAt 3 cfg0.N = modulated (argC m c) (argW m c) (argB m c) := by
  refine (dats m 0 c).arrAt_eq_of_coversWhere_of_agree 3 (modulated (argC m c) (argW m c) (argB m c)) (fun _ => True) (by decide +kernel) (fun t hf y => ?_) (fun j hj => absurd trivial hj)
  blk_simp
  rw [after0_3]
  refine out3_at m c t _ _ ?_ ?_
  · refine Eq.trans (b := win0_3.index t 0 * 16 + (y 0).val) (by blk_simp) ?_
    rw [idx3 t]
    show 0 * 16 + (y 0).val = (y 0).val
    omega
  · refine Eq.trans (b := win0_3.index t 1 * 1536 + (y 1).val) (by blk_simp) ?_
    rw [idx3 t]
    rfl

theorem array4 : (dats m 0 c).arrAt 4 cfg0.N = smoothed (argC m c) := by
  refine (dats m 0 c).arrAt_eq_of_coversWhere_of_agree 4 (smoothed (argC m c)) (fun _ => True) (by decide +kernel) (fun t hf y => ?_) (fun j hj => absurd trivial hj)
  blk_simp
  rw [after0_4]
  refine out4_at m c t _ _ ?_ ?_
  · refine Eq.trans (b := win0_4.index t 0 * 16 + (y 0).val) (by blk_simp) ?_
    rw [idx4 t]
    show 0 * 16 + (y 0).val = (y 0).val
    omega
  · refine Eq.trans (b := win0_4.index t 1 * 1024 + (y 1).val) (by blk_simp) ?_
    rw [idx4 t]
    show 0 * 1024 + (y 1).val = (y 1).val
    omega

end Cert.KernelModIdeal.Block

namespace Cert.ReferenceModIdeal.Block

open Cert.ReferenceModIdeal Cert.ReferenceModIdeal.Gen Cert.ReferenceModIdeal.Read Idealize.ShloMosaic Cert.Products Cert.Forward
open Cert.KernelModIdeal.Block (silu modulated smoothed)

theorem curve0 (x0 : S16x1024.Idx → EReal) (i : S16x1024.Idx) : val_main_v0 (F := Ideal) x0 i = silu (x0 i) := by
  pointwise [val_main_v0_apply, val_main_call0_v5_apply, val_main_call0_v4_apply, val_main_call0_cst_0_apply, val_main_call0_v3_apply, val_main_call0_v2_apply, val_main_call0_cst_apply, val_main_call0_v1_apply, val_main_call0_v0_apply]
  rfl

theorem read6 (x0 : S16x1024.Idx → EReal) : val_main_v6 (F := Ideal) x0 = smoothed x0 := by
  refine funext fun (i : S16x1024.Idx) => ?_
  pointwise [val_main_v6_apply, val_main_v5_apply, val_main_call1_v5_apply, val_main_call1_v4_apply, val_main_call1_cst_0_apply, val_main_call1_v3_apply, val_main_call1_v2_apply, val_main_call1_cst_apply, val_main_call1_v1_apply, val_main_call1_v0_apply]
  rfl

theorem read4 (x0 : S16x1024.Idx → EReal) (x1 : S1024x6144.Idx → EReal) (x2 : S6144.Idx → EReal) :
    val_main_v4 (F := Ideal) x0 x1 x2 = modulated x0 x1 x2 := by
  refine funext fun (i : S16x6144.Idx) => ?_
  pointwise [val_main_v4_apply, val_main_v3_apply, val_main_v2_apply, val_main_v1_apply]
  simp only [curve0]
  refine congrArg₂ (· + ·) (Finset.sum_congr rfl fun k _ => congrArg₂ (· * ·) (congrArg (fun p => silu (x0 p)) (eq_ix2 _ (i 0) k rfl rfl)) (congrArg x1 (eq_ix2 _ k (i 1) rfl rfl))) (congrArg x2 (eq_ix1 _))

end Cert.ReferenceModIdeal.Block

end
-- ==== Proof.Backward.CvecBwd.lean ====
/-
  The gradient of the conditioning: the modulation gradient's product with the weight turned over, summed a chip's columns at a
  time, and then the smooth curve's derivative.
-/
module

public import proofs.«01_k».proof.Proof.Forward.Logistic
public import proofs.«01_k».proof.Proof.Forward.Places
public import proofs.«01_k».proof.Proof.Products.Sums
public import proofs.«01_k».proof.Proof.Sgu.Real
public import proofs.«01_k».proof.Proof.Sgu.Finite
public import proofs.«01_k».proof.Proof.Gen.Pre_finite_cvec
public import proofs.«01_k».proof.Proof.Gen.KernelCvecBwdIdeal.Value
public import proofs.«01_k».proof.Proof.Gen.ReferenceCvecBwdIdeal.Read
public import Idealize.ShloMosaic.Lib.Pipeline.ReadBack
public import Idealize.ShloMosaic.Lib.Pipeline.ValueKit
public import Idealize.ShloMosaic.Lib.KernelVsHost

@[expose] public section

noncomputable section

namespace Cert.Backward

open Idealize.ShloMosaic

/-- The smooth curve's derivative in the kernel's form. -/
def curve (x : EReal) : EReal := Ideal.logistic x * (1 + x * (1 - Ideal.logistic x))

/-- A real number times the derivative is the sum of the product rule's two terms, the conditioning infinite or not. -/
theorem curve_deriv (d : ℝ) (x : EReal) :
    (d : EReal) * curve x = (d : EReal) * Ideal.logistic x + x * (d : EReal) * (Ideal.logistic x * (1 - Ideal.logistic x)) := by
  unfold curve
  have h1 : (1 : EReal) - 1 = 0 := by rw [← EReal.coe_one, ← EReal.coe_sub, sub_self, EReal.coe_zero]
  induction x with
  | bot => simp [Ideal.logistic_bot]
  | coe r =>
    rw [Ideal.logistic_coe, ← EReal.coe_one]
    generalize (1 + Real.exp (-r))⁻¹ = s
    simp only [← EReal.coe_mul, ← EReal.coe_add, ← EReal.coe_sub]
    exact congrArg _ (by ring)
  | top => simp [Ideal.logistic_top, h1]

end Cert.Backward

namespace Cert.Pre_finite_cvec

open Idealize.ShloMosaic Cert.Sgu

/-- The precondition, entry by entry: the gradient and the weight hold real numbers. -/
theorem elems (a0 : FVec Ideal S16x6144 .f32) (a1 : FVec Ideal S1024x6144 .f32) (a2 : FVec Ideal S16x1024 .f32)
    (h : fn (F := Ideal) a0 a1 a2 = fun _ => 1#1) :
    (∀ i, (a0 i : EReal) = ((a0 i : EReal).toReal : EReal)) ∧ ∀ i, (a1 i : EReal) = ((a1 i : EReal).toReal : EReal) := by
  have andi_one (a b : BitVec 1) : IntOp.andi a b = 1#1 ↔ a = 1#1 ∧ b = 1#1 := by revert a b; decide
  have pre := congrFun h (fun a => a.elim0)
  simp only [fn, andi, andi_one] at pre
  exact ⟨Cert.Pre_finite.real_of_all _ _ _ _ _ _ pre.1, Cert.Pre_finite.real_of_all _ _ _ _ _ _ pre.2⟩

end Cert.Pre_finite_cvec

namespace Cert.KernelCvecBwdIdeal.Block

open Cert.KernelCvecBwdIdeal Cert.KernelCvecBwdIdeal.Gen Idealize.ShloMosaic Idealize.ShloMosaic.TcCoe Cert.Products Cert.Forward Cert.Backward
open Idealize.ShloMosaic.Pipeline (Dat)

variable (m : (ℓ : Loc nD τ sig) → Buf (Elt Ideal) ℓ) (c : Dev nD)

theorem pay1_at (j : S16x1024.Idx) : k0_pay1 (F := Ideal) j = 0 := by
  pointwise [k0_pay1]

theorem pay2_at (Z : S16x1024.Idx → EReal) (D : S16x1536.Idx → EReal) (W : S1x1024x1536.Idx → EReal) (j : S16x1024.Idx) :
    k0_pay2 (F := Ideal) Z D W j = Z j + ∑ k : Fin 1536, D (ix2 (j 0) k) * W (ix3 0 (j 1) k) := by
  pointwise [k0_pay2]
  try rfl

theorem pay3_at (Z C : S16x1024.Idx → EReal) (j : S16x1024.Idx) : k0_pay3 (F := Ideal) Z C j = Z j * curve (C j) := by
  pointwise [k0_pay3]
  simp only [logistic_tanh]
  rfl

/-- The arguments and the gradient. -/
def argD : S16x6144.Idx → EReal := m ((c : Thread nD τ).loc main_arg0)
def argW : S1024x6144.Idx → EReal := m ((c : Thread nD τ).loc main_arg1)
def argC : S16x1024.Idx → EReal := m ((c : Thread nD τ).loc main_arg2)
def part (D : S16x6144.Idx → EReal) (W : S1024x6144.Idx → EReal) (i : S16x1024.Idx) (b : Fin 4) : EReal :=
  ∑ k : Fin 1536, D (ix2 (i 0) (at' 4 1536 rfl b k)) * W (ix2 (i 1) (at' 4 1536 rfl b k))
def grad (D : S16x6144.Idx → EReal) (W : S1024x6144.Idx → EReal) (C : S16x1024.Idx → EReal) : S16x1024.Idx → EReal :=
  fun i => (∑ b, part D W i b) * curve (C i)

theorem idx0 : ∀ t : Fin cfg0.N, win0_0.index t = ![0, t.val] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem lt_N (t : Fin cfg0.N) : t.val < 4 := lt_of_lt_of_eq t.isLt N_0

/-- The blocks a grid point takes. -/
def blkD (t : Fin cfg0.N) : S16x1536.Idx → EReal := iblk m c 0 t
def blkW (t : Fin cfg0.N) : S1x1024x1536.Idx → EReal := iblk m c 1 t
def blkC (t : Fin cfg0.N) : S16x1024.Idx → EReal := iblk m c 2 t

/-- What the first, a middle and the last point leave. -/
theorem case_A (t : Fin cfg0.N) (h0 : t.val % 4 = 0) (h1 : ¬t.val % 4 = 3) :
    outsAt0 m c t.val t.isLt = k0_pay2 (F := Ideal) (k0_pay1 (F := Ideal)) (blkD m c t) (blkW m c t) := by
  rw [outsAt0_A m c t h0 h1]
  frame_out
  try rfl

theorem case_B (t : Fin cfg0.N) (h0 : ¬t.val % 4 = 0) (h1 : ¬t.val % 4 = 3) :
    outsAt0 m c t.val t.isLt
      = k0_pay2 (F := Ideal) (outsAt0 m c (t.val - 1) (Nat.lt_of_le_of_lt (Nat.sub_le _ _) t.isLt)) (blkD m c t) (blkW m c t) := by
  rw [outsAt0_B m c t h0 h1]
  frame_out
  try rfl

theorem case_C (t : Fin cfg0.N) (h0 : ¬t.val % 4 = 0) (h1 : t.val % 4 = 3) :
    outsAt0 m c t.val t.isLt
      = k0_pay3 (F := Ideal) (k0_pay2 (outsAt0 m c (t.val - 1) (Nat.lt_of_le_of_lt (Nat.sub_le _ _) t.isLt)) (blkD m c t) (blkW m c t)) (blkC m c t) := by
  rw [outsAt0_C m c t h0 h1]
  frame_out
  try rfl

theorem part_at (t : Fin cfg0.N) (b : Fin 4) (hb : t.val = b.val) (j : S16x1024.Idx) :
    ∑ k : Fin 1536, blkD m c t (ix2 (j 0) k) * blkW m c t (ix3 0 (j 1) k) = part (argD m c) (argW m c) j b := by
  refine Finset.sum_congr rfl fun k _ => congrArg₂ (· * ·) ?_ ?_
  · blk_point [blkD, iblk, V, idx0 t, argD, at', hb]
  · blk_point [blkW, iblk, V, idx1 t, argW, at', hb]

/-- Before the last point the sum so far. -/
theorem sum_at (j : S16x1024.Idx) : ∀ (n : ℕ) (hn : n < cfg0.N) (h3 : n < 3),
    (outsAt0 m c n hn : S16x1024.Idx → EReal) j = ∑ b : Fin (n + 1), part (argD m c) (argW m c) j ⟨b.val, by omega⟩ := by
  intro n
  induction n with
  | zero =>
    intro hn h3
    refine (congrFun (case_A m c ⟨0, hn⟩ rfl (by simp)) j).trans ((pay2_at _ _ _ j).trans ?_)
    rw [pay1_at, zero_add, part_at m c ⟨0, hn⟩ 0 rfl j]
    simp
  | succ n ih =>
    intro hn h3
    refine (congrFun (case_B m c ⟨n + 1, hn⟩ (by show ¬(n + 1) % 4 = 0; omega) (by show ¬(n + 1) % 4 = 3; omega)) j).trans ((pay2_at _ _ _ j).trans ?_)
    rw [part_at m c ⟨n + 1, hn⟩ ⟨n + 1, by omega⟩ rfl j, Fin.sum_univ_castSucc]
    exact congrArg (· + _) (ih (Nat.lt_of_succ_lt hn) (by omega))

theorem last_at (t : Fin cfg0.N) (ht : t.val = 3) (i j : S16x1024.Idx) (h0 : (i 0).val = (j 0).val) (h1 : (i 1).val = (j 1).val) :
    (outsAt0 m c t.val t.isLt : S16x1024.Idx → EReal) j = grad (argD m c) (argW m c) (argC m c) i := by
  have hij : i = j := (eq_ix2 i (j 0) (j 1) h0 h1).trans (eq_ix2 j (j 0) (j 1) rfl rfl).symm
  subst hij
  refine (congrFun (case_C m c t (by omega) (by omega)) i).trans ((pay3_at _ _ i).trans ?_)
  refine congrArg₂ (· * ·) ((pay2_at _ _ _ i).trans ?_) (congrArg curve ?_)
  · rw [part_at m c t 3 ht i]
    have key : ∀ (n : ℕ) (hn : n < cfg0.N), n = 2 → (outsAt0 m c n hn : S16x1024.Idx → EReal) i + part (argD m c) (argW m c) i 3 = ∑ b, part (argD m c) (argW m c) i b := by
      intro n hn h2
      rw [sum_at m c i n hn (by omega)]
      subst h2
      rw [Fin.sum_univ_castSucc (n := 3)]
      rfl
    exact key _ _ (by omega)
  · blk_point [blkC, iblk, V, idx2 t, argC]

theorem array3 : (dats m 0 c).arrAt 3 cfg0.N = grad (argD m c) (argW m c) (argC m c) := by
  refine (dats m 0 c).arrAt_eq_of_coversWhere_of_agree 3 (grad (argD m c) (argW m c) (argC m c)) (fun _ => True) (by decide +kernel) (fun t hf y => ?_) (fun j hj => absurd trivial hj)
  have ht : t.val = 3 := by have h := (flush0_3 t).mp hf; have hN := lt_N t; omega
  blk_simp
  rw [after0_3]
  refine last_at m c t ht _ _ ?_ ?_
  · refine Eq.trans (b := win0_3.index t 0 * 16 + (y 0).val) (by blk_simp) ?_
    rw [idx3 t]
    show 0 * 16 + (y 0).val = (y 0).val
    omega
  · refine Eq.trans (b := win0_3.index t 1 * 1024 + (y 1).val) (by blk_simp) ?_
    rw [idx3 t]
    show 0 * 1024 + (y 1).val = (y 1).val
    omega

end Cert.KernelCvecBwdIdeal.Block

namespace Cert.ReferenceCvecBwdIdeal.Block

open Cert.ReferenceCvecBwdIdeal Cert.ReferenceCvecBwdIdeal.Gen Cert.ReferenceCvecBwdIdeal.Read Idealize.ShloMosaic Cert.Products Cert.Backward
open Cert.KernelCvecBwdIdeal.Block (part grad)

theorem logistic_at (x2 : S16x1024.Idx → EReal) (i : S16x1024.Idx) : val_main_v0_2 (F := Ideal) x2 i = Ideal.logistic (x2 i) := by
  pointwise [val_main_v0_2_apply, val_main_call0_v4_apply, val_main_call0_cst_0_apply, val_main_call0_v3_apply, val_main_call0_v2_apply, val_main_call0_cst_apply, val_main_call0_v1_apply, val_main_call0_v0_apply]
  rfl

theorem slope_at (x2 : S16x1024.Idx → EReal) (i : S16x1024.Idx) :
    val_main_v0_1 (F := Ideal) x2 i = Ideal.logistic (x2 i) * (1 - Ideal.logistic (x2 i)) := by
  pointwise [val_main_v0_1_apply, val_main_call0_v7_apply, val_main_call0_v6_apply, val_main_call0_cst_1_apply]
  simp only [logistic_at]

/-- The product the reference takes, and that it is a real number. -/
theorem product_at (x0 : S16x6144.Idx → EReal) (x1 : S1024x6144.Idx → EReal) (i : S16x1024.Idx) :
    val_main_v2 (F := Ideal) x0 x1 i = ∑ b, part x0 x1 i b := by
  refine (val_main_v2_apply x0 x1 i).trans (Eq.trans (Finset.sum_congr rfl fun k _ => congrArg₂ (· * ·)
    (congrArg x0 (eq_ix2 _ (i 0) k rfl rfl)) (congrArg x1 (eq_ix2 _ (i 1) k rfl rfl))) ?_)
  exact sum_blocks 4 1536 (N := 6144) rfl (fun k => x0 (ix2 (i 0) k) * x1 (ix2 (i 1) k))

theorem product_real (x0 : S16x6144.Idx → EReal) (x1 : S1024x6144.Idx → EReal) (h0 : ∀ i, x0 i = ((x0 i).toReal : EReal))
    (h1 : ∀ i, x1 i = ((x1 i).toReal : EReal)) (i : S16x1024.Idx) : ∃ d : ℝ, ∑ b, part x0 x1 i b = (d : EReal) := by
  refine ⟨∑ b : Fin 4, ∑ k : Fin 1536, (x0 (ix2 (i 0) (at' 4 1536 rfl b k))).toReal * (x1 (ix2 (i 1) (at' 4 1536 rfl b k))).toReal, ?_⟩
  rw [Cert.Sgu.coe_sum]
  refine Finset.sum_congr rfl fun b _ => ?_
  rw [Cert.Sgu.coe_sum]
  refine Finset.sum_congr rfl fun k _ => ?_
  rw [EReal.coe_mul, ← h0, ← h1]

theorem read3 (x0 : S16x6144.Idx → EReal) (x1 : S1024x6144.Idx → EReal) (x2 : S16x1024.Idx → EReal) (h0 : ∀ i, x0 i = ((x0 i).toReal : EReal))
    (h1 : ∀ i, x1 i = ((x1 i).toReal : EReal)) : val_main_v3 (F := Ideal) x0 x1 x2 = grad x0 x1 x2 := by
  refine funext fun (i : S16x1024.Idx) => ?_
  obtain ⟨d, hd⟩ := product_real x0 x1 h0 h1 i
  pointwise [val_main_v3_apply, val_main_call1_v2_apply, val_main_call1_v1_apply, val_main_call1_v0_apply]
  rw [logistic_at, slope_at, product_at]
  unfold grad
  rw [hd]
  exact (curve_deriv d (x2 i)).symm

end Cert.ReferenceCvecBwdIdeal.Block

end
-- ==== Proof.NormFrame.Ideal.Skeleton.lean ====
module

public import proofs.«01_k».proof.Proof.Gen.KernelNormBwdIdeal

/-! The body of the norm backward call as its loads, values and stores: each stored value named, and the body equal to that reading. -/

@[expose] public section

set_option synthInstance.maxSize 4096

noncomputable section

namespace Cert.KernelNormBwdIdeal.Gen

open Idealize.ShloMosaic Idealize.SL.Sem

variable {F : FTy → Type} [FloatOps F]

/-- `%69 = vector.broadcast %cst_38 : f32 to vector<1x1024xf32>` of `k0_part1`, from the values read
   before it. Read by `tpu.vector_store %arg8[%c0_39, %c0_40], %69`. -/
noncomputable def k0_pay1 : FVec F S1x1024 .f32 :=
  have cst_38 : F .f32 := Scalar.ofBits .f32 0x00000000#32
  have v69 : FVec F S1x1024 .f32 := broadcast S1x1024 cst_38
  v69

/-- `%72 = vector.shape_cast %69 : vector<2x1024xf32> to vector<1x2x1024xf32>` of `k0_part1`, from
   the values read before it. Read by `tpu.vector_store %arg7[%c0_39, %c0_40, %c0_41], %72`. -/
noncomputable def k0_pay2 : FVec F S1x2x1024 .f32 :=
  have cst_38 : F .f32 := Scalar.ofBits .f32 0x00000000#32
  have v69 : FVec F S2x1024 .f32 := broadcast S2x1024 cst_38
  have v72 : FVec F S1x2x1024 .f32 := shapeCast S1x2x1024 v69 shapeCasts_S2x1024_S1x2x1024
  v72

/-- `%17 = math.rsqrt %16 : vector<256x1xf32>` of `k0_part1`, from the values read before it. Read
   by the loop's rebinding, condition or exit; `k0_pay4`. -/
noncomputable def k0_pay3 (v8 : Vec F S256x1024 .f32) : FVec F S256x1 .f32 :=
  have v10 : FVec F S256x1024 .f32 := mulf v8 v8
  have v11 : FVec F S256 .f32 := multiReduction .add [1] S256 v10 0x00000000#32 reduces_S256x1024_S256 (.inl rfl) rfl
  have v12 : FVec F S256x1 .f32 := shapeCast S256x1 v11 shapeCasts_S256_S256x1
  have cst_6 : F .f32 := Scalar.ofBits .f32 0x44800000#32
  have v13 : FVec F S256x1 .f32 := broadcast S256x1 cst_6
  have v14 : FVec F S256x1 .f32 := divf v12 v13
  have cst_7 : F .f32 := Scalar.ofBits .f32 0x358637BD#32
  have v15 : FVec F S256x1 .f32 := broadcast S256x1 cst_7
  have v16 : FVec F S256x1 .f32 := addf v14 v15
  have v17 : FVec F S256x1 .f32 := rsqrt v16
  v17

/-- `%19 = arith.mulf %8, %18 : vector<256x1024xf32>` of `k0_part1`, from the values read before it.
   Read by the loop's rebinding, condition or exit; `k0_pay7`. -/
noncomputable def k0_pay4 (v8 : Vec F S256x1024 .f32) : FVec F S256x1024 .f32 :=
  have v18 : FVec F S256x1024 .f32 := broadcastTo S256x1024 (k0_pay3 v8) broadcasts_S256x1_S256x1024
  have v19 : FVec F S256x1024 .f32 := mulf v8 v18
  v19

/-- `%21 = vector.shape_cast %20 : vector<1x1024xf32> to vector<1x1024xf32>` of `k0_part1`, from the
   values read before it. Read by the loop's rebinding, condition or exit; `k0_pay7`. -/
noncomputable def k0_pay5 (v20 : Vec F S1x1024 .f32) : FVec F S1x1024 .f32 :=
  have v21 : FVec F S1x1024 .f32 := shapeCast S1x1024 v20 shapeCasts_S1x1024_S1x1024
  v21

/-- `%23 = vector.shape_cast %22 : vector<1x1x1024xf32> to vector<1x1024xf32>` of `k0_part1`, from
   the values read before it. Read by the loop's rebinding, condition or exit. -/
noncomputable def k0_pay6 (v22 : Vec F S1x1x1024 .f32) : FVec F S1x1024 .f32 :=
  have v23 : FVec F S1x1024 .f32 := shapeCast S1x1024 v22 shapeCasts_S1x1x1024_S1x1024
  v23

/-- `%25 = arith.mulf %19, %24 : vector<256x1024xf32>` of `k0_part1`, from the values read before
   it. Read by the loop's rebinding, condition or exit. -/
noncomputable def k0_pay7 (v8 : Vec F S256x1024 .f32) (v20 : Vec F S1x1024 .f32) : FVec F S256x1024 .f32 :=
  have v24 : FVec F S256x1024 .f32 := broadcastTo S256x1024 (k0_pay5 v20) broadcasts_S1x1024_S256x1024
  have v25 : FVec F S256x1024 .f32 := mulf (k0_pay4 v8) v24
  v25

/-- `%30 = arith.addf %27, %29 : vector<1x1024xf32>` of `k0_part1`, from the values read before it.
   Read by the loop's rebinding, condition or exit. -/
noncomputable def k0_pay8 (v9 : Vec F S256x1024 .f32) (v26 : Vec F S1x1x1024 .f32) : FVec F S1x1024 .f32 :=
  have v27 : FVec F S1x1024 .f32 := shapeCast S1x1024 v26 shapeCasts_S1x1x1024_S1x1024
  have v28 : FVec F S1024 .f32 := multiReduction .add [0] S1024 v9 0x00000000#32 reduces_S256x1024_S1024 (.inl rfl) rfl
  have v29 : FVec F S1x1024 .f32 := shapeCast S1x1024 v28 shapeCasts_S1024_S1x1024
  have v30 : FVec F S1x1024 .f32 := addf v27 v29
  v30

/-- `%33 = vector.shape_cast %30 : vector<1x1024xf32> to vector<1x1x1024xf32>` of `k0_part2`, from
   the values read before it. Read by `tpu.vector_store %arg7[%c0_16, %c0_17, %c0_18], %33`. -/
noncomputable def k0_pay9 (v30 : FVec F S1x1024 .f32) : FVec F S1x1x1024 .f32 :=
  have v33 : FVec F S1x1x1024 .f32 := shapeCast S1x1x1024 v30 shapeCasts_S1x1024_S1x1x1024
  v33

/-- `%42 = vector.shape_cast %39 : vector<1x1024xf32> to vector<1x1x1024xf32>` of `k0_part2`, from
   the values read before it. Read by `tpu.vector_store %arg7[%c0_23, %c1_24, %c0_25], %42`. -/
noncomputable def k0_pay10 (v9 : Vec F S256x1024 .f32) (v25 : FVec F S256x1024 .f32) (v34 : Vec F S1x1x1024 .f32) : FVec F S1x1x1024 .f32 :=
  have v35 : FVec F S1x1024 .f32 := shapeCast S1x1024 v34 shapeCasts_S1x1x1024_S1x1024
  have v36 : FVec F S256x1024 .f32 := mulf v9 v25
  have v37 : FVec F S1024 .f32 := multiReduction .add [0] S1024 v36 0x00000000#32 reduces_S256x1024_S1024 (.inl rfl) rfl
  have v38 : FVec F S1x1024 .f32 := shapeCast S1x1024 v37 shapeCasts_S1024_S1x1024
  have v39 : FVec F S1x1024 .f32 := addf v35 v38
  have v42 : FVec F S1x1x1024 .f32 := shapeCast S1x1x1024 v39 shapeCasts_S1x1024_S1x1x1024
  v42

/-- `%46 = arith.mulf %9, %45 : vector<256x1024xf32>` of `k0_part2`, from the values read before it.
   Read by `k0_pay12`, `k0_pay13`. -/
noncomputable def k0_pay11 (v9 : Vec F S256x1024 .f32) (v23 : FVec F S1x1024 .f32) : FVec F S256x1024 .f32 :=
  have cst_26 : F .f32 := Scalar.ofBits .f32 0x3F800000#32
  have v43 : FVec F S1x1024 .f32 := broadcast S1x1024 cst_26
  have v44 : FVec F S1x1024 .f32 := addf v43 v23
  have v45 : FVec F S256x1024 .f32 := broadcastTo S256x1024 v44 broadcasts_S1x1024_S256x1024
  have v46 : FVec F S256x1024 .f32 := mulf v9 v45
  v46

/-- `%52 = arith.addf %48, %51 : vector<1x1024xf32>` of `k0_part2`, from the values read before it.
   Read by `tpu.vector_store %arg8[%c0_30, %c0_31], %52`. -/
noncomputable def k0_pay12 (v9 : Vec F S256x1024 .f32) (v19 : FVec F S256x1024 .f32) (v23 : FVec F S1x1024 .f32) (v47 : Vec F S1x1024 .f32) : FVec F S1x1024 .f32 :=
  have v48 : FVec F S1x1024 .f32 := shapeCast S1x1024 v47 shapeCasts_S1x1024_S1x1024
  have v49 : FVec F S256x1024 .f32 := mulf (k0_pay11 v9 v23) v19
  have v50 : FVec F S1024 .f32 := multiReduction .add [0] S1024 v49 0x00000000#32 reduces_S256x1024_S1024 (.inl rfl) rfl
  have v51 : FVec F S1x1024 .f32 := shapeCast S1x1024 v50 shapeCasts_S1024_S1x1024
  have v52 : FVec F S1x1024 .f32 := addf v48 v51
  v52

/-- `%67 = arith.addf %56, %66 : vector<256x1024xf32>` of `k0_part2`, from the values read before
   it. Read by `tpu.vector_store %arg6[%c0_36, %c0_37], %67`. -/
noncomputable def k0_pay13 (v9 : Vec F S256x1024 .f32) (v17 : FVec F S256x1 .f32) (v19 : FVec F S256x1024 .f32) (v21 : FVec F S1x1024 .f32) (v23 : FVec F S1x1024 .f32) (v56 : Vec F S256x1024 .f32) : FVec F S256x1024 .f32 :=
  have v54 : FVec F S256x1024 .f32 := broadcastTo S256x1024 v21 broadcasts_S1x1024_S256x1024
  have v55 : FVec F S256x1024 .f32 := mulf (k0_pay11 v9 v23) v54
  have v57 : FVec F S256x1024 .f32 := mulf v55 v19
  have v58 : FVec F S256 .f32 := multiReduction .add [1] S256 v57 0x00000000#32 reduces_S256x1024_S256 (.inl rfl) rfl
  have v59 : FVec F S256x1 .f32 := shapeCast S256x1 v58 shapeCasts_S256_S256x1
  have cst_35 : F .f32 := Scalar.ofBits .f32 0x44800000#32
  have v60 : FVec F S256x1 .f32 := broadcast S256x1 cst_35
  have v61 : FVec F S256x1 .f32 := divf v59 v60
  have v62 : FVec F S256x1024 .f32 := broadcastTo S256x1024 v61 broadcasts_S256x1_S256x1024
  have v63 : FVec F S256x1024 .f32 := mulf v19 v62
  have v64 : FVec F S256x1024 .f32 := subf v55 v63
  have v65 : FVec F S256x1024 .f32 := broadcastTo S256x1024 v17 broadcasts_S256x1_S256x1024
  have v66 : FVec F S256x1024 .f32 := mulf v65 v64
  have v67 : FVec F S256x1024 .f32 := addf v56 v66
  v67

/-- `cc0_norm1_bwd_0` as a skeleton of memory operations over payloads. -/
noncomputable def cc0_norm1_bwd_0_skel (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x6x1024 .f32) (harg5 : arg5.IsWhole) (arg6 : Memref sig .tc .vmem S256x1024 .f32) (harg6 : arg6.IsWhole) (arg7 : Memref sig .tc .vmem S1x2x1024 .f32) (harg7 : arg7.IsWhole) (arg8 : Memref sig .tc .vmem S1x1024 .f32) (harg8 : arg8.IsWhole) :
    Prog (TpuEff nD τ sig (Elt F) Λ₀ .tc) PUnit := do
  k0_part2 i arg1 harg1 arg2 harg2 arg3 harg3 arg4 harg4 arg5 harg5 arg6 harg6 arg7 harg7 arg8 harg8 -- statements 1–60 of 61 (level 2): their part
  pure ⟨⟩                                                               -- func.return

set_option maxRecDepth 65536 in
/-- The printed `cc0_norm1_bwd_0` is its skeleton: by definitional unfolding. -/
theorem cc0_norm1_bwd_0_eq_skeleton : cc0_norm1_bwd_0 (F := F) = cc0_norm1_bwd_0_skel (F := F) := rfl

/-- `k0_part1` as a skeleton of memory operations over payloads. -/
noncomputable def k0_part1_skel (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x6x1024 .f32) (harg5 : arg5.IsWhole) (arg6 : Memref sig .tc .vmem S256x1024 .f32) (harg6 : arg6.IsWhole) (arg7 : Memref sig .tc .vmem S1x2x1024 .f32) (harg7 : arg7.IsWhole) (arg8 : Memref sig .tc .vmem S1x1024 .f32) (harg8 : arg8.IsWhole) :
    Prog (TpuEff nD τ sig (Elt F) Λ₀ .tc) (Σ' (v9 : Vec F S256x1024 .f32) (v17 : FVec F S256x1 .f32) (v19 : FVec F S256x1024 .f32) (v21 : FVec F S1x1024 .f32) (v23 : FVec F S1x1024 .f32) (v25 : FVec F S256x1024 .f32), FVec F S1x1024 .f32) := do
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  if k0_h1 : v2 = 1#1 then do                                           -- scf.if %2 {  @ test_k:782
    let v70 : Vec F S1x1024 .f32 ← Prog.lift (.load arg8 (Rect.unit (s := S1x1024) ![0, 0] S1x1024.size inb_S1x1024_S1x1024_0_0).toLoadRect (View.loadsAt_vmem h_S1x1024))
    Prog.lift (.store arg8 (Rect.unit (s := S1x1024) ![0, 0] S1x1024.size inb_S1x1024_S1x1024_0_0) (k0_pay1 (F := F)) Finset.univ (View.stores_vmem_bits_univ h_S1x1024 rfl) (.inl rfl)) -- tpu.vector_store %arg8[%c0_39, %c0_40], %69 {strides = array<i32>} : memref<1x1024xf32, #tpu.memory_space<vmem>>, vector<1x1024xf32>,  @ test_k:784
    pure ⟨⟩                                                             -- scf.yield / }
  else do                                                               -- } else {
    pure ⟨⟩                                                             -- scf.yield / }
  let v3 : BitVec 1 := Scalar.cmpi .eq arg0 0#32
  let v4 : BitVec 1 := Scalar.cmpi .eq arg0 1#32
  let v5 : BitVec 1 := Scalar.ori v3 v4
  let v6 : BitVec 32 := Scalar.extui v5
  let v7 : BitVec 1 := Scalar.cmpi .ne v6 0#32
  if k0_h2 : v7 = 1#1 then do                                           -- scf.if %7 {  @ test_k:786
    let v70 : Vec F S1x2x1024 .f32 ← Prog.lift (.load arg7 (Rect.unit (s := S1x2x1024) ![0, 0, 0] S1x2x1024.size inb_S1x2x1024_S1x2x1024_0_0_0).toLoadRect (View.loadsAt_vmem h_S1x2x1024))

    Prog.lift (.store arg7 (Rect.unit (s := S1x2x1024) ![0, 0, 0] S1x2x1024.size inb_S1x2x1024_S1x2x1024_0_0_0) (k0_pay2 (F := F)) Finset.univ (View.stores_vmem_bits_univ h_S1x2x1024 rfl) (.inl rfl)) -- tpu.vector_store %arg7[%c0_39, %c0_40, %c0_41], %72 {strides = array<i32>} : memref<1x2x1024xf32, #tpu.memory_space<vmem>>, vector<1x2x1024xf32>,  @ test_k:788
    pure ⟨⟩                                                             -- scf.yield / }
  else do                                                               -- } else {
    pure ⟨⟩                                                             -- scf.yield / }
  let v8 : Vec F S256x1024 .f32 ← Prog.lift (.load arg2 (Rect.unit (s := S256x1024) ![0, 0] S256x1024.size inb_S256x1024_S256x1024_0_0).toLoadRect (View.loadsAt_vmem h_S256x1024))
  let v9 : Vec F S256x1024 .f32 ← Prog.lift (.load arg1 (Rect.unit (s := S256x1024) ![0, 0] S256x1024.size inb_S256x1024_S256x1024_0_0).toLoadRect (View.loadsAt_vmem h_S256x1024))

  let v20 : Vec F S1x1024 .f32 ← Prog.lift (.load arg4 (Rect.unit (s := S1x1024) ![0, 0] S1x1024.size inb_S1x1024_S1x1024_0_0).toLoadRect (View.loadsAt_vmem h_S1x1024))
  let v22 : Vec F S1x1x1024 .f32 ← Prog.lift (.load arg5 (Rect.unit (s := S1x6x1024) ![0, 1, 0] S1x1x1024.size inb_S1x6x1024_S1x1x1024_0_1_0).toLoadRect (View.loadsAt_vmem h_S1x1x1024))
  let v26 : Vec F S1x1x1024 .f32 ← Prog.lift (.load arg7 (Rect.unit (s := S1x2x1024) ![0, 0, 0] S1x1x1024.size inb_S1x2x1024_S1x1x1024_0_0_0).toLoadRect (View.loadsAt_vmem h_S1x1x1024))

  let v31 : Vec F S1x1x1024 .f32 ← Prog.lift (.load arg7 (Rect.unit (s := S1x2x1024) ![0, 0, 0] S1x1x1024.size inb_S1x2x1024_S1x1x1024_0_0_0).toLoadRect (View.loadsAt_vmem h_S1x1x1024))

  pure ⟨v9, k0_pay3 v8, k0_pay4 v8, k0_pay5 v20, k0_pay6 v22, k0_pay7 v8 v20, k0_pay8 v9 v26⟩

set_option maxRecDepth 65536 in
/-- The printed `k0_part1` is its skeleton: by definitional unfolding. -/
theorem k0_part1_eq_skeleton : k0_part1 (F := F) = k0_part1_skel (F := F) := rfl

/-- `k0_part2` as a skeleton of memory operations over payloads. -/
noncomputable def k0_part2_skel (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x6x1024 .f32) (harg5 : arg5.IsWhole) (arg6 : Memref sig .tc .vmem S256x1024 .f32) (harg6 : arg6.IsWhole) (arg7 : Memref sig .tc .vmem S1x2x1024 .f32) (harg7 : arg7.IsWhole) (arg8 : Memref sig .tc .vmem S1x1024 .f32) (harg8 : arg8.IsWhole) :
    Prog (TpuEff nD τ sig (Elt F) Λ₀ .tc) (PUnit) := do
  let ⟨v9, v17, v19, v21, v23, v25, v30⟩ : Σ' (v9 : Vec F S256x1024 .f32) (v17 : FVec F S256x1 .f32) (v19 : FVec F S256x1024 .f32) (v21 : FVec F S1x1024 .f32) (v23 : FVec F S1x1024 .f32) (v25 : FVec F S256x1024 .f32), FVec F S1x1024 .f32 ← k0_part1 i arg1 harg1 arg2 harg2 arg3 harg3 arg4 harg4 arg5 harg5 arg6 harg6 arg7 harg7 arg8 harg8 -- statements 1–60 of 120: their part
  Prog.lift (.store arg7 (Rect.unit (s := S1x2x1024) ![0, 0, 0] S1x1x1024.size inb_S1x2x1024_S1x1x1024_0_0_0) (k0_pay9 v30) Finset.univ (View.stores_vmem_bits_univ h_S1x1x1024 rfl) (.inl rfl)) -- tpu.vector_store %arg7[%c0_16, %c0_17, %c0_18], %33 {strides = array<i32>} : memref<1x2x1024xf32, #tpu.memory_space<vmem>>, vector<1x1x1024xf32>,  @ test_k:797
  let v34 : Vec F S1x1x1024 .f32 ← Prog.lift (.load arg7 (Rect.unit (s := S1x2x1024) ![0, 1, 0] S1x1x1024.size inb_S1x2x1024_S1x1x1024_0_1_0).toLoadRect (View.loadsAt_vmem h_S1x1x1024))

  let v40 : Vec F S1x1x1024 .f32 ← Prog.lift (.load arg7 (Rect.unit (s := S1x2x1024) ![0, 1, 0] S1x1x1024.size inb_S1x2x1024_S1x1x1024_0_1_0).toLoadRect (View.loadsAt_vmem h_S1x1x1024))

  Prog.lift (.store arg7 (Rect.unit (s := S1x2x1024) ![0, 1, 0] S1x1x1024.size inb_S1x2x1024_S1x1x1024_0_1_0) (k0_pay10 v9 v25 v34) Finset.univ (View.stores_vmem_bits_univ h_S1x1x1024 rfl) (.inl rfl)) -- tpu.vector_store %arg7[%c0_23, %c1_24, %c0_25], %42 {strides = array<i32>} : memref<1x2x1024xf32, #tpu.memory_space<vmem>>, vector<1x1x1024xf32>,  @ test_k:798
  let v47 : Vec F S1x1024 .f32 ← Prog.lift (.load arg8 (Rect.unit (s := S1x1024) ![0, 0] S1x1024.size inb_S1x1024_S1x1024_0_0).toLoadRect (View.loadsAt_vmem h_S1x1024))

  let v53 : Vec F S1x1024 .f32 ← Prog.lift (.load arg8 (Rect.unit (s := S1x1024) ![0, 0] S1x1024.size inb_S1x1024_S1x1024_0_0).toLoadRect (View.loadsAt_vmem h_S1x1024))
  Prog.lift (.store arg8 (Rect.unit (s := S1x1024) ![0, 0] S1x1024.size inb_S1x1024_S1x1024_0_0) (k0_pay12 v9 v19 v23 v47) Finset.univ (View.stores_vmem_bits_univ h_S1x1024 rfl) (.inl rfl)) -- tpu.vector_store %arg8[%c0_30, %c0_31], %52 {strides = array<i32>} : memref<1x1024xf32, #tpu.memory_space<vmem>>, vector<1x1024xf32>,  @ test_k:784
  let v56 : Vec F S256x1024 .f32 ← Prog.lift (.load arg3 (Rect.unit (s := S256x1024) ![0, 0] S256x1024.size inb_S256x1024_S256x1024_0_0).toLoadRect (View.loadsAt_vmem h_S256x1024))

  let v68 : Vec F S256x1024 .f32 ← Prog.lift (.load arg6 (Rect.unit (s := S256x1024) ![0, 0] S256x1024.size inb_S256x1024_S256x1024_0_0).toLoadRect (View.loadsAt_vmem h_S256x1024))
  Prog.lift (.store arg6 (Rect.unit (s := S256x1024) ![0, 0] S256x1024.size inb_S256x1024_S256x1024_0_0) (k0_pay13 v9 v17 v19 v21 v23 v56) Finset.univ (View.stores_vmem_bits_univ h_S256x1024 rfl) (.inl rfl)) -- tpu.vector_store %arg6[%c0_36, %c0_37], %67 {strides = array<i32>} : memref<256x1024xf32, #tpu.memory_space<vmem>>, vector<256x1024xf32>,  @ test_k:802
  pure ⟨⟩

set_option maxRecDepth 65536 in
/-- The printed `k0_part2` is its skeleton: by definitional unfolding. -/
theorem k0_part2_eq_skeleton : k0_part2 (F := F) = k0_part2_skel (F := F) := rfl

end Cert.KernelNormBwdIdeal.Gen

end
-- ==== Proof.NormFrame.Ideal.Runs.lean ====
module

public import proofs.«01_k».proof.Proof.Gen.KernelNormBwdIdeal.Launch
public import proofs.«01_k».proof.Proof.NormFrame.Ideal.Skeleton
public import proofs.«01_k».proof.Proof.Gen.KernelNormBwdIdeal.Points
public import proofs.«01_k».proof.Proof.Gen.KernelNormBwdIdeal.Frame
public import Idealize.ShloMosaic.Lib.Pipeline.FrameBody
public import Idealize.ShloMosaic.Lib.Ring
public import Idealize.ShloMosaic.Lib.Tactic
public import Idealize.ShloMosaic.Lib.WordCmp

/-! The two branch conditions of the body and the views it loads from and stores to; window 6, the shift and scale sums of one stream, is written back at points 0 and 16. -/

@[expose] public section

set_option maxRecDepth 16384

noncomputable section

namespace Cert.KernelNormBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 6 is written back at points 0 and 16. -/
theorem flush0_6 : ∀ t : Fin cfg0.N, (cfg0.win 6).flush t = true ↔ t.val % 16 = 0 :=
  (by decide +kernel : ∀ t : Fin grid0.N, win0_6.flush t = true ↔ t.val % 16 = 0)

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 17 = 0 :=
  (fun t => by
    have ht : t.val < 17 := Nat.lt_of_lt_of_eq t.isLt N_0
    have e0 : (grid0.coords t 0).val = t.val / 1 % 17 := Pipeline.Grid.coords_val t 0 (by decide) rfl
    simp only [cond0_0, e0]
    word_cmp
   : ∀ t : Fin grid0.N, cond0_0 (grid0.coords t) ↔ t.val % 17 = 0)

/-- The condition of the body's `scf.if` 1 (`k0_h2`), from the grid coordinates (the skeleton's scalar
    chain substituted). -/
abbrev cond0_1 (i : grid0.Coords) : Prop := (Scalar.cmpi .ne (Scalar.extui (Scalar.ori (Scalar.cmpi .eq (BitVec.ofNat 32 (i 0).val) 0#32) (Scalar.cmpi .eq (BitVec.ofNat 32 (i 0).val) 1#32))) 0#32) = 1#1
/-- It holds at the points before point 2 — by arithmetic of the point. -/
theorem hcond0_1 : ∀ t : Fin cfg0.N, cond0_1 (grid0.coords t) ↔ t.val < 2 :=
  (fun t => by
    have ht : t.val < 17 := Nat.lt_of_lt_of_eq t.isLt N_0
    have e0 : (grid0.coords t 0).val = t.val / 1 % 17 := Pipeline.Grid.coords_val t 0 (by decide) rfl
    simp only [cond0_1, e0]
    word_cmp
   : ∀ t : Fin grid0.N, cond0_1 (grid0.coords t) ↔ t.val < 2)

/-- One staging buffer of output window 5, through which its contents are stated (`View.read_writes_of_cover`: the
    choice does not matter). -/
abbrev VO0_5 : View sig .tc .vmem S256x1024 .f32 := (Memref.whole cc0_stg5_0 : Memref sig .tc .vmem S256x1024 .f32).view
/-- One staging buffer of output window 6, through which its contents are stated (`View.read_writes_of_cover`: the
    choice does not matter). -/
abbrev VO0_6 : View sig .tc .vmem S1x2x1024 .f32 := (Memref.whole cc0_stg6_0 : Memref sig .tc .vmem S1x2x1024 .f32).view
/-- One staging buffer of output window 7, through which its contents are stated (`View.read_writes_of_cover`: the
    choice does not matter). -/
abbrev VO0_7 : View sig .tc .vmem S1x1024 .f32 := (Memref.whole cc0_stg7_0 : Memref sig .tc .vmem S1x1024 .f32).view
/-- Each window's current staging memref at point `t`, spelled as the pipeline passes it (`bodyAt0`), and its wholeness. -/
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x6x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)

end Cert.KernelNormBwdIdeal.Gen

end
-- ==== Proof.NormFrame.Ideal.RunA.lean ====
module

public import proofs.«01_k».proof.Proof.NormFrame.Ideal.Runs

/-! The run of the body at point 0, where both accumulators are cleared. -/

@[expose] public section

set_option maxRecDepth 16384

noncomputable section

namespace Cert.KernelNormBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x6x1024 .f32) (harg5 : arg5.IsWhole) (arg6 : Memref sig .tc .vmem S256x1024 .f32) (harg6 : arg6.IsWhole) (arg7 : Memref sig .tc .vmem S1x2x1024 .f32) (harg7 : arg7.IsWhole) (arg8 : Memref sig .tc .vmem S1x1024 .f32) (harg8 : arg8.IsWhole) (hc0 : cond0_0 i) (hc1 : cond0_1 i)
    (x0 : Vec F S256x1024 .f32) (x1 : Vec F S256x1024 .f32) (x2 : Vec F S256x1024 .f32) (x3 : Vec F S1x1024 .f32) (x4 : Vec F S1x6x1024 .f32) :
    Σ' (L5 : List (View.Piece (Elt F) S256x1024 .f32)), Σ' (L6 : List (View.Piece (Elt F) S1x2x1024 .f32)), { L7 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc0_norm1_bwd_0 i arg1 harg1 arg2 harg2 arg3 harg3 arg4 harg4 arg5 harg5 arg6 harg6 arg7 harg7 arg8 harg8) K } := by
  refine ⟨?_, ?_, ?_, fun E K => ?run⟩
  case run =>
    simp only [cc0_norm1_bwd_0_eq_skeleton]; unfold cc0_norm1_bwd_0_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

end Cert.KernelNormBwdIdeal.Gen

end
-- ==== Proof.NormFrame.Ideal.RunB.lean ====
module

public import proofs.«01_k».proof.Proof.NormFrame.Ideal.RunA

/-! The run of the body at point 1, where the sums of the second stream are cleared. -/

@[expose] public section

set_option maxRecDepth 16384

noncomputable section

namespace Cert.KernelNormBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x6x1024 .f32) (harg5 : arg5.IsWhole) (arg6 : Memref sig .tc .vmem S256x1024 .f32) (harg6 : arg6.IsWhole) (arg7 : Memref sig .tc .vmem S1x2x1024 .f32) (harg7 : arg7.IsWhole) (arg8 : Memref sig .tc .vmem S1x1024 .f32) (harg8 : arg8.IsWhole) (hc0 : ¬cond0_0 i) (hc1 : cond0_1 i)
    (x0 : Vec F S256x1024 .f32) (x1 : Vec F S256x1024 .f32) (x2 : Vec F S256x1024 .f32) (x3 : Vec F S1x1024 .f32) (x4 : Vec F S1x6x1024 .f32) (xo7 : Vec F S1x1024 .f32) :
    Σ' (L5 : List (View.Piece (Elt F) S256x1024 .f32)), Σ' (L6 : List (View.Piece (Elt F) S1x2x1024 .f32)), { L7 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc0_norm1_bwd_0 i arg1 harg1 arg2 harg2 arg3 harg3 arg4 harg4 arg5 harg5 arg6 harg6 arg7 harg7 arg8 harg8) K } := by
  refine ⟨?_, ?_, ?_, fun E K => ?run⟩
  case run =>
    simp only [cc0_norm1_bwd_0_eq_skeleton]; unfold cc0_norm1_bwd_0_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

end Cert.KernelNormBwdIdeal.Gen

end
-- ==== Proof.NormFrame.Ideal.RunC.lean ====
module

public import proofs.«01_k».proof.Proof.NormFrame.Ideal.RunB

/-! The run of the body at the points from 2 on, where both accumulators continue. -/

@[expose] public section

set_option maxRecDepth 16384

noncomputable section

namespace Cert.KernelNormBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x6x1024 .f32) (harg5 : arg5.IsWhole) (arg6 : Memref sig .tc .vmem S256x1024 .f32) (harg6 : arg6.IsWhole) (arg7 : Memref sig .tc .vmem S1x2x1024 .f32) (harg7 : arg7.IsWhole) (arg8 : Memref sig .tc .vmem S1x1024 .f32) (harg8 : arg8.IsWhole) (hc0 : ¬cond0_0 i) (hc1 : ¬cond0_1 i)
    (x0 : Vec F S256x1024 .f32) (x1 : Vec F S256x1024 .f32) (x2 : Vec F S256x1024 .f32) (x3 : Vec F S1x1024 .f32) (x4 : Vec F S1x6x1024 .f32) (xo6 : Vec F S1x2x1024 .f32) (xo7 : Vec F S1x1024 .f32) :
    Σ' (L5 : List (View.Piece (Elt F) S256x1024 .f32)), Σ' (L6 : List (View.Piece (Elt F) S1x2x1024 .f32)), { L7 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xo6 ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc0_norm1_bwd_0 i arg1 harg1 arg2 harg2 arg3 harg3 arg4 harg4 arg5 harg5 arg6 harg6 arg7 harg7 arg8 harg8) K } := by
  refine ⟨?_, ?_, ?_, fun E K => ?run⟩
  case run =>
    simp only [cc0_norm1_bwd_0_eq_skeleton]; unfold cc0_norm1_bwd_0_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

end Cert.KernelNormBwdIdeal.Gen

end
-- ==== Proof.NormFrame.Ideal.Frame.lean ====
module

public import proofs.«01_k».proof.Proof.NormFrame.Ideal.RunC
public import Idealize.ShloMosaic.Lib.Claim

/-! What the body leaves point by point, the pipeline data, and the frame of the program. -/

@[expose] public section

set_option maxRecDepth 16384

noncomputable section

namespace Cert.KernelNormBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x6x1024 .f32) (harg5 : arg5.IsWhole) (arg6 : Memref sig .tc .vmem S256x1024 .f32) (harg6 : arg6.IsWhole) (arg7 : Memref sig .tc .vmem S1x2x1024 .f32) (harg7 : arg7.IsWhole) (arg8 : Memref sig .tc .vmem S1x1024 .f32) (harg8 : arg8.IsWhole) (hc0 : cond0_0 i) (hc1 : cond0_1 i)
    (x0 : Vec F S256x1024 .f32) (x1 : Vec F S256x1024 .f32) (x2 : Vec F S256x1024 .f32) (x3 : Vec F S1x1024 .f32) (x4 : Vec F S1x6x1024 .f32)

theorem cover0_A_5 (y : S256x1024.Idx) :
    ∃ pc ∈ (kernelRun0_A c i arg1 harg1 arg2 harg2 arg3 harg3 arg4 harg4 arg5 harg5 arg6 harg6 arg7 harg7 arg8 harg8 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 hc0 hc1 x0 x1 x2 x3 x4).1 S256x1024.size (by sl_kernel_rfl) y

/-- What case A leaves in output 5's staging buffer: its pieces read back over junk. -/
def out0_A_5 : Vec F S256x1024 .f32 :=
  VO0_5.read (Elt F) (VO0_5.writes (Elt F) VO0_5.junk (kernelRun0_A c i arg1 harg1 arg2 harg2 arg3 harg3 arg4 harg4 arg5 harg5 arg6 harg6 arg7 harg7 arg8 harg8 hc0 hc1 x0 x1 x2 x3 x4).1)

theorem cover0_A_6 (y : S1x2x1024.Idx) :
    ∃ pc ∈ (kernelRun0_A c i arg1 harg1 arg2 harg2 arg3 harg3 arg4 harg4 arg5 harg5 arg6 harg6 arg7 harg7 arg8 harg8 hc0 hc1 x0 x1 x2 x3 x4).2.1, y ∈ pc.1.set :=
  View.cover_of_tiledBy (kernelRun0_A c i arg1 harg1 arg2 harg2 arg3 harg3 arg4 harg4 arg5 harg5 arg6 harg6 arg7 harg7 arg8 harg8 hc0 hc1 x0 x1 x2 x3 x4).2.1 ![1, 1, 1024] (by sl_kernel_rfl) y

/-- What case A leaves in output 6's staging buffer: its pieces read back over junk. -/
def out0_A_6 : Vec F S1x2x1024 .f32 :=
  VO0_6.read (Elt F) (VO0_6.writes (Elt F) VO0_6.junk (kernelRun0_A c i arg1 harg1 arg2 harg2 arg3 harg3 arg4 harg4 arg5 harg5 arg6 harg6 arg7 harg7 arg8 harg8 hc0 hc1 x0 x1 x2 x3 x4).2.1)

theorem cover0_A_7 (y : S1x1024.Idx) :
    ∃ pc ∈ (kernelRun0_A c i arg1 harg1 arg2 harg2 arg3 harg3 arg4 harg4 arg5 harg5 arg6 harg6 arg7 harg7 arg8 harg8 hc0 hc1 x0 x1 x2 x3 x4).2.2.1, y ∈ pc.1.set :=
  View.cover_of_tiledL (kernelRun0_A c i arg1 harg1 arg2 harg2 arg3 harg3 arg4 harg4 arg5 harg5 arg6 harg6 arg7 harg7 arg8 harg8 hc0 hc1 x0 x1 x2 x3 x4).2.2.1 S1x1024.size (by sl_kernel_rfl) y

/-- What case A leaves in output 7's staging buffer: its pieces read back over junk. -/
def out0_A_7 : Vec F S1x1024 .f32 :=
  VO0_7.read (Elt F) (VO0_7.writes (Elt F) VO0_7.junk (kernelRun0_A c i arg1 harg1 arg2 harg2 arg3 harg3 arg4 harg4 arg5 harg5 arg6 harg6 arg7 harg7 arg8 harg8 hc0 hc1 x0 x1 x2 x3 x4).2.2.1)

end

section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x6x1024 .f32) (harg5 : arg5.IsWhole) (arg6 : Memref sig .tc .vmem S256x1024 .f32) (harg6 : arg6.IsWhole) (arg7 : Memref sig .tc .vmem S1x2x1024 .f32) (harg7 : arg7.IsWhole) (arg8 : Memref sig .tc .vmem S1x1024 .f32) (harg8 : arg8.IsWhole) (hc0 : ¬cond0_0 i) (hc1 : cond0_1 i)
    (x0 : Vec F S256x1024 .f32) (x1 : Vec F S256x1024 .f32) (x2 : Vec F S256x1024 .f32) (x3 : Vec F S1x1024 .f32) (x4 : Vec F S1x6x1024 .f32) (xo7 : Vec F S1x1024 .f32)

theorem cover0_B_5 (y : S256x1024.Idx) :
    ∃ pc ∈ (kernelRun0_B c i arg1 harg1 arg2 harg2 arg3 harg3 arg4 harg4 arg5 harg5 arg6 harg6 arg7 harg7 arg8 harg8 hc0 hc1 x0 x1 x2 x3 x4 xo7).1, y ∈ pc.1.set :=
  View.cover_of_tiledL (kernelRun0_B c i arg1 harg1 arg2 harg2 arg3 harg3 arg4 harg4 arg5 harg5 arg6 harg6 arg7 harg7 arg8 harg8 hc0 hc1 x0 x1 x2 x3 x4 xo7).1 S256x1024.size (by sl_kernel_rfl) y

/-- What case B leaves in output 5's staging buffer: its pieces read back over junk. -/
def out0_B_5 : Vec F S256x1024 .f32 :=
  VO0_5.read (Elt F) (VO0_5.writes (Elt F) VO0_5.junk (kernelRun0_B c i arg1 harg1 arg2 harg2 arg3 harg3 arg4 harg4 arg5 harg5 arg6 harg6 arg7 harg7 arg8 harg8 hc0 hc1 x0 x1 x2 x3 x4 xo7).1)

theorem cover0_B_6 (y : S1x2x1024.Idx) :
    ∃ pc ∈ (kernelRun0_B c i arg1 harg1 arg2 harg2 arg3 harg3 arg4 harg4 arg5 harg5 arg6 harg6 arg7 harg7 arg8 harg8 hc0 hc1 x0 x1 x2 x3 x4 xo7).2.1, y ∈ pc.1.set :=
  View.cover_of_tiledBy (kernelRun0_B c i arg1 harg1 arg2 harg2 arg3 harg3 arg4 harg4 arg5 harg5 arg6 harg6 arg7 harg7 arg8 harg8 hc0 hc1 x0 x1 x2 x3 x4 xo7).2.1 ![1, 1, 1024] (by sl_kernel_rfl) y

/-- What case B leaves in output 6's staging buffer: its pieces read back over junk. -/
def out0_B_6 : Vec F S1x2x1024 .f32 :=
  VO0_6.read (Elt F) (VO0_6.writes (Elt F) VO0_6.junk (kernelRun0_B c i arg1 harg1 arg2 harg2 arg3 harg3 arg4 harg4 arg5 harg5 arg6 harg6 arg7 harg7 arg8 harg8 hc0 hc1 x0 x1 x2 x3 x4 xo7).2.1)

theorem cover0_B_7 (y : S1x1024.Idx) :
    ∃ pc ∈ (kernelRun0_B c i arg1 harg1 arg2 harg2 arg3 harg3 arg4 harg4 arg5 harg5 arg6 harg6 arg7 harg7 arg8 harg8 hc0 hc1 x0 x1 x2 x3 x4 xo7).2.2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 x4 xo7).2.2.1 S1x1024.size (by sl_kernel_rfl) y

/-- What case B leaves in output 7's staging buffer: its pieces read back over junk. -/
def out0_B_7 : Vec F S1x1024 .f32 :=
  VO0_7.read (Elt F) (VO0_7.writes (Elt F) VO0_7.junk (kernelRun0_B c i arg1 harg1 arg2 harg2 arg3 harg3 arg4 harg4 arg5 harg5 arg6 harg6 arg7 harg7 arg8 harg8 hc0 hc1 x0 x1 x2 x3 x4 xo7).2.2.1)

end

section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1x6x1024 .f32) (harg5 : arg5.IsWhole) (arg6 : Memref sig .tc .vmem S256x1024 .f32) (harg6 : arg6.IsWhole) (arg7 : Memref sig .tc .vmem S1x2x1024 .f32) (harg7 : arg7.IsWhole) (arg8 : Memref sig .tc .vmem S1x1024 .f32) (harg8 : arg8.IsWhole) (hc0 : ¬cond0_0 i) (hc1 : ¬cond0_1 i)
    (x0 : Vec F S256x1024 .f32) (x1 : Vec F S256x1024 .f32) (x2 : Vec F S256x1024 .f32) (x3 : Vec F S1x1024 .f32) (x4 : Vec F S1x6x1024 .f32) (xo6 : Vec F S1x2x1024 .f32) (xo7 : Vec F S1x1024 .f32)

theorem cover0_C_5 (y : S256x1024.Idx) :
    ∃ pc ∈ (kernelRun0_C c i arg1 harg1 arg2 harg2 arg3 harg3 arg4 harg4 arg5 harg5 arg6 harg6 arg7 harg7 arg8 harg8 hc0 hc1 x0 x1 x2 x3 x4 xo6 xo7).1, y ∈ pc.1.set :=
  View.cover_of_tiledL (kernelRun0_C c i arg1 harg1 arg2 harg2 arg3 harg3 arg4 harg4 arg5 harg5 arg6 harg6 arg7 harg7 arg8 harg8 hc0 hc1 x0 x1 x2 x3 x4 xo6 xo7).1 S256x1024.size (by sl_kernel_rfl) y

/-- What case C leaves in output 5's staging buffer: its pieces read back over junk. -/
def out0_C_5 : Vec F S256x1024 .f32 :=
  VO0_5.read (Elt F) (VO0_5.writes (Elt F) VO0_5.junk (kernelRun0_C c i arg1 harg1 arg2 harg2 arg3 harg3 arg4 harg4 arg5 harg5 arg6 harg6 arg7 harg7 arg8 harg8 hc0 hc1 x0 x1 x2 x3 x4 xo6 xo7).1)

theorem cover0_C_6 (y : S1x2x1024.Idx) :
    ∃ pc ∈ (kernelRun0_C c i arg1 harg1 arg2 harg2 arg3 harg3 arg4 harg4 arg5 harg5 arg6 harg6 arg7 harg7 arg8 harg8 hc0 hc1 x0 x1 x2 x3 x4 xo6 xo7).2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 x4 xo6 xo7).2.1 S1x1x1024.size (by sl_kernel_rfl) y

/-- What case C leaves in output 6's staging buffer: its pieces read back over junk. -/
def out0_C_6 : Vec F S1x2x1024 .f32 :=
  VO0_6.read (Elt F) (VO0_6.writes (Elt F) VO0_6.junk (kernelRun0_C c i arg1 harg1 arg2 harg2 arg3 harg3 arg4 harg4 arg5 harg5 arg6 harg6 arg7 harg7 arg8 harg8 hc0 hc1 x0 x1 x2 x3 x4 xo6 xo7).2.1)

theorem cover0_C_7 (y : S1x1024.Idx) :
    ∃ pc ∈ (kernelRun0_C c i arg1 harg1 arg2 harg2 arg3 harg3 arg4 harg4 arg5 harg5 arg6 harg6 arg7 harg7 arg8 harg8 hc0 hc1 x0 x1 x2 x3 x4 xo6 xo7).2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 x4 xo6 xo7).2.2.1 S1x1024.size (by sl_kernel_rfl) y

/-- What case C leaves in output 7's staging buffer: its pieces read back over junk. -/
def out0_C_7 : Vec F S1x1024 .f32 :=
  VO0_7.read (Elt F) (VO0_7.writes (Elt F) VO0_7.junk (kernelRun0_C c i arg1 harg1 arg2 harg2 arg3 harg3 arg4 harg4 arg5 harg5 arg6 harg6 arg7 harg7 arg8 harg8 hc0 hc1 x0 x1 x2 x3 x4 xo6 xo7).2.2.1)

end

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x1024 .f32 × Vec F S1x2x1024 .f32 × Vec F S1x1024 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) ((hcond0_1 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) ((hcond0_1 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) ((hcond0_1 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 17 = 0 then
      if h1 : (n + 1) < 2 then
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩))
      else
        False.elim (by have hN : n + 1 < 17 := lt_of_lt_of_eq hn (show cfg0.N = 17 from N_0); omega)
    else
      if h1 : (n + 1) < 2 then
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2)
      else
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 17 = 0) (h1 : t.val < 2) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) ((hcond0_1 t).mpr h1) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) ((hcond0_1 t).mpr h1) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) ((hcond0_1 t).mpr h1) (iblk m c 0 t) (iblk m c 1 t) (iblk m c 2 t) (iblk m c 3 t) (iblk m c 4 t)) := by
  obtain ⟨n, hn⟩ := t
  cases n with
  | zero => exact rfl
  | succ n => exact (dif_pos h0).trans ((dif_pos h1).trans rfl)

/-- `outsAt0` at a point of case B: that case's contents, over what the point before left. -/
theorem outsAt0_B (c : Dev nD) (t : Fin cfg0.N) (h0 : ¬t.val % 17 = 0) (h1 : t.val < 2) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- `outsAt0` at a point of case C: that case's contents, over what the point before left. -/
theorem outsAt0_C (c : Dev nD) (t : Fin cfg0.N) (h0 : ¬t.val % 17 = 0) (h1 : ¬t.val < 2) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_7_B (c : Dev nD) (t : Fin cfg0.N) (h0 : ¬t.val % 17 = 0) (h1 : t.val < 2) (d) :
    (dats m 0 c).before 7 t d = (outsAt0 m c (t.val - 1) (Nat.lt_of_le_of_lt (Nat.sub_le _ _) t.isLt)).2.2 := by
  have hN : t.val < 17 := lt_of_lt_of_eq t.isLt (show cfg0.N = 17 from N_0)
  rw [Dat.before_out_kept _ 7 rfl t (by omega) (Bool.eq_false_iff.mpr fun h => by have := (flush0_7 _).mp h; dsimp only at this; omega)
    (fun _ => rfl) (fun _ _ => rfl)]
  dsimp only [dats]
theorem before0_6_C (c : Dev nD) (t : Fin cfg0.N) (h0 : ¬t.val % 17 = 0) (h1 : ¬t.val < 2) (d) :
    (dats m 0 c).before 6 t d = (outsAt0 m c (t.val - 1) (Nat.lt_of_le_of_lt (Nat.sub_le _ _) t.isLt)).2.1 := by
  have hN : t.val < 17 := lt_of_lt_of_eq t.isLt (show cfg0.N = 17 from N_0)
  rw [Dat.before_out_kept _ 6 rfl t (by omega) (Bool.eq_false_iff.mpr fun h => by have := (flush0_6 _).mp h; dsimp only at this; omega)
    (fun _ => rfl) (fun _ _ => rfl)]
  dsimp only [dats]
theorem before0_7_C (c : Dev nD) (t : Fin cfg0.N) (h0 : ¬t.val % 17 = 0) (h1 : ¬t.val < 2) (d) :
    (dats m 0 c).before 7 t d = (outsAt0 m c (t.val - 1) (Nat.lt_of_le_of_lt (Nat.sub_le _ _) t.isLt)).2.2 := by
  have hN : t.val < 17 := lt_of_lt_of_eq t.isLt (show cfg0.N = 17 from N_0)
  rw [Dat.before_out_kept _ 7 rfl t (by omega) (Bool.eq_false_iff.mpr fun h => by have := (flush0_7 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 2400000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  have hN : t.val < 17 := lt_of_lt_of_eq t.isLt (show cfg0.N = 17 from N_0)
  by_cases h0 : t.val % 17 = 0
  · by_cases h1 : t.val < 2
    · rw [outsAt0_A m c t h0 h1]
      unfold out0_A_5 out0_A_6 out0_A_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ ((hcond0_0 t).mpr h0) ((hcond0_1 t).mpr h1) (iblk m c 0 t) (iblk m c 1 t) (iblk m c 2 t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      iintro ⟨H0, H1, H2, H3, H4, ⟨%e5, H5⟩, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _)
    · exfalso; omega
  · by_cases h1 : t.val < 2
    · rw [outsAt0_B m c t h0 h1]
      simp only [before0_7_B m c t h0 h1]
      unfold out0_B_5 out0_B_6 out0_B_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexact H7
      iintro ⟨H0, H1, H2, H3, H4, ⟨%e5, H5⟩, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _)
    · rw [outsAt0_C m c t h0 h1]
      simp only [before0_6_C m c t h0 h1, before0_7_C m c t h0 h1]
      unfold out0_C_5 out0_C_6 out0_C_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      iintro ⟨H0, H1, H2, H3, H4, ⟨%e5, H5⟩, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _)
      unfold owns; iexists _; isplitr
      swap; · iexact H7
      ipureintro; exact View.read_writes_of_cover _ _ _ _ _ (cover0_C_7 c _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelNormBwdIdeal.Gen

end
-- ==== Proof.NormFrame.Ideal.Value.lean ====
module

public import proofs.«01_k».proof.Proof.NormFrame.Ideal.Frame
public import Idealize.ShloMosaic.Lib.Pipeline.Value

/-! The result arrays of the run, block by block. -/

@[expose] public section

noncomputable section

namespace Cert.KernelNormBwdIdeal.Value

open Cert.KernelNormBwdIdeal Cert.KernelNormBwdIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- WHAT POINT `t` WRITES BACK to output window 5's array: the run's contents for that window after the body (`Gen.outsAt0`: its component 0), read through the window's block. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 17 = 0) (h1 : t.val < 2) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) ((hcond0_1 t).mpr h1) (iblk m c 0 t) (iblk m c 1 t) (iblk m c 2 t) (iblk m c 3 t) (iblk m c 4 t)) := by
  simp only [flushed5, outsAt0_A m c t h0 h1]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 17 = 0) (h1 : t.val < 2) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2) := by
  simp only [flushed5, outsAt0_B m c t h0 h1]

/-- … so at a point where case C runs, what its write-back would write is that case's NAMED TERM for the window (`Gen.out0_C_5`: the pieces
    its run found, read back) at the point's memrefs and input blocks, and for an output the case reads back what the point before left (`Gen.outsAt0` at `t - 1`) — by the frame's rewriting lemma for the case. -/
theorem flushed5_C (c : Dev nD) (t : Fin cfg0.N) (h0 : ¬t.val % 17 = 0) (h1 : ¬t.val < 2) :
    (dats m 0 c).flushed 5 t = (cfg0.win 5).cut (grid0.coords t) (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) := by
  simp only [flushed5, outsAt0_C m c t h0 h1]

/-- The index map sends distinct grid points to distinct block indices (decided over the 17 points). -/
theorem idx_inj5 : ∀ t t' : Fin cfg0.N, win0_5.index t = win0_5.index t' → t = t' :=
  (by decide +kernel : ∀ t t' : Fin grid0.N, win0_5.index t = win0_5.index t' → t = t')

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S4352x1024.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`Gen.outsAt0`: its component 1), read through the window's block. -/
theorem flushed6 (c : Dev nD) (t : Fin cfg0.N) :
    (dats m 0 c).flushed 6 t = (cfg0.win 6).cut (grid0.coords t) ((outsAt0 m c t.val t.isLt).2.1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 17 = 0) (h1 : t.val < 2) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) ((hcond0_1 t).mpr h1) (iblk m c 0 t) (iblk m c 1 t) (iblk m c 2 t) (iblk m c 3 t) (iblk m c 4 t)) := by
  simp only [flushed6, outsAt0_A m c t h0 h1]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 17 = 0) (h1 : t.val < 2) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2) := by
  simp only [flushed6, outsAt0_B m c t h0 h1]

/-- … so at a point where case C runs, what its write-back would write is that case's NAMED TERM for the window (`Gen.out0_C_6`: the pieces
    its run found, read back) at the point's memrefs and input blocks, and for an output the case reads back what the point before left (`Gen.outsAt0` at `t - 1`) — by the frame's rewriting lemma for the case. -/
theorem flushed6_C (c : Dev nD) (t : Fin cfg0.N) (h0 : ¬t.val % 17 = 0) (h1 : ¬t.val < 2) :
    (dats m 0 c).flushed 6 t = (cfg0.win 6).cut (grid0.coords t) (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) := by
  simp only [flushed6, outsAt0_C m c t h0 h1]

/-- An index that no flushing point's block covers keeps output window 6's array contents at region entry. -/
theorem entry6 (c : Dev nD) (i : S2x2x1024.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`Gen.outsAt0`: its component 2), read through the window's block. -/
theorem flushed7 (c : Dev nD) (t : Fin cfg0.N) :
    (dats m 0 c).flushed 7 t = (cfg0.win 7).cut (grid0.coords t) ((outsAt0 m c t.val t.isLt).2.2) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 17 = 0) (h1 : t.val < 2) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) ((hcond0_1 t).mpr h1) (iblk m c 0 t) (iblk m c 1 t) (iblk m c 2 t) (iblk m c 3 t) (iblk m c 4 t)) := by
  simp only [flushed7, outsAt0_A m c t h0 h1]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 17 = 0) (h1 : t.val < 2) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2) := by
  simp only [flushed7, outsAt0_B m c t h0 h1]

/-- … so at a point where case C runs, what its write-back would write is that case's NAMED TERM for the window (`Gen.out0_C_7`: the pieces
    its run found, read back) at the point's memrefs and input blocks, and for an output the case reads back what the point before left (`Gen.outsAt0` at `t - 1`) — by the frame's rewriting lemma for the case. -/
theorem flushed7_C (c : Dev nD) (t : Fin cfg0.N) (h0 : ¬t.val % 17 = 0) (h1 : ¬t.val < 2) :
    (dats m 0 c).flushed 7 t = (cfg0.win 7).cut (grid0.coords t) (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) := by
  simp only [flushed7, outsAt0_C m c t h0 h1]

/-- An index that no flushing point's block covers keeps output window 7's array contents at region entry. -/
theorem entry7 (c : Dev nD) (i : S1x1024.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v1_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v1_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v1_2) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 5 cfg0.N
      ∧ r.2.mem ((c : Thread nD τ).loc main_v1_1) = (dats m 0 c).arrAt 6 cfg0.N
      ∧ r.2.mem ((c : Thread nD τ).loc main_v1_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      kept_main_arg0 m r h c,
      kept_main_arg1 m r h c,
      kept_main_arg2 m r h c,
      kept_main_arg3 m r h c,
      kept_main_arg4 m r h c⟩)
    (run_main m ρ)

end Cert.KernelNormBwdIdeal.Value

end
-- ==== Proof.Backward.NormBwdEntry.lean ====
/-
  The backward pass of a norm and modulation: what one block of rows stores, entry by entry.
-/
module

public import proofs.«01_k».proof.Proof.Backward.Loss
public import proofs.«01_k».proof.Proof.NormFrame.Ideal.Skeleton

@[expose] public section

noncomputable section

namespace Cert.Backward

open Idealize.ShloMosaic

/-- The gradient of a normed, weighted row, from the gradient of its modulation and the scale. -/
def gy (d s : Fin 1024 → EReal) (k : Fin 1024) : EReal := d k * (1 + s k)

/-- The derivative in the row: the kernel's closed form. -/
def gx (x d w s : Fin 1024 → EReal) (k : Fin 1024) : EReal :=
  root x * (gy d s k * w k - x k * root x * Ideal.div (∑ l, gy d s l * w l * (x l * root x)) (Ideal.ofBits .f32 0x44800000#32))

/-- The stream of a row, and the sum of a stream's rows: the context's 256, or the latents' 4096. -/
def half (r : Fin 4352) : Fin 2 := ⟨min (r.val / 256) 1, by omega⟩
def streamSum (q : Fin 2) (f : Fin 4352 → EReal) : EReal :=
  if q.val = 0 then ∑ r : Fin 256, f ⟨r.val, by omega⟩ else ∑ s : Fin 4096, f ⟨256 + s.val, by omega⟩

end Cert.Backward

namespace Cert.KernelNormBwdIdeal.Block

open Cert.KernelNormBwdIdeal Cert.KernelNormBwdIdeal.Gen Idealize.ShloMosaic Cert.Products Cert.Forward Cert.Backward
open Cert.KernelLossIdeal.Block (row wrow)

/-- The scale of a stream. -/
def scale (M : S2x6x1024.Idx → EReal) (q : Fin 2) : Fin 1024 → EReal := fun k => M (ix3 q 1 k)

/-- The three results: the gradient in the rows, the sums of each stream for its shift and its scale, and the gradient of the norm's weight. -/
def dxArr (D X R : S4352x1024.Idx → EReal) (W : S1024.Idx → EReal) (M : S2x6x1024.Idx → EReal) : S4352x1024.Idx → EReal := fun i =>
  R i + gx (row X (i 0)) (row D (i 0)) (wrow W) (scale M (half (i 0))) (i 1)
def shiftTerm (D : S4352x1024.Idx → EReal) (k : Fin 1024) (r : Fin 4352) : EReal := row D r k
def scaleTerm (D X : S4352x1024.Idx → EReal) (W : S1024.Idx → EReal) (k : Fin 1024) (r : Fin 4352) : EReal := row D r k * (xh (row X r) k * wrow W k)
def dmArr (D X : S4352x1024.Idx → EReal) (W : S1024.Idx → EReal) : S2x2x1024.Idx → EReal := fun i =>
  if (i 1).val = 0 then streamSum (i 0) (shiftTerm D (i 2)) else streamSum (i 0) (scaleTerm D X W (i 2))
def dwTerm (D X : S4352x1024.Idx → EReal) (M : S2x6x1024.Idx → EReal) (k : Fin 1024) (r : Fin 4352) : EReal := gy (row D r) (scale M (half r)) k * xh (row X r) k
def dwArr (D X : S4352x1024.Idx → EReal) (M : S2x6x1024.Idx → EReal) : S1x1024.Idx → EReal := fun i => ∑ r : Fin 4352, dwTerm D X M (i 1) r

theorem pay1_at (j : S1x1024.Idx) : k0_pay1 (F := Ideal) j = 0 := by
  pointwise [k0_pay1]
theorem pay2_at (j : S1x2x1024.Idx) : k0_pay2 (F := Ideal) j = 0 := by
  pointwise [k0_pay2]

theorem pay3_at (X : S256x1024.Idx → EReal) (j : S256x1.Idx) : k0_pay3 (F := Ideal) X j = root (row X (j 0)) := by
  pointwise [k0_pay3]
  rfl

theorem pay4_at (X : S256x1024.Idx → EReal) (j : S256x1024.Idx) : k0_pay4 (F := Ideal) X j = xh (row X (j 0)) (j 1) := by
  pointwise [k0_pay4]
  rw [pay3_at]
  exact congrArg (· * _) (congrArg X (eq_ix2 j (j 0) (j 1) rfl rfl))

theorem pay7_at (X : S256x1024.Idx → EReal) (W : S1x1024.Idx → EReal) (j : S256x1024.Idx) :
    k0_pay7 (F := Ideal) X W j = xh (row X (j 0)) (j 1) * row W 0 (j 1) := by
  pointwise [k0_pay7, k0_pay5]
  rw [pay4_at]
  rfl

/-- The row of a loaded stream's scale. -/
def srow (S : S1x1x1024.Idx → EReal) : Fin 1024 → EReal := fun k => S (ix3 0 0 k)

theorem pay11_at (D : S256x1024.Idx → EReal) (S : S1x1x1024.Idx → EReal) (j : S256x1024.Idx) :
    k0_pay11 (F := Ideal) D (k0_pay6 S) j = gy (row D (j 0)) (srow S) (j 1) := by
  pointwise [k0_pay11, k0_pay6]
  exact congrArg (· * (1 + S (ix3 0 0 (j 1)))) (congrArg D (eq_ix2 j (j 0) (j 1) rfl rfl))

theorem pay9_at (D : S256x1024.Idx → EReal) (Z : S1x1x1024.Idx → EReal) (j : S1x1x1024.Idx) :
    k0_pay9 (F := Ideal) (k0_pay8 D Z) j = Z j + ∑ r : Fin 256, row D r (j 2) := by
  pointwise [k0_pay9, k0_pay8]
  rfl

theorem pay10_at (D X : S256x1024.Idx → EReal) (W : S1x1024.Idx → EReal) (Z : S1x1x1024.Idx → EReal) (j : S1x1x1024.Idx) :
    k0_pay10 (F := Ideal) D (k0_pay7 X W) Z j = Z j + ∑ r : Fin 256, row D r (j 2) * (xh (row X r) (j 2) * row W 0 (j 2)) := by
  pointwise [k0_pay10]
  simp only [pay7_at]
  rfl

theorem pay12_at (D X : S256x1024.Idx → EReal) (S : S1x1x1024.Idx → EReal) (Z : S1x1024.Idx → EReal) (j : S1x1024.Idx) :
    k0_pay12 (F := Ideal) D (k0_pay4 X) (k0_pay6 S) Z j = Z j + ∑ r : Fin 256, gy (row D r) (srow S) (j 1) * xh (row X r) (j 1) := by
  pointwise [k0_pay12]
  simp only [pay11_at, pay4_at]
  rfl

theorem pay13_at (D X R : S256x1024.Idx → EReal) (W : S1x1024.Idx → EReal) (S : S1x1x1024.Idx → EReal) (j : S256x1024.Idx) :
    k0_pay13 (F := Ideal) D (k0_pay3 X) (k0_pay4 X) (k0_pay5 W) (k0_pay6 S) R j
      = R j + gx (row X (j 0)) (row D (j 0)) (row W 0) (srow S) (j 1) := by
  pointwise [k0_pay13, k0_pay5]
  simp only [pay11_at, pay4_at, pay3_at]
  rfl

end Cert.KernelNormBwdIdeal.Block

end
-- ==== Proof.Backward.NormBwd.lean ====
/-
  The backward pass of a norm and modulation: the arrays the kernel leaves.
-/
module

public import proofs.«01_k».proof.Proof.Backward.NormBwdEntry
public import proofs.«01_k».proof.Proof.NormFrame.Ideal.Frame
public import Idealize.ShloMosaic.Lib.Pipeline.ReadBack
public import Idealize.ShloMosaic.Lib.Pipeline.ValueKit
public import Idealize.ShloMosaic.Lib.KernelVsHost

@[expose] public section

noncomputable section

namespace Cert.KernelNormBwdIdeal.Block

open Cert.KernelNormBwdIdeal Cert.KernelNormBwdIdeal.Gen Idealize.ShloMosaic Idealize.ShloMosaic.TcCoe Cert.Products Cert.Forward Cert.Backward
open Idealize.ShloMosaic.Pipeline (Dat)
open Cert.KernelLossIdeal.Block (row wrow)

variable (m : (ℓ : Loc nD τ sig) → Buf (Elt Ideal) ℓ) (c : Dev nD)

/-- The blocks a grid point takes. -/
def blkD (t : Fin cfg0.N) : S256x1024.Idx → EReal := iblk m c 0 t
def blkX (t : Fin cfg0.N) : S256x1024.Idx → EReal := iblk m c 1 t
def blkR (t : Fin cfg0.N) : S256x1024.Idx → EReal := iblk m c 2 t
def blkW (t : Fin cfg0.N) : S1x1024.Idx → EReal := iblk m c 3 t
def blkM (t : Fin cfg0.N) : S1x6x1024.Idx → EReal := iblk m c 4 t

/-- The two rows of the sums' buffer. -/
abbrev low : Rect S1x2x1024 := Rect.unit (s := S1x2x1024) ![0, 0, 0] ![1, 1, 1024] inb_S1x2x1024_S1x1x1024_0_0_0
abbrev high : Rect S1x2x1024 := Rect.unit (s := S1x2x1024) ![0, 1, 0] ![1, 1, 1024] inb_S1x2x1024_S1x1x1024_0_1_0

/-- A buffer of two rows written row by row, read at an entry. -/
theorem rows_at (w1 w0 : S1x1x1024.Idx → EReal) (L : List (View.Piece (Elt Ideal) S1x2x1024 .f32)) (y : S1x2x1024.Idx) :
    View.canon ((⟨high, w1⟩ : View.Piece (Elt Ideal) S1x2x1024 .f32)
        :: ⟨low, w0⟩ :: L) y
      = if (y 1).val = 0 then w0 (ix3 0 0 (y 2)) else w1 (ix3 0 0 (y 2)) := by
  have h0 : (y 0).val < 1 := (y 0).isLt
  have h1 : (y 1).val < 2 := (y 1).isLt
  by_cases h : (y 1).val = 0
  · rw [if_pos h]
    refine (View.canon_cons_of_not_mem (Val := Elt Ideal) (e := .f32) ⟨high, w1⟩ _ (fun hm => ?_)).trans ?_
    · have g : 1 ≤ (y 1).val := ((Rect.mem_set_unit (inb := inb_S1x2x1024_S1x1x1024_0_1_0)).mp hm 1).1
      omega
    have e : y = low.emb (ix3 0 0 (y 2)) := by
      refine funext fun b => Fin.ext ?_
      match b with
      | ⟨0, _⟩ => show (y 0).val = 0 + 0 * 1; omega
      | ⟨1, _⟩ => show (y 1).val = 0 + 0 * 1; omega
      | ⟨2, _⟩ => show (y 2).val = 0 + 1 * (y 2).val; omega
    exact (congrArg (View.canon (Val := Elt Ideal) (e := .f32) (⟨low, w0⟩ :: L)) e).trans (View.canon_cons_emb (Val := Elt Ideal) (e := .f32) low w0 L (ix3 0 0 (y 2)))
  · rw [if_neg h]
    have e : y = high.emb (ix3 0 0 (y 2)) := by
      refine funext fun b => Fin.ext ?_
      match b with
      | ⟨0, _⟩ => show (y 0).val = 0 + 0 * 1; omega
      | ⟨1, _⟩ => show (y 1).val = 1 + 0 * 1; omega
      | ⟨2, _⟩ => show (y 2).val = 0 + 1 * (y 2).val; omega
    exact (congrArg (View.canon (Val := Elt Ideal) (e := .f32) (⟨high, w1⟩ :: ⟨low, w0⟩ :: L)) e).trans (View.canon_cons_emb (Val := Elt Ideal) (e := .f32) high w1 (⟨low, w0⟩ :: L) (ix3 0 0 (y 2)))

/-- What one block adds to its stream's sums, and to the gradient of the weight. -/
def addM (t : Fin cfg0.N) (y : S1x2x1024.Idx) : EReal :=
  if (y 1).val = 0 then ∑ r : Fin 256, row (blkD m c t) r (y 2)
  else ∑ r : Fin 256, row (blkD m c t) r (y 2) * (xh (row (blkX m c t) r) (y 2) * row (blkW m c t) 0 (y 2))
def sblk (t : Fin cfg0.N) : S1x1x1024.Idx → EReal := View.ld (Val := Elt Ideal) (e' := .f32) (blkM m c t) (Rect.unit (s := S1x6x1024) ![0, 1, 0] ![1, 1, 1024] inb_S1x6x1024_S1x1x1024_0_1_0)
def addW (t : Fin cfg0.N) (j : S1x1024.Idx) : EReal := ∑ r : Fin 256, gy (row (blkD m c t) r) (srow (sblk m c t)) (j 1) * xh (row (blkX m c t) r) (j 1)

/-- The two sums over what was there before. -/
theorem stored (t : Fin cfg0.N) (P : S1x2x1024.Idx → EReal) (y : S1x2x1024.Idx) (L : List (View.Piece (Elt Ideal) S1x2x1024 .f32)) :
    View.canon ((⟨high,
        k0_pay10 (F := Ideal) (blkD m c t) (k0_pay7 (blkX m c t) (blkW m c t)) (View.ld (Val := Elt Ideal) (e' := .f32) P high)⟩ : View.Piece (Elt Ideal) S1x2x1024 .f32)
        :: ⟨low,
          k0_pay9 (F := Ideal) (k0_pay8 (blkD m c t) (View.ld (Val := Elt Ideal) (e' := .f32) P low))⟩ :: L) y
      = P y + addM m c t y := by
  have h0 : (y 0).val < 1 := (y 0).isLt
  have h1 : (y 1).val < 2 := (y 1).isLt
  refine (rows_at _ _ L y).trans ?_
  unfold addM
  by_cases h : (y 1).val = 0
  · rw [if_pos h, if_pos h]
    refine (pay9_at _ _ _).trans (congrArg (· + _) (congrArg P (funext fun b => Fin.ext ?_)))
    match b with
    | ⟨0, _⟩ => show 0 + 0 * 1 = (y 0).val; omega
    | ⟨1, _⟩ => show 0 + 0 * 1 = (y 1).val; omega
    | ⟨2, _⟩ => show 0 + 1 * (y 2).val = (y 2).val; omega
  · rw [if_neg h, if_neg h]
    refine (pay10_at _ _ _ _ _).trans (congrArg (· + _) (congrArg P (funext fun b => Fin.ext ?_)))
    match b with
    | ⟨0, _⟩ => show 0 + 0 * 1 = (y 0).val; omega
    | ⟨1, _⟩ => show 1 + 0 * 1 = (y 1).val; omega
    | ⟨2, _⟩ => show 0 + 1 * (y 2).val = (y 2).val; omega

/-- At the first point of either stream the two sums start from zero; at the others they go on. -/
theorem start_A (t : Fin cfg0.N) (h0 : t.val % 17 = 0) (h1 : t.val < 2) (y : S1x2x1024.Idx) :
    (outsAt0 m c t.val t.isLt).2.1 y = addM m c t y := by
  rw [outsAt0_A m c t h0 h1]
  frame_out
  simp (disch := decide) only [↓View.readCov_skip, ↓View.readCov_fill]
  refine (stored m c t (k0_pay2 (F := Ideal)) y _).trans ?_
  rw [pay2_at, zero_add]
theorem start_B (t : Fin cfg0.N) (h0 : ¬t.val % 17 = 0) (h1 : t.val < 2) (y : S1x2x1024.Idx) :
    (outsAt0 m c t.val t.isLt).2.1 y = addM m c t y := by
  rw [outsAt0_B m c t h0 h1]
  frame_out
  simp (disch := decide) only [↓View.readCov_skip, ↓View.readCov_fill]
  refine (stored m c t (k0_pay2 (F := Ideal)) y _).trans ?_
  rw [pay2_at, zero_add]
theorem next_C (t : Fin cfg0.N) (h0 : ¬t.val % 17 = 0) (h1 : ¬t.val < 2) (y : S1x2x1024.Idx) :
    (outsAt0 m c t.val t.isLt).2.1 y = (outsAt0 m c (t.val - 1) (Nat.lt_of_le_of_lt (Nat.sub_le _ _) t.isLt)).2.1 y + addM m c t y := by
  rw [outsAt0_C m c t h0 h1]
  frame_out
  exact stored m c t (outsAt0 m c (t.val - 1) (Nat.lt_of_le_of_lt (Nat.sub_le _ _) t.isLt)).2.1 y _

/-- The gradient of the weight likewise, over both streams. -/
theorem weight_A (t : Fin cfg0.N) (h0 : t.val % 17 = 0) (h1 : t.val < 2) (j : S1x1024.Idx) :
    (outsAt0 m c t.val t.isLt).2.2 j = addW m c t j := by
  rw [outsAt0_A m c t h0 h1]
  frame_out
  refine (pay12_at (blkD m c t) (blkX m c t) (sblk m c t) (k0_pay1 (F := Ideal)) j).trans ?_
  rw [pay1_at, zero_add]
  rfl
theorem weight_next (t : Fin cfg0.N) (h0 : ¬t.val % 17 = 0) (j : S1x1024.Idx) :
    (outsAt0 m c t.val t.isLt).2.2 j = (outsAt0 m c (t.val - 1) (Nat.lt_of_le_of_lt (Nat.sub_le _ _) t.isLt)).2.2 j + addW m c t j := by
  by_cases h1 : t.val < 2
  · rw [outsAt0_B m c t h0 h1]
    frame_out
    exact pay12_at (blkD m c t) (blkX m c t) (sblk m c t) _ j
  · rw [outsAt0_C m c t h0 h1]
    frame_out
    exact pay12_at (blkD m c t) (blkX m c t) (sblk m c t) _ j

/-- The gradient in the rows, the same at every point. -/
theorem rows_out (t : Fin cfg0.N) (j : S256x1024.Idx) :
    (outsAt0 m c t.val t.isLt).1 j
      = blkR m c t j + gx (row (blkX m c t) (j 0)) (row (blkD m c t) (j 0)) (row (blkW m c t) 0) (srow (sblk m c t)) (j 1) := by
  refine Eq.trans ?_ (pay13_at (blkD m c t) (blkX m c t) (blkR m c t) (blkW m c t) (sblk m c t) j)
  by_cases h1 : t.val < 2
  · by_cases h0 : t.val % 17 = 0
    · rw [outsAt0_A m c t h0 h1]
      frame_out
      rfl
    · rw [outsAt0_B m c t h0 h1]
      frame_out
      rfl
  · have h0 : ¬t.val % 17 = 0 := by have hN : t.val < 17 := lt_of_lt_of_eq t.isLt N_0; omega
    rw [outsAt0_C m c t h0 h1]
    frame_out
    rfl

/-- The arguments. -/
def argD : S4352x1024.Idx → EReal := m ((c : Thread nD τ).loc main_arg0)
def argX : S4352x1024.Idx → EReal := m ((c : Thread nD τ).loc main_arg1)
def argR : S4352x1024.Idx → EReal := m ((c : Thread nD τ).loc main_arg2)
def argW : S1024.Idx → EReal := m ((c : Thread nD τ).loc main_arg3)
def argM : S2x6x1024.Idx → EReal := m ((c : Thread nD τ).loc main_arg4)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![min t.val 1, 0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![min t.val 1, 0, 0] := (by decide +kernel : ∀ t : Fin grid0.N, _)
theorem idx7 : ∀ t : Fin cfg0.N, win0_7.index t = ![0, 0] := (by decide +kernel : ∀ t : Fin grid0.N, _)
theorem lt_N (t : Fin cfg0.N) : t.val < 17 := lt_of_lt_of_eq t.isLt N_0

/-- The rows of a block. -/
def place (t : Fin cfg0.N) (r : Fin 256) : Fin 4352 := ⟨t.val * 256 + r.val, by have hN := lt_N t; omega⟩
theorem rowD (t : Fin cfg0.N) (r : Fin 256) : row (blkD m c t) r = row (argD m c) (place t r) := by
  refine funext fun k => ?_
  show blkD m c t (ix2 r k) = argD m c (ix2 _ k)
  blk_point [blkD, iblk, V, idx0 t, place, argD]
theorem rowX (t : Fin cfg0.N) (r : Fin 256) : row (blkX m c t) r = row (argX m c) (place t r) := by
  refine funext fun k => ?_
  show blkX m c t (ix2 r k) = argX m c (ix2 _ k)
  blk_point [blkX, iblk, V, idx1 t, place, argX]
theorem atR (t : Fin cfg0.N) (j : S256x1024.Idx) : blkR m c t j = argR m c (ix2 (place t (j 0)) (j 1)) := by
  blk_point [blkR, iblk, V, idx2 t, place, argR]
theorem rowW (t : Fin cfg0.N) : row (blkW m c t) 0 = wrow (argW m c) := by
  refine funext fun k => ?_
  show blkW m c t (ix2 0 k) = argW m c (ix1 k)
  blk_point [blkW, iblk, V, idx3 t, argW]
theorem rowS (t : Fin cfg0.N) (r : Fin 256) : srow (sblk m c t) = scale (argM m c) (half (place t r)) := by
  refine funext fun k => ?_
  have e : (⟨min t.val 1, by omega⟩ : Fin 2) = half (place t r) := Fin.ext (by
    show min t.val 1 = min ((t.val * 256 + r.val) / 256) 1
    omega)
  rw [← e]
  refine Eq.trans (b := blkM m c t (ix3 0 1 k)) (congrArg (blkM m c t) (funext fun b => Fin.ext ?_)) ?_
  · match b with
    | ⟨0, _⟩ => show 0 + 0 * 1 = 0; omega
    | ⟨1, _⟩ => show 1 + 0 * 1 = 1; omega
    | ⟨2, _⟩ => show 0 + 1 * k.val = k.val; omega
  · show blkM m c t (ix3 0 1 k) = argM m c (ix3 _ 1 k)
    blk_point [blkM, iblk, V, idx4 t, argM]

/-- What is added is the block's part of the sums. -/
theorem addM_low (t : Fin cfg0.N) (y : S1x2x1024.Idx) (h : (y 1).val = 0) : addM m c t y = ∑ r : Fin 256, shiftTerm (argD m c) (y 2) (place t r) := by
  rw [addM, if_pos h]
  refine Finset.sum_congr rfl fun r _ => ?_
  rw [rowD]
  rfl
theorem addM_high (t : Fin cfg0.N) (y : S1x2x1024.Idx) (h : ¬(y 1).val = 0) : addM m c t y = ∑ r : Fin 256, scaleTerm (argD m c) (argX m c) (argW m c) (y 2) (place t r) := by
  rw [addM, if_neg h]
  refine Finset.sum_congr rfl fun r _ => ?_
  rw [rowD, rowX, rowW]
  rfl
theorem addW_eq (t : Fin cfg0.N) (j : S1x1024.Idx) : addW m c t j = ∑ r : Fin 256, dwTerm (argD m c) (argX m c) (argM m c) (j 1) (place t r) := by
  unfold addW
  refine Finset.sum_congr rfl fun r _ => ?_
  rw [rowD, rowX, rowS m c t r]
  rfl

/-- A first value and what is added point after point. -/
theorem fold_from (a g : (n : ℕ) → n < cfg0.N → EReal) (o : ℕ) (h0 : ∀ h, a o h = g o h)
    (hs : ∀ (n : ℕ) (h : n + 1 < cfg0.N), o ≤ n → a (n + 1) h = a n (Nat.lt_of_succ_lt h) + g (n + 1) h) :
    ∀ (k n : ℕ) (h : n < cfg0.N) (e : n = o + k), a n h = ∑ b : Fin (k + 1), g (o + b.val) (lt_of_le_of_lt (by omega) h) := by
  intro k
  induction k with
  | zero =>
    intro n h e
    obtain rfl : n = o := e
    simpa using h0 h
  | succ k ih =>
    intro n h e
    subst e
    rw [Fin.sum_univ_castSucc]
    refine (hs (o + k) h (by omega)).trans ?_
    rw [ih (o + k) (Nat.lt_of_succ_lt h) rfl]
    rfl

theorem dw_last (t : Fin cfg0.N) (ht : t.val = 16) (i j : S1x1024.Idx) (h1 : (i 1).val = (j 1).val) :
    (outsAt0 m c t.val t.isLt).2.2 j = dwArr (argD m c) (argX m c) (argM m c) i := by
  have key := fold_from (fun n h => (outsAt0 m c n h).2.2 j) (fun n h => addW m c ⟨n, h⟩ j) 0 (fun h => weight_A m c ⟨0, h⟩ rfl (Nat.succ_pos 1) j)
    (fun n h _ => weight_next m c ⟨n + 1, h⟩ (by
      have hN : n + 1 < 17 := lt_of_lt_of_eq h N_0
      show ¬(n + 1) % 17 = 0
      omega) j) 16 t.val t.isLt (by omega)
  refine key.trans ?_
  unfold dwArr
  rw [show i 1 = j 1 from Fin.ext h1, sum_blocks 17 256 rfl]
  refine Finset.sum_congr rfl fun b _ => (addW_eq m c _ j).trans (Finset.sum_congr rfl fun r _ => congrArg _ (Fin.ext ?_))
  show (0 + b.val) * 256 + r.val = 256 * b.val + r.val
  omega

/-- The first stream's sums, at point 0. -/
theorem dm_first (t : Fin cfg0.N) (ht : t.val = 0) (i : S2x2x1024.Idx) (y : S1x2x1024.Idx) (h0 : (i 0).val = 0) (h1 : (i 1).val = (y 1).val) (h2 : (i 2).val = (y 2).val) :
    (outsAt0 m c t.val t.isLt).2.1 y = dmArr (argD m c) (argX m c) (argW m c) i := by
  refine (start_A m c t (by omega) (by omega) y).trans ?_
  have e2 : i 2 = y 2 := Fin.ext h2
  unfold dmArr streamSum
  rw [if_pos h0, if_pos h0, h1, e2]
  have ep : ∀ r : Fin 256, place t r = ⟨r.val, by omega⟩ := fun r => Fin.ext (by show t.val * 256 + r.val = r.val; omega)
  by_cases h : (y 1).val = 0
  · rw [if_pos h, addM_low m c t y h]
    exact Finset.sum_congr rfl fun r _ => congrArg _ (ep r)
  · rw [if_neg h, addM_high m c t y h]
    exact Finset.sum_congr rfl fun r _ => congrArg _ (ep r)

/-- The second stream's sums, at the last point. -/
theorem dm_last (t : Fin cfg0.N) (ht : t.val = 16) (i : S2x2x1024.Idx) (y : S1x2x1024.Idx) (h0 : (i 0).val = 1) (h1 : (i 1).val = (y 1).val) (h2 : (i 2).val = (y 2).val) :
    (outsAt0 m c t.val t.isLt).2.1 y = dmArr (argD m c) (argX m c) (argW m c) i := by
  have key := fold_from (fun n h => (outsAt0 m c n h).2.1 y) (fun n h => addM m c ⟨n, h⟩ y) 1 (fun h => start_B m c ⟨1, h⟩ (by show ¬1 % 17 = 0; omega) (Nat.lt_succ_self 1) y)
    (fun n h hn => next_C m c ⟨n + 1, h⟩ (by
      have hN : n + 1 < 17 := lt_of_lt_of_eq h N_0
      show ¬(n + 1) % 17 = 0
      omega) (by show ¬n + 1 < 2; omega) y) 15 t.val t.isLt (by omega)
  refine key.trans ?_
  have e2 : i 2 = y 2 := Fin.ext h2
  unfold dmArr streamSum
  have hq : ¬(i 0).val = 0 := by omega
  rw [if_neg hq, if_neg hq, h1, e2]
  by_cases h : (y 1).val = 0
  · rw [if_pos h, sum_blocks 16 256 rfl]
    refine Finset.sum_congr rfl fun b _ => (addM_low m c _ y h).trans (Finset.sum_congr rfl fun r _ => congrArg _ (Fin.ext ?_))
    show (1 + b.val) * 256 + r.val = 256 + (256 * b.val + r.val)
    omega
  · rw [if_neg h, sum_blocks 16 256 rfl]
    refine Finset.sum_congr rfl fun b _ => (addM_high m c _ y h).trans (Finset.sum_congr rfl fun r _ => congrArg _ (Fin.ext ?_))
    show (1 + b.val) * 256 + r.val = 256 + (256 * b.val + r.val)
    omega

theorem gx_congr {x x' d d' w w' s s' : Fin 1024 → EReal} {k k' : Fin 1024} (hx : x = x') (hd : d = d') (hw : w = w') (hs : s = s') (hk : k = k') :
    gx x d w s k = gx x' d' w' s' k' := by
  rw [hx, hd, hw, hs, hk]

theorem dx_at (t : Fin cfg0.N) (i : S4352x1024.Idx) (j : S256x1024.Idx) (h0 : (i 0).val = t.val * 256 + (j 0).val) (h1 : (i 1).val = (j 1).val) :
    (outsAt0 m c t.val t.isLt).1 j = dxArr (argD m c) (argX m c) (argR m c) (argW m c) (argM m c) i := by
  have e0 : place t (j 0) = i 0 := Fin.ext h0.symm
  have e1 : j 1 = i 1 := Fin.ext h1.symm
  refine (rows_out m c t j).trans (congrArg₂ (· + ·) ((atR m c t j).trans (congrArg (argR m c) (eq_ix2 _ _ _ h0 h1).symm)) ?_)
  exact gx_congr ((rowX m c t (j 0)).trans (congrArg _ e0)) ((rowD m c t (j 0)).trans (congrArg _ e0)) (rowW m c t)
    ((rowS m c t (j 0)).trans (congrArg (fun r => scale (argM m c) (half r)) e0)) e1

theorem array5 : (dats m 0 c).arrAt 5 cfg0.N = dxArr (argD m c) (argX m c) (argR m c) (argW m c) (argM m c) := by
  refine (dats m 0 c).arrAt_eq_of_coversWhere_of_agree 5 (dxArr (argD m c) (argX m c) (argR m c) (argW m c) (argM m c)) (fun _ => True) (by decide +kernel) (fun t hf y => ?_) (fun j hj => absurd trivial hj)
  blk_simp
  rw [after0_5]
  refine dx_at m c t _ _ ?_ ?_
  · refine Eq.trans (b := win0_5.index t 0 * 256 + (y 0).val) (by blk_simp) ?_
    rw [idx5 t]
    rfl
  · refine Eq.trans (b := win0_5.index t 1 * 1024 + (y 1).val) (by blk_simp) ?_
    rw [idx5 t]
    show 0 * 1024 + (y 1).val = (y 1).val
    omega

theorem array7 : (dats m 0 c).arrAt 7 cfg0.N = dwArr (argD m c) (argX m c) (argM m c) := by
  refine (dats m 0 c).arrAt_eq_of_coversWhere_of_agree 7 (dwArr (argD m c) (argX m c) (argM m c)) (fun _ => True) (by decide +kernel) (fun t hf y => ?_) (fun j hj => absurd trivial hj)
  have ht : t.val = 16 := by have h := (flush0_7 t).mp hf; have hN := lt_N t; omega
  blk_simp
  rw [after0_7]
  refine dw_last m c t ht _ _ ?_
  refine Eq.trans (b := win0_7.index t 1 * 1024 + (y 1).val) (by blk_simp) ?_
  rw [idx7 t]
  show 0 * 1024 + (y 1).val = (y 1).val
  omega

theorem array6 : (dats m 0 c).arrAt 6 cfg0.N = dmArr (argD m c) (argX m c) (argW m c) := by
  refine (dats m 0 c).arrAt_eq_of_coversWhere_of_agree 6 (dmArr (argD m c) (argX m c) (argW m c)) (fun _ => True) (by decide +kernel) (fun t hf y => ?_) (fun j hj => absurd trivial hj)
  have ht := (flush0_6 t).mp hf
  have hN := lt_N t
  have y0 : (y 0).val < 1 := (y 0).isLt
  blk_simp
  rw [after0_6]
  by_cases h : t.val = 0
  · refine dm_first m c t h _ _ ?_ ?_ ?_
    · refine Eq.trans (b := win0_6.index t 0 * 1 + (y 0).val) (by blk_simp) ?_
      rw [idx6 t]
      show min t.val 1 * 1 + (y 0).val = 0
      omega
    · refine Eq.trans (b := win0_6.index t 1 * 2 + (y 1).val) (by blk_simp) ?_
      rw [idx6 t]
      show 0 * 2 + (y 1).val = (y 1).val
      omega
    · refine Eq.trans (b := win0_6.index t 2 * 1024 + (y 2).val) (by blk_simp) ?_
      rw [idx6 t]
      show 0 * 1024 + (y 2).val = (y 2).val
      omega
  · refine dm_last m c t (by omega) _ _ ?_ ?_ ?_
    · refine Eq.trans (b := win0_6.index t 0 * 1 + (y 0).val) (by blk_simp) ?_
      rw [idx6 t]
      show min t.val 1 * 1 + (y 0).val = 1
      omega
    · refine Eq.trans (b := win0_6.index t 1 * 2 + (y 1).val) (by blk_simp) ?_
      rw [idx6 t]
      show 0 * 2 + (y 1).val = (y 1).val
      omega
    · refine Eq.trans (b := win0_6.index t 2 * 1024 + (y 2).val) (by blk_simp) ?_
      rw [idx6 t]
      show 0 * 1024 + (y 2).val = (y 2).val
      omega

end Cert.KernelNormBwdIdeal.Block

end
-- ==== Proof.Backward.NormBwdRead.lean ====
/-
  The reference's backward pass of the norm and modulation, read off its operations: the chain rule's arrangement of the kernel's.
-/
module

public import proofs.«01_k».proof.Proof.Backward.NormBwdEntry
public import proofs.«01_k».proof.Proof.Gen.ReferenceNormBwdIdeal.Read

@[expose] public section

noncomputable section

namespace Cert.ReferenceNormBwdIdeal.Block

open Cert.ReferenceNormBwdIdeal Cert.ReferenceNormBwdIdeal.Gen Cert.ReferenceNormBwdIdeal.Read Idealize.ShloMosaic Idealize.ShloMosaic.StableHlo Cert.Products Cert.Forward Cert.Backward
open Cert.KernelLossIdeal.Block (row wrow)
open Cert.KernelNormBwdIdeal.Block (scale dxArr shiftTerm scaleTerm dmArr dwTerm dwArr)

variable (x0 x1 x2 : S4352x1024.Idx → EReal) (x3 : S1024.Idx → EReal) (x4 : S2x6x1024.Idx → EReal)

theorem v6_at (i : S4352x1.Idx) : val_main_v6 (F := Ideal) x1 i = meanSq (row x1 (i 0)) := by
  pointwise [val_main_v6_apply, val_main_v5_apply, val_main_v4_apply, val_main_v3_apply, val_main_v2_apply, val_main_v1_apply, val_main_v0_apply,
    val_main_cst_apply, val_main_cst_0_apply, val_main_cst_1_apply]
  have e : ∀ k : Fin 1024, x1 (idx_main_v1 (idx_main_v2 i) k) = row x1 (i 0) k := fun k => congrArg x1 (eq_ix2 _ (i 0) k rfl rfl)
  simp only [e]
  rfl

theorem v7_at (i : S4352x1.Idx) : val_main_v7 (F := Ideal) x1 i = root (row x1 (i 0)) := by
  pointwise [val_main_v7_apply]
  rw [v6_at]
  rfl

theorem v10_at (i : S4352x1.Idx) : val_main_v10 (F := Ideal) x1 i
    = Ideal.ofBits .f32 0xBF000000#32 * Ideal.div (root (row x1 (i 0))) (meanSq (row x1 (i 0))) := by
  refine (val_main_v10_apply (F := Ideal) x1 i).trans (congrArg₂ (· * ·) ?_ ?_)
  · rfl
  · refine (val_main_v8_apply (F := Ideal) x1 i).trans ?_
    rw [v7_at, v6_at]
    rfl

theorem v12_at (i : S4352x1024.Idx) : val_main_v12 (F := Ideal) x1 i = xh (row x1 (i 0)) (i 1) := by
  pointwise [val_main_v12_apply, val_main_v11_apply]
  rw [v7_at]
  exact congrArg (· * _) (congrArg x1 (eq_ix2 i (i 0) (i 1) rfl rfl))

theorem w_at (i : S4352x1024.Idx) : val_main_v14 (F := Ideal) x3 i = wrow x3 (i 1) := by
  pointwise [val_main_v14_apply, val_main_v13_apply]
  exact congrArg x3 (eq_ix1 _)
theorem w'_at (i : S4352x1024.Idx) : val_main_v80 (F := Ideal) x3 i = wrow x3 (i 1) := by
  pointwise [val_main_v80_apply, val_main_v13_apply]
  exact congrArg x3 (eq_ix1 _)

theorem v15_at (i : S4352x1024.Idx) : val_main_v15 (F := Ideal) x1 x3 i = xh (row x1 (i 0)) (i 1) * wrow x3 (i 1) := by
  pointwise [val_main_v15_apply]
  rw [v12_at, w_at]

/-- The products a stream's scale sums. -/
theorem v63_at (r : Fin 256) (k : Fin 1024) : val_main_v63 (F := Ideal) x0 x1 x3 (ix2 r k) = scaleTerm x0 x1 x3 k ⟨r.val, by omega⟩ := by
  pointwise [val_main_v63_apply, val_main_v16_apply, val_main_v43_apply]
  rw [v15_at]
  refine (mul_comm _ _).trans ?_
  rw [show idx_main_v43 (ix2 r k) = ix2 ⟨r.val, by omega⟩ k from eq_ix2 _ _ _ rfl rfl]
  rfl
theorem v48_at (s : Fin 4096) (k : Fin 1024) : val_main_v48 (F := Ideal) x0 x1 x3 (ix2 s k) = scaleTerm x0 x1 x3 k ⟨256 + s.val, by omega⟩ := by
  pointwise [val_main_v48_apply, val_main_v29_apply, val_main_v44_apply]
  rw [v15_at]
  refine (mul_comm _ _).trans ?_
  rw [show idx_main_v44 (ix2 s k) = ix2 ⟨256 + s.val, by omega⟩ k from eq_ix2 _ _ _ rfl rfl]
  rfl

/-- The four sums. -/
theorem v53_at (k : Fin 1024) : val_main_v53 (F := Ideal) x0 x1 x3 (ix1 k) = streamSum 1 (scaleTerm x0 x1 x3 k) := by
  pointwise [val_main_v53_apply, val_main_v50_apply, val_main_v49_apply, val_main_cst_7_apply, val_main_cst_8_apply]
  rw [Fin.sum_univ_one, streamSum, if_neg (by decide)]
  refine Finset.sum_congr rfl fun s _ => ?_
  rw [← v48_at]
  exact congrArg _ (eq_ix2 _ s k rfl (by show 0 * 1024 + k.val = k.val; omega))
theorem v47_at (k : Fin 1024) : val_main_v47 (F := Ideal) x0 (ix1 k) = streamSum 1 (shiftTerm x0 k) := by
  pointwise [val_main_v47_apply, val_main_v46_apply, val_main_v45_apply, val_main_v44_apply, val_main_cst_5_apply, val_main_cst_6_apply]
  rw [Fin.sum_univ_one, streamSum, if_neg (by decide)]
  refine Finset.sum_congr rfl fun s _ => ?_
  exact congrArg x0 (eq_ix2 _ ⟨256 + s.val, by omega⟩ k rfl (by show 0 * 1024 + k.val = k.val; omega))
theorem v68_at (k : Fin 1024) : val_main_v68 (F := Ideal) x0 x1 x3 (ix1 k) = streamSum 0 (scaleTerm x0 x1 x3 k) := by
  pointwise [val_main_v68_apply, val_main_v65_apply, val_main_v64_apply, val_main_cst_14_apply, val_main_cst_15_apply]
  rw [Fin.sum_univ_one, streamSum, if_pos (by decide)]
  refine Finset.sum_congr rfl fun s _ => ?_
  rw [← v63_at]
  exact congrArg _ (eq_ix2 _ s k rfl (by show 0 * 1024 + k.val = k.val; omega))
theorem v62_at (k : Fin 1024) : val_main_v62 (F := Ideal) x0 (ix1 k) = streamSum 0 (shiftTerm x0 k) := by
  pointwise [val_main_v62_apply, val_main_v61_apply, val_main_v60_apply, val_main_v43_apply, val_main_cst_12_apply, val_main_cst_13_apply]
  rw [Fin.sum_univ_one, streamSum, if_pos (by decide)]
  refine Finset.sum_congr rfl fun s _ => ?_
  exact congrArg x0 (eq_ix2 _ ⟨s.val, by omega⟩ k rfl (by show 0 * 1024 + k.val = k.val; omega))

/-- Each sum in its place among the six rows of both streams. -/
theorem v55_at (i : S2x6x1024.Idx) : val_main_v55 (F := Ideal) x0 x1 x3 i = if (i 0).val = 1 ∧ (i 1).val = 1 then streamSum 1 (scaleTerm x0 x1 x3 (i 2)) else 0 := by
  unfold val_main_v55
  by_cases h : (i 0).val = 1 ∧ (i 1).val = 1
  · rw [if_pos h]
    refine (pad_apply_of_inside _ _ _ _ _ _ _ i (ix3 0 0 (i 2)) (fun a => ?_)).trans ?_
    · match a with
      | ⟨0, _⟩ => show (i 0).val = 1 + 0 * 1; omega
      | ⟨1, _⟩ => show (i 1).val = 1 + 0 * 1; omega
      | ⟨2, _⟩ => show (i 2).val = 0 + (i 2).val * 1; omega
    · exact (val_main_v54_apply (F := Ideal) x0 x1 x3 _).trans ((congrArg (val_main_v53 (F := Ideal) x0 x1 x3) (eq_ix1 _)).trans (v53_at x0 x1 x3 (i 2)))
  · rw [if_neg h]
    by_cases h0 : (i 0).val = 1
    · refine (pad_apply_of_not_inside _ _ _ _ _ _ _ i ⟨1, by decide⟩ (fun g => h ⟨h0, ?_⟩)).trans ?_
      · have g1 : 1 ≤ (i 1).val := g.1
        have g2 : ((i 1).val - 1) / 1 < 1 := g.2.2
        omega
      · pointwise [val_main_cst_9_apply]
    · refine (pad_apply_of_not_inside _ _ _ _ _ _ _ i ⟨0, by decide⟩ (fun g => h0 ?_)).trans ?_
      · have g1 : 1 ≤ (i 0).val := g.1
        have g2 : ((i 0).val - 1) / 1 < 1 := g.2.2
        omega
      · pointwise [val_main_cst_9_apply]
theorem v57_at (i : S2x6x1024.Idx) : val_main_v57 (F := Ideal) x0 i = if (i 0).val = 1 ∧ (i 1).val = 0 then streamSum 1 (shiftTerm x0 (i 2)) else 0 := by
  unfold val_main_v57
  by_cases h : (i 0).val = 1 ∧ (i 1).val = 0
  · rw [if_pos h]
    refine (pad_apply_of_inside _ _ _ _ _ _ _ i (ix3 0 0 (i 2)) (fun a => ?_)).trans ?_
    · match a with
      | ⟨0, _⟩ => show (i 0).val = 1 + 0 * 1; omega
      | ⟨1, _⟩ => show (i 1).val = 0 + 0 * 1; omega
      | ⟨2, _⟩ => show (i 2).val = 0 + (i 2).val * 1; omega
    · exact (val_main_v56_apply (F := Ideal) x0 _).trans ((congrArg (val_main_v47 (F := Ideal) x0) (eq_ix1 _)).trans (v47_at x0 (i 2)))
  · rw [if_neg h]
    by_cases h0 : (i 0).val = 1
    · refine (pad_apply_of_not_inside _ _ _ _ _ _ _ i ⟨1, by decide⟩ (fun g => h ⟨h0, ?_⟩)).trans ?_
      · have g1 : 0 ≤ (i 1).val := g.1
        have g2 : ((i 1).val - 0) / 1 < 1 := g.2.2
        omega
      · pointwise [val_main_cst_10_apply]
    · refine (pad_apply_of_not_inside _ _ _ _ _ _ _ i ⟨0, by decide⟩ (fun g => h0 ?_)).trans ?_
      · have g1 : 1 ≤ (i 0).val := g.1
        have g2 : ((i 0).val - 1) / 1 < 1 := g.2.2
        omega
      · pointwise [val_main_cst_10_apply]
theorem v70_at (i : S2x6x1024.Idx) : val_main_v70 (F := Ideal) x0 x1 x3 i = if (i 0).val = 0 ∧ (i 1).val = 1 then streamSum 0 (scaleTerm x0 x1 x3 (i 2)) else 0 := by
  unfold val_main_v70
  by_cases h : (i 0).val = 0 ∧ (i 1).val = 1
  · rw [if_pos h]
    refine (pad_apply_of_inside _ _ _ _ _ _ _ i (ix3 0 0 (i 2)) (fun a => ?_)).trans ?_
    · match a with
      | ⟨0, _⟩ => show (i 0).val = 0 + 0 * 1; omega
      | ⟨1, _⟩ => show (i 1).val = 1 + 0 * 1; omega
      | ⟨2, _⟩ => show (i 2).val = 0 + (i 2).val * 1; omega
    · exact (val_main_v69_apply (F := Ideal) x0 x1 x3 _).trans ((congrArg (val_main_v68 (F := Ideal) x0 x1 x3) (eq_ix1 _)).trans (v68_at x0 x1 x3 (i 2)))
  · rw [if_neg h]
    by_cases h0 : (i 0).val = 0
    · refine (pad_apply_of_not_inside _ _ _ _ _ _ _ i ⟨1, by decide⟩ (fun g => h ⟨h0, ?_⟩)).trans ?_
      · have g1 : 1 ≤ (i 1).val := g.1
        have g2 : ((i 1).val - 1) / 1 < 1 := g.2.2
        omega
      · pointwise [val_main_cst_16_apply]
    · refine (pad_apply_of_not_inside _ _ _ _ _ _ _ i ⟨0, by decide⟩ (fun g => h0 ?_)).trans ?_
      · have g1 : 0 ≤ (i 0).val := g.1
        have g2 : ((i 0).val - 0) / 1 < 1 := g.2.2
        omega
      · pointwise [val_main_cst_16_apply]
theorem v73_at (i : S2x6x1024.Idx) : val_main_v73 (F := Ideal) x0 i = if (i 0).val = 0 ∧ (i 1).val = 0 then streamSum 0 (shiftTerm x0 (i 2)) else 0 := by
  unfold val_main_v73
  by_cases h : (i 0).val = 0 ∧ (i 1).val = 0
  · rw [if_pos h]
    refine (pad_apply_of_inside _ _ _ _ _ _ _ i (ix3 0 0 (i 2)) (fun a => ?_)).trans ?_
    · match a with
      | ⟨0, _⟩ => show (i 0).val = 0 + 0 * 1; omega
      | ⟨1, _⟩ => show (i 1).val = 0 + 0 * 1; omega
      | ⟨2, _⟩ => show (i 2).val = 0 + (i 2).val * 1; omega
    · exact (val_main_v72_apply (F := Ideal) x0 _).trans ((congrArg (val_main_v62 (F := Ideal) x0) (eq_ix1 _)).trans (v62_at x0 (i 2)))
  · rw [if_neg h]
    by_cases h0 : (i 0).val = 0
    · refine (pad_apply_of_not_inside _ _ _ _ _ _ _ i ⟨1, by decide⟩ (fun g => h ⟨h0, ?_⟩)).trans ?_
      · have g1 : 0 ≤ (i 1).val := g.1
        have g2 : ((i 1).val - 0) / 1 < 1 := g.2.2
        omega
      · pointwise [val_main_cst_17_apply]
    · refine (pad_apply_of_not_inside _ _ _ _ _ _ _ i ⟨0, by decide⟩ (fun g => h0 ?_)).trans ?_
      · have g1 : 0 ≤ (i 0).val := g.1
        have g2 : ((i 0).val - 0) / 1 < 1 := g.2.2
        omega
      · pointwise [val_main_cst_17_apply]

theorem read98 : val_main_v98 (F := Ideal) x0 x1 x3 = dmArr x0 x1 x3 := by
  refine funext fun (i : S2x2x1024.Idx) => ?_
  pointwise [val_main_v98_apply, val_main_v74_apply, val_main_v71_apply, val_main_v58_apply]
  rw [v55_at, v57_at, v70_at, v73_at]
  have e0 : (idx_main_v98 i 0).val = (i 0).val := rfl
  have e1 : (idx_main_v98 i 1).val = (i 1).val := rfl
  have e2 : idx_main_v98 i 2 = i 2 := rfl
  rw [e0, e1, e2]
  unfold dmArr
  have h0 : (i 0).val < 2 := (i 0).isLt
  have h1 : (i 1).val < 2 := (i 1).isLt
  rcases Nat.lt_or_ge (i 0).val 1 with q | q
  · have hq : i 0 = (0 : Fin 2) := Fin.ext (by show (i 0).val = 0; omega)
    rcases Nat.lt_or_ge (i 1).val 1 with a | a
    · have ha : i 1 = (0 : Fin 2) := Fin.ext (by show (i 1).val = 0; omega)
      simp [hq, ha]
    · have ha : i 1 = (1 : Fin 2) := Fin.ext (by show (i 1).val = 1; omega)
      simp [hq, ha]
  · have hq : i 0 = (1 : Fin 2) := Fin.ext (by show (i 0).val = 1; omega)
    rcases Nat.lt_or_ge (i 1).val 1 with a | a
    · have ha : i 1 = (0 : Fin 2) := Fin.ext (by show (i 1).val = 0; omega)
      simp [hq, ha]
    · have ha : i 1 = (1 : Fin 2) := Fin.ext (by show (i 1).val = 1; omega)
      simp [hq, ha]

/-- The gradient of a normed row, by streams. -/
theorem v67_at (r : Fin 256) (k : Fin 1024) (i : S4352x1024.Idx) (hr : (i 0).val = r.val) (hk : i 1 = k) :
    val_main_v67 (F := Ideal) x0 x4 (ix2 r k) = gy (row x0 (i 0)) (scale x4 (half (i 0))) (i 1) := by
  subst hk
  pointwise [val_main_v67_apply, val_main_v66_apply, val_main_v43_apply, val_main_v23_apply, val_main_v22_apply, val_main_v21_apply, val_main_v20_apply, val_main_v19_apply, val_main_cst_3_apply]
  unfold gy
  refine congrArg₂ (· * ·) (congrArg x0 (eq_ix2 _ (i 0) (i 1) hr.symm rfl)) (congrArg (_ + ·) (congrArg x4 (eq_ix3 _ (half (i 0)) 1 (i 1) ?_ ?_ ?_)))
  · show 0 = min ((i 0).val / 256) 1
    omega
  · rfl
  · exact Nat.mod_eq_of_lt (i 1).isLt
theorem v52_at (s : Fin 4096) (k : Fin 1024) (i : S4352x1024.Idx) (hs : (i 0).val = 256 + s.val) (hk : i 1 = k) :
    val_main_v52 (F := Ideal) x0 x4 (ix2 s k) = gy (row x0 (i 0)) (scale x4 (half (i 0))) (i 1) := by
  subst hk
  pointwise [val_main_v52_apply, val_main_v51_apply, val_main_v44_apply, val_main_v36_apply, val_main_v35_apply, val_main_v34_apply, val_main_v33_apply, val_main_v32_apply, val_main_cst_4_apply]
  unfold gy
  refine congrArg₂ (· * ·) (congrArg x0 (eq_ix2 _ (i 0) (i 1) hs.symm rfl)) (congrArg (_ + ·) (congrArg x4 (eq_ix3 _ (half (i 0)) 1 (i 1) ?_ ?_ ?_)))
  · show 1 = min ((i 0).val / 256) 1
    omega
  · rfl
  · exact Nat.mod_eq_of_lt (i 1).isLt

theorem v76_at (i : S4352x1024.Idx) : val_main_v76 (F := Ideal) x0 x4 i = gy (row x0 (i 0)) (scale x4 (half (i 0))) (i 1) := by
  have hi0 : (i 0).val < 4352 := (i 0).isLt
  refine (val_main_v76_apply (F := Ideal) x0 x4 i).trans ?_
  show val_main_v59 (F := Ideal) x0 x4 i + val_main_v75 (F := Ideal) x0 x4 i = _
  unfold val_main_v59 val_main_v75
  by_cases hi : (i 0).val < 256
  · refine Eq.trans (congrArg₂ (· + ·) (show _ = (0 : EReal) from ?_) ?_) (zero_add _)
    · refine (pad_apply_of_not_inside _ _ _ _ _ _ _ i ⟨0, by decide⟩ (fun g => ?_)).trans ?_
      · have g1 : 256 ≤ (i 0).val := g.1
        omega
      · pointwise [val_main_cst_11_apply]
    refine (pad_apply_of_inside _ _ _ _ _ _ _ i (ix2 ⟨(i 0).val, hi⟩ (i 1)) (fun a => ?_)).trans ?_
    · match a with
      | ⟨0, _⟩ => show (i 0).val = 0 + (i 0).val * 1; omega
      | ⟨1, _⟩ => show (i 1).val = 0 + (i 1).val * 1; omega
    · exact v67_at x0 x4 _ _ i rfl rfl
  · refine Eq.trans (congrArg₂ (· + ·) ?_ (show _ = (0 : EReal) from ?_)) (add_zero _)
    · refine (pad_apply_of_inside _ _ _ _ _ _ _ i (ix2 ⟨(i 0).val - 256, by omega⟩ (i 1)) (fun a => ?_)).trans ?_
      · match a with
        | ⟨0, _⟩ => show (i 0).val = 256 + ((i 0).val - 256) * 1; omega
        | ⟨1, _⟩ => show (i 1).val = 0 + (i 1).val * 1; omega
      · exact v52_at x0 x4 _ _ i (by show (i 0).val = 256 + ((i 0).val - 256); omega) rfl
    · refine (pad_apply_of_not_inside _ _ _ _ _ _ _ i ⟨0, by decide⟩ (fun g => ?_)).trans ?_
      · have g2 : ((i 0).val - 0) / 1 < 256 := g.2.2
        omega
      · pointwise [val_main_cst_18_apply]

theorem read99 : val_main_v99 (F := Ideal) x0 x1 x4 = dwArr x0 x1 x4 := by
  refine funext fun (i : S1x1024.Idx) => ?_
  pointwise [val_main_v99_apply, val_main_v82_apply, val_main_v79_apply, val_main_v78_apply, val_main_v77_apply, val_main_cst_19_apply, val_main_cst_20_apply]
  simp only [v12_at, v76_at]
  rw [Fin.sum_univ_one]
  refine Finset.sum_congr rfl fun s _ => (mul_comm _ _).trans ?_
  rw [show idx_main_v78 (idx_main_v79 (idx_main_v82 (idx_main_v99 i) 0)) s = ix2 s (i 1) from
    eq_ix2 _ s (i 1) rfl (by show 0 * 1024 + (i 1).val = (i 1).val; omega)]
  rfl

/-- The gradient of a normed row before its weight, and the derivative through the mean square. -/
def gw (r : Fin 4352) (l : Fin 1024) : EReal := gy (row x0 r) (scale x4 (half r)) l * wrow x3 l

theorem v81_at (i : S4352x1024.Idx) : val_main_v81 (F := Ideal) x0 x3 x4 i = gw x0 x3 x4 (i 0) (i 1) := by
  pointwise [val_main_v81_apply]
  rw [v76_at, w'_at]
  rfl

theorem v85_at (i : S4352x1.Idx) : val_main_v85 (F := Ideal) x0 x1 x3 x4 i = ∑ l, row x1 (i 0) l * gw x0 x3 x4 (i 0) l := by
  refine (val_main_v85_apply (F := Ideal) x0 x1 x3 x4 i).trans ?_
  rw [show idx_main_v85 i = ix1 (i 0) from (eq_ix1 _).trans (congrArg ix1 (Fin.ext (by
    show (i 0).val * 1 + (i 1).val = (i 0).val
    have h1 : (i 1).val < 1 := (i 1).isLt
    omega)))]
  pointwise [val_main_v84_apply, val_main_v83_apply, val_main_cst_21_apply]
  simp only [v81_at]
  refine Finset.sum_congr rfl fun l _ => ?_
  rw [show idx_main_v84 (ix1 (i 0)) l = ix2 (i 0) l from eq_ix2 _ _ _ rfl rfl]
  rfl

theorem v92_at (i : S4352x1024.Idx) : val_main_v92 (F := Ideal) x0 x1 x3 x4 i = through (row x1 (i 0)) (gw x0 x3 x4 (i 0)) := by
  pointwise [val_main_v92_apply, val_main_v91_apply, val_main_v90_apply, val_main_v89_apply, val_main_v88_apply,
    val_main_cst_22_apply, val_main_cst_23_apply]
  simp only [v10_at, v85_at]
  rw [Fin.sum_univ_one]
  rfl

theorem read97 : val_main_v97 (F := Ideal) x0 x1 x2 x3 x4 = dxArr x0 x1 x2 x3 x4 := by
  refine funext fun (i : S4352x1024.Idx) => ?_
  refine (val_main_v97_apply (F := Ideal) x0 x1 x2 x3 x4 i).trans (congrArg (x2 i + ·) ?_)
  refine Eq.trans ?_ (norm_deriv (row x1 (i 0)) (gw x0 x3 x4 (i 0)) (i 1)).symm
  pointwise [val_main_v96_apply, val_main_v95_apply, val_main_v94_apply, val_main_v93_apply, val_main_v87_apply, val_main_v86_apply]
  rw [v92_at, v81_at, v7_at, show x1 i = row x1 (i 0) (i 1) from congrArg x1 (eq_ix2 i (i 0) (i 1) rfl rfl)]
  rfl

end Cert.ReferenceNormBwdIdeal.Block

end
-- ==== Proof.lean ====
module

public import proofs.«01_k».proof.Defs
public import proofs.«01_k».proof.Proof.Gen.Kernel.Frame
public import proofs.«01_k».proof.Proof.Gen.KernelDwIn.Frame
public import proofs.«01_k».proof.Proof.Gen.KernelDhIn.Frame
public import proofs.«01_k».proof.Proof.Gen.KernelDwSquare.Frame
public import proofs.«01_k».proof.Proof.Gen.KernelDwUp.Frame
public import proofs.«01_k».proof.Proof.Gen.KernelDhUp.Frame
public import proofs.«01_k».proof.Proof.Gen.KernelDwDown.Frame
public import proofs.«01_k».proof.Proof.Gen.KernelInProj.Frame
public import proofs.«01_k».proof.Proof.Gen.KernelUpProj.Frame
public import proofs.«01_k».proof.Proof.Gen.KernelFfnOutFwd.Frame
public import proofs.«01_k».proof.Proof.Gen.KernelAdamAda.Frame
public import proofs.«01_k».proof.Proof.Gen.KernelAdamIn.Frame
public import proofs.«01_k».proof.Proof.Gen.KernelAdamSquare.Frame
public import proofs.«01_k».proof.Proof.Gen.KernelAdamUp.Frame
public import proofs.«01_k».proof.Proof.Gen.KernelAdamDown.Frame
public import proofs.«01_k».proof.Proof.Gen.KernelAdamPacked.Frame
public import proofs.«01_k».proof.Proof.Gen.KernelNormMod.Frame
public import proofs.«01_k».proof.Proof.Gen.KernelDwAda.Frame
public import proofs.«01_k».proof.Proof.Gen.KernelLoss.Frame
public import proofs.«01_k».proof.Proof.Gen.KernelMod.Frame
public import proofs.«01_k».proof.Proof.Gen.KernelCvecBwd.Frame
public import proofs.«01_k».proof.Proof.Sgu.Match
public import proofs.«01_k».proof.Proof.Products.DwIn
public import proofs.«01_k».proof.Proof.Products.DhIn
public import proofs.«01_k».proof.Proof.Products.DwSquare
public import proofs.«01_k».proof.Proof.Products.DwUp
public import proofs.«01_k».proof.Proof.Products.DhUp
public import proofs.«01_k».proof.Proof.Products.DwDown
public import proofs.«01_k».proof.Proof.Products.InProj
public import proofs.«01_k».proof.Proof.Products.UpProj
public import proofs.«01_k».proof.Proof.Forward.FfnOutFwd
public import proofs.«01_k».proof.Proof.Adam.Ada
public import proofs.«01_k».proof.Proof.Adam.In
public import proofs.«01_k».proof.Proof.Adam.Square
public import proofs.«01_k».proof.Proof.Adam.Up
public import proofs.«01_k».proof.Proof.Adam.Down
public import proofs.«01_k».proof.Proof.Adam.Packed
public import proofs.«01_k».proof.Proof.Forward.NormMod
public import proofs.«01_k».proof.Proof.Backward.DwAda
public import proofs.«01_k».proof.Proof.Backward.LossRead
public import proofs.«01_k».proof.Proof.Forward.Modulation
public import proofs.«01_k».proof.Proof.Backward.CvecBwd
public import proofs.«01_k».proof.Proof.NormFrame.Bits.Frame
public import proofs.«01_k».proof.Proof.NormFrame.Ideal.Value
public import proofs.«01_k».proof.Proof.Backward.NormBwd
public import proofs.«01_k».proof.Proof.Backward.NormBwdRead
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.TcCoe

attribute [local instance] Kernel.Gen.facts KernelIdeal.Gen.facts ReferenceIdeal.Gen.facts Cert.Pre_finite.Gen.facts
attribute [local instance] KernelDwIn.Gen.facts KernelDwInIdeal.Gen.facts ReferenceDwInIdeal.Gen.facts
attribute [local instance] KernelDhIn.Gen.facts KernelDhInIdeal.Gen.facts ReferenceDhInIdeal.Gen.facts
attribute [local instance] KernelDwSquare.Gen.facts KernelDwSquareIdeal.Gen.facts ReferenceDwSquareIdeal.Gen.facts
attribute [local instance] KernelDwUp.Gen.facts KernelDwUpIdeal.Gen.facts ReferenceDwUpIdeal.Gen.facts
attribute [local instance] KernelDhUp.Gen.facts KernelDhUpIdeal.Gen.facts ReferenceDhUpIdeal.Gen.facts
attribute [local instance] KernelDwDown.Gen.facts KernelDwDownIdeal.Gen.facts ReferenceDwDownIdeal.Gen.facts
attribute [local instance] KernelInProj.Gen.facts KernelInProjIdeal.Gen.facts ReferenceInProjIdeal.Gen.facts
attribute [local instance] KernelUpProj.Gen.facts KernelUpProjIdeal.Gen.facts ReferenceUpProjIdeal.Gen.facts
attribute [local instance] KernelFfnOutFwd.Gen.facts KernelFfnOutFwdIdeal.Gen.facts ReferenceFfnOutFwdIdeal.Gen.facts
attribute [local instance] KernelAdamAda.Gen.facts KernelAdamAdaIdeal.Gen.facts ReferenceAdamAdaIdeal.Gen.facts
attribute [local instance] KernelAdamIn.Gen.facts KernelAdamInIdeal.Gen.facts ReferenceAdamInIdeal.Gen.facts
attribute [local instance] KernelAdamSquare.Gen.facts KernelAdamSquareIdeal.Gen.facts ReferenceAdamSquareIdeal.Gen.facts
attribute [local instance] KernelAdamUp.Gen.facts KernelAdamUpIdeal.Gen.facts ReferenceAdamUpIdeal.Gen.facts
attribute [local instance] KernelAdamDown.Gen.facts KernelAdamDownIdeal.Gen.facts ReferenceAdamDownIdeal.Gen.facts
attribute [local instance] KernelAdamPacked.Gen.facts KernelAdamPackedIdeal.Gen.facts ReferenceAdamPackedIdeal.Gen.facts
attribute [local instance] KernelNormMod.Gen.facts KernelNormModIdeal.Gen.facts ReferenceNormModIdeal.Gen.facts
attribute [local instance] KernelDwAda.Gen.facts KernelDwAdaIdeal.Gen.facts ReferenceDwAdaIdeal.Gen.facts
attribute [local instance] KernelLoss.Gen.facts KernelLossIdeal.Gen.facts ReferenceLossIdeal.Gen.facts
attribute [local instance] KernelMod.Gen.facts KernelModIdeal.Gen.facts ReferenceModIdeal.Gen.facts
attribute [local instance] KernelCvecBwd.Gen.facts KernelCvecBwdIdeal.Gen.facts ReferenceCvecBwdIdeal.Gen.facts Cert.Pre_finite_cvec.Gen.facts
attribute [local instance] KernelNormBwd.Gen.facts KernelNormBwdIdeal.Gen.facts ReferenceNormBwdIdeal.Gen.facts

/-- The kernel leaves its arguments and ends quiescent. -/
theorem frame_p : Cert.quiescent_Kernel := fun m ρ _ => Kernel.Gen.frame m ρ

/-- So does its ideal form. -/
theorem frame_pi : Cert.quiescent_KernelIdeal := fun m ρ _ => KernelIdeal.Gen.frame m ρ

/-- So does its ideal form on finite arguments. -/
theorem frame_pi_pre : Cert.quiescent_KernelIdeal_pre_finite := fun m ρ _ => KernelIdeal.Gen.frame m ρ

/-- So does the reference. -/
theorem frame_ri : Cert.quiescent_ReferenceIdeal := fun m ρ _ =>
  (θ_run ReferenceIdeal.defs _ _).mono
    (fun r h => ⟨fun c => (h c).2.2.2.2.2, Idealize.ShloMosaic.sem_eq_zero_of_no_sems (by decide) r.2⟩)
    (ReferenceIdeal.Value.run (F := Ideal) m ρ)

/-- So does the reference on finite arguments. -/
theorem frame_ri_pre : Cert.quiescent_ReferenceIdeal_pre_finite := fun m ρ _ => frame_ri m ρ trivial

/-- The one named constant. -/
theorem preserves : Cert.preserves_Kernel_KernelIdeal :=
  IdealRules.named_const.statement KernelIdeal.κ "gelu_3ca" .f32 0x3DDB33B6#32 ((241015141496493 / 2251799813685248 : ℝ) : EReal) rfl

/-- The kernel's five results are the reference's. -/
theorem algebraic : Cert.algebraic_KernelIdeal_ReferenceIdeal_pre_finite := by
  intro m ρ m' ρ' pre agree
  refine ⟨_, _,
    _, _,
    _, KernelIdeal.Value.run_blocks m ρ, ?_⟩
  refine (θ_run ReferenceIdeal.defs _ _).mono (fun r h c => ?_) (ReferenceIdeal.Value.run (F := Ideal) m' ρ')
  obtain ⟨a0, a1, a2, a3, a4, a5, a6⟩ := agree c
  have H := KernelIdeal.Block.real_args (pre c)
  obtain ⟨h0, h1, h2, h3, h4, hargs⟩ := h c
  refine ⟨h0.trans ?_, h1.trans ?_, h2.trans ?_, h3.trans ?_, h4.trans ?_, hargs⟩
  · refine (ReferenceIdeal.Read.val_main_v165_eq (Idealize.ShloMosaic.StableHlo.launchContents m' c)).trans (Eq.trans ?_ (KernelIdeal.Block.match7 H))
    rw [← a0, ← a1, ← a2, ← a3, ← a4, ← a5, ← a6]
  · refine (ReferenceIdeal.Read.val_main_v96_eq (Idealize.ShloMosaic.StableHlo.launchContents m' c)).trans (Eq.trans ?_ (KernelIdeal.Block.match8 H))
    rw [← a0, ← a1, ← a2, ← a3]
  · refine (ReferenceIdeal.Read.val_main_v166_eq (Idealize.ShloMosaic.StableHlo.launchContents m' c)).trans (Eq.trans ?_ (KernelIdeal.Block.match9 H))
    rw [← a0, ← a1]
  · refine (ReferenceIdeal.Read.val_main_v167_eq (Idealize.ShloMosaic.StableHlo.launchContents m' c)).trans (Eq.trans ?_ (KernelIdeal.Block.match10 H))
    rw [← a0, ← a1, ← a4]
  · refine (ReferenceIdeal.Read.val_main_v168_eq (Idealize.ShloMosaic.StableHlo.launchContents m' c)).trans (Eq.trans ?_ (KernelIdeal.Block.match11 H))
    rw [← a0, ← a1, ← a4]

/-- The frames of the program of the input projection's weight gradient, of its ideal form and of its reference. -/
theorem frame_dwIn : Cert.quiescent_KernelDwIn := fun m ρ _ => KernelDwIn.Gen.frame m ρ

theorem frame_dwIn_ideal : Cert.quiescent_KernelDwInIdeal := fun m ρ _ => KernelDwInIdeal.Gen.frame m ρ

theorem frame_dwIn_reference : Cert.quiescent_ReferenceDwInIdeal := fun m ρ _ =>
  (θ_run ReferenceDwInIdeal.defs _ _).mono
    (fun r h => ⟨fun c => (h c).2, Idealize.ShloMosaic.sem_eq_zero_of_no_sems (by decide) r.2⟩)
    (ReferenceDwInIdeal.Value.run (F := Ideal) m ρ)

/-- Its result is the reference's derivative. -/
theorem algebraic_dwIn : Cert.algebraic_KernelDwInIdeal_ReferenceDwInIdeal := by
  intro m ρ m' ρ' _ agree
  refine ⟨_, KernelDwInIdeal.Value.run_blocks m ρ, ?_⟩
  refine (θ_run ReferenceDwInIdeal.defs _ _).mono (fun r h c => ⟨(h c).1.trans ?_, (h c).2⟩) (ReferenceDwInIdeal.Value.run (F := Ideal) m' ρ')
  obtain ⟨a0, a1⟩ := agree c
  refine (ReferenceDwInIdeal.Read.val_main_v7_eq _ _).trans ?_
  rw [a0, a1]
  exact (ReferenceDwInIdeal.Block.read _ _).trans (KernelDwInIdeal.Block.array m c).symm

/-- The frames of the program of the input projection's gradient of its input, of its ideal form and of its reference. -/
theorem frame_dhIn : Cert.quiescent_KernelDhIn := fun m ρ _ => KernelDhIn.Gen.frame m ρ

theorem frame_dhIn_ideal : Cert.quiescent_KernelDhInIdeal := fun m ρ _ => KernelDhInIdeal.Gen.frame m ρ

theorem frame_dhIn_reference : Cert.quiescent_ReferenceDhInIdeal := fun m ρ _ =>
  (θ_run ReferenceDhInIdeal.defs _ _).mono
    (fun r h => ⟨fun c => (h c).2, Idealize.ShloMosaic.sem_eq_zero_of_no_sems (by decide) r.2⟩)
    (ReferenceDhInIdeal.Value.run (F := Ideal) m ρ)

/-- Its result is the reference's derivative. -/
theorem algebraic_dhIn : Cert.algebraic_KernelDhInIdeal_ReferenceDhInIdeal := by
  intro m ρ m' ρ' _ agree
  refine ⟨fun c => KernelDhInIdeal.Value.G2 m c, KernelDhInIdeal.Value.run m ρ, ?_⟩
  refine (θ_run ReferenceDhInIdeal.defs _ _).mono (fun r h c => ⟨(h c).1.trans ?_, (h c).2⟩) (ReferenceDhInIdeal.Value.run (F := Ideal) m' ρ')
  obtain ⟨a0, a1⟩ := agree c
  refine (ReferenceDhInIdeal.Read.val_main_v3_eq _ _).trans ?_
  rw [a0, a1]
  exact (ReferenceDhInIdeal.Block.read _ _).trans (KernelDhInIdeal.Block.array m c).symm

/-- The frames of the program of the weight gradient of a square projection, of its ideal form and of its reference. -/
theorem frame_dwSquare : Cert.quiescent_KernelDwSquare := fun m ρ _ => KernelDwSquare.Gen.frame m ρ

theorem frame_dwSquare_ideal : Cert.quiescent_KernelDwSquareIdeal := fun m ρ _ => KernelDwSquareIdeal.Gen.frame m ρ

theorem frame_dwSquare_reference : Cert.quiescent_ReferenceDwSquareIdeal := fun m ρ _ =>
  (θ_run ReferenceDwSquareIdeal.defs _ _).mono
    (fun r h => ⟨fun c => (h c).2, Idealize.ShloMosaic.sem_eq_zero_of_no_sems (by decide) r.2⟩)
    (ReferenceDwSquareIdeal.Value.run (F := Ideal) m ρ)

/-- Its result is the reference's derivative. -/
theorem algebraic_dwSquare : Cert.algebraic_KernelDwSquareIdeal_ReferenceDwSquareIdeal := by
  intro m ρ m' ρ' _ agree
  refine ⟨fun c => KernelDwSquareIdeal.Value.G2 m c, KernelDwSquareIdeal.Value.run m ρ, ?_⟩
  refine (θ_run ReferenceDwSquareIdeal.defs _ _).mono (fun r h c => ⟨(h c).1.trans ?_, (h c).2⟩) (ReferenceDwSquareIdeal.Value.run (F := Ideal) m' ρ')
  obtain ⟨a0, a1⟩ := agree c
  refine (ReferenceDwSquareIdeal.Read.val_main_v5_eq _ _).trans ?_
  rw [a0, a1]
  exact (ReferenceDwSquareIdeal.Block.read _ _).trans (KernelDwSquareIdeal.Block.array m c).symm

/-- The frames of the program of the second layer's weight gradient, of its ideal form and of its reference. -/
theorem frame_dwUp : Cert.quiescent_KernelDwUp := fun m ρ _ => KernelDwUp.Gen.frame m ρ

theorem frame_dwUp_ideal : Cert.quiescent_KernelDwUpIdeal := fun m ρ _ => KernelDwUpIdeal.Gen.frame m ρ

theorem frame_dwUp_reference : Cert.quiescent_ReferenceDwUpIdeal := fun m ρ _ =>
  (θ_run ReferenceDwUpIdeal.defs _ _).mono
    (fun r h => ⟨fun c => (h c).2, Idealize.ShloMosaic.sem_eq_zero_of_no_sems (by decide) r.2⟩)
    (ReferenceDwUpIdeal.Value.run (F := Ideal) m ρ)

/-- Its result is the reference's derivative. -/
theorem algebraic_dwUp : Cert.algebraic_KernelDwUpIdeal_ReferenceDwUpIdeal := by
  intro m ρ m' ρ' _ agree
  refine ⟨fun c => KernelDwUpIdeal.Value.G3 m c, KernelDwUpIdeal.Value.run m ρ, ?_⟩
  refine (θ_run ReferenceDwUpIdeal.defs _ _).mono (fun r h c => ⟨(h c).1.trans ?_, (h c).2⟩) (ReferenceDwUpIdeal.Value.run (F := Ideal) m' ρ')
  obtain ⟨a0, a1, a2⟩ := agree c
  refine (ReferenceDwUpIdeal.Read.val_main_v8_eq _ _ _).trans ?_
  rw [a0, a1, a2]
  exact (ReferenceDwUpIdeal.Block.read _ _ _).trans (KernelDwUpIdeal.Block.array m c).symm

/-- The frames of the program of the second layer's gradient of its input, of its ideal form and of its reference. -/
theorem frame_dhUp : Cert.quiescent_KernelDhUp := fun m ρ _ => KernelDhUp.Gen.frame m ρ

theorem frame_dhUp_ideal : Cert.quiescent_KernelDhUpIdeal := fun m ρ _ => KernelDhUpIdeal.Gen.frame m ρ

theorem frame_dhUp_reference : Cert.quiescent_ReferenceDhUpIdeal := fun m ρ _ =>
  (θ_run ReferenceDhUpIdeal.defs _ _).mono
    (fun r h => ⟨fun c => (h c).2, Idealize.ShloMosaic.sem_eq_zero_of_no_sems (by decide) r.2⟩)
    (ReferenceDhUpIdeal.Value.run (F := Ideal) m ρ)

/-- Its result is the reference's derivative. -/
theorem algebraic_dhUp : Cert.algebraic_KernelDhUpIdeal_ReferenceDhUpIdeal := by
  intro m ρ m' ρ' _ agree
  refine ⟨fun c => KernelDhUpIdeal.Value.G3 m c, KernelDhUpIdeal.Value.run m ρ, ?_⟩
  refine (θ_run ReferenceDhUpIdeal.defs _ _).mono (fun r h c => ⟨(h c).1.trans ?_, (h c).2⟩) (ReferenceDhUpIdeal.Value.run (F := Ideal) m' ρ')
  obtain ⟨a0, a1, a2⟩ := agree c
  refine (ReferenceDhUpIdeal.Read.val_main_v4_eq _ _ _).trans ?_
  rw [a0, a1, a2]
  exact (ReferenceDhUpIdeal.Block.read _ _ _).trans (KernelDhUpIdeal.Block.array m c).symm

/-- The frames of the program of the down projection's weight gradient, of its ideal form and of its reference. -/
theorem frame_dwDown : Cert.quiescent_KernelDwDown := fun m ρ _ => KernelDwDown.Gen.frame m ρ

theorem frame_dwDown_ideal : Cert.quiescent_KernelDwDownIdeal := fun m ρ _ => KernelDwDownIdeal.Gen.frame m ρ

theorem frame_dwDown_reference : Cert.quiescent_ReferenceDwDownIdeal := fun m ρ _ =>
  (θ_run ReferenceDwDownIdeal.defs _ _).mono
    (fun r h => ⟨fun c => (h c).2, Idealize.ShloMosaic.sem_eq_zero_of_no_sems (by decide) r.2⟩)
    (ReferenceDwDownIdeal.Value.run (F := Ideal) m ρ)

/-- Its result is the reference's derivative. -/
theorem algebraic_dwDown : Cert.algebraic_KernelDwDownIdeal_ReferenceDwDownIdeal := by
  intro m ρ m' ρ' _ agree
  refine ⟨fun c => KernelDwDownIdeal.Value.G2 m c, KernelDwDownIdeal.Value.run m ρ, ?_⟩
  refine (θ_run ReferenceDwDownIdeal.defs _ _).mono (fun r h c => ⟨(h c).1.trans ?_, (h c).2⟩) (ReferenceDwDownIdeal.Value.run (F := Ideal) m' ρ')
  obtain ⟨a0, a1⟩ := agree c
  refine (ReferenceDwDownIdeal.Read.val_main_v5_eq _ _).trans ?_
  rw [a0, a1]
  exact (ReferenceDwDownIdeal.Block.read _ _).trans (KernelDwDownIdeal.Block.array m c).symm

/-- The frames of the program of the input projection, of its ideal form and of its reference. -/
theorem frame_inProj : Cert.quiescent_KernelInProj := fun m ρ _ => KernelInProj.Gen.frame m ρ

theorem frame_inProj_ideal : Cert.quiescent_KernelInProjIdeal := fun m ρ _ => KernelInProjIdeal.Gen.frame m ρ

theorem frame_inProj_reference : Cert.quiescent_ReferenceInProjIdeal := fun m ρ _ =>
  (θ_run ReferenceInProjIdeal.defs _ _).mono
    (fun r h => ⟨fun c => (h c).2, Idealize.ShloMosaic.sem_eq_zero_of_no_sems (by decide) r.2⟩)
    (ReferenceInProjIdeal.Value.run (F := Ideal) m ρ)

/-- Its result is the reference's product. -/
theorem algebraic_inProj : Cert.algebraic_KernelInProjIdeal_ReferenceInProjIdeal := by
  intro m ρ m' ρ' _ agree
  refine ⟨_, KernelInProjIdeal.Value.run_blocks m ρ, ?_⟩
  refine (θ_run ReferenceInProjIdeal.defs _ _).mono (fun r h c => ⟨(h c).1.trans ?_, (h c).2⟩) (ReferenceInProjIdeal.Value.run (F := Ideal) m' ρ')
  obtain ⟨a0, a1⟩ := agree c
  refine (ReferenceInProjIdeal.Read.val_main_v1_eq _ _).trans ?_
  rw [a0, a1]
  exact (ReferenceInProjIdeal.Block.read _ _).trans (KernelInProjIdeal.Block.array m c).symm

/-- The frames of the program of the up projection, of its ideal form and of its reference. -/
theorem frame_upProj : Cert.quiescent_KernelUpProj := fun m ρ _ => KernelUpProj.Gen.frame m ρ

theorem frame_upProj_ideal : Cert.quiescent_KernelUpProjIdeal := fun m ρ _ => KernelUpProjIdeal.Gen.frame m ρ

theorem frame_upProj_reference : Cert.quiescent_ReferenceUpProjIdeal := fun m ρ _ =>
  (θ_run ReferenceUpProjIdeal.defs _ _).mono
    (fun r h => ⟨fun c => (h c).2, Idealize.ShloMosaic.sem_eq_zero_of_no_sems (by decide) r.2⟩)
    (ReferenceUpProjIdeal.Value.run (F := Ideal) m ρ)

/-- Its result is the reference's product. -/
theorem algebraic_upProj : Cert.algebraic_KernelUpProjIdeal_ReferenceUpProjIdeal := by
  intro m ρ m' ρ' _ agree
  refine ⟨_, KernelUpProjIdeal.Value.run_blocks m ρ, ?_⟩
  refine (θ_run ReferenceUpProjIdeal.defs _ _).mono (fun r h c => ⟨(h c).1.trans ?_, (h c).2⟩) (ReferenceUpProjIdeal.Value.run (F := Ideal) m' ρ')
  obtain ⟨a0, a1⟩ := agree c
  refine (ReferenceUpProjIdeal.Read.val_main_v1_eq _ _).trans ?_
  rw [a0, a1]
  exact (ReferenceUpProjIdeal.Block.read _ _).trans (KernelUpProjIdeal.Block.array m c).symm

/-- The frames of the program of the feed-forward part's last product, of its ideal form and of its reference. -/
theorem frame_ffnOutFwd : Cert.quiescent_KernelFfnOutFwd := fun m ρ _ => KernelFfnOutFwd.Gen.frame m ρ

theorem frame_ffnOutFwd_ideal : Cert.quiescent_KernelFfnOutFwdIdeal := fun m ρ _ => KernelFfnOutFwdIdeal.Gen.frame m ρ

theorem frame_ffnOutFwd_reference : Cert.quiescent_ReferenceFfnOutFwdIdeal := fun m ρ _ =>
  (θ_run ReferenceFfnOutFwdIdeal.defs _ _).mono
    (fun r h => ⟨fun c => (h c).2.2, Idealize.ShloMosaic.sem_eq_zero_of_no_sems (by decide) r.2⟩)
    (ReferenceFfnOutFwdIdeal.Value.run (F := Ideal) m ρ)

/-- Its two results are the reference's. -/
theorem algebraic_ffnOutFwd : Cert.algebraic_KernelFfnOutFwdIdeal_ReferenceFfnOutFwdIdeal := by
  intro m ρ m' ρ' _ agree
  refine ⟨_, _,
    KernelFfnOutFwdIdeal.Value.run_blocks m ρ, ?_⟩
  refine (θ_run ReferenceFfnOutFwdIdeal.defs _ _).mono (fun r h c => ⟨(h c).1.trans ?_, (h c).2.1.trans ?_, (h c).2.2⟩) (ReferenceFfnOutFwdIdeal.Value.run (F := Ideal) m' ρ')
  all_goals obtain ⟨a0, a1, a2, a3⟩ := agree c
  · refine (ReferenceFfnOutFwdIdeal.Read.val_main_v18_eq _ _ _ _).trans ?_
    rw [a0, a1, a2, a3]
    exact (ReferenceFfnOutFwdIdeal.Block.read18 _ _ _ _).trans (KernelFfnOutFwdIdeal.Block.array4 m c).symm
  · refine (ReferenceFfnOutFwdIdeal.Read.val_main_v19_eq _ _).trans ?_
    rw [a0, a3]
    exact (ReferenceFfnOutFwdIdeal.Block.read19 _ _).trans (KernelFfnOutFwdIdeal.Block.array5 m c).symm

/-- The modulation weight: the kernel's frame. -/
theorem frame_adamAda : Cert.quiescent_KernelAdamAda := fun m ρ _ => KernelAdamAda.Gen.frame m ρ
/-- The same over the ideal floats. -/
theorem frame_adamAda_ideal : Cert.quiescent_KernelAdamAdaIdeal := fun m ρ _ => KernelAdamAdaIdeal.Gen.frame m ρ
/-- The reference's frame. -/
theorem frame_adamAda_reference : Cert.quiescent_ReferenceAdamAdaIdeal := fun m ρ _ =>
  (θ_run ReferenceAdamAdaIdeal.defs _ _).mono
    (fun r h => ⟨fun c => (h c).2.2.2.2, Idealize.ShloMosaic.sem_eq_zero_of_no_sems (by decide) r.2⟩)
    (ReferenceAdamAdaIdeal.Value.run (F := Ideal) m ρ)

/-- Its results are the reference's. -/
theorem algebraic_adamAda : Cert.algebraic_KernelAdamAdaIdeal_ReferenceAdamAdaIdeal := by
  intro m ρ m' ρ' _ agree
  refine ⟨_, _, _, _,
    KernelAdamAdaIdeal.Value.run_blocks m ρ, ?_⟩
  refine (θ_run ReferenceAdamAdaIdeal.defs _ _).mono (fun r h c => ⟨(h c).1.trans ?_, (h c).2.1.trans ?_, (h c).2.2.1.trans ?_, (h c).2.2.2.1.trans ?_, (h c).2.2.2.2⟩) (ReferenceAdamAdaIdeal.Value.run (F := Ideal) m' ρ')
  all_goals obtain ⟨a0, a1, a2, a3, a4⟩ := agree c
  · refine (ReferenceAdamAdaIdeal.Read.val_main_v2_eq _ _).trans ?_
    rw [a1, a2]
    exact (ReferenceAdamAdaIdeal.Block.read2 _ _).trans (KernelAdamAdaIdeal.Block.array5 m c).symm
  · refine (ReferenceAdamAdaIdeal.Read.val_main_v26_eq _ _ _ _ _).trans ?_
    rw [a0, a1, a2, a3, a4]
    exact (ReferenceAdamAdaIdeal.Block.read26 _ _ _ _ _).trans (KernelAdamAdaIdeal.Block.array6 m c).symm
  · refine (ReferenceAdamAdaIdeal.Read.val_main_v7_eq _ _ _).trans ?_
    rw [a1, a2, a3]
    exact (ReferenceAdamAdaIdeal.Block.read7 _ _ _).trans (KernelAdamAdaIdeal.Block.array7 m c).symm
  · refine (ReferenceAdamAdaIdeal.Read.val_main_v13_eq _ _ _).trans ?_
    rw [a1, a2, a4]
    exact (ReferenceAdamAdaIdeal.Block.read13 _ _ _).trans (KernelAdamAdaIdeal.Block.array8 m c).symm

/-- The input weight: the kernel's frame. -/
theorem frame_adamIn : Cert.quiescent_KernelAdamIn := fun m ρ _ => KernelAdamIn.Gen.frame m ρ
/-- The same over the ideal floats. -/
theorem frame_adamIn_ideal : Cert.quiescent_KernelAdamInIdeal := fun m ρ _ => KernelAdamInIdeal.Gen.frame m ρ
/-- The reference's frame. -/
theorem frame_adamIn_reference : Cert.quiescent_ReferenceAdamInIdeal := fun m ρ _ =>
  (θ_run ReferenceAdamInIdeal.defs _ _).mono
    (fun r h => ⟨fun c => (h c).2.2.2.2, Idealize.ShloMosaic.sem_eq_zero_of_no_sems (by decide) r.2⟩)
    (ReferenceAdamInIdeal.Value.run (F := Ideal) m ρ)

/-- Its results are the reference's. -/
theorem algebraic_adamIn : Cert.algebraic_KernelAdamInIdeal_ReferenceAdamInIdeal := by
  intro m ρ m' ρ' _ agree
  refine ⟨_, _, _, _,
    KernelAdamInIdeal.Value.run_blocks m ρ, ?_⟩
  refine (θ_run ReferenceAdamInIdeal.defs _ _).mono (fun r h c => ⟨(h c).1.trans ?_, (h c).2.1.trans ?_, (h c).2.2.1.trans ?_, (h c).2.2.2.1.trans ?_, (h c).2.2.2.2⟩) (ReferenceAdamInIdeal.Value.run (F := Ideal) m' ρ')
  all_goals obtain ⟨a0, a1, a2, a3, a4⟩ := agree c
  · refine (ReferenceAdamInIdeal.Read.val_main_v2_eq _ _).trans ?_
    rw [a1, a2]
    exact (ReferenceAdamInIdeal.Block.read2 _ _).trans (KernelAdamInIdeal.Block.array5 m c).symm
  · refine (ReferenceAdamInIdeal.Read.val_main_v26_eq _ _ _ _ _).trans ?_
    rw [a0, a1, a2, a3, a4]
    exact (ReferenceAdamInIdeal.Block.read26 _ _ _ _ _).trans (KernelAdamInIdeal.Block.array6 m c).symm
  · refine (ReferenceAdamInIdeal.Read.val_main_v7_eq _ _ _).trans ?_
    rw [a1, a2, a3]
    exact (ReferenceAdamInIdeal.Block.read7 _ _ _).trans (KernelAdamInIdeal.Block.array7 m c).symm
  · refine (ReferenceAdamInIdeal.Read.val_main_v13_eq _ _ _).trans ?_
    rw [a1, a2, a4]
    exact (ReferenceAdamInIdeal.Block.read13 _ _ _).trans (KernelAdamInIdeal.Block.array8 m c).symm

/-- The square weights: the kernel's frame. -/
theorem frame_adamSquare : Cert.quiescent_KernelAdamSquare := fun m ρ _ => KernelAdamSquare.Gen.frame m ρ
/-- The same over the ideal floats. -/
theorem frame_adamSquare_ideal : Cert.quiescent_KernelAdamSquareIdeal := fun m ρ _ => KernelAdamSquareIdeal.Gen.frame m ρ
/-- The reference's frame. -/
theorem frame_adamSquare_reference : Cert.quiescent_ReferenceAdamSquareIdeal := fun m ρ _ =>
  (θ_run ReferenceAdamSquareIdeal.defs _ _).mono
    (fun r h => ⟨fun c => (h c).2.2.2.2, Idealize.ShloMosaic.sem_eq_zero_of_no_sems (by decide) r.2⟩)
    (ReferenceAdamSquareIdeal.Value.run (F := Ideal) m ρ)

/-- Its results are the reference's. -/
theorem algebraic_adamSquare : Cert.algebraic_KernelAdamSquareIdeal_ReferenceAdamSquareIdeal := by
  intro m ρ m' ρ' _ agree
  refine ⟨_, _, _, _,
    KernelAdamSquareIdeal.Value.run_blocks m ρ, ?_⟩
  refine (θ_run ReferenceAdamSquareIdeal.defs _ _).mono (fun r h c => ⟨(h c).1.trans ?_, (h c).2.1.trans ?_, (h c).2.2.1.trans ?_, (h c).2.2.2.1.trans ?_, (h c).2.2.2.2⟩) (ReferenceAdamSquareIdeal.Value.run (F := Ideal) m' ρ')
  all_goals obtain ⟨a0, a1, a2, a3, a4⟩ := agree c
  · refine (ReferenceAdamSquareIdeal.Read.val_main_v2_eq _ _).trans ?_
    rw [a1, a2]
    exact (ReferenceAdamSquareIdeal.Block.read2 _ _).trans (KernelAdamSquareIdeal.Block.array5 m c).symm
  · refine (ReferenceAdamSquareIdeal.Read.val_main_v26_eq _ _ _ _ _).trans ?_
    rw [a0, a1, a2, a3, a4]
    exact (ReferenceAdamSquareIdeal.Block.read26 _ _ _ _ _).trans (KernelAdamSquareIdeal.Block.array6 m c).symm
  · refine (ReferenceAdamSquareIdeal.Read.val_main_v7_eq _ _ _).trans ?_
    rw [a1, a2, a3]
    exact (ReferenceAdamSquareIdeal.Block.read7 _ _ _).trans (KernelAdamSquareIdeal.Block.array7 m c).symm
  · refine (ReferenceAdamSquareIdeal.Read.val_main_v13_eq _ _ _).trans ?_
    rw [a1, a2, a4]
    exact (ReferenceAdamSquareIdeal.Block.read13 _ _ _).trans (KernelAdamSquareIdeal.Block.array8 m c).symm

/-- The widening weight: the kernel's frame. -/
theorem frame_adamUp : Cert.quiescent_KernelAdamUp := fun m ρ _ => KernelAdamUp.Gen.frame m ρ
/-- The same over the ideal floats. -/
theorem frame_adamUp_ideal : Cert.quiescent_KernelAdamUpIdeal := fun m ρ _ => KernelAdamUpIdeal.Gen.frame m ρ
/-- The reference's frame. -/
theorem frame_adamUp_reference : Cert.quiescent_ReferenceAdamUpIdeal := fun m ρ _ =>
  (θ_run ReferenceAdamUpIdeal.defs _ _).mono
    (fun r h => ⟨fun c => (h c).2.2.2.2, Idealize.ShloMosaic.sem_eq_zero_of_no_sems (by decide) r.2⟩)
    (ReferenceAdamUpIdeal.Value.run (F := Ideal) m ρ)

/-- Its results are the reference's. -/
theorem algebraic_adamUp : Cert.algebraic_KernelAdamUpIdeal_ReferenceAdamUpIdeal := by
  intro m ρ m' ρ' _ agree
  refine ⟨_, _, _, _,
    KernelAdamUpIdeal.Value.run_blocks m ρ, ?_⟩
  refine (θ_run ReferenceAdamUpIdeal.defs _ _).mono (fun r h c => ⟨(h c).1.trans ?_, (h c).2.1.trans ?_, (h c).2.2.1.trans ?_, (h c).2.2.2.1.trans ?_, (h c).2.2.2.2⟩) (ReferenceAdamUpIdeal.Value.run (F := Ideal) m' ρ')
  all_goals obtain ⟨a0, a1, a2, a3, a4⟩ := agree c
  · refine (ReferenceAdamUpIdeal.Read.val_main_v2_eq _ _).trans ?_
    rw [a1, a2]
    exact (ReferenceAdamUpIdeal.Block.read2 _ _).trans (KernelAdamUpIdeal.Block.array5 m c).symm
  · refine (ReferenceAdamUpIdeal.Read.val_main_v26_eq _ _ _ _ _).trans ?_
    rw [a0, a1, a2, a3, a4]
    exact (ReferenceAdamUpIdeal.Block.read26 _ _ _ _ _).trans (KernelAdamUpIdeal.Block.array6 m c).symm
  · refine (ReferenceAdamUpIdeal.Read.val_main_v7_eq _ _ _).trans ?_
    rw [a1, a2, a3]
    exact (ReferenceAdamUpIdeal.Block.read7 _ _ _).trans (KernelAdamUpIdeal.Block.array7 m c).symm
  · refine (ReferenceAdamUpIdeal.Read.val_main_v13_eq _ _ _).trans ?_
    rw [a1, a2, a4]
    exact (ReferenceAdamUpIdeal.Block.read13 _ _ _).trans (KernelAdamUpIdeal.Block.array8 m c).symm

/-- The narrowing weight: the kernel's frame. -/
theorem frame_adamDown : Cert.quiescent_KernelAdamDown := fun m ρ _ => KernelAdamDown.Gen.frame m ρ
/-- The same over the ideal floats. -/
theorem frame_adamDown_ideal : Cert.quiescent_KernelAdamDownIdeal := fun m ρ _ => KernelAdamDownIdeal.Gen.frame m ρ
/-- The reference's frame. -/
theorem frame_adamDown_reference : Cert.quiescent_ReferenceAdamDownIdeal := fun m ρ _ =>
  (θ_run ReferenceAdamDownIdeal.defs _ _).mono
    (fun r h => ⟨fun c => (h c).2.2.2.2, Idealize.ShloMosaic.sem_eq_zero_of_no_sems (by decide) r.2⟩)
    (ReferenceAdamDownIdeal.Value.run (F := Ideal) m ρ)

/-- Its results are the reference's. -/
theorem algebraic_adamDown : Cert.algebraic_KernelAdamDownIdeal_ReferenceAdamDownIdeal := by
  intro m ρ m' ρ' _ agree
  refine ⟨_, _, _, _,
    KernelAdamDownIdeal.Value.run_blocks m ρ, ?_⟩
  refine (θ_run ReferenceAdamDownIdeal.defs _ _).mono (fun r h c => ⟨(h c).1.trans ?_, (h c).2.1.trans ?_, (h c).2.2.1.trans ?_, (h c).2.2.2.1.trans ?_, (h c).2.2.2.2⟩) (ReferenceAdamDownIdeal.Value.run (F := Ideal) m' ρ')
  all_goals obtain ⟨a0, a1, a2, a3, a4⟩ := agree c
  · refine (ReferenceAdamDownIdeal.Read.val_main_v2_eq _ _).trans ?_
    rw [a1, a2]
    exact (ReferenceAdamDownIdeal.Block.read2 _ _).trans (KernelAdamDownIdeal.Block.array5 m c).symm
  · refine (ReferenceAdamDownIdeal.Read.val_main_v26_eq _ _ _ _ _).trans ?_
    rw [a0, a1, a2, a3, a4]
    exact (ReferenceAdamDownIdeal.Block.read26 _ _ _ _ _).trans (KernelAdamDownIdeal.Block.array6 m c).symm
  · refine (ReferenceAdamDownIdeal.Read.val_main_v7_eq _ _ _).trans ?_
    rw [a1, a2, a3]
    exact (ReferenceAdamDownIdeal.Block.read7 _ _ _).trans (KernelAdamDownIdeal.Block.array7 m c).symm
  · refine (ReferenceAdamDownIdeal.Read.val_main_v13_eq _ _ _).trans ?_
    rw [a1, a2, a4]
    exact (ReferenceAdamDownIdeal.Block.read13 _ _ _).trans (KernelAdamDownIdeal.Block.array8 m c).symm

/-- The packed small weights: the kernel's frame. -/
theorem frame_adamPacked : Cert.quiescent_KernelAdamPacked := fun m ρ _ => KernelAdamPacked.Gen.frame m ρ
/-- The same over the ideal floats. -/
theorem frame_adamPacked_ideal : Cert.quiescent_KernelAdamPackedIdeal := fun m ρ _ => KernelAdamPackedIdeal.Gen.frame m ρ
/-- The reference's frame. -/
theorem frame_adamPacked_reference : Cert.quiescent_ReferenceAdamPackedIdeal := fun m ρ _ =>
  (θ_run ReferenceAdamPackedIdeal.defs _ _).mono
    (fun r h => ⟨fun c => (h c).2.2.2.2, Idealize.ShloMosaic.sem_eq_zero_of_no_sems (by decide) r.2⟩)
    (ReferenceAdamPackedIdeal.Value.run (F := Ideal) m ρ)

/-- Its results are the reference's. -/
theorem algebraic_adamPacked : Cert.algebraic_KernelAdamPackedIdeal_ReferenceAdamPackedIdeal := by
  intro m ρ m' ρ' _ agree
  refine ⟨_, _, _, _,
    KernelAdamPackedIdeal.Value.run_blocks m ρ, ?_⟩
  refine (θ_run ReferenceAdamPackedIdeal.defs _ _).mono (fun r h c => ⟨(h c).1.trans ?_, (h c).2.1.trans ?_, (h c).2.2.1.trans ?_, (h c).2.2.2.1.trans ?_, (h c).2.2.2.2⟩) (ReferenceAdamPackedIdeal.Value.run (F := Ideal) m' ρ')
  all_goals obtain ⟨a0, a1, a2, a3⟩ := agree c
  · exact a1.trans (KernelAdamPackedIdeal.Block.array4 m c).symm
  · refine (ReferenceAdamPackedIdeal.Read.val_main_v23_eq _ _ _ _).trans ?_
    rw [a0, a1, a2, a3]
    exact (ReferenceAdamPackedIdeal.Block.read23 _ _ _ _).trans (KernelAdamPackedIdeal.Block.array5 m c).symm
  · refine (ReferenceAdamPackedIdeal.Read.val_main_v4_eq _ _).trans ?_
    rw [a1, a2]
    exact (ReferenceAdamPackedIdeal.Block.read4 _ _).trans (KernelAdamPackedIdeal.Block.array6 m c).symm
  · refine (ReferenceAdamPackedIdeal.Read.val_main_v10_eq _ _).trans ?_
    rw [a1, a3]
    exact (ReferenceAdamPackedIdeal.Block.read10 _ _).trans (KernelAdamPackedIdeal.Block.array7 m c).symm

/-- The norm and modulation: the kernel's frame. -/
theorem frame_normMod : Cert.quiescent_KernelNormMod := fun m ρ _ => KernelNormMod.Gen.frame m ρ
/-- The same over the ideal floats. -/
theorem frame_normMod_ideal : Cert.quiescent_KernelNormModIdeal := fun m ρ _ => KernelNormModIdeal.Gen.frame m ρ
/-- The reference's frame. -/
theorem frame_normMod_reference : Cert.quiescent_ReferenceNormModIdeal := fun m ρ _ =>
  (θ_run ReferenceNormModIdeal.defs _ _).mono
    (fun r h => ⟨fun c => (h c).2, Idealize.ShloMosaic.sem_eq_zero_of_no_sems (by decide) r.2⟩)
    (ReferenceNormModIdeal.Value.run (F := Ideal) m ρ)

/-- Its result is the reference's. -/
theorem algebraic_normMod : Cert.algebraic_KernelNormModIdeal_ReferenceNormModIdeal := by
  intro m ρ m' ρ' _ agree
  refine ⟨_,
    KernelNormModIdeal.Value.run_blocks m ρ, ?_⟩
  refine (θ_run ReferenceNormModIdeal.defs _ _).mono (fun r h c => ⟨(h c).1.trans ?_, (h c).2⟩) (ReferenceNormModIdeal.Value.run (F := Ideal) m' ρ')
  all_goals obtain ⟨a0, a1, a2⟩ := agree c
  · refine (ReferenceNormModIdeal.Read.val_main_v73_eq _ _ _).trans ?_
    rw [a0, a1, a2]
    exact (ReferenceNormModIdeal.Block.read73 _ _ _).trans (KernelNormModIdeal.Block.array3 m c).symm

/-- The modulation weight gradient: the kernel's frame. -/
theorem frame_dwAda : Cert.quiescent_KernelDwAda := fun m ρ _ => KernelDwAda.Gen.frame m ρ
/-- The same over the ideal floats. -/
theorem frame_dwAda_ideal : Cert.quiescent_KernelDwAdaIdeal := fun m ρ _ => KernelDwAdaIdeal.Gen.frame m ρ
/-- The reference's frame. -/
theorem frame_dwAda_reference : Cert.quiescent_ReferenceDwAdaIdeal := fun m ρ _ =>
  (θ_run ReferenceDwAdaIdeal.defs _ _).mono
    (fun r h => ⟨fun c => (h c).2, Idealize.ShloMosaic.sem_eq_zero_of_no_sems (by decide) r.2⟩)
    (ReferenceDwAdaIdeal.Value.run (F := Ideal) m ρ)

/-- Its result is the reference's. -/
theorem algebraic_dwAda : Cert.algebraic_KernelDwAdaIdeal_ReferenceDwAdaIdeal := by
  intro m ρ m' ρ' _ agree
  refine ⟨_,
    KernelDwAdaIdeal.Value.run_blocks m ρ, ?_⟩
  refine (θ_run ReferenceDwAdaIdeal.defs _ _).mono (fun r h c => ⟨(h c).1.trans ?_, (h c).2⟩) (ReferenceDwAdaIdeal.Value.run (F := Ideal) m' ρ')
  all_goals obtain ⟨a0, a1⟩ := agree c
  · refine (ReferenceDwAdaIdeal.Read.val_main_v5_eq _ _).trans ?_
    rw [a0, a1]
    exact (ReferenceDwAdaIdeal.Block.read5 _ _).trans (KernelDwAdaIdeal.Block.array2 m c).symm

/-- The loss head: the kernel's frame. -/
theorem frame_loss : Cert.quiescent_KernelLoss := fun m ρ _ => KernelLoss.Gen.frame m ρ
/-- The same over the ideal floats. -/
theorem frame_loss_ideal : Cert.quiescent_KernelLossIdeal := fun m ρ _ => KernelLossIdeal.Gen.frame m ρ
/-- The reference's frame. -/
theorem frame_loss_reference : Cert.quiescent_ReferenceLossIdeal := fun m ρ _ =>
  (θ_run ReferenceLossIdeal.defs _ _).mono
    (fun r h => ⟨fun c => (h c).2.2.2, Idealize.ShloMosaic.sem_eq_zero_of_no_sems (by decide) r.2⟩)
    (ReferenceLossIdeal.Value.run (F := Ideal) m ρ)

/-- Its results are the reference's. -/
theorem algebraic_loss : Cert.algebraic_KernelLossIdeal_ReferenceLossIdeal := by
  intro m ρ m' ρ' _ agree
  refine ⟨_, _, _,
    KernelLossIdeal.Value.run_blocks m ρ, ?_⟩
  refine (θ_run ReferenceLossIdeal.defs _ _).mono (fun r h c => ⟨(h c).1.trans ?_, (h c).2.1.trans ?_, (h c).2.2.1.trans ?_, (h c).2.2.2⟩) (ReferenceLossIdeal.Value.run (F := Ideal) m' ρ')
  all_goals obtain ⟨a0, a1, a2⟩ := agree c
  · refine (ReferenceLossIdeal.Read.val_main_v52_eq m' c).trans ?_
    rw [a0, a1, a2]
    exact (ReferenceLossIdeal.Block.read52 _ _ _).trans (KernelLossIdeal.Block.array3 m c).symm
  · refine (ReferenceLossIdeal.Read.val_main_v53_eq _ _ _).trans ?_
    rw [a0, a1, a2]
    exact (ReferenceLossIdeal.Block.read53 _ _ _).trans (KernelLossIdeal.Block.array4 m c).symm
  · refine (ReferenceLossIdeal.Read.val_main_v54_eq _ _ _).trans ?_
    rw [a0, a1, a2]
    exact (ReferenceLossIdeal.Block.read54 _ _ _).trans (KernelLossIdeal.Block.array5 m c).symm

/-- The modulation: the kernel's frame. -/
theorem frame_mod : Cert.quiescent_KernelMod := fun m ρ _ => KernelMod.Gen.frame m ρ
/-- The same over the ideal floats. -/
theorem frame_mod_ideal : Cert.quiescent_KernelModIdeal := fun m ρ _ => KernelModIdeal.Gen.frame m ρ
/-- The reference's frame. -/
theorem frame_mod_reference : Cert.quiescent_ReferenceModIdeal := fun m ρ _ =>
  (θ_run ReferenceModIdeal.defs _ _).mono
    (fun r h => ⟨fun c => (h c).2.2, Idealize.ShloMosaic.sem_eq_zero_of_no_sems (by decide) r.2⟩)
    (ReferenceModIdeal.Value.run (F := Ideal) m ρ)

/-- Its results are the reference's. -/
theorem algebraic_mod : Cert.algebraic_KernelModIdeal_ReferenceModIdeal := by
  intro m ρ m' ρ' _ agree
  refine ⟨_, _,
    KernelModIdeal.Value.run_blocks m ρ, ?_⟩
  refine (θ_run ReferenceModIdeal.defs _ _).mono (fun r h c => ⟨(h c).1.trans ?_, (h c).2.1.trans ?_, (h c).2.2⟩) (ReferenceModIdeal.Value.run (F := Ideal) m' ρ')
  all_goals obtain ⟨a0, a1, a2⟩ := agree c
  · refine (ReferenceModIdeal.Read.val_main_v4_eq _ _ _).trans ?_
    rw [a0, a1, a2]
    exact (ReferenceModIdeal.Block.read4 _ _ _).trans (KernelModIdeal.Block.array3 m c).symm
  · refine (ReferenceModIdeal.Read.val_main_v6_eq _).trans ?_
    rw [a0]
    exact (ReferenceModIdeal.Block.read6 _).trans (KernelModIdeal.Block.array4 m c).symm

/-- The conditioning gradient: the kernel's frame. -/
theorem frame_cvecBwd : Cert.quiescent_KernelCvecBwd := fun m ρ _ => KernelCvecBwd.Gen.frame m ρ
/-- The same over the ideal floats. -/
theorem frame_cvecBwd_ideal : Cert.quiescent_KernelCvecBwdIdeal := fun m ρ _ => KernelCvecBwdIdeal.Gen.frame m ρ
/-- The same on a finite gradient and weight. -/
theorem frame_cvecBwd_ideal_pre : Cert.quiescent_KernelCvecBwdIdeal_pre_finite_cvec := fun m ρ _ => KernelCvecBwdIdeal.Gen.frame m ρ
/-- The reference's frame. -/
theorem frame_cvecBwd_reference : Cert.quiescent_ReferenceCvecBwdIdeal := fun m ρ _ =>
  (θ_run ReferenceCvecBwdIdeal.defs _ _).mono
    (fun r h => ⟨fun c => (h c).2, Idealize.ShloMosaic.sem_eq_zero_of_no_sems (by decide) r.2⟩)
    (ReferenceCvecBwdIdeal.Value.run (F := Ideal) m ρ)

/-- The reference's frame on a finite gradient and weight. -/
theorem frame_cvecBwd_reference_pre : Cert.quiescent_ReferenceCvecBwdIdeal_pre_finite_cvec := fun m ρ _ => frame_cvecBwd_reference m ρ trivial

/-- Its result is the reference's. -/
theorem algebraic_cvecBwd : Cert.algebraic_KernelCvecBwdIdeal_ReferenceCvecBwdIdeal_pre_finite_cvec := by
  intro m ρ m' ρ' pre agree
  refine ⟨_,
    KernelCvecBwdIdeal.Value.run_blocks m ρ, ?_⟩
  refine (θ_run ReferenceCvecBwdIdeal.defs _ _).mono (fun r h c => ⟨(h c).1.trans ?_, (h c).2⟩) (ReferenceCvecBwdIdeal.Value.run (F := Ideal) m' ρ')
  obtain ⟨p0, p1⟩ := Cert.Pre_finite_cvec.elems _ _ _ (pre c)
  all_goals obtain ⟨a0, a1, a2⟩ := agree c
  · refine (ReferenceCvecBwdIdeal.Read.val_main_v3_eq _ _ _).trans ?_
    rw [a0, a1, a2]
    exact (ReferenceCvecBwdIdeal.Block.read3 _ _ _ p0 p1).trans (KernelCvecBwdIdeal.Block.array3 m c).symm

/-- The norm gradient: the kernel's frame. -/
theorem frame_normBwd : Cert.quiescent_KernelNormBwd := fun m ρ _ => KernelNormBwd.Gen.frame m ρ
/-- The same over the ideal floats. -/
theorem frame_normBwd_ideal : Cert.quiescent_KernelNormBwdIdeal := fun m ρ _ => KernelNormBwdIdeal.Gen.frame m ρ
/-- The reference's frame. -/
theorem frame_normBwd_reference : Cert.quiescent_ReferenceNormBwdIdeal := fun m ρ _ =>
  (θ_run ReferenceNormBwdIdeal.defs _ _).mono
    (fun r h => ⟨fun c => (h c).2.2.2, Idealize.ShloMosaic.sem_eq_zero_of_no_sems (by decide) r.2⟩)
    (ReferenceNormBwdIdeal.Value.run (F := Ideal) m ρ)

/-- Its results are the reference's. -/
theorem algebraic_normBwd : Cert.algebraic_KernelNormBwdIdeal_ReferenceNormBwdIdeal := by
  intro m ρ m' ρ' pre agree
  refine ⟨_, _, _,
    KernelNormBwdIdeal.Value.run_blocks m ρ, ?_⟩
  refine (θ_run ReferenceNormBwdIdeal.defs _ _).mono (fun r h c => ⟨(h c).1.trans ?_, (h c).2.1.trans ?_, (h c).2.2.1.trans ?_, (h c).2.2.2⟩) (ReferenceNormBwdIdeal.Value.run (F := Ideal) m' ρ')
  all_goals obtain ⟨a0, a1, a2, a3, a4⟩ := agree c
  · refine (ReferenceNormBwdIdeal.Read.val_main_v97_eq m' c).trans ?_
    rw [a0, a1, a2, a3, a4]
    exact (ReferenceNormBwdIdeal.Block.read97 _ _ _ _ _).trans (KernelNormBwdIdeal.Block.array5 m c).symm
  · refine (ReferenceNormBwdIdeal.Read.val_main_v98_eq _ _ _).trans ?_
    rw [a0, a1, a3]
    exact (ReferenceNormBwdIdeal.Block.read98 _ _ _).trans (KernelNormBwdIdeal.Block.array6 m c).symm
  · refine (ReferenceNormBwdIdeal.Read.val_main_v99_eq _ _ _).trans ?_
    rw [a0, a1, a4]
    exact (ReferenceNormBwdIdeal.Block.read99 _ _ _).trans (KernelNormBwdIdeal.Block.array7 m c).symm

/-- Everything claimed. -/
theorem claim : Cert.Claim :=
  ⟨Kernel.Gen.facts, KernelIdeal.Gen.facts, ReferenceIdeal.Gen.facts,
    KernelDwIn.Gen.facts, KernelDwInIdeal.Gen.facts, ReferenceDwInIdeal.Gen.facts,
    KernelDhIn.Gen.facts, KernelDhInIdeal.Gen.facts, ReferenceDhInIdeal.Gen.facts,
    KernelDwSquare.Gen.facts, KernelDwSquareIdeal.Gen.facts, ReferenceDwSquareIdeal.Gen.facts,
    KernelDwUp.Gen.facts, KernelDwUpIdeal.Gen.facts, ReferenceDwUpIdeal.Gen.facts,
    KernelDhUp.Gen.facts, KernelDhUpIdeal.Gen.facts, ReferenceDhUpIdeal.Gen.facts,
    KernelDwDown.Gen.facts, KernelDwDownIdeal.Gen.facts, ReferenceDwDownIdeal.Gen.facts,
    KernelInProj.Gen.facts, KernelInProjIdeal.Gen.facts, ReferenceInProjIdeal.Gen.facts,
    KernelUpProj.Gen.facts, KernelUpProjIdeal.Gen.facts, ReferenceUpProjIdeal.Gen.facts,
    KernelFfnOutFwd.Gen.facts, KernelFfnOutFwdIdeal.Gen.facts, ReferenceFfnOutFwdIdeal.Gen.facts,
    KernelAdamAda.Gen.facts, KernelAdamAdaIdeal.Gen.facts, ReferenceAdamAdaIdeal.Gen.facts,
    KernelAdamIn.Gen.facts, KernelAdamInIdeal.Gen.facts, ReferenceAdamInIdeal.Gen.facts,
    KernelAdamSquare.Gen.facts, KernelAdamSquareIdeal.Gen.facts, ReferenceAdamSquareIdeal.Gen.facts,
    KernelAdamUp.Gen.facts, KernelAdamUpIdeal.Gen.facts, ReferenceAdamUpIdeal.Gen.facts,
    KernelAdamDown.Gen.facts, KernelAdamDownIdeal.Gen.facts, ReferenceAdamDownIdeal.Gen.facts,
    KernelAdamPacked.Gen.facts, KernelAdamPackedIdeal.Gen.facts, ReferenceAdamPackedIdeal.Gen.facts,
    KernelNormMod.Gen.facts, KernelNormModIdeal.Gen.facts, ReferenceNormModIdeal.Gen.facts,
    KernelDwAda.Gen.facts, KernelDwAdaIdeal.Gen.facts, ReferenceDwAdaIdeal.Gen.facts,
    KernelLoss.Gen.facts, KernelLossIdeal.Gen.facts, ReferenceLossIdeal.Gen.facts,
    KernelMod.Gen.facts, KernelModIdeal.Gen.facts, ReferenceModIdeal.Gen.facts,
    KernelCvecBwd.Gen.facts, KernelCvecBwdIdeal.Gen.facts, ReferenceCvecBwdIdeal.Gen.facts,
    KernelNormBwd.Gen.facts, KernelNormBwdIdeal.Gen.facts, ReferenceNormBwdIdeal.Gen.facts,
    Cert.Pre_finite.Gen.facts, Cert.Pre_finite_cvec.Gen.facts,
    frame_p, frame_pi, frame_pi_pre, frame_ri, frame_ri_pre,
    frame_dwIn, frame_dwIn_ideal, frame_dwIn_reference,
    frame_dhIn, frame_dhIn_ideal, frame_dhIn_reference,
    frame_dwSquare, frame_dwSquare_ideal, frame_dwSquare_reference,
    frame_dwUp, frame_dwUp_ideal, frame_dwUp_reference,
    frame_dhUp, frame_dhUp_ideal, frame_dhUp_reference,
    frame_dwDown, frame_dwDown_ideal, frame_dwDown_reference,
    frame_inProj, frame_inProj_ideal, frame_inProj_reference,
    frame_upProj, frame_upProj_ideal, frame_upProj_reference,
    frame_ffnOutFwd, frame_ffnOutFwd_ideal, frame_ffnOutFwd_reference,
    frame_adamAda, frame_adamAda_ideal, frame_adamAda_reference,
    frame_adamIn, frame_adamIn_ideal, frame_adamIn_reference,
    frame_adamSquare, frame_adamSquare_ideal, frame_adamSquare_reference,
    frame_adamUp, frame_adamUp_ideal, frame_adamUp_reference,
    frame_adamDown, frame_adamDown_ideal, frame_adamDown_reference,
    frame_adamPacked, frame_adamPacked_ideal, frame_adamPacked_reference,
    frame_normMod, frame_normMod_ideal, frame_normMod_reference,
    frame_dwAda, frame_dwAda_ideal, frame_dwAda_reference,
    frame_loss, frame_loss_ideal, frame_loss_reference,
    frame_mod, frame_mod_ideal, frame_mod_reference,
    frame_cvecBwd, frame_cvecBwd_ideal, frame_cvecBwd_ideal_pre, frame_cvecBwd_reference, frame_cvecBwd_reference_pre,
    frame_normBwd, frame_normBwd_ideal, frame_normBwd_reference,
    preserves, algebraic,
    trivial, algebraic_dwIn, trivial, algebraic_dhIn, trivial, algebraic_dwSquare, trivial, algebraic_dwUp, trivial, algebraic_dhUp, trivial, algebraic_dwDown,
    trivial, algebraic_inProj, trivial, algebraic_upProj, trivial, algebraic_ffnOutFwd,
    trivial, algebraic_adamAda,
    trivial, algebraic_adamIn,
    trivial, algebraic_adamSquare,
    trivial, algebraic_adamUp,
    trivial, algebraic_adamDown,
    trivial, algebraic_adamPacked,
    trivial, algebraic_normMod,
    trivial, algebraic_dwAda,
    trivial, algebraic_loss,
    trivial, algebraic_mod,
    trivial, algebraic_cvecBwd,
    trivial, algebraic_normBwd⟩

end Cert.Proof

end
